-- ==== Defs.lean ====
def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_AttnDq0 (m : (ℓ : Loc Cert.AttnDq0.nD Cert.AttnDq0.τ Cert.AttnDq0.sig) → Buf (Elt Bits) ℓ) : Prop :=
  True

def Pre_AttnDq0Ideal (m : (ℓ : Loc Cert.AttnDq0Ideal.nD Cert.AttnDq0Ideal.τ Cert.AttnDq0Ideal.sig) → Buf (Elt Ideal) ℓ) : Prop :=
  True

def Pre_AttnDq0Ideal_finite [hPre_finite : Cert.Pre_finite.Facts] (m : (ℓ : Loc Cert.AttnDq0Ideal.nD Cert.AttnDq0Ideal.τ Cert.AttnDq0Ideal.sig) → Buf (Elt Ideal) ℓ) : Prop :=
  ∀ c : Dev Cert.AttnDq0Ideal.nD,
    (Cert.Pre_finite.fn (F := Ideal) (m ((c.tc : Thread Cert.AttnDq0Ideal.nD Cert.AttnDq0Ideal.τ).loc Cert.AttnDq0Ideal.main_arg0)) (m ((c.tc : Thread Cert.AttnDq0Ideal.nD Cert.AttnDq0Ideal.τ).loc Cert.AttnDq0Ideal.main_arg1)) (m ((c.tc : Thread Cert.AttnDq0Ideal.nD Cert.AttnDq0Ideal.τ).loc Cert.AttnDq0Ideal.main_arg2)) (m ((c.tc : Thread Cert.AttnDq0Ideal.nD Cert.AttnDq0Ideal.τ).loc Cert.AttnDq0Ideal.main_arg3)) (m ((c.tc : Thread Cert.AttnDq0Ideal.nD Cert.AttnDq0Ideal.τ).loc Cert.AttnDq0Ideal.main_arg4)) (m ((c.tc : Thread Cert.AttnDq0Ideal.nD Cert.AttnDq0Ideal.τ).loc Cert.AttnDq0Ideal.main_arg5))).1 = (fun _ => 1#1)
    ∧ (Cert.Pre_finite.fn (F := Ideal) (m ((c.tc : Thread Cert.AttnDq0Ideal.nD Cert.AttnDq0Ideal.τ).loc Cert.AttnDq0Ideal.main_arg0)) (m ((c.tc : Thread Cert.AttnDq0Ideal.nD Cert.AttnDq0Ideal.τ).loc Cert.AttnDq0Ideal.main_arg1)) (m ((c.tc : Thread Cert.AttnDq0Ideal.nD Cert.AttnDq0Ideal.τ).loc Cert.AttnDq0Ideal.main_arg2)) (m ((c.tc : Thread Cert.AttnDq0Ideal.nD Cert.AttnDq0Ideal.τ).loc Cert.AttnDq0Ideal.main_arg3)) (m ((c.tc : Thread Cert.AttnDq0Ideal.nD Cert.AttnDq0Ideal.τ).loc Cert.AttnDq0Ideal.main_arg4)) (m ((c.tc : Thread Cert.AttnDq0Ideal.nD Cert.AttnDq0Ideal.τ).loc Cert.AttnDq0Ideal.main_arg5))).2.1 = (fun _ => 1#1)
    ∧ (Cert.Pre_finite.fn (F := Ideal) (m ((c.tc : Thread Cert.AttnDq0Ideal.nD Cert.AttnDq0Ideal.τ).loc Cert.AttnDq0Ideal.main_arg0)) (m ((c.tc : Thread Cert.AttnDq0Ideal.nD Cert.AttnDq0Ideal.τ).loc Cert.AttnDq0Ideal.main_arg1)) (m ((c.tc : Thread Cert.AttnDq0Ideal.nD Cert.AttnDq0Ideal.τ).loc Cert.AttnDq0Ideal.main_arg2)) (m ((c.tc : Thread Cert.AttnDq0Ideal.nD Cert.AttnDq0Ideal.τ).loc Cert.AttnDq0Ideal.main_arg3)) (m ((c.tc : Thread Cert.AttnDq0Ideal.nD Cert.AttnDq0Ideal.τ).loc Cert.AttnDq0Ideal.main_arg4)) (m ((c.tc : Thread Cert.AttnDq0Ideal.nD Cert.AttnDq0Ideal.τ).loc Cert.AttnDq0Ideal.main_arg5))).2.2.1 = (fun _ => 1#1)
    ∧ (Cert.Pre_finite.fn (F := Ideal) (m ((c.tc : Thread Cert.AttnDq0Ideal.nD Cert.AttnDq0Ideal.τ).loc Cert.AttnDq0Ideal.main_arg0)) (m ((c.tc : Thread Cert.AttnDq0Ideal.nD Cert.AttnDq0Ideal.τ).loc Cert.AttnDq0Ideal.main_arg1)) (m ((c.tc : Thread Cert.AttnDq0Ideal.nD Cert.AttnDq0Ideal.τ).loc Cert.AttnDq0Ideal.main_arg2)) (m ((c.tc : Thread Cert.AttnDq0Ideal.nD Cert.AttnDq0Ideal.τ).loc Cert.AttnDq0Ideal.main_arg3)) (m ((c.tc : Thread Cert.AttnDq0Ideal.nD Cert.AttnDq0Ideal.τ).loc Cert.AttnDq0Ideal.main_arg4)) (m ((c.tc : Thread Cert.AttnDq0Ideal.nD Cert.AttnDq0Ideal.τ).loc Cert.AttnDq0Ideal.main_arg5))).2.2.2.1 = (fun _ => 1#1)
    ∧ (Cert.Pre_finite.fn (F := Ideal) (m ((c.tc : Thread Cert.AttnDq0Ideal.nD Cert.AttnDq0Ideal.τ).loc Cert.AttnDq0Ideal.main_arg0)) (m ((c.tc : Thread Cert.AttnDq0Ideal.nD Cert.AttnDq0Ideal.τ).loc Cert.AttnDq0Ideal.main_arg1)) (m ((c.tc : Thread Cert.AttnDq0Ideal.nD Cert.AttnDq0Ideal.τ).loc Cert.AttnDq0Ideal.main_arg2)) (m ((c.tc : Thread Cert.AttnDq0Ideal.nD Cert.AttnDq0Ideal.τ).loc Cert.AttnDq0Ideal.main_arg3)) (m ((c.tc : Thread Cert.AttnDq0Ideal.nD Cert.AttnDq0Ideal.τ).loc Cert.AttnDq0Ideal.main_arg4)) (m ((c.tc : Thread Cert.AttnDq0Ideal.nD Cert.AttnDq0Ideal.τ).loc Cert.AttnDq0Ideal.main_arg5))).2.2.2.2 = (fun _ => 1#1)

def Pre_AttnDq0RefIdeal (m : (ℓ : Loc Cert.AttnDq0RefIdeal.nD Cert.AttnDq0RefIdeal.τ Cert.AttnDq0RefIdeal.sig) → Buf (Elt Ideal) ℓ) : Prop :=
  True

def Pre_AttnDq0RefIdeal_finite [hPre_finite : Cert.Pre_finite.Facts] (m : (ℓ : Loc Cert.AttnDq0RefIdeal.nD Cert.AttnDq0RefIdeal.τ Cert.AttnDq0RefIdeal.sig) → Buf (Elt Ideal) ℓ) : Prop :=
  ∀ c : Dev Cert.AttnDq0RefIdeal.nD,
    (Cert.Pre_finite.fn (F := Ideal) (m ((c.tc : Thread Cert.AttnDq0RefIdeal.nD Cert.AttnDq0RefIdeal.τ).loc Cert.AttnDq0RefIdeal.main_arg0)) (m ((c.tc : Thread Cert.AttnDq0RefIdeal.nD Cert.AttnDq0RefIdeal.τ).loc Cert.AttnDq0RefIdeal.main_arg1)) (m ((c.tc : Thread Cert.AttnDq0RefIdeal.nD Cert.AttnDq0RefIdeal.τ).loc Cert.AttnDq0RefIdeal.main_arg2)) (m ((c.tc : Thread Cert.AttnDq0RefIdeal.nD Cert.AttnDq0RefIdeal.τ).loc Cert.AttnDq0RefIdeal.main_arg3)) (m ((c.tc : Thread Cert.AttnDq0RefIdeal.nD Cert.AttnDq0RefIdeal.τ).loc Cert.AttnDq0RefIdeal.main_arg4)) (m ((c.tc : Thread Cert.AttnDq0RefIdeal.nD Cert.AttnDq0RefIdeal.τ).loc Cert.AttnDq0RefIdeal.main_arg5))).1 = (fun _ => 1#1)
    ∧ (Cert.Pre_finite.fn (F := Ideal) (m ((c.tc : Thread Cert.AttnDq0RefIdeal.nD Cert.AttnDq0RefIdeal.τ).loc Cert.AttnDq0RefIdeal.main_arg0)) (m ((c.tc : Thread Cert.AttnDq0RefIdeal.nD Cert.AttnDq0RefIdeal.τ).loc Cert.AttnDq0RefIdeal.main_arg1)) (m ((c.tc : Thread Cert.AttnDq0RefIdeal.nD Cert.AttnDq0RefIdeal.τ).loc Cert.AttnDq0RefIdeal.main_arg2)) (m ((c.tc : Thread Cert.AttnDq0RefIdeal.nD Cert.AttnDq0RefIdeal.τ).loc Cert.AttnDq0RefIdeal.main_arg3)) (m ((c.tc : Thread Cert.AttnDq0RefIdeal.nD Cert.AttnDq0RefIdeal.τ).loc Cert.AttnDq0RefIdeal.main_arg4)) (m ((c.tc : Thread Cert.AttnDq0RefIdeal.nD Cert.AttnDq0RefIdeal.τ).loc Cert.AttnDq0RefIdeal.main_arg5))).2.1 = (fun _ => 1#1)
    ∧ (Cert.Pre_finite.fn (F := Ideal) (m ((c.tc : Thread Cert.AttnDq0RefIdeal.nD Cert.AttnDq0RefIdeal.τ).loc Cert.AttnDq0RefIdeal.main_arg0)) (m ((c.tc : Thread Cert.AttnDq0RefIdeal.nD Cert.AttnDq0RefIdeal.τ).loc Cert.AttnDq0RefIdeal.main_arg1)) (m ((c.tc : Thread Cert.AttnDq0RefIdeal.nD Cert.AttnDq0RefIdeal.τ).loc Cert.AttnDq0RefIdeal.main_arg2)) (m ((c.tc : Thread Cert.AttnDq0RefIdeal.nD Cert.AttnDq0RefIdeal.τ).loc Cert.AttnDq0RefIdeal.main_arg3)) (m ((c.tc : Thread Cert.AttnDq0RefIdeal.nD Cert.AttnDq0RefIdeal.τ).loc Cert.AttnDq0RefIdeal.main_arg4)) (m ((c.tc : Thread Cert.AttnDq0RefIdeal.nD Cert.AttnDq0RefIdeal.τ).loc Cert.AttnDq0RefIdeal.main_arg5))).2.2.1 = (fun _ => 1#1)
    ∧ (Cert.Pre_finite.fn (F := Ideal) (m ((c.tc : Thread Cert.AttnDq0RefIdeal.nD Cert.AttnDq0RefIdeal.τ).loc Cert.AttnDq0RefIdeal.main_arg0)) (m ((c.tc : Thread Cert.AttnDq0RefIdeal.nD Cert.AttnDq0RefIdeal.τ).loc Cert.AttnDq0RefIdeal.main_arg1)) (m ((c.tc : Thread Cert.AttnDq0RefIdeal.nD Cert.AttnDq0RefIdeal.τ).loc Cert.AttnDq0RefIdeal.main_arg2)) (m ((c.tc : Thread Cert.AttnDq0RefIdeal.nD Cert.AttnDq0RefIdeal.τ).loc Cert.AttnDq0RefIdeal.main_arg3)) (m ((c.tc : Thread Cert.AttnDq0RefIdeal.nD Cert.AttnDq0RefIdeal.τ).loc Cert.AttnDq0RefIdeal.main_arg4)) (m ((c.tc : Thread Cert.AttnDq0RefIdeal.nD Cert.AttnDq0RefIdeal.τ).loc Cert.AttnDq0RefIdeal.main_arg5))).2.2.2.1 = (fun _ => 1#1)
    ∧ (Cert.Pre_finite.fn (F := Ideal) (m ((c.tc : Thread Cert.AttnDq0RefIdeal.nD Cert.AttnDq0RefIdeal.τ).loc Cert.AttnDq0RefIdeal.main_arg0)) (m ((c.tc : Thread Cert.AttnDq0RefIdeal.nD Cert.AttnDq0RefIdeal.τ).loc Cert.AttnDq0RefIdeal.main_arg1)) (m ((c.tc : Thread Cert.AttnDq0RefIdeal.nD Cert.AttnDq0RefIdeal.τ).loc Cert.AttnDq0RefIdeal.main_arg2)) (m ((c.tc : Thread Cert.AttnDq0RefIdeal.nD Cert.AttnDq0RefIdeal.τ).loc Cert.AttnDq0RefIdeal.main_arg3)) (m ((c.tc : Thread Cert.AttnDq0RefIdeal.nD Cert.AttnDq0RefIdeal.τ).loc Cert.AttnDq0RefIdeal.main_arg4)) (m ((c.tc : Thread Cert.AttnDq0RefIdeal.nD Cert.AttnDq0RefIdeal.τ).loc Cert.AttnDq0RefIdeal.main_arg5))).2.2.2.2 = (fun _ => 1#1)

def Pre_AttnDkv0 (m : (ℓ : Loc Cert.AttnDkv0.nD Cert.AttnDkv0.τ Cert.AttnDkv0.sig) → Buf (Elt Bits) ℓ) : Prop :=
  True

def Pre_AttnDkv0Ideal (m : (ℓ : Loc Cert.AttnDkv0Ideal.nD Cert.AttnDkv0Ideal.τ Cert.AttnDkv0Ideal.sig) → Buf (Elt Ideal) ℓ) : Prop :=
  True

def Pre_AttnDkv0Ideal_finite [hPre_finite : Cert.Pre_finite.Facts] (m : (ℓ : Loc Cert.AttnDkv0Ideal.nD Cert.AttnDkv0Ideal.τ Cert.AttnDkv0Ideal.sig) → Buf (Elt Ideal) ℓ) : Prop :=
  ∀ c : Dev Cert.AttnDkv0Ideal.nD,
    (Cert.Pre_finite.fn (F := Ideal) (m ((c.tc : Thread Cert.AttnDkv0Ideal.nD Cert.AttnDkv0Ideal.τ).loc Cert.AttnDkv0Ideal.main_arg0)) (m ((c.tc : Thread Cert.AttnDkv0Ideal.nD Cert.AttnDkv0Ideal.τ).loc Cert.AttnDkv0Ideal.main_arg1)) (m ((c.tc : Thread Cert.AttnDkv0Ideal.nD Cert.AttnDkv0Ideal.τ).loc Cert.AttnDkv0Ideal.main_arg2)) (m ((c.tc : Thread Cert.AttnDkv0Ideal.nD Cert.AttnDkv0Ideal.τ).loc Cert.AttnDkv0Ideal.main_arg3)) (m ((c.tc : Thread Cert.AttnDkv0Ideal.nD Cert.AttnDkv0Ideal.τ).loc Cert.AttnDkv0Ideal.main_arg4)) (m ((c.tc : Thread Cert.AttnDkv0Ideal.nD Cert.AttnDkv0Ideal.τ).loc Cert.AttnDkv0Ideal.main_arg5))).1 = (fun _ => 1#1)
    ∧ (Cert.Pre_finite.fn (F := Ideal) (m ((c.tc : Thread Cert.AttnDkv0Ideal.nD Cert.AttnDkv0Ideal.τ).loc Cert.AttnDkv0Ideal.main_arg0)) (m ((c.tc : Thread Cert.AttnDkv0Ideal.nD Cert.AttnDkv0Ideal.τ).loc Cert.AttnDkv0Ideal.main_arg1)) (m ((c.tc : Thread Cert.AttnDkv0Ideal.nD Cert.AttnDkv0Ideal.τ).loc Cert.AttnDkv0Ideal.main_arg2)) (m ((c.tc : Thread Cert.AttnDkv0Ideal.nD Cert.AttnDkv0Ideal.τ).loc Cert.AttnDkv0Ideal.main_arg3)) (m ((c.tc : Thread Cert.AttnDkv0Ideal.nD Cert.AttnDkv0Ideal.τ).loc Cert.AttnDkv0Ideal.main_arg4)) (m ((c.tc : Thread Cert.AttnDkv0Ideal.nD Cert.AttnDkv0Ideal.τ).loc Cert.AttnDkv0Ideal.main_arg5))).2.1 = (fun _ => 1#1)
    ∧ (Cert.Pre_finite.fn (F := Ideal) (m ((c.tc : Thread Cert.AttnDkv0Ideal.nD Cert.AttnDkv0Ideal.τ).loc Cert.AttnDkv0Ideal.main_arg0)) (m ((c.tc : Thread Cert.AttnDkv0Ideal.nD Cert.AttnDkv0Ideal.τ).loc Cert.AttnDkv0Ideal.main_arg1)) (m ((c.tc : Thread Cert.AttnDkv0Ideal.nD Cert.AttnDkv0Ideal.τ).loc Cert.AttnDkv0Ideal.main_arg2)) (m ((c.tc : Thread Cert.AttnDkv0Ideal.nD Cert.AttnDkv0Ideal.τ).loc Cert.AttnDkv0Ideal.main_arg3)) (m ((c.tc : Thread Cert.AttnDkv0Ideal.nD Cert.AttnDkv0Ideal.τ).loc Cert.AttnDkv0Ideal.main_arg4)) (m ((c.tc : Thread Cert.AttnDkv0Ideal.nD Cert.AttnDkv0Ideal.τ).loc Cert.AttnDkv0Ideal.main_arg5))).2.2.1 = (fun _ => 1#1)
    ∧ (Cert.Pre_finite.fn (F := Ideal) (m ((c.tc : Thread Cert.AttnDkv0Ideal.nD Cert.AttnDkv0Ideal.τ).loc Cert.AttnDkv0Ideal.main_arg0)) (m ((c.tc : Thread Cert.AttnDkv0Ideal.nD Cert.AttnDkv0Ideal.τ).loc Cert.AttnDkv0Ideal.main_arg1)) (m ((c.tc : Thread Cert.AttnDkv0Ideal.nD Cert.AttnDkv0Ideal.τ).loc Cert.AttnDkv0Ideal.main_arg2)) (m ((c.tc : Thread Cert.AttnDkv0Ideal.nD Cert.AttnDkv0Ideal.τ).loc Cert.AttnDkv0Ideal.main_arg3)) (m ((c.tc : Thread Cert.AttnDkv0Ideal.nD Cert.AttnDkv0Ideal.τ).loc Cert.AttnDkv0Ideal.main_arg4)) (m ((c.tc : Thread Cert.AttnDkv0Ideal.nD Cert.AttnDkv0Ideal.τ).loc Cert.AttnDkv0Ideal.main_arg5))).2.2.2.1 = (fun _ => 1#1)
    ∧ (Cert.Pre_finite.fn (F := Ideal) (m ((c.tc : Thread Cert.AttnDkv0Ideal.nD Cert.AttnDkv0Ideal.τ).loc Cert.AttnDkv0Ideal.main_arg0)) (m ((c.tc : Thread Cert.AttnDkv0Ideal.nD Cert.AttnDkv0Ideal.τ).loc Cert.AttnDkv0Ideal.main_arg1)) (m ((c.tc : Thread Cert.AttnDkv0Ideal.nD Cert.AttnDkv0Ideal.τ).loc Cert.AttnDkv0Ideal.main_arg2)) (m ((c.tc : Thread Cert.AttnDkv0Ideal.nD Cert.AttnDkv0Ideal.τ).loc Cert.AttnDkv0Ideal.main_arg3)) (m ((c.tc : Thread Cert.AttnDkv0Ideal.nD Cert.AttnDkv0Ideal.τ).loc Cert.AttnDkv0Ideal.main_arg4)) (m ((c.tc : Thread Cert.AttnDkv0Ideal.nD Cert.AttnDkv0Ideal.τ).loc Cert.AttnDkv0Ideal.main_arg5))).2.2.2.2 = (fun _ => 1#1)

def Pre_AttnDkv0RefIdeal (m : (ℓ : Loc Cert.AttnDkv0RefIdeal.nD Cert.AttnDkv0RefIdeal.τ Cert.AttnDkv0RefIdeal.sig) → Buf (Elt Ideal) ℓ) : Prop :=
  True

def Pre_AttnDkv0RefIdeal_finite [hPre_finite : Cert.Pre_finite.Facts] (m : (ℓ : Loc Cert.AttnDkv0RefIdeal.nD Cert.AttnDkv0RefIdeal.τ Cert.AttnDkv0RefIdeal.sig) → Buf (Elt Ideal) ℓ) : Prop :=
  ∀ c : Dev Cert.AttnDkv0RefIdeal.nD,
    (Cert.Pre_finite.fn (F := Ideal) (m ((c.tc : Thread Cert.AttnDkv0RefIdeal.nD Cert.AttnDkv0RefIdeal.τ).loc Cert.AttnDkv0RefIdeal.main_arg0)) (m ((c.tc : Thread Cert.AttnDkv0RefIdeal.nD Cert.AttnDkv0RefIdeal.τ).loc Cert.AttnDkv0RefIdeal.main_arg1)) (m ((c.tc : Thread Cert.AttnDkv0RefIdeal.nD Cert.AttnDkv0RefIdeal.τ).loc Cert.AttnDkv0RefIdeal.main_arg2)) (m ((c.tc : Thread Cert.AttnDkv0RefIdeal.nD Cert.AttnDkv0RefIdeal.τ).loc Cert.AttnDkv0RefIdeal.main_arg3)) (m ((c.tc : Thread Cert.AttnDkv0RefIdeal.nD Cert.AttnDkv0RefIdeal.τ).loc Cert.AttnDkv0RefIdeal.main_arg4)) (m ((c.tc : Thread Cert.AttnDkv0RefIdeal.nD Cert.AttnDkv0RefIdeal.τ).loc Cert.AttnDkv0RefIdeal.main_arg5))).1 = (fun _ => 1#1)
    ∧ (Cert.Pre_finite.fn (F := Ideal) (m ((c.tc : Thread Cert.AttnDkv0RefIdeal.nD Cert.AttnDkv0RefIdeal.τ).loc Cert.AttnDkv0RefIdeal.main_arg0)) (m ((c.tc : Thread Cert.AttnDkv0RefIdeal.nD Cert.AttnDkv0RefIdeal.τ).loc Cert.AttnDkv0RefIdeal.main_arg1)) (m ((c.tc : Thread Cert.AttnDkv0RefIdeal.nD Cert.AttnDkv0RefIdeal.τ).loc Cert.AttnDkv0RefIdeal.main_arg2)) (m ((c.tc : Thread Cert.AttnDkv0RefIdeal.nD Cert.AttnDkv0RefIdeal.τ).loc Cert.AttnDkv0RefIdeal.main_arg3)) (m ((c.tc : Thread Cert.AttnDkv0RefIdeal.nD Cert.AttnDkv0RefIdeal.τ).loc Cert.AttnDkv0RefIdeal.main_arg4)) (m ((c.tc : Thread Cert.AttnDkv0RefIdeal.nD Cert.AttnDkv0RefIdeal.τ).loc Cert.AttnDkv0RefIdeal.main_arg5))).2.1 = (fun _ => 1#1)
    ∧ (Cert.Pre_finite.fn (F := Ideal) (m ((c.tc : Thread Cert.AttnDkv0RefIdeal.nD Cert.AttnDkv0RefIdeal.τ).loc Cert.AttnDkv0RefIdeal.main_arg0)) (m ((c.tc : Thread Cert.AttnDkv0RefIdeal.nD Cert.AttnDkv0RefIdeal.τ).loc Cert.AttnDkv0RefIdeal.main_arg1)) (m ((c.tc : Thread Cert.AttnDkv0RefIdeal.nD Cert.AttnDkv0RefIdeal.τ).loc Cert.AttnDkv0RefIdeal.main_arg2)) (m ((c.tc : Thread Cert.AttnDkv0RefIdeal.nD Cert.AttnDkv0RefIdeal.τ).loc Cert.AttnDkv0RefIdeal.main_arg3)) (m ((c.tc : Thread Cert.AttnDkv0RefIdeal.nD Cert.AttnDkv0RefIdeal.τ).loc Cert.AttnDkv0RefIdeal.main_arg4)) (m ((c.tc : Thread Cert.AttnDkv0RefIdeal.nD Cert.AttnDkv0RefIdeal.τ).loc Cert.AttnDkv0RefIdeal.main_arg5))).2.2.1 = (fun _ => 1#1)
    ∧ (Cert.Pre_finite.fn (F := Ideal) (m ((c.tc : Thread Cert.AttnDkv0RefIdeal.nD Cert.AttnDkv0RefIdeal.τ).loc Cert.AttnDkv0RefIdeal.main_arg0)) (m ((c.tc : Thread Cert.AttnDkv0RefIdeal.nD Cert.AttnDkv0RefIdeal.τ).loc Cert.AttnDkv0RefIdeal.main_arg1)) (m ((c.tc : Thread Cert.AttnDkv0RefIdeal.nD Cert.AttnDkv0RefIdeal.τ).loc Cert.AttnDkv0RefIdeal.main_arg2)) (m ((c.tc : Thread Cert.AttnDkv0RefIdeal.nD Cert.AttnDkv0RefIdeal.τ).loc Cert.AttnDkv0RefIdeal.main_arg3)) (m ((c.tc : Thread Cert.AttnDkv0RefIdeal.nD Cert.AttnDkv0RefIdeal.τ).loc Cert.AttnDkv0RefIdeal.main_arg4)) (m ((c.tc : Thread Cert.AttnDkv0RefIdeal.nD Cert.AttnDkv0RefIdeal.τ).loc Cert.AttnDkv0RefIdeal.main_arg5))).2.2.2.1 = (fun _ => 1#1)
    ∧ (Cert.Pre_finite.fn (F := Ideal) (m ((c.tc : Thread Cert.AttnDkv0RefIdeal.nD Cert.AttnDkv0RefIdeal.τ).loc Cert.AttnDkv0RefIdeal.main_arg0)) (m ((c.tc : Thread Cert.AttnDkv0RefIdeal.nD Cert.AttnDkv0RefIdeal.τ).loc Cert.AttnDkv0RefIdeal.main_arg1)) (m ((c.tc : Thread Cert.AttnDkv0RefIdeal.nD Cert.AttnDkv0RefIdeal.τ).loc Cert.AttnDkv0RefIdeal.main_arg2)) (m ((c.tc : Thread Cert.AttnDkv0RefIdeal.nD Cert.AttnDkv0RefIdeal.τ).loc Cert.AttnDkv0RefIdeal.main_arg3)) (m ((c.tc : Thread Cert.AttnDkv0RefIdeal.nD Cert.AttnDkv0RefIdeal.τ).loc Cert.AttnDkv0RefIdeal.main_arg4)) (m ((c.tc : Thread Cert.AttnDkv0RefIdeal.nD Cert.AttnDkv0RefIdeal.τ).loc Cert.AttnDkv0RefIdeal.main_arg5))).2.2.2.2 = (fun _ => 1#1)

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1Ideal_norm_finite [hPre_norm_finite : Cert.Pre_norm_finite.Facts] (m : (ℓ : Loc Cert.DH1Ideal.nD Cert.DH1Ideal.τ Cert.DH1Ideal.sig) → Buf (Elt Ideal) ℓ) : Prop :=
  ∀ c : Dev Cert.DH1Ideal.nD,
    (Cert.Pre_norm_finite.fn (F := Ideal) (m ((c.tc : Thread Cert.DH1Ideal.nD Cert.DH1Ideal.τ).loc Cert.DH1Ideal.main_arg0)) (m ((c.tc : Thread Cert.DH1Ideal.nD Cert.DH1Ideal.τ).loc Cert.DH1Ideal.main_arg1)) (m ((c.tc : Thread Cert.DH1Ideal.nD Cert.DH1Ideal.τ).loc Cert.DH1Ideal.main_arg2)) (m ((c.tc : Thread Cert.DH1Ideal.nD Cert.DH1Ideal.τ).loc Cert.DH1Ideal.main_arg3)) (m ((c.tc : Thread Cert.DH1Ideal.nD Cert.DH1Ideal.τ).loc Cert.DH1Ideal.main_arg4)) (m ((c.tc : Thread Cert.DH1Ideal.nD Cert.DH1Ideal.τ).loc Cert.DH1Ideal.main_arg5))).1 = (fun _ => 1#1)
    ∧ (Cert.Pre_norm_finite.fn (F := Ideal) (m ((c.tc : Thread Cert.DH1Ideal.nD Cert.DH1Ideal.τ).loc Cert.DH1Ideal.main_arg0)) (m ((c.tc : Thread Cert.DH1Ideal.nD Cert.DH1Ideal.τ).loc Cert.DH1Ideal.main_arg1)) (m ((c.tc : Thread Cert.DH1Ideal.nD Cert.DH1Ideal.τ).loc Cert.DH1Ideal.main_arg2)) (m ((c.tc : Thread Cert.DH1Ideal.nD Cert.DH1Ideal.τ).loc Cert.DH1Ideal.main_arg3)) (m ((c.tc : Thread Cert.DH1Ideal.nD Cert.DH1Ideal.τ).loc Cert.DH1Ideal.main_arg4)) (m ((c.tc : Thread Cert.DH1Ideal.nD Cert.DH1Ideal.τ).loc Cert.DH1Ideal.main_arg5))).2.1 = (fun _ => 1#1)
    ∧ (Cert.Pre_norm_finite.fn (F := Ideal) (m ((c.tc : Thread Cert.DH1Ideal.nD Cert.DH1Ideal.τ).loc Cert.DH1Ideal.main_arg0)) (m ((c.tc : Thread Cert.DH1Ideal.nD Cert.DH1Ideal.τ).loc Cert.DH1Ideal.main_arg1)) (m ((c.tc : Thread Cert.DH1Ideal.nD Cert.DH1Ideal.τ).loc Cert.DH1Ideal.main_arg2)) (m ((c.tc : Thread Cert.DH1Ideal.nD Cert.DH1Ideal.τ).loc Cert.DH1Ideal.main_arg3)) (m ((c.tc : Thread Cert.DH1Ideal.nD Cert.DH1Ideal.τ).loc Cert.DH1Ideal.main_arg4)) (m ((c.tc : Thread Cert.DH1Ideal.nD Cert.DH1Ideal.τ).loc Cert.DH1Ideal.main_arg5))).2.2.1 = (fun _ => 1#1)
    ∧ (Cert.Pre_norm_finite.fn (F := Ideal) (m ((c.tc : Thread Cert.DH1Ideal.nD Cert.DH1Ideal.τ).loc Cert.DH1Ideal.main_arg0)) (m ((c.tc : Thread Cert.DH1Ideal.nD Cert.DH1Ideal.τ).loc Cert.DH1Ideal.main_arg1)) (m ((c.tc : Thread Cert.DH1Ideal.nD Cert.DH1Ideal.τ).loc Cert.DH1Ideal.main_arg2)) (m ((c.tc : Thread Cert.DH1Ideal.nD Cert.DH1Ideal.τ).loc Cert.DH1Ideal.main_arg3)) (m ((c.tc : Thread Cert.DH1Ideal.nD Cert.DH1Ideal.τ).loc Cert.DH1Ideal.main_arg4)) (m ((c.tc : Thread Cert.DH1Ideal.nD Cert.DH1Ideal.τ).loc Cert.DH1Ideal.main_arg5))).2.2.2.1 = (fun _ => 1#1)
    ∧ (Cert.Pre_norm_finite.fn (F := Ideal) (m ((c.tc : Thread Cert.DH1Ideal.nD Cert.DH1Ideal.τ).loc Cert.DH1Ideal.main_arg0)) (m ((c.tc : Thread Cert.DH1Ideal.nD Cert.DH1Ideal.τ).loc Cert.DH1Ideal.main_arg1)) (m ((c.tc : Thread Cert.DH1Ideal.nD Cert.DH1Ideal.τ).loc Cert.DH1Ideal.main_arg2)) (m ((c.tc : Thread Cert.DH1Ideal.nD Cert.DH1Ideal.τ).loc Cert.DH1Ideal.main_arg3)) (m ((c.tc : Thread Cert.DH1Ideal.nD Cert.DH1Ideal.τ).loc Cert.DH1Ideal.main_arg4)) (m ((c.tc : Thread Cert.DH1Ideal.nD Cert.DH1Ideal.τ).loc Cert.DH1Ideal.main_arg5))).2.2.2.2 = (fun _ => 1#1)

def Pre_DH1RefIdeal (m : (ℓ : Loc Cert.DH1RefIdeal.nD Cert.DH1RefIdeal.τ Cert.DH1RefIdeal.sig) → Buf (Elt Ideal) ℓ) : Prop :=
  True

def Pre_DH1RefIdeal_norm_finite [hPre_norm_finite : Cert.Pre_norm_finite.Facts] (m : (ℓ : Loc Cert.DH1RefIdeal.nD Cert.DH1RefIdeal.τ Cert.DH1RefIdeal.sig) → Buf (Elt Ideal) ℓ) : Prop :=
  ∀ c : Dev Cert.DH1RefIdeal.nD,
    (Cert.Pre_norm_finite.fn (F := Ideal) (m ((c.tc : Thread Cert.DH1RefIdeal.nD Cert.DH1RefIdeal.τ).loc Cert.DH1RefIdeal.main_arg0)) (m ((c.tc : Thread Cert.DH1RefIdeal.nD Cert.DH1RefIdeal.τ).loc Cert.DH1RefIdeal.main_arg1)) (m ((c.tc : Thread Cert.DH1RefIdeal.nD Cert.DH1RefIdeal.τ).loc Cert.DH1RefIdeal.main_arg2)) (m ((c.tc : Thread Cert.DH1RefIdeal.nD Cert.DH1RefIdeal.τ).loc Cert.DH1RefIdeal.main_arg3)) (m ((c.tc : Thread Cert.DH1RefIdeal.nD Cert.DH1RefIdeal.τ).loc Cert.DH1RefIdeal.main_arg4)) (m ((c.tc : Thread Cert.DH1RefIdeal.nD Cert.DH1RefIdeal.τ).loc Cert.DH1RefIdeal.main_arg5))).1 = (fun _ => 1#1)
    ∧ (Cert.Pre_norm_finite.fn (F := Ideal) (m ((c.tc : Thread Cert.DH1RefIdeal.nD Cert.DH1RefIdeal.τ).loc Cert.DH1RefIdeal.main_arg0)) (m ((c.tc : Thread Cert.DH1RefIdeal.nD Cert.DH1RefIdeal.τ).loc Cert.DH1RefIdeal.main_arg1)) (m ((c.tc : Thread Cert.DH1RefIdeal.nD Cert.DH1RefIdeal.τ).loc Cert.DH1RefIdeal.main_arg2)) (m ((c.tc : Thread Cert.DH1RefIdeal.nD Cert.DH1RefIdeal.τ).loc Cert.DH1RefIdeal.main_arg3)) (m ((c.tc : Thread Cert.DH1RefIdeal.nD Cert.DH1RefIdeal.τ).loc Cert.DH1RefIdeal.main_arg4)) (m ((c.tc : Thread Cert.DH1RefIdeal.nD Cert.DH1RefIdeal.τ).loc Cert.DH1RefIdeal.main_arg5))).2.1 = (fun _ => 1#1)
    ∧ (Cert.Pre_norm_finite.fn (F := Ideal) (m ((c.tc : Thread Cert.DH1RefIdeal.nD Cert.DH1RefIdeal.τ).loc Cert.DH1RefIdeal.main_arg0)) (m ((c.tc : Thread Cert.DH1RefIdeal.nD Cert.DH1RefIdeal.τ).loc Cert.DH1RefIdeal.main_arg1)) (m ((c.tc : Thread Cert.DH1RefIdeal.nD Cert.DH1RefIdeal.τ).loc Cert.DH1RefIdeal.main_arg2)) (m ((c.tc : Thread Cert.DH1RefIdeal.nD Cert.DH1RefIdeal.τ).loc Cert.DH1RefIdeal.main_arg3)) (m ((c.tc : Thread Cert.DH1RefIdeal.nD Cert.DH1RefIdeal.τ).loc Cert.DH1RefIdeal.main_arg4)) (m ((c.tc : Thread Cert.DH1RefIdeal.nD Cert.DH1RefIdeal.τ).loc Cert.DH1RefIdeal.main_arg5))).2.2.1 = (fun _ => 1#1)
    ∧ (Cert.Pre_norm_finite.fn (F := Ideal) (m ((c.tc : Thread Cert.DH1RefIdeal.nD Cert.DH1RefIdeal.τ).loc Cert.DH1RefIdeal.main_arg0)) (m ((c.tc : Thread Cert.DH1RefIdeal.nD Cert.DH1RefIdeal.τ).loc Cert.DH1RefIdeal.main_arg1)) (m ((c.tc : Thread Cert.DH1RefIdeal.nD Cert.DH1RefIdeal.τ).loc Cert.DH1RefIdeal.main_arg2)) (m ((c.tc : Thread Cert.DH1RefIdeal.nD Cert.DH1RefIdeal.τ).loc Cert.DH1RefIdeal.main_arg3)) (m ((c.tc : Thread Cert.DH1RefIdeal.nD Cert.DH1RefIdeal.τ).loc Cert.DH1RefIdeal.main_arg4)) (m ((c.tc : Thread Cert.DH1RefIdeal.nD Cert.DH1RefIdeal.τ).loc Cert.DH1RefIdeal.main_arg5))).2.2.2.1 = (fun _ => 1#1)
    ∧ (Cert.Pre_norm_finite.fn (F := Ideal) (m ((c.tc : Thread Cert.DH1RefIdeal.nD Cert.DH1RefIdeal.τ).loc Cert.DH1RefIdeal.main_arg0)) (m ((c.tc : Thread Cert.DH1RefIdeal.nD Cert.DH1RefIdeal.τ).loc Cert.DH1RefIdeal.main_arg1)) (m ((c.tc : Thread Cert.DH1RefIdeal.nD Cert.DH1RefIdeal.τ).loc Cert.DH1RefIdeal.main_arg2)) (m ((c.tc : Thread Cert.DH1RefIdeal.nD Cert.DH1RefIdeal.τ).loc Cert.DH1RefIdeal.main_arg3)) (m ((c.tc : Thread Cert.DH1RefIdeal.nD Cert.DH1RefIdeal.τ).loc Cert.DH1RefIdeal.main_arg4)) (m ((c.tc : Thread Cert.DH1RefIdeal.nD Cert.DH1RefIdeal.τ).loc Cert.DH1RefIdeal.main_arg5))).2.2.2.2 = (fun _ => 1#1)

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2Ideal_ln2_finite [hPre_ln2_finite : Cert.Pre_ln2_finite.Facts] (m : (ℓ : Loc Cert.Ln2Ideal.nD Cert.Ln2Ideal.τ Cert.Ln2Ideal.sig) → Buf (Elt Ideal) ℓ) : Prop :=
  ∀ c : Dev Cert.Ln2Ideal.nD,
    (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.2.2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.2.2.2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.2.2.2.2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6)) (m ((c.tc : Thread Cert.Ln2Ideal.nD Cert.Ln2Ideal.τ).loc Cert.Ln2Ideal.main_arg7))).2.2.2.2.2.2.2 = (fun _ => 1#1)

def Pre_Ln2RefIdeal (m : (ℓ : Loc Cert.Ln2RefIdeal.nD Cert.Ln2RefIdeal.τ Cert.Ln2RefIdeal.sig) → Buf (Elt Ideal) ℓ) : Prop :=
  True

def Pre_Ln2RefIdeal_ln2_finite [hPre_ln2_finite : Cert.Pre_ln2_finite.Facts] (m : (ℓ : Loc Cert.Ln2RefIdeal.nD Cert.Ln2RefIdeal.τ Cert.Ln2RefIdeal.sig) → Buf (Elt Ideal) ℓ) : Prop :=
  ∀ c : Dev Cert.Ln2RefIdeal.nD,
    (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.2.2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.2.2.2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.2.2.2.2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6)) (m ((c.tc : Thread Cert.Ln2RefIdeal.nD Cert.Ln2RefIdeal.τ).loc Cert.Ln2RefIdeal.main_arg7))).2.2.2.2.2.2.2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvDpre (m : (ℓ : Loc Cert.ConvDpre.nD Cert.ConvDpre.τ Cert.ConvDpre.sig) → Buf (Elt Bits) ℓ) : Prop :=
  True

def Pre_ConvDpreIdeal (m : (ℓ : Loc Cert.ConvDpreIdeal.nD Cert.ConvDpreIdeal.τ Cert.ConvDpreIdeal.sig) → Buf (Elt Ideal) ℓ) : Prop :=
  True

def Pre_ConvDpreIdeal_cotangents_finite [hPre_cotangents_finite : Cert.Pre_cotangents_finite.Facts] (m : (ℓ : Loc Cert.ConvDpreIdeal.nD Cert.ConvDpreIdeal.τ Cert.ConvDpreIdeal.sig) → Buf (Elt Ideal) ℓ) : Prop :=
  ∀ c : Dev Cert.ConvDpreIdeal.nD,
    (Cert.Pre_cotangents_finite.fn (F := Ideal) (m ((c.tc : Thread Cert.ConvDpreIdeal.nD Cert.ConvDpreIdeal.τ).loc Cert.ConvDpreIdeal.main_arg0)) (m ((c.tc : Thread Cert.ConvDpreIdeal.nD Cert.ConvDpreIdeal.τ).loc Cert.ConvDpreIdeal.main_arg1)) (m ((c.tc : Thread Cert.ConvDpreIdeal.nD Cert.ConvDpreIdeal.τ).loc Cert.ConvDpreIdeal.main_arg2)) (m ((c.tc : Thread Cert.ConvDpreIdeal.nD Cert.ConvDpreIdeal.τ).loc Cert.ConvDpreIdeal.main_arg3)) (m ((c.tc : Thread Cert.ConvDpreIdeal.nD Cert.ConvDpreIdeal.τ).loc Cert.ConvDpreIdeal.main_arg4)) (m ((c.tc : Thread Cert.ConvDpreIdeal.nD Cert.ConvDpreIdeal.τ).loc Cert.ConvDpreIdeal.main_arg5)) (m ((c.tc : Thread Cert.ConvDpreIdeal.nD Cert.ConvDpreIdeal.τ).loc Cert.ConvDpreIdeal.main_arg6))).1 = (fun _ => 1#1)
    ∧ (Cert.Pre_cotangents_finite.fn (F := Ideal) (m ((c.tc : Thread Cert.ConvDpreIdeal.nD Cert.ConvDpreIdeal.τ).loc Cert.ConvDpreIdeal.main_arg0)) (m ((c.tc : Thread Cert.ConvDpreIdeal.nD Cert.ConvDpreIdeal.τ).loc Cert.ConvDpreIdeal.main_arg1)) (m ((c.tc : Thread Cert.ConvDpreIdeal.nD Cert.ConvDpreIdeal.τ).loc Cert.ConvDpreIdeal.main_arg2)) (m ((c.tc : Thread Cert.ConvDpreIdeal.nD Cert.ConvDpreIdeal.τ).loc Cert.ConvDpreIdeal.main_arg3)) (m ((c.tc : Thread Cert.ConvDpreIdeal.nD Cert.ConvDpreIdeal.τ).loc Cert.ConvDpreIdeal.main_arg4)) (m ((c.tc : Thread Cert.ConvDpreIdeal.nD Cert.ConvDpreIdeal.τ).loc Cert.ConvDpreIdeal.main_arg5)) (m ((c.tc : Thread Cert.ConvDpreIdeal.nD Cert.ConvDpreIdeal.τ).loc Cert.ConvDpreIdeal.main_arg6))).2.1 = (fun _ => 1#1)
    ∧ (Cert.Pre_cotangents_finite.fn (F := Ideal) (m ((c.tc : Thread Cert.ConvDpreIdeal.nD Cert.ConvDpreIdeal.τ).loc Cert.ConvDpreIdeal.main_arg0)) (m ((c.tc : Thread Cert.ConvDpreIdeal.nD Cert.ConvDpreIdeal.τ).loc Cert.ConvDpreIdeal.main_arg1)) (m ((c.tc : Thread Cert.ConvDpreIdeal.nD Cert.ConvDpreIdeal.τ).loc Cert.ConvDpreIdeal.main_arg2)) (m ((c.tc : Thread Cert.ConvDpreIdeal.nD Cert.ConvDpreIdeal.τ).loc Cert.ConvDpreIdeal.main_arg3)) (m ((c.tc : Thread Cert.ConvDpreIdeal.nD Cert.ConvDpreIdeal.τ).loc Cert.ConvDpreIdeal.main_arg4)) (m ((c.tc : Thread Cert.ConvDpreIdeal.nD Cert.ConvDpreIdeal.τ).loc Cert.ConvDpreIdeal.main_arg5)) (m ((c.tc : Thread Cert.ConvDpreIdeal.nD Cert.ConvDpreIdeal.τ).loc Cert.ConvDpreIdeal.main_arg6))).2.2.1 = (fun _ => 1#1)
    ∧ (Cert.Pre_cotangents_finite.fn (F := Ideal) (m ((c.tc : Thread Cert.ConvDpreIdeal.nD Cert.ConvDpreIdeal.τ).loc Cert.ConvDpreIdeal.main_arg0)) (m ((c.tc : Thread Cert.ConvDpreIdeal.nD Cert.ConvDpreIdeal.τ).loc Cert.ConvDpreIdeal.main_arg1)) (m ((c.tc : Thread Cert.ConvDpreIdeal.nD Cert.ConvDpreIdeal.τ).loc Cert.ConvDpreIdeal.main_arg2)) (m ((c.tc : Thread Cert.ConvDpreIdeal.nD Cert.ConvDpreIdeal.τ).loc Cert.ConvDpreIdeal.main_arg3)) (m ((c.tc : Thread Cert.ConvDpreIdeal.nD Cert.ConvDpreIdeal.τ).loc Cert.ConvDpreIdeal.main_arg4)) (m ((c.tc : Thread Cert.ConvDpreIdeal.nD Cert.ConvDpreIdeal.τ).loc Cert.ConvDpreIdeal.main_arg5)) (m ((c.tc : Thread Cert.ConvDpreIdeal.nD Cert.ConvDpreIdeal.τ).loc Cert.ConvDpreIdeal.main_arg6))).2.2.2 = (fun _ => 1#1)

def Pre_ConvDpreRefIdeal (m : (ℓ : Loc Cert.ConvDpreRefIdeal.nD Cert.ConvDpreRefIdeal.τ Cert.ConvDpreRefIdeal.sig) → Buf (Elt Ideal) ℓ) : Prop :=
  True

def Pre_ConvDpreRefIdeal_cotangents_finite [hPre_cotangents_finite : Cert.Pre_cotangents_finite.Facts] (m : (ℓ : Loc Cert.ConvDpreRefIdeal.nD Cert.ConvDpreRefIdeal.τ Cert.ConvDpreRefIdeal.sig) → Buf (Elt Ideal) ℓ) : Prop :=
  ∀ c : Dev Cert.ConvDpreRefIdeal.nD,
    (Cert.Pre_cotangents_finite.fn (F := Ideal) (m ((c.tc : Thread Cert.ConvDpreRefIdeal.nD Cert.ConvDpreRefIdeal.τ).loc Cert.ConvDpreRefIdeal.main_arg0)) (m ((c.tc : Thread Cert.ConvDpreRefIdeal.nD Cert.ConvDpreRefIdeal.τ).loc Cert.ConvDpreRefIdeal.main_arg1)) (m ((c.tc : Thread Cert.ConvDpreRefIdeal.nD Cert.ConvDpreRefIdeal.τ).loc Cert.ConvDpreRefIdeal.main_arg2)) (m ((c.tc : Thread Cert.ConvDpreRefIdeal.nD Cert.ConvDpreRefIdeal.τ).loc Cert.ConvDpreRefIdeal.main_arg3)) (m ((c.tc : Thread Cert.ConvDpreRefIdeal.nD Cert.ConvDpreRefIdeal.τ).loc Cert.ConvDpreRefIdeal.main_arg4)) (m ((c.tc : Thread Cert.ConvDpreRefIdeal.nD Cert.ConvDpreRefIdeal.τ).loc Cert.ConvDpreRefIdeal.main_arg5)) (m ((c.tc : Thread Cert.ConvDpreRefIdeal.nD Cert.ConvDpreRefIdeal.τ).loc Cert.ConvDpreRefIdeal.main_arg6))).1 = (fun _ => 1#1)
    ∧ (Cert.Pre_cotangents_finite.fn (F := Ideal) (m ((c.tc : Thread Cert.ConvDpreRefIdeal.nD Cert.ConvDpreRefIdeal.τ).loc Cert.ConvDpreRefIdeal.main_arg0)) (m ((c.tc : Thread Cert.ConvDpreRefIdeal.nD Cert.ConvDpreRefIdeal.τ).loc Cert.ConvDpreRefIdeal.main_arg1)) (m ((c.tc : Thread Cert.ConvDpreRefIdeal.nD Cert.ConvDpreRefIdeal.τ).loc Cert.ConvDpreRefIdeal.main_arg2)) (m ((c.tc : Thread Cert.ConvDpreRefIdeal.nD Cert.ConvDpreRefIdeal.τ).loc Cert.ConvDpreRefIdeal.main_arg3)) (m ((c.tc : Thread Cert.ConvDpreRefIdeal.nD Cert.ConvDpreRefIdeal.τ).loc Cert.ConvDpreRefIdeal.main_arg4)) (m ((c.tc : Thread Cert.ConvDpreRefIdeal.nD Cert.ConvDpreRefIdeal.τ).loc Cert.ConvDpreRefIdeal.main_arg5)) (m ((c.tc : Thread Cert.ConvDpreRefIdeal.nD Cert.ConvDpreRefIdeal.τ).loc Cert.ConvDpreRefIdeal.main_arg6))).2.1 = (fun _ => 1#1)
    ∧ (Cert.Pre_cotangents_finite.fn (F := Ideal) (m ((c.tc : Thread Cert.ConvDpreRefIdeal.nD Cert.ConvDpreRefIdeal.τ).loc Cert.ConvDpreRefIdeal.main_arg0)) (m ((c.tc : Thread Cert.ConvDpreRefIdeal.nD Cert.ConvDpreRefIdeal.τ).loc Cert.ConvDpreRefIdeal.main_arg1)) (m ((c.tc : Thread Cert.ConvDpreRefIdeal.nD Cert.ConvDpreRefIdeal.τ).loc Cert.ConvDpreRefIdeal.main_arg2)) (m ((c.tc : Thread Cert.ConvDpreRefIdeal.nD Cert.ConvDpreRefIdeal.τ).loc Cert.ConvDpreRefIdeal.main_arg3)) (m ((c.tc : Thread Cert.ConvDpreRefIdeal.nD Cert.ConvDpreRefIdeal.τ).loc Cert.ConvDpreRefIdeal.main_arg4)) (m ((c.tc : Thread Cert.ConvDpreRefIdeal.nD Cert.ConvDpreRefIdeal.τ).loc Cert.ConvDpreRefIdeal.main_arg5)) (m ((c.tc : Thread Cert.ConvDpreRefIdeal.nD Cert.ConvDpreRefIdeal.τ).loc Cert.ConvDpreRefIdeal.main_arg6))).2.2.1 = (fun _ => 1#1)
    ∧ (Cert.Pre_cotangents_finite.fn (F := Ideal) (m ((c.tc : Thread Cert.ConvDpreRefIdeal.nD Cert.ConvDpreRefIdeal.τ).loc Cert.ConvDpreRefIdeal.main_arg0)) (m ((c.tc : Thread Cert.ConvDpreRefIdeal.nD Cert.ConvDpreRefIdeal.τ).loc Cert.ConvDpreRefIdeal.main_arg1)) (m ((c.tc : Thread Cert.ConvDpreRefIdeal.nD Cert.ConvDpreRefIdeal.τ).loc Cert.ConvDpreRefIdeal.main_arg2)) (m ((c.tc : Thread Cert.ConvDpreRefIdeal.nD Cert.ConvDpreRefIdeal.τ).loc Cert.ConvDpreRefIdeal.main_arg3)) (m ((c.tc : Thread Cert.ConvDpreRefIdeal.nD Cert.ConvDpreRefIdeal.τ).loc Cert.ConvDpreRefIdeal.main_arg4)) (m ((c.tc : Thread Cert.ConvDpreRefIdeal.nD Cert.ConvDpreRefIdeal.τ).loc Cert.ConvDpreRefIdeal.main_arg5)) (m ((c.tc : Thread Cert.ConvDpreRefIdeal.nD Cert.ConvDpreRefIdeal.τ).loc Cert.ConvDpreRefIdeal.main_arg6))).2.2.2 = (fun _ => 1#1)

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwSsd (m : (ℓ : Loc Cert.DwSsd.nD Cert.DwSsd.τ Cert.DwSsd.sig) → Buf (Elt Bits) ℓ) : Prop :=
  True

def Pre_DwSsdIdeal (m : (ℓ : Loc Cert.DwSsdIdeal.nD Cert.DwSsdIdeal.τ Cert.DwSsdIdeal.sig) → Buf (Elt Ideal) ℓ) : Prop :=
  True

def Pre_DwSsdRefIdeal (m : (ℓ : Loc Cert.DwSsdRefIdeal.nD Cert.DwSsdRefIdeal.τ Cert.DwSsdRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwAttn (m : (ℓ : Loc Cert.DwAttn.nD Cert.DwAttn.τ Cert.DwAttn.sig) → Buf (Elt Bits) ℓ) : Prop :=
  True

def Pre_DwAttnIdeal (m : (ℓ : Loc Cert.DwAttnIdeal.nD Cert.DwAttnIdeal.τ Cert.DwAttnIdeal.sig) → Buf (Elt Ideal) ℓ) : Prop :=
  True

def Pre_DwAttnRefIdeal (m : (ℓ : Loc Cert.DwAttnRefIdeal.nD Cert.DwAttnRefIdeal.τ Cert.DwAttnRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXRefIdeal (m : (ℓ : Loc Cert.DXRefIdeal.nD Cert.DXRefIdeal.τ Cert.DXRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_logs_finite [hPre_logs_finite : Cert.Pre_logs_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_logs_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12)) (m ((c.tc : Thread Cert.MixOutIdeal.nD Cert.MixOutIdeal.τ).loc Cert.MixOutIdeal.main_arg13))).1 = (fun _ => 1#1)
    ∧ (Cert.Pre_logs_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12)) (m ((c.tc : Thread Cert.MixOutIdeal.nD Cert.MixOutIdeal.τ).loc Cert.MixOutIdeal.main_arg13))).2.1 = (fun _ => 1#1)
    ∧ (Cert.Pre_logs_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12)) (m ((c.tc : Thread Cert.MixOutIdeal.nD Cert.MixOutIdeal.τ).loc Cert.MixOutIdeal.main_arg13))).2.2 = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_logs_finite [hPre_logs_finite : Cert.Pre_logs_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_logs_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12)) (m ((c.tc : Thread Cert.MixOutRefIdeal.nD Cert.MixOutRefIdeal.τ).loc Cert.MixOutRefIdeal.main_arg13))).1 = (fun _ => 1#1)
    ∧ (Cert.Pre_logs_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12)) (m ((c.tc : Thread Cert.MixOutRefIdeal.nD Cert.MixOutRefIdeal.τ).loc Cert.MixOutRefIdeal.main_arg13))).2.1 = (fun _ => 1#1)
    ∧ (Cert.Pre_logs_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12)) (m ((c.tc : Thread Cert.MixOutRefIdeal.nD Cert.MixOutRefIdeal.τ).loc Cert.MixOutRefIdeal.main_arg13))).2.2 = (fun _ => 1#1)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2)
      ∧ r.2.mem ((c.tc : Thread Cert.DUp.nD Cert.DUp.τ).loc Cert.DUp.main_arg3) = m ((c.tc : Thread Cert.DUp.nD Cert.DUp.τ).loc Cert.DUp.main_arg3))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2)
      ∧ r.2.mem ((c.tc : Thread Cert.DUpIdeal.nD Cert.DUpIdeal.τ).loc Cert.DUpIdeal.main_arg3) = m ((c.tc : Thread Cert.DUpIdeal.nD Cert.DUpIdeal.τ).loc Cert.DUpIdeal.main_arg3))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2)
      ∧ r.2.mem ((c.tc : Thread Cert.DUpRefIdeal.nD Cert.DUpRefIdeal.τ).loc Cert.DUpRefIdeal.main_arg3) = m ((c.tc : Thread Cert.DUpRefIdeal.nD Cert.DUpRefIdeal.τ).loc Cert.DUpRefIdeal.main_arg3))
      ∧ r.2.sem = fun _ => 0)

def quiescent_AttnDq0 [hAttnDq0 : Cert.AttnDq0.Facts] : Prop :=
  ∀ (m : (ℓ : Loc Cert.AttnDq0.nD Cert.AttnDq0.τ Cert.AttnDq0.sig) → Buf (Elt Bits) ℓ) (g : Dev Cert.AttnDq0.nD → PrngReg), Pre_AttnDq0 m →
    θ_run (Cert.AttnDq0.defs (F := Bits)) (onTc (τ := Cert.AttnDq0.τ) (Cert.AttnDq0.main (F := Bits))) ⟨m, fun _ => 0, g⟩ (fun r => (∀ c : Dev Cert.AttnDq0.nD,
      r.2.mem ((c.tc : Thread Cert.AttnDq0.nD Cert.AttnDq0.τ).loc Cert.AttnDq0.main_arg0) = m ((c.tc : Thread Cert.AttnDq0.nD Cert.AttnDq0.τ).loc Cert.AttnDq0.main_arg0)
      ∧ r.2.mem ((c.tc : Thread Cert.AttnDq0.nD Cert.AttnDq0.τ).loc Cert.AttnDq0.main_arg1) = m ((c.tc : Thread Cert.AttnDq0.nD Cert.AttnDq0.τ).loc Cert.AttnDq0.main_arg1)
      ∧ r.2.mem ((c.tc : Thread Cert.AttnDq0.nD Cert.AttnDq0.τ).loc Cert.AttnDq0.main_arg2) = m ((c.tc : Thread Cert.AttnDq0.nD Cert.AttnDq0.τ).loc Cert.AttnDq0.main_arg2)
      ∧ r.2.mem ((c.tc : Thread Cert.AttnDq0.nD Cert.AttnDq0.τ).loc Cert.AttnDq0.main_arg3) = m ((c.tc : Thread Cert.AttnDq0.nD Cert.AttnDq0.τ).loc Cert.AttnDq0.main_arg3)
      ∧ r.2.mem ((c.tc : Thread Cert.AttnDq0.nD Cert.AttnDq0.τ).loc Cert.AttnDq0.main_arg4) = m ((c.tc : Thread Cert.AttnDq0.nD Cert.AttnDq0.τ).loc Cert.AttnDq0.main_arg4)
      ∧ r.2.mem ((c.tc : Thread Cert.AttnDq0.nD Cert.AttnDq0.τ).loc Cert.AttnDq0.main_arg5) = m ((c.tc : Thread Cert.AttnDq0.nD Cert.AttnDq0.τ).loc Cert.AttnDq0.main_arg5))
      ∧ r.2.sem = fun _ => 0)

def quiescent_AttnDq0Ideal [hAttnDq0Ideal : Cert.AttnDq0Ideal.Facts] : Prop :=
  ∀ (m : (ℓ : Loc Cert.AttnDq0Ideal.nD Cert.AttnDq0Ideal.τ Cert.AttnDq0Ideal.sig) → Buf (Elt Ideal) ℓ) (g : Dev Cert.AttnDq0Ideal.nD → PrngReg), Pre_AttnDq0Ideal m →
    θ_run (Cert.AttnDq0Ideal.defs (F := Ideal)) (onTc (τ := Cert.AttnDq0Ideal.τ) (Cert.AttnDq0Ideal.main (F := Ideal))) ⟨m, fun _ => 0, g⟩ (fun r => (∀ c : Dev Cert.AttnDq0Ideal.nD,
      r.2.mem ((c.tc : Thread Cert.AttnDq0Ideal.nD Cert.AttnDq0Ideal.τ).loc Cert.AttnDq0Ideal.main_arg0) = m ((c.tc : Thread Cert.AttnDq0Ideal.nD Cert.AttnDq0Ideal.τ).loc Cert.AttnDq0Ideal.main_arg0)
      ∧ r.2.mem ((c.tc : Thread Cert.AttnDq0Ideal.nD Cert.AttnDq0Ideal.τ).loc Cert.AttnDq0Ideal.main_arg1) = m ((c.tc : Thread Cert.AttnDq0Ideal.nD Cert.AttnDq0Ideal.τ).loc Cert.AttnDq0Ideal.main_arg1)
      ∧ r.2.mem ((c.tc : Thread Cert.AttnDq0Ideal.nD Cert.AttnDq0Ideal.τ).loc Cert.AttnDq0Ideal.main_arg2) = m ((c.tc : Thread Cert.AttnDq0Ideal.nD Cert.AttnDq0Ideal.τ).loc Cert.AttnDq0Ideal.main_arg2)
      ∧ r.2.mem ((c.tc : Thread Cert.AttnDq0Ideal.nD Cert.AttnDq0Ideal.τ).loc Cert.AttnDq0Ideal.main_arg3) = m ((c.tc : Thread Cert.AttnDq0Ideal.nD Cert.AttnDq0Ideal.τ).loc Cert.AttnDq0Ideal.main_arg3)
      ∧ r.2.mem ((c.tc : Thread Cert.AttnDq0Ideal.nD Cert.AttnDq0Ideal.τ).loc Cert.AttnDq0Ideal.main_arg4) = m ((c.tc : Thread Cert.AttnDq0Ideal.nD Cert.AttnDq0Ideal.τ).loc Cert.AttnDq0Ideal.main_arg4)
      ∧ r.2.mem ((c.tc : Thread Cert.AttnDq0Ideal.nD Cert.AttnDq0Ideal.τ).loc Cert.AttnDq0Ideal.main_arg5) = m ((c.tc : Thread Cert.AttnDq0Ideal.nD Cert.AttnDq0Ideal.τ).loc Cert.AttnDq0Ideal.main_arg5))
      ∧ r.2.sem = fun _ => 0)

def quiescent_AttnDq0Ideal_pre_finite [hAttnDq0Ideal : Cert.AttnDq0Ideal.Facts] [hPre_finite : Cert.Pre_finite.Facts] : Prop :=
  ∀ (m : (ℓ : Loc Cert.AttnDq0Ideal.nD Cert.AttnDq0Ideal.τ Cert.AttnDq0Ideal.sig) → Buf (Elt Ideal) ℓ) (g : Dev Cert.AttnDq0Ideal.nD → PrngReg), Pre_AttnDq0Ideal_finite m →
    θ_run (Cert.AttnDq0Ideal.defs (F := Ideal)) (onTc (τ := Cert.AttnDq0Ideal.τ) (Cert.AttnDq0Ideal.main (F := Ideal))) ⟨m, fun _ => 0, g⟩ (fun r => (∀ c : Dev Cert.AttnDq0Ideal.nD,
      r.2.mem ((c.tc : Thread Cert.AttnDq0Ideal.nD Cert.AttnDq0Ideal.τ).loc Cert.AttnDq0Ideal.main_arg0) = m ((c.tc : Thread Cert.AttnDq0Ideal.nD Cert.AttnDq0Ideal.τ).loc Cert.AttnDq0Ideal.main_arg0)
      ∧ r.2.mem ((c.tc : Thread Cert.AttnDq0Ideal.nD Cert.AttnDq0Ideal.τ).loc Cert.AttnDq0Ideal.main_arg1) = m ((c.tc : Thread Cert.AttnDq0Ideal.nD Cert.AttnDq0Ideal.τ).loc Cert.AttnDq0Ideal.main_arg1)
      ∧ r.2.mem ((c.tc : Thread Cert.AttnDq0Ideal.nD Cert.AttnDq0Ideal.τ).loc Cert.AttnDq0Ideal.main_arg2) = m ((c.tc : Thread Cert.AttnDq0Ideal.nD Cert.AttnDq0Ideal.τ).loc Cert.AttnDq0Ideal.main_arg2)
      ∧ r.2.mem ((c.tc : Thread Cert.AttnDq0Ideal.nD Cert.AttnDq0Ideal.τ).loc Cert.AttnDq0Ideal.main_arg3) = m ((c.tc : Thread Cert.AttnDq0Ideal.nD Cert.AttnDq0Ideal.τ).loc Cert.AttnDq0Ideal.main_arg3)
      ∧ r.2.mem ((c.tc : Thread Cert.AttnDq0Ideal.nD Cert.AttnDq0Ideal.τ).loc Cert.AttnDq0Ideal.main_arg4) = m ((c.tc : Thread Cert.AttnDq0Ideal.nD Cert.AttnDq0Ideal.τ).loc Cert.AttnDq0Ideal.main_arg4)
      ∧ r.2.mem ((c.tc : Thread Cert.AttnDq0Ideal.nD Cert.AttnDq0Ideal.τ).loc Cert.AttnDq0Ideal.main_arg5) = m ((c.tc : Thread Cert.AttnDq0Ideal.nD Cert.AttnDq0Ideal.τ).loc Cert.AttnDq0Ideal.main_arg5))
      ∧ r.2.sem = fun _ => 0)

def quiescent_AttnDq0RefIdeal [hAttnDq0RefIdeal : Cert.AttnDq0RefIdeal.Facts] : Prop :=
  ∀ (m : (ℓ : Loc Cert.AttnDq0RefIdeal.nD Cert.AttnDq0RefIdeal.τ Cert.AttnDq0RefIdeal.sig) → Buf (Elt Ideal) ℓ) (g : Dev Cert.AttnDq0RefIdeal.nD → PrngReg), Pre_AttnDq0RefIdeal m →
    θ_run (Cert.AttnDq0RefIdeal.defs (F := Ideal)) (onTc (τ := Cert.AttnDq0RefIdeal.τ) (Cert.AttnDq0RefIdeal.main (F := Ideal))) ⟨m, fun _ => 0, g⟩ (fun r => (∀ c : Dev Cert.AttnDq0RefIdeal.nD,
      r.2.mem ((c.tc : Thread Cert.AttnDq0RefIdeal.nD Cert.AttnDq0RefIdeal.τ).loc Cert.AttnDq0RefIdeal.main_arg0) = m ((c.tc : Thread Cert.AttnDq0RefIdeal.nD Cert.AttnDq0RefIdeal.τ).loc Cert.AttnDq0RefIdeal.main_arg0)
      ∧ r.2.mem ((c.tc : Thread Cert.AttnDq0RefIdeal.nD Cert.AttnDq0RefIdeal.τ).loc Cert.AttnDq0RefIdeal.main_arg1) = m ((c.tc : Thread Cert.AttnDq0RefIdeal.nD Cert.AttnDq0RefIdeal.τ).loc Cert.AttnDq0RefIdeal.main_arg1)
      ∧ r.2.mem ((c.tc : Thread Cert.AttnDq0RefIdeal.nD Cert.AttnDq0RefIdeal.τ).loc Cert.AttnDq0RefIdeal.main_arg2) = m ((c.tc : Thread Cert.AttnDq0RefIdeal.nD Cert.AttnDq0RefIdeal.τ).loc Cert.AttnDq0RefIdeal.main_arg2)
      ∧ r.2.mem ((c.tc : Thread Cert.AttnDq0RefIdeal.nD Cert.AttnDq0RefIdeal.τ).loc Cert.AttnDq0RefIdeal.main_arg3) = m ((c.tc : Thread Cert.AttnDq0RefIdeal.nD Cert.AttnDq0RefIdeal.τ).loc Cert.AttnDq0RefIdeal.main_arg3)
      ∧ r.2.mem ((c.tc : Thread Cert.AttnDq0RefIdeal.nD Cert.AttnDq0RefIdeal.τ).loc Cert.AttnDq0RefIdeal.main_arg4) = m ((c.tc : Thread Cert.AttnDq0RefIdeal.nD Cert.AttnDq0RefIdeal.τ).loc Cert.AttnDq0RefIdeal.main_arg4)
      ∧ r.2.mem ((c.tc : Thread Cert.AttnDq0RefIdeal.nD Cert.AttnDq0RefIdeal.τ).loc Cert.AttnDq0RefIdeal.main_arg5) = m ((c.tc : Thread Cert.AttnDq0RefIdeal.nD Cert.AttnDq0RefIdeal.τ).loc Cert.AttnDq0RefIdeal.main_arg5))
      ∧ r.2.sem = fun _ => 0)

def quiescent_AttnDq0RefIdeal_pre_finite [hAttnDq0RefIdeal : Cert.AttnDq0RefIdeal.Facts] [hPre_finite : Cert.Pre_finite.Facts] : Prop :=
  ∀ (m : (ℓ : Loc Cert.AttnDq0RefIdeal.nD Cert.AttnDq0RefIdeal.τ Cert.AttnDq0RefIdeal.sig) → Buf (Elt Ideal) ℓ) (g : Dev Cert.AttnDq0RefIdeal.nD → PrngReg), Pre_AttnDq0RefIdeal_finite m →
    θ_run (Cert.AttnDq0RefIdeal.defs (F := Ideal)) (onTc (τ := Cert.AttnDq0RefIdeal.τ) (Cert.AttnDq0RefIdeal.main (F := Ideal))) ⟨m, fun _ => 0, g⟩ (fun r => (∀ c : Dev Cert.AttnDq0RefIdeal.nD,
      r.2.mem ((c.tc : Thread Cert.AttnDq0RefIdeal.nD Cert.AttnDq0RefIdeal.τ).loc Cert.AttnDq0RefIdeal.main_arg0) = m ((c.tc : Thread Cert.AttnDq0RefIdeal.nD Cert.AttnDq0RefIdeal.τ).loc Cert.AttnDq0RefIdeal.main_arg0)
      ∧ r.2.mem ((c.tc : Thread Cert.AttnDq0RefIdeal.nD Cert.AttnDq0RefIdeal.τ).loc Cert.AttnDq0RefIdeal.main_arg1) = m ((c.tc : Thread Cert.AttnDq0RefIdeal.nD Cert.AttnDq0RefIdeal.τ).loc Cert.AttnDq0RefIdeal.main_arg1)
      ∧ r.2.mem ((c.tc : Thread Cert.AttnDq0RefIdeal.nD Cert.AttnDq0RefIdeal.τ).loc Cert.AttnDq0RefIdeal.main_arg2) = m ((c.tc : Thread Cert.AttnDq0RefIdeal.nD Cert.AttnDq0RefIdeal.τ).loc Cert.AttnDq0RefIdeal.main_arg2)
      ∧ r.2.mem ((c.tc : Thread Cert.AttnDq0RefIdeal.nD Cert.AttnDq0RefIdeal.τ).loc Cert.AttnDq0RefIdeal.main_arg3) = m ((c.tc : Thread Cert.AttnDq0RefIdeal.nD Cert.AttnDq0RefIdeal.τ).loc Cert.AttnDq0RefIdeal.main_arg3)
      ∧ r.2.mem ((c.tc : Thread Cert.AttnDq0RefIdeal.nD Cert.AttnDq0RefIdeal.τ).loc Cert.AttnDq0RefIdeal.main_arg4) = m ((c.tc : Thread Cert.AttnDq0RefIdeal.nD Cert.AttnDq0RefIdeal.τ).loc Cert.AttnDq0RefIdeal.main_arg4)
      ∧ r.2.mem ((c.tc : Thread Cert.AttnDq0RefIdeal.nD Cert.AttnDq0RefIdeal.τ).loc Cert.AttnDq0RefIdeal.main_arg5) = m ((c.tc : Thread Cert.AttnDq0RefIdeal.nD Cert.AttnDq0RefIdeal.τ).loc Cert.AttnDq0RefIdeal.main_arg5))
      ∧ r.2.sem = fun _ => 0)

def quiescent_AttnDkv0 [hAttnDkv0 : Cert.AttnDkv0.Facts] : Prop :=
  ∀ (m : (ℓ : Loc Cert.AttnDkv0.nD Cert.AttnDkv0.τ Cert.AttnDkv0.sig) → Buf (Elt Bits) ℓ) (g : Dev Cert.AttnDkv0.nD → PrngReg), Pre_AttnDkv0 m →
    θ_run (Cert.AttnDkv0.defs (F := Bits)) (onTc (τ := Cert.AttnDkv0.τ) (Cert.AttnDkv0.main (F := Bits))) ⟨m, fun _ => 0, g⟩ (fun r => (∀ c : Dev Cert.AttnDkv0.nD,
      r.2.mem ((c.tc : Thread Cert.AttnDkv0.nD Cert.AttnDkv0.τ).loc Cert.AttnDkv0.main_arg0) = m ((c.tc : Thread Cert.AttnDkv0.nD Cert.AttnDkv0.τ).loc Cert.AttnDkv0.main_arg0)
      ∧ r.2.mem ((c.tc : Thread Cert.AttnDkv0.nD Cert.AttnDkv0.τ).loc Cert.AttnDkv0.main_arg1) = m ((c.tc : Thread Cert.AttnDkv0.nD Cert.AttnDkv0.τ).loc Cert.AttnDkv0.main_arg1)
      ∧ r.2.mem ((c.tc : Thread Cert.AttnDkv0.nD Cert.AttnDkv0.τ).loc Cert.AttnDkv0.main_arg2) = m ((c.tc : Thread Cert.AttnDkv0.nD Cert.AttnDkv0.τ).loc Cert.AttnDkv0.main_arg2)
      ∧ r.2.mem ((c.tc : Thread Cert.AttnDkv0.nD Cert.AttnDkv0.τ).loc Cert.AttnDkv0.main_arg3) = m ((c.tc : Thread Cert.AttnDkv0.nD Cert.AttnDkv0.τ).loc Cert.AttnDkv0.main_arg3)
      ∧ r.2.mem ((c.tc : Thread Cert.AttnDkv0.nD Cert.AttnDkv0.τ).loc Cert.AttnDkv0.main_arg4) = m ((c.tc : Thread Cert.AttnDkv0.nD Cert.AttnDkv0.τ).loc Cert.AttnDkv0.main_arg4)
      ∧ r.2.mem ((c.tc : Thread Cert.AttnDkv0.nD Cert.AttnDkv0.τ).loc Cert.AttnDkv0.main_arg5) = m ((c.tc : Thread Cert.AttnDkv0.nD Cert.AttnDkv0.τ).loc Cert.AttnDkv0.main_arg5))
      ∧ r.2.sem = fun _ => 0)

def quiescent_AttnDkv0Ideal [hAttnDkv0Ideal : Cert.AttnDkv0Ideal.Facts] : Prop :=
  ∀ (m : (ℓ : Loc Cert.AttnDkv0Ideal.nD Cert.AttnDkv0Ideal.τ Cert.AttnDkv0Ideal.sig) → Buf (Elt Ideal) ℓ) (g : Dev Cert.AttnDkv0Ideal.nD → PrngReg), Pre_AttnDkv0Ideal m →
    θ_run (Cert.AttnDkv0Ideal.defs (F := Ideal)) (onTc (τ := Cert.AttnDkv0Ideal.τ) (Cert.AttnDkv0Ideal.main (F := Ideal))) ⟨m, fun _ => 0, g⟩ (fun r => (∀ c : Dev Cert.AttnDkv0Ideal.nD,
      r.2.mem ((c.tc : Thread Cert.AttnDkv0Ideal.nD Cert.AttnDkv0Ideal.τ).loc Cert.AttnDkv0Ideal.main_arg0) = m ((c.tc : Thread Cert.AttnDkv0Ideal.nD Cert.AttnDkv0Ideal.τ).loc Cert.AttnDkv0Ideal.main_arg0)
      ∧ r.2.mem ((c.tc : Thread Cert.AttnDkv0Ideal.nD Cert.AttnDkv0Ideal.τ).loc Cert.AttnDkv0Ideal.main_arg1) = m ((c.tc : Thread Cert.AttnDkv0Ideal.nD Cert.AttnDkv0Ideal.τ).loc Cert.AttnDkv0Ideal.main_arg1)
      ∧ r.2.mem ((c.tc : Thread Cert.AttnDkv0Ideal.nD Cert.AttnDkv0Ideal.τ).loc Cert.AttnDkv0Ideal.main_arg2) = m ((c.tc : Thread Cert.AttnDkv0Ideal.nD Cert.AttnDkv0Ideal.τ).loc Cert.AttnDkv0Ideal.main_arg2)
      ∧ r.2.mem ((c.tc : Thread Cert.AttnDkv0Ideal.nD Cert.AttnDkv0Ideal.τ).loc Cert.AttnDkv0Ideal.main_arg3) = m ((c.tc : Thread Cert.AttnDkv0Ideal.nD Cert.AttnDkv0Ideal.τ).loc Cert.AttnDkv0Ideal.main_arg3)
      ∧ r.2.mem ((c.tc : Thread Cert.AttnDkv0Ideal.nD Cert.AttnDkv0Ideal.τ).loc Cert.AttnDkv0Ideal.main_arg4) = m ((c.tc : Thread Cert.AttnDkv0Ideal.nD Cert.AttnDkv0Ideal.τ).loc Cert.AttnDkv0Ideal.main_arg4)
      ∧ r.2.mem ((c.tc : Thread Cert.AttnDkv0Ideal.nD Cert.AttnDkv0Ideal.τ).loc Cert.AttnDkv0Ideal.main_arg5) = m ((c.tc : Thread Cert.AttnDkv0Ideal.nD Cert.AttnDkv0Ideal.τ).loc Cert.AttnDkv0Ideal.main_arg5))
      ∧ r.2.sem = fun _ => 0)

def quiescent_AttnDkv0Ideal_pre_finite [hAttnDkv0Ideal : Cert.AttnDkv0Ideal.Facts] [hPre_finite : Cert.Pre_finite.Facts] : Prop :=
  ∀ (m : (ℓ : Loc Cert.AttnDkv0Ideal.nD Cert.AttnDkv0Ideal.τ Cert.AttnDkv0Ideal.sig) → Buf (Elt Ideal) ℓ) (g : Dev Cert.AttnDkv0Ideal.nD → PrngReg), Pre_AttnDkv0Ideal_finite m →
    θ_run (Cert.AttnDkv0Ideal.defs (F := Ideal)) (onTc (τ := Cert.AttnDkv0Ideal.τ) (Cert.AttnDkv0Ideal.main (F := Ideal))) ⟨m, fun _ => 0, g⟩ (fun r => (∀ c : Dev Cert.AttnDkv0Ideal.nD,
      r.2.mem ((c.tc : Thread Cert.AttnDkv0Ideal.nD Cert.AttnDkv0Ideal.τ).loc Cert.AttnDkv0Ideal.main_arg0) = m ((c.tc : Thread Cert.AttnDkv0Ideal.nD Cert.AttnDkv0Ideal.τ).loc Cert.AttnDkv0Ideal.main_arg0)
      ∧ r.2.mem ((c.tc : Thread Cert.AttnDkv0Ideal.nD Cert.AttnDkv0Ideal.τ).loc Cert.AttnDkv0Ideal.main_arg1) = m ((c.tc : Thread Cert.AttnDkv0Ideal.nD Cert.AttnDkv0Ideal.τ).loc Cert.AttnDkv0Ideal.main_arg1)
      ∧ r.2.mem ((c.tc : Thread Cert.AttnDkv0Ideal.nD Cert.AttnDkv0Ideal.τ).loc Cert.AttnDkv0Ideal.main_arg2) = m ((c.tc : Thread Cert.AttnDkv0Ideal.nD Cert.AttnDkv0Ideal.τ).loc Cert.AttnDkv0Ideal.main_arg2)
      ∧ r.2.mem ((c.tc : Thread Cert.AttnDkv0Ideal.nD Cert.AttnDkv0Ideal.τ).loc Cert.AttnDkv0Ideal.main_arg3) = m ((c.tc : Thread Cert.AttnDkv0Ideal.nD Cert.AttnDkv0Ideal.τ).loc Cert.AttnDkv0Ideal.main_arg3)
      ∧ r.2.mem ((c.tc : Thread Cert.AttnDkv0Ideal.nD Cert.AttnDkv0Ideal.τ).loc Cert.AttnDkv0Ideal.main_arg4) = m ((c.tc : Thread Cert.AttnDkv0Ideal.nD Cert.AttnDkv0Ideal.τ).loc Cert.AttnDkv0Ideal.main_arg4)
      ∧ r.2.mem ((c.tc : Thread Cert.AttnDkv0Ideal.nD Cert.AttnDkv0Ideal.τ).loc Cert.AttnDkv0Ideal.main_arg5) = m ((c.tc : Thread Cert.AttnDkv0Ideal.nD Cert.AttnDkv0Ideal.τ).loc Cert.AttnDkv0Ideal.main_arg5))
      ∧ r.2.sem = fun _ => 0)

def quiescent_AttnDkv0RefIdeal [hAttnDkv0RefIdeal : Cert.AttnDkv0RefIdeal.Facts] : Prop :=
  ∀ (m : (ℓ : Loc Cert.AttnDkv0RefIdeal.nD Cert.AttnDkv0RefIdeal.τ Cert.AttnDkv0RefIdeal.sig) → Buf (Elt Ideal) ℓ) (g : Dev Cert.AttnDkv0RefIdeal.nD → PrngReg), Pre_AttnDkv0RefIdeal m →
    θ_run (Cert.AttnDkv0RefIdeal.defs (F := Ideal)) (onTc (τ := Cert.AttnDkv0RefIdeal.τ) (Cert.AttnDkv0RefIdeal.main (F := Ideal))) ⟨m, fun _ => 0, g⟩ (fun r => (∀ c : Dev Cert.AttnDkv0RefIdeal.nD,
      r.2.mem ((c.tc : Thread Cert.AttnDkv0RefIdeal.nD Cert.AttnDkv0RefIdeal.τ).loc Cert.AttnDkv0RefIdeal.main_arg0) = m ((c.tc : Thread Cert.AttnDkv0RefIdeal.nD Cert.AttnDkv0RefIdeal.τ).loc Cert.AttnDkv0RefIdeal.main_arg0)
      ∧ r.2.mem ((c.tc : Thread Cert.AttnDkv0RefIdeal.nD Cert.AttnDkv0RefIdeal.τ).loc Cert.AttnDkv0RefIdeal.main_arg1) = m ((c.tc : Thread Cert.AttnDkv0RefIdeal.nD Cert.AttnDkv0RefIdeal.τ).loc Cert.AttnDkv0RefIdeal.main_arg1)
      ∧ r.2.mem ((c.tc : Thread Cert.AttnDkv0RefIdeal.nD Cert.AttnDkv0RefIdeal.τ).loc Cert.AttnDkv0RefIdeal.main_arg2) = m ((c.tc : Thread Cert.AttnDkv0RefIdeal.nD Cert.AttnDkv0RefIdeal.τ).loc Cert.AttnDkv0RefIdeal.main_arg2)
      ∧ r.2.mem ((c.tc : Thread Cert.AttnDkv0RefIdeal.nD Cert.AttnDkv0RefIdeal.τ).loc Cert.AttnDkv0RefIdeal.main_arg3) = m ((c.tc : Thread Cert.AttnDkv0RefIdeal.nD Cert.AttnDkv0RefIdeal.τ).loc Cert.AttnDkv0RefIdeal.main_arg3)
      ∧ r.2.mem ((c.tc : Thread Cert.AttnDkv0RefIdeal.nD Cert.AttnDkv0RefIdeal.τ).loc Cert.AttnDkv0RefIdeal.main_arg4) = m ((c.tc : Thread Cert.AttnDkv0RefIdeal.nD Cert.AttnDkv0RefIdeal.τ).loc Cert.AttnDkv0RefIdeal.main_arg4)
      ∧ r.2.mem ((c.tc : Thread Cert.AttnDkv0RefIdeal.nD Cert.AttnDkv0RefIdeal.τ).loc Cert.AttnDkv0RefIdeal.main_arg5) = m ((c.tc : Thread Cert.AttnDkv0RefIdeal.nD Cert.AttnDkv0RefIdeal.τ).loc Cert.AttnDkv0RefIdeal.main_arg5))
      ∧ r.2.sem = fun _ => 0)

def quiescent_AttnDkv0RefIdeal_pre_finite [hAttnDkv0RefIdeal : Cert.AttnDkv0RefIdeal.Facts] [hPre_finite : Cert.Pre_finite.Facts] : Prop :=
  ∀ (m : (ℓ : Loc Cert.AttnDkv0RefIdeal.nD Cert.AttnDkv0RefIdeal.τ Cert.AttnDkv0RefIdeal.sig) → Buf (Elt Ideal) ℓ) (g : Dev Cert.AttnDkv0RefIdeal.nD → PrngReg), Pre_AttnDkv0RefIdeal_finite m →
    θ_run (Cert.AttnDkv0RefIdeal.defs (F := Ideal)) (onTc (τ := Cert.AttnDkv0RefIdeal.τ) (Cert.AttnDkv0RefIdeal.main (F := Ideal))) ⟨m, fun _ => 0, g⟩ (fun r => (∀ c : Dev Cert.AttnDkv0RefIdeal.nD,
      r.2.mem ((c.tc : Thread Cert.AttnDkv0RefIdeal.nD Cert.AttnDkv0RefIdeal.τ).loc Cert.AttnDkv0RefIdeal.main_arg0) = m ((c.tc : Thread Cert.AttnDkv0RefIdeal.nD Cert.AttnDkv0RefIdeal.τ).loc Cert.AttnDkv0RefIdeal.main_arg0)
      ∧ r.2.mem ((c.tc : Thread Cert.AttnDkv0RefIdeal.nD Cert.AttnDkv0RefIdeal.τ).loc Cert.AttnDkv0RefIdeal.main_arg1) = m ((c.tc : Thread Cert.AttnDkv0RefIdeal.nD Cert.AttnDkv0RefIdeal.τ).loc Cert.AttnDkv0RefIdeal.main_arg1)
      ∧ r.2.mem ((c.tc : Thread Cert.AttnDkv0RefIdeal.nD Cert.AttnDkv0RefIdeal.τ).loc Cert.AttnDkv0RefIdeal.main_arg2) = m ((c.tc : Thread Cert.AttnDkv0RefIdeal.nD Cert.AttnDkv0RefIdeal.τ).loc Cert.AttnDkv0RefIdeal.main_arg2)
      ∧ r.2.mem ((c.tc : Thread Cert.AttnDkv0RefIdeal.nD Cert.AttnDkv0RefIdeal.τ).loc Cert.AttnDkv0RefIdeal.main_arg3) = m ((c.tc : Thread Cert.AttnDkv0RefIdeal.nD Cert.AttnDkv0RefIdeal.τ).loc Cert.AttnDkv0RefIdeal.main_arg3)
      ∧ r.2.mem ((c.tc : Thread Cert.AttnDkv0RefIdeal.nD Cert.AttnDkv0RefIdeal.τ).loc Cert.AttnDkv0RefIdeal.main_arg4) = m ((c.tc : Thread Cert.AttnDkv0RefIdeal.nD Cert.AttnDkv0RefIdeal.τ).loc Cert.AttnDkv0RefIdeal.main_arg4)
      ∧ r.2.mem ((c.tc : Thread Cert.AttnDkv0RefIdeal.nD Cert.AttnDkv0RefIdeal.τ).loc Cert.AttnDkv0RefIdeal.main_arg5) = m ((c.tc : Thread Cert.AttnDkv0RefIdeal.nD Cert.AttnDkv0RefIdeal.τ).loc Cert.AttnDkv0RefIdeal.main_arg5))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4)
      ∧ r.2.mem ((c.tc : Thread Cert.DH1.nD Cert.DH1.τ).loc Cert.DH1.main_arg5) = m ((c.tc : Thread Cert.DH1.nD Cert.DH1.τ).loc Cert.DH1.main_arg5))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
      ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5))
      ∧ r.2.sem = fun _ => 0)

def quiescent_DH1Ideal_pre_norm_finite [hDH1Ideal : Cert.DH1Ideal.Facts] [hPre_norm_finite : Cert.Pre_norm_finite.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal_norm_finite m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
      ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4)
      ∧ r.2.mem ((c.tc : Thread Cert.DH1RefIdeal.nD Cert.DH1RefIdeal.τ).loc Cert.DH1RefIdeal.main_arg5) = m ((c.tc : Thread Cert.DH1RefIdeal.nD Cert.DH1RefIdeal.τ).loc Cert.DH1RefIdeal.main_arg5))
      ∧ r.2.sem = fun _ => 0)

def quiescent_DH1RefIdeal_pre_norm_finite [hDH1RefIdeal : Cert.DH1RefIdeal.Facts] [hPre_norm_finite : Cert.Pre_norm_finite.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal_norm_finite m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4)
      ∧ r.2.mem ((c.tc : Thread Cert.DH1RefIdeal.nD Cert.DH1RefIdeal.τ).loc Cert.DH1RefIdeal.main_arg5) = m ((c.tc : Thread Cert.DH1RefIdeal.nD Cert.DH1RefIdeal.τ).loc Cert.DH1RefIdeal.main_arg5))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4)
      ∧ r.2.mem ((c.tc : Thread Cert.Ln2.nD Cert.Ln2.τ).loc Cert.Ln2.main_arg5) = m ((c.tc : Thread Cert.Ln2.nD Cert.Ln2.τ).loc Cert.Ln2.main_arg5)
      ∧ r.2.mem ((c.tc : Thread Cert.Ln2.nD Cert.Ln2.τ).loc Cert.Ln2.main_arg6) = m ((c.tc : Thread Cert.Ln2.nD Cert.Ln2.τ).loc Cert.Ln2.main_arg6)
      ∧ r.2.mem ((c.tc : Thread Cert.Ln2.nD Cert.Ln2.τ).loc Cert.Ln2.main_arg7) = m ((c.tc : Thread Cert.Ln2.nD Cert.Ln2.τ).loc Cert.Ln2.main_arg7))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
      ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6)
      ∧ r.2.mem ((c.tc : Thread Cert.Ln2Ideal.nD Cert.Ln2Ideal.τ).loc Cert.Ln2Ideal.main_arg7) = m ((c.tc : Thread Cert.Ln2Ideal.nD Cert.Ln2Ideal.τ).loc Cert.Ln2Ideal.main_arg7))
      ∧ r.2.sem = fun _ => 0)

def quiescent_Ln2Ideal_pre_ln2_finite [hLn2Ideal : Cert.Ln2Ideal.Facts] [hPre_ln2_finite : Cert.Pre_ln2_finite.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal_ln2_finite m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
      ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6)
      ∧ r.2.mem ((c.tc : Thread Cert.Ln2Ideal.nD Cert.Ln2Ideal.τ).loc Cert.Ln2Ideal.main_arg7) = m ((c.tc : Thread Cert.Ln2Ideal.nD Cert.Ln2Ideal.τ).loc Cert.Ln2Ideal.main_arg7))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6)
      ∧ r.2.mem ((c.tc : Thread Cert.Ln2RefIdeal.nD Cert.Ln2RefIdeal.τ).loc Cert.Ln2RefIdeal.main_arg7) = m ((c.tc : Thread Cert.Ln2RefIdeal.nD Cert.Ln2RefIdeal.τ).loc Cert.Ln2RefIdeal.main_arg7))
      ∧ r.2.sem = fun _ => 0)

def quiescent_Ln2RefIdeal_pre_ln2_finite [hLn2RefIdeal : Cert.Ln2RefIdeal.Facts] [hPre_ln2_finite : Cert.Pre_ln2_finite.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal_ln2_finite m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6)
      ∧ r.2.mem ((c.tc : Thread Cert.Ln2RefIdeal.nD Cert.Ln2RefIdeal.τ).loc Cert.Ln2RefIdeal.main_arg7) = m ((c.tc : Thread Cert.Ln2RefIdeal.nD Cert.Ln2RefIdeal.τ).loc Cert.Ln2RefIdeal.main_arg7))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1)
      ∧ r.2.mem ((c.tc : Thread Cert.ConvDx.nD Cert.ConvDx.τ).loc Cert.ConvDx.main_arg2) = m ((c.tc : Thread Cert.ConvDx.nD Cert.ConvDx.τ).loc Cert.ConvDx.main_arg2)
      ∧ r.2.mem ((c.tc : Thread Cert.ConvDx.nD Cert.ConvDx.τ).loc Cert.ConvDx.main_arg3) = m ((c.tc : Thread Cert.ConvDx.nD Cert.ConvDx.τ).loc Cert.ConvDx.main_arg3)
      ∧ r.2.mem ((c.tc : Thread Cert.ConvDx.nD Cert.ConvDx.τ).loc Cert.ConvDx.main_arg4) = m ((c.tc : Thread Cert.ConvDx.nD Cert.ConvDx.τ).loc Cert.ConvDx.main_arg4))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
      ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2)
      ∧ r.2.mem ((c.tc : Thread Cert.ConvDxIdeal.nD Cert.ConvDxIdeal.τ).loc Cert.ConvDxIdeal.main_arg3) = m ((c.tc : Thread Cert.ConvDxIdeal.nD Cert.ConvDxIdeal.τ).loc Cert.ConvDxIdeal.main_arg3)
      ∧ r.2.mem ((c.tc : Thread Cert.ConvDxIdeal.nD Cert.ConvDxIdeal.τ).loc Cert.ConvDxIdeal.main_arg4) = m ((c.tc : Thread Cert.ConvDxIdeal.nD Cert.ConvDxIdeal.τ).loc Cert.ConvDxIdeal.main_arg4))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1)
      ∧ r.2.mem ((c.tc : Thread Cert.ConvDxRefIdeal.nD Cert.ConvDxRefIdeal.τ).loc Cert.ConvDxRefIdeal.main_arg2) = m ((c.tc : Thread Cert.ConvDxRefIdeal.nD Cert.ConvDxRefIdeal.τ).loc Cert.ConvDxRefIdeal.main_arg2)
      ∧ r.2.mem ((c.tc : Thread Cert.ConvDxRefIdeal.nD Cert.ConvDxRefIdeal.τ).loc Cert.ConvDxRefIdeal.main_arg3) = m ((c.tc : Thread Cert.ConvDxRefIdeal.nD Cert.ConvDxRefIdeal.τ).loc Cert.ConvDxRefIdeal.main_arg3)
      ∧ r.2.mem ((c.tc : Thread Cert.ConvDxRefIdeal.nD Cert.ConvDxRefIdeal.τ).loc Cert.ConvDxRefIdeal.main_arg4) = m ((c.tc : Thread Cert.ConvDxRefIdeal.nD Cert.ConvDxRefIdeal.τ).loc Cert.ConvDxRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ConvDpre [hConvDpre : Cert.ConvDpre.Facts] : Prop :=
  ∀ (m : (ℓ : Loc Cert.ConvDpre.nD Cert.ConvDpre.τ Cert.ConvDpre.sig) → Buf (Elt Bits) ℓ) (g : Dev Cert.ConvDpre.nD → PrngReg), Pre_ConvDpre m →
    θ_run (Cert.ConvDpre.defs (F := Bits)) (onTc (τ := Cert.ConvDpre.τ) (Cert.ConvDpre.main (F := Bits))) ⟨m, fun _ => 0, g⟩ (fun r => (∀ c : Dev Cert.ConvDpre.nD,
      r.2.mem ((c.tc : Thread Cert.ConvDpre.nD Cert.ConvDpre.τ).loc Cert.ConvDpre.main_arg0) = m ((c.tc : Thread Cert.ConvDpre.nD Cert.ConvDpre.τ).loc Cert.ConvDpre.main_arg0)
      ∧ r.2.mem ((c.tc : Thread Cert.ConvDpre.nD Cert.ConvDpre.τ).loc Cert.ConvDpre.main_arg1) = m ((c.tc : Thread Cert.ConvDpre.nD Cert.ConvDpre.τ).loc Cert.ConvDpre.main_arg1)
      ∧ r.2.mem ((c.tc : Thread Cert.ConvDpre.nD Cert.ConvDpre.τ).loc Cert.ConvDpre.main_arg2) = m ((c.tc : Thread Cert.ConvDpre.nD Cert.ConvDpre.τ).loc Cert.ConvDpre.main_arg2)
      ∧ r.2.mem ((c.tc : Thread Cert.ConvDpre.nD Cert.ConvDpre.τ).loc Cert.ConvDpre.main_arg3) = m ((c.tc : Thread Cert.ConvDpre.nD Cert.ConvDpre.τ).loc Cert.ConvDpre.main_arg3)
      ∧ r.2.mem ((c.tc : Thread Cert.ConvDpre.nD Cert.ConvDpre.τ).loc Cert.ConvDpre.main_arg4) = m ((c.tc : Thread Cert.ConvDpre.nD Cert.ConvDpre.τ).loc Cert.ConvDpre.main_arg4)
      ∧ r.2.mem ((c.tc : Thread Cert.ConvDpre.nD Cert.ConvDpre.τ).loc Cert.ConvDpre.main_arg5) = m ((c.tc : Thread Cert.ConvDpre.nD Cert.ConvDpre.τ).loc Cert.ConvDpre.main_arg5)
      ∧ r.2.mem ((c.tc : Thread Cert.ConvDpre.nD Cert.ConvDpre.τ).loc Cert.ConvDpre.main_arg6) = m ((c.tc : Thread Cert.ConvDpre.nD Cert.ConvDpre.τ).loc Cert.ConvDpre.main_arg6))
      ∧ r.2.sem = fun _ => 0)

def quiescent_ConvDpreIdeal [hConvDpreIdeal : Cert.ConvDpreIdeal.Facts] : Prop :=
  ∀ (m : (ℓ : Loc Cert.ConvDpreIdeal.nD Cert.ConvDpreIdeal.τ Cert.ConvDpreIdeal.sig) → Buf (Elt Ideal) ℓ) (g : Dev Cert.ConvDpreIdeal.nD → PrngReg), Pre_ConvDpreIdeal m →
    θ_run (Cert.ConvDpreIdeal.defs (F := Ideal)) (onTc (τ := Cert.ConvDpreIdeal.τ) (Cert.ConvDpreIdeal.main (F := Ideal))) ⟨m, fun _ => 0, g⟩ (fun r => (∀ c : Dev Cert.ConvDpreIdeal.nD,
      r.2.mem ((c.tc : Thread Cert.ConvDpreIdeal.nD Cert.ConvDpreIdeal.τ).loc Cert.ConvDpreIdeal.main_arg0) = m ((c.tc : Thread Cert.ConvDpreIdeal.nD Cert.ConvDpreIdeal.τ).loc Cert.ConvDpreIdeal.main_arg0)
      ∧ r.2.mem ((c.tc : Thread Cert.ConvDpreIdeal.nD Cert.ConvDpreIdeal.τ).loc Cert.ConvDpreIdeal.main_arg1) = m ((c.tc : Thread Cert.ConvDpreIdeal.nD Cert.ConvDpreIdeal.τ).loc Cert.ConvDpreIdeal.main_arg1)
      ∧ r.2.mem ((c.tc : Thread Cert.ConvDpreIdeal.nD Cert.ConvDpreIdeal.τ).loc Cert.ConvDpreIdeal.main_arg2) = m ((c.tc : Thread Cert.ConvDpreIdeal.nD Cert.ConvDpreIdeal.τ).loc Cert.ConvDpreIdeal.main_arg2)
      ∧ r.2.mem ((c.tc : Thread Cert.ConvDpreIdeal.nD Cert.ConvDpreIdeal.τ).loc Cert.ConvDpreIdeal.main_arg3) = m ((c.tc : Thread Cert.ConvDpreIdeal.nD Cert.ConvDpreIdeal.τ).loc Cert.ConvDpreIdeal.main_arg3)
      ∧ r.2.mem ((c.tc : Thread Cert.ConvDpreIdeal.nD Cert.ConvDpreIdeal.τ).loc Cert.ConvDpreIdeal.main_arg4) = m ((c.tc : Thread Cert.ConvDpreIdeal.nD Cert.ConvDpreIdeal.τ).loc Cert.ConvDpreIdeal.main_arg4)
      ∧ r.2.mem ((c.tc : Thread Cert.ConvDpreIdeal.nD Cert.ConvDpreIdeal.τ).loc Cert.ConvDpreIdeal.main_arg5) = m ((c.tc : Thread Cert.ConvDpreIdeal.nD Cert.ConvDpreIdeal.τ).loc Cert.ConvDpreIdeal.main_arg5)
      ∧ r.2.mem ((c.tc : Thread Cert.ConvDpreIdeal.nD Cert.ConvDpreIdeal.τ).loc Cert.ConvDpreIdeal.main_arg6) = m ((c.tc : Thread Cert.ConvDpreIdeal.nD Cert.ConvDpreIdeal.τ).loc Cert.ConvDpreIdeal.main_arg6))
      ∧ r.2.sem = fun _ => 0)

def quiescent_ConvDpreIdeal_pre_cotangents_finite [hConvDpreIdeal : Cert.ConvDpreIdeal.Facts] [hPre_cotangents_finite : Cert.Pre_cotangents_finite.Facts] : Prop :=
  ∀ (m : (ℓ : Loc Cert.ConvDpreIdeal.nD Cert.ConvDpreIdeal.τ Cert.ConvDpreIdeal.sig) → Buf (Elt Ideal) ℓ) (g : Dev Cert.ConvDpreIdeal.nD → PrngReg), Pre_ConvDpreIdeal_cotangents_finite m →
    θ_run (Cert.ConvDpreIdeal.defs (F := Ideal)) (onTc (τ := Cert.ConvDpreIdeal.τ) (Cert.ConvDpreIdeal.main (F := Ideal))) ⟨m, fun _ => 0, g⟩ (fun r => (∀ c : Dev Cert.ConvDpreIdeal.nD,
      r.2.mem ((c.tc : Thread Cert.ConvDpreIdeal.nD Cert.ConvDpreIdeal.τ).loc Cert.ConvDpreIdeal.main_arg0) = m ((c.tc : Thread Cert.ConvDpreIdeal.nD Cert.ConvDpreIdeal.τ).loc Cert.ConvDpreIdeal.main_arg0)
      ∧ r.2.mem ((c.tc : Thread Cert.ConvDpreIdeal.nD Cert.ConvDpreIdeal.τ).loc Cert.ConvDpreIdeal.main_arg1) = m ((c.tc : Thread Cert.ConvDpreIdeal.nD Cert.ConvDpreIdeal.τ).loc Cert.ConvDpreIdeal.main_arg1)
      ∧ r.2.mem ((c.tc : Thread Cert.ConvDpreIdeal.nD Cert.ConvDpreIdeal.τ).loc Cert.ConvDpreIdeal.main_arg2) = m ((c.tc : Thread Cert.ConvDpreIdeal.nD Cert.ConvDpreIdeal.τ).loc Cert.ConvDpreIdeal.main_arg2)
      ∧ r.2.mem ((c.tc : Thread Cert.ConvDpreIdeal.nD Cert.ConvDpreIdeal.τ).loc Cert.ConvDpreIdeal.main_arg3) = m ((c.tc : Thread Cert.ConvDpreIdeal.nD Cert.ConvDpreIdeal.τ).loc Cert.ConvDpreIdeal.main_arg3)
      ∧ r.2.mem ((c.tc : Thread Cert.ConvDpreIdeal.nD Cert.ConvDpreIdeal.τ).loc Cert.ConvDpreIdeal.main_arg4) = m ((c.tc : Thread Cert.ConvDpreIdeal.nD Cert.ConvDpreIdeal.τ).loc Cert.ConvDpreIdeal.main_arg4)
      ∧ r.2.mem ((c.tc : Thread Cert.ConvDpreIdeal.nD Cert.ConvDpreIdeal.τ).loc Cert.ConvDpreIdeal.main_arg5) = m ((c.tc : Thread Cert.ConvDpreIdeal.nD Cert.ConvDpreIdeal.τ).loc Cert.ConvDpreIdeal.main_arg5)
      ∧ r.2.mem ((c.tc : Thread Cert.ConvDpreIdeal.nD Cert.ConvDpreIdeal.τ).loc Cert.ConvDpreIdeal.main_arg6) = m ((c.tc : Thread Cert.ConvDpreIdeal.nD Cert.ConvDpreIdeal.τ).loc Cert.ConvDpreIdeal.main_arg6))
      ∧ r.2.sem = fun _ => 0)

def quiescent_ConvDpreRefIdeal [hConvDpreRefIdeal : Cert.ConvDpreRefIdeal.Facts] : Prop :=
  ∀ (m : (ℓ : Loc Cert.ConvDpreRefIdeal.nD Cert.ConvDpreRefIdeal.τ Cert.ConvDpreRefIdeal.sig) → Buf (Elt Ideal) ℓ) (g : Dev Cert.ConvDpreRefIdeal.nD → PrngReg), Pre_ConvDpreRefIdeal m →
    θ_run (Cert.ConvDpreRefIdeal.defs (F := Ideal)) (onTc (τ := Cert.ConvDpreRefIdeal.τ) (Cert.ConvDpreRefIdeal.main (F := Ideal))) ⟨m, fun _ => 0, g⟩ (fun r => (∀ c : Dev Cert.ConvDpreRefIdeal.nD,
      r.2.mem ((c.tc : Thread Cert.ConvDpreRefIdeal.nD Cert.ConvDpreRefIdeal.τ).loc Cert.ConvDpreRefIdeal.main_arg0) = m ((c.tc : Thread Cert.ConvDpreRefIdeal.nD Cert.ConvDpreRefIdeal.τ).loc Cert.ConvDpreRefIdeal.main_arg0)
      ∧ r.2.mem ((c.tc : Thread Cert.ConvDpreRefIdeal.nD Cert.ConvDpreRefIdeal.τ).loc Cert.ConvDpreRefIdeal.main_arg1) = m ((c.tc : Thread Cert.ConvDpreRefIdeal.nD Cert.ConvDpreRefIdeal.τ).loc Cert.ConvDpreRefIdeal.main_arg1)
      ∧ r.2.mem ((c.tc : Thread Cert.ConvDpreRefIdeal.nD Cert.ConvDpreRefIdeal.τ).loc Cert.ConvDpreRefIdeal.main_arg2) = m ((c.tc : Thread Cert.ConvDpreRefIdeal.nD Cert.ConvDpreRefIdeal.τ).loc Cert.ConvDpreRefIdeal.main_arg2)
      ∧ r.2.mem ((c.tc : Thread Cert.ConvDpreRefIdeal.nD Cert.ConvDpreRefIdeal.τ).loc Cert.ConvDpreRefIdeal.main_arg3) = m ((c.tc : Thread Cert.ConvDpreRefIdeal.nD Cert.ConvDpreRefIdeal.τ).loc Cert.ConvDpreRefIdeal.main_arg3)
      ∧ r.2.mem ((c.tc : Thread Cert.ConvDpreRefIdeal.nD Cert.ConvDpreRefIdeal.τ).loc Cert.ConvDpreRefIdeal.main_arg4) = m ((c.tc : Thread Cert.ConvDpreRefIdeal.nD Cert.ConvDpreRefIdeal.τ).loc Cert.ConvDpreRefIdeal.main_arg4)
      ∧ r.2.mem ((c.tc : Thread Cert.ConvDpreRefIdeal.nD Cert.ConvDpreRefIdeal.τ).loc Cert.ConvDpreRefIdeal.main_arg5) = m ((c.tc : Thread Cert.ConvDpreRefIdeal.nD Cert.ConvDpreRefIdeal.τ).loc Cert.ConvDpreRefIdeal.main_arg5)
      ∧ r.2.mem ((c.tc : Thread Cert.ConvDpreRefIdeal.nD Cert.ConvDpreRefIdeal.τ).loc Cert.ConvDpreRefIdeal.main_arg6) = m ((c.tc : Thread Cert.ConvDpreRefIdeal.nD Cert.ConvDpreRefIdeal.τ).loc Cert.ConvDpreRefIdeal.main_arg6))
      ∧ r.2.sem = fun _ => 0)

def quiescent_ConvDpreRefIdeal_pre_cotangents_finite [hConvDpreRefIdeal : Cert.ConvDpreRefIdeal.Facts] [hPre_cotangents_finite : Cert.Pre_cotangents_finite.Facts] : Prop :=
  ∀ (m : (ℓ : Loc Cert.ConvDpreRefIdeal.nD Cert.ConvDpreRefIdeal.τ Cert.ConvDpreRefIdeal.sig) → Buf (Elt Ideal) ℓ) (g : Dev Cert.ConvDpreRefIdeal.nD → PrngReg), Pre_ConvDpreRefIdeal_cotangents_finite m →
    θ_run (Cert.ConvDpreRefIdeal.defs (F := Ideal)) (onTc (τ := Cert.ConvDpreRefIdeal.τ) (Cert.ConvDpreRefIdeal.main (F := Ideal))) ⟨m, fun _ => 0, g⟩ (fun r => (∀ c : Dev Cert.ConvDpreRefIdeal.nD,
      r.2.mem ((c.tc : Thread Cert.ConvDpreRefIdeal.nD Cert.ConvDpreRefIdeal.τ).loc Cert.ConvDpreRefIdeal.main_arg0) = m ((c.tc : Thread Cert.ConvDpreRefIdeal.nD Cert.ConvDpreRefIdeal.τ).loc Cert.ConvDpreRefIdeal.main_arg0)
      ∧ r.2.mem ((c.tc : Thread Cert.ConvDpreRefIdeal.nD Cert.ConvDpreRefIdeal.τ).loc Cert.ConvDpreRefIdeal.main_arg1) = m ((c.tc : Thread Cert.ConvDpreRefIdeal.nD Cert.ConvDpreRefIdeal.τ).loc Cert.ConvDpreRefIdeal.main_arg1)
      ∧ r.2.mem ((c.tc : Thread Cert.ConvDpreRefIdeal.nD Cert.ConvDpreRefIdeal.τ).loc Cert.ConvDpreRefIdeal.main_arg2) = m ((c.tc : Thread Cert.ConvDpreRefIdeal.nD Cert.ConvDpreRefIdeal.τ).loc Cert.ConvDpreRefIdeal.main_arg2)
      ∧ r.2.mem ((c.tc : Thread Cert.ConvDpreRefIdeal.nD Cert.ConvDpreRefIdeal.τ).loc Cert.ConvDpreRefIdeal.main_arg3) = m ((c.tc : Thread Cert.ConvDpreRefIdeal.nD Cert.ConvDpreRefIdeal.τ).loc Cert.ConvDpreRefIdeal.main_arg3)
      ∧ r.2.mem ((c.tc : Thread Cert.ConvDpreRefIdeal.nD Cert.ConvDpreRefIdeal.τ).loc Cert.ConvDpreRefIdeal.main_arg4) = m ((c.tc : Thread Cert.ConvDpreRefIdeal.nD Cert.ConvDpreRefIdeal.τ).loc Cert.ConvDpreRefIdeal.main_arg4)
      ∧ r.2.mem ((c.tc : Thread Cert.ConvDpreRefIdeal.nD Cert.ConvDpreRefIdeal.τ).loc Cert.ConvDpreRefIdeal.main_arg5) = m ((c.tc : Thread Cert.ConvDpreRefIdeal.nD Cert.ConvDpreRefIdeal.τ).loc Cert.ConvDpreRefIdeal.main_arg5)
      ∧ r.2.mem ((c.tc : Thread Cert.ConvDpreRefIdeal.nD Cert.ConvDpreRefIdeal.τ).loc Cert.ConvDpreRefIdeal.main_arg6) = m ((c.tc : Thread Cert.ConvDpreRefIdeal.nD Cert.ConvDpreRefIdeal.τ).loc Cert.ConvDpreRefIdeal.main_arg6))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2)
      ∧ r.2.mem ((c.tc : Thread Cert.GateNorm.nD Cert.GateNorm.τ).loc Cert.GateNorm.main_arg3) = m ((c.tc : Thread Cert.GateNorm.nD Cert.GateNorm.τ).loc Cert.GateNorm.main_arg3)
      ∧ r.2.mem ((c.tc : Thread Cert.GateNorm.nD Cert.GateNorm.τ).loc Cert.GateNorm.main_arg4) = m ((c.tc : Thread Cert.GateNorm.nD Cert.GateNorm.τ).loc Cert.GateNorm.main_arg4)
      ∧ r.2.mem ((c.tc : Thread Cert.GateNorm.nD Cert.GateNorm.τ).loc Cert.GateNorm.main_arg5) = m ((c.tc : Thread Cert.GateNorm.nD Cert.GateNorm.τ).loc Cert.GateNorm.main_arg5))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
      ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4)
      ∧ r.2.mem ((c.tc : Thread Cert.GateNormIdeal.nD Cert.GateNormIdeal.τ).loc Cert.GateNormIdeal.main_arg5) = m ((c.tc : Thread Cert.GateNormIdeal.nD Cert.GateNormIdeal.τ).loc Cert.GateNormIdeal.main_arg5))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2)
      ∧ r.2.mem ((c.tc : Thread Cert.GateNormRefIdeal.nD Cert.GateNormRefIdeal.τ).loc Cert.GateNormRefIdeal.main_arg3) = m ((c.tc : Thread Cert.GateNormRefIdeal.nD Cert.GateNormRefIdeal.τ).loc Cert.GateNormRefIdeal.main_arg3)
      ∧ r.2.mem ((c.tc : Thread Cert.GateNormRefIdeal.nD Cert.GateNormRefIdeal.τ).loc Cert.GateNormRefIdeal.main_arg4) = m ((c.tc : Thread Cert.GateNormRefIdeal.nD Cert.GateNormRefIdeal.τ).loc Cert.GateNormRefIdeal.main_arg4)
      ∧ r.2.mem ((c.tc : Thread Cert.GateNormRefIdeal.nD Cert.GateNormRefIdeal.τ).loc Cert.GateNormRefIdeal.main_arg5) = m ((c.tc : Thread Cert.GateNormRefIdeal.nD Cert.GateNormRefIdeal.τ).loc Cert.GateNormRefIdeal.main_arg5))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwSsd [hDwSsd : Cert.DwSsd.Facts] : Prop :=
  ∀ (m : (ℓ : Loc Cert.DwSsd.nD Cert.DwSsd.τ Cert.DwSsd.sig) → Buf (Elt Bits) ℓ) (g : Dev Cert.DwSsd.nD → PrngReg), Pre_DwSsd m →
    θ_run (Cert.DwSsd.defs (F := Bits)) (onTc (τ := Cert.DwSsd.τ) (Cert.DwSsd.main (F := Bits))) ⟨m, fun _ => 0, g⟩ (fun r => (∀ c : Dev Cert.DwSsd.nD,
      r.2.mem ((c.tc : Thread Cert.DwSsd.nD Cert.DwSsd.τ).loc Cert.DwSsd.main_arg0) = m ((c.tc : Thread Cert.DwSsd.nD Cert.DwSsd.τ).loc Cert.DwSsd.main_arg0)
      ∧ r.2.mem ((c.tc : Thread Cert.DwSsd.nD Cert.DwSsd.τ).loc Cert.DwSsd.main_arg1) = m ((c.tc : Thread Cert.DwSsd.nD Cert.DwSsd.τ).loc Cert.DwSsd.main_arg1))
      ∧ r.2.sem = fun _ => 0)

def quiescent_DwSsdIdeal [hDwSsdIdeal : Cert.DwSsdIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg), Pre_DwSsdIdeal m →
    θ_run (Cert.DwSsdIdeal.defs (F := Ideal)) (onTc (τ := Cert.DwSsdIdeal.τ) (Cert.DwSsdIdeal.main (F := Ideal))) ⟨m, fun _ => 0, g⟩ (fun r => (∀ c : Dev Cert.DwSsdIdeal.nD,
      r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
      ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ r.2.sem = fun _ => 0)

def quiescent_DwSsdRefIdeal [hDwSsdRefIdeal : Cert.DwSsdRefIdeal.Facts] : Prop :=
  ∀ (m : (ℓ : Loc Cert.DwSsdRefIdeal.nD Cert.DwSsdRefIdeal.τ Cert.DwSsdRefIdeal.sig) → Buf (Elt Ideal) ℓ) (g : Dev Cert.DwSsdRefIdeal.nD → PrngReg), Pre_DwSsdRefIdeal m →
    θ_run (Cert.DwSsdRefIdeal.defs (F := Ideal)) (onTc (τ := Cert.DwSsdRefIdeal.τ) (Cert.DwSsdRefIdeal.main (F := Ideal))) ⟨m, fun _ => 0, g⟩ (fun r => (∀ c : Dev Cert.DwSsdRefIdeal.nD,
      r.2.mem ((c.tc : Thread Cert.DwSsdRefIdeal.nD Cert.DwSsdRefIdeal.τ).loc Cert.DwSsdRefIdeal.main_arg0) = m ((c.tc : Thread Cert.DwSsdRefIdeal.nD Cert.DwSsdRefIdeal.τ).loc Cert.DwSsdRefIdeal.main_arg0)
      ∧ r.2.mem ((c.tc : Thread Cert.DwSsdRefIdeal.nD Cert.DwSsdRefIdeal.τ).loc Cert.DwSsdRefIdeal.main_arg1) = m ((c.tc : Thread Cert.DwSsdRefIdeal.nD Cert.DwSsdRefIdeal.τ).loc Cert.DwSsdRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwAttn [hDwAttn : Cert.DwAttn.Facts] : Prop :=
  ∀ (m : (ℓ : Loc Cert.DwAttn.nD Cert.DwAttn.τ Cert.DwAttn.sig) → Buf (Elt Bits) ℓ) (g : Dev Cert.DwAttn.nD → PrngReg), Pre_DwAttn m →
    θ_run (Cert.DwAttn.defs (F := Bits)) (onTc (τ := Cert.DwAttn.τ) (Cert.DwAttn.main (F := Bits))) ⟨m, fun _ => 0, g⟩ (fun r => (∀ c : Dev Cert.DwAttn.nD,
      r.2.mem ((c.tc : Thread Cert.DwAttn.nD Cert.DwAttn.τ).loc Cert.DwAttn.main_arg0) = m ((c.tc : Thread Cert.DwAttn.nD Cert.DwAttn.τ).loc Cert.DwAttn.main_arg0)
      ∧ r.2.mem ((c.tc : Thread Cert.DwAttn.nD Cert.DwAttn.τ).loc Cert.DwAttn.main_arg1) = m ((c.tc : Thread Cert.DwAttn.nD Cert.DwAttn.τ).loc Cert.DwAttn.main_arg1))
      ∧ r.2.sem = fun _ => 0)

def quiescent_DwAttnIdeal [hDwAttnIdeal : Cert.DwAttnIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg), Pre_DwAttnIdeal m →
    θ_run (Cert.DwAttnIdeal.defs (F := Ideal)) (onTc (τ := Cert.DwAttnIdeal.τ) (Cert.DwAttnIdeal.main (F := Ideal))) ⟨m, fun _ => 0, g⟩ (fun r => (∀ c : Dev Cert.DwAttnIdeal.nD,
      r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
      ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ r.2.sem = fun _ => 0)

def quiescent_DwAttnRefIdeal [hDwAttnRefIdeal : Cert.DwAttnRefIdeal.Facts] : Prop :=
  ∀ (m : (ℓ : Loc Cert.DwAttnRefIdeal.nD Cert.DwAttnRefIdeal.τ Cert.DwAttnRefIdeal.sig) → Buf (Elt Ideal) ℓ) (g : Dev Cert.DwAttnRefIdeal.nD → PrngReg), Pre_DwAttnRefIdeal m →
    θ_run (Cert.DwAttnRefIdeal.defs (F := Ideal)) (onTc (τ := Cert.DwAttnRefIdeal.τ) (Cert.DwAttnRefIdeal.main (F := Ideal))) ⟨m, fun _ => 0, g⟩ (fun r => (∀ c : Dev Cert.DwAttnRefIdeal.nD,
      r.2.mem ((c.tc : Thread Cert.DwAttnRefIdeal.nD Cert.DwAttnRefIdeal.τ).loc Cert.DwAttnRefIdeal.main_arg0) = m ((c.tc : Thread Cert.DwAttnRefIdeal.nD Cert.DwAttnRefIdeal.τ).loc Cert.DwAttnRefIdeal.main_arg0)
      ∧ r.2.mem ((c.tc : Thread Cert.DwAttnRefIdeal.nD Cert.DwAttnRefIdeal.τ).loc Cert.DwAttnRefIdeal.main_arg1) = m ((c.tc : Thread Cert.DwAttnRefIdeal.nD Cert.DwAttnRefIdeal.τ).loc Cert.DwAttnRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ r.2.sem = fun _ => 0)

def quiescent_DXRefIdeal [hDXRefIdeal : Cert.DXRefIdeal.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1)
      ∧ r.2.mem ((c.tc : Thread Cert.DXRefIdeal.nD Cert.DXRefIdeal.τ).loc Cert.DXRefIdeal.main_arg2) = m ((c.tc : Thread Cert.DXRefIdeal.nD Cert.DXRefIdeal.τ).loc Cert.DXRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12)
      ∧ r.2.mem ((c.tc : Thread Cert.MixOut.nD Cert.MixOut.τ).loc Cert.MixOut.main_arg13) = m ((c.tc : Thread Cert.MixOut.nD Cert.MixOut.τ).loc Cert.MixOut.main_arg13))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ r.2.sem = fun _ => 0)

def quiescent_MixOutIdeal_pre_logs_finite [hMixOutIdeal : Cert.MixOutIdeal.Facts] [hPre_logs_finite : Cert.Pre_logs_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_logs_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13))
      ∧ r.2.sem = fun _ => 0)

def quiescent_MixOutRefIdeal_pre_logs_finite [hMixOutRefIdeal : Cert.MixOutRefIdeal.Facts] [hPre_logs_finite : Cert.Pre_logs_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_logs_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13))
      ∧ r.2.sem = fun _ => 0)

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)
      ∧ m' ((c.tc : Thread Cert.DUpRefIdeal.nD Cert.DUpRefIdeal.τ).loc Cert.DUpRefIdeal.main_arg3) = m ((c.tc : Thread Cert.DUpIdeal.nD Cert.DUpIdeal.τ).loc Cert.DUpIdeal.main_arg3)) →
    ∃ (v0 : (c : Dev Cert.DUpIdeal.nD) → Buf (Elt Ideal) ((c.tc : Thread Cert.DUpIdeal.nD Cert.DUpIdeal.τ).loc Cert.DUpIdeal.main_v6)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v6) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2)
          ∧ r.2.mem ((c.tc : Thread Cert.DUpIdeal.nD Cert.DUpIdeal.τ).loc Cert.DUpIdeal.main_arg3) = m ((c.tc : Thread Cert.DUpIdeal.nD Cert.DUpIdeal.τ).loc Cert.DUpIdeal.main_arg3))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v13) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2)
          ∧ r.2.mem ((c.tc : Thread Cert.DUpRefIdeal.nD Cert.DUpRefIdeal.τ).loc Cert.DUpRefIdeal.main_arg3) = m' ((c.tc : Thread Cert.DUpRefIdeal.nD Cert.DUpRefIdeal.τ).loc Cert.DUpRefIdeal.main_arg3))

def preserves_AttnDq0_AttnDq0Ideal : Prop :=
  IdealRules.named_const.Statement Cert.AttnDq0Ideal.κ "mask" .f32 0xF149F2CA#32 ⊥

def algebraic_AttnDq0Ideal_AttnDq0RefIdeal_pre_finite [hAttnDq0Ideal : Cert.AttnDq0Ideal.Facts] [hAttnDq0RefIdeal : Cert.AttnDq0RefIdeal.Facts] [hPre_finite : Cert.Pre_finite.Facts] : Prop :=
  ∀ (m : (ℓ : Loc Cert.AttnDq0Ideal.nD Cert.AttnDq0Ideal.τ Cert.AttnDq0Ideal.sig) → Buf (Elt Ideal) ℓ) (g : Dev Cert.AttnDq0Ideal.nD → PrngReg)
    (m' : (ℓ : Loc Cert.AttnDq0RefIdeal.nD Cert.AttnDq0RefIdeal.τ Cert.AttnDq0RefIdeal.sig) → Buf (Elt Ideal) ℓ) (g' : Dev Cert.AttnDq0RefIdeal.nD → PrngReg), Pre_AttnDq0Ideal_finite m →
    (∀ c : Dev Cert.AttnDq0Ideal.nD,
      m' ((c.tc : Thread Cert.AttnDq0RefIdeal.nD Cert.AttnDq0RefIdeal.τ).loc Cert.AttnDq0RefIdeal.main_arg0) = m ((c.tc : Thread Cert.AttnDq0Ideal.nD Cert.AttnDq0Ideal.τ).loc Cert.AttnDq0Ideal.main_arg0)
      ∧ m' ((c.tc : Thread Cert.AttnDq0RefIdeal.nD Cert.AttnDq0RefIdeal.τ).loc Cert.AttnDq0RefIdeal.main_arg1) = m ((c.tc : Thread Cert.AttnDq0Ideal.nD Cert.AttnDq0Ideal.τ).loc Cert.AttnDq0Ideal.main_arg1)
      ∧ m' ((c.tc : Thread Cert.AttnDq0RefIdeal.nD Cert.AttnDq0RefIdeal.τ).loc Cert.AttnDq0RefIdeal.main_arg2) = m ((c.tc : Thread Cert.AttnDq0Ideal.nD Cert.AttnDq0Ideal.τ).loc Cert.AttnDq0Ideal.main_arg2)
      ∧ m' ((c.tc : Thread Cert.AttnDq0RefIdeal.nD Cert.AttnDq0RefIdeal.τ).loc Cert.AttnDq0RefIdeal.main_arg3) = m ((c.tc : Thread Cert.AttnDq0Ideal.nD Cert.AttnDq0Ideal.τ).loc Cert.AttnDq0Ideal.main_arg3)
      ∧ m' ((c.tc : Thread Cert.AttnDq0RefIdeal.nD Cert.AttnDq0RefIdeal.τ).loc Cert.AttnDq0RefIdeal.main_arg4) = m ((c.tc : Thread Cert.AttnDq0Ideal.nD Cert.AttnDq0Ideal.τ).loc Cert.AttnDq0Ideal.main_arg4)
      ∧ m' ((c.tc : Thread Cert.AttnDq0RefIdeal.nD Cert.AttnDq0RefIdeal.τ).loc Cert.AttnDq0RefIdeal.main_arg5) = m ((c.tc : Thread Cert.AttnDq0Ideal.nD Cert.AttnDq0Ideal.τ).loc Cert.AttnDq0Ideal.main_arg5)) →
    ∃ (v0 : (c : Dev Cert.AttnDq0Ideal.nD) → Buf (Elt Ideal) ((c.tc : Thread Cert.AttnDq0Ideal.nD Cert.AttnDq0Ideal.τ).loc Cert.AttnDq0Ideal.main_v97)),
      θ_run (Cert.AttnDq0Ideal.defs (F := Ideal)) (onTc (τ := Cert.AttnDq0Ideal.τ) (Cert.AttnDq0Ideal.main (F := Ideal))) ⟨m, fun _ => 0, g⟩ (fun r => ∀ c : Dev Cert.AttnDq0Ideal.nD,
          r.2.mem ((c.tc : Thread Cert.AttnDq0Ideal.nD Cert.AttnDq0Ideal.τ).loc Cert.AttnDq0Ideal.main_v97) = v0 c
          ∧ r.2.mem ((c.tc : Thread Cert.AttnDq0Ideal.nD Cert.AttnDq0Ideal.τ).loc Cert.AttnDq0Ideal.main_arg0) = m ((c.tc : Thread Cert.AttnDq0Ideal.nD Cert.AttnDq0Ideal.τ).loc Cert.AttnDq0Ideal.main_arg0)
          ∧ r.2.mem ((c.tc : Thread Cert.AttnDq0Ideal.nD Cert.AttnDq0Ideal.τ).loc Cert.AttnDq0Ideal.main_arg1) = m ((c.tc : Thread Cert.AttnDq0Ideal.nD Cert.AttnDq0Ideal.τ).loc Cert.AttnDq0Ideal.main_arg1)
          ∧ r.2.mem ((c.tc : Thread Cert.AttnDq0Ideal.nD Cert.AttnDq0Ideal.τ).loc Cert.AttnDq0Ideal.main_arg2) = m ((c.tc : Thread Cert.AttnDq0Ideal.nD Cert.AttnDq0Ideal.τ).loc Cert.AttnDq0Ideal.main_arg2)
          ∧ r.2.mem ((c.tc : Thread Cert.AttnDq0Ideal.nD Cert.AttnDq0Ideal.τ).loc Cert.AttnDq0Ideal.main_arg3) = m ((c.tc : Thread Cert.AttnDq0Ideal.nD Cert.AttnDq0Ideal.τ).loc Cert.AttnDq0Ideal.main_arg3)
          ∧ r.2.mem ((c.tc : Thread Cert.AttnDq0Ideal.nD Cert.AttnDq0Ideal.τ).loc Cert.AttnDq0Ideal.main_arg4) = m ((c.tc : Thread Cert.AttnDq0Ideal.nD Cert.AttnDq0Ideal.τ).loc Cert.AttnDq0Ideal.main_arg4)
          ∧ r.2.mem ((c.tc : Thread Cert.AttnDq0Ideal.nD Cert.AttnDq0Ideal.τ).loc Cert.AttnDq0Ideal.main_arg5) = m ((c.tc : Thread Cert.AttnDq0Ideal.nD Cert.AttnDq0Ideal.τ).loc Cert.AttnDq0Ideal.main_arg5))
      ∧ θ_run (Cert.AttnDq0RefIdeal.defs (F := Ideal)) (onTc (τ := Cert.AttnDq0RefIdeal.τ) (Cert.AttnDq0RefIdeal.main (F := Ideal))) ⟨m', fun _ => 0, g'⟩ (fun r => ∀ c : Dev Cert.AttnDq0RefIdeal.nD,
          r.2.mem ((c.tc : Thread Cert.AttnDq0RefIdeal.nD Cert.AttnDq0RefIdeal.τ).loc Cert.AttnDq0RefIdeal.main_v148) = v0 c
          ∧ r.2.mem ((c.tc : Thread Cert.AttnDq0RefIdeal.nD Cert.AttnDq0RefIdeal.τ).loc Cert.AttnDq0RefIdeal.main_arg0) = m' ((c.tc : Thread Cert.AttnDq0RefIdeal.nD Cert.AttnDq0RefIdeal.τ).loc Cert.AttnDq0RefIdeal.main_arg0)
          ∧ r.2.mem ((c.tc : Thread Cert.AttnDq0RefIdeal.nD Cert.AttnDq0RefIdeal.τ).loc Cert.AttnDq0RefIdeal.main_arg1) = m' ((c.tc : Thread Cert.AttnDq0RefIdeal.nD Cert.AttnDq0RefIdeal.τ).loc Cert.AttnDq0RefIdeal.main_arg1)
          ∧ r.2.mem ((c.tc : Thread Cert.AttnDq0RefIdeal.nD Cert.AttnDq0RefIdeal.τ).loc Cert.AttnDq0RefIdeal.main_arg2) = m' ((c.tc : Thread Cert.AttnDq0RefIdeal.nD Cert.AttnDq0RefIdeal.τ).loc Cert.AttnDq0RefIdeal.main_arg2)
          ∧ r.2.mem ((c.tc : Thread Cert.AttnDq0RefIdeal.nD Cert.AttnDq0RefIdeal.τ).loc Cert.AttnDq0RefIdeal.main_arg3) = m' ((c.tc : Thread Cert.AttnDq0RefIdeal.nD Cert.AttnDq0RefIdeal.τ).loc Cert.AttnDq0RefIdeal.main_arg3)
          ∧ r.2.mem ((c.tc : Thread Cert.AttnDq0RefIdeal.nD Cert.AttnDq0RefIdeal.τ).loc Cert.AttnDq0RefIdeal.main_arg4) = m' ((c.tc : Thread Cert.AttnDq0RefIdeal.nD Cert.AttnDq0RefIdeal.τ).loc Cert.AttnDq0RefIdeal.main_arg4)
          ∧ r.2.mem ((c.tc : Thread Cert.AttnDq0RefIdeal.nD Cert.AttnDq0RefIdeal.τ).loc Cert.AttnDq0RefIdeal.main_arg5) = m' ((c.tc : Thread Cert.AttnDq0RefIdeal.nD Cert.AttnDq0RefIdeal.τ).loc Cert.AttnDq0RefIdeal.main_arg5))

def preserves_AttnDkv0_AttnDkv0Ideal : Prop :=
  IdealRules.named_const.Statement Cert.AttnDkv0Ideal.κ "mask" .f32 0xF149F2CA#32 ⊥

def algebraic_AttnDkv0Ideal_AttnDkv0RefIdeal_pre_finite [hAttnDkv0Ideal : Cert.AttnDkv0Ideal.Facts] [hAttnDkv0RefIdeal : Cert.AttnDkv0RefIdeal.Facts] [hPre_finite : Cert.Pre_finite.Facts] : Prop :=
  ∀ (m : (ℓ : Loc Cert.AttnDkv0Ideal.nD Cert.AttnDkv0Ideal.τ Cert.AttnDkv0Ideal.sig) → Buf (Elt Ideal) ℓ) (g : Dev Cert.AttnDkv0Ideal.nD → PrngReg)
    (m' : (ℓ : Loc Cert.AttnDkv0RefIdeal.nD Cert.AttnDkv0RefIdeal.τ Cert.AttnDkv0RefIdeal.sig) → Buf (Elt Ideal) ℓ) (g' : Dev Cert.AttnDkv0RefIdeal.nD → PrngReg), Pre_AttnDkv0Ideal_finite m →
    (∀ c : Dev Cert.AttnDkv0Ideal.nD,
      m' ((c.tc : Thread Cert.AttnDkv0RefIdeal.nD Cert.AttnDkv0RefIdeal.τ).loc Cert.AttnDkv0RefIdeal.main_arg0) = m ((c.tc : Thread Cert.AttnDkv0Ideal.nD Cert.AttnDkv0Ideal.τ).loc Cert.AttnDkv0Ideal.main_arg0)
      ∧ m' ((c.tc : Thread Cert.AttnDkv0RefIdeal.nD Cert.AttnDkv0RefIdeal.τ).loc Cert.AttnDkv0RefIdeal.main_arg1) = m ((c.tc : Thread Cert.AttnDkv0Ideal.nD Cert.AttnDkv0Ideal.τ).loc Cert.AttnDkv0Ideal.main_arg1)
      ∧ m' ((c.tc : Thread Cert.AttnDkv0RefIdeal.nD Cert.AttnDkv0RefIdeal.τ).loc Cert.AttnDkv0RefIdeal.main_arg2) = m ((c.tc : Thread Cert.AttnDkv0Ideal.nD Cert.AttnDkv0Ideal.τ).loc Cert.AttnDkv0Ideal.main_arg2)
      ∧ m' ((c.tc : Thread Cert.AttnDkv0RefIdeal.nD Cert.AttnDkv0RefIdeal.τ).loc Cert.AttnDkv0RefIdeal.main_arg3) = m ((c.tc : Thread Cert.AttnDkv0Ideal.nD Cert.AttnDkv0Ideal.τ).loc Cert.AttnDkv0Ideal.main_arg3)
      ∧ m' ((c.tc : Thread Cert.AttnDkv0RefIdeal.nD Cert.AttnDkv0RefIdeal.τ).loc Cert.AttnDkv0RefIdeal.main_arg4) = m ((c.tc : Thread Cert.AttnDkv0Ideal.nD Cert.AttnDkv0Ideal.τ).loc Cert.AttnDkv0Ideal.main_arg4)
      ∧ m' ((c.tc : Thread Cert.AttnDkv0RefIdeal.nD Cert.AttnDkv0RefIdeal.τ).loc Cert.AttnDkv0RefIdeal.main_arg5) = m ((c.tc : Thread Cert.AttnDkv0Ideal.nD Cert.AttnDkv0Ideal.τ).loc Cert.AttnDkv0Ideal.main_arg5)) →
    ∃ (v0 : (c : Dev Cert.AttnDkv0Ideal.nD) → Buf (Elt Ideal) ((c.tc : Thread Cert.AttnDkv0Ideal.nD Cert.AttnDkv0Ideal.τ).loc Cert.AttnDkv0Ideal.main_v97)),
      θ_run (Cert.AttnDkv0Ideal.defs (F := Ideal)) (onTc (τ := Cert.AttnDkv0Ideal.τ) (Cert.AttnDkv0Ideal.main (F := Ideal))) ⟨m, fun _ => 0, g⟩ (fun r => ∀ c : Dev Cert.AttnDkv0Ideal.nD,
          r.2.mem ((c.tc : Thread Cert.AttnDkv0Ideal.nD Cert.AttnDkv0Ideal.τ).loc Cert.AttnDkv0Ideal.main_v97) = v0 c
          ∧ r.2.mem ((c.tc : Thread Cert.AttnDkv0Ideal.nD Cert.AttnDkv0Ideal.τ).loc Cert.AttnDkv0Ideal.main_arg0) = m ((c.tc : Thread Cert.AttnDkv0Ideal.nD Cert.AttnDkv0Ideal.τ).loc Cert.AttnDkv0Ideal.main_arg0)
          ∧ r.2.mem ((c.tc : Thread Cert.AttnDkv0Ideal.nD Cert.AttnDkv0Ideal.τ).loc Cert.AttnDkv0Ideal.main_arg1) = m ((c.tc : Thread Cert.AttnDkv0Ideal.nD Cert.AttnDkv0Ideal.τ).loc Cert.AttnDkv0Ideal.main_arg1)
          ∧ r.2.mem ((c.tc : Thread Cert.AttnDkv0Ideal.nD Cert.AttnDkv0Ideal.τ).loc Cert.AttnDkv0Ideal.main_arg2) = m ((c.tc : Thread Cert.AttnDkv0Ideal.nD Cert.AttnDkv0Ideal.τ).loc Cert.AttnDkv0Ideal.main_arg2)
          ∧ r.2.mem ((c.tc : Thread Cert.AttnDkv0Ideal.nD Cert.AttnDkv0Ideal.τ).loc Cert.AttnDkv0Ideal.main_arg3) = m ((c.tc : Thread Cert.AttnDkv0Ideal.nD Cert.AttnDkv0Ideal.τ).loc Cert.AttnDkv0Ideal.main_arg3)
          ∧ r.2.mem ((c.tc : Thread Cert.AttnDkv0Ideal.nD Cert.AttnDkv0Ideal.τ).loc Cert.AttnDkv0Ideal.main_arg4) = m ((c.tc : Thread Cert.AttnDkv0Ideal.nD Cert.AttnDkv0Ideal.τ).loc Cert.AttnDkv0Ideal.main_arg4)
          ∧ r.2.mem ((c.tc : Thread Cert.AttnDkv0Ideal.nD Cert.AttnDkv0Ideal.τ).loc Cert.AttnDkv0Ideal.main_arg5) = m ((c.tc : Thread Cert.AttnDkv0Ideal.nD Cert.AttnDkv0Ideal.τ).loc Cert.AttnDkv0Ideal.main_arg5))
      ∧ θ_run (Cert.AttnDkv0RefIdeal.defs (F := Ideal)) (onTc (τ := Cert.AttnDkv0RefIdeal.τ) (Cert.AttnDkv0RefIdeal.main (F := Ideal))) ⟨m', fun _ => 0, g'⟩ (fun r => ∀ c : Dev Cert.AttnDkv0RefIdeal.nD,
          r.2.mem ((c.tc : Thread Cert.AttnDkv0RefIdeal.nD Cert.AttnDkv0RefIdeal.τ).loc Cert.AttnDkv0RefIdeal.main_v187) = v0 c
          ∧ r.2.mem ((c.tc : Thread Cert.AttnDkv0RefIdeal.nD Cert.AttnDkv0RefIdeal.τ).loc Cert.AttnDkv0RefIdeal.main_arg0) = m' ((c.tc : Thread Cert.AttnDkv0RefIdeal.nD Cert.AttnDkv0RefIdeal.τ).loc Cert.AttnDkv0RefIdeal.main_arg0)
          ∧ r.2.mem ((c.tc : Thread Cert.AttnDkv0RefIdeal.nD Cert.AttnDkv0RefIdeal.τ).loc Cert.AttnDkv0RefIdeal.main_arg1) = m' ((c.tc : Thread Cert.AttnDkv0RefIdeal.nD Cert.AttnDkv0RefIdeal.τ).loc Cert.AttnDkv0RefIdeal.main_arg1)
          ∧ r.2.mem ((c.tc : Thread Cert.AttnDkv0RefIdeal.nD Cert.AttnDkv0RefIdeal.τ).loc Cert.AttnDkv0RefIdeal.main_arg2) = m' ((c.tc : Thread Cert.AttnDkv0RefIdeal.nD Cert.AttnDkv0RefIdeal.τ).loc Cert.AttnDkv0RefIdeal.main_arg2)
          ∧ r.2.mem ((c.tc : Thread Cert.AttnDkv0RefIdeal.nD Cert.AttnDkv0RefIdeal.τ).loc Cert.AttnDkv0RefIdeal.main_arg3) = m' ((c.tc : Thread Cert.AttnDkv0RefIdeal.nD Cert.AttnDkv0RefIdeal.τ).loc Cert.AttnDkv0RefIdeal.main_arg3)
          ∧ r.2.mem ((c.tc : Thread Cert.AttnDkv0RefIdeal.nD Cert.AttnDkv0RefIdeal.τ).loc Cert.AttnDkv0RefIdeal.main_arg4) = m' ((c.tc : Thread Cert.AttnDkv0RefIdeal.nD Cert.AttnDkv0RefIdeal.τ).loc Cert.AttnDkv0RefIdeal.main_arg4)
          ∧ r.2.mem ((c.tc : Thread Cert.AttnDkv0RefIdeal.nD Cert.AttnDkv0RefIdeal.τ).loc Cert.AttnDkv0RefIdeal.main_arg5) = m' ((c.tc : Thread Cert.AttnDkv0RefIdeal.nD Cert.AttnDkv0RefIdeal.τ).loc Cert.AttnDkv0RefIdeal.main_arg5))

def preserves_DH1_DH1Ideal : Prop :=
  True

def algebraic_DH1Ideal_DH1RefIdeal_pre_norm_finite [hDH1Ideal : Cert.DH1Ideal.Facts] [hDH1RefIdeal : Cert.DH1RefIdeal.Facts] [hPre_norm_finite : Cert.Pre_norm_finite.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal_norm_finite m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)
      ∧ m' ((c.tc : Thread Cert.DH1RefIdeal.nD Cert.DH1RefIdeal.τ).loc Cert.DH1RefIdeal.main_arg5) = m ((c.tc : Thread Cert.DH1Ideal.nD Cert.DH1Ideal.τ).loc Cert.DH1Ideal.main_arg5)) →
    ∃ (v0 : (c : Dev Cert.DH1Ideal.nD) → Buf (Elt Ideal) ((c.tc : Thread Cert.DH1Ideal.nD Cert.DH1Ideal.τ).loc Cert.DH1Ideal.main_v6_0)) (v1 : (c : Dev Cert.DH1Ideal.nD) → Buf (Elt Ideal) ((c.tc : Thread Cert.DH1Ideal.nD Cert.DH1Ideal.τ).loc Cert.DH1Ideal.main_v6_1)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v6_0) = v0 c
          ∧ r.2.mem ((c.tc : Thread Cert.DH1Ideal.nD Cert.DH1Ideal.τ).loc Cert.DH1Ideal.main_v6_1) = v1 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
          ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v68) = v0 c
          ∧ r.2.mem ((c.tc : Thread Cert.DH1RefIdeal.nD Cert.DH1RefIdeal.τ).loc Cert.DH1RefIdeal.main_v72) = v1 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4)
          ∧ r.2.mem ((c.tc : Thread Cert.DH1RefIdeal.nD Cert.DH1RefIdeal.τ).loc Cert.DH1RefIdeal.main_arg5) = m' ((c.tc : Thread Cert.DH1RefIdeal.nD Cert.DH1RefIdeal.τ).loc Cert.DH1RefIdeal.main_arg5))

def preserves_Ln2_Ln2Ideal : Prop :=
  True

def algebraic_Ln2Ideal_Ln2RefIdeal_pre_ln2_finite [hLn2Ideal : Cert.Ln2Ideal.Facts] [hLn2RefIdeal : Cert.Ln2RefIdeal.Facts] [hPre_ln2_finite : Cert.Pre_ln2_finite.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal_ln2_finite m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)
      ∧ m' ((c.tc : Thread Cert.Ln2RefIdeal.nD Cert.Ln2RefIdeal.τ).loc Cert.Ln2RefIdeal.main_arg5) = m ((c.tc : Thread Cert.Ln2Ideal.nD Cert.Ln2Ideal.τ).loc Cert.Ln2Ideal.main_arg5)
      ∧ m' ((c.tc : Thread Cert.Ln2RefIdeal.nD Cert.Ln2RefIdeal.τ).loc Cert.Ln2RefIdeal.main_arg6) = m ((c.tc : Thread Cert.Ln2Ideal.nD Cert.Ln2Ideal.τ).loc Cert.Ln2Ideal.main_arg6)
      ∧ m' ((c.tc : Thread Cert.Ln2RefIdeal.nD Cert.Ln2RefIdeal.τ).loc Cert.Ln2RefIdeal.main_arg7) = m ((c.tc : Thread Cert.Ln2Ideal.nD Cert.Ln2Ideal.τ).loc Cert.Ln2Ideal.main_arg7)) →
    ∃ (v0 : (c : Dev Cert.Ln2Ideal.nD) → Buf (Elt Ideal) ((c.tc : Thread Cert.Ln2Ideal.nD Cert.Ln2Ideal.τ).loc Cert.Ln2Ideal.main_v6_0)) (v1 : (c : Dev Cert.Ln2Ideal.nD) → Buf (Elt Ideal) ((c.tc : Thread Cert.Ln2Ideal.nD Cert.Ln2Ideal.τ).loc Cert.Ln2Ideal.main_v6_1)) (v2 : (c : Dev Cert.Ln2Ideal.nD) → Buf (Elt Ideal) ((c.tc : Thread Cert.Ln2Ideal.nD Cert.Ln2Ideal.τ).loc Cert.Ln2Ideal.main_v6_2)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v6_0) = v0 c
          ∧ r.2.mem ((c.tc : Thread Cert.Ln2Ideal.nD Cert.Ln2Ideal.τ).loc Cert.Ln2Ideal.main_v6_1) = v1 c
          ∧ r.2.mem ((c.tc : Thread Cert.Ln2Ideal.nD Cert.Ln2Ideal.τ).loc Cert.Ln2Ideal.main_v6_2) = v2 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
          ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
          ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6)
          ∧ r.2.mem ((c.tc : Thread Cert.Ln2Ideal.nD Cert.Ln2Ideal.τ).loc Cert.Ln2Ideal.main_arg7) = m ((c.tc : Thread Cert.Ln2Ideal.nD Cert.Ln2Ideal.τ).loc Cert.Ln2Ideal.main_arg7))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v104) = v0 c
          ∧ r.2.mem ((c.tc : Thread Cert.Ln2RefIdeal.nD Cert.Ln2RefIdeal.τ).loc Cert.Ln2RefIdeal.main_v109) = v1 c
          ∧ r.2.mem ((c.tc : Thread Cert.Ln2RefIdeal.nD Cert.Ln2RefIdeal.τ).loc Cert.Ln2RefIdeal.main_v110) = v2 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5)
          ∧ r.2.mem ((c.tc : Thread Cert.Ln2RefIdeal.nD Cert.Ln2RefIdeal.τ).loc Cert.Ln2RefIdeal.main_arg6) = m' ((c.tc : Thread Cert.Ln2RefIdeal.nD Cert.Ln2RefIdeal.τ).loc Cert.Ln2RefIdeal.main_arg6)
          ∧ r.2.mem ((c.tc : Thread Cert.Ln2RefIdeal.nD Cert.Ln2RefIdeal.τ).loc Cert.Ln2RefIdeal.main_arg7) = m' ((c.tc : Thread Cert.Ln2RefIdeal.nD Cert.Ln2RefIdeal.τ).loc Cert.Ln2RefIdeal.main_arg7))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v1) = v0 c
          ∧ r.2.mem ((c.tc : Thread Cert.MlpUpRefIdeal.nD Cert.MlpUpRefIdeal.τ).loc Cert.MlpUpRefIdeal.main_v4) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)
      ∧ m' ((c.tc : Thread Cert.ConvDxRefIdeal.nD Cert.ConvDxRefIdeal.τ).loc Cert.ConvDxRefIdeal.main_arg2) = m ((c.tc : Thread Cert.ConvDxIdeal.nD Cert.ConvDxIdeal.τ).loc Cert.ConvDxIdeal.main_arg2)
      ∧ m' ((c.tc : Thread Cert.ConvDxRefIdeal.nD Cert.ConvDxRefIdeal.τ).loc Cert.ConvDxRefIdeal.main_arg3) = m ((c.tc : Thread Cert.ConvDxIdeal.nD Cert.ConvDxIdeal.τ).loc Cert.ConvDxIdeal.main_arg3)
      ∧ m' ((c.tc : Thread Cert.ConvDxRefIdeal.nD Cert.ConvDxRefIdeal.τ).loc Cert.ConvDxRefIdeal.main_arg4) = m ((c.tc : Thread Cert.ConvDxIdeal.nD Cert.ConvDxIdeal.τ).loc Cert.ConvDxIdeal.main_arg4)) →
    ∃ (v0 : (c : Dev Cert.ConvDxIdeal.nD) → Buf (Elt Ideal) ((c.tc : Thread Cert.ConvDxIdeal.nD Cert.ConvDxIdeal.τ).loc Cert.ConvDxIdeal.main_v0)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v0) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1)
          ∧ r.2.mem ((c.tc : Thread Cert.ConvDxIdeal.nD Cert.ConvDxIdeal.τ).loc Cert.ConvDxIdeal.main_arg2) = m ((c.tc : Thread Cert.ConvDxIdeal.nD Cert.ConvDxIdeal.τ).loc Cert.ConvDxIdeal.main_arg2)
          ∧ r.2.mem ((c.tc : Thread Cert.ConvDxIdeal.nD Cert.ConvDxIdeal.τ).loc Cert.ConvDxIdeal.main_arg3) = m ((c.tc : Thread Cert.ConvDxIdeal.nD Cert.ConvDxIdeal.τ).loc Cert.ConvDxIdeal.main_arg3)
          ∧ r.2.mem ((c.tc : Thread Cert.ConvDxIdeal.nD Cert.ConvDxIdeal.τ).loc Cert.ConvDxIdeal.main_arg4) = m ((c.tc : Thread Cert.ConvDxIdeal.nD Cert.ConvDxIdeal.τ).loc Cert.ConvDxIdeal.main_arg4))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v70) = v0 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1)
          ∧ r.2.mem ((c.tc : Thread Cert.ConvDxRefIdeal.nD Cert.ConvDxRefIdeal.τ).loc Cert.ConvDxRefIdeal.main_arg2) = m' ((c.tc : Thread Cert.ConvDxRefIdeal.nD Cert.ConvDxRefIdeal.τ).loc Cert.ConvDxRefIdeal.main_arg2)
          ∧ r.2.mem ((c.tc : Thread Cert.ConvDxRefIdeal.nD Cert.ConvDxRefIdeal.τ).loc Cert.ConvDxRefIdeal.main_arg3) = m' ((c.tc : Thread Cert.ConvDxRefIdeal.nD Cert.ConvDxRefIdeal.τ).loc Cert.ConvDxRefIdeal.main_arg3)
          ∧ r.2.mem ((c.tc : Thread Cert.ConvDxRefIdeal.nD Cert.ConvDxRefIdeal.τ).loc Cert.ConvDxRefIdeal.main_arg4) = m' ((c.tc : Thread Cert.ConvDxRefIdeal.nD Cert.ConvDxRefIdeal.τ).loc Cert.ConvDxRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v42) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_ConvDpre_ConvDpreIdeal : Prop :=
  True

def algebraic_ConvDpreIdeal_ConvDpreRefIdeal_pre_cotangents_finite [hConvDpreIdeal : Cert.ConvDpreIdeal.Facts] [hConvDpreRefIdeal : Cert.ConvDpreRefIdeal.Facts] [hPre_cotangents_finite : Cert.Pre_cotangents_finite.Facts] : Prop :=
  ∀ (m : (ℓ : Loc Cert.ConvDpreIdeal.nD Cert.ConvDpreIdeal.τ Cert.ConvDpreIdeal.sig) → Buf (Elt Ideal) ℓ) (g : Dev Cert.ConvDpreIdeal.nD → PrngReg)
    (m' : (ℓ : Loc Cert.ConvDpreRefIdeal.nD Cert.ConvDpreRefIdeal.τ Cert.ConvDpreRefIdeal.sig) → Buf (Elt Ideal) ℓ) (g' : Dev Cert.ConvDpreRefIdeal.nD → PrngReg), Pre_ConvDpreIdeal_cotangents_finite m →
    (∀ c : Dev Cert.ConvDpreIdeal.nD,
      m' ((c.tc : Thread Cert.ConvDpreRefIdeal.nD Cert.ConvDpreRefIdeal.τ).loc Cert.ConvDpreRefIdeal.main_arg0) = m ((c.tc : Thread Cert.ConvDpreIdeal.nD Cert.ConvDpreIdeal.τ).loc Cert.ConvDpreIdeal.main_arg0)
      ∧ m' ((c.tc : Thread Cert.ConvDpreRefIdeal.nD Cert.ConvDpreRefIdeal.τ).loc Cert.ConvDpreRefIdeal.main_arg1) = m ((c.tc : Thread Cert.ConvDpreIdeal.nD Cert.ConvDpreIdeal.τ).loc Cert.ConvDpreIdeal.main_arg1)
      ∧ m' ((c.tc : Thread Cert.ConvDpreRefIdeal.nD Cert.ConvDpreRefIdeal.τ).loc Cert.ConvDpreRefIdeal.main_arg2) = m ((c.tc : Thread Cert.ConvDpreIdeal.nD Cert.ConvDpreIdeal.τ).loc Cert.ConvDpreIdeal.main_arg2)
      ∧ m' ((c.tc : Thread Cert.ConvDpreRefIdeal.nD Cert.ConvDpreRefIdeal.τ).loc Cert.ConvDpreRefIdeal.main_arg3) = m ((c.tc : Thread Cert.ConvDpreIdeal.nD Cert.ConvDpreIdeal.τ).loc Cert.ConvDpreIdeal.main_arg3)
      ∧ m' ((c.tc : Thread Cert.ConvDpreRefIdeal.nD Cert.ConvDpreRefIdeal.τ).loc Cert.ConvDpreRefIdeal.main_arg4) = m ((c.tc : Thread Cert.ConvDpreIdeal.nD Cert.ConvDpreIdeal.τ).loc Cert.ConvDpreIdeal.main_arg4)
      ∧ m' ((c.tc : Thread Cert.ConvDpreRefIdeal.nD Cert.ConvDpreRefIdeal.τ).loc Cert.ConvDpreRefIdeal.main_arg5) = m ((c.tc : Thread Cert.ConvDpreIdeal.nD Cert.ConvDpreIdeal.τ).loc Cert.ConvDpreIdeal.main_arg5)
      ∧ m' ((c.tc : Thread Cert.ConvDpreRefIdeal.nD Cert.ConvDpreRefIdeal.τ).loc Cert.ConvDpreRefIdeal.main_arg6) = m ((c.tc : Thread Cert.ConvDpreIdeal.nD Cert.ConvDpreIdeal.τ).loc Cert.ConvDpreIdeal.main_arg6)) →
    ∃ (v0 : (c : Dev Cert.ConvDpreIdeal.nD) → Buf (Elt Ideal) ((c.tc : Thread Cert.ConvDpreIdeal.nD Cert.ConvDpreIdeal.τ).loc Cert.ConvDpreIdeal.main_v4_0)) (v1 : (c : Dev Cert.ConvDpreIdeal.nD) → Buf (Elt Ideal) ((c.tc : Thread Cert.ConvDpreIdeal.nD Cert.ConvDpreIdeal.τ).loc Cert.ConvDpreIdeal.main_v4_1)) (v2 : (c : Dev Cert.ConvDpreIdeal.nD) → Buf (Elt Ideal) ((c.tc : Thread Cert.ConvDpreIdeal.nD Cert.ConvDpreIdeal.τ).loc Cert.ConvDpreIdeal.main_v4_2)),
      θ_run (Cert.ConvDpreIdeal.defs (F := Ideal)) (onTc (τ := Cert.ConvDpreIdeal.τ) (Cert.ConvDpreIdeal.main (F := Ideal))) ⟨m, fun _ => 0, g⟩ (fun r => ∀ c : Dev Cert.ConvDpreIdeal.nD,
          r.2.mem ((c.tc : Thread Cert.ConvDpreIdeal.nD Cert.ConvDpreIdeal.τ).loc Cert.ConvDpreIdeal.main_v4_0) = v0 c
          ∧ r.2.mem ((c.tc : Thread Cert.ConvDpreIdeal.nD Cert.ConvDpreIdeal.τ).loc Cert.ConvDpreIdeal.main_v4_1) = v1 c
          ∧ r.2.mem ((c.tc : Thread Cert.ConvDpreIdeal.nD Cert.ConvDpreIdeal.τ).loc Cert.ConvDpreIdeal.main_v4_2) = v2 c
          ∧ r.2.mem ((c.tc : Thread Cert.ConvDpreIdeal.nD Cert.ConvDpreIdeal.τ).loc Cert.ConvDpreIdeal.main_arg0) = m ((c.tc : Thread Cert.ConvDpreIdeal.nD Cert.ConvDpreIdeal.τ).loc Cert.ConvDpreIdeal.main_arg0)
          ∧ r.2.mem ((c.tc : Thread Cert.ConvDpreIdeal.nD Cert.ConvDpreIdeal.τ).loc Cert.ConvDpreIdeal.main_arg1) = m ((c.tc : Thread Cert.ConvDpreIdeal.nD Cert.ConvDpreIdeal.τ).loc Cert.ConvDpreIdeal.main_arg1)
          ∧ r.2.mem ((c.tc : Thread Cert.ConvDpreIdeal.nD Cert.ConvDpreIdeal.τ).loc Cert.ConvDpreIdeal.main_arg2) = m ((c.tc : Thread Cert.ConvDpreIdeal.nD Cert.ConvDpreIdeal.τ).loc Cert.ConvDpreIdeal.main_arg2)
          ∧ r.2.mem ((c.tc : Thread Cert.ConvDpreIdeal.nD Cert.ConvDpreIdeal.τ).loc Cert.ConvDpreIdeal.main_arg3) = m ((c.tc : Thread Cert.ConvDpreIdeal.nD Cert.ConvDpreIdeal.τ).loc Cert.ConvDpreIdeal.main_arg3)
          ∧ r.2.mem ((c.tc : Thread Cert.ConvDpreIdeal.nD Cert.ConvDpreIdeal.τ).loc Cert.ConvDpreIdeal.main_arg4) = m ((c.tc : Thread Cert.ConvDpreIdeal.nD Cert.ConvDpreIdeal.τ).loc Cert.ConvDpreIdeal.main_arg4)
          ∧ r.2.mem ((c.tc : Thread Cert.ConvDpreIdeal.nD Cert.ConvDpreIdeal.τ).loc Cert.ConvDpreIdeal.main_arg5) = m ((c.tc : Thread Cert.ConvDpreIdeal.nD Cert.ConvDpreIdeal.τ).loc Cert.ConvDpreIdeal.main_arg5)
          ∧ r.2.mem ((c.tc : Thread Cert.ConvDpreIdeal.nD Cert.ConvDpreIdeal.τ).loc Cert.ConvDpreIdeal.main_arg6) = m ((c.tc : Thread Cert.ConvDpreIdeal.nD Cert.ConvDpreIdeal.τ).loc Cert.ConvDpreIdeal.main_arg6))
      ∧ θ_run (Cert.ConvDpreRefIdeal.defs (F := Ideal)) (onTc (τ := Cert.ConvDpreRefIdeal.τ) (Cert.ConvDpreRefIdeal.main (F := Ideal))) ⟨m', fun _ => 0, g'⟩ (fun r => ∀ c : Dev Cert.ConvDpreRefIdeal.nD,
          r.2.mem ((c.tc : Thread Cert.ConvDpreRefIdeal.nD Cert.ConvDpreRefIdeal.τ).loc Cert.ConvDpreRefIdeal.main_v59) = v0 c
          ∧ r.2.mem ((c.tc : Thread Cert.ConvDpreRefIdeal.nD Cert.ConvDpreRefIdeal.τ).loc Cert.ConvDpreRefIdeal.main_v98) = v1 c
          ∧ r.2.mem ((c.tc : Thread Cert.ConvDpreRefIdeal.nD Cert.ConvDpreRefIdeal.τ).loc Cert.ConvDpreRefIdeal.main_v99) = v2 c
          ∧ r.2.mem ((c.tc : Thread Cert.ConvDpreRefIdeal.nD Cert.ConvDpreRefIdeal.τ).loc Cert.ConvDpreRefIdeal.main_arg0) = m' ((c.tc : Thread Cert.ConvDpreRefIdeal.nD Cert.ConvDpreRefIdeal.τ).loc Cert.ConvDpreRefIdeal.main_arg0)
          ∧ r.2.mem ((c.tc : Thread Cert.ConvDpreRefIdeal.nD Cert.ConvDpreRefIdeal.τ).loc Cert.ConvDpreRefIdeal.main_arg1) = m' ((c.tc : Thread Cert.ConvDpreRefIdeal.nD Cert.ConvDpreRefIdeal.τ).loc Cert.ConvDpreRefIdeal.main_arg1)
          ∧ r.2.mem ((c.tc : Thread Cert.ConvDpreRefIdeal.nD Cert.ConvDpreRefIdeal.τ).loc Cert.ConvDpreRefIdeal.main_arg2) = m' ((c.tc : Thread Cert.ConvDpreRefIdeal.nD Cert.ConvDpreRefIdeal.τ).loc Cert.ConvDpreRefIdeal.main_arg2)
          ∧ r.2.mem ((c.tc : Thread Cert.ConvDpreRefIdeal.nD Cert.ConvDpreRefIdeal.τ).loc Cert.ConvDpreRefIdeal.main_arg3) = m' ((c.tc : Thread Cert.ConvDpreRefIdeal.nD Cert.ConvDpreRefIdeal.τ).loc Cert.ConvDpreRefIdeal.main_arg3)
          ∧ r.2.mem ((c.tc : Thread Cert.ConvDpreRefIdeal.nD Cert.ConvDpreRefIdeal.τ).loc Cert.ConvDpreRefIdeal.main_arg4) = m' ((c.tc : Thread Cert.ConvDpreRefIdeal.nD Cert.ConvDpreRefIdeal.τ).loc Cert.ConvDpreRefIdeal.main_arg4)
          ∧ r.2.mem ((c.tc : Thread Cert.ConvDpreRefIdeal.nD Cert.ConvDpreRefIdeal.τ).loc Cert.ConvDpreRefIdeal.main_arg5) = m' ((c.tc : Thread Cert.ConvDpreRefIdeal.nD Cert.ConvDpreRefIdeal.τ).loc Cert.ConvDpreRefIdeal.main_arg5)
          ∧ r.2.mem ((c.tc : Thread Cert.ConvDpreRefIdeal.nD Cert.ConvDpreRefIdeal.τ).loc Cert.ConvDpreRefIdeal.main_arg6) = m' ((c.tc : Thread Cert.ConvDpreRefIdeal.nD Cert.ConvDpreRefIdeal.τ).loc Cert.ConvDpreRefIdeal.main_arg6))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)
      ∧ m' ((c.tc : Thread Cert.GateNormRefIdeal.nD Cert.GateNormRefIdeal.τ).loc Cert.GateNormRefIdeal.main_arg3) = m ((c.tc : Thread Cert.GateNormIdeal.nD Cert.GateNormIdeal.τ).loc Cert.GateNormIdeal.main_arg3)
      ∧ m' ((c.tc : Thread Cert.GateNormRefIdeal.nD Cert.GateNormRefIdeal.τ).loc Cert.GateNormRefIdeal.main_arg4) = m ((c.tc : Thread Cert.GateNormIdeal.nD Cert.GateNormIdeal.τ).loc Cert.GateNormIdeal.main_arg4)
      ∧ m' ((c.tc : Thread Cert.GateNormRefIdeal.nD Cert.GateNormRefIdeal.τ).loc Cert.GateNormRefIdeal.main_arg5) = m ((c.tc : Thread Cert.GateNormIdeal.nD Cert.GateNormIdeal.τ).loc Cert.GateNormIdeal.main_arg5)) →
    ∃ (v0 : (c : Dev Cert.GateNormIdeal.nD) → Buf (Elt Ideal) ((c.tc : Thread Cert.GateNormIdeal.nD Cert.GateNormIdeal.τ).loc Cert.GateNormIdeal.main_v5_0)) (v1 : (c : Dev Cert.GateNormIdeal.nD) → Buf (Elt Ideal) ((c.tc : Thread Cert.GateNormIdeal.nD Cert.GateNormIdeal.τ).loc Cert.GateNormIdeal.main_v5_1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v5_0) = v0 c
          ∧ r.2.mem ((c.tc : Thread Cert.GateNormIdeal.nD Cert.GateNormIdeal.τ).loc Cert.GateNormIdeal.main_v5_1) = v1 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
          ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
          ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4)
          ∧ r.2.mem ((c.tc : Thread Cert.GateNormIdeal.nD Cert.GateNormIdeal.τ).loc Cert.GateNormIdeal.main_arg5) = m ((c.tc : Thread Cert.GateNormIdeal.nD Cert.GateNormIdeal.τ).loc Cert.GateNormIdeal.main_arg5))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v27) = v0 c
          ∧ r.2.mem ((c.tc : Thread Cert.GateNormRefIdeal.nD Cert.GateNormRefIdeal.τ).loc Cert.GateNormRefIdeal.main_v28) = v1 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2)
          ∧ r.2.mem ((c.tc : Thread Cert.GateNormRefIdeal.nD Cert.GateNormRefIdeal.τ).loc Cert.GateNormRefIdeal.main_arg3) = m' ((c.tc : Thread Cert.GateNormRefIdeal.nD Cert.GateNormRefIdeal.τ).loc Cert.GateNormRefIdeal.main_arg3)
          ∧ r.2.mem ((c.tc : Thread Cert.GateNormRefIdeal.nD Cert.GateNormRefIdeal.τ).loc Cert.GateNormRefIdeal.main_arg4) = m' ((c.tc : Thread Cert.GateNormRefIdeal.nD Cert.GateNormRefIdeal.τ).loc Cert.GateNormRefIdeal.main_arg4)
          ∧ r.2.mem ((c.tc : Thread Cert.GateNormRefIdeal.nD Cert.GateNormRefIdeal.τ).loc Cert.GateNormRefIdeal.main_arg5) = m' ((c.tc : Thread Cert.GateNormRefIdeal.nD Cert.GateNormRefIdeal.τ).loc Cert.GateNormRefIdeal.main_arg5))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwSsd_DwSsdIdeal : Prop :=
  True

def algebraic_DwSsdIdeal_DwSsdRefIdeal [hDwSsdIdeal : Cert.DwSsdIdeal.Facts] [hDwSsdRefIdeal : Cert.DwSsdRefIdeal.Facts] : Prop :=
  ∀ (m : (ℓ : Loc Cert.DwSsdIdeal.nD Cert.DwSsdIdeal.τ Cert.DwSsdIdeal.sig) → Buf (Elt Ideal) ℓ) (g : Dev Cert.DwSsdIdeal.nD → PrngReg)
    (m' : (ℓ : Loc Cert.DwSsdRefIdeal.nD Cert.DwSsdRefIdeal.τ Cert.DwSsdRefIdeal.sig) → Buf (Elt Ideal) ℓ) (g' : Dev Cert.DwSsdRefIdeal.nD → PrngReg), Pre_DwSsdIdeal m →
    (∀ c : Dev Cert.DwSsdIdeal.nD,
      m' ((c.tc : Thread Cert.DwSsdRefIdeal.nD Cert.DwSsdRefIdeal.τ).loc Cert.DwSsdRefIdeal.main_arg0) = m ((c.tc : Thread Cert.DwSsdIdeal.nD Cert.DwSsdIdeal.τ).loc Cert.DwSsdIdeal.main_arg0)
      ∧ m' ((c.tc : Thread Cert.DwSsdRefIdeal.nD Cert.DwSsdRefIdeal.τ).loc Cert.DwSsdRefIdeal.main_arg1) = m ((c.tc : Thread Cert.DwSsdIdeal.nD Cert.DwSsdIdeal.τ).loc Cert.DwSsdIdeal.main_arg1)) →
    ∃ (v0 : (c : Dev Cert.DwSsdIdeal.nD) → Buf (Elt Ideal) ((c.tc : Thread Cert.DwSsdIdeal.nD Cert.DwSsdIdeal.τ).loc Cert.DwSsdIdeal.main_v2)),
      θ_run (Cert.DwSsdIdeal.defs (F := Ideal)) (onTc (τ := Cert.DwSsdIdeal.τ) (Cert.DwSsdIdeal.main (F := Ideal))) ⟨m, fun _ => 0, g⟩ (fun r => ∀ c : Dev Cert.DwSsdIdeal.nD,
          r.2.mem ((c.tc : Thread Cert.DwSsdIdeal.nD Cert.DwSsdIdeal.τ).loc Cert.DwSsdIdeal.main_v2) = v0 c
          ∧ r.2.mem ((c.tc : Thread Cert.DwSsdIdeal.nD Cert.DwSsdIdeal.τ).loc Cert.DwSsdIdeal.main_arg0) = m ((c.tc : Thread Cert.DwSsdIdeal.nD Cert.DwSsdIdeal.τ).loc Cert.DwSsdIdeal.main_arg0)
          ∧ r.2.mem ((c.tc : Thread Cert.DwSsdIdeal.nD Cert.DwSsdIdeal.τ).loc Cert.DwSsdIdeal.main_arg1) = m ((c.tc : Thread Cert.DwSsdIdeal.nD Cert.DwSsdIdeal.τ).loc Cert.DwSsdIdeal.main_arg1))
      ∧ θ_run (Cert.DwSsdRefIdeal.defs (F := Ideal)) (onTc (τ := Cert.DwSsdRefIdeal.τ) (Cert.DwSsdRefIdeal.main (F := Ideal))) ⟨m', fun _ => 0, g'⟩ (fun r => ∀ c : Dev Cert.DwSsdRefIdeal.nD,
          r.2.mem ((c.tc : Thread Cert.DwSsdRefIdeal.nD Cert.DwSsdRefIdeal.τ).loc Cert.DwSsdRefIdeal.main_v3) = v0 c
          ∧ r.2.mem ((c.tc : Thread Cert.DwSsdRefIdeal.nD Cert.DwSsdRefIdeal.τ).loc Cert.DwSsdRefIdeal.main_arg0) = m' ((c.tc : Thread Cert.DwSsdRefIdeal.nD Cert.DwSsdRefIdeal.τ).loc Cert.DwSsdRefIdeal.main_arg0)
          ∧ r.2.mem ((c.tc : Thread Cert.DwSsdRefIdeal.nD Cert.DwSsdRefIdeal.τ).loc Cert.DwSsdRefIdeal.main_arg1) = m' ((c.tc : Thread Cert.DwSsdRefIdeal.nD Cert.DwSsdRefIdeal.τ).loc Cert.DwSsdRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwAttn_DwAttnIdeal : Prop :=
  True

def algebraic_DwAttnIdeal_DwAttnRefIdeal [hDwAttnIdeal : Cert.DwAttnIdeal.Facts] [hDwAttnRefIdeal : Cert.DwAttnRefIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg)
    (m' : (ℓ : Loc Cert.DwAttnRefIdeal.nD Cert.DwAttnRefIdeal.τ Cert.DwAttnRefIdeal.sig) → Buf (Elt Ideal) ℓ) (g' : Dev Cert.DwAttnRefIdeal.nD → PrngReg), Pre_DwAttnIdeal m →
    (∀ c : Dev Cert.DwAttnIdeal.nD,
      m' ((c.tc : Thread Cert.DwAttnRefIdeal.nD Cert.DwAttnRefIdeal.τ).loc Cert.DwAttnRefIdeal.main_arg0) = m ((c.tc : Thread Cert.DwAttnIdeal.nD Cert.DwAttnIdeal.τ).loc Cert.DwAttnIdeal.main_arg0)
      ∧ m' ((c.tc : Thread Cert.DwAttnRefIdeal.nD Cert.DwAttnRefIdeal.τ).loc Cert.DwAttnRefIdeal.main_arg1) = m ((c.tc : Thread Cert.DwAttnIdeal.nD Cert.DwAttnIdeal.τ).loc Cert.DwAttnIdeal.main_arg1)) →
    ∃ (v0 : (c : Dev Cert.DwAttnIdeal.nD) → Buf (Elt Ideal) ((c.tc : Thread Cert.DwAttnIdeal.nD Cert.DwAttnIdeal.τ).loc Cert.DwAttnIdeal.main_v1)),
      θ_run (Cert.DwAttnIdeal.defs (F := Ideal)) (onTc (τ := Cert.DwAttnIdeal.τ) (Cert.DwAttnIdeal.main (F := Ideal))) ⟨m, fun _ => 0, g⟩ (fun r => ∀ c : Dev Cert.DwAttnIdeal.nD,
          r.2.mem ((c.tc : Thread Cert.DwAttnIdeal.nD Cert.DwAttnIdeal.τ).loc Cert.DwAttnIdeal.main_v1) = v0 c
          ∧ r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
          ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ θ_run (Cert.DwAttnRefIdeal.defs (F := Ideal)) (onTc (τ := Cert.DwAttnRefIdeal.τ) (Cert.DwAttnRefIdeal.main (F := Ideal))) ⟨m', fun _ => 0, g'⟩ (fun r => ∀ c : Dev Cert.DwAttnRefIdeal.nD,
          r.2.mem ((c.tc : Thread Cert.DwAttnRefIdeal.nD Cert.DwAttnRefIdeal.τ).loc Cert.DwAttnRefIdeal.main_v5) = v0 c
          ∧ r.2.mem ((c.tc : Thread Cert.DwAttnRefIdeal.nD Cert.DwAttnRefIdeal.τ).loc Cert.DwAttnRefIdeal.main_arg0) = m' ((c.tc : Thread Cert.DwAttnRefIdeal.nD Cert.DwAttnRefIdeal.τ).loc Cert.DwAttnRefIdeal.main_arg0)
          ∧ r.2.mem ((c.tc : Thread Cert.DwAttnRefIdeal.nD Cert.DwAttnRefIdeal.τ).loc Cert.DwAttnRefIdeal.main_arg1) = m' ((c.tc : Thread Cert.DwAttnRefIdeal.nD Cert.DwAttnRefIdeal.τ).loc Cert.DwAttnRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DX_DXIdeal : Prop :=
  True

def algebraic_DXIdeal_DXRefIdeal [hDXIdeal : Cert.DXIdeal.Facts] [hDXRefIdeal : Cert.DXRefIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXRefIdeal.nD Cert.DXRefIdeal.τ Cert.DXRefIdeal.sig) → Buf (Elt Ideal) ℓ) (g' : Dev Cert.DXRefIdeal.nD → PrngReg), Pre_DXIdeal m →
    (∀ c : Dev Cert.DXIdeal.nD,
      m' ((c.tc : Thread Cert.DXRefIdeal.nD Cert.DXRefIdeal.τ).loc Cert.DXRefIdeal.main_arg0) = m ((c.tc : Thread Cert.DXIdeal.nD Cert.DXIdeal.τ).loc Cert.DXIdeal.main_arg0)
      ∧ m' ((c.tc : Thread Cert.DXRefIdeal.nD Cert.DXRefIdeal.τ).loc Cert.DXRefIdeal.main_arg1) = m ((c.tc : Thread Cert.DXIdeal.nD Cert.DXIdeal.τ).loc Cert.DXIdeal.main_arg1)
      ∧ m' ((c.tc : Thread Cert.DXRefIdeal.nD Cert.DXRefIdeal.τ).loc Cert.DXRefIdeal.main_arg2) = m ((c.tc : Thread Cert.DXIdeal.nD Cert.DXIdeal.τ).loc Cert.DXIdeal.main_arg2)) →
    ∃ (v0 : (c : Dev Cert.DXIdeal.nD) → Buf (Elt Ideal) ((c.tc : Thread Cert.DXIdeal.nD Cert.DXIdeal.τ).loc Cert.DXIdeal.main_v2)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v2) = v0 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ θ_run (Cert.DXRefIdeal.defs (F := Ideal)) (onTc (τ := Cert.DXRefIdeal.τ) (Cert.DXRefIdeal.main (F := Ideal))) ⟨m', fun _ => 0, g'⟩ (fun r => ∀ c : Dev Cert.DXRefIdeal.nD,
          r.2.mem ((c.tc : Thread Cert.DXRefIdeal.nD Cert.DXRefIdeal.τ).loc Cert.DXRefIdeal.main_v7) = v0 c
          ∧ r.2.mem ((c.tc : Thread Cert.DXRefIdeal.nD Cert.DXRefIdeal.τ).loc Cert.DXRefIdeal.main_arg0) = m' ((c.tc : Thread Cert.DXRefIdeal.nD Cert.DXRefIdeal.τ).loc Cert.DXRefIdeal.main_arg0)
          ∧ r.2.mem ((c.tc : Thread Cert.DXRefIdeal.nD Cert.DXRefIdeal.τ).loc Cert.DXRefIdeal.main_arg1) = m' ((c.tc : Thread Cert.DXRefIdeal.nD Cert.DXRefIdeal.τ).loc Cert.DXRefIdeal.main_arg1)
          ∧ r.2.mem ((c.tc : Thread Cert.DXRefIdeal.nD Cert.DXRefIdeal.τ).loc Cert.DXRefIdeal.main_arg2) = m' ((c.tc : Thread Cert.DXRefIdeal.nD Cert.DXRefIdeal.τ).loc Cert.DXRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MixOut_MixOutIdeal : Prop :=
  True

def algebraic_MixOutIdeal_MixOutRefIdeal_pre_logs_finite [hMixOutIdeal : Cert.MixOutIdeal.Facts] [hMixOutRefIdeal : Cert.MixOutRefIdeal.Facts] [hPre_logs_finite : Cert.Pre_logs_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_logs_finite m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)
      ∧ m' ((c.tc : Thread Cert.MixOutRefIdeal.nD Cert.MixOutRefIdeal.τ).loc Cert.MixOutRefIdeal.main_arg13) = m ((c.tc : Thread Cert.MixOutIdeal.nD Cert.MixOutIdeal.τ).loc Cert.MixOutIdeal.main_arg13)) →
    ∃ (v0 : (c : Dev Cert.MixOutIdeal.nD) → Buf (Elt Ideal) ((c.tc : Thread Cert.MixOutIdeal.nD Cert.MixOutIdeal.τ).loc Cert.MixOutIdeal.main_v19_0)) (v1 : (c : Dev Cert.MixOutIdeal.nD) → Buf (Elt Ideal) ((c.tc : Thread Cert.MixOutIdeal.nD Cert.MixOutIdeal.τ).loc Cert.MixOutIdeal.main_v19_1)) (v2 : (c : Dev Cert.MixOutIdeal.nD) → Buf (Elt Ideal) ((c.tc : Thread Cert.MixOutIdeal.nD Cert.MixOutIdeal.τ).loc Cert.MixOutIdeal.main_v19_2)) (v3 : (c : Dev Cert.MixOutIdeal.nD) → Buf (Elt Ideal) ((c.tc : Thread Cert.MixOutIdeal.nD Cert.MixOutIdeal.τ).loc Cert.MixOutIdeal.main_v19_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v19_0) = v0 c
          ∧ r.2.mem ((c.tc : Thread Cert.MixOutIdeal.nD Cert.MixOutIdeal.τ).loc Cert.MixOutIdeal.main_v19_1) = v1 c
          ∧ r.2.mem ((c.tc : Thread Cert.MixOutIdeal.nD Cert.MixOutIdeal.τ).loc Cert.MixOutIdeal.main_v19_2) = v2 c
          ∧ r.2.mem ((c.tc : Thread Cert.MixOutIdeal.nD Cert.MixOutIdeal.τ).loc Cert.MixOutIdeal.main_v19_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
          ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v23) = v0 c
          ∧ r.2.mem ((c.tc : Thread Cert.MixOutRefIdeal.nD Cert.MixOutRefIdeal.τ).loc Cert.MixOutRefIdeal.main_v47) = v1 c
          ∧ r.2.mem ((c.tc : Thread Cert.MixOutRefIdeal.nD Cert.MixOutRefIdeal.τ).loc Cert.MixOutRefIdeal.main_v46) = v2 c
          ∧ r.2.mem ((c.tc : Thread Cert.MixOutRefIdeal.nD Cert.MixOutRefIdeal.τ).loc Cert.MixOutRefIdeal.main_v72) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12)
          ∧ r.2.mem ((c.tc : Thread Cert.MixOutRefIdeal.nD Cert.MixOutRefIdeal.τ).loc Cert.MixOutRefIdeal.main_arg13) = m' ((c.tc : Thread Cert.MixOutRefIdeal.nD Cert.MixOutRefIdeal.τ).loc Cert.MixOutRefIdeal.main_arg13))

def Claim : Prop :=
  ∃ (hDUp : Cert.DUp.Facts) (hDUpIdeal : Cert.DUpIdeal.Facts) (hDUpRefIdeal : Cert.DUpRefIdeal.Facts) (hAttnDq0 : Cert.AttnDq0.Facts) (hAttnDq0Ideal : Cert.AttnDq0Ideal.Facts) (hAttnDq0RefIdeal : Cert.AttnDq0RefIdeal.Facts) (hAttnDkv0 : Cert.AttnDkv0.Facts) (hAttnDkv0Ideal : Cert.AttnDkv0Ideal.Facts) (hAttnDkv0RefIdeal : Cert.AttnDkv0RefIdeal.Facts) (hDH1 : Cert.DH1.Facts) (hDH1Ideal : Cert.DH1Ideal.Facts) (hDH1RefIdeal : Cert.DH1RefIdeal.Facts) (hLn2 : Cert.Ln2.Facts) (hLn2Ideal : Cert.Ln2Ideal.Facts) (hLn2RefIdeal : Cert.Ln2RefIdeal.Facts) (hMlpUp : Cert.MlpUp.Facts) (hMlpUpIdeal : Cert.MlpUpIdeal.Facts) (hMlpUpRefIdeal : Cert.MlpUpRefIdeal.Facts) (hConvDx : Cert.ConvDx.Facts) (hConvDxIdeal : Cert.ConvDxIdeal.Facts) (hConvDxRefIdeal : Cert.ConvDxRefIdeal.Facts) (hConvFwd : Cert.ConvFwd.Facts) (hConvFwdIdeal : Cert.ConvFwdIdeal.Facts) (hConvFwdRefIdeal : Cert.ConvFwdRefIdeal.Facts) (hConvDpre : Cert.ConvDpre.Facts) (hConvDpreIdeal : Cert.ConvDpreIdeal.Facts) (hConvDpreRefIdeal : Cert.ConvDpreRefIdeal.Facts) (hGateNorm : Cert.GateNorm.Facts) (hGateNormIdeal : Cert.GateNormIdeal.Facts) (hGateNormRefIdeal : Cert.GateNormRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hDwSsd : Cert.DwSsd.Facts) (hDwSsdIdeal : Cert.DwSsdIdeal.Facts) (hDwSsdRefIdeal : Cert.DwSsdRefIdeal.Facts) (hDwUp : Cert.DwUp.Facts) (hDwUpIdeal : Cert.DwUpIdeal.Facts) (hDwUpRefIdeal : Cert.DwUpRefIdeal.Facts) (hDwAttn : Cert.DwAttn.Facts) (hDwAttnIdeal : Cert.DwAttnIdeal.Facts) (hDwAttnRefIdeal : Cert.DwAttnRefIdeal.Facts) (hDwIn : Cert.DwIn.Facts) (hDwInIdeal : Cert.DwInIdeal.Facts) (hDwInRefIdeal : Cert.DwInRefIdeal.Facts) (hDX : Cert.DX.Facts) (hDXIdeal : Cert.DXIdeal.Facts) (hDXRefIdeal : Cert.DXRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hPre_finite : Cert.Pre_finite.Facts) (hPre_norm_finite : Cert.Pre_norm_finite.Facts) (hPre_ln2_finite : Cert.Pre_ln2_finite.Facts) (hPre_cotangents_finite : Cert.Pre_cotangents_finite.Facts) (hPre_logs_finite : Cert.Pre_logs_finite.Facts),
    quiescent_DUp (hDUp := hDUp)
    ∧ quiescent_DUpIdeal (hDUpIdeal := hDUpIdeal)
    ∧ quiescent_DUpRefIdeal (hDUpRefIdeal := hDUpRefIdeal)
    ∧ quiescent_AttnDq0 (hAttnDq0 := hAttnDq0)
    ∧ quiescent_AttnDq0Ideal (hAttnDq0Ideal := hAttnDq0Ideal)
    ∧ quiescent_AttnDq0Ideal_pre_finite (hAttnDq0Ideal := hAttnDq0Ideal) (hPre_finite := hPre_finite)
    ∧ quiescent_AttnDq0RefIdeal (hAttnDq0RefIdeal := hAttnDq0RefIdeal)
    ∧ quiescent_AttnDq0RefIdeal_pre_finite (hAttnDq0RefIdeal := hAttnDq0RefIdeal) (hPre_finite := hPre_finite)
    ∧ quiescent_AttnDkv0 (hAttnDkv0 := hAttnDkv0)
    ∧ quiescent_AttnDkv0Ideal (hAttnDkv0Ideal := hAttnDkv0Ideal)
    ∧ quiescent_AttnDkv0Ideal_pre_finite (hAttnDkv0Ideal := hAttnDkv0Ideal) (hPre_finite := hPre_finite)
    ∧ quiescent_AttnDkv0RefIdeal (hAttnDkv0RefIdeal := hAttnDkv0RefIdeal)
    ∧ quiescent_AttnDkv0RefIdeal_pre_finite (hAttnDkv0RefIdeal := hAttnDkv0RefIdeal) (hPre_finite := hPre_finite)
    ∧ quiescent_DH1 (hDH1 := hDH1)
    ∧ quiescent_DH1Ideal (hDH1Ideal := hDH1Ideal)
    ∧ quiescent_DH1Ideal_pre_norm_finite (hDH1Ideal := hDH1Ideal) (hPre_norm_finite := hPre_norm_finite)
    ∧ quiescent_DH1RefIdeal (hDH1RefIdeal := hDH1RefIdeal)
    ∧ quiescent_DH1RefIdeal_pre_norm_finite (hDH1RefIdeal := hDH1RefIdeal) (hPre_norm_finite := hPre_norm_finite)
    ∧ quiescent_Ln2 (hLn2 := hLn2)
    ∧ quiescent_Ln2Ideal (hLn2Ideal := hLn2Ideal)
    ∧ quiescent_Ln2Ideal_pre_ln2_finite (hLn2Ideal := hLn2Ideal) (hPre_ln2_finite := hPre_ln2_finite)
    ∧ quiescent_Ln2RefIdeal (hLn2RefIdeal := hLn2RefIdeal)
    ∧ quiescent_Ln2RefIdeal_pre_ln2_finite (hLn2RefIdeal := hLn2RefIdeal) (hPre_ln2_finite := hPre_ln2_finite)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvDpre (hConvDpre := hConvDpre)
    ∧ quiescent_ConvDpreIdeal (hConvDpreIdeal := hConvDpreIdeal)
    ∧ quiescent_ConvDpreIdeal_pre_cotangents_finite (hConvDpreIdeal := hConvDpreIdeal) (hPre_cotangents_finite := hPre_cotangents_finite)
    ∧ quiescent_ConvDpreRefIdeal (hConvDpreRefIdeal := hConvDpreRefIdeal)
    ∧ quiescent_ConvDpreRefIdeal_pre_cotangents_finite (hConvDpreRefIdeal := hConvDpreRefIdeal) (hPre_cotangents_finite := hPre_cotangents_finite)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwSsd (hDwSsd := hDwSsd)
    ∧ quiescent_DwSsdIdeal (hDwSsdIdeal := hDwSsdIdeal)
    ∧ quiescent_DwSsdRefIdeal (hDwSsdRefIdeal := hDwSsdRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwAttn (hDwAttn := hDwAttn)
    ∧ quiescent_DwAttnIdeal (hDwAttnIdeal := hDwAttnIdeal)
    ∧ quiescent_DwAttnRefIdeal (hDwAttnRefIdeal := hDwAttnRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DX (hDX := hDX)
    ∧ quiescent_DXIdeal (hDXIdeal := hDXIdeal)
    ∧ quiescent_DXRefIdeal (hDXRefIdeal := hDXRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutIdeal_pre_logs_finite (hMixOutIdeal := hMixOutIdeal) (hPre_logs_finite := hPre_logs_finite)
    ∧ quiescent_MixOutRefIdeal (hMixOutRefIdeal := hMixOutRefIdeal)
    ∧ quiescent_MixOutRefIdeal_pre_logs_finite (hMixOutRefIdeal := hMixOutRefIdeal) (hPre_logs_finite := hPre_logs_finite)
    ∧ preserves_DUp_DUpIdeal
    ∧ algebraic_DUpIdeal_DUpRefIdeal (hDUpIdeal := hDUpIdeal) (hDUpRefIdeal := hDUpRefIdeal)
    ∧ preserves_AttnDq0_AttnDq0Ideal
    ∧ algebraic_AttnDq0Ideal_AttnDq0RefIdeal_pre_finite (hAttnDq0Ideal := hAttnDq0Ideal) (hAttnDq0RefIdeal := hAttnDq0RefIdeal) (hPre_finite := hPre_finite)
    ∧ preserves_AttnDkv0_AttnDkv0Ideal
    ∧ algebraic_AttnDkv0Ideal_AttnDkv0RefIdeal_pre_finite (hAttnDkv0Ideal := hAttnDkv0Ideal) (hAttnDkv0RefIdeal := hAttnDkv0RefIdeal) (hPre_finite := hPre_finite)
    ∧ preserves_DH1_DH1Ideal
    ∧ algebraic_DH1Ideal_DH1RefIdeal_pre_norm_finite (hDH1Ideal := hDH1Ideal) (hDH1RefIdeal := hDH1RefIdeal) (hPre_norm_finite := hPre_norm_finite)
    ∧ preserves_Ln2_Ln2Ideal
    ∧ algebraic_Ln2Ideal_Ln2RefIdeal_pre_ln2_finite (hLn2Ideal := hLn2Ideal) (hLn2RefIdeal := hLn2RefIdeal) (hPre_ln2_finite := hPre_ln2_finite)
    ∧ preserves_MlpUp_MlpUpIdeal
    ∧ algebraic_MlpUpIdeal_MlpUpRefIdeal (hMlpUpIdeal := hMlpUpIdeal) (hMlpUpRefIdeal := hMlpUpRefIdeal)
    ∧ preserves_ConvDx_ConvDxIdeal
    ∧ algebraic_ConvDxIdeal_ConvDxRefIdeal (hConvDxIdeal := hConvDxIdeal) (hConvDxRefIdeal := hConvDxRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvDpre_ConvDpreIdeal
    ∧ algebraic_ConvDpreIdeal_ConvDpreRefIdeal_pre_cotangents_finite (hConvDpreIdeal := hConvDpreIdeal) (hConvDpreRefIdeal := hConvDpreRefIdeal) (hPre_cotangents_finite := hPre_cotangents_finite)
    ∧ preserves_GateNorm_GateNormIdeal
    ∧ algebraic_GateNormIdeal_GateNormRefIdeal (hGateNormIdeal := hGateNormIdeal) (hGateNormRefIdeal := hGateNormRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_DwSsd_DwSsdIdeal
    ∧ algebraic_DwSsdIdeal_DwSsdRefIdeal (hDwSsdIdeal := hDwSsdIdeal) (hDwSsdRefIdeal := hDwSsdRefIdeal)
    ∧ preserves_DwUp_DwUpIdeal
    ∧ algebraic_DwUpIdeal_DwUpRefIdeal (hDwUpIdeal := hDwUpIdeal) (hDwUpRefIdeal := hDwUpRefIdeal)
    ∧ preserves_DwAttn_DwAttnIdeal
    ∧ algebraic_DwAttnIdeal_DwAttnRefIdeal (hDwAttnIdeal := hDwAttnIdeal) (hDwAttnRefIdeal := hDwAttnRefIdeal)
    ∧ preserves_DwIn_DwInIdeal
    ∧ algebraic_DwInIdeal_DwInRefIdeal (hDwInIdeal := hDwInIdeal) (hDwInRefIdeal := hDwInRefIdeal)
    ∧ preserves_DX_DXIdeal
    ∧ algebraic_DXIdeal_DXRefIdeal (hDXIdeal := hDXIdeal) (hDXRefIdeal := hDXRefIdeal)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal_pre_logs_finite (hMixOutIdeal := hMixOutIdeal) (hMixOutRefIdeal := hMixOutRefIdeal) (hPre_logs_finite := hPre_logs_finite)
-- ==== Pre_cotangents_finite.lean ====
abbrev S8192x9728 : Shape := ⟨2, ![8192, 9728]⟩
abbrev S5x3072 : Shape := ⟨2, ![5, 3072]⟩
abbrev S3072 : Shape := ⟨1, ![3072]⟩
abbrev S32 : Shape := ⟨1, ![32]⟩
abbrev S8192x2048 : Shape := ⟨2, ![8192, 2048]⟩
abbrev S8192x1024 : Shape := ⟨2, ![8192, 1024]⟩
abbrev S_ : Shape := ⟨0, ![]⟩

class Facts : Prop where
  bcast_S_S32 : S_.BroadcastsInDim S32 (![] : Fin 0 → Fin S32.rank)
  bcast_S_S8192x2048 : S_.BroadcastsInDim S8192x2048 (![] : Fin 0 → Fin S8192x2048.rank)
  bcast_S_S8192x1024 : S_.BroadcastsInDim S8192x1024 (![] : Fin 0 → Fin S8192x1024.rank)

variable [Facts]

def fn {F : FTy → Type} [FloatOps F] (main_arg0 : FVec F S8192x9728 .f32) (main_arg1 : FVec F S5x3072 .f32) (main_arg2 : FVec F S3072 .f32) (main_arg3 : FVec F S32 .f32) (main_arg4 : FVec F S8192x2048 .f32) (main_arg5 : FVec F S8192x2048 .f32) (main_arg6 : FVec F S8192x1024 .f32) : IVec S32 1 × IVec S8192x2048 1 × IVec S8192x2048 1 × IVec S8192x1024 1 :=
  let main_v0 : FVec F S32 .f32 := Host.absf main_arg3
  let main_cst : FVec F S_ .f32 := constant S_ .f32 0x7F800000#32
  let main_v1 : FVec F S32 .f32 := broadcastInDim S32 ![] bcast_S_S32 main_cst
  let main_v2 : IVec S32 1 := cmpf .olt main_v0 main_v1
  let main_v3 : FVec F S8192x2048 .f32 := Host.absf main_arg4
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg5
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x1024 .f32 := Host.absf main_arg6
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite.lean ====
abbrev S8192x4x64 : Shape := ⟨3, ![8192, 4, 64]⟩
abbrev S8192x4 : Shape := ⟨2, ![8192, 4]⟩
abbrev S8192x9728 : Shape := ⟨2, ![8192, 9728]⟩
abbrev S_ : Shape := ⟨0, ![]⟩

class Facts : Prop where
  bcast_S_S8192x4x64 : S_.BroadcastsInDim S8192x4x64 (![] : Fin 0 → Fin S8192x4x64.rank)
  bcast_S_S8192x4 : S_.BroadcastsInDim S8192x4 (![] : Fin 0 → Fin S8192x4.rank)

variable [Facts]

def fn {F : FTy → Type} [FloatOps F] (main_arg0 : FVec F S8192x4x64 .f32) (main_arg1 : FVec F S8192x4x64 .f32) (main_arg2 : FVec F S8192x4x64 .f32) (main_arg3 : FVec F S8192x4x64 .f32) (main_arg4 : FVec F S8192x4 .f32) (main_arg5 : FVec F S8192x9728 .bf16) : IVec S8192x4x64 1 × IVec S8192x4x64 1 × IVec S8192x4x64 1 × IVec S8192x4x64 1 × IVec S8192x4 1 :=
  let main_v0 : FVec F S8192x4x64 .f32 := Host.absf main_arg0
  let main_cst : FVec F S_ .f32 := constant S_ .f32 0x7F800000#32
  let main_v1 : FVec F S8192x4x64 .f32 := broadcastInDim S8192x4x64 ![] bcast_S_S8192x4x64 main_cst
  let main_v2 : IVec S8192x4x64 1 := cmpf .olt main_v0 main_v1
  let main_v3 : FVec F S8192x4x64 .f32 := Host.absf main_arg1
  let main_cst_0 : FVec F S_ .f32 := constant S_ .f32 0x7F800000#32
  let main_v4 : FVec F S8192x4x64 .f32 := broadcastInDim S8192x4x64 ![] bcast_S_S8192x4x64 main_cst_0
  let main_v5 : IVec S8192x4x64 1 := cmpf .olt main_v3 main_v4
  let main_v6 : FVec F S8192x4x64 .f32 := Host.absf main_arg2
  let main_cst_1 : FVec F S_ .f32 := constant S_ .f32 0x7F800000#32
  let main_v7 : FVec F S8192x4x64 .f32 := broadcastInDim S8192x4x64 ![] bcast_S_S8192x4x64 main_cst_1
  let main_v8 : IVec S8192x4x64 1 := cmpf .olt main_v6 main_v7
  let main_v9 : FVec F S8192x4x64 .f32 := Host.absf main_arg3
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_v12 : FVec F S8192x4 .f32 := Host.absf main_arg4
  let main_cst_3 : FVec F S_ .f32 := constant S_ .f32 0x7F800000#32
  let main_v13 : FVec F S8192x4 .f32 := broadcastInDim S8192x4 ![] bcast_S_S8192x4 main_cst_3
  let main_v14 : IVec S8192x4 1 := cmpf .olt main_v12 main_v13
  (main_v2, main_v5, main_v8, main_v11, main_v14)
-- ==== Pre_ln2_finite.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_v2 : IVec S8192x4096 1) (main_v5 : IVec S4096x1024 1) (main_v8 : IVec S8192x1024 1) (main_v11 : IVec S8192x1024 1) (main_v14 : IVec S1024 1) (main_v17 : IVec S1024 1) : IVec S8192x4096 1 × IVec S4096x1024 1 × IVec S8192x1024 1 × IVec S8192x1024 1 × IVec S1024 1 × IVec S1024 1 × IVec S1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S8192x4096 .f32) (main_arg1 : FVec F S4096x1024 .f32) (main_arg2 : FVec F S8192x1024 .f32) (main_arg3 : FVec F S8192x1024 .f32) (main_arg4 : FVec F S1024 .f32) (main_arg5 : FVec F S1024 .f32) (main_arg6 : FVec F S1024 .f32) (main_arg7 : FVec F S1024 .f32) : IVec S8192x4096 1 × IVec S4096x1024 1 × IVec S8192x1024 1 × IVec S8192x1024 1 × IVec S1024 1 × IVec S1024 1 × IVec S1024 1 × IVec S1024 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_logs_finite.lean ====
abbrev S8192x1024 : Shape := ⟨2, ![8192, 1024]⟩
abbrev S8192x4x64 : Shape := ⟨3, ![8192, 4, 64]⟩
abbrev S8192x4 : Shape := ⟨2, ![8192, 4]⟩
abbrev S256x1024 : Shape := ⟨2, ![256, 1024]⟩
abbrev S8192x9728 : Shape := ⟨2, ![8192, 9728]⟩
abbrev S2048 : Shape := ⟨1, ![2048]⟩
abbrev S1024x1024 : Shape := ⟨2, ![1024, 1024]⟩
abbrev S1024 : Shape := ⟨1, ![1024]⟩
abbrev S_ : Shape := ⟨0, ![]⟩

class Facts : Prop where
  bcast_S_S8192x4 : S_.BroadcastsInDim S8192x4 (![] : Fin 0 → Fin S8192x4.rank)

variable [Facts]

def fn {F : FTy → Type} [FloatOps F] (main_arg0 : FVec F S8192x1024 .f32) (main_arg1 : FVec F S8192x4x64 .f32) (main_arg2 : FVec F S8192x4x64 .f32) (main_arg3 : FVec F S8192x4x64 .f32) (main_arg4 : FVec F S8192x4 .f32) (main_arg5 : FVec F S8192x4 .f32) (main_arg6 : FVec F S8192x4 .f32) (main_arg7 : FVec F S256x1024 .f32) (main_arg8 : FVec F S8192x9728 .f32) (main_arg9 : FVec F S2048 .f32) (main_arg10 : FVec F S8192x1024 .f32) (main_arg11 : FVec F S1024x1024 .f32) (main_arg12 : FVec F S1024 .f32) (main_arg13 : FVec F S1024 .f32) : IVec S8192x4 1 × IVec S8192x4 1 × IVec S8192x4 1 :=
  let main_v0 : FVec F S8192x4 .f32 := Host.absf main_arg4
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_v3 : FVec F S8192x4 .f32 := Host.absf main_arg5
  let main_cst_0 : FVec F S_ .f32 := constant S_ .f32 0x7F800000#32
  let main_v4 : FVec F S8192x4 .f32 := broadcastInDim S8192x4 ![] bcast_S_S8192x4 main_cst_0
  let main_v5 : IVec S8192x4 1 := cmpf .olt main_v3 main_v4
  let main_v6 : FVec F S8192x4 .f32 := Host.absf main_arg6
  let main_cst_1 : FVec F S_ .f32 := constant S_ .f32 0x7F800000#32
  let main_v7 : FVec F S8192x4 .f32 := broadcastInDim S8192x4 ![] bcast_S_S8192x4 main_cst_1
  let main_v8 : IVec S8192x4 1 := cmpf .olt main_v6 main_v7
  (main_v2, main_v5, main_v8)
-- ==== Pre_norm_finite.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024 .f32) (main_arg3 : FVec F S1024x4096 .f32) (main_arg4 : FVec F S8192x1024 .f32) (main_arg5 : FVec F S8192x4096 .f32) : IVec S8192x1024 1 × IVec S1024 1 × IVec S1024x4096 1 × IVec S8192x1024 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg3
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x4096 .f32 := Host.absf main_arg5
  let main_cst_3 : FVec F S_ .f32 := constant S_ .f32 0x7F800000#32
  let main_v13 : FVec F S8192x4096 .f32 := broadcastInDim S8192x4096 ![] bcast_S_S8192x4096 main_cst_3
  let main_v14 : IVec S8192x4096 1 := cmpf .olt main_v12 main_v13
  (main_v2, main_v5, main_v8, main_v11, main_v14)
-- ==== DUp.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DUpRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== AttnDq0.lean ====
abbrev S8192x4x64 : Shape := ⟨3, ![8192, 4, 64]⟩
abbrev S8192x4 : Shape := ⟨2, ![8192, 4]⟩
abbrev S8192x9728 : Shape := ⟨2, ![8192, 9728]⟩
abbrev S8192x1x4x64 : Shape := ⟨4, ![8192, 1, 4, 64]⟩
abbrev S1x4x8192x64 : Shape := ⟨4, ![1, 4, 8192, 64]⟩
abbrev S_ : Shape := ⟨0, ![]⟩
abbrev S1x4x8320x64 : Shape := ⟨4, ![1, 4, 8320, 64]⟩
abbrev S1x4x130x64x64 : Shape := ⟨5, ![1, 4, 130, 64, 64]⟩
abbrev S1x4x128x64x64 : Shape := ⟨5, ![1, 4, 128, 64, 64]⟩
abbrev S1x4x128x192x64 : Shape := ⟨5, ![1, 4, 128, 192, 64]⟩
abbrev S128x64x192 : Shape := ⟨3, ![128, 64, 192]⟩
abbrev S1x4x128x64x192 : Shape := ⟨5, ![1, 4, 128, 64, 192]⟩
abbrev S1 : Shape := ⟨1, ![1]⟩
abbrev S4 : Shape := ⟨1, ![4]⟩
abbrev S4x1x1x1 : Shape := ⟨4, ![4, 1, 1, 1]⟩
abbrev S1x128x64x192 : Shape := ⟨4, ![1, 128, 64, 192]⟩
abbrev S4x128x64x192 : Shape := ⟨4, ![4, 128, 64, 192]⟩
abbrev S1x4x128x64 : Shape := ⟨4, ![1, 4, 128, 64]⟩
abbrev S1x4x128x64x1 : Shape := ⟨5, ![1, 4, 128, 64, 1]⟩
abbrev S8192x1x4 : Shape := ⟨3, ![8192, 1, 4]⟩
abbrev S1x4x8192 : Shape := ⟨3, ![1, 4, 8192]⟩
abbrev S8192x1x4x1 : Shape := ⟨4, ![8192, 1, 4, 1]⟩
abbrev S8192x256 : Shape := ⟨2, ![8192, 256]⟩
abbrev S8192x7168 : Shape := ⟨2, ![8192, 7168]⟩
abbrev S8192x128 : Shape := ⟨2, ![8192, 128]⟩
abbrev S8192x1024 : Shape := ⟨2, ![8192, 1024]⟩
abbrev S8192x768 : Shape := ⟨2, ![8192, 768]⟩
abbrev S512x128 : Shape := ⟨2, ![512, 128]⟩
abbrev S64x128 : Shape := ⟨2, ![64, 128]⟩
abbrev S128x128 : Shape := ⟨2, ![128, 128]⟩
abbrev S128x256 : Shape := ⟨2, ![128, 256]⟩
abbrev S192x128 : Shape := ⟨2, ![192, 128]⟩
abbrev S256x128 : Shape := ⟨2, ![256, 128]⟩
abbrev S128x1 : Shape := ⟨2, ![128, 1]⟩

abbrev nBuf : Space → Nat
  | .hbm => 121
  | .vmem => 23
  | .smem => 0
  | _ => 0

abbrev bufTy : (tb : Table) → Fin (tcTables nBuf tb) → BufTy
  | .hbm, ⟨0, _⟩ => ⟨S8192x4x64, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S8192x9728, .bf16⟩
  | .hbm, ⟨6, _⟩ => ⟨S8192x1x4x64, .f32⟩
  | .hbm, ⟨7, _⟩ => ⟨S1x4x8192x64, .f32⟩
  | .hbm, ⟨8, _⟩ => ⟨S_, .f32⟩
  | .hbm, ⟨9, _⟩ => ⟨S1x4x8320x64, .f32⟩
  | .hbm, ⟨10, _⟩ => ⟨S1x4x130x64x64, .f32⟩
  | .hbm, ⟨11, _⟩ => ⟨S1x4x128x64x64, .f32⟩
  | .hbm, ⟨12, _⟩ => ⟨S1x4x128x64x64, .f32⟩
  | .hbm, ⟨13, _⟩ => ⟨S1x4x128x64x64, .f32⟩
  | .hbm, ⟨14, _⟩ => ⟨S1x4x128x192x64, .f32⟩
  | .hbm, ⟨15, _⟩ => ⟨S8192x1x4x64, .f32⟩
  | .hbm, ⟨16, _⟩ => ⟨S1x4x8192x64, .f32⟩
  | .hbm, ⟨17, _⟩ => ⟨S_, .f32⟩
  | .hbm, ⟨18, _⟩ => ⟨S1x4x8320x64, .f32⟩
  | .hbm, ⟨19, _⟩ => ⟨S1x4x130x64x64, .f32⟩
  | .hbm, ⟨20, _⟩ => ⟨S1x4x128x64x64, .f32⟩
  | .hbm, ⟨21, _⟩ => ⟨S1x4x128x64x64, .f32⟩
  | .hbm, ⟨22, _⟩ => ⟨S1x4x128x64x64, .f32⟩
  | .hbm, ⟨23, _⟩ => ⟨S1x4x128x192x64, .f32⟩
  | .hbm, ⟨24, _⟩ => ⟨S_, .i32⟩
  | .hbm, ⟨25, _⟩ => ⟨S128x64x192, .i32⟩
  | .hbm, ⟨26, _⟩ => ⟨S128x64x192, .i32⟩
  | .hbm, ⟨27, _⟩ => ⟨S128x64x192, .i32⟩
  | .hbm, ⟨28, _⟩ => ⟨S128x64x192, .i32⟩
  | .hbm, ⟨29, _⟩ => ⟨S128x64x192, .i32⟩
  | .hbm, ⟨30, _⟩ => ⟨S128x64x192, .i32⟩
  | .hbm, ⟨31, _⟩ => ⟨S128x64x192, .i32⟩
  | .hbm, ⟨32, _⟩ => ⟨S128x64x192, .i32⟩
  | .hbm, ⟨33, _⟩ => ⟨S128x64x192, .i32⟩
  | .hbm, ⟨34, _⟩ => ⟨S128x64x192, .i1⟩
  | .hbm, ⟨35, _⟩ => ⟨S_, .i32⟩
  | .hbm, ⟨36, _⟩ => ⟨S128x64x192, .i32⟩
  | .hbm, ⟨37, _⟩ => ⟨S128x64x192, .i1⟩
  | .hbm, ⟨38, _⟩ => ⟨S128x64x192, .i1⟩
  | .hbm, ⟨39, _⟩ => ⟨S_, .i32⟩
  | .hbm, ⟨40, _⟩ => ⟨S128x64x192, .i32⟩
  | .hbm, ⟨41, _⟩ => ⟨S128x64x192, .i1⟩
  | .hbm, ⟨42, _⟩ => ⟨S128x64x192, .i1⟩
  | .hbm, ⟨43, _⟩ => ⟨S128x64x192, .f32⟩
  | .hbm, ⟨44, _⟩ => ⟨S8192x1x4x64, .f32⟩
  | .hbm, ⟨45, _⟩ => ⟨S1x4x8192x64, .f32⟩
  | .hbm, ⟨46, _⟩ => ⟨S1x4x128x64x64, .f32⟩
  | .hbm, ⟨47, _⟩ => ⟨S1x4x128x64x192, .f32⟩
  | .hbm, ⟨48, _⟩ => ⟨S_, .f32⟩
  | .hbm, ⟨49, _⟩ => ⟨S1x4x128x64x192, .f32⟩
  | .hbm, ⟨50, _⟩ => ⟨S1x4x128x64x192, .f32⟩
  | .hbm, ⟨51, _⟩ => ⟨S_, .f32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S4, .f32⟩
  | .hbm, ⟨60, _⟩ => ⟨S4x1x1x1, .f32⟩
  | .hbm, ⟨61, _⟩ => ⟨S1x128x64x192, .f32⟩
  | .hbm, ⟨62, _⟩ => ⟨S4x128x64x192, .f32⟩
  | .hbm, ⟨63, _⟩ => ⟨S4x128x64x192, .f32⟩
  | .hbm, ⟨64, _⟩ => ⟨S4x128x64x192, .f32⟩
  | .hbm, ⟨65, _⟩ => ⟨S1x4x128x64x192, .f32⟩
  | .hbm, ⟨66, _⟩ => ⟨S1x4x128x64x192, .f32⟩
  | .hbm, ⟨67, _⟩ => ⟨S1x4x128x64x192, .i1⟩
  | .hbm, ⟨68, _⟩ => ⟨S_, .f32⟩
  | .hbm, ⟨69, _⟩ => ⟨S1x4x128x64x192, .f32⟩
  | .hbm, ⟨70, _⟩ => ⟨S1x4x128x64x192, .f32⟩
  | .hbm, ⟨71, _⟩ => ⟨S_, .f32⟩
  | .hbm, ⟨72, _⟩ => ⟨S1x4x128x64, .f32⟩
  | .hbm, ⟨73, _⟩ => ⟨S1x4x128x64x1, .f32⟩
  | .hbm, ⟨74, _⟩ => ⟨S1x4x128x64x192, .f32⟩
  | .hbm, ⟨75, _⟩ => ⟨S1x4x128x64x192, .f32⟩
  | .hbm, ⟨76, _⟩ => ⟨S1x4x128x64x192, .f32⟩
  | .hbm, ⟨77, _⟩ => ⟨S_, .f32⟩
  | .hbm, ⟨78, _⟩ => ⟨S1x4x128x64, .f32⟩
  | .hbm, ⟨79, _⟩ => ⟨S1x4x128x64x64, .f32⟩
  | .hbm, ⟨80, _⟩ => ⟨S1x4x128x64x1, .f32⟩
  | .hbm, ⟨81, _⟩ => ⟨S1x4x128x64x64, .f32⟩
  | .hbm, ⟨82, _⟩ => ⟨S1x4x128x64x64, .f32⟩
  | .hbm, ⟨83, _⟩ => ⟨S1x4x128x64, .f32⟩
  | .hbm, ⟨84, _⟩ => ⟨S1x4x128x64, .f32⟩
  | .hbm, ⟨85, _⟩ => ⟨S8192x1x4x64, .f32⟩
  | .hbm, ⟨86, _⟩ => ⟨S1x4x8192x64, .f32⟩
  | .hbm, ⟨87, _⟩ => ⟨S1x4x128x64x64, .f32⟩
  | .hbm, ⟨88, _⟩ => ⟨S1x4x128x64x64, .f32⟩
  | .hbm, ⟨89, _⟩ => ⟨S_, .f32⟩
  | .hbm, ⟨90, _⟩ => ⟨S1x4x128x64, .f32⟩
  | .hbm, ⟨91, _⟩ => ⟨S8192x1x4, .f32⟩
  | .hbm, ⟨92, _⟩ => ⟨S1x4x8192, .f32⟩
  | .hbm, ⟨93, _⟩ => ⟨S1x4x128x64, .f32⟩
  | .hbm, ⟨94, _⟩ => ⟨S1x4x8192, .f32⟩
  | .hbm, ⟨95, _⟩ => ⟨S8192x1x4, .f32⟩
  | .hbm, ⟨96, _⟩ => ⟨S8192x1x4x1, .f32⟩
  | .hbm, ⟨97, _⟩ => ⟨S8192x1x4x64, .f32⟩
  | .hbm, ⟨98, _⟩ => ⟨S8192x256, .f32⟩
  | .hbm, ⟨99, _⟩ => ⟨S1x4x128x64, .f32⟩
  | .hbm, ⟨100, _⟩ => ⟨S1x4x8192, .f32⟩
  | .hbm, ⟨101, _⟩ => ⟨S8192x1x4, .f32⟩
  | .hbm, ⟨102, _⟩ => ⟨S8192x1x4x1, .f32⟩
  | .hbm, ⟨103, _⟩ => ⟨S8192x1x4x64, .f32⟩
  | .hbm, ⟨104, _⟩ => ⟨S8192x256, .f32⟩
  | .hbm, ⟨105, _⟩ => ⟨S8192x256, .f32⟩
  | .hbm, ⟨106, _⟩ => ⟨S8192x256, .f32⟩
  | .hbm, ⟨107, _⟩ => ⟨S8192x256, .f32⟩
  | .hbm, ⟨108, _⟩ => ⟨S_, .f32⟩
  | .hbm, ⟨109, _⟩ => ⟨S8192x7168, .f32⟩
  | .hbm, ⟨110, _⟩ => ⟨S8192x128, .f32⟩
  | .hbm, ⟨111, _⟩ => ⟨S8192x128, .f32⟩
  | .hbm, ⟨112, _⟩ => ⟨S8192x128, .f32⟩
  | .hbm, ⟨113, _⟩ => ⟨S8192x128, .f32⟩
  | .hbm, ⟨114, _⟩ => ⟨S_, .f32⟩
  | .hbm, ⟨115, _⟩ => ⟨S8192x1024, .f32⟩
  | .hbm, ⟨116, _⟩ => ⟨S_, .f32⟩
  | .hbm, ⟨117, _⟩ => ⟨S8192x768, .f32⟩
  | .hbm, ⟨118, _⟩ => ⟨S8192x9728, .f32⟩
  | .hbm, ⟨119, _⟩ => ⟨S8192x256, .f32⟩
  | .hbm, ⟨120, _⟩ => ⟨S8192x9728, .bf16⟩
  | .local _ .vmem, ⟨0, _⟩ => ⟨S512x128, .f32⟩
  | .local _ .vmem, ⟨1, _⟩ => ⟨S512x128, .f32⟩
  | .local _ .vmem, ⟨2, _⟩ => ⟨S64x128, .f32⟩
  | .local _ .vmem, ⟨3, _⟩ => ⟨S64x128, .f32⟩
  | .local _ .vmem, ⟨4, _⟩ => ⟨S512x128, .f32⟩
  | .local _ .vmem, ⟨5, _⟩ => ⟨S512x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S512x128, .f32⟩
  | .local _ .vmem, ⟨11, _⟩ => ⟨S512x128, .f32⟩
  | .local _ .vmem, ⟨12, _⟩ => ⟨S64x128, .f32⟩
  | .local _ .vmem, ⟨13, _⟩ => ⟨S64x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | _, _ => ⟨S8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_12 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_13 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c56_i32 : BitVec 32 := 56#32
  let v4 : BitVec 32 := Scalar.addi c56_i32 v3
  let c0_i32_0 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c56_i32 : BitVec 32 := 56#32
  let v1 : BitVec 32 := Scalar.addi c56_i32 v0
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c2_i32 : BitVec 32 := 2#32
  let v3 : BitVec 32 := Scalar.muli c2_i32 arg0
  let c56_i32 : BitVec 32 := 56#32
  let v4 : BitVec 32 := Scalar.addi c56_i32 v3
  let c0_i32 : BitVec 32 := 0#32
  ![v2.toNat, v4.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c56_i32 : BitVec 32 := 56#32
  let v4 : BitVec 32 := Scalar.addi c56_i32 v3
  let c1_i32_0 : BitVec 32 := 1#32
  let v5 : BitVec 32 := Scalar.addi v4 c1_i32_0
  let c0_i32_1 : BitVec 32 := 0#32
  ![v2.toNat, v5.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c56_i32 : BitVec 32 := 56#32
  let v1 : BitVec 32 := Scalar.addi c56_i32 v0
  let c1_i32 : BitVec 32 := 1#32
  let v2 : BitVec 32 := Scalar.addi v1 c1_i32
  let c0_i32 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c2_i32 : BitVec 32 := 2#32
  let v3 : BitVec 32 := Scalar.muli c2_i32 arg0
  let c56_i32 : BitVec 32 := 56#32
  let v4 : BitVec 32 := Scalar.addi c56_i32 v3
  let c1_i32_0 : BitVec 32 := 1#32
  let v5 : BitVec 32 := Scalar.addi v4 c1_i32_0
  let c0_i32 : BitVec 32 := 0#32
  ![v2.toNat, v5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnDq0Ideal.lean ====
variable {F : FTy → Type} [FloatOps F] [Named F]
def κ : String → Option EReal := fun
  | "mask" => some ⊥
  | _ => none
-- ==== AttnDq0RefIdeal.lean ====
abbrev S8192x4x64 : Shape := ⟨3, ![8192, 4, 64]⟩
abbrev S8192x4 : Shape := ⟨2, ![8192, 4]⟩
abbrev S8192x9728 : Shape := ⟨2, ![8192, 9728]⟩
abbrev S_ : Shape := ⟨0, ![]⟩
abbrev S1 : Shape := ⟨1, ![1]⟩
abbrev S4 : Shape := ⟨1, ![4]⟩
abbrev S8192x1x4x64 : Shape := ⟨4, ![8192, 1, 4, 64]⟩
abbrev S1x4x8192x64 : Shape := ⟨4, ![1, 4, 8192, 64]⟩
abbrev S1x4x128x64x64 : Shape := ⟨5, ![1, 4, 128, 64, 64]⟩
abbrev S1x4x8320x64 : Shape := ⟨4, ![1, 4, 8320, 64]⟩
abbrev S1x4x130x64x64 : Shape := ⟨5, ![1, 4, 130, 64, 64]⟩
abbrev S1x4x128x192x64 : Shape := ⟨5, ![1, 4, 128, 192, 64]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩
abbrev S192 : Shape := ⟨1, ![192]⟩
abbrev S1x192 : Shape := ⟨2, ![1, 192]⟩
abbrev S128x192 : Shape := ⟨2, ![128, 192]⟩
abbrev S128x1x192 : Shape := ⟨3, ![128, 1, 192]⟩
abbrev S128x64x1 : Shape := ⟨3, ![128, 64, 1]⟩
abbrev S128x64x192 : Shape := ⟨3, ![128, 64, 192]⟩
abbrev S1x4x128x64x192 : Shape := ⟨5, ![1, 4, 128, 64, 192]⟩
abbrev S4x1x1x1 : Shape := ⟨4, ![4, 1, 1, 1]⟩
abbrev S1x128x64x192 : Shape := ⟨4, ![1, 128, 64, 192]⟩
abbrev S4x128x64x192 : Shape := ⟨4, ![4, 128, 64, 192]⟩
abbrev S1x4x128x64 : Shape := ⟨4, ![1, 4, 128, 64]⟩
abbrev S1x4x128x64x1 : Shape := ⟨5, ![1, 4, 128, 64, 1]⟩
abbrev S1x4x8192 : Shape := ⟨3, ![1, 4, 8192]⟩
abbrev S8192x1x4 : Shape := ⟨3, ![8192, 1, 4]⟩
abbrev S4x128x64 : Shape := ⟨3, ![4, 128, 64]⟩
abbrev S8192x256 : Shape := ⟨2, ![8192, 256]⟩
abbrev S8192x8704 : Shape := ⟨2, ![8192, 8704]⟩
abbrev S8192x768 : Shape := ⟨2, ![8192, 768]⟩

abbrev nBuf : Space → Nat
  | .hbm => 188
  | .vmem => 0
  | .smem => 0
  | _ => 0

abbrev hbmTy0_0 (i : Nat) : BufTy := match i % 128 with
  | 0 => ⟨S8192x4x64, .f32⟩
  | 1 => ⟨S8192x4x64, .f32⟩
  | 2 => ⟨S8192x4x64, .f32⟩
  | 3 => ⟨S8192x4x64, .f32⟩
  | 4 => ⟨S8192x4, .f32⟩
  | 5 => ⟨S8192x9728, .bf16⟩
  | 6 => ⟨S_, .f32⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S4, .f32⟩
  | 15 => ⟨S8192x1x4x64, .f32⟩
  | 16 => ⟨S1x4x8192x64, .f32⟩
  | 17 => ⟨S1x4x128x64x64, .f32⟩
  | 18 => ⟨S8192x1x4x64, .f32⟩
  | 19 => ⟨S1x4x8192x64, .f32⟩
  | 20 => ⟨S_, .i32⟩
  | 21 => ⟨S_, .f32⟩
  | 22 => ⟨S1x4x8320x64, .f32⟩
  | 23 => ⟨S1x4x130x64x64, .f32⟩
  | 24 => ⟨S1x4x128x64x64, .f32⟩
  | 25 => ⟨S1x4x128x64x64, .f32⟩
  | 26 => ⟨S1x4x128x64x64, .f32⟩
  | 27 => ⟨S1x4x128x192x64, .f32⟩
  | 28 => ⟨S8192x1x4x64, .f32⟩
  | 29 => ⟨S1x4x8192x64, .f32⟩
  | 30 => ⟨S_, .i32⟩
  | 31 => ⟨S_, .f32⟩
  | 32 => ⟨S1x4x8320x64, .f32⟩
  | 33 => ⟨S1x4x130x64x64, .f32⟩
  | 34 => ⟨S1x4x128x64x64, .f32⟩
  | 35 => ⟨S1x4x128x64x64, .f32⟩
  | 36 => ⟨S1x4x128x64x64, .f32⟩
  | 37 => ⟨S1x4x128x192x64, .f32⟩
  | 38 => ⟨S128, .i32⟩
  | 39 => ⟨S128x1, .i32⟩
  | 40 => ⟨S_, .i32⟩
  | 41 => ⟨S128x1, .i32⟩
  | 42 => ⟨S128x1, .i32⟩
  | 43 => ⟨S64, .i32⟩
  | 44 => ⟨S1x64, .i32⟩
  | 45 => ⟨S128x64, .i32⟩
  | 46 => ⟨S128x64, .i32⟩
  | 47 => ⟨S128x64, .i32⟩
  | 48 => ⟨S128, .i32⟩
  | 49 => ⟨S128x1, .i32⟩
  | 50 => ⟨S_, .i32⟩
  | 51 => ⟨S128x1, .i32⟩
  | 52 => ⟨S128x1, .i32⟩
  | 53 => ⟨S_, .i32⟩
  | 54 => ⟨S128x1, .i32⟩
  | 55 => ⟨S128x1, .i32⟩
  | 56 => ⟨S192, .i32⟩
  | 57 => ⟨S1x192, .i32⟩
  | 58 => ⟨S128x192, .i32⟩
  | 59 => ⟨S128x192, .i32⟩
  | 60 => ⟨S128x192, .i32⟩
  | 61 => ⟨S128x1x192, .i32⟩
  | 62 => ⟨S128x64x1, .i32⟩
  | 63 => ⟨S128x64x192, .i32⟩
  | 64 => ⟨S128x64x192, .i32⟩
  | 65 => ⟨S128x64x192, .i32⟩
  | 66 => ⟨S128x64x192, .i32⟩
  | 67 => ⟨S_, .i32⟩
  | 68 => ⟨S128x64x192, .i32⟩
  | 69 => ⟨S128x64x192, .i1⟩
  | 70 => ⟨S128x1x192, .i32⟩
  | 71 => ⟨S_, .i32⟩
  | 72 => ⟨S128x1x192, .i32⟩
  | 73 => ⟨S128x1x192, .i1⟩
  | 74 => ⟨S128x64x192, .i1⟩
  | 75 => ⟨S128x64x192, .i1⟩
  | 76 => ⟨S128x1x192, .i32⟩
  | 77 => ⟨S_, .i32⟩
  | 78 => ⟨S128x1x192, .i32⟩
  | 79 => ⟨S128x1x192, .i1⟩
  | 80 => ⟨S128x64x192, .i1⟩
  | 81 => ⟨S128x64x192, .i1⟩
  | 82 => ⟨S128x64x192, .i32⟩
  | 83 => ⟨S_, .i32⟩
  | 84 => ⟨S128x64x192, .i32⟩
  | 85 => ⟨S128x64x192, .i32⟩
  | 86 => ⟨S128x64x192, .f32⟩
  | 87 => ⟨S1x4x128x64x192, .f32⟩
  | 88 => ⟨S_, .f32⟩
  | 89 => ⟨S1x4x128x64x192, .f32⟩
  | 90 => ⟨S1x4x128x64x192, .f32⟩
  | 91 => ⟨S4x1x1x1, .f32⟩
  | 92 => ⟨S1x128x64x192, .f32⟩
  | 93 => ⟨S4x128x64x192, .f32⟩
  | 94 => ⟨S4x128x64x192, .f32⟩
  | 95 => ⟨S4x128x64x192, .f32⟩
  | 96 => ⟨S1x4x128x64x192, .f32⟩
  | 97 => ⟨S1x4x128x64x192, .f32⟩
  | 98 => ⟨S_, .f32⟩
  | 99 => ⟨S_, .f32⟩
  | 100 => ⟨S1x4x128x64x192, .i1⟩
  | 101 => ⟨S1x4x128x64x192, .f32⟩
  | 102 => ⟨S1x4x128x64x192, .f32⟩
  | 103 => ⟨S_, .f32⟩
  | 104 => ⟨S1x4x128x64x192, .f32⟩
  | 105 => ⟨S_, .f32⟩
  | 106 => ⟨S1x4x128x64, .f32⟩
  | 107 => ⟨S1x4x128x64x1, .f32⟩
  | 108 => ⟨S1x4x128x64x192, .f32⟩
  | 109 => ⟨S1x4x128x64x192, .i1⟩
  | 110 => ⟨S1x4x128x64x192, .f32⟩
  | 111 => ⟨S_, .f32⟩
  | 112 => ⟨S1x4x128x64, .f32⟩
  | 113 => ⟨S1x4x128x64x1, .f32⟩
  | 114 => ⟨S1x4x128x64x192, .f32⟩
  | 115 => ⟨S1x4x128x64x192, .f32⟩
  | 116 => ⟨S1x4x128x64x192, .f32⟩
  | 117 => ⟨S_, .f32⟩
  | 118 => ⟨S1x4x128x64, .f32⟩
  | 119 => ⟨S1x4x128x64x1, .f32⟩
  | 120 => ⟨S1x4x128x64x64, .f32⟩
  | 121 => ⟨S1x4x128x64x64, .f32⟩
  | 122 => ⟨S1x4x128x64x64, .f32⟩
  | 123 => ⟨S1x4x128x64x1, .f32⟩
  | 124 => ⟨S_, .f32⟩
  | 125 => ⟨S1x4x128x64x1, .f32⟩
  | 126 => ⟨S1x4x128x64x1, .f32⟩
  | 127 => ⟨S1x4x128x64x1, .f32⟩
  | _ => ⟨S8192x4x64, .f32⟩

abbrev hbmTy0_1 (i : Nat) : BufTy := match i % 128 with
  | 0 => ⟨S1x4x128x64x1, .f32⟩
  | 1 => ⟨S1x4x128x64, .f32⟩
  | 2 => ⟨S1x4x8192x64, .f32⟩
  | 3 => ⟨S8192x1x4x64, .f32⟩
  | 4 => ⟨S8192x4x64, .f32⟩
  | 5 => ⟨S1x4x8192, .f32⟩
  | 6 => ⟨S8192x1x4, .f32⟩
  | 7 => ⟨S8192x4, .f32⟩
  | 8 => ⟨S8192x1x4, .f32⟩
  | 9 => ⟨S1x4x8192, .f32⟩
  | 10 => ⟨S1x4x128x64, .f32⟩
  | 11 => ⟨S8192x1x4x64, .f32⟩
  | 12 => ⟨S1x4x8192x64, .f32⟩
  | 13 => ⟨S1x4x128x64x64, .f32⟩
  | 14 => ⟨S1x4x128x64x1, .f32⟩
  | 15 => ⟨S1x4x128x64x1, .f32⟩
  | 16 => ⟨S1x4x128x64x64, .f32⟩
  | 17 => ⟨S1x4x128x64x64, .f32⟩
  | 18 => ⟨S1x4x128x64x64, .f32⟩
  | 19 => ⟨S_, .f32⟩
  | 20 => ⟨S1x4x128x64, .f32⟩
  | 21 => ⟨S1x4x128x64x1, .f32⟩
  | 22 => ⟨S1x4x128x64x1, .f32⟩
  | 23 => ⟨S1x4x128x64x1, .f32⟩
  | 24 => ⟨S1x4x128x64x64, .f32⟩
  | 25 => ⟨S1x4x128x64x64, .f32⟩
  | 26 => ⟨S1x4x128x64x192, .f32⟩
  | 27 => ⟨S_, .f32⟩
  | 28 => ⟨S4x128x64, .f32⟩
  | 29 => ⟨S1x4x128x64, .f32⟩
  | 30 => ⟨S1x4x128x64x192, .f32⟩
  | 31 => ⟨S1x4x128x64x192, .f32⟩
  | 32 => ⟨S1x4x128x64x192, .f32⟩
  | 33 => ⟨S1x4x128x64x192, .f32⟩
  | 34 => ⟨S_, .f32⟩
  | 35 => ⟨S1x4x128x64, .f32⟩
  | 36 => ⟨S1x4x128x64x1, .f32⟩
  | 37 => ⟨S1x4x128x64x1, .f32⟩
  | 38 => ⟨S_, .f32⟩
  | 39 => ⟨S4x128x64, .f32⟩
  | 40 => ⟨S1x4x128x64, .f32⟩
  | 41 => ⟨S1x4x128x64, .f32⟩
  | 42 => ⟨S1x4x128x64x192, .f32⟩
  | 43 => ⟨S1x4x128x64x192, .f32⟩
  | 44 => ⟨S1x4x128x64x192, .f32⟩
  | 45 => ⟨S_, .f32⟩
  | 46 => ⟨S1x4x128x64x192, .f32⟩
  | 47 => ⟨S1x4x128x64x192, .f32⟩
  | 48 => ⟨S_, .f32⟩
  | 49 => ⟨S1x4x128x64x192, .f32⟩
  | 50 => ⟨S1x4x128x64x192, .f32⟩
  | 51 => ⟨S1x4x128x64x64, .f32⟩
  | 52 => ⟨S1x4x8192x64, .f32⟩
  | 53 => ⟨S8192x1x4x64, .f32⟩
  | 54 => ⟨S8192x4x64, .f32⟩
  | 55 => ⟨S8192x256, .f32⟩
  | 56 => ⟨S8192x256, .bf16⟩
  | 57 => ⟨S8192x8704, .bf16⟩
  | 58 => ⟨S8192x768, .bf16⟩
  | 59 => ⟨S8192x9728, .bf16⟩
  | _ => ⟨S8192x4x64, .f32⟩

abbrev hbmTy (i : Nat) : BufTy := match i / 128 with
  | 0 => hbmTy0_0 i
  | 1 => hbmTy0_1 i
  | _ => ⟨S8192x4x64, .f32⟩

abbrev bufTy : (tb : Table) → Fin (tcTables nBuf tb) → BufTy
  | .hbm, ⟨i, _⟩ => hbmTy i
  | _, _ => ⟨S8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_call2_v0 : Ref sig .tc := ⟨.hbm, 99, rfl⟩
abbrev main_v76_1 : Ref sig .tc := ⟨.hbm, 100, rfl⟩
abbrev main_call2_v2 : Ref sig .tc := ⟨.hbm, 101, rfl⟩
abbrev main_v76_0 : Ref sig .tc := ⟨.hbm, 102, rfl⟩
abbrev main_call2_cst : Ref sig .tc := ⟨.hbm, 103, rfl⟩
abbrev main_v76_2 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_17 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_18 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_19 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_20 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_call3_cst : Ref sig .tc := ⟨.hbm, 173, rfl⟩
abbrev main_call3_v0 : Ref sig .tc := ⟨.hbm, 174, rfl⟩
abbrev main_v137 : Ref sig .tc := ⟨.hbm, 175, rfl⟩
abbrev main_cst_21 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩

abbrev nD : Nat := 1
abbrev τ : Topo := Topo.v7x

variable {F : FTy → Type} [FloatOps F]
-- ==== AttnDkv0.lean ====
abbrev S8192x4x64 : Shape := ⟨3, ![8192, 4, 64]⟩
abbrev S8192x4 : Shape := ⟨2, ![8192, 4]⟩
abbrev S8192x9728 : Shape := ⟨2, ![8192, 9728]⟩
abbrev S8192x1x4x64 : Shape := ⟨4, ![8192, 1, 4, 64]⟩
abbrev S1x4x8192x64 : Shape := ⟨4, ![1, 4, 8192, 64]⟩
abbrev S_ : Shape := ⟨0, ![]⟩
abbrev S1x4x8320x64 : Shape := ⟨4, ![1, 4, 8320, 64]⟩
abbrev S1x4x130x64x64 : Shape := ⟨5, ![1, 4, 130, 64, 64]⟩
abbrev S1x4x128x64x64 : Shape := ⟨5, ![1, 4, 128, 64, 64]⟩
abbrev S1x4x128x192x64 : Shape := ⟨5, ![1, 4, 128, 192, 64]⟩
abbrev S128x64x192 : Shape := ⟨3, ![128, 64, 192]⟩
abbrev S1x4x128x64x192 : Shape := ⟨5, ![1, 4, 128, 64, 192]⟩
abbrev S1 : Shape := ⟨1, ![1]⟩
abbrev S4 : Shape := ⟨1, ![4]⟩
abbrev S4x1x1x1 : Shape := ⟨4, ![4, 1, 1, 1]⟩
abbrev S1x128x64x192 : Shape := ⟨4, ![1, 128, 64, 192]⟩
abbrev S4x128x64x192 : Shape := ⟨4, ![4, 128, 64, 192]⟩
abbrev S1x4x128x64 : Shape := ⟨4, ![1, 4, 128, 64]⟩
abbrev S1x4x128x64x1 : Shape := ⟨5, ![1, 4, 128, 64, 1]⟩
abbrev S8192x1x4 : Shape := ⟨3, ![8192, 1, 4]⟩
abbrev S1x4x8192 : Shape := ⟨3, ![1, 4, 8192]⟩
abbrev S8192x1x4x1 : Shape := ⟨4, ![8192, 1, 4, 1]⟩
abbrev S8192x256 : Shape := ⟨2, ![8192, 256]⟩
abbrev S8192x7168 : Shape := ⟨2, ![8192, 7168]⟩
abbrev S8192x128 : Shape := ⟨2, ![8192, 128]⟩
abbrev S8192x1024 : Shape := ⟨2, ![8192, 1024]⟩
abbrev S8192x768 : Shape := ⟨2, ![8192, 768]⟩
abbrev S512x128 : Shape := ⟨2, ![512, 128]⟩
abbrev S64x128 : Shape := ⟨2, ![64, 128]⟩
abbrev S512x256 : Shape := ⟨2, ![512, 256]⟩
abbrev S128x128 : Shape := ⟨2, ![128, 128]⟩
abbrev S128x256 : Shape := ⟨2, ![128, 256]⟩
abbrev S192x128 : Shape := ⟨2, ![192, 128]⟩
abbrev S256x128 : Shape := ⟨2, ![256, 128]⟩
abbrev S1x256 : Shape := ⟨2, ![1, 256]⟩

abbrev nBuf : Space → Nat
  | .hbm => 121
  | .vmem => 32
  | .smem => 0
  | _ => 0

abbrev bufTy : (tb : Table) → Fin (tcTables nBuf tb) → BufTy
  | .hbm, ⟨0, _⟩ => ⟨S8192x4x64, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S8192x9728, .bf16⟩
  | .hbm, ⟨6, _⟩ => ⟨S8192x1x4x64, .f32⟩
  | .hbm, ⟨7, _⟩ => ⟨S1x4x8192x64, .f32⟩
  | .hbm, ⟨8, _⟩ => ⟨S_, .f32⟩
  | .hbm, ⟨9, _⟩ => ⟨S1x4x8320x64, .f32⟩
  | .hbm, ⟨10, _⟩ => ⟨S1x4x130x64x64, .f32⟩
  | .hbm, ⟨11, _⟩ => ⟨S1x4x128x64x64, .f32⟩
  | .hbm, ⟨12, _⟩ => ⟨S1x4x128x64x64, .f32⟩
  | .hbm, ⟨13, _⟩ => ⟨S1x4x128x64x64, .f32⟩
  | .hbm, ⟨14, _⟩ => ⟨S1x4x128x192x64, .f32⟩
  | .hbm, ⟨15, _⟩ => ⟨S8192x1x4x64, .f32⟩
  | .hbm, ⟨16, _⟩ => ⟨S1x4x8192x64, .f32⟩
  | .hbm, ⟨17, _⟩ => ⟨S_, .f32⟩
  | .hbm, ⟨18, _⟩ => ⟨S1x4x8320x64, .f32⟩
  | .hbm, ⟨19, _⟩ => ⟨S1x4x130x64x64, .f32⟩
  | .hbm, ⟨20, _⟩ => ⟨S1x4x128x64x64, .f32⟩
  | .hbm, ⟨21, _⟩ => ⟨S1x4x128x64x64, .f32⟩
  | .hbm, ⟨22, _⟩ => ⟨S1x4x128x64x64, .f32⟩
  | .hbm, ⟨23, _⟩ => ⟨S1x4x128x192x64, .f32⟩
  | .hbm, ⟨24, _⟩ => ⟨S_, .i32⟩
  | .hbm, ⟨25, _⟩ => ⟨S128x64x192, .i32⟩
  | .hbm, ⟨26, _⟩ => ⟨S128x64x192, .i32⟩
  | .hbm, ⟨27, _⟩ => ⟨S128x64x192, .i32⟩
  | .hbm, ⟨28, _⟩ => ⟨S128x64x192, .i32⟩
  | .hbm, ⟨29, _⟩ => ⟨S128x64x192, .i32⟩
  | .hbm, ⟨30, _⟩ => ⟨S128x64x192, .i32⟩
  | .hbm, ⟨31, _⟩ => ⟨S128x64x192, .i32⟩
  | .hbm, ⟨32, _⟩ => ⟨S128x64x192, .i32⟩
  | .hbm, ⟨33, _⟩ => ⟨S128x64x192, .i32⟩
  | .hbm, ⟨34, _⟩ => ⟨S128x64x192, .i1⟩
  | .hbm, ⟨35, _⟩ => ⟨S_, .i32⟩
  | .hbm, ⟨36, _⟩ => ⟨S128x64x192, .i32⟩
  | .hbm, ⟨37, _⟩ => ⟨S128x64x192, .i1⟩
  | .hbm, ⟨38, _⟩ => ⟨S128x64x192, .i1⟩
  | .hbm, ⟨39, _⟩ => ⟨S_, .i32⟩
  | .hbm, ⟨40, _⟩ => ⟨S128x64x192, .i32⟩
  | .hbm, ⟨41, _⟩ => ⟨S128x64x192, .i1⟩
  | .hbm, ⟨42, _⟩ => ⟨S128x64x192, .i1⟩
  | .hbm, ⟨43, _⟩ => ⟨S128x64x192, .f32⟩
  | .hbm, ⟨44, _⟩ => ⟨S8192x1x4x64, .f32⟩
  | .hbm, ⟨45, _⟩ => ⟨S1x4x8192x64, .f32⟩
  | .hbm, ⟨46, _⟩ => ⟨S1x4x128x64x64, .f32⟩
  | .hbm, ⟨47, _⟩ => ⟨S1x4x128x64x192, .f32⟩
  | .hbm, ⟨48, _⟩ => ⟨S_, .f32⟩
  | .hbm, ⟨49, _⟩ => ⟨S1x4x128x64x192, .f32⟩
  | .hbm, ⟨50, _⟩ => ⟨S1x4x128x64x192, .f32⟩
  | .hbm, ⟨51, _⟩ => ⟨S_, .f32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S4, .f32⟩
  | .hbm, ⟨60, _⟩ => ⟨S4x1x1x1, .f32⟩
  | .hbm, ⟨61, _⟩ => ⟨S1x128x64x192, .f32⟩
  | .hbm, ⟨62, _⟩ => ⟨S4x128x64x192, .f32⟩
  | .hbm, ⟨63, _⟩ => ⟨S4x128x64x192, .f32⟩
  | .hbm, ⟨64, _⟩ => ⟨S4x128x64x192, .f32⟩
  | .hbm, ⟨65, _⟩ => ⟨S1x4x128x64x192, .f32⟩
  | .hbm, ⟨66, _⟩ => ⟨S1x4x128x64x192, .f32⟩
  | .hbm, ⟨67, _⟩ => ⟨S1x4x128x64x192, .i1⟩
  | .hbm, ⟨68, _⟩ => ⟨S_, .f32⟩
  | .hbm, ⟨69, _⟩ => ⟨S1x4x128x64x192, .f32⟩
  | .hbm, ⟨70, _⟩ => ⟨S1x4x128x64x192, .f32⟩
  | .hbm, ⟨71, _⟩ => ⟨S_, .f32⟩
  | .hbm, ⟨72, _⟩ => ⟨S1x4x128x64, .f32⟩
  | .hbm, ⟨73, _⟩ => ⟨S1x4x128x64x1, .f32⟩
  | .hbm, ⟨74, _⟩ => ⟨S1x4x128x64x192, .f32⟩
  | .hbm, ⟨75, _⟩ => ⟨S1x4x128x64x192, .f32⟩
  | .hbm, ⟨76, _⟩ => ⟨S1x4x128x64x192, .f32⟩
  | .hbm, ⟨77, _⟩ => ⟨S_, .f32⟩
  | .hbm, ⟨78, _⟩ => ⟨S1x4x128x64, .f32⟩
  | .hbm, ⟨79, _⟩ => ⟨S1x4x128x64x64, .f32⟩
  | .hbm, ⟨80, _⟩ => ⟨S1x4x128x64x1, .f32⟩
  | .hbm, ⟨81, _⟩ => ⟨S1x4x128x64x64, .f32⟩
  | .hbm, ⟨82, _⟩ => ⟨S1x4x128x64x64, .f32⟩
  | .hbm, ⟨83, _⟩ => ⟨S1x4x128x64, .f32⟩
  | .hbm, ⟨84, _⟩ => ⟨S1x4x128x64, .f32⟩
  | .hbm, ⟨85, _⟩ => ⟨S8192x1x4x64, .f32⟩
  | .hbm, ⟨86, _⟩ => ⟨S1x4x8192x64, .f32⟩
  | .hbm, ⟨87, _⟩ => ⟨S1x4x128x64x64, .f32⟩
  | .hbm, ⟨88, _⟩ => ⟨S1x4x128x64x64, .f32⟩
  | .hbm, ⟨89, _⟩ => ⟨S_, .f32⟩
  | .hbm, ⟨90, _⟩ => ⟨S1x4x128x64, .f32⟩
  | .hbm, ⟨91, _⟩ => ⟨S8192x1x4, .f32⟩
  | .hbm, ⟨92, _⟩ => ⟨S1x4x8192, .f32⟩
  | .hbm, ⟨93, _⟩ => ⟨S1x4x128x64, .f32⟩
  | .hbm, ⟨94, _⟩ => ⟨S1x4x8192, .f32⟩
  | .hbm, ⟨95, _⟩ => ⟨S8192x1x4, .f32⟩
  | .hbm, ⟨96, _⟩ => ⟨S8192x1x4x1, .f32⟩
  | .hbm, ⟨97, _⟩ => ⟨S8192x1x4x64, .f32⟩
  | .hbm, ⟨98, _⟩ => ⟨S8192x256, .f32⟩
  | .hbm, ⟨99, _⟩ => ⟨S1x4x128x64, .f32⟩
  | .hbm, ⟨100, _⟩ => ⟨S1x4x8192, .f32⟩
  | .hbm, ⟨101, _⟩ => ⟨S8192x1x4, .f32⟩
  | .hbm, ⟨102, _⟩ => ⟨S8192x1x4x1, .f32⟩
  | .hbm, ⟨103, _⟩ => ⟨S8192x1x4x64, .f32⟩
  | .hbm, ⟨104, _⟩ => ⟨S8192x256, .f32⟩
  | .hbm, ⟨105, _⟩ => ⟨S8192x256, .f32⟩
  | .hbm, ⟨106, _⟩ => ⟨S8192x256, .f32⟩
  | .hbm, ⟨107, _⟩ => ⟨S8192x256, .f32⟩
  | .hbm, ⟨108, _⟩ => ⟨S_, .f32⟩
  | .hbm, ⟨109, _⟩ => ⟨S8192x7168, .f32⟩
  | .hbm, ⟨110, _⟩ => ⟨S8192x128, .f32⟩
  | .hbm, ⟨111, _⟩ => ⟨S8192x128, .f32⟩
  | .hbm, ⟨112, _⟩ => ⟨S8192x128, .f32⟩
  | .hbm, ⟨113, _⟩ => ⟨S8192x128, .f32⟩
  | .hbm, ⟨114, _⟩ => ⟨S_, .f32⟩
  | .hbm, ⟨115, _⟩ => ⟨S8192x1024, .f32⟩
  | .hbm, ⟨116, _⟩ => ⟨S_, .f32⟩
  | .hbm, ⟨117, _⟩ => ⟨S8192x768, .f32⟩
  | .hbm, ⟨118, _⟩ => ⟨S8192x9728, .f32⟩
  | .hbm, ⟨119, _⟩ => ⟨S8192x256, .f32⟩
  | .hbm, ⟨120, _⟩ => ⟨S8192x9728, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S64x128, .f32⟩
  | .local _ .vmem, ⟨5, _⟩ => ⟨S64x128, .f32⟩
  | .local _ .vmem, ⟨6, _⟩ => ⟨S512x128, .f32⟩
  | .local _ .vmem, ⟨7, _⟩ => ⟨S512x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S512x128, .f32⟩
  | .local _ .vmem, ⟨13, _⟩ => ⟨S512x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S512x128, .f32⟩
  | .local _ .vmem, ⟨19, _⟩ => ⟨S512x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S512x128, .f32⟩
  | .local _ .vmem, ⟨25, _⟩ => ⟨S512x128, .f32⟩
  | .local _ .vmem, ⟨26, _⟩ => ⟨S64x128, .f32⟩
  | .local _ .vmem, ⟨27, _⟩ => ⟨S64x128, .f32⟩
  | .local _ .vmem, ⟨28, _⟩ => ⟨S512x256, .bf16⟩
  | .local _ .vmem, ⟨29, _⟩ => ⟨S512x256, .bf16⟩
  | .local _ .vmem, ⟨30, _⟩ => ⟨S512x128, .f32⟩
  | .local _ .vmem, ⟨31, _⟩ => ⟨S512x128, .f32⟩
  | _, _ => ⟨S8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_12 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_13 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c56_i32 : BitVec 32 := 56#32
  let v1 : BitVec 32 := Scalar.addi c56_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c56_i32 : BitVec 32 := 56#32
  let v1 : BitVec 32 := Scalar.addi c56_i32 v0
  let c1_i32 : BitVec 32 := 1#32
  let v2 : BitVec 32 := Scalar.addi v1 c1_i32
  let c0_i32 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c68_i32 : BitVec 32 := 68#32
  let v3 : BitVec 32 := Scalar.addi c68_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c68_i32 : BitVec 32 := 68#32
  let v3 : BitVec 32 := Scalar.addi c68_i32 arg0
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli c8_i32 v0
  let c127_i32 : BitVec 32 := 127#32
  let v2 : BitVec 32 := Scalar.minsi v1 c127_i32
  let c0_i32 : BitVec 32 := 0#32
  ![v2.toNat, arg0.toNat]

def cc0_transform_15 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AttnDkv0Ideal.lean ====
variable {F : FTy → Type} [FloatOps F] [Named F]
def κ : String → Option EReal := fun
  | "mask" => some ⊥
  | _ => none
-- ==== AttnDkv0RefIdeal.lean ====
abbrev S8192x4x64 : Shape := ⟨3, ![8192, 4, 64]⟩
abbrev S8192x4 : Shape := ⟨2, ![8192, 4]⟩
abbrev S8192x9728 : Shape := ⟨2, ![8192, 9728]⟩
abbrev S_ : Shape := ⟨0, ![]⟩
abbrev S1 : Shape := ⟨1, ![1]⟩
abbrev S4 : Shape := ⟨1, ![4]⟩
abbrev S8192x1x4x64 : Shape := ⟨4, ![8192, 1, 4, 64]⟩
abbrev S1x4x8192x64 : Shape := ⟨4, ![1, 4, 8192, 64]⟩
abbrev S1x4x128x64x64 : Shape := ⟨5, ![1, 4, 128, 64, 64]⟩
abbrev S1x4x64x64 : Shape := ⟨4, ![1, 4, 64, 64]⟩
abbrev S1x4x8320x64 : Shape := ⟨4, ![1, 4, 8320, 64]⟩
abbrev S1x4x130x64x64 : Shape := ⟨5, ![1, 4, 130, 64, 64]⟩
abbrev S1x4x128x192x64 : Shape := ⟨5, ![1, 4, 128, 192, 64]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩
abbrev S192 : Shape := ⟨1, ![192]⟩
abbrev S1x192 : Shape := ⟨2, ![1, 192]⟩
abbrev S128x192 : Shape := ⟨2, ![128, 192]⟩
abbrev S128x1x192 : Shape := ⟨3, ![128, 1, 192]⟩
abbrev S128x64x1 : Shape := ⟨3, ![128, 64, 1]⟩
abbrev S128x64x192 : Shape := ⟨3, ![128, 64, 192]⟩
abbrev S1x4x128x64x192 : Shape := ⟨5, ![1, 4, 128, 64, 192]⟩
abbrev S4x1x1x1 : Shape := ⟨4, ![4, 1, 1, 1]⟩
abbrev S1x128x64x192 : Shape := ⟨4, ![1, 128, 64, 192]⟩
abbrev S4x128x64x192 : Shape := ⟨4, ![4, 128, 64, 192]⟩
abbrev S1x4x128x64 : Shape := ⟨4, ![1, 4, 128, 64]⟩
abbrev S1x4x128x64x1 : Shape := ⟨5, ![1, 4, 128, 64, 1]⟩
abbrev S1x4x8192 : Shape := ⟨3, ![1, 4, 8192]⟩
abbrev S8192x1x4 : Shape := ⟨3, ![8192, 1, 4]⟩
abbrev S4x128x64 : Shape := ⟨3, ![4, 128, 64]⟩
abbrev S8192x256 : Shape := ⟨2, ![8192, 256]⟩
abbrev S8192x7168 : Shape := ⟨2, ![8192, 7168]⟩
abbrev S8192x128 : Shape := ⟨2, ![8192, 128]⟩
abbrev S8192x2048 : Shape := ⟨2, ![8192, 2048]⟩

abbrev nBuf : Space → Nat
  | .hbm => 235
  | .vmem => 0
  | .smem => 0
  | _ => 0

abbrev hbmTy0_0 (i : Nat) : BufTy := match i % 128 with
  | 0 => ⟨S8192x4x64, .f32⟩
  | 1 => ⟨S8192x4x64, .f32⟩
  | 2 => ⟨S8192x4x64, .f32⟩
  | 3 => ⟨S8192x4x64, .f32⟩
  | 4 => ⟨S8192x4, .f32⟩
  | 5 => ⟨S8192x9728, .bf16⟩
  | 6 => ⟨S_, .f32⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S4, .f32⟩
  | 15 => ⟨S8192x1x4x64, .f32⟩
  | 16 => ⟨S1x4x8192x64, .f32⟩
  | 17 => ⟨S1x4x128x64x64, .f32⟩
  | 18 => ⟨S8192x1x4x64, .f32⟩
  | 19 => ⟨S1x4x8192x64, .f32⟩
  | 20 => ⟨S_, .f32⟩
  | 21 => ⟨S1x4x64x64, .f32⟩
  | 22 => ⟨S1x4x8320x64, .f32⟩
  | 23 => ⟨S_, .f32⟩
  | 24 => ⟨S1x4x64x64, .f32⟩
  | 25 => ⟨S_, .f32⟩
  | 26 => ⟨S1x4x64x64, .f32⟩
  | 27 => ⟨S1x4x130x64x64, .f32⟩
  | 28 => ⟨S1x4x128x64x64, .f32⟩
  | 29 => ⟨S1x4x128x64x64, .f32⟩
  | 30 => ⟨S1x4x128x64x64, .f32⟩
  | 31 => ⟨S1x4x128x192x64, .f32⟩
  | 32 => ⟨S8192x1x4x64, .f32⟩
  | 33 => ⟨S1x4x8192x64, .f32⟩
  | 34 => ⟨S_, .f32⟩
  | 35 => ⟨S1x4x64x64, .f32⟩
  | 36 => ⟨S1x4x8320x64, .f32⟩
  | 37 => ⟨S_, .f32⟩
  | 38 => ⟨S1x4x64x64, .f32⟩
  | 39 => ⟨S_, .f32⟩
  | 40 => ⟨S1x4x64x64, .f32⟩
  | 41 => ⟨S1x4x130x64x64, .f32⟩
  | 42 => ⟨S1x4x128x64x64, .f32⟩
  | 43 => ⟨S1x4x128x64x64, .f32⟩
  | 44 => ⟨S1x4x128x64x64, .f32⟩
  | 45 => ⟨S1x4x128x192x64, .f32⟩
  | 46 => ⟨S128, .i32⟩
  | 47 => ⟨S128x1, .i32⟩
  | 48 => ⟨S_, .i32⟩
  | 49 => ⟨S128x1, .i32⟩
  | 50 => ⟨S128x1, .i32⟩
  | 51 => ⟨S64, .i32⟩
  | 52 => ⟨S1x64, .i32⟩
  | 53 => ⟨S128x64, .i32⟩
  | 54 => ⟨S128x64, .i32⟩
  | 55 => ⟨S128x64, .i32⟩
  | 56 => ⟨S128, .i32⟩
  | 57 => ⟨S128x1, .i32⟩
  | 58 => ⟨S_, .i32⟩
  | 59 => ⟨S128x1, .i32⟩
  | 60 => ⟨S128x1, .i32⟩
  | 61 => ⟨S_, .i32⟩
  | 62 => ⟨S128x1, .i32⟩
  | 63 => ⟨S128x1, .i32⟩
  | 64 => ⟨S192, .i32⟩
  | 65 => ⟨S1x192, .i32⟩
  | 66 => ⟨S128x192, .i32⟩
  | 67 => ⟨S128x192, .i32⟩
  | 68 => ⟨S128x192, .i32⟩
  | 69 => ⟨S128x1x192, .i32⟩
  | 70 => ⟨S128x64x1, .i32⟩
  | 71 => ⟨S128x64x192, .i32⟩
  | 72 => ⟨S128x64x192, .i32⟩
  | 73 => ⟨S128x64x192, .i32⟩
  | 74 => ⟨S128x64x192, .i32⟩
  | 75 => ⟨S_, .i32⟩
  | 76 => ⟨S128x64x192, .i32⟩
  | 77 => ⟨S128x64x192, .i1⟩
  | 78 => ⟨S128x1x192, .i32⟩
  | 79 => ⟨S_, .i32⟩
  | 80 => ⟨S128x1x192, .i32⟩
  | 81 => ⟨S128x1x192, .i1⟩
  | 82 => ⟨S128x64x192, .i1⟩
  | 83 => ⟨S128x64x192, .i1⟩
  | 84 => ⟨S128x1x192, .i32⟩
  | 85 => ⟨S_, .i32⟩
  | 86 => ⟨S128x1x192, .i32⟩
  | 87 => ⟨S128x1x192, .i1⟩
  | 88 => ⟨S128x64x192, .i1⟩
  | 89 => ⟨S128x64x192, .i1⟩
  | 90 => ⟨S128x64x192, .i32⟩
  | 91 => ⟨S_, .i32⟩
  | 92 => ⟨S128x64x192, .i32⟩
  | 93 => ⟨S128x64x192, .i32⟩
  | 94 => ⟨S128x64x192, .f32⟩
  | 95 => ⟨S1x4x128x64x192, .f32⟩
  | 96 => ⟨S_, .f32⟩
  | 97 => ⟨S1x4x128x64x192, .f32⟩
  | 98 => ⟨S1x4x128x64x192, .f32⟩
  | 99 => ⟨S4x1x1x1, .f32⟩
  | 100 => ⟨S1x128x64x192, .f32⟩
  | 101 => ⟨S4x128x64x192, .f32⟩
  | 102 => ⟨S4x128x64x192, .f32⟩
  | 103 => ⟨S4x128x64x192, .f32⟩
  | 104 => ⟨S1x4x128x64x192, .f32⟩
  | 105 => ⟨S1x4x128x64x192, .f32⟩
  | 106 => ⟨S_, .f32⟩
  | 107 => ⟨S_, .f32⟩
  | 108 => ⟨S1x4x128x64x192, .i1⟩
  | 109 => ⟨S1x4x128x64x192, .f32⟩
  | 110 => ⟨S1x4x128x64x192, .f32⟩
  | 111 => ⟨S_, .f32⟩
  | 112 => ⟨S1x4x128x64x192, .f32⟩
  | 113 => ⟨S_, .f32⟩
  | 114 => ⟨S1x4x128x64, .f32⟩
  | 115 => ⟨S1x4x128x64x1, .f32⟩
  | 116 => ⟨S1x4x128x64x192, .f32⟩
  | 117 => ⟨S1x4x128x64x192, .i1⟩
  | 118 => ⟨S1x4x128x64x192, .f32⟩
  | 119 => ⟨S_, .f32⟩
  | 120 => ⟨S1x4x128x64, .f32⟩
  | 121 => ⟨S1x4x128x64x1, .f32⟩
  | 122 => ⟨S1x4x128x64x192, .f32⟩
  | 123 => ⟨S1x4x128x64x192, .f32⟩
  | 124 => ⟨S1x4x128x64x192, .f32⟩
  | 125 => ⟨S_, .f32⟩
  | 126 => ⟨S1x4x128x64, .f32⟩
  | 127 => ⟨S1x4x128x64x1, .f32⟩
  | _ => ⟨S8192x4x64, .f32⟩

abbrev hbmTy0_1 (i : Nat) : BufTy := match i % 128 with
  | 0 => ⟨S1x4x128x64x64, .f32⟩
  | 1 => ⟨S1x4x128x64x64, .f32⟩
  | 2 => ⟨S1x4x128x64x64, .f32⟩
  | 3 => ⟨S1x4x128x64x1, .f32⟩
  | 4 => ⟨S_, .f32⟩
  | 5 => ⟨S1x4x128x64x1, .f32⟩
  | 6 => ⟨S1x4x128x64x1, .f32⟩
  | 7 => ⟨S1x4x128x64x1, .f32⟩
  | 8 => ⟨S1x4x128x64x1, .f32⟩
  | 9 => ⟨S1x4x128x64, .f32⟩
  | 10 => ⟨S1x4x8192x64, .f32⟩
  | 11 => ⟨S8192x1x4x64, .f32⟩
  | 12 => ⟨S8192x4x64, .f32⟩
  | 13 => ⟨S1x4x8192, .f32⟩
  | 14 => ⟨S8192x1x4, .f32⟩
  | 15 => ⟨S8192x4, .f32⟩
  | 16 => ⟨S8192x1x4, .f32⟩
  | 17 => ⟨S1x4x8192, .f32⟩
  | 18 => ⟨S1x4x128x64, .f32⟩
  | 19 => ⟨S8192x1x4x64, .f32⟩
  | 20 => ⟨S1x4x8192x64, .f32⟩
  | 21 => ⟨S1x4x128x64x64, .f32⟩
  | 22 => ⟨S1x4x128x64x1, .f32⟩
  | 23 => ⟨S1x4x128x64x1, .f32⟩
  | 24 => ⟨S1x4x128x64x64, .f32⟩
  | 25 => ⟨S1x4x128x64x64, .f32⟩
  | 26 => ⟨S1x4x128x64x64, .f32⟩
  | 27 => ⟨S_, .f32⟩
  | 28 => ⟨S1x4x128x64, .f32⟩
  | 29 => ⟨S1x4x128x64x1, .f32⟩
  | 30 => ⟨S1x4x128x64x1, .f32⟩
  | 31 => ⟨S1x4x128x64x1, .f32⟩
  | 32 => ⟨S1x4x128x64x64, .f32⟩
  | 33 => ⟨S1x4x128x64x64, .f32⟩
  | 34 => ⟨S1x4x128x64x192, .f32⟩
  | 35 => ⟨S1x4x128x192x64, .f32⟩
  | 36 => ⟨S1x4x128x64x192, .f32⟩
  | 37 => ⟨S_, .f32⟩
  | 38 => ⟨S4x128x64, .f32⟩
  | 39 => ⟨S1x4x128x64, .f32⟩
  | 40 => ⟨S1x4x128x64x192, .f32⟩
  | 41 => ⟨S1x4x128x64x192, .f32⟩
  | 42 => ⟨S1x4x128x64x192, .f32⟩
  | 43 => ⟨S1x4x128x64x192, .f32⟩
  | 44 => ⟨S_, .f32⟩
  | 45 => ⟨S1x4x128x64, .f32⟩
  | 46 => ⟨S1x4x128x64x1, .f32⟩
  | 47 => ⟨S1x4x128x64x1, .f32⟩
  | 48 => ⟨S_, .f32⟩
  | 49 => ⟨S4x128x64, .f32⟩
  | 50 => ⟨S1x4x128x64, .f32⟩
  | 51 => ⟨S1x4x128x64, .f32⟩
  | 52 => ⟨S1x4x128x64x192, .f32⟩
  | 53 => ⟨S1x4x128x64x192, .f32⟩
  | 54 => ⟨S1x4x128x64x192, .f32⟩
  | 55 => ⟨S_, .f32⟩
  | 56 => ⟨S1x4x128x64x192, .f32⟩
  | 57 => ⟨S1x4x128x64x192, .f32⟩
  | 58 => ⟨S_, .f32⟩
  | 59 => ⟨S1x4x128x64x192, .f32⟩
  | 60 => ⟨S1x4x128x64x192, .f32⟩
  | 61 => ⟨S1x4x128x192x64, .f32⟩
  | 62 => ⟨S1x4x128x64x64, .f32⟩
  | 63 => ⟨S1x4x128x64x64, .f32⟩
  | 64 => ⟨S1x4x128x64x64, .f32⟩
  | 65 => ⟨S_, .f32⟩
  | 66 => ⟨S1x4x130x64x64, .f32⟩
  | 67 => ⟨S_, .f32⟩
  | 68 => ⟨S1x4x130x64x64, .f32⟩
  | 69 => ⟨S1x4x130x64x64, .f32⟩
  | 70 => ⟨S_, .f32⟩
  | 71 => ⟨S1x4x130x64x64, .f32⟩
  | 72 => ⟨S1x4x130x64x64, .f32⟩
  | 73 => ⟨S1x4x8320x64, .f32⟩
  | 74 => ⟨S1x4x64x64, .f32⟩
  | 75 => ⟨S1x4x8192x64, .f32⟩
  | 76 => ⟨S1x4x64x64, .f32⟩
  | 77 => ⟨S8192x1x4x64, .f32⟩
  | 78 => ⟨S8192x4x64, .f32⟩
  | 79 => ⟨S1x4x128x64x64, .f32⟩
  | 80 => ⟨S1x4x128x64x64, .f32⟩
  | 81 => ⟨S1x4x128x64x64, .f32⟩
  | 82 => ⟨S_, .f32⟩
  | 83 => ⟨S1x4x130x64x64, .f32⟩
  | 84 => ⟨S_, .f32⟩
  | 85 => ⟨S1x4x130x64x64, .f32⟩
  | 86 => ⟨S1x4x130x64x64, .f32⟩
  | 87 => ⟨S_, .f32⟩
  | 88 => ⟨S1x4x130x64x64, .f32⟩
  | 89 => ⟨S1x4x130x64x64, .f32⟩
  | 90 => ⟨S1x4x8320x64, .f32⟩
  | 91 => ⟨S1x4x64x64, .f32⟩
  | 92 => ⟨S1x4x8192x64, .f32⟩
  | 93 => ⟨S1x4x64x64, .f32⟩
  | 94 => ⟨S8192x1x4x64, .f32⟩
  | 95 => ⟨S8192x4x64, .f32⟩
  | 96 => ⟨S8192x256, .f32⟩
  | 97 => ⟨S8192x256, .bf16⟩
  | 98 => ⟨S8192x256, .f32⟩
  | 99 => ⟨S8192x256, .bf16⟩
  | 100 => ⟨S8192x7168, .bf16⟩
  | 101 => ⟨S8192x128, .bf16⟩
  | 102 => ⟨S8192x128, .bf16⟩
  | 103 => ⟨S8192x128, .bf16⟩
  | 104 => ⟨S8192x128, .bf16⟩
  | 105 => ⟨S8192x2048, .bf16⟩
  | 106 => ⟨S8192x9728, .bf16⟩
  | _ => ⟨S8192x4x64, .f32⟩

abbrev hbmTy (i : Nat) : BufTy := match i / 128 with
  | 0 => hbmTy0_0 i
  | 1 => hbmTy0_1 i
  | _ => ⟨S8192x4x64, .f32⟩

abbrev bufTy : (tb : Table) → Fin (tcTables nBuf tb) → BufTy
  | .hbm, ⟨i, _⟩ => hbmTy i
  | _, _ => ⟨S8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_call0_v0 : Ref sig .tc := ⟨.hbm, 107, rfl⟩
abbrev main_v82_1 : Ref sig .tc := ⟨.hbm, 108, rfl⟩
abbrev main_call0_v2 : Ref sig .tc := ⟨.hbm, 109, rfl⟩
abbrev main_v82_0 : Ref sig .tc := ⟨.hbm, 110, rfl⟩
abbrev main_call0_cst : Ref sig .tc := ⟨.hbm, 111, rfl⟩
abbrev main_v82_2 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_21 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_22 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_23 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_24 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_call1_cst : Ref sig .tc := ⟨.hbm, 183, rfl⟩
abbrev main_call1_v0 : Ref sig .tc := ⟨.hbm, 184, rfl⟩
abbrev main_v145 : Ref sig .tc := ⟨.hbm, 185, rfl⟩
abbrev main_cst_25 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_26 : Ref sig .tc := ⟨.hbm, 193, rfl⟩
abbrev main_v152 : Ref sig .tc := ⟨.hbm, 194, rfl⟩
abbrev main_cst_27 : Ref sig .tc := ⟨.hbm, 195, rfl⟩
abbrev main_v153 : Ref sig .tc := ⟨.hbm, 196, rfl⟩
abbrev main_v154 : Ref sig .tc := ⟨.hbm, 197, rfl⟩
abbrev main_cst_28 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_29 : Ref sig .tc := ⟨.hbm, 210, rfl⟩
abbrev main_v166 : Ref sig .tc := ⟨.hbm, 211, rfl⟩
abbrev main_cst_30 : Ref sig .tc := ⟨.hbm, 212, rfl⟩
abbrev main_v167 : Ref sig .tc := ⟨.hbm, 213, rfl⟩
abbrev main_v168 : Ref sig .tc := ⟨.hbm, 214, rfl⟩
abbrev main_cst_31 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩

abbrev nD : Nat := 1
abbrev τ : Topo := Topo.v7x

variable {F : FTy → Type} [FloatOps F]
-- ==== DH1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S6x1024 : Shape := ⟨2, ![6, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S8192x4096, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_37 : BitVec 32 := 0#32
  let v74 : BitVec 1 := Scalar.cmpi .ne v73 c0_i32_37
  v74

def k0_cond2 (i : grid0.Coords) : BitVec 1 :=
  let arg0 : BitVec 32 := BitVec.ofNat 32 (i 0).val
  let c0_i32_38 : BitVec 32 := 0#32
  let v75 : BitVec 1 := Scalar.cmpi .sgt arg0 c0_i32_38
  let v76 : BitVec 32 := Scalar.extui v75
  let c0_i32_39 : BitVec 32 := 0#32
  let v77 : BitVec 1 := Scalar.cmpi .ne v76 c0_i32_39
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DH1RefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x4096, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S6x1024, .f32⟩
  | .hbm, ⟨99, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Ln2.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S5x1024 : Shape := ⟨2, ![5, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v100 : BitVec 1 := Scalar.cmpi .eq arg0 c0_i32
  let v101 : BitVec 32 := Scalar.extui v100
  let c0_i32_43 : BitVec 32 := 0#32
  let v102 : BitVec 1 := Scalar.cmpi .ne v101 c0_i32_43
  v102

def k0_cond2 (i : grid0.Coords) : BitVec 1 :=
  let arg0 : BitVec 32 := BitVec.ofNat 32 (i 0).val
  let c0_i32_44 : BitVec 32 := 0#32
  let v103 : BitVec 1 := Scalar.cmpi .sgt arg0 c0_i32_44
  let v104 : BitVec 32 := Scalar.extui v103
  let c0_i32_45 : BitVec 32 := 0#32
  let v105 : BitVec 1 := Scalar.cmpi .ne v104 c0_i32_45
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Ln2RefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 152
  | .vmem => 0
  | .smem => 0
  | _ => 0

abbrev hbmTy0_0 (i : Nat) : BufTy := match i % 128 with
  | 0 => ⟨S8192x4096, .f32⟩
  | 1 => ⟨S4096x1024, .f32⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S_, .f32⟩
  | 27 => ⟨S8192x1, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192, .f32⟩
  | 85 => ⟨S_, .f32⟩
  | 86 => ⟨S8192, .f32⟩
  | 87 => ⟨S8192, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8192, .f32⟩
  | 96 => ⟨S_, .f32⟩
  | 97 => ⟨S8192, .f32⟩
  | 98 => ⟨S8192, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S_, .f32⟩
  | 113 => ⟨S1024, .f32⟩
  | 114 => ⟨S8192x1024, .f32⟩
  | 115 => ⟨S_, .f32⟩
  | 116 => ⟨S8192, .f32⟩
  | 117 => ⟨S8192x1, .f32⟩
  | 118 => ⟨S8192x1024, .f32⟩
  | 119 => ⟨S8192x1024, .f32⟩
  | 120 => ⟨S8192x1, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x4096, .f32⟩

abbrev hbmTy0_1 (i : Nat) : BufTy := match i % 128 with
  | 0 => ⟨S_, .f32⟩
  | 1 => ⟨S8192, .f32⟩
  | 2 => ⟨S8192x1024, .f32⟩
  | 3 => ⟨S8192x1024, .f32⟩
  | 4 => ⟨S8192x1024, .f32⟩
  | 5 => ⟨S_, .f32⟩
  | 6 => ⟨S8192, .f32⟩
  | 7 => ⟨S8192x1, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S1x1024, .f32⟩
  | 18 => ⟨S1x1024, .f32⟩
  | 19 => ⟨S1x1024, .f32⟩
  | 20 => ⟨S_, .f32⟩
  | 21 => ⟨S5x1024, .f32⟩
  | 22 => ⟨S8192x1024, .bf16⟩
  | 23 => ⟨S8x1024, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_cst_17 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_cst_27 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_29 : Ref sig .tc := ⟨.hbm, 138, rfl⟩
abbrev main_v100 : Ref sig .tc := ⟨.hbm, 139, rfl⟩
abbrev main_v101 : Ref sig .tc := ⟨.hbm, 140, rfl⟩
abbrev main_cst_30 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_31 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S8192x1024, .bf16⟩
  | .hbm, ⟨6, _⟩ => ⟨S8192x4096, .bf16⟩
  | .hbm, ⟨7, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ConvDx.lean ====
abbrev S8192x3072 : Shape := ⟨2, ![8192, 3072]⟩
abbrev S5x3072 : Shape := ⟨2, ![5, 3072]⟩
abbrev S3072 : Shape := ⟨1, ![3072]⟩
abbrev S8192x9728 : Shape := ⟨2, ![8192, 9728]⟩
abbrev S8x1024 : Shape := ⟨2, ![8, 1024]⟩
abbrev S512x1024 : Shape := ⟨2, ![512, 1024]⟩
abbrev S5x1024 : Shape := ⟨2, ![5, 1024]⟩
abbrev S528x1024 : Shape := ⟨2, ![528, 1024]⟩
abbrev S5x256 : Shape := ⟨2, ![5, 256]⟩
abbrev S64x256 : Shape := ⟨2, ![64, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x3072, .f32⟩
  | .hbm, ⟨1, _⟩ => ⟨S5x3072, .f32⟩
  | .hbm, ⟨2, _⟩ => ⟨S3072, .f32⟩
  | .hbm, ⟨3, _⟩ => ⟨S8192x3072, .f32⟩
  | .hbm, ⟨4, _⟩ => ⟨S8192x9728, .bf16⟩
  | .hbm, ⟨5, _⟩ => ⟨S8192x9728, .bf16⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S5x1024, .f32⟩
  | .local _ .vmem, ⟨7, _⟩ => ⟨S5x1024, .f32⟩
  | .local _ .vmem, ⟨8, _⟩ => ⟨S512x1024, .bf16⟩
  | .local _ .vmem, ⟨9, _⟩ => ⟨S512x1024, .bf16⟩
  | .local _ .vmem, ⟨10, _⟩ => ⟨S528x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvDxRefIdeal.lean ====
abbrev S8192x3072 : Shape := ⟨2, ![8192, 3072]⟩
abbrev S5x3072 : Shape := ⟨2, ![5, 3072]⟩
abbrev S3072 : Shape := ⟨1, ![3072]⟩
abbrev S8192x9728 : Shape := ⟨2, ![8192, 9728]⟩
abbrev S_ : Shape := ⟨0, ![]⟩
abbrev S2x3072 : Shape := ⟨2, ![2, 3072]⟩
abbrev S8196x3072 : Shape := ⟨2, ![8196, 3072]⟩
abbrev S1x3072 : Shape := ⟨2, ![1, 3072]⟩
abbrev S8192x4096 : Shape := ⟨2, ![8192, 4096]⟩
abbrev S8192x2560 : Shape := ⟨2, ![8192, 2560]⟩

abbrev nBuf : Space → Nat
  | .hbm => 85
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S5x3072, .f32⟩
  | .hbm, ⟨2, _⟩ => ⟨S3072, .f32⟩
  | .hbm, ⟨3, _⟩ => ⟨S8192x3072, .f32⟩
  | .hbm, ⟨4, _⟩ => ⟨S8192x9728, .bf16⟩
  | .hbm, ⟨5, _⟩ => ⟨S_, .f32⟩
  | .hbm, ⟨6, _⟩ => ⟨S2x3072, .f32⟩
  | .hbm, ⟨7, _⟩ => ⟨S8196x3072, .f32⟩
  | .hbm, ⟨8, _⟩ => ⟨S_, .f32⟩
  | .hbm, ⟨9, _⟩ => ⟨S2x3072, .f32⟩
  | .hbm, ⟨10, _⟩ => ⟨S_, .f32⟩
  | .hbm, ⟨11, _⟩ => ⟨S2x3072, .f32⟩
  | .hbm, ⟨12, _⟩ => ⟨S8192x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S1x3072, .f32⟩
  | .hbm, ⟨37, _⟩ => ⟨S3072, .f32⟩
  | .hbm, ⟨38, _⟩ => ⟨S1x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S1x3072, .f32⟩
  | .hbm, ⟨44, _⟩ => ⟨S3072, .f32⟩
  | .hbm, ⟨45, _⟩ => ⟨S1x3072, .f32⟩
  | .hbm, ⟨46, _⟩ => ⟨S8192x3072, .f32⟩
  | .hbm, ⟨47, _⟩ => ⟨S8192x3072, .f32⟩
  | .hbm, ⟨48, _⟩ => ⟨S8192x3072, .f32⟩
  | .hbm, ⟨49, _⟩ => ⟨S1x3072, .f32⟩
  | .hbm, ⟨50, _⟩ => ⟨S8192x3072, .f32⟩
  | .hbm, ⟨51, _⟩ => ⟨S8192x3072, .f32⟩
  | .hbm, ⟨52, _⟩ => ⟨S8192x3072, .f32⟩
  | .hbm, ⟨53, _⟩ => ⟨S8192x3072, .f32⟩
  | .hbm, ⟨54, _⟩ => ⟨S8192x3072, .f32⟩
  | .hbm, ⟨55, _⟩ => ⟨S8192x3072, .f32⟩
  | .hbm, ⟨56, _⟩ => ⟨S_, .f32⟩
  | .hbm, ⟨57, _⟩ => ⟨S8196x3072, .f32⟩
  | .hbm, ⟨58, _⟩ => ⟨S8192x3072, .f32⟩
  | .hbm, ⟨59, _⟩ => ⟨S8192x3072, .f32⟩
  | .hbm, ⟨60, _⟩ => ⟨S_, .f32⟩
  | .hbm, ⟨61, _⟩ => ⟨S8196x3072, .f32⟩
  | .hbm, ⟨62, _⟩ => ⟨S8196x3072, .f32⟩
  | .hbm, ⟨63, _⟩ => ⟨S8192x3072, .f32⟩
  | .hbm, ⟨64, _⟩ => ⟨S8192x3072, .f32⟩
  | .hbm, ⟨65, _⟩ => ⟨S_, .f32⟩
  | .hbm, ⟨66, _⟩ => ⟨S8196x3072, .f32⟩
  | .hbm, ⟨67, _⟩ => ⟨S8196x3072, .f32⟩
  | .hbm, ⟨68, _⟩ => ⟨S8192x3072, .f32⟩
  | .hbm, ⟨69, _⟩ => ⟨S8192x3072, .f32⟩
  | .hbm, ⟨70, _⟩ => ⟨S_, .f32⟩
  | .hbm, ⟨71, _⟩ => ⟨S8196x3072, .f32⟩
  | .hbm, ⟨72, _⟩ => ⟨S8196x3072, .f32⟩
  | .hbm, ⟨73, _⟩ => ⟨S8192x3072, .f32⟩
  | .hbm, ⟨74, _⟩ => ⟨S8192x3072, .f32⟩
  | .hbm, ⟨75, _⟩ => ⟨S_, .f32⟩
  | .hbm, ⟨76, _⟩ => ⟨S8196x3072, .f32⟩
  | .hbm, ⟨77, _⟩ => ⟨S8196x3072, .f32⟩
  | .hbm, ⟨78, _⟩ => ⟨S2x3072, .f32⟩
  | .hbm, ⟨79, _⟩ => ⟨S8192x3072, .f32⟩
  | .hbm, ⟨80, _⟩ => ⟨S2x3072, .f32⟩
  | .hbm, ⟨81, _⟩ => ⟨S8192x3072, .bf16⟩
  | .hbm, ⟨82, _⟩ => ⟨S8192x4096, .bf16⟩
  | .hbm, ⟨83, _⟩ => ⟨S8192x2560, .bf16⟩
  | .hbm, ⟨84, _⟩ => ⟨S8192x9728, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== ConvFwd.lean ====
abbrev S8192x9728 : Shape := ⟨2, ![8192, 9728]⟩
abbrev S5x3072 : Shape := ⟨2, ![5, 3072]⟩
abbrev S3072 : Shape := ⟨1, ![3072]⟩
abbrev S1x3072 : Shape := ⟨2, ![1, 3072]⟩
abbrev S8192x3072 : Shape := ⟨2, ![8192, 3072]⟩
abbrev S8x1024 : Shape := ⟨2, ![8, 1024]⟩
abbrev S512x1024 : Shape := ⟨2, ![512, 1024]⟩
abbrev S5x1024 : Shape := ⟨2, ![5, 1024]⟩
abbrev S1x1024 : Shape := ⟨2, ![1, 1024]⟩
abbrev S528x1024 : Shape := ⟨2, ![528, 1024]⟩
abbrev S5x256 : Shape := ⟨2, ![5, 256]⟩
abbrev S1x256 : Shape := ⟨2, ![1, 256]⟩
abbrev S64x256 : Shape := ⟨2, ![64, 256]⟩

abbrev nBuf : Space → Nat
  | .hbm => 5
  | .vmem => 13
  | .smem => 0
  | _ => 0

abbrev bufTy : (tb : Table) → Fin (tcTables nBuf tb) → BufTy
  | .hbm, ⟨0, _⟩ => ⟨S8192x9728, .f32⟩
  | .hbm, ⟨1, _⟩ => ⟨S5x3072, .f32⟩
  | .hbm, ⟨2, _⟩ => ⟨S3072, .f32⟩
  | .hbm, ⟨3, _⟩ => ⟨S1x3072, .f32⟩
  | .hbm, ⟨4, _⟩ => ⟨S8192x3072, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S5x1024, .f32⟩
  | .local _ .vmem, ⟨7, _⟩ => ⟨S5x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S528x1024, .f32⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c4_i32 : BitVec 32 := 4#32
  let v3 : BitVec 32 := Scalar.addi c4_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvFwdRefIdeal.lean ====
abbrev S8192x9728 : Shape := ⟨2, ![8192, 9728]⟩
abbrev S5x3072 : Shape := ⟨2, ![5, 3072]⟩
abbrev S3072 : Shape := ⟨1, ![3072]⟩
abbrev S8192x3072 : Shape := ⟨2, ![8192, 3072]⟩
abbrev S_ : Shape := ⟨0, ![]⟩
abbrev S2x3072 : Shape := ⟨2, ![2, 3072]⟩
abbrev S8196x3072 : Shape := ⟨2, ![8196, 3072]⟩
abbrev S1x3072 : Shape := ⟨2, ![1, 3072]⟩

abbrev nBuf : Space → Nat
  | .hbm => 56
  | .vmem => 0
  | .smem => 0
  | _ => 0

abbrev bufTy : (tb : Table) → Fin (tcTables nBuf tb) → BufTy
  | .hbm, ⟨0, _⟩ => ⟨S8192x9728, .f32⟩
  | .hbm, ⟨1, _⟩ => ⟨S5x3072, .f32⟩
  | .hbm, ⟨2, _⟩ => ⟨S3072, .f32⟩
  | .hbm, ⟨3, _⟩ => ⟨S8192x3072, .f32⟩
  | .hbm, ⟨4, _⟩ => ⟨S_, .f32⟩
  | .hbm, ⟨5, _⟩ => ⟨S2x3072, .f32⟩
  | .hbm, ⟨6, _⟩ => ⟨S8196x3072, .f32⟩
  | .hbm, ⟨7, _⟩ => ⟨S8192x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S1x3072, .f32⟩
  | .hbm, ⟨39, _⟩ => ⟨S3072, .f32⟩
  | .hbm, ⟨40, _⟩ => ⟨S1x3072, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S1x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x3072, .f32⟩
  | .hbm, ⟨49, _⟩ => ⟨S_, .f32⟩
  | .hbm, ⟨50, _⟩ => ⟨S8192x3072, .f32⟩
  | .hbm, ⟨51, _⟩ => ⟨S8192x3072, .f32⟩
  | .hbm, ⟨52, _⟩ => ⟨S_, .f32⟩
  | .hbm, ⟨53, _⟩ => ⟨S8192x3072, .f32⟩
  | .hbm, ⟨54, _⟩ => ⟨S8192x3072, .f32⟩
  | .hbm, ⟨55, _⟩ => ⟨S8192x3072, .f32⟩
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== ConvDpre.lean ====
abbrev S8192x9728 : Shape := ⟨2, ![8192, 9728]⟩
abbrev S5x3072 : Shape := ⟨2, ![5, 3072]⟩
abbrev S3072 : Shape := ⟨1, ![3072]⟩
abbrev S32 : Shape := ⟨1, ![32]⟩
abbrev S8192x2048 : Shape := ⟨2, ![8192, 2048]⟩
abbrev S8192x1024 : Shape := ⟨2, ![8192, 1024]⟩
abbrev S32x1 : Shape := ⟨2, ![32, 1]⟩
abbrev S32x64 : Shape := ⟨2, ![32, 64]⟩
abbrev S1x2048 : Shape := ⟨2, ![1, 2048]⟩
abbrev S1x3072 : Shape := ⟨2, ![1, 3072]⟩
abbrev S8192x3072 : Shape := ⟨2, ![8192, 3072]⟩
abbrev S8x3072 : Shape := ⟨2, ![8, 3072]⟩
abbrev S8x1024 : Shape := ⟨2, ![8, 1024]⟩
abbrev S512x1024 : Shape := ⟨2, ![512, 1024]⟩
abbrev S1x1024 : Shape := ⟨2, ![1, 1024]⟩
abbrev S5x1024 : Shape := ⟨2, ![5, 1024]⟩
abbrev S528x1024 : Shape := ⟨2, ![528, 1024]⟩
abbrev S5x256 : Shape := ⟨2, ![5, 256]⟩
abbrev S1x256 : Shape := ⟨2, ![1, 256]⟩
abbrev S64x256 : Shape := ⟨2, ![64, 256]⟩
abbrev S256 : Shape := ⟨1, ![256]⟩
abbrev S3x256 : Shape := ⟨2, ![3, 256]⟩
abbrev S8x256 : Shape := ⟨2, ![8, 256]⟩

abbrev nBuf : Space → Nat
  | .hbm => 14
  | .vmem => 25
  | .smem => 0
  | _ => 0

abbrev bufTy : (tb : Table) → Fin (tcTables nBuf tb) → BufTy
  | .hbm, ⟨0, _⟩ => ⟨S8192x9728, .f32⟩
  | .hbm, ⟨1, _⟩ => ⟨S5x3072, .f32⟩
  | .hbm, ⟨2, _⟩ => ⟨S3072, .f32⟩
  | .hbm, ⟨3, _⟩ => ⟨S32, .f32⟩
  | .hbm, ⟨4, _⟩ => ⟨S8192x2048, .f32⟩
  | .hbm, ⟨5, _⟩ => ⟨S8192x2048, .f32⟩
  | .hbm, ⟨6, _⟩ => ⟨S8192x1024, .f32⟩
  | .hbm, ⟨7, _⟩ => ⟨S32x1, .f32⟩
  | .hbm, ⟨8, _⟩ => ⟨S32x64, .f32⟩
  | .hbm, ⟨9, _⟩ => ⟨S1x2048, .f32⟩
  | .hbm, ⟨10, _⟩ => ⟨S1x3072, .f32⟩
  | .hbm, ⟨11, _⟩ => ⟨S8192x3072, .f32⟩
  | .hbm, ⟨12, _⟩ => ⟨S8x3072, .f32⟩
  | .hbm, ⟨13, _⟩ => ⟨S8x3072, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S5x1024, .f32⟩
  | .local _ .vmem, ⟨15, _⟩ => ⟨S5x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S528x1024, .f32⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![3, 16], ![false, false]⟩

def k0_cond1 (i : grid0.Coords) : BitVec 1 :=
  let arg1 : BitVec 32 := BitVec.ofNat 32 (i 1).val
  let c0_i32_998 : BitVec 32 := 0#32
  let v2441 : BitVec 1 := Scalar.cmpi .eq arg1 c0_i32_998
  let v2442 : BitVec 32 := Scalar.extui v2441
  let c0_i32_999 : BitVec 32 := 0#32
  let v2443 : BitVec 1 := Scalar.cmpi .ne v2442 c0_i32_999
  v2443

def k0_cond2 (i : grid0.Coords) : BitVec 1 :=
  let arg1 : BitVec 32 := BitVec.ofNat 32 (i 1).val
  let c0_i32_1000 : BitVec 32 := 0#32
  let v2444 : BitVec 1 := Scalar.cmpi .sgt arg1 c0_i32_1000
  let v2445 : BitVec 32 := Scalar.extui v2444
  let c0_i32_1001 : BitVec 32 := 0#32
  let v2446 : BitVec 1 := Scalar.cmpi .ne v2445 c0_i32_1001
  v2446

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c4_i32 : BitVec 32 := 4#32
  let v3 : BitVec 32 := Scalar.addi c4_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S5x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ConvDpreRefIdeal.lean ====
abbrev S8192x9728 : Shape := ⟨2, ![8192, 9728]⟩
abbrev S5x3072 : Shape := ⟨2, ![5, 3072]⟩
abbrev S3072 : Shape := ⟨1, ![3072]⟩
abbrev S32 : Shape := ⟨1, ![32]⟩
abbrev S8192x2048 : Shape := ⟨2, ![8192, 2048]⟩
abbrev S8192x1024 : Shape := ⟨2, ![8192, 1024]⟩
abbrev S8192x3072 : Shape := ⟨2, ![8192, 3072]⟩
abbrev S_ : Shape := ⟨0, ![]⟩
abbrev S2x3072 : Shape := ⟨2, ![2, 3072]⟩
abbrev S8196x3072 : Shape := ⟨2, ![8196, 3072]⟩
abbrev S1x3072 : Shape := ⟨2, ![1, 3072]⟩
abbrev S32x1 : Shape := ⟨2, ![32, 1]⟩
abbrev S8192x32x64 : Shape := ⟨3, ![8192, 32, 64]⟩
abbrev S1x32x1 : Shape := ⟨3, ![1, 32, 1]⟩
abbrev S3x3072 : Shape := ⟨2, ![3, 3072]⟩
abbrev S8x3072 : Shape := ⟨2, ![8, 3072]⟩

abbrev nBuf : Space → Nat
  | .hbm => 144
  | .vmem => 0
  | .smem => 0
  | _ => 0

abbrev hbmTy0_0 (i : Nat) : BufTy := match i % 128 with
  | 0 => ⟨S8192x9728, .f32⟩
  | 1 => ⟨S5x3072, .f32⟩
  | 2 => ⟨S3072, .f32⟩
  | 3 => ⟨S32, .f32⟩
  | 4 => ⟨S8192x2048, .f32⟩
  | 5 => ⟨S8192x2048, .f32⟩
  | 6 => ⟨S8192x1024, .f32⟩
  | 7 => ⟨S8192x3072, .f32⟩
  | 8 => ⟨S_, .f32⟩
  | 9 => ⟨S2x3072, .f32⟩
  | 10 => ⟨S8196x3072, .f32⟩
  | 11 => ⟨S8192x3072, .f32⟩
  | 12 => ⟨S1x3072, .f32⟩
  | 13 => ⟨S3072, .f32⟩
  | 14 => ⟨S1x3072, .f32⟩
  | 15 => ⟨S8192x3072, .f32⟩
  | 16 => ⟨S8192x3072, .f32⟩
  | 17 => ⟨S_, .f32⟩
  | 18 => ⟨S8192x3072, .f32⟩
  | 19 => ⟨S8192x3072, .f32⟩
  | 20 => ⟨S8192x3072, .f32⟩
  | 21 => ⟨S1x3072, .f32⟩
  | 22 => ⟨S3072, .f32⟩
  | 23 => ⟨S1x3072, .f32⟩
  | 24 => ⟨S8192x3072, .f32⟩
  | 25 => ⟨S8192x3072, .f32⟩
  | 26 => ⟨S8192x3072, .f32⟩
  | 27 => ⟨S8192x3072, .f32⟩
  | 28 => ⟨S1x3072, .f32⟩
  | 29 => ⟨S3072, .f32⟩
  | 30 => ⟨S1x3072, .f32⟩
  | 31 => ⟨S8192x3072, .f32⟩
  | 32 => ⟨S8192x3072, .f32⟩
  | 33 => ⟨S8192x3072, .f32⟩
  | 34 => ⟨S8192x3072, .f32⟩
  | 35 => ⟨S1x3072, .f32⟩
  | 36 => ⟨S3072, .f32⟩
  | 37 => ⟨S1x3072, .f32⟩
  | 38 => ⟨S8192x3072, .f32⟩
  | 39 => ⟨S8192x3072, .f32⟩
  | 40 => ⟨S8192x3072, .f32⟩
  | 41 => ⟨S8192x3072, .f32⟩
  | 42 => ⟨S1x3072, .f32⟩
  | 43 => ⟨S3072, .f32⟩
  | 44 => ⟨S1x3072, .f32⟩
  | 45 => ⟨S8192x3072, .f32⟩
  | 46 => ⟨S8192x3072, .f32⟩
  | 47 => ⟨S8192x3072, .f32⟩
  | 48 => ⟨S1x3072, .f32⟩
  | 49 => ⟨S8192x3072, .f32⟩
  | 50 => ⟨S8192x3072, .f32⟩
  | 51 => ⟨S8192x3072, .f32⟩
  | 52 => ⟨S8192x3072, .f32⟩
  | 53 => ⟨S_, .f32⟩
  | 54 => ⟨S8192x3072, .f32⟩
  | 55 => ⟨S8192x3072, .f32⟩
  | 56 => ⟨S_, .f32⟩
  | 57 => ⟨S8192x3072, .f32⟩
  | 58 => ⟨S8192x3072, .f32⟩
  | 59 => ⟨S_, .f32⟩
  | 60 => ⟨S8192x3072, .f32⟩
  | 61 => ⟨S8192x3072, .f32⟩
  | 62 => ⟨S8192x3072, .f32⟩
  | 63 => ⟨S8192x3072, .f32⟩
  | 64 => ⟨S8192x2048, .f32⟩
  | 65 => ⟨S32x1, .f32⟩
  | 66 => ⟨S8192x32x64, .f32⟩
  | 67 => ⟨S1x32x1, .f32⟩
  | 68 => ⟨S8192x32x64, .f32⟩
  | 69 => ⟨S8192x32x64, .f32⟩
  | 70 => ⟨S8192x2048, .f32⟩
  | 71 => ⟨S8192x1024, .f32⟩
  | 72 => ⟨S_, .f32⟩
  | 73 => ⟨S8192x3072, .f32⟩
  | 74 => ⟨S8192x32x64, .f32⟩
  | 75 => ⟨S8192x32x64, .f32⟩
  | 76 => ⟨S8192x32x64, .f32⟩
  | 77 => ⟨S8192x2048, .f32⟩
  | 78 => ⟨S8192x2048, .f32⟩
  | 79 => ⟨S_, .f32⟩
  | 80 => ⟨S8192x3072, .f32⟩
  | 81 => ⟨S8192x3072, .f32⟩
  | 82 => ⟨S8192x3072, .f32⟩
  | 83 => ⟨S8192x3072, .f32⟩
  | 84 => ⟨S8192x3072, .f32⟩
  | 85 => ⟨S8192x3072, .f32⟩
  | 86 => ⟨S_, .f32⟩
  | 87 => ⟨S3072, .f32⟩
  | 88 => ⟨S1x3072, .f32⟩
  | 89 => ⟨S_, .f32⟩
  | 90 => ⟨S3072, .f32⟩
  | 91 => ⟨S8192x3072, .f32⟩
  | 92 => ⟨S_, .f32⟩
  | 93 => ⟨S3072, .f32⟩
  | 94 => ⟨S1x3072, .f32⟩
  | 95 => ⟨S_, .f32⟩
  | 96 => ⟨S3072, .f32⟩
  | 97 => ⟨S1x3072, .f32⟩
  | 98 => ⟨S_, .f32⟩
  | 99 => ⟨S5x3072, .f32⟩
  | 100 => ⟨S8192x3072, .f32⟩
  | 101 => ⟨S_, .f32⟩
  | 102 => ⟨S3072, .f32⟩
  | 103 => ⟨S1x3072, .f32⟩
  | 104 => ⟨S_, .f32⟩
  | 105 => ⟨S3072, .f32⟩
  | 106 => ⟨S1x3072, .f32⟩
  | 107 => ⟨S_, .f32⟩
  | 108 => ⟨S5x3072, .f32⟩
  | 109 => ⟨S5x3072, .f32⟩
  | 110 => ⟨S8192x3072, .f32⟩
  | 111 => ⟨S_, .f32⟩
  | 112 => ⟨S3072, .f32⟩
  | 113 => ⟨S1x3072, .f32⟩
  | 114 => ⟨S_, .f32⟩
  | 115 => ⟨S3072, .f32⟩
  | 116 => ⟨S1x3072, .f32⟩
  | 117 => ⟨S_, .f32⟩
  | 118 => ⟨S5x3072, .f32⟩
  | 119 => ⟨S5x3072, .f32⟩
  | 120 => ⟨S8192x3072, .f32⟩
  | 121 => ⟨S_, .f32⟩
  | 122 => ⟨S3072, .f32⟩
  | 123 => ⟨S1x3072, .f32⟩
  | 124 => ⟨S_, .f32⟩
  | 125 => ⟨S3072, .f32⟩
  | 126 => ⟨S1x3072, .f32⟩
  | 127 => ⟨S_, .f32⟩
  | _ => ⟨S8192x9728, .f32⟩

abbrev hbmTy0_1 (i : Nat) : BufTy := match i % 128 with
  | 0 => ⟨S5x3072, .f32⟩
  | 1 => ⟨S5x3072, .f32⟩
  | 2 => ⟨S8192x3072, .f32⟩
  | 3 => ⟨S_, .f32⟩
  | 4 => ⟨S3072, .f32⟩
  | 5 => ⟨S1x3072, .f32⟩
  | 6 => ⟨S_, .f32⟩
  | 7 => ⟨S3072, .f32⟩
  | 8 => ⟨S1x3072, .f32⟩
  | 9 => ⟨S_, .f32⟩
  | 10 => ⟨S5x3072, .f32⟩
  | 11 => ⟨S5x3072, .f32⟩
  | 12 => ⟨S_, .f32⟩
  | 13 => ⟨S3x3072, .f32⟩
  | 14 => ⟨S8x3072, .f32⟩
  | 15 => ⟨S8x3072, .f32⟩
  | _ => ⟨S8192x9728, .f32⟩

abbrev hbmTy (i : Nat) : BufTy := match i / 128 with
  | 0 => hbmTy0_0 i
  | 1 => hbmTy0_1 i
  | _ => ⟨S8192x9728, .f32⟩

abbrev bufTy : (tb : Table) → Fin (tcTables nBuf tb) → BufTy
  | .hbm, ⟨i, _⟩ => hbmTy i
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v42_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v42_1 : Ref sig .tc := ⟨.hbm, 62, rfl⟩
abbrev main_v42_0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_1 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_2 : Ref sig .tc := ⟨.hbm, 79, rfl⟩
abbrev main_v57 : Ref sig .tc := ⟨.hbm, 80, rfl⟩
abbrev main_v58 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v59 : Ref sig .tc := ⟨.hbm, 85, rfl⟩
abbrev main_cst_3 : Ref sig .tc := ⟨.hbm, 86, rfl⟩
abbrev main_v60 : Ref sig .tc := ⟨.hbm, 87, rfl⟩
abbrev main_v61 : Ref sig .tc := ⟨.hbm, 88, rfl⟩
abbrev main_cst_4 : Ref sig .tc := ⟨.hbm, 89, rfl⟩
abbrev main_v62 : Ref sig .tc := ⟨.hbm, 90, rfl⟩
abbrev main_v63 : Ref sig .tc := ⟨.hbm, 91, rfl⟩
abbrev main_cst_5 : Ref sig .tc := ⟨.hbm, 92, rfl⟩
abbrev main_v64 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_11 : Ref sig .tc := ⟨.hbm, 111, rfl⟩
abbrev main_v77 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_cst_13 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_14 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_cst_18 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩

abbrev nD : Nat := 1
abbrev τ : Topo := Topo.v7x

variable {F : FTy → Type} [FloatOps F]
-- ==== GateNorm.lean ====
abbrev S8192x2048 : Shape := ⟨2, ![8192, 2048]⟩
abbrev S8192x3072 : Shape := ⟨2, ![8192, 3072]⟩
abbrev S8192x9728 : Shape := ⟨2, ![8192, 9728]⟩
abbrev S32 : Shape := ⟨1, ![32]⟩
abbrev S2048 : Shape := ⟨1, ![2048]⟩
abbrev S2048x1024 : Shape := ⟨2, ![2048, 1024]⟩
abbrev S32x1 : Shape := ⟨2, ![32, 1]⟩
abbrev S32x64 : Shape := ⟨2, ![32, 64]⟩
abbrev S1x2048 : Shape := ⟨2, ![1, 2048]⟩
abbrev S8192x1024 : Shape := ⟨2, ![8192, 1024]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x9728, .f32⟩
  | .hbm, ⟨3, _⟩ => ⟨S32, .f32⟩
  | .hbm, ⟨4, _⟩ => ⟨S2048, .f32⟩
  | .hbm, ⟨5, _⟩ => ⟨S2048x1024, .f32⟩
  | .hbm, ⟨6, _⟩ => ⟨S32x1, .f32⟩
  | .hbm, ⟨7, _⟩ => ⟨S32x64, .f32⟩
  | .hbm, ⟨8, _⟩ => ⟨S1x2048, .f32⟩
  | .hbm, ⟨9, _⟩ => ⟨S1x2048, .f32⟩
  | .hbm, ⟨10, _⟩ => ⟨S2048x1024, .bf16⟩
  | .hbm, ⟨11, _⟩ => ⟨S8192x2048, .bf16⟩
  | .hbm, ⟨12, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S256x2048, .bf16⟩
  | .local _ .vmem, ⟨10, _⟩ => ⟨S256x2048, .bf16⟩
  | .local _ .vmem, ⟨11, _⟩ => ⟨S256x1024, .f32⟩
  | .local _ .vmem, ⟨12, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateNormRefIdeal.lean ====
abbrev S8192x2048 : Shape := ⟨2, ![8192, 2048]⟩
abbrev S8192x3072 : Shape := ⟨2, ![8192, 3072]⟩
abbrev S8192x9728 : Shape := ⟨2, ![8192, 9728]⟩
abbrev S32 : Shape := ⟨1, ![32]⟩
abbrev S2048 : Shape := ⟨1, ![2048]⟩
abbrev S2048x1024 : Shape := ⟨2, ![2048, 1024]⟩
abbrev S8192x32x64 : Shape := ⟨3, ![8192, 32, 64]⟩
abbrev S32x1 : Shape := ⟨2, ![32, 1]⟩
abbrev S1x32x1 : Shape := ⟨3, ![1, 32, 1]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S1x2048 : Shape := ⟨2, ![1, 2048]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x9728, .f32⟩
  | .hbm, ⟨3, _⟩ => ⟨S32, .f32⟩
  | .hbm, ⟨4, _⟩ => ⟨S2048, .f32⟩
  | .hbm, ⟨5, _⟩ => ⟨S2048x1024, .f32⟩
  | .hbm, ⟨6, _⟩ => ⟨S8192x32x64, .f32⟩
  | .hbm, ⟨7, _⟩ => ⟨S32x1, .f32⟩
  | .hbm, ⟨8, _⟩ => ⟨S8192x2048, .f32⟩
  | .hbm, ⟨9, _⟩ => ⟨S8192x32x64, .f32⟩
  | .hbm, ⟨10, _⟩ => ⟨S1x32x1, .f32⟩
  | .hbm, ⟨11, _⟩ => ⟨S8192x32x64, .f32⟩
  | .hbm, ⟨12, _⟩ => ⟨S8192x32x64, .f32⟩
  | .hbm, ⟨13, _⟩ => ⟨S8192x32x64, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x4x512, .f32⟩
  | .hbm, ⟨27, _⟩ => ⟨S8192x4x512, .f32⟩
  | .hbm, ⟨28, _⟩ => ⟨S_, .f32⟩
  | .hbm, ⟨29, _⟩ => ⟨S8192x4, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1, .f32⟩
  | .hbm, ⟨38, _⟩ => ⟨S8192x4x512, .f32⟩
  | .hbm, ⟨39, _⟩ => ⟨S8192x4x512, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwSsd.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsdRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwAttn.lean ====
abbrev S8192x256 : Shape := ⟨2, ![8192, 256]⟩
abbrev S8192x1024 : Shape := ⟨2, ![8192, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwAttnRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S8192x1024 : Shape := ⟨2, ![8192, 1024]⟩
abbrev S8192x9728 : Shape := ⟨2, ![8192, 9728]⟩
abbrev S1024x9728 : Shape := ⟨2, ![1024, 9728]⟩
abbrev S1024x1024 : Shape := ⟨2, ![1024, 1024]⟩
abbrev S1024x2432 : Shape := ⟨2, ![1024, 2432]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x9728, .f32⟩
  | .hbm, ⟨2, _⟩ => ⟨S8192x1024, .bf16⟩
  | .hbm, ⟨3, _⟩ => ⟨S8192x9728, .bf16⟩
  | .hbm, ⟨4, _⟩ => ⟨S1024x9728, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S8192x9728 : Shape := ⟨2, ![8192, 9728]⟩
abbrev S_ : Shape := ⟨0, ![]⟩
abbrev S1024x9728 : Shape := ⟨2, ![1024, 9728]⟩
abbrev S9728x1024 : Shape := ⟨2, ![9728, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9728, .f32⟩
  | .hbm, ⟨2, _⟩ => ⟨S_, .f32⟩
  | .hbm, ⟨3, _⟩ => ⟨S1024x9728, .f32⟩
  | .hbm, ⟨4, _⟩ => ⟨S8192x9728, .f32⟩
  | .hbm, ⟨5, _⟩ => ⟨S9728x1024, .f32⟩
  | .hbm, ⟨6, _⟩ => ⟨S1024x9728, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DX.lean ====
abbrev S8192x9728 : Shape := ⟨2, ![8192, 9728]⟩
abbrev S1024x9728 : Shape := ⟨2, ![1024, 9728]⟩
abbrev S8192x1024 : Shape := ⟨2, ![8192, 1024]⟩
abbrev S1024x2432 : Shape := ⟨2, ![1024, 2432]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x9728, .f32⟩
  | .hbm, ⟨1, _⟩ => ⟨S1024x9728, .f32⟩
  | .hbm, ⟨2, _⟩ => ⟨S8192x1024, .f32⟩
  | .hbm, ⟨3, _⟩ => ⟨S8192x9728, .bf16⟩
  | .hbm, ⟨4, _⟩ => ⟨S1024x9728, .bf16⟩
  | .hbm, ⟨5, _⟩ => ⟨S8192x1024, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let v15 : BitVec 1 := Scalar.cmpi .eq v9 c0_i32_6
  let v16 : BitVec 32 := Scalar.extui v15
  let c0_i32_7 : BitVec 32 := 0#32
  let v17 : BitVec 1 := Scalar.cmpi .ne v16 c0_i32_7
  v17

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_8 : BitVec 32 := 0#32
  let v18 : BitVec 1 := Scalar.cmpi .sgt v9 c0_i32_8
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DXRefIdeal.lean ====
abbrev S8192x9728 : Shape := ⟨2, ![8192, 9728]⟩
abbrev S1024x9728 : Shape := ⟨2, ![1024, 9728]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x9728, .f32⟩
  | .hbm, ⟨1, _⟩ => ⟨S1024x9728, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x9728, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== InProj.lean ====
abbrev S8192x1024 : Shape := ⟨2, ![8192, 1024]⟩
abbrev S1024x9728 : Shape := ⟨2, ![1024, 9728]⟩
abbrev S8192x9728 : Shape := ⟨2, ![8192, 9728]⟩
abbrev S1024x1024 : Shape := ⟨2, ![1024, 1024]⟩
abbrev S1024x2432 : Shape := ⟨2, ![1024, 2432]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x9728, .f32⟩
  | .hbm, ⟨2, _⟩ => ⟨S8192x1024, .bf16⟩
  | .hbm, ⟨3, _⟩ => ⟨S1024x9728, .bf16⟩
  | .hbm, ⟨4, _⟩ => ⟨S8192x9728, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S8192x1024 : Shape := ⟨2, ![8192, 1024]⟩
abbrev S1024x9728 : Shape := ⟨2, ![1024, 9728]⟩
abbrev S8192x9728 : Shape := ⟨2, ![8192, 9728]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x9728, .f32⟩
  | .hbm, ⟨2, _⟩ => ⟨S8192x9728, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOut.lean ====
abbrev S8192x1024 : Shape := ⟨2, ![8192, 1024]⟩
abbrev S8192x4x64 : Shape := ⟨3, ![8192, 4, 64]⟩
abbrev S8192x4 : Shape := ⟨2, ![8192, 4]⟩
abbrev S256x1024 : Shape := ⟨2, ![256, 1024]⟩
abbrev S8192x9728 : Shape := ⟨2, ![8192, 9728]⟩
abbrev S2048 : Shape := ⟨1, ![2048]⟩
abbrev S1024x1024 : Shape := ⟨2, ![1024, 1024]⟩
abbrev S1024 : Shape := ⟨1, ![1024]⟩
abbrev S256x4x256 : Shape := ⟨3, ![256, 4, 256]⟩
abbrev S4x256x256 : Shape := ⟨3, ![4, 256, 256]⟩
abbrev S8192x256 : Shape := ⟨2, ![8192, 256]⟩
abbrev S8192x4x1 : Shape := ⟨3, ![8192, 4, 1]⟩
abbrev S1x2048 : Shape := ⟨2, ![1, 2048]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 37
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S8192x4, .f32⟩
  | .hbm, ⟨6, _⟩ => ⟨S8192x4, .f32⟩
  | .hbm, ⟨7, _⟩ => ⟨S256x1024, .f32⟩
  | .hbm, ⟨8, _⟩ => ⟨S8192x9728, .f32⟩
  | .hbm, ⟨9, _⟩ => ⟨S2048, .f32⟩
  | .hbm, ⟨10, _⟩ => ⟨S8192x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S256x1024, .bf16⟩
  | .hbm, ⟨15, _⟩ => ⟨S256x4x256, .bf16⟩
  | .hbm, ⟨16, _⟩ => ⟨S4x256x256, .bf16⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x4x1, .f32⟩
  | .hbm, ⟨21, _⟩ => ⟨S8192x4x64, .f32⟩
  | .hbm, ⟨22, _⟩ => ⟨S8192x256, .f32⟩
  | .hbm, ⟨23, _⟩ => ⟨S8192x4x1, .f32⟩
  | .hbm, ⟨24, _⟩ => ⟨S8192x4x64, .f32⟩
  | .hbm, ⟨25, _⟩ => ⟨S8192x256, .f32⟩
  | .hbm, ⟨26, _⟩ => ⟨S8192x4x1, .f32⟩
  | .hbm, ⟨27, _⟩ => ⟨S8192x4x64, .f32⟩
  | .hbm, ⟨28, _⟩ => ⟨S8192x256, .f32⟩
  | .hbm, ⟨29, _⟩ => ⟨S1x2048, .f32⟩
  | .hbm, ⟨30, _⟩ => ⟨S1024x1024, .bf16⟩
  | .hbm, ⟨31, _⟩ => ⟨S1x1024, .f32⟩
  | .hbm, ⟨32, _⟩ => ⟨S1x1024, .f32⟩
  | .hbm, ⟨33, _⟩ => ⟨S8192x256, .f32⟩
  | .hbm, ⟨34, _⟩ => ⟨S8192x1024, .bf16⟩
  | .hbm, ⟨35, _⟩ => ⟨S8192x1024, .f32⟩
  | .hbm, ⟨36, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S4x256x256, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S512x256, .f32⟩
  | .local _ .vmem, ⟨27, _⟩ => ⟨S512x256, .f32⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixOutRefIdeal.lean ====
abbrev S8192x1024 : Shape := ⟨2, ![8192, 1024]⟩
abbrev S8192x4x64 : Shape := ⟨3, ![8192, 4, 64]⟩
abbrev S8192x4 : Shape := ⟨2, ![8192, 4]⟩
abbrev S256x1024 : Shape := ⟨2, ![256, 1024]⟩
abbrev S8192x9728 : Shape := ⟨2, ![8192, 9728]⟩
abbrev S2048 : Shape := ⟨1, ![2048]⟩
abbrev S1024x1024 : Shape := ⟨2, ![1024, 1024]⟩
abbrev S1024 : Shape := ⟨1, ![1024]⟩
abbrev S1x8192x4 : Shape := ⟨3, ![1, 8192, 4]⟩
abbrev S3x8192x4 : Shape := ⟨3, ![3, 8192, 4]⟩
abbrev S_ : Shape := ⟨0, ![]⟩
abbrev S3x8192x4x1 : Shape := ⟨4, ![3, 8192, 4, 1]⟩
abbrev S1x8192x4x64 : Shape := ⟨4, ![1, 8192, 4, 64]⟩
abbrev S3x8192x4x64 : Shape := ⟨4, ![3, 8192, 4, 64]⟩
abbrev S8192x256 : Shape := ⟨2, ![8192, 256]⟩
abbrev S8192x2048 : Shape := ⟨2, ![8192, 2048]⟩
abbrev S1x2048 : Shape := ⟨2, ![1, 2048]⟩
abbrev S8192x2x1024 : Shape := ⟨3, ![8192, 2, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4x64, .f32⟩
  | .hbm, ⟨2, _⟩ => ⟨S8192x4x64, .f32⟩
  | .hbm, ⟨3, _⟩ => ⟨S8192x4x64, .f32⟩
  | .hbm, ⟨4, _⟩ => ⟨S8192x4, .f32⟩
  | .hbm, ⟨5, _⟩ => ⟨S8192x4, .f32⟩
  | .hbm, ⟨6, _⟩ => ⟨S8192x4, .f32⟩
  | .hbm, ⟨7, _⟩ => ⟨S256x1024, .f32⟩
  | .hbm, ⟨8, _⟩ => ⟨S8192x9728, .f32⟩
  | .hbm, ⟨9, _⟩ => ⟨S2048, .f32⟩
  | .hbm, ⟨10, _⟩ => ⟨S8192x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1x8192x4, .f32⟩
  | .hbm, ⟨15, _⟩ => ⟨S1x8192x4, .f32⟩
  | .hbm, ⟨16, _⟩ => ⟨S1x8192x4, .f32⟩
  | .hbm, ⟨17, _⟩ => ⟨S3x8192x4, .f32⟩
  | .hbm, ⟨18, _⟩ => ⟨S_, .f32⟩
  | .hbm, ⟨19, _⟩ => ⟨S8192x4, .f32⟩
  | .hbm, ⟨20, _⟩ => ⟨S_, .f32⟩
  | .hbm, ⟨21, _⟩ => ⟨S8192x4, .f32⟩
  | .hbm, ⟨22, _⟩ => ⟨S8192x4, .f32⟩
  | .hbm, ⟨23, _⟩ => ⟨S1x8192x4, .f32⟩
  | .hbm, ⟨24, _⟩ => ⟨S3x8192x4, .f32⟩
  | .hbm, ⟨25, _⟩ => ⟨S3x8192x4, .f32⟩
  | .hbm, ⟨26, _⟩ => ⟨S3x8192x4, .f32⟩
  | .hbm, ⟨27, _⟩ => ⟨S_, .f32⟩
  | .hbm, ⟨28, _⟩ => ⟨S8192x4, .f32⟩
  | .hbm, ⟨29, _⟩ => ⟨S1x8192x4, .f32⟩
  | .hbm, ⟨30, _⟩ => ⟨S3x8192x4, .f32⟩
  | .hbm, ⟨31, _⟩ => ⟨S3x8192x4, .f32⟩
  | .hbm, ⟨32, _⟩ => ⟨S3x8192x4x1, .f32⟩
  | .hbm, ⟨33, _⟩ => ⟨S1x8192x4x64, .f32⟩
  | .hbm, ⟨34, _⟩ => ⟨S1x8192x4x64, .f32⟩
  | .hbm, ⟨35, _⟩ => ⟨S1x8192x4x64, .f32⟩
  | .hbm, ⟨36, _⟩ => ⟨S3x8192x4x64, .f32⟩
  | .hbm, ⟨37, _⟩ => ⟨S3x8192x4x64, .f32⟩
  | .hbm, ⟨38, _⟩ => ⟨S3x8192x4x64, .f32⟩
  | .hbm, ⟨39, _⟩ => ⟨S_, .f32⟩
  | .hbm, ⟨40, _⟩ => ⟨S8192x4x64, .f32⟩
  | .hbm, ⟨41, _⟩ => ⟨S8192x256, .f32⟩
  | .hbm, ⟨42, _⟩ => ⟨S8192x1024, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x2x1024, .f32⟩
  | .hbm, ⟨56, _⟩ => ⟨S8192x1x1024, .f32⟩
  | .hbm, ⟨57, _⟩ => ⟨S8192x1024, .f32⟩
  | .hbm, ⟨58, _⟩ => ⟨S8192x1024, .f32⟩
  | .hbm, ⟨59, _⟩ => ⟨S8192x1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Proof.DUp.lean ====
module

public import proofs.«01_k».proof.Proof.Gen.DUpIdeal.Value
public import proofs.«01_k».proof.Proof.Gen.DUpRefIdeal.Read
public import Idealize.ShloMosaic.Lib.Pipeline.ValueKit

@[expose] public section

set_option maxRecDepth 16384

noncomputable section

namespace Cert.Proof.DUp

open Idealize.ShloMosaic Idealize.ShloMosaic.TcCoe Idealize.SL.Sem
open Idealize.ShloMosaic.Pipeline (Dat)
open Cert.DUpIdeal Cert.DUpIdeal.Gen

variable (m : (ℓ : Loc nD τ sig) → Buf (Elt Ideal) ℓ)

/-- The index maps of the four windows, in closed form. -/
theorem idx : ∀ t : Fin cfg0.N,
    win0_0.index t = ![(grid0.coords t 1).val, 0] ∧ win0_1.index t = ![(grid0.coords t 0).val, 0]
      ∧ win0_2.index t = ![(grid0.coords t 1).val, (grid0.coords t 0).val]
      ∧ win0_3.index t = ![(grid0.coords t 1).val, (grid0.coords t 0).val] :=
  (by decide +kernel : ∀ t : Fin grid0.N, _)

/-- The cotangent enters the call as launched: its rounding to the narrow format is the identity here. -/
theorem entry_ct (c : Dev nD) : V m c main_v4 = m ((c : Thread nD τ).loc main_arg3) := by
  entry_read
  funext i
  pointwise

/-- The down weight enters the call as launched. -/
theorem entry_w (c : Dev nD) : V m c main_v5 = m ((c : Thread nD τ).loc main_arg2) := by
  entry_read
  funext i
  pointwise

/-- The saved pre-activation enters the call as the product of the normed input and the up weight. -/
theorem entry_up (c : Dev nD) : V m c main_v3
    = Cert.DUpRefIdeal.Read.val_main_v0 (F := Ideal) (m ((c : Thread nD τ).loc main_arg0)) (m ((c : Thread nD τ).loc main_arg1)) := by
  entry_read
  funext i
  rw [Cert.DUpRefIdeal.Read.val_main_v0_apply]
  pointwise
  blk_point []

/-- Doubling before or after the product with the clipped value is the same, and where the value is not positive both are zero. -/
theorem square_relu_grad (s two u : EReal) :
    s * two * max u 0 = if 0 < u then s * (two * max u 0) else 0 := by
  split
  · exact mul_assoc _ _ _
  · rename_i h
    rw [max_eq_right (not_lt.mp h), mul_zero]

/-- What the reference leaves at an index, over the product of the cotangent and the down weight and the pre-activation. -/
theorem ref_at (x0 x1 x2 x3) (i : Cert.DUpRefIdeal.S8192x4096.Idx) :
    Cert.DUpRefIdeal.Read.val_main_v13 (F := Ideal) x0 x1 x2 x3 i
      = (∑ k : Fin 1024, x3 (ix2 (i 0) k) * x2 (ix2 (i 1) k)) * Ideal.ofBits FTy.f32 1073741824#32
        * max (Cert.DUpRefIdeal.Read.val_main_v0 (F := Ideal) x0 x1 i) 0 := by
  rw [square_relu_grad]
  simp only [Cert.DUpRefIdeal.Read.val_main_v13_apply, Cert.DUpRefIdeal.Read.val_main_v12_apply, Cert.DUpRefIdeal.Read.val_main_v11_apply, Cert.DUpRefIdeal.Read.val_main_v10_apply, Cert.DUpRefIdeal.Read.val_main_v9_apply, Cert.DUpRefIdeal.Read.val_main_v7_apply, Cert.DUpRefIdeal.Read.val_main_v6_apply, Cert.DUpRefIdeal.Read.val_main_v3_apply, Cert.DUpRefIdeal.Read.val_main_v2_apply, Cert.DUpRefIdeal.Read.val_main_v1_apply, Cert.DUpRefIdeal.Read.val_main_call0_v0_apply, Cert.DUpRefIdeal.Read.val_main_call0_cst_apply, Cert.DUpRefIdeal.Read.val_main_cst_apply, Cert.DUpRefIdeal.Read.val_main_cst_1_apply, Cert.DUpRefIdeal.Read.val_main_cst_2_apply]
  generalize Cert.DUpRefIdeal.Read.val_main_v0 (F := Ideal) x0 x1 i = u
  pointwise
  blk_point []

set_option backward.isDefEq.respectTransparency false in
/-- What the body stores at an index of its block is the reference's value at the index of the array the block puts it at. -/
theorem point (c : Dev nD) (t : Fin cfg0.N) (y) :
    k0_pay1 (iblk m c 0 t) (iblk m c 1 t) (iblk m c 2 t) y
      = Cert.DUpRefIdeal.Read.val_main_v13 (F := Ideal) (m ((c : Thread nD τ).loc main_arg0)) (m ((c : Thread nD τ).loc main_arg1)) (m ((c : Thread nD τ).loc main_arg2)) (m ((c : Thread nD τ).loc main_arg3)) (((cfg0.win 3).blk t).view.emb y) := by
  rw [ref_at, ← entry_up m c, ← entry_ct m c, ← entry_w m c]
  pointwise [k0_pay1]
  blk_point [iblk, idx t]

/-- The result array after the run is the reference's term over the kernel's arguments. -/
theorem final (c : Dev nD) : (dats m 0 c).arrAt 3 cfg0.N
    = Cert.DUpRefIdeal.Read.val_main_v13 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  frame_out
  exact point m c t y

end Cert.Proof.DUp
end
-- ==== Proof.SoftRow.lean ====
module
public import Idealize.ShloMosaic.PureOps.Ideal
public import Mathlib.Analysis.SpecialFunctions.Log.Basic
@[expose] public section
noncomputable section

/-! One row of a softmax over the entries where `c` holds, in real numbers, and what the exact arithmetic on extended
reals makes of it when the other entries are `-∞`. -/
namespace Cert.Proof.SoftRow
open Idealize.ShloMosaic

/-- A finite sum of reals, read as extended reals term by term. -/
theorem coe_sum {ι : Type} (S : Finset ι) (f : ι → ℝ) : ((∑ j ∈ S, f j : ℝ) : EReal) = ∑ j ∈ S, (f j : EReal) := by
  classical
  induction S using Finset.induction_on with
  | empty => simp
  | insert a S h ih => rw [Finset.sum_insert h, Finset.sum_insert h, EReal.coe_add, ih]

variable {ι β : Type} [Fintype ι] [Fintype β] (c : ι → Prop) [DecidablePred c] (s : ι → ℝ)

/-- The weight of an entry before the row is normalised. -/
def wgt (j : ι) : ℝ := if c j then Real.exp (s j) else 0

/-- The row's denominator. -/
def den : ℝ := ∑ j, wgt c s j

/-- The softmax of the row. -/
def prob (j : ι) : ℝ := wgt c s j / den c s

/-- What the gradient adds to `do · v`: the cotangent of the row's log-denominator less the row sum of `do · o`. -/
def corr (v : ι → β → ℝ) (g : β → ℝ) (d : ℝ) : ℝ := d - ∑ b, g b * ∑ j, prob c s j * v j b

/-- The masked score. -/
def msk (j : ι) : EReal := if c j then (s j : EReal) else ⊥

/-- The row's largest masked score. -/
def top : EReal := Finset.univ.fold max ⊥ (msk c s)

omit [Fintype ι] in
theorem fold_or (S : Finset ι) : S.fold max ⊥ (msk c s) = ⊥ ∨ ∃ j, c j ∧ S.fold max ⊥ (msk c s) = (s j : EReal) := by
  classical
  induction S using Finset.induction_on with
  | empty => exact Or.inl (Finset.fold_empty ..)
  | insert a S h ih =>
    rw [Finset.fold_insert h]
    rcases le_total (S.fold max ⊥ (msk c s)) (msk c s a) with hl | hl
    · rw [max_eq_left hl]
      by_cases ha : c a
      · exact Or.inr ⟨a, ha, by simp [msk, ha]⟩
      · exact Or.inl (by simp [msk, ha])
    · rw [max_eq_right hl]; exact ih

variable (hc : ∃ j, c j)
include hc

theorem top_real : ∃ j, c j ∧ top c s = (s j : EReal) := by
  rcases fold_or c s Finset.univ with h | h
  · obtain ⟨j, hj⟩ := hc
    have : msk c s j ≤ Finset.univ.fold max ⊥ (msk c s) := by
      rw [Finset.le_fold_max]; exact Or.inr ⟨j, Finset.mem_univ _, le_rfl⟩
    rw [h, msk, if_pos hj] at this
    exact absurd (le_bot_iff.mp this) (EReal.coe_ne_bot _)
  · exact h

theorem den_pos : 0 < den c s := by
  obtain ⟨j, hj⟩ := hc
  refine Finset.sum_pos' (fun i _ => ?_) ⟨j, Finset.mem_univ _, ?_⟩
  · unfold wgt; split
    · exact (Real.exp_pos _).le
    · exact le_rfl
  · simp only [wgt, if_pos hj]; exact Real.exp_pos _

omit hc in
/-- The exponential of a masked score less a real. -/
theorem exp_msk (M : ℝ) (j : ι) : Ideal.exp (msk c s j - (M : EReal)) = ((wgt c s j * Real.exp (-M) : ℝ) : EReal) := by
  unfold msk wgt
  split
  · rw [← EReal.coe_sub, Ideal.exp_coe, sub_eq_add_neg, Real.exp_add]
  · rw [EReal.bot_sub, Ideal.exp_bot, zero_mul, EReal.coe_zero]

omit hc in
theorem sum_exp (M : ℝ) : ∑ j, Ideal.exp (msk c s j - (M : EReal)) = ((den c s * Real.exp (-M) : ℝ) : EReal) := by
  simp only [exp_msk, ← coe_sum, den, Finset.sum_mul]

/-- The log-denominator, as the largest score and the logarithm of the shifted sum give it. -/
theorem lse_eq : top c s + Ideal.log (∑ j, Ideal.exp (msk c s j - top c s)) = (Real.log (den c s) : EReal) := by
  obtain ⟨j, _, hj⟩ := top_real c s hc
  have hd := den_pos c s hc
  rw [hj, sum_exp, Ideal.log_coe, if_neg (not_le.mpr (mul_pos hd (Real.exp_pos _))), ← EReal.coe_add,
    Real.log_mul hd.ne' (Real.exp_pos _).ne', Real.log_exp]
  congr 1; ring

/-- The forward value: the weighted sum of `v`, divided by the row's sum. -/
theorem out_eq (v : ι → ℝ) : Ideal.div (∑ j, Ideal.exp (msk c s j - top c s) * (v j : EReal)) (∑ j, Ideal.exp (msk c s j - top c s))
    = ((∑ j, prob c s j * v j : ℝ) : EReal) := by
  obtain ⟨j, _, hj⟩ := top_real c s hc
  have hd := den_pos c s hc
  have he := Real.exp_pos (-(s j))
  rw [hj, sum_exp, Ideal.div_coe (mul_pos hd he).ne']
  simp only [exp_msk, ← EReal.coe_mul, ← coe_sum]
  congr 1
  rw [Finset.sum_mul]
  refine Finset.sum_congr rfl fun i _ => ?_
  unfold prob; field_simp

/-- The cotangent that is added to `do · v`. -/
theorem corr_eq (v : ι → β → ℝ) (g : β → ℝ) (d : ℝ) :
    (d : EReal) - ∑ b, (g b : EReal) * Ideal.div (∑ j, Ideal.exp (msk c s j - top c s) * (v j b : EReal)) (∑ j, Ideal.exp (msk c s j - top c s))
      = (corr c s v g d : EReal) := by
  simp only [out_eq c s hc, ← EReal.coe_mul, ← coe_sum, ← EReal.coe_sub, corr]

/-- A probability, from a score and the log-denominator. -/
theorem exp_lse (j : ι) : Ideal.exp (msk c s j - (Real.log (den c s) : EReal)) = (prob c s j : EReal) := by
  rw [exp_msk, Real.exp_neg, Real.exp_log (den_pos c s hc)]; rfl

theorem sum_prob : ∑ j, prob c s j = 1 := by
  simp only [prob, ← Finset.sum_div]; exact div_self (den_pos c s hc).ne'

/-- The cotangents of the scores, weighted by the row, sum to the cotangent of the log-denominator. -/
theorem sum_dscore (v : ι → β → ℝ) (g : β → ℝ) (d : ℝ) :
    ∑ j, prob c s j * (∑ b, g b * v j b + corr c s v g d) = d := by
  simp only [mul_add, Finset.sum_add_distrib, ← Finset.sum_mul, sum_prob c s hc, one_mul]
  have : ∑ j, prob c s j * ∑ b, g b * v j b = ∑ b, g b * ∑ j, prob c s j * v j b := by
    simp only [Finset.mul_sum]; rw [Finset.sum_comm]
    refine Finset.sum_congr rfl fun b _ => Finset.sum_congr rfl fun j _ => by ring
  rw [this, corr]; ring

/-- The reference's cotangent of a score before the largest score's own share. -/
theorem dscore_eq (v : ι → β → ℝ) (g : β → ℝ) (d : ℝ) (j : ι) :
    (∑ b, Ideal.div (g b : EReal) (∑ j, Ideal.exp (msk c s j - top c s)) * (v j b : EReal)
      + (Ideal.div (d : EReal) (∑ j, Ideal.exp (msk c s j - top c s))
        + -(∑ b, (g b : EReal) * Ideal.div 1 ((∑ j, Ideal.exp (msk c s j - top c s)) * (∑ j, Ideal.exp (msk c s j - top c s)))
            * ∑ j, Ideal.exp (msk c s j - top c s) * (v j b : EReal))))
      * Ideal.exp (msk c s j - top c s)
    = ((prob c s j * (∑ b, g b * v j b + corr c s v g d) : ℝ) : EReal) := by
  obtain ⟨k, _, hk⟩ := top_real c s hc
  have hd := den_pos c s hc
  have he := Real.exp_pos (-(s k))
  rw [hk, sum_exp, ← EReal.coe_mul, Ideal.div_coe (mul_pos (mul_pos hd he) (mul_pos hd he)).ne']
  simp only [Ideal.div_coe (mul_pos hd he).ne', exp_msk, ← EReal.coe_mul, ← coe_sum, ← EReal.coe_add, ← EReal.coe_neg, one_mul]
  congr 1
  have h1 : ∀ b, ∑ j, wgt c s j * Real.exp (-(s k)) * v j b = den c s * Real.exp (-(s k)) * ∑ j, prob c s j * v j b := fun b => by
    rw [Finset.mul_sum]; refine Finset.sum_congr rfl fun i _ => ?_
    unfold prob; field_simp
  simp only [h1, corr]
  have h2 : ∑ b, g b * (1 / (den c s * Real.exp (-(s k)) * (den c s * Real.exp (-(s k))))) * (den c s * Real.exp (-(s k)) * ∑ j, prob c s j * v j b)
      = (1 / (den c s * Real.exp (-(s k)))) * ∑ b, g b * ∑ j, prob c s j * v j b := by
    rw [Finset.mul_sum]; refine Finset.sum_congr rfl fun i _ => ?_
    field_simp
  have h3 : ∑ b, g b * (1 / (den c s * Real.exp (-(s k)))) * v j b = (1 / (den c s * Real.exp (-(s k)))) * ∑ b, g b * v j b := by
    rw [Finset.mul_sum]; refine Finset.sum_congr rfl fun i _ => ?_
    ring
  rw [h2, h3]
  unfold prob
  field_simp
  ring

/-- The share that the largest score would get is zero: its cotangent is, and some entry attains it. -/
theorem dtop_eq (T : ι → ℝ) (d : ℝ) (hT : ∑ j, T j = d) (u : ι → EReal) (hu : ∀ j, u j = if msk c s j = top c s then 1 else 0) :
    Ideal.div ((d : EReal) + ∑ j, -(T j : EReal)) (∑ j, u j) = 0 := by
  have h0 : (d : EReal) + ∑ j, -(T j : EReal) = 0 := by
    simp only [← EReal.coe_neg, ← coe_sum, ← EReal.coe_add, Finset.sum_neg_distrib, hT, add_neg_cancel, EReal.coe_zero]
  obtain ⟨k, hk, hk'⟩ := top_real c s hc
  have h1 : (∑ j, u j : EReal) ≠ 0 := by
    have hge : ∀ j, 0 ≤ u j := fun j => by rw [hu]; split <;> simp
    have : u k ≤ ∑ j, u j := Finset.single_le_sum (f := u) (fun j _ => hge j) (Finset.mem_univ k)
    rw [hu, if_pos (by rw [hk', msk, if_pos hk])] at this
    intro h; rw [h] at this; exact absurd this (by norm_num)
  rw [h0, Ideal.div, if_neg h1, zero_mul]

end Cert.Proof.SoftRow
end
-- ==== Proof.Band.lean ====
module
public import proofs.«01_k».proof.Proof.SoftRow
@[expose] public section
noncomputable section
/-! The banded attention of one head over the positions of one residue, in the reals, and its gradients: the functions that
both programs compute. A row of the programs sees a window of keys; the entries of the window that are masked in are the
positions near the row's. -/
namespace Cert.Proof.Band
open Idealize.ShloMosaic

variable (N : ℕ) (sl : ℝ) (q k v g : ℕ → Fin 64 → ℝ) (d : ℕ → ℝ)

/-- Two positions that attend to each other. -/
abbrev near (t s : ℕ) : Prop := t ≤ s + 64 ∧ s ≤ t + 64

/-- The score of a pair of positions. -/
def score (t s : ℕ) : ℝ := (∑ a, q t a * k s a) * (1 / 8) - sl * |(t : ℝ) - s|

/-- The weight of a pair before the row is normalised. -/
def wt (t s : ℕ) : ℝ := if near t s then Real.exp (score sl q k t s) else 0

/-- A row's denominator. -/
def Z (t : ℕ) : ℝ := ∑ s ∈ Finset.range N, wt sl q k t s

/-- The softmax. -/
def pr (t s : ℕ) : ℝ := wt sl q k t s / Z N sl q k t

/-- What a row adds to `do · v`. -/
def ee (t : ℕ) : ℝ := d t - ∑ b, g t b * ∑ s ∈ Finset.range N, pr N sl q k t s * v s b

/-- The cotangent of a score. -/
def ds (t s : ℕ) : ℝ := pr N sl q k t s * (∑ b, g t b * v s b + ee N sl q k v g d t)

/-- The queries' gradient. -/
def dq (t : ℕ) (a : Fin 64) : ℝ := (∑ s ∈ Finset.range N, ds N sl q k v g d t s * k s a) * (1 / 8)

/-- The keys' gradient. -/
def dk (s : ℕ) (a : Fin 64) : ℝ := (∑ t ∈ Finset.range N, ds N sl q k v g d t s * q t a) * (1 / 8)

/-- The values' gradient. -/
def dv (s : ℕ) (b : Fin 64) : ℝ := ∑ t ∈ Finset.range N, pr N sl q k t s * g t b

/-- The entries of a window that starts 64 positions before `o` which are positions near `t`. -/
abbrev inWin (o t : ℕ) {W : ℕ} (j : Fin W) : Prop := 64 ≤ o + j ∧ o + j < N + 64 ∧ t ≤ o + j ∧ o + j ≤ t + 128

/-- A sum over a window's masked entries is the sum over the positions near `t`. -/
theorem band {W : ℕ} (o t : ℕ) (h₁ : o ≤ t) (h₂ : t + 128 < o + W) (F : ℕ → ℝ) :
    (∑ j : Fin W, if inWin N o t j then F (o + j - 64) else 0) = ∑ s ∈ Finset.range N, if near t s then F s else 0 := by
  rw [← Finset.sum_filter, ← Finset.sum_filter]
  refine Finset.sum_bij (fun j _ => o + j.val - 64) ?_ ?_ ?_ ?_
  · intro j hj
    simp only [Finset.mem_filter, Finset.mem_univ, true_and, Finset.mem_range] at hj ⊢
    omega
  · intro j hj j' hj' he
    simp only [Finset.mem_filter, Finset.mem_univ, true_and] at hj hj'
    apply Fin.ext; omega
  · intro s hs
    simp only [Finset.mem_filter, Finset.mem_range] at hs
    refine ⟨⟨s + 64 - o, by omega⟩, ?_, ?_⟩
    · simp only [Finset.mem_filter, Finset.mem_univ, true_and]
      show 64 ≤ o + (s + 64 - o) ∧ o + (s + 64 - o) < N + 64 ∧ t ≤ o + (s + 64 - o) ∧ o + (s + 64 - o) ≤ t + 128
      omega
    · show o + (s + 64 - o) - 64 = s; omega
  · intro j _; rfl

theorem wt_far {t s : ℕ} (h : ¬ near t s) : wt sl q k t s = 0 := if_neg h
theorem pr_far {t s : ℕ} (h : ¬ near t s) : pr N sl q k t s = 0 := by rw [pr, wt_far _ _ _ h, zero_div]
theorem ds_far {t s : ℕ} (h : ¬ near t s) : ds N sl q k v g d t s = 0 := by rw [ds, pr_far _ _ _ _ h, zero_mul]

/-- A sum over positions of what vanishes away from `t`. -/
theorem band' {W : ℕ} (o t : ℕ) (h₁ : o ≤ t) (h₂ : t + 128 < o + W) (F : ℕ → ℝ) (hF : ∀ s, ¬ near t s → F s = 0) :
    (∑ j : Fin W, if inWin N o t j then F (o + j - 64) else 0) = ∑ s ∈ Finset.range N, F s := by
  rw [band N o t h₁ h₂]
  refine Finset.sum_congr rfl fun s _ => ?_
  split
  · rfl
  · rename_i h; exact (hF s h).symm

section Row
variable {W : ℕ} (o t : ℕ) (h₁ : o ≤ t) (h₂ : t + 128 < o + W) (ht : t < N)

/-- The scores of a row over its window. -/
abbrev sc (W : ℕ) (o t : ℕ) (j : Fin W) : ℝ := score sl q k t (o + j - 64)

include h₁ h₂ ht in
theorem some_in : ∃ j : Fin W, inWin N o t j := ⟨⟨t + 64 - o, by omega⟩,
  show 64 ≤ o + (t + 64 - o) ∧ o + (t + 64 - o) < N + 64 ∧ t ≤ o + (t + 64 - o) ∧ o + (t + 64 - o) ≤ t + 128 by omega⟩

theorem wgt_eq (j : Fin W) : SoftRow.wgt (inWin N o t (W := W)) (sc sl q k W o t) j = if inWin N o t j then wt sl q k t (o + j - 64) else 0 := by
  unfold SoftRow.wgt wt
  by_cases h : inWin N o t j
  · rw [if_pos h, if_pos h, if_pos (by omega)]
  · rw [if_neg h, if_neg h]

include h₁ h₂ in
theorem den_eq : SoftRow.den (inWin N o t (W := W)) (sc sl q k W o t) = Z N sl q k t := by
  unfold SoftRow.den Z
  simp only [wgt_eq]
  exact band' N o t h₁ h₂ _ fun s h => wt_far sl q k h

include h₁ h₂ in
theorem prob_eq (j : Fin W) : SoftRow.prob (inWin N o t (W := W)) (sc sl q k W o t) j = if inWin N o t j then pr N sl q k t (o + j - 64) else 0 := by
  unfold SoftRow.prob pr
  rw [wgt_eq, den_eq N sl q k o t h₁ h₂]
  split
  · rfl
  · rw [zero_div]

include h₁ h₂ in
/-- A row's softmax against any values that agree with a function of the position on the masked entries. -/
theorem sum_prob_mul (u : Fin W → ℝ) (f : ℕ → ℝ) (hu : ∀ j, inWin N o t j → u j = f (o + j - 64)) :
    ∑ j, SoftRow.prob (inWin N o t (W := W)) (sc sl q k W o t) j * u j = ∑ s ∈ Finset.range N, pr N sl q k t s * f s := by
  rw [← band' N o t h₁ h₂ (fun s => pr N sl q k t s * f s) fun s h => by rw [pr_far N sl q k h, zero_mul]]
  refine Finset.sum_congr rfl fun j _ => ?_
  rw [prob_eq N sl q k o t h₁ h₂]
  split
  · rename_i h; rw [hu j h]
  · rw [zero_mul]

include h₁ h₂ in
theorem corr_eq (vw : Fin W → Fin 64 → ℝ) (hv : ∀ j b, inWin N o t j → vw j b = v (o + j - 64) b) :
    SoftRow.corr (inWin N o t (W := W)) (sc sl q k W o t) vw (g t) (d t) = ee N sl q k v g d t := by
  unfold SoftRow.corr ee
  congr 1
  refine Finset.sum_congr rfl fun b _ => ?_
  rw [sum_prob_mul N sl q k o t h₁ h₂ (fun j => vw j b) (fun s => v s b) fun j h => hv j b h]

include h₁ h₂ in
/-- The gradient of a row, summed over its window against the keys. -/
theorem sum_ds (kw : Fin W → ℝ) (x : Fin W → ℝ) (f : ℕ → ℝ) (hk : ∀ j, inWin N o t j → kw j = f (o + j - 64))
    (hx : ∀ j, inWin N o t j → x j = ∑ b, g t b * v (o + j - 64) b + ee N sl q k v g d t) :
    ∑ j, SoftRow.prob (inWin N o t (W := W)) (sc sl q k W o t) j * x j * kw j = ∑ s ∈ Finset.range N, ds N sl q k v g d t s * f s := by
  rw [← band' N o t h₁ h₂ (fun s => ds N sl q k v g d t s * f s) fun s h => by rw [ds_far N sl q k v g d h, zero_mul]]
  refine Finset.sum_congr rfl fun j _ => ?_
  rw [prob_eq N sl q k o t h₁ h₂]
  split
  · rename_i h; rw [hk j h, hx j h]; rfl
  · rw [zero_mul, zero_mul]

theorem Z_pos (ht : t < N) : 0 < Z N sl q k t := by
  rw [← den_eq (W := 129) N sl q k t t le_rfl (by omega)]
  exact SoftRow.den_pos _ _ (some_in N t t le_rfl (by omega) ht)

include h₁ h₂ ht in
/-- The sum over a row's window that the kernel takes: the masked scores less the row's log-denominator, exponentiated, times
the bracket, times the keys. Only the masked entries of the arrays matter. -/
theorem kernel_row (M D K : Fin W → EReal) (f : ℕ → ℝ)
    (hM : ∀ j, M j = SoftRow.msk (inWin N o t (W := W)) (sc sl q k W o t) j)
    (hD : ∀ j, inWin N o t j → D j = ((∑ b, g t b * v (o + j - 64) b : ℝ) : EReal))
    (hK : ∀ j, inWin N o t j → K j = (f (o + j - 64) : EReal)) :
    ∑ j, Ideal.exp (M j - (Real.log (Z N sl q k t) : EReal)) * (D j + (ee N sl q k v g d t : EReal)) * K j
      = ((∑ s ∈ Finset.range N, ds N sl q k v g d t s * f s : ℝ) : EReal) := by
  rw [← band' N o t h₁ h₂ (fun s => ds N sl q k v g d t s * f s) fun s h => by rw [ds_far N sl q k v g d h, zero_mul],
    SoftRow.coe_sum]
  refine Finset.sum_congr rfl fun j _ => ?_
  rw [hM, ← den_eq N sl q k o t h₁ h₂, SoftRow.exp_lse _ _ (some_in N o t h₁ h₂ ht), prob_eq N sl q k o t h₁ h₂]
  split
  · rename_i h
    rw [hD j h, hK j h, ← EReal.coe_add, ← EReal.coe_mul, ← EReal.coe_mul]; rfl
  · rw [EReal.coe_zero, zero_mul, zero_mul]
end Row
end Cert.Proof.Band
end
-- ==== Proof.Words.lean ====
module
public import Idealize.ShloMosaic.Lib.Pipeline.ValueKit
public import Idealize.ShloMosaic.Lib.WordCmp
@[expose] public section
noncomputable section
/-! Thirty-two bit words that hold small integers: every operation on them is the integer one. -/
namespace Cert.Proof.Words
open Idealize.ShloMosaic

/-- The word that holds an integer. -/
abbrev w (z : ℤ) : BitVec 32 := BitVec.ofInt 32 z

theorem ofNat_w (n : ℕ) : BitVec.ofNat 32 n = w (n : ℤ) := (BitVec.ofInt_natCast 32 n).symm

theorem toInt_w (z : ℤ) (h₁ : -2147483648 ≤ z) (h₂ : z < 2147483648) : (w z).toInt = z := by
  rw [w, BitVec.toInt_ofInt]
  exact Int.bmod_eq_of_le (by norm_num; omega) (by norm_num; omega)

theorem addi_w (a b : ℤ) : IntOp.addi (w a) (w b) = w (a + b) := (BitVec.ofInt_add a b).symm
theorem muli_w (a b : ℤ) : IntOp.muli (w a) (w b) = w (a * b) := (BitVec.ofInt_mul a b).symm
theorem subi_w (a b : ℤ) : IntOp.subi (w a) (w b) = w (a - b) := by
  show w a - w b = w (a - b)
  apply BitVec.eq_of_toInt_eq
  simp only [w, BitVec.toInt_sub, BitVec.toInt_ofInt, Int.bmod_sub_bmod, Int.sub_bmod_bmod]

theorem absi_w (z : ℤ) (h₁ : -2147483648 < z) (h₂ : z < 2147483648) : IntOp.absi (w z) = w |z| := by
  unfold IntOp.absi
  rw [BitVec.msb_eq_toInt, toInt_w z (by omega) h₂]
  by_cases hz : z < 0
  · rw [if_pos (by simpa using hz), abs_of_neg hz]
    exact (BitVec.ofInt_neg).symm
  · rw [if_neg (by simpa using hz), abs_of_nonneg (by omega)]

theorem sle_w (a b : ℤ) (ha : -2147483648 ≤ a) (ha' : a < 2147483648) (hb : -2147483648 ≤ b) (hb' : b < 2147483648) :
    IntOp.cmpi .sle (w a) (w b) = BitVec.ofBool (decide (a ≤ b)) := by
  rw [WordCmp.cmpi_sle_eq, toInt_w a ha ha', toInt_w b hb hb']
theorem slt_w (a b : ℤ) (ha : -2147483648 ≤ a) (ha' : a < 2147483648) (hb : -2147483648 ≤ b) (hb' : b < 2147483648) :
    IntOp.cmpi .slt (w a) (w b) = BitVec.ofBool (decide (a < b)) := by
  rw [WordCmp.cmpi_slt_eq, toInt_w a ha ha', toInt_w b hb hb']
theorem sge_w (a b : ℤ) (ha : -2147483648 ≤ a) (ha' : a < 2147483648) (hb : -2147483648 ≤ b) (hb' : b < 2147483648) :
    IntOp.cmpi .sge (w a) (w b) = BitVec.ofBool (decide (b ≤ a)) := by
  rw [WordCmp.cmpi_sge_eq, toInt_w a ha ha', toInt_w b hb hb']
theorem sitofp_w (z : ℤ) (h₁ : -2147483648 ≤ z) (h₂ : z < 2147483648) :
    (FloatOps.sitofp (F := Ideal) .f32 (w z) : EReal) = ((z : ℝ) : EReal) := by
  show (((w z).toInt : ℝ) : EReal) = _
  rw [toInt_w z h₁ h₂]

theorem andi_bool (p q : Bool) : IntOp.andi (BitVec.ofBool p) (BitVec.ofBool q) = BitVec.ofBool (p && q) := by
  cases p <;> cases q <;> rfl

theorem select_bool {α : Type} (p : Bool) (a b : α) : Scalar.select (BitVec.ofBool p) a b = if p then a else b := by
  cases p <;> rfl
end Cert.Proof.Words
end
-- ==== Proof.Slopes.lean ====
module
public import proofs.«01_k».proof.Proof.Words
public import proofs.«01_k».proof.Proof.Band
@[expose] public section
noncomputable section
/-! The attention's constants, and its mask over 32-bit words. -/
namespace Cert.Proof.Slopes
open Idealize.ShloMosaic Cert.Proof.Words

/-- The slopes of the first group's heads, as they are written. -/
def bits0 : Fin 4 → BitVec 32 := ![0x3F214518#32, 0x3ECB2FF5#32, 0x3E800000#32, 0x3E214518#32]

/-- The slopes of the first group's heads. -/
def sl0 (h : Fin 4) : ℝ := (Ideal.ofBits .f32 (bits0 h)).toReal

theorem slope0 (h : Fin 4) : Ideal.ofBits .f32 (bits0 h) = (sl0 h : EReal) := by
  unfold sl0
  refine (EReal.coe_toReal ?_ ?_).symm <;> fin_cases h <;>
    simp [bits0, Ideal.ofBits, Ideal.ieee, -EReal.coe_mul, -EReal.coe_add]

theorem eighth : Ideal.ofBits .f32 0x3E000000#32 = ((1 / 8 : ℝ) : EReal) := by
  simp [Ideal.ofBits, Ideal.ieee, -EReal.coe_mul]; norm_num

theorem bot : Ideal.ofBits .f32 0xFF800000#32 = ⊥ := by
  simp [Ideal.ofBits, Ideal.ieee]

/-- The host lines' mask is the band. -/
theorem valid (L n r j : ℕ) (hL : L ≤ 8192) (hn : n < 128) (hr : r < 64) (hj : j < 192) :
    IntOp.andi (IntOp.andi (IntOp.cmpi CmpIPredicate.sle (IntOp.absi (IntOp.subi (IntOp.subi (BitVec.ofNat 32 j) 64#32) (BitVec.ofNat 32 r))) 64#32)
      (IntOp.cmpi CmpIPredicate.sge (IntOp.addi (IntOp.muli (BitVec.ofNat 32 n) 64#32) (IntOp.subi (BitVec.ofNat 32 j) 64#32)) 0#32))
      (IntOp.cmpi CmpIPredicate.slt (IntOp.addi (IntOp.muli (BitVec.ofNat 32 n) 64#32) (IntOp.subi (BitVec.ofNat 32 j) 64#32)) (BitVec.ofNat 32 L))
    = BitVec.ofBool (decide (64 ≤ n * 64 + j ∧ n * 64 + j < L + 64 ∧ n * 64 + r ≤ n * 64 + j ∧ n * 64 + j ≤ n * 64 + r + 128)) := by
  have h₀ := abs_nonneg ((j : ℤ) - (64 : ℕ) - r)
  have h₁ : |(j : ℤ) - (64 : ℕ) - r| < 1024 := abs_lt.mpr (by constructor <;> omega)
  simp only [ofNat_w, subi_w, addi_w, muli_w]
  rw [absi_w _ (by omega) (by omega), sle_w _ _ (by omega) (by omega) (by omega) (by omega),
    sge_w _ _ (by omega) (by omega) (by omega) (by omega), slt_w _ _ (by omega) (by omega) (by omega) (by omega), andi_bool, andi_bool]
  congr 1
  simp only [← Bool.decide_and, decide_eq_decide, abs_le]
  push_cast
  omega

/-- The host lines' distance. -/
theorem dist (n r j : ℕ) (hr : r < 64) (hj : j < 192) (hv : 64 ≤ n * 64 + j) :
    (FloatOps.sitofp (F := Ideal) .f32 (IntOp.absi (IntOp.subi (IntOp.subi (BitVec.ofNat 32 j) 64#32) (BitVec.ofNat 32 r))) : EReal)
      = ((|((n * 64 + r : ℕ) : ℝ) - ((n * 64 + j - 64 : ℕ) : ℝ)| : ℝ) : EReal) := by
  have h₀ := abs_nonneg ((j : ℤ) - (64 : ℕ) - r)
  have h₁ : |(j : ℤ) - (64 : ℕ) - r| < 1024 := abs_lt.mpr (by constructor <;> omega)
  simp only [ofNat_w, subi_w]
  rw [absi_w _ (by omega) (by omega), sitofp_w _ (by omega) (by omega)]
  rw [Nat.cast_sub hv]
  push_cast
  rw [abs_sub_comm]
  congr 2; ring

end Cert.Proof.Slopes
end
-- ==== Proof.HDq0.lean ====
module
public import proofs.«01_k».proof.Proof.Gen.AttnDq0Ideal.Value
public import proofs.«01_k».proof.Proof.Band
public import proofs.«01_k».proof.Proof.Slopes
public import Idealize.ShloMosaic.Lib.Pipeline.ValueKit
public import Idealize.ShloMosaic.Lib.StableHlo.RunRead
@[expose] public section
set_option maxRecDepth 16384
noncomputable section
/-! What the host lines of the queries' gradient of the first group hand to the kernel: every array at an index. -/
namespace Cert.Proof.HDq0
open Idealize.ShloMosaic.StableHlo Idealize.ShloMosaic Idealize.ShloMosaic.TcCoe Idealize.SL.Sem
open Idealize.ShloMosaic.Pipeline (Dat)
open Cert.AttnDq0Ideal Cert.AttnDq0Ideal.Gen
variable (m : (ℓ : Loc nD τ sig) → Buf (Elt Ideal) ℓ) (c : Dev nD)

/-- A buffer after the host lines, by the buffers after the first `k` of them. -/
theorem split (k : ℕ) (b : Ref sig .tc) :
    V m c b = after (hostOps0.drop k) (after (hostOps0.take k) fun b => m (c, b)) (Proc.tc.devRef b) := by
  unfold V
  rw [← after_append, List.take_append_drop]

/-- The padded keys, in blocks of 64. -/
theorem v3_at (h : Fin 4) (n : Fin 130) (r a : Fin 64) :
    (V m c main_v3 (ix5 0 h n r a) : EReal) = if h_1 : 64 ≤ n.val * 64 + r.val ∧ n.val * 64 + r.val - 64 < 8192 then
      (m (c, Proc.tc.devRef main_arg1) (ix3 ⟨n.val * 64 + r.val - 64, h_1.2⟩ h a) : EReal) else (0 : EReal) := by
  unfold V
  after_reads_simp
  pointwise

/-- The padded values, in blocks of 64. -/
theorem v11_at (h : Fin 4) (n : Fin 130) (r a : Fin 64) :
    (V m c main_v11 (ix5 0 h n r a) : EReal) = if h_1 : 64 ≤ n.val * 64 + r.val ∧ n.val * 64 + r.val - 64 < 8192 then
      (m (c, Proc.tc.devRef main_arg2) (ix3 ⟨n.val * 64 + r.val - 64, h_1.2⟩ h a) : EReal) else (0 : EReal) := by
  unfold V
  after_reads_simp
  pointwise

theorem e4 : (V m c main_v4 : S1x4x128x64x64.Idx → EReal) = extractStridedSlice S1x4x128x64x64 ![0, 0, 0, 0, 0] (V m c main_v3 : S1x4x130x64x64.Idx → EReal) slices_S1x4x130x64x64_S1x4x128x64x64_0_0_0_0_0 := by
  unfold V; after_reads_simp
theorem e5 : (V m c main_v5 : S1x4x128x64x64.Idx → EReal) = extractStridedSlice S1x4x128x64x64 ![0, 0, 1, 0, 0] (V m c main_v3 : S1x4x130x64x64.Idx → EReal) slices_S1x4x130x64x64_S1x4x128x64x64_0_0_1_0_0 := by
  unfold V; after_reads_simp
theorem e6 : (V m c main_v6 : S1x4x128x64x64.Idx → EReal) = extractStridedSlice S1x4x128x64x64 ![0, 0, 2, 0, 0] (V m c main_v3 : S1x4x130x64x64.Idx → EReal) slices_S1x4x130x64x64_S1x4x128x64x64_0_0_2_0_0 := by
  unfold V; after_reads_simp
theorem e7 : (V m c main_v7 : S1x4x128x192x64.Idx → EReal) = concatenate S1x4x128x192x64 3 [⟨S1x4x128x64x64, V m c main_v4⟩, ⟨S1x4x128x64x64, V m c main_v5⟩, ⟨S1x4x128x64x64, V m c main_v6⟩] concatenates_S1x4x128x64x64_S1x4x128x64x64_S1x4x128x64x64_S1x4x128x192x64_d3 := by
  have h4 : upto hostOps0 (fun b => m (c, b)) 8 (Proc.tc.devRef main_v4) = V m c main_v4 := by unfold V; after_reads_simp
  have h5 : upto hostOps0 (fun b => m (c, b)) 8 (Proc.tc.devRef main_v5) = V m c main_v5 := by unfold V; after_reads_simp
  have h6 : upto hostOps0 (fun b => m (c, b)) 8 (Proc.tc.devRef main_v6) = V m c main_v6 := by unfold V; after_reads_simp
  rw [← h4, ← h5, ← h6]; unfold V; simp only [readAfter]; exact nary_result ..

theorem e12 : (V m c main_v12 : S1x4x128x64x64.Idx → EReal) = extractStridedSlice S1x4x128x64x64 ![0, 0, 0, 0, 0] (V m c main_v11 : S1x4x130x64x64.Idx → EReal) slices_S1x4x130x64x64_S1x4x128x64x64_0_0_0_0_0 := by
  unfold V; after_reads_simp
theorem e13 : (V m c main_v13 : S1x4x128x64x64.Idx → EReal) = extractStridedSlice S1x4x128x64x64 ![0, 0, 1, 0, 0] (V m c main_v11 : S1x4x130x64x64.Idx → EReal) slices_S1x4x130x64x64_S1x4x128x64x64_0_0_1_0_0 := by
  unfold V; after_reads_simp
theorem e14 : (V m c main_v14 : S1x4x128x64x64.Idx → EReal) = extractStridedSlice S1x4x128x64x64 ![0, 0, 2, 0, 0] (V m c main_v11 : S1x4x130x64x64.Idx → EReal) slices_S1x4x130x64x64_S1x4x128x64x64_0_0_2_0_0 := by
  unfold V; after_reads_simp
theorem e15 : (V m c main_v15 : S1x4x128x192x64.Idx → EReal) = concatenate S1x4x128x192x64 3 [⟨S1x4x128x64x64, V m c main_v12⟩, ⟨S1x4x128x64x64, V m c main_v13⟩, ⟨S1x4x128x64x64, V m c main_v14⟩] concatenates_S1x4x128x64x64_S1x4x128x64x64_S1x4x128x64x64_S1x4x128x192x64_d3 := by
  have h4 : upto hostOps0 (fun b => m (c, b)) 17 (Proc.tc.devRef main_v12) = V m c main_v12 := by unfold V; after_reads_simp
  have h5 : upto hostOps0 (fun b => m (c, b)) 17 (Proc.tc.devRef main_v13) = V m c main_v13 := by unfold V; after_reads_simp
  have h6 : upto hostOps0 (fun b => m (c, b)) 17 (Proc.tc.devRef main_v14) = V m c main_v14 := by unfold V; after_reads_simp
  rw [← h4, ← h5, ← h6]; unfold V; simp only [readAfter]; exact nary_result ..

theorem e95 : (V m c main_v95 : S8192x9728.Idx → EReal) = concatenate S8192x9728 1 [⟨S8192x7168, V m c main_v88⟩, ⟨S8192x128, V m c main_v89⟩, ⟨S8192x128, V m c main_v90⟩, ⟨S8192x128, V m c main_v91⟩, ⟨S8192x128, V m c main_v92⟩, ⟨S8192x1024, V m c main_v93⟩, ⟨S8192x256, V m c main_v85⟩, ⟨S8192x768, V m c main_v94⟩] concatenates_S8192x7168_S8192x128_S8192x128_S8192x128_S8192x128_S8192x1024_S8192x256_S8192x768_S8192x9728_d1 := by
  have h88 : upto hostOps0 (fun b => m (c, b)) 112 (Proc.tc.devRef main_v88) = V m c main_v88 := by unfold V; after_reads_simp
  have h89 : upto hostOps0 (fun b => m (c, b)) 112 (Proc.tc.devRef main_v89) = V m c main_v89 := by unfold V; after_reads_simp
  have h90 : upto hostOps0 (fun b => m (c, b)) 112 (Proc.tc.devRef main_v90) = V m c main_v90 := by unfold V; after_reads_simp
  have h91 : upto hostOps0 (fun b => m (c, b)) 112 (Proc.tc.devRef main_v91) = V m c main_v91 := by unfold V; after_reads_simp
  have h92 : upto hostOps0 (fun b => m (c, b)) 112 (Proc.tc.devRef main_v92) = V m c main_v92 := by unfold V; after_reads_simp
  have h93 : upto hostOps0 (fun b => m (c, b)) 112 (Proc.tc.devRef main_v93) = V m c main_v93 := by unfold V; after_reads_simp
  have h85 : upto hostOps0 (fun b => m (c, b)) 112 (Proc.tc.devRef main_v85) = V m c main_v85 := by unfold V; after_reads_simp
  have h94 : upto hostOps0 (fun b => m (c, b)) 112 (Proc.tc.devRef main_v94) = V m c main_v94 := by unfold V; after_reads_simp
  rw [← h88, ← h89, ← h90, ← h91, ← h92, ← h93, ← h85, ← h94]; unfold V; simp only [readAfter]; exact nary_result ..

section Pack
variable {a0 : S8192x7168.Idx → EReal} {a1 : S8192x128.Idx → EReal} {a2 : S8192x128.Idx → EReal} {a3 : S8192x128.Idx → EReal} {a4 : S8192x128.Idx → EReal} {a5 : S8192x1024.Idx → EReal} {a6 : S8192x256.Idx → EReal} {a7 : S8192x768.Idx → EReal}

/-- The packed projection at the columns of the queries. -/
theorem pack_q (t : Fin 8192) (l : Fin 256) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨8704 + l.val, by omega⟩) = a6 (ix2 t l) := by
  pointwise
  repeat first | rw [dif_neg (by omega)] | rw [dif_pos (by omega)]
  exact congrArg (fun x => a6 (ix2 t x)) (Fin.ext (by dsimp only; omega))

theorem pack_k0 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7168 + l.val, by omega⟩) = a1 (ix2 t l) := by
  pointwise
  repeat first | rw [dif_neg (by omega)] | rw [dif_pos (by omega)]

theorem pack_v0 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7296 + l.val, by omega⟩) = a2 (ix2 t l) := by
  pointwise
  repeat first | rw [dif_neg (by omega)] | rw [dif_pos (by omega)]
  exact congrArg (fun x => a2 (ix2 t x)) (Fin.ext (by dsimp only; omega))

theorem pack_k1 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7424 + l.val, by omega⟩) = a3 (ix2 t l) := by
  pointwise
  repeat first | rw [dif_neg (by omega)] | rw [dif_pos (by omega)]
  exact congrArg (fun x => a3 (ix2 t x)) (Fin.ext (by dsimp only; omega))

theorem pack_v1 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7552 + l.val, by omega⟩) = a4 (ix2 t l) := by
  pointwise
  repeat first | rw [dif_neg (by omega)] | rw [dif_pos (by omega)]
  exact congrArg (fun x => a4 (ix2 t x)) (Fin.ext (by dsimp only; omega))

end Pack

section Reals
variable (q k v g : Fin 4 → ℕ → Fin 64 → ℝ) (d : Fin 4 → ℕ → ℝ)
  (hq : ∀ t h a, (m (c, Proc.tc.devRef main_arg0) (ix3 t h a) : EReal) = (q h t.val a : EReal))
  (hk : ∀ t h a, (m (c, Proc.tc.devRef main_arg1) (ix3 t h a) : EReal) = (k h t.val a : EReal))
  (hv : ∀ t h a, (m (c, Proc.tc.devRef main_arg2) (ix3 t h a) : EReal) = (v h t.val a : EReal))
  (hg : ∀ t h a, (m (c, Proc.tc.devRef main_arg3) (ix3 t h a) : EReal) = (g h t.val a : EReal))
  (hd : ∀ t h, (m (c, Proc.tc.devRef main_arg4) (ix2 t h) : EReal) = (d h t.val : EReal))

/-- A window entry of 64-blocks, by the padded position. -/
theorem win (K : S1x4x130x64x64.Idx → EReal) (x : Fin 4 → ℕ → Fin 64 → ℝ)
    (hK : ∀ (h : Fin 4) (n : Fin 130) (r a : Fin 64), K (ix5 0 h n r a) = if 64 ≤ n.val * 64 + r.val ∧ n.val * 64 + r.val - 64 < 8192 then
      (x h (n.val * 64 + r.val - 64) a : EReal) else 0) (h : Fin 4) (n : Fin 128) (j : Fin 192) (a : Fin 64) :
    (if h_1 : j.val < 64 then K (ix5 0 h ⟨n.val, by omega⟩ ⟨j.val, by omega⟩ a)
    else if h_2 : j.val - 64 < 64 then K (ix5 0 h ⟨1 + n.val, by omega⟩ ⟨j.val - 64, by omega⟩ a)
      else K (ix5 0 h ⟨2 + n.val, by omega⟩ ⟨j.val - 64 - 64, by omega⟩ a))
    = if 64 ≤ n.val * 64 + j.val ∧ n.val * 64 + j.val < 8192 + 64 then (x h (n.val * 64 + j.val - 64) a : EReal) else 0 := by
  split_ifs with h1 h2 h3 h3 h3 <;> rw [hK]
  all_goals dsimp only
  all_goals first | rw [if_pos (by omega)] | rw [if_neg (by omega)]
  all_goals congr 2; omega

include hk in
/-- The windows of 192 keys. -/
theorem v7_at (h : Fin 4) (n : Fin 128) (j : Fin 192) (a : Fin 64) :
    (V m c main_v7 (ix5 0 h n j a) : EReal)
      = if 64 ≤ n.val * 64 + j.val ∧ n.val * 64 + j.val < 8192 + 64 then (k h (n.val * 64 + j.val - 64) a : EReal) else 0 := by
  rw [e7, e4, e5, e6]
  have h3 : ∀ (h : Fin 4) (n : Fin 130) (r a : Fin 64), (V m c main_v3 (ix5 0 h n r a) : EReal) = _ := v3_at m c
  simp only [hk] at h3
  generalize (V m c main_v3 : S1x4x130x64x64.Idx → EReal) = K at h3 ⊢
  pointwise
  exact win K k (fun h n r a => by rw [h3]; split_ifs <;> rfl) h n j a

include hv in
/-- The windows of 192 values. -/
theorem v15_at (h : Fin 4) (n : Fin 128) (j : Fin 192) (a : Fin 64) :
    (V m c main_v15 (ix5 0 h n j a) : EReal)
      = if 64 ≤ n.val * 64 + j.val ∧ n.val * 64 + j.val < 8192 + 64 then (v h (n.val * 64 + j.val - 64) a : EReal) else 0 := by
  rw [e15, e12, e13, e14]
  have h3 : ∀ (h : Fin 4) (n : Fin 130) (r a : Fin 64), (V m c main_v11 (ix5 0 h n r a) : EReal) = _ := v11_at m c
  simp only [hv] at h3
  generalize (V m c main_v11 : S1x4x130x64x64.Idx → EReal) = K at h3 ⊢
  pointwise
  exact win K v (fun h n r a => by rw [h3]; split_ifs <;> rfl) h n j a

include hq hk in
/-- The masked scores. -/
theorem v53_at (h : Fin 4) (n : Fin 128) (r : Fin 64) (j : Fin 192) :
    (V m c main_v53 (ix5 0 h n r j) : EReal)
      = SoftRow.msk (Band.inWin 8192 (n.val * 64) (n.val * 64 + r.val)) (Band.sc (Slopes.sl0 h) (q h) (k h) 192 (n.val * 64) (n.val * 64 + r.val)) j := by
  have hK := v7_at m c k hk h n j
  rw [split m c 18] at hK ⊢
  have ha : after (hostOps0.take 18) (fun b => m (c, b)) (Proc.tc.devRef main_arg0) = m (c, Proc.tc.devRef main_arg0) := by after_reads_simp
  generalize after (hostOps0.take 18) (fun b => m (c, b)) = ρ at hK ha ⊢
  replace hK : ∀ a, (ρ (Proc.tc.devRef main_v7) (ix5 0 h n j a) : EReal)
      = if 64 ≤ n.val * 64 + j.val ∧ n.val * 64 + j.val < 8192 + 64 then (k h (n.val * 64 + j.val - 64) a : EReal) else 0 := by
    simpa only [readAfter] using hK
  have s0 : ∀ i, (upto (List.drop 18 hostOps0) ρ 35 (Proc.tc.devRef main_v39) i : EReal) = Ideal.ofBits .f32 (Slopes.bits0 0) := by
    intro i; after_reads_simp; pointwise; rfl
  have s1 : ∀ i, (upto (List.drop 18 hostOps0) ρ 35 (Proc.tc.devRef main_v40) i : EReal) = Ideal.ofBits .f32 (Slopes.bits0 1) := by
    intro i; after_reads_simp; pointwise; rfl
  have s2 : ∀ i, (upto (List.drop 18 hostOps0) ρ 35 (Proc.tc.devRef main_v41) i : EReal) = Ideal.ofBits .f32 (Slopes.bits0 2) := by
    intro i; after_reads_simp; pointwise; rfl
  have s3 : ∀ i, (upto (List.drop 18 hostOps0) ρ 35 (Proc.tc.devRef main_v42) i : EReal) = Ideal.ofBits .f32 (Slopes.bits0 3) := by
    intro i; after_reads_simp; pointwise; rfl
  after_reads_simp
  rw [ha]
  pointwise
  simp only [s0, s1, s2, s3]
  rw [Slopes.valid 8192 n r j le_rfl n.2 r.2 j.2, Words.select_bool, Slopes.bot]
  unfold SoftRow.msk
  by_cases hw : Band.inWin 8192 (n.val * 64) (n.val * 64 + r.val) j
  · rw [if_pos (decide_eq_true hw), if_pos hw, Slopes.dist n r j r.2 j.2 hw.1, Slopes.eighth]
    simp only [hK, hq, if_pos (⟨hw.1, hw.2.1⟩ : 64 ≤ n.val * 64 + j.val ∧ n.val * 64 + j.val < 8192 + 64)]
    have hs : (if h_1 : h.val < 1 then Ideal.ofBits .f32 (Slopes.bits0 0) else if h_2 : h.val - 1 < 1 then Ideal.ofBits .f32 (Slopes.bits0 1)
        else if h_3 : h.val - 1 - 1 < 1 then Ideal.ofBits .f32 (Slopes.bits0 2) else Ideal.ofBits .f32 (Slopes.bits0 3) : EReal) = (Slopes.sl0 h : EReal) := by
      rw [← Slopes.slope0]; fin_cases h <;> rfl
    rw [hs]
    simp only [← EReal.coe_mul, ← SoftRow.coe_sum, ← EReal.coe_sub]
    rfl
  · rw [if_neg (fun h => hw (of_decide_eq_true h)), if_neg hw]

include hq hk in
/-- The log-denominators. -/
theorem v65_at (h : Fin 4) (n : Fin 128) (r : Fin 64) :
    (V m c main_v65 (ix4 0 h n r) : EReal) = (Real.log (Band.Z 8192 (Slopes.sl0 h) (q h) (k h) (n.val * 64 + r.val)) : EReal) := by
  have hS := v53_at m c q k hq hk h n r
  rw [split m c 65] at hS ⊢
  generalize after (hostOps0.take 65) (fun b => m (c, b)) = ρ at hS ⊢
  replace hS : ∀ j, (ρ (Proc.tc.devRef main_v53) (ix5 0 h n r j) : EReal)
      = SoftRow.msk (Band.inWin 8192 (n.val * 64) (n.val * 64 + r.val)) (Band.sc (Slopes.sl0 h) (q h) (k h) 192 (n.val * 64) (n.val * 64 + r.val)) j := by
    simpa only [readAfter] using hS
  after_reads_simp
  have h1 : ∀ (a b : S1x4x128x64.Idx → EReal) i, addf (F := Ideal) (φ := .f32) a b i = a i + b i := fun _ _ _ => rfl
  refine (h1 _ _ _).trans ?_
  pointwise
  simp only [hS, Slopes.bot]
  rw [← Band.den_eq (W := 192) 8192 (Slopes.sl0 h) (q h) (k h) (n.val * 64) (n.val * 64 + r.val) (by omega) (by omega)]
  exact SoftRow.lse_eq _ _ (Band.some_in 8192 _ _ (by omega) (by omega) (by omega))

include hq hk hv hg hd in
/-- What both gradients add to `do · v`. -/
theorem v79_at (h : Fin 4) (n : Fin 128) (r : Fin 64) :
    (V m c main_v79 (ix4 0 h n r) : EReal)
      = (Band.ee 8192 (Slopes.sl0 h) (q h) (k h) (v h) (g h) (d h) (n.val * 64 + r.val) : EReal) := by
  have hS := v53_at m c q k hq hk h n r
  have hV := fun j b => v15_at m c v hv h n j b
  rw [split m c 65] at hS hV ⊢
  have h3 : after (hostOps0.take 65) (fun b => m (c, b)) (Proc.tc.devRef main_arg3) = m (c, Proc.tc.devRef main_arg3) := by after_reads_simp
  have h4 : after (hostOps0.take 65) (fun b => m (c, b)) (Proc.tc.devRef main_arg4) = m (c, Proc.tc.devRef main_arg4) := by after_reads_simp
  generalize after (hostOps0.take 65) (fun b => m (c, b)) = ρ at hS hV h3 h4 ⊢
  replace hS : ∀ j, (ρ (Proc.tc.devRef main_v53) (ix5 0 h n r j) : EReal)
      = SoftRow.msk (Band.inWin 8192 (n.val * 64) (n.val * 64 + r.val)) (Band.sc (Slopes.sl0 h) (q h) (k h) 192 (n.val * 64) (n.val * 64 + r.val)) j := by
    simpa only [readAfter] using hS
  replace hV : ∀ j b, (ρ (Proc.tc.devRef main_v15) (ix5 0 h n j b) : EReal)
      = ((if 64 ≤ n.val * 64 + j.val ∧ n.val * 64 + j.val < 8192 + 64 then v h (n.val * 64 + j.val - 64) b else 0 : ℝ) : EReal) := by
    intro j b; rw [apply_ite ((↑) : ℝ → EReal)]; simpa only [readAfter, EReal.coe_zero] using hV j b
  after_reads_simp
  rw [h3, h4]
  pointwise
  simp only [hS, hV, hg, hd, Slopes.bot]
  refine (SoftRow.corr_eq _ _ (Band.some_in 8192 _ _ (by omega) (by omega) (by omega)) _ _ _).trans ?_
  rw [Band.corr_eq 8192 (Slopes.sl0 h) (q h) (k h) (v h) (g h) (d h) (n.val * 64) (n.val * 64 + r.val) (by omega) (by omega)]
  intro j b hw
  exact if_pos ⟨hw.1, hw.2.1⟩

include hq hk in
/-- The log-denominators, a head's on each of its lanes. -/
theorem v78_at (t : Fin 8192) (l : Fin 256) :
    (V m c main_v78 (ix2 t l) : EReal)
      = (Real.log (Band.Z 8192 (Slopes.sl0 ⟨l.val / 64, by omega⟩) (q ⟨l.val / 64, by omega⟩) (k ⟨l.val / 64, by omega⟩) t.val) : EReal) := by
  have hS := v65_at m c q k hq hk ⟨l.val / 64, by omega⟩ ⟨t.val / 64, by omega⟩ ⟨t.val % 64, by omega⟩
  rw [split m c 79] at hS ⊢
  generalize after (hostOps0.take 79) (fun b => m (c, b)) = ρ at hS ⊢
  simp only [readAfter] at hS
  after_reads_simp
  pointwise
  rw [hS, Nat.div_add_mod']

include hq hk hv hg hd in
/-- What both gradients add to `do · v`, a head's on each of its lanes. -/
theorem v84_at (t : Fin 8192) (l : Fin 256) :
    (V m c main_v84 (ix2 t l) : EReal)
      = (Band.ee 8192 (Slopes.sl0 ⟨l.val / 64, by omega⟩) (q ⟨l.val / 64, by omega⟩) (k ⟨l.val / 64, by omega⟩) (v ⟨l.val / 64, by omega⟩)
          (g ⟨l.val / 64, by omega⟩) (d ⟨l.val / 64, by omega⟩) t.val : EReal) := by
  have hS := v79_at m c q k v g d hq hk hv hg hd ⟨l.val / 64, by omega⟩ ⟨t.val / 64, by omega⟩ ⟨t.val % 64, by omega⟩
  rw [split m c 94] at hS ⊢
  generalize after (hostOps0.take 94) (fun b => m (c, b)) = ρ at hS ⊢
  simp only [readAfter] at hS
  after_reads_simp
  pointwise
  rw [hS, Nat.div_add_mod']

include hg in
/-- The cotangent, the heads beside each other. -/
theorem v96_at (t : Fin 8192) (l : Fin 256) :
    (V m c main_v96 (ix2 t l) : EReal) = (g ⟨l.val / 64, by omega⟩ t.val ⟨l.val % 64, by omega⟩ : EReal) := by
  unfold V
  after_reads_simp
  pointwise
  rw [hg]

include hq in
theorem v85_at (t : Fin 8192) (l : Fin 256) :
    (V m c main_v85 (ix2 t l) : EReal) = (q ⟨l.val / 64, by omega⟩ t.val ⟨l.val % 64, by omega⟩ : EReal) := by
  unfold V
  after_reads_simp
  pointwise
  rw [hq]

include hq in
theorem v95_q (t : Fin 8192) (l : Fin 256) :
    (V m c main_v95 (ix2 t ⟨8704 + l.val, by omega⟩) : EReal) = (q ⟨l.val / 64, by omega⟩ t.val ⟨l.val % 64, by omega⟩ : EReal) := by
  rw [e95]
  exact (pack_q t l).trans (v85_at m c q hq t l)

include hk in
/-- The packed projection at the columns of the keys. -/
theorem v95_k (t : Fin 8192) (p : Fin 2) (l : Fin 128) :
    (V m c main_v95 (ix2 t ⟨7168 + p.val * 256 + l.val, by omega⟩) : EReal)
      = (k ⟨p.val * 2 + l.val / 64, by omega⟩ t.val ⟨l.val % 64, by omega⟩ : EReal) := by
  rw [e95]
  obtain rfl | rfl : p = 0 ∨ p = 1 := by omega
  · have e : (⟨7168 + ((0 : Fin 2).val) * 256 + l.val, by omega⟩ : Fin 9728) = ⟨7168 + l.val, by omega⟩ := Fin.ext (by simp)
    rw [e]
    refine (pack_k0 t l).trans ?_
    unfold V; after_reads_simp; pointwise; rw [hk]
  · have e : (⟨7168 + ((1 : Fin 2).val) * 256 + l.val, by omega⟩ : Fin 9728) = ⟨7424 + l.val, by omega⟩ := Fin.ext (by simp)
    rw [e]
    refine (pack_k1 t l).trans ?_
    unfold V; after_reads_simp; pointwise; rw [hk]; congr 2 <;> apply Fin.ext <;> simp <;> first | done | omega

include hv in
/-- The packed projection at the columns of the values. -/
theorem v95_v (t : Fin 8192) (p : Fin 2) (l : Fin 128) :
    (V m c main_v95 (ix2 t ⟨7168 + p.val * 256 + 128 + l.val, by omega⟩) : EReal)
      = (v ⟨p.val * 2 + l.val / 64, by omega⟩ t.val ⟨l.val % 64, by omega⟩ : EReal) := by
  rw [e95]
  obtain rfl | rfl : p = 0 ∨ p = 1 := by omega
  · have e : (⟨7168 + ((0 : Fin 2).val) * 256 + 128 + l.val, by omega⟩ : Fin 9728) = ⟨7296 + l.val, by omega⟩ := Fin.ext (by simp)
    rw [e]
    refine (pack_v0 t l).trans ?_
    unfold V; after_reads_simp; pointwise; rw [hv]
  · have e : (⟨7168 + ((1 : Fin 2).val) * 256 + 128 + l.val, by omega⟩ : Fin 9728) = ⟨7552 + l.val, by omega⟩ := Fin.ext (by simp)
    rw [e]
    refine (pack_v1 t l).trans ?_
    unfold V; after_reads_simp; pointwise; rw [hv]; congr 2 <;> apply Fin.ext <;> simp <;> first | done | omega

end Reals
end Cert.Proof.HDq0
end
-- ==== Proof.KTerm.lean ====
module
public import proofs.«01_k».proof.Proof.Slopes
public import Idealize.ShloMosaic.Lib.Pipeline.ValueKit
@[expose] public section
set_option maxRecDepth 16384
noncomputable section
/-! The gradient kernels' words and their sums over a pair of heads: 128 lanes are two heads of 64 entries. -/
namespace Cert.Proof.KTerm
open Idealize.ShloMosaic Cert.Proof.Words

/-- The head that a lane belongs to, as the kernels compute it. -/
abbrev hw (l : ℕ) : BitVec 32 := Scalar.select (IntOp.andi (IntOp.cmpi CmpIPredicate.ne (IntOp.subi (BitVec.setWidth 32 (IntOp.cmpi CmpIPredicate.sgt (BitVec.ofNat 32 l) 0#32))
        (BitVec.setWidth 32 (IntOp.cmpi CmpIPredicate.slt (BitVec.ofNat 32 l) 0#32)))
        (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 l) 64#32) 0#32))
      (IntOp.subi (IntOp.divsi ArithUnit.vector (BitVec.ofNat 32 l) 64#32) 1#32) (IntOp.divsi ArithUnit.vector (BitVec.ofNat 32 l) 64#32)

/-- The kernels' mask: two positions at most 64 apart, the second one a position. -/
abbrev vw (B : BitVec 32) (x j N : ℕ) : BitVec 1 := IntOp.andi (IntOp.andi (IntOp.cmpi CmpIPredicate.sle (IntOp.absi (IntOp.subi (IntOp.addi B (BitVec.ofNat 32 x))
        (IntOp.addi (Scalar.subi B 64#32) (BitVec.ofNat 32 j)))) 64#32)
        (IntOp.cmpi CmpIPredicate.sge (IntOp.addi (Scalar.subi B 64#32) (BitVec.ofNat 32 j)) 0#32))
        (IntOp.cmpi CmpIPredicate.slt (IntOp.addi (Scalar.subi B 64#32) (BitVec.ofNat 32 j)) (BitVec.ofNat 32 N))

/-- The kernels' bias of a pair of positions. -/
abbrev bw (B : BitVec 32) (x j N d : ℕ) (S M : EReal) : EReal := Scalar.select (vw B x j N)
      ((0 - S) * FloatOps.sitofp (F := Ideal) FTy.f32 (IntOp.muli (IntOp.absi (IntOp.subi (IntOp.addi B (BitVec.ofNat 32 x))
        (IntOp.addi (Scalar.subi B 64#32) (BitVec.ofNat 32 j)))) (BitVec.ofNat 32 d))) M

/-- Two heads of 64 lanes. -/
theorem head_word (l : ℕ) (hl : l < 128) :
    hw l
    = BitVec.ofNat 32 (l / 64) := by
  have : ∀ l : Fin 128, hw l.val
    = BitVec.ofNat 32 (l.val / 64) := by decide +kernel
  exact this ⟨l, hl⟩

/-- The head a lane belongs to is the given one: the kernels' mask. -/
theorem head (hh l : ℕ) (h2 : hh < 2) (hl : l < 128) : IntOp.cmpi CmpIPredicate.eq (hw l) (BitVec.ofNat 32 hh)
    = BitVec.ofBool (decide (64 * hh ≤ l ∧ l < 64 * hh + 64)) := by
  rw [head_word l hl]
  have : ∀ (h : Fin 2) (l : Fin 128), IntOp.cmpi CmpIPredicate.eq (BitVec.ofNat 32 (l.val / 64)) (BitVec.ofNat 32 h.val)
    = BitVec.ofBool (decide (64 * h.val ≤ l.val ∧ l.val < 64 * h.val + 64)) := by decide +kernel
  exact this ⟨hh, h2⟩ ⟨l, hl⟩

/-- A sum over a pair of heads' lanes that keeps one head. -/
theorem lane_sum (hh : ℕ) (h2 : hh < 2) (f : Fin 128 → EReal) (x : Fin 64 → ℝ) (hf : ∀ a : Fin 64, f ⟨64 * hh + a.val, by omega⟩ = (x a : EReal)) :
    ∑ l : Fin 128, Scalar.select (IntOp.cmpi CmpIPredicate.eq (hw l.val) (BitVec.ofNat 32 hh))
      (f l) 0 = ((∑ a, x a : ℝ) : EReal) := by
  have h1 : ∀ l : Fin 128, _ = if 64 * hh ≤ l.val ∧ l.val < 64 * hh + 64 then f l else 0 := fun l =>
    (congrArg (fun w => Scalar.select w (f l) 0) (head hh l.val h2 l.isLt)).trans ((select_bool _ _ _).trans (if_congr decide_eq_true_iff rfl rfl))
  rw [Finset.sum_congr rfl fun l _ => h1 l, ← Finset.sum_filter, SoftRow.coe_sum]
  symm
  refine Finset.sum_bij (fun a _ => ⟨64 * hh + a.val, by omega⟩) ?_ ?_ ?_ ?_
  · intro a _; simp only [Finset.mem_filter, Finset.mem_univ, true_and]; omega
  · intro a _ b _ h; have := congrArg Fin.val h; apply Fin.ext; dsimp only at this; omega
  · intro l hl
    simp only [Finset.mem_filter, Finset.mem_univ, true_and] at hl
    exact ⟨⟨l.val - 64 * hh, by omega⟩, Finset.mem_univ _, Fin.ext (by dsimp only; omega)⟩
  · intro a _; exact (hf a).symm

/-- The bias that the kernels add to the scores: `-∞` off the band, the distance's share on it. -/
theorem bias (o N x j d : ℕ) (sl : ℝ) (S M : EReal) (B : BitVec 32) (hB : B = w o) (ho : o ≤ 8192) (hN : N ≤ 8192) (hx : x < 128) (hj : j < 256) (hd : d ≤ 16)
    (hS : S = (sl : EReal)) (hM : M = ⊥) :
    bw B x j N d S M
    = if 64 ≤ o + j ∧ o + j < N + 64 ∧ o + x ≤ o + j ∧ o + j ≤ o + x + 128 then ((-(sl * d * |((o + x : ℕ) : ℝ) - ((o + j - 64 : ℕ) : ℝ)|) : ℝ) : EReal) else ⊥ := by
  have hs : ∀ a b : BitVec 32, Scalar.subi a b = IntOp.subi a b := fun _ _ => rfl
  have h₀ := abs_nonneg ((o : ℤ) + x - ((o : ℤ) - (64 : ℕ) + j))
  have h₁ : |(o : ℤ) + x - ((o : ℤ) - (64 : ℕ) + j)| < 1024 := abs_lt.mpr (by constructor <;> push_cast <;> omega)
  have h₂ : |(o : ℤ) + x - ((o : ℤ) - (64 : ℕ) + j)| * d ≤ 1024 * 16 := by
    apply mul_le_mul h₁.le (by omega) (by omega) (by omega)
  have h₃ : 0 ≤ |(o : ℤ) + x - ((o : ℤ) - (64 : ℕ) + j)| * d := mul_nonneg h₀ (by omega)
  subst hB hS hM
  unfold bw vw
  rw [hs]
  simp only [ofNat_w, subi_w, addi_w]
  rw [absi_w _ (by omega) (by omega), muli_w, sitofp_w _ (by omega) (by omega), sle_w _ _ (by omega) (by omega) (by omega) (by omega),
    sge_w _ _ (by omega) (by omega) (by omega) (by omega), slt_w _ _ (by omega) (by omega) (by omega) (by omega), andi_bool, andi_bool, select_bool]
  have hp : ((decide (|(o : ℤ) + x - ((o : ℤ) - (64 : ℕ) + j)| ≤ (64 : ℕ)) && decide (((0 : ℕ) : ℤ) ≤ (o : ℤ) - (64 : ℕ) + j)) && decide ((o : ℤ) - (64 : ℕ) + j < N))
      = decide (64 ≤ o + j ∧ o + j < N + 64 ∧ o + x ≤ o + j ∧ o + j ≤ o + x + 128) := by
    simp only [← Bool.decide_and, decide_eq_decide, abs_le]
    push_cast
    omega
  rw [hp]
  by_cases h : 64 ≤ o + j ∧ o + j < N + 64 ∧ o + x ≤ o + j ∧ o + j ≤ o + x + 128
  · rw [if_pos h, if_pos (decide_eq_true h), zero_sub, ← EReal.coe_neg, ← EReal.coe_mul]
    congr 1
    rw [Nat.cast_sub h.1]
    push_cast
    have : (o : ℝ) + x - (o - 64 + j) = o + x - (o + j - 64) := by ring
    rw [this]; ring
  · rw [if_neg h, if_neg (fun h' => h (of_decide_eq_true h'))]

/-- The logits' products of one head, a row against a column, with the scale on the row. -/
theorem dot8 (hh : ℕ) (h2 : hh < 2) (Q K : Fin 128 → EReal) (q k : Fin 64 → ℝ) (hQ : ∀ a : Fin 64, Q ⟨64 * hh + a.val, by omega⟩ = (q a : EReal))
    (hK : ∀ a : Fin 64, K ⟨64 * hh + a.val, by omega⟩ = (k a : EReal)) :
    ∑ l : Fin 128, Scalar.select (IntOp.cmpi CmpIPredicate.eq (hw l.val) (BitVec.ofNat 32 hh))
      (Q l * Ideal.ofBits FTy.f32 1040187392#32 * K l) 0 = (((∑ a, q a * k a) * (1 / 8) : ℝ) : EReal) := by
  rw [lane_sum hh h2 (fun l => Q l * Ideal.ofBits FTy.f32 1040187392#32 * K l) (fun a => q a * (1 / 8) * k a)]
  · rw [Finset.sum_mul]; congr 1; exact Finset.sum_congr rfl fun a _ => by ring
  · intro a; show Q _ * _ * K _ = _; rw [hQ, hK, Slopes.eighth, EReal.coe_mul, EReal.coe_mul]

/-- The same without the scale. -/
theorem dot1 (hh : ℕ) (h2 : hh < 2) (Q K : Fin 128 → EReal) (q k : Fin 64 → ℝ) (hQ : ∀ a : Fin 64, Q ⟨64 * hh + a.val, by omega⟩ = (q a : EReal))
    (hK : ∀ a : Fin 64, K ⟨64 * hh + a.val, by omega⟩ = (k a : EReal)) :
    ∑ l : Fin 128, Scalar.select (IntOp.cmpi CmpIPredicate.eq (hw l.val) (BitVec.ofNat 32 hh))
      (Q l * K l) 0 = ((∑ a, q a * k a : ℝ) : EReal) :=
  lane_sum hh h2 (fun l => Q l * K l) (fun a => q a * k a) fun a => by show Q _ * K _ = _; rw [hQ, hK, EReal.coe_mul]

/-- A pair's probability: the exponential of its biased score less the row's log-denominator. -/
theorem prob_cell (P : Prop) [Decidable P] (A l bi : ℝ) (AA L Bi : EReal) (hA : P → AA = (A : EReal)) (hL : P → L = (l : EReal))
    (hb : Bi = if P then (bi : EReal) else ⊥) :
    Ideal.exp (AA + Bi - L) = if P then (Real.exp (A + bi - l) : EReal) else 0 := by
  subst hb
  by_cases h : P
  · rw [if_pos h, if_pos h, hA h, hL h, ← EReal.coe_add, ← EReal.coe_sub, Ideal.exp_coe]
  · rw [if_neg h, if_neg h, EReal.add_bot, EReal.bot_sub, Ideal.exp_bot]

/-- A pair's share of a gradient. -/
theorem grad_cell (P : Prop) [Decidable P] (p D e x : ℝ) (PP DD E X : EReal) (hp : PP = if P then (p : EReal) else 0) (hD : P → DD = (D : EReal))
    (hE : P → E = (e : EReal)) (hX : P → X = (x : EReal)) : PP * (DD + E) * X = ((if P then p * (D + e) * x else 0 : ℝ) : EReal) := by
  subst hp
  by_cases h : P
  · rw [if_pos h, if_pos h, hD h, hE h, hX h, ← EReal.coe_add, ← EReal.coe_mul, ← EReal.coe_mul]
  · rw [if_neg h, if_neg h, zero_mul, zero_mul, EReal.coe_zero]

/-- The part of a window's sum over the first `n` entries and the part over the others. -/
theorem split_sum {n n' : ℕ} (F : Fin (n + n') → ℝ) (A : Fin n → EReal) (B : Fin n' → EReal) (hA : ∀ i, A i = (F (Fin.castAdd n' i) : EReal))
    (hB : ∀ i, B i = (F (Fin.natAdd n i) : EReal)) : ∑ i, A i + ∑ i, B i = ((∑ i, F i : ℝ) : EReal) := by
  simp only [hA, hB, ← SoftRow.coe_sum, ← EReal.coe_add, Fin.sum_univ_add]

theorem whole_sum {n : ℕ} (F : Fin n → ℝ) (A : Fin n → EReal) (hA : ∀ i, A i = (F i : EReal)) : ∑ i, A i = ((∑ i, F i : ℝ) : EReal) := by
  simp only [hA, ← SoftRow.coe_sum]

/-- A lane's value is chosen by its head. -/
theorem by_head (l : ℕ) (hl : l < 128) (X1 X0 v : EReal) (h1 : ∀ a : Fin 64, l = 64 * 1 + a.val → X1 = v) (h0 : ∀ a : Fin 64, l = 64 * 0 + a.val → X0 = v) :
    Scalar.select (IntOp.cmpi CmpIPredicate.eq (hw l) 1#32) X1
    (Scalar.select (IntOp.cmpi CmpIPredicate.eq (hw l) 0#32) X0 0) = v := by
  have e1 := head 1 l (by omega) hl
  have e0 := head 0 l (by omega) hl
  rw [e1, e0, select_bool, select_bool]
  by_cases h : 64 ≤ l
  · rw [if_pos (decide_eq_true (by omega))]; exact h1 ⟨l - 64, by omega⟩ (by dsimp only; omega)
  · rw [if_neg (fun h' => h (of_decide_eq_true h').1), if_pos (decide_eq_true (by omega))]; exact h0 ⟨l, by omega⟩ (by dsimp only; omega)

/-- A block's first position. -/
theorem base (i b s : ℕ) : Scalar.muli (Scalar.addi (Scalar.muli (BitVec.ofNat 32 i) (BitVec.ofNat 32 b)) (BitVec.ofNat 32 s)) 128#32 = w (((i * b + s) * 128 : ℕ) : ℤ) := by
  show IntOp.muli (IntOp.addi (IntOp.muli _ _) _) _ = _
  simp only [ofNat_w, muli_w, addi_w]
  push_cast; rfl

/-- The slope of a pair's head. -/
theorem slope (p hh : ℕ) (hp : p < 2) (h2 : hh < 2) {A B : BitVec 32} (hA : A = Slopes.bits0 ⟨hh, by omega⟩) (hB : B = Slopes.bits0 ⟨2 + hh, by omega⟩) :
    Scalar.select (Scalar.cmpi CmpIPredicate.eq (BitVec.ofNat 32 p) 0#32) (Ideal.ofBits .f32 A) (Ideal.ofBits .f32 B) = (Slopes.sl0 ⟨2 * p + hh, by omega⟩ : EReal) := by
  subst hA hB
  rw [← Slopes.slope0]
  obtain rfl | rfl : p = 0 ∨ p = 1 := by omega
  · simp only [Nat.mul_zero, Nat.zero_add]; rfl
  · rfl

theorem ix2_eq {n0 n1 : ℕ} {a a' : Fin n0} {b b' : Fin n1} (h0 : a = a') (h1 : b.val = b'.val) : ix2 a b = ix2 a' b' := by
  rw [h0, Fin.ext h1]

theorem lane_eq (x : Fin 4 → ℕ → Fin 64 → ℝ) {h h' : Fin 4} {n n' : ℕ} {a a' : Fin 64} (hh : h.val = h'.val) (hn : n = n') (ha : a.val = a'.val) :
    (x h n a : EReal) = (x h' n' a' : EReal) := by
  rw [Fin.ext hh, hn, Fin.ext ha]

section Cells
variable (N o x j dl hh : ℕ) (sl : ℝ) (q k v g : ℕ → Fin 64 → ℝ) (d : ℕ → ℝ)

/-- A pair's softmax, from its products, the bias and the row's log-denominator: `t` is the query and `s` the key. -/
theorem pr_cell {S M : EReal} {B : BitVec 32} (hB : B = w o) (ho : o ≤ 8192) (hN : N ≤ 8192) (hx : x < 128) (hj : j < 256) (hd : dl ≤ 16)
    (hS : S = (sl : EReal)) (hM : M = ⊥) {AA L : EReal} (t s : ℕ)
    (hts : 64 ≤ o + j ∧ o + j < N + 64 ∧ o + x ≤ o + j ∧ o + j ≤ o + x + 128 → t < N ∧ Band.near t s ∧ |((o + x : ℕ) : ℝ) - ((o + j - 64 : ℕ) : ℝ)| = |(t : ℝ) - s|)
    (hA : 64 ≤ o + j ∧ o + j < N + 64 ∧ o + x ≤ o + j ∧ o + j ≤ o + x + 128 → AA = (((∑ a, q t a * k s a) * (1 / 8) : ℝ) : EReal))
    (hL : 64 ≤ o + j ∧ o + j < N + 64 ∧ o + x ≤ o + j ∧ o + j ≤ o + x + 128 → L = (Real.log (Band.Z N (sl * dl) q k t) : EReal)) :
    Ideal.exp (AA + bw B x j N dl S M - L)
      = if 64 ≤ o + j ∧ o + j < N + 64 ∧ o + x ≤ o + j ∧ o + j ≤ o + x + 128 then (Band.pr N (sl * dl) q k t s : EReal) else 0 := by
  rw [prob_cell (64 ≤ o + j ∧ o + j < N + 64 ∧ o + x ≤ o + j ∧ o + j ≤ o + x + 128) _ _ _ AA L _ hA hL (bias o N x j dl sl S M B hB ho hN hx hj hd hS hM)]
  split
  · rename_i h
    obtain ⟨h1, h2, h3⟩ := hts h
    rw [Real.exp_sub, Real.exp_log (Band.Z_pos N _ q k _ h1), Band.pr, Band.wt, if_pos h2, Band.score, ← sub_eq_add_neg, h3]
  · rfl

/-- A pair's share of the queries' gradient: the row is the query. -/
theorem cell_q {S M : EReal} {B : BitVec 32} (hB : B = w o) (ho : o ≤ 8192) (hN : N ≤ 8192) (hx : x < 128) (hox : o + x < N) (hj : j < 256) (hd : dl ≤ 16) (h2 : hh < 2)
    (hS : S = (sl : EReal)) (hM : M = ⊥) {Q K D V : Fin 128 → EReal} {L E X : EReal} (a : Fin 64)
    (hQ : ∀ b : Fin 64, Q ⟨64 * hh + b.val, by omega⟩ = (q (o + x) b : EReal)) (hD : ∀ b : Fin 64, D ⟨64 * hh + b.val, by omega⟩ = (g (o + x) b : EReal))
    (hL : L = (Real.log (Band.Z N (sl * dl) q k (o + x)) : EReal)) (hE : E = (Band.ee N (sl * dl) q k v g d (o + x) : EReal))
    (hK : 64 ≤ o + j → o + j < N + 64 → ∀ b : Fin 64, K ⟨64 * hh + b.val, by omega⟩ = (k (o + j - 64) b : EReal))
    (hV : 64 ≤ o + j → o + j < N + 64 → ∀ b : Fin 64, V ⟨64 * hh + b.val, by omega⟩ = (v (o + j - 64) b : EReal))
    (hX : 64 ≤ o + j → o + j < N + 64 → X = (k (o + j - 64) a : EReal)) :
    Ideal.exp (∑ l : Fin 128, Scalar.select (IntOp.cmpi CmpIPredicate.eq (hw l.val) (BitVec.ofNat 32 hh)) (Q l * Ideal.ofBits FTy.f32 1040187392#32 * K l) 0
        + bw B x j N dl S M - L)
      * (∑ l : Fin 128, Scalar.select (IntOp.cmpi CmpIPredicate.eq (hw l.val) (BitVec.ofNat 32 hh)) (D l * V l) 0 + E) * X
      = ((if 64 ≤ o + j ∧ o + j < N + 64 ∧ o + x ≤ o + j ∧ o + j ≤ o + x + 128 then
          Band.ds N (sl * dl) q k v g d (o + x) (o + j - 64) * k (o + j - 64) a else 0 : ℝ) : EReal) :=
  grad_cell _ _ _ _ _ _ _ _ _ (pr_cell N o x j dl sl q k hB ho hN hx hj hd hS hM (o + x) (o + j - 64)
      (fun h => ⟨hox, by omega, rfl⟩) (fun h => dot8 hh h2 Q K _ _ hQ (hK h.1 h.2.1)) fun _ => hL)
    (fun h => dot1 hh h2 D V _ _ hD (hV h.1 h.2.1)) (fun _ => hE) fun h => hX h.1 h.2.1

/-- A pair's share of the keys' gradient: the row is the key. -/
theorem cell_k {S M : EReal} {B : BitVec 32} (hB : B = w o) (ho : o ≤ 8192) (hN : N ≤ 8192) (hx : x < 128) (hj : j < 256) (hd : dl ≤ 16) (h2 : hh < 2)
    (hS : S = (sl : EReal)) (hM : M = ⊥) {Q K D V : Fin 128 → EReal} {L E X : EReal} (a : Fin 64)
    (hK : ∀ b : Fin 64, K ⟨64 * hh + b.val, by omega⟩ = (k (o + x) b : EReal)) (hV : ∀ b : Fin 64, V ⟨64 * hh + b.val, by omega⟩ = (v (o + x) b : EReal))
    (hL : 64 ≤ o + j → o + j < N + 64 → L = (Real.log (Band.Z N (sl * dl) q k (o + j - 64)) : EReal))
    (hE : 64 ≤ o + j → o + j < N + 64 → E = (Band.ee N (sl * dl) q k v g d (o + j - 64) : EReal))
    (hQ : 64 ≤ o + j → o + j < N + 64 → ∀ b : Fin 64, Q ⟨64 * hh + b.val, by omega⟩ = (q (o + j - 64) b : EReal))
    (hD : 64 ≤ o + j → o + j < N + 64 → ∀ b : Fin 64, D ⟨64 * hh + b.val, by omega⟩ = (g (o + j - 64) b : EReal))
    (hX : 64 ≤ o + j → o + j < N + 64 → X = (q (o + j - 64) a : EReal)) :
    Ideal.exp (∑ l : Fin 128, Scalar.select (IntOp.cmpi CmpIPredicate.eq (hw l.val) (BitVec.ofNat 32 hh)) (K l * Ideal.ofBits FTy.f32 1040187392#32 * Q l) 0
        + bw B x j N dl S M - L)
      * (∑ l : Fin 128, Scalar.select (IntOp.cmpi CmpIPredicate.eq (hw l.val) (BitVec.ofNat 32 hh)) (V l * D l) 0 + E) * X
      = ((if 64 ≤ o + j ∧ o + j < N + 64 ∧ o + x ≤ o + j ∧ o + j ≤ o + x + 128 then
          Band.ds N (sl * dl) q k v g d (o + j - 64) (o + x) * q (o + j - 64) a else 0 : ℝ) : EReal) :=
  grad_cell _ _ _ _ _ _ _ _ _ (pr_cell N o x j dl sl q k hB ho hN hx hj hd hS hM (o + j - 64) (o + x)
      (fun h => ⟨by omega, by omega, abs_sub_comm _ _⟩)
      (fun h => (dot8 hh h2 K Q _ _ hK (hQ h.1 h.2.1)).trans (by simp only [mul_comm])) fun h => hL h.1 h.2.1)
    (fun h => (dot1 hh h2 V D _ _ hV (hD h.1 h.2.1)).trans (by simp only [mul_comm])) (fun h => hE h.1 h.2.1) fun h => hX h.1 h.2.1

/-- A pair's share of the values' gradient. -/
theorem cell_v {S M : EReal} {B : BitVec 32} (hB : B = w o) (ho : o ≤ 8192) (hN : N ≤ 8192) (hx : x < 128) (hj : j < 256) (hd : dl ≤ 16) (h2 : hh < 2)
    (hS : S = (sl : EReal)) (hM : M = ⊥) {Q K : Fin 128 → EReal} {L X : EReal} (a : Fin 64)
    (hK : ∀ b : Fin 64, K ⟨64 * hh + b.val, by omega⟩ = (k (o + x) b : EReal))
    (hL : 64 ≤ o + j → o + j < N + 64 → L = (Real.log (Band.Z N (sl * dl) q k (o + j - 64)) : EReal))
    (hQ : 64 ≤ o + j → o + j < N + 64 → ∀ b : Fin 64, Q ⟨64 * hh + b.val, by omega⟩ = (q (o + j - 64) b : EReal))
    (hX : 64 ≤ o + j → o + j < N + 64 → X = (g (o + j - 64) a : EReal)) :
    Ideal.exp (∑ l : Fin 128, Scalar.select (IntOp.cmpi CmpIPredicate.eq (hw l.val) (BitVec.ofNat 32 hh)) (K l * Ideal.ofBits FTy.f32 1040187392#32 * Q l) 0
        + bw B x j N dl S M - L) * X
      = ((if 64 ≤ o + j ∧ o + j < N + 64 ∧ o + x ≤ o + j ∧ o + j ≤ o + x + 128 then
          Band.pr N (sl * dl) q k (o + j - 64) (o + x) * g (o + j - 64) a else 0 : ℝ) : EReal) := by
  rw [pr_cell N o x j dl sl q k hB ho hN hx hj hd hS hM (o + j - 64) (o + x)
      (fun h => ⟨by omega, by omega, abs_sub_comm _ _⟩)
      (fun h => (dot8 hh h2 K Q _ _ hK (hQ h.1 h.2.1)).trans (by simp only [mul_comm])) fun h => hL h.1 h.2.1]
  by_cases h : 64 ≤ o + j ∧ o + j < N + 64 ∧ o + x ≤ o + j ∧ o + j ≤ o + x + 128
  · rw [if_pos h, if_pos h, hX h.1 h.2.1, EReal.coe_mul]
  · rw [if_neg h, if_neg h, zero_mul, EReal.coe_zero]

end Cells

end Cert.Proof.KTerm
end
-- ==== Proof.KDq0.lean ====
module
public import proofs.«01_k».proof.Proof.HDq0
public import proofs.«01_k».proof.Proof.KTerm
public import Idealize.ShloMosaic.Lib.Pipeline.ValueKit
@[expose] public section
set_option maxRecDepth 16384
noncomputable section
/-! The kernel of the queries' gradient of the first group, read at an index. -/
namespace Cert.Proof.KDq0
open Idealize.ShloMosaic Idealize.ShloMosaic.TcCoe Idealize.SL.Sem
open Idealize.ShloMosaic.Pipeline (Dat)
open Cert.AttnDq0Ideal Cert.AttnDq0Ideal.Gen
variable (m : (ℓ : Loc nD τ sig) → Buf (Elt Ideal) ℓ) (c : Dev nD)

theorem idx : ∀ t : Fin cfg0.N,
    win0_0.index t = ![(grid0.coords t 1).val, 68 + (grid0.coords t 0).val] ∧
    win0_1.index t = ![max (8 * (grid0.coords t 1).val - 1) 0, 56 + 2 * (grid0.coords t 0).val] ∧
    win0_2.index t = ![(grid0.coords t 1).val, 56 + 2 * (grid0.coords t 0).val] ∧
    win0_3.index t = ![min (8 * ((grid0.coords t 1).val + 1)) 127, 56 + 2 * (grid0.coords t 0).val] ∧
    win0_4.index t = ![max (8 * (grid0.coords t 1).val - 1) 0, 57 + 2 * (grid0.coords t 0).val] ∧
    win0_5.index t = ![(grid0.coords t 1).val, 57 + 2 * (grid0.coords t 0).val] ∧
    win0_6.index t = ![min (8 * ((grid0.coords t 1).val + 1)) 127, 57 + 2 * (grid0.coords t 0).val] ∧
    win0_7.index t = ![(grid0.coords t 1).val, (grid0.coords t 0).val] ∧
    win0_8.index t = ![(grid0.coords t 1).val, (grid0.coords t 0).val] ∧
    win0_9.index t = ![(grid0.coords t 1).val, (grid0.coords t 0).val] ∧
    win0_10.index t = ![(grid0.coords t 1).val, 68 + (grid0.coords t 0).val] :=
  (by decide +kernel : ∀ t : Fin grid0.N, _)

theorem small (t : Fin cfg0.N) : (grid0.coords t 0).val < 2 ∧ (grid0.coords t 1).val < 16 := ⟨(grid0.coords t 0).isLt, (grid0.coords t 1).isLt⟩

theorem b0 (t : Fin cfg0.N) (r : Fin 512) (l : Fin 128) : iblk m c 0 t (ix2 r l)
    = V m c main_v95 (ix2 ⟨512 * (grid0.coords t 1).val + r.val, by have := small t; omega⟩ ⟨8704 + 128 * (grid0.coords t 0).val + l.val, by have := small t; omega⟩) := by
  have := small t
  blk_point [iblk, idx t]

theorem b1 (t : Fin cfg0.N) (r : Fin 64) (l : Fin 128) (h : 1 ≤ (grid0.coords t 1).val) : iblk m c 1 t (ix2 r l)
    = V m c main_v95 (ix2 ⟨512 * (grid0.coords t 1).val - 64 + r.val, by have := small t; omega⟩ ⟨7168 + (grid0.coords t 0).val * 256 + l.val, by have := small t; omega⟩) := by
  have := small t
  blk_point [iblk, idx t]

theorem b2 (t : Fin cfg0.N) (r : Fin 512) (l : Fin 128) : iblk m c 2 t (ix2 r l)
    = V m c main_v95 (ix2 ⟨512 * (grid0.coords t 1).val + r.val, by have := small t; omega⟩ ⟨7168 + (grid0.coords t 0).val * 256 + l.val, by have := small t; omega⟩) := by
  have := small t
  blk_point [iblk, idx t]

theorem b3 (t : Fin cfg0.N) (r : Fin 64) (l : Fin 128) (h : (grid0.coords t 1).val < 15) : iblk m c 3 t (ix2 r l)
    = V m c main_v95 (ix2 ⟨512 * (grid0.coords t 1).val + 512 + r.val, by have := small t; omega⟩ ⟨7168 + (grid0.coords t 0).val * 256 + l.val, by have := small t; omega⟩) := by
  have := small t
  blk_point [iblk, idx t]

theorem b4 (t : Fin cfg0.N) (r : Fin 64) (l : Fin 128) (h : 1 ≤ (grid0.coords t 1).val) : iblk m c 4 t (ix2 r l)
    = V m c main_v95 (ix2 ⟨512 * (grid0.coords t 1).val - 64 + r.val, by have := small t; omega⟩ ⟨7168 + (grid0.coords t 0).val * 256 + 128 + l.val, by have := small t; omega⟩) := by
  have := small t
  blk_point [iblk, idx t]

theorem b5 (t : Fin cfg0.N) (r : Fin 512) (l : Fin 128) : iblk m c 5 t (ix2 r l)
    = V m c main_v95 (ix2 ⟨512 * (grid0.coords t 1).val + r.val, by have := small t; omega⟩ ⟨7168 + (grid0.coords t 0).val * 256 + 128 + l.val, by have := small t; omega⟩) := by
  have := small t
  blk_point [iblk, idx t]

theorem b6 (t : Fin cfg0.N) (r : Fin 64) (l : Fin 128) (h : (grid0.coords t 1).val < 15) : iblk m c 6 t (ix2 r l)
    = V m c main_v95 (ix2 ⟨512 * (grid0.coords t 1).val + 512 + r.val, by have := small t; omega⟩ ⟨7168 + (grid0.coords t 0).val * 256 + 128 + l.val, by have := small t; omega⟩) := by
  have := small t
  blk_point [iblk, idx t]

theorem b7 (t : Fin cfg0.N) (r : Fin 512) (l : Fin 128) : iblk m c 7 t (ix2 r l)
    = V m c main_v96 (ix2 ⟨512 * (grid0.coords t 1).val + r.val, by have := small t; omega⟩ ⟨128 * (grid0.coords t 0).val + l.val, by have := small t; omega⟩) := by
  have := small t
  blk_point [iblk, idx t]

theorem b8 (t : Fin cfg0.N) (r : Fin 512) (l : Fin 128) : iblk m c 8 t (ix2 r l)
    = V m c main_v78 (ix2 ⟨512 * (grid0.coords t 1).val + r.val, by have := small t; omega⟩ ⟨128 * (grid0.coords t 0).val + l.val, by have := small t; omega⟩) := by
  have := small t
  have h : ∀ X : Buf (Elt Ideal) ((c : Thread nD τ).loc main_v78), View.read (Elt Ideal) (win0_8.blk t).view X (ix2 r l)
    = X (ix2 ⟨512 * (grid0.coords t 1).val + r.val, by omega⟩ ⟨128 * (grid0.coords t 0).val + l.val, by omega⟩) :=
    fun X => congrArg X (by blk_ext [idx t])
  exact h (V m c main_v78)

theorem b9 (t : Fin cfg0.N) (r : Fin 512) (l : Fin 128) : iblk m c 9 t (ix2 r l)
    = V m c main_v84 (ix2 ⟨512 * (grid0.coords t 1).val + r.val, by have := small t; omega⟩ ⟨128 * (grid0.coords t 0).val + l.val, by have := small t; omega⟩) := by
  have := small t
  blk_point [iblk, idx t]

section Reals
variable (q k v g : Fin 4 → ℕ → Fin 64 → ℝ) (d : Fin 4 → ℕ → ℝ)
  (hq : ∀ t h a, (m (c, Proc.tc.devRef main_arg0) (ix3 t h a) : EReal) = (q h t.val a : EReal))
  (hk : ∀ t h a, (m (c, Proc.tc.devRef main_arg1) (ix3 t h a) : EReal) = (k h t.val a : EReal))
  (hv : ∀ t h a, (m (c, Proc.tc.devRef main_arg2) (ix3 t h a) : EReal) = (v h t.val a : EReal))
  (hg : ∀ t h a, (m (c, Proc.tc.devRef main_arg3) (ix3 t h a) : EReal) = (g h t.val a : EReal))
  (hd : ∀ t h, (m (c, Proc.tc.devRef main_arg4) (ix2 t h) : EReal) = (d h t.val : EReal))

/-- A head of the point's pair. -/
abbrev hd2 (t : Fin cfg0.N) (hh : ℕ) (h2 : hh < 2) : Fin 4 := ⟨2 * (grid0.coords t 0).val + hh, by have := small t; omega⟩

include hq in
theorem r0 (t : Fin cfg0.N) (r : Fin 512) (hh : ℕ) (h2 : hh < 2) (a : Fin 64) (n : ℕ) (hn : n = 512 * (grid0.coords t 1).val + r.val) :
    (iblk m c 0 t (ix2 r ⟨64 * hh + a.val, by omega⟩) : EReal) = (q (hd2 t hh h2) n a : EReal) := by
  have := small t
  rw [b0 m c t r _]
  refine (congrArg (V m c main_v95) (KTerm.ix2_eq rfl (by dsimp only <;> omega))).trans ((HDq0.v95_q m c q hq ⟨512 * (grid0.coords t 1).val + r.val, by omega⟩ ⟨128 * (grid0.coords t 0).val + (64 * hh + a.val), by omega⟩).trans ?_)
  exact KTerm.lane_eq q (by dsimp only <;> omega) hn.symm (by dsimp only <;> omega)

include hk in
theorem r1 (t : Fin cfg0.N) (r : Fin 64) (hh : ℕ) (h2 : hh < 2) (a : Fin 64) (n : ℕ) (h : 1 ≤ (grid0.coords t 1).val) (hn : n = 512 * (grid0.coords t 1).val - 64 + r.val) :
    (iblk m c 1 t (ix2 r ⟨64 * hh + a.val, by omega⟩) : EReal) = (k (hd2 t hh h2) n a : EReal) := by
  have := small t
  rw [b1 m c t r _ h]
  refine (congrArg (V m c main_v95) (KTerm.ix2_eq rfl (by dsimp only <;> omega))).trans ((HDq0.v95_k m c k hk ⟨512 * (grid0.coords t 1).val - 64 + r.val, by omega⟩ ⟨(grid0.coords t 0).val, by omega⟩ ⟨64 * hh + a.val, by omega⟩).trans ?_)
  exact KTerm.lane_eq k (by dsimp only <;> omega) hn.symm (by dsimp only <;> omega)

include hk in
theorem r2 (t : Fin cfg0.N) (r : Fin 512) (hh : ℕ) (h2 : hh < 2) (a : Fin 64) (n : ℕ) (hn : n = 512 * (grid0.coords t 1).val + r.val) :
    (iblk m c 2 t (ix2 r ⟨64 * hh + a.val, by omega⟩) : EReal) = (k (hd2 t hh h2) n a : EReal) := by
  have := small t
  rw [b2 m c t r _]
  refine (congrArg (V m c main_v95) (KTerm.ix2_eq rfl (by dsimp only <;> omega))).trans ((HDq0.v95_k m c k hk ⟨512 * (grid0.coords t 1).val + r.val, by omega⟩ ⟨(grid0.coords t 0).val, by omega⟩ ⟨64 * hh + a.val, by omega⟩).trans ?_)
  exact KTerm.lane_eq k (by dsimp only <;> omega) hn.symm (by dsimp only <;> omega)

include hk in
theorem r3 (t : Fin cfg0.N) (r : Fin 64) (hh : ℕ) (h2 : hh < 2) (a : Fin 64) (n : ℕ) (h : (grid0.coords t 1).val < 15) (hn : n = 512 * (grid0.coords t 1).val + 512 + r.val) :
    (iblk m c 3 t (ix2 r ⟨64 * hh + a.val, by omega⟩) : EReal) = (k (hd2 t hh h2) n a : EReal) := by
  have := small t
  rw [b3 m c t r _ h]
  refine (congrArg (V m c main_v95) (KTerm.ix2_eq rfl (by dsimp only <;> omega))).trans ((HDq0.v95_k m c k hk ⟨512 * (grid0.coords t 1).val + 512 + r.val, by omega⟩ ⟨(grid0.coords t 0).val, by omega⟩ ⟨64 * hh + a.val, by omega⟩).trans ?_)
  exact KTerm.lane_eq k (by dsimp only <;> omega) hn.symm (by dsimp only <;> omega)

include hv in
theorem r4 (t : Fin cfg0.N) (r : Fin 64) (hh : ℕ) (h2 : hh < 2) (a : Fin 64) (n : ℕ) (h : 1 ≤ (grid0.coords t 1).val) (hn : n = 512 * (grid0.coords t 1).val - 64 + r.val) :
    (iblk m c 4 t (ix2 r ⟨64 * hh + a.val, by omega⟩) : EReal) = (v (hd2 t hh h2) n a : EReal) := by
  have := small t
  rw [b4 m c t r _ h]
  refine (congrArg (V m c main_v95) (KTerm.ix2_eq rfl (by dsimp only <;> omega))).trans ((HDq0.v95_v m c v hv ⟨512 * (grid0.coords t 1).val - 64 + r.val, by omega⟩ ⟨(grid0.coords t 0).val, by omega⟩ ⟨64 * hh + a.val, by omega⟩).trans ?_)
  exact KTerm.lane_eq v (by dsimp only <;> omega) hn.symm (by dsimp only <;> omega)

include hv in
theorem r5 (t : Fin cfg0.N) (r : Fin 512) (hh : ℕ) (h2 : hh < 2) (a : Fin 64) (n : ℕ) (hn : n = 512 * (grid0.coords t 1).val + r.val) :
    (iblk m c 5 t (ix2 r ⟨64 * hh + a.val, by omega⟩) : EReal) = (v (hd2 t hh h2) n a : EReal) := by
  have := small t
  rw [b5 m c t r _]
  refine (congrArg (V m c main_v95) (KTerm.ix2_eq rfl (by dsimp only <;> omega))).trans ((HDq0.v95_v m c v hv ⟨512 * (grid0.coords t 1).val + r.val, by omega⟩ ⟨(grid0.coords t 0).val, by omega⟩ ⟨64 * hh + a.val, by omega⟩).trans ?_)
  exact KTerm.lane_eq v (by dsimp only <;> omega) hn.symm (by dsimp only <;> omega)

include hv in
theorem r6 (t : Fin cfg0.N) (r : Fin 64) (hh : ℕ) (h2 : hh < 2) (a : Fin 64) (n : ℕ) (h : (grid0.coords t 1).val < 15) (hn : n = 512 * (grid0.coords t 1).val + 512 + r.val) :
    (iblk m c 6 t (ix2 r ⟨64 * hh + a.val, by omega⟩) : EReal) = (v (hd2 t hh h2) n a : EReal) := by
  have := small t
  rw [b6 m c t r _ h]
  refine (congrArg (V m c main_v95) (KTerm.ix2_eq rfl (by dsimp only <;> omega))).trans ((HDq0.v95_v m c v hv ⟨512 * (grid0.coords t 1).val + 512 + r.val, by omega⟩ ⟨(grid0.coords t 0).val, by omega⟩ ⟨64 * hh + a.val, by omega⟩).trans ?_)
  exact KTerm.lane_eq v (by dsimp only <;> omega) hn.symm (by dsimp only <;> omega)

include hg in
theorem r7 (t : Fin cfg0.N) (r : Fin 512) (hh : ℕ) (h2 : hh < 2) (a : Fin 64) (n : ℕ) (hn : n = 512 * (grid0.coords t 1).val + r.val) :
    (iblk m c 7 t (ix2 r ⟨64 * hh + a.val, by omega⟩) : EReal) = (g (hd2 t hh h2) n a : EReal) := by
  have := small t
  rw [b7 m c t r _]
  refine (congrArg (V m c main_v96) (KTerm.ix2_eq rfl (by dsimp only <;> omega))).trans ((HDq0.v96_at m c g hg ⟨512 * (grid0.coords t 1).val + r.val, by omega⟩ ⟨128 * (grid0.coords t 0).val + (64 * hh + a.val), by omega⟩).trans ?_)
  exact KTerm.lane_eq g (by dsimp only <;> omega) hn.symm (by dsimp only <;> omega)

include hq hk in
theorem r8 (t : Fin cfg0.N) (r : Fin 512) (hh : ℕ) (h2 : hh < 2) (n : ℕ) (hn : n = 512 * (grid0.coords t 1).val + r.val) :
    (iblk m c 8 t (ix2 r ⟨64 * hh, by omega⟩) : EReal) = (Real.log (Band.Z 8192 (Slopes.sl0 (hd2 t hh h2)) (q (hd2 t hh h2)) (k (hd2 t hh h2)) n) : EReal) := by
  have := small t
  rw [b8 m c t r _, HDq0.v78_at m c q k hq hk]
  have e : (⟨(128 * (grid0.coords t 0).val + 64 * hh) / 64, by omega⟩ : Fin 4) = hd2 t hh h2 := Fin.ext (by dsimp only <;> omega)
  subst hn
  exact congrArg (fun H => ((Real.log (Band.Z 8192 (Slopes.sl0 H) (q H) (k H) (512 * (grid0.coords t 1).val + r.val)) : ℝ) : EReal)) e

include hq hk hv hg hd in
theorem r9 (t : Fin cfg0.N) (r : Fin 512) (hh : ℕ) (h2 : hh < 2) (n : ℕ) (hn : n = 512 * (grid0.coords t 1).val + r.val) :
    (iblk m c 9 t (ix2 r ⟨64 * hh, by omega⟩) : EReal) = (Band.ee 8192 (Slopes.sl0 (hd2 t hh h2)) (q (hd2 t hh h2)) (k (hd2 t hh h2)) (v (hd2 t hh h2)) (g (hd2 t hh h2)) (d (hd2 t hh h2)) n : EReal) := by
  have := small t
  rw [b9 m c t r _, HDq0.v84_at m c q k v g d hq hk hv hg hd]
  have e : (⟨(128 * (grid0.coords t 0).val + 64 * hh) / 64, by omega⟩ : Fin 4) = hd2 t hh h2 := Fin.ext (by dsimp only <;> omega)
  subst hn
  exact congrArg (fun H => ((Band.ee 8192 (Slopes.sl0 H) (q H) (k H) (v H) (g H) (d H) (512 * (grid0.coords t 1).val + r.val) : ℝ) : EReal)) e

theorem small_y (x : S128x128.Idx) : (x 0 : ℕ) < 128 ∧ (x 1 : ℕ) < 128 := ⟨(x 0).isLt, (x 1).isLt⟩

/-- The array of the queries' gradient, at its own columns. -/
abbrev G : S8192x9728.Idx → EReal := fun i => if h : 8704 ≤ (i 1 : ℕ) ∧ (i 1 : ℕ) < 8960 then
  ((Band.dq 8192 (Slopes.sl0 ⟨((i 1 : ℕ) - 8704) / 64, by omega⟩) (q ⟨((i 1 : ℕ) - 8704) / 64, by omega⟩) (k ⟨((i 1 : ℕ) - 8704) / 64, by omega⟩)
    (v ⟨((i 1 : ℕ) - 8704) / 64, by omega⟩) (g ⟨((i 1 : ℕ) - 8704) / 64, by omega⟩) (d ⟨((i 1 : ℕ) - 8704) / 64, by omega⟩) (i 0 : ℕ)
      ⟨((i 1 : ℕ) - 8704) % 64, by omega⟩ : ℝ) : EReal) else 0

theorem G_at (t : Fin cfg0.N) (hh : ℕ) (h2 : hh < 2) (a : Fin 64) (n : ℕ) (i : S8192x9728.Idx) (h0 : (i 0 : ℕ) = n)
    (h1 : (i 1 : ℕ) = 8704 + 128 * (grid0.coords t 0).val + 64 * hh + a.val) :
    G q k v g d i = ((Band.dq 8192 (Slopes.sl0 (hd2 t hh h2)) (q (hd2 t hh h2)) (k (hd2 t hh h2)) (v (hd2 t hh h2)) (g (hd2 t hh h2)) (d (hd2 t hh h2)) n a : ℝ) : EReal) := by
  have := small t
  unfold G
  rw [dif_pos ⟨by omega, by omega⟩]
  have e : (⟨((i 1 : ℕ) - 8704) / 64, by omega⟩ : Fin 4) = hd2 t hh h2 := Fin.ext (by dsimp only <;> omega)
  have e' : (⟨((i 1 : ℕ) - 8704) % 64, by omega⟩ : Fin 64) = a := Fin.ext (by dsimp only <;> omega)
  rw [e, e', h0]

include hq hk hv hg hd in
/-- A pair's share, at a row of the blocks the point reads. -/
theorem cell (t : Fin cfg0.N) (s : ℕ) (hs : s < 4) (x j hh : ℕ) (hx : x < 128) (hj : j < 256) (h2 : hh < 2)
    {S M : EReal} (hM : M = ⊥) (hS : S = (Slopes.sl0 (hd2 t hh h2) : EReal)) {K V : Fin 128 → EReal} {X : EReal} (a : Fin 64)
    (hK : 64 ≤ 512 * (grid0.coords t 1).val + 128 * s + j → 512 * (grid0.coords t 1).val + 128 * s + j < 8192 + 64 → ∀ b : Fin 64, K ⟨64 * hh + b.val, by omega⟩ = (k (hd2 t hh h2) (512 * (grid0.coords t 1).val + 128 * s + j - 64) b : EReal))
    (hV : 64 ≤ 512 * (grid0.coords t 1).val + 128 * s + j → 512 * (grid0.coords t 1).val + 128 * s + j < 8192 + 64 → ∀ b : Fin 64, V ⟨64 * hh + b.val, by omega⟩ = (v (hd2 t hh h2) (512 * (grid0.coords t 1).val + 128 * s + j - 64) b : EReal))
    (hX : X = K ⟨64 * hh + a.val, by omega⟩) (r : Fin 512) (hr : r.val = 128 * s + x) {Q D : Fin 128 → EReal} {L E : EReal}
    (hQ : ∀ l, Q l = iblk m c 0 t (ix2 r l)) (hD : ∀ l, D l = iblk m c 7 t (ix2 r l))
    (hL : L = iblk m c 8 t (ix2 r ⟨64 * hh, by omega⟩)) (hE : E = iblk m c 9 t (ix2 r ⟨64 * hh, by omega⟩))
    {Bs : BitVec 32} (hB : Bs = Scalar.muli (Scalar.addi (Scalar.muli (BitVec.ofNat 32 (grid0.coords t 1).val) 4#32) (BitVec.ofNat 32 s)) 128#32) :
    Ideal.exp (∑ l : Fin 128, Scalar.select (IntOp.cmpi CmpIPredicate.eq (KTerm.hw l.val) (BitVec.ofNat 32 hh)) (Q l * Ideal.ofBits FTy.f32 1040187392#32 * K l) 0
        + KTerm.bw Bs x j 8192 1 S M - L)
      * (∑ l : Fin 128, Scalar.select (IntOp.cmpi CmpIPredicate.eq (KTerm.hw l.val) (BitVec.ofNat 32 hh)) (D l * V l) 0 + E) * X
      = ((if Band.inWin 8192 (512 * (grid0.coords t 1).val + 128 * s) (512 * (grid0.coords t 1).val + 128 * s + x) (⟨j, hj⟩ : Fin 256) then
          Band.ds 8192 (Slopes.sl0 (hd2 t hh h2)) (q (hd2 t hh h2)) (k (hd2 t hh h2)) (v (hd2 t hh h2)) (g (hd2 t hh h2)) (d (hd2 t hh h2))
            (512 * (grid0.coords t 1).val + 128 * s + x) (512 * (grid0.coords t 1).val + 128 * s + j - 64)
            * k (hd2 t hh h2) (512 * (grid0.coords t 1).val + 128 * s + j - 64) a else 0 : ℝ) : EReal) := by
  have := small t
  have e : Slopes.sl0 (hd2 t hh h2) * ((1 : ℕ) : ℝ) = Slopes.sl0 (hd2 t hh h2) := by rw [Nat.cast_one, mul_one]
  have h := KTerm.cell_q 8192 (512 * (grid0.coords t 1).val + 128 * s) x j 1 hh (Slopes.sl0 (hd2 t hh h2)) (q (hd2 t hh h2)) (k (hd2 t hh h2)) (v (hd2 t hh h2))
    (g (hd2 t hh h2)) (d (hd2 t hh h2)) (S := S) (M := M) (B := Bs)
    (hB.trans ((KTerm.base _ 4 s).trans (congrArg Words.w (by push_cast; ring)))) (by omega) (by omega) hx (by omega) hj (by omega) h2 hS
    hM (Q := Q) (K := K) (D := D) (V := V) (L := L) (E := E) (X := X) a
    (fun b => (hQ _).trans (r0 m c q hq t r hh h2 b _ (by omega))) (fun b => (hD _).trans (r7 m c g hg t r hh h2 b _ (by omega)))
    (e.symm ▸ hL.trans (r8 m c q k hq hk t r hh h2 (512 * (grid0.coords t 1).val + 128 * s + x) (by omega)))
    (e.symm ▸ hE.trans (r9 m c q k v g d hq hk hv hg hd t r hh h2 (512 * (grid0.coords t 1).val + 128 * s + x) (by omega)))
    hK hV (fun h1 h2 => hX.trans (hK h1 h2 a))
  rw [e] at h
  exact h

/-- A row's shares of the queries' gradient over its window. -/
abbrev F (t : Fin cfg0.N) (s x hh : ℕ) (h2 : hh < 2) (a : Fin 64) (j : Fin 256) : ℝ :=
  if Band.inWin 8192 (512 * (grid0.coords t 1).val + 128 * s) (512 * (grid0.coords t 1).val + 128 * s + x) j then
          Band.ds 8192 (Slopes.sl0 (hd2 t hh h2)) (q (hd2 t hh h2)) (k (hd2 t hh h2)) (v (hd2 t hh h2)) (g (hd2 t hh h2)) (d (hd2 t hh h2))
            (512 * (grid0.coords t 1).val + 128 * s + x) (512 * (grid0.coords t 1).val + 128 * s + j.val - 64)
            * k (hd2 t hh h2) (512 * (grid0.coords t 1).val + 128 * s + j.val - 64) a else 0

/-- A window's sum, scaled, is the gradient. -/
theorem sum_F (t : Fin cfg0.N) (s x hh : ℕ) (hx : x < 128) (h2 : hh < 2) (a : Fin 64) {A : EReal}
    (hA : A = ((∑ j, F q k v g d t s x hh h2 a j : ℝ) : EReal)) (i : S8192x9728.Idx) (h0 : (i 0 : ℕ) = 512 * (grid0.coords t 1).val + 128 * s + x)
    (h1 : (i 1 : ℕ) = 8704 + 128 * (grid0.coords t 0).val + (64 * hh + a.val)) :
    A * Ideal.ofBits FTy.f32 1040187392#32 = G q k v g d i := by
  rw [G_at q k v g d t hh h2 a _ i h0 (by omega), hA, Slopes.eighth, ← EReal.coe_mul,
    Band.band' 8192 (512 * (grid0.coords t 1).val + 128 * s) (512 * (grid0.coords t 1).val + 128 * s + x) (by omega) (by omega)
      (fun s' => Band.ds 8192 (Slopes.sl0 (hd2 t hh h2)) (q (hd2 t hh h2)) (k (hd2 t hh h2)) (v (hd2 t hh h2)) (g (hd2 t hh h2)) (d (hd2 t hh h2))
            (512 * (grid0.coords t 1).val + 128 * s + x) s' * k (hd2 t hh h2) s' a) fun s' h => by rw [Band.ds_far _ _ _ _ _ _ _ h, zero_mul]]
  rfl

theorem mask : (Named.named (F := Ideal) (φ := .f32) κ "mask" 4048155338#32 : EReal) = ⊥ := rfl

theorem emb_y (t : Fin cfg0.N) (y : S512x128.Idx) : ((((cfg0.win 10).blk t).view.emb y) 0 : ℕ) = 512 * (grid0.coords t 1).val + (y 0 : ℕ)
    ∧ ((((cfg0.win 10).blk t).view.emb y) 1 : ℕ) = 8704 + 128 * (grid0.coords t 0).val + (y 1 : ℕ) := by
  constructor <;> blk_simp [idx t] <;> omega

end Reals
end Cert.Proof.KDq0
end
-- ==== Proof.PDq0.lean ====
module
public import proofs.«01_k».proof.Proof.KDq0
@[expose] public section
set_option maxRecDepth 16384
noncomputable section
/-! The kernel of the queries' gradient of the first group: what it leaves in its array. -/
namespace Cert.Proof.PDq0
open Idealize.ShloMosaic Idealize.ShloMosaic.TcCoe Idealize.SL.Sem
open Idealize.ShloMosaic.Pipeline (Dat)
open Cert.AttnDq0Ideal Cert.AttnDq0Ideal.Gen Cert.Proof.KDq0
variable (m : (ℓ : Loc nD τ sig) → Buf (Elt Ideal) ℓ) (c : Dev nD)
section Reals
variable (q k v g : Fin 4 → ℕ → Fin 64 → ℝ) (d : Fin 4 → ℕ → ℝ)
  (hq : ∀ t h a, (m (c, Proc.tc.devRef main_arg0) (ix3 t h a) : EReal) = (q h t.val a : EReal))
  (hk : ∀ t h a, (m (c, Proc.tc.devRef main_arg1) (ix3 t h a) : EReal) = (k h t.val a : EReal))
  (hv : ∀ t h a, (m (c, Proc.tc.devRef main_arg2) (ix3 t h a) : EReal) = (v h t.val a : EReal))
  (hg : ∀ t h a, (m (c, Proc.tc.devRef main_arg3) (ix3 t h a) : EReal) = (g h t.val a : EReal))
  (hd : ∀ t h, (m (c, Proc.tc.devRef main_arg4) (ix2 t h) : EReal) = (d h t.val : EReal))

include hq hk hv hg hd in
set_option maxHeartbeats 0 in
theorem point (t : Fin cfg0.N) (y : S512x128.Idx) : (outsAt0 m c t y : EReal) = G q k v g d (((cfg0.win 10).blk t).view.emb y) := by
  unfold outsAt0
  frame_out
  pointwise [k0_pay2]
  rw [View.readCov_eq_canon']
  show View.canon _ _ = _
  have sm := small t
  have ey := emb_y t y
  generalize ((cfg0.win 10).blk t).view.emb y = i at ey ⊢
  canon_tiles x h
  case piece3 =>
    open_payloads
    pointwise
    have e0 : (y 0 : ℕ) = (x 0 : ℕ) := by simpa using h0
    have e1 : (y 1 : ℕ) = (x 1 : ℕ) := by simpa using h1
    refine KTerm.by_head _ (x 1).isLt _ _ _ (fun a ha => ?_) (fun a ha => ?_)
    · refine sum_F q k v g d t 0 (x 0).val 1 (x 0).isLt (by omega) a (KTerm.split_sum (n := 64) (n' := 192) _ _ _ (fun j => ?_) (fun j => ?_)) _ (by omega) (by omega)
      · refine cell m c q k v g d hq hk hv hg hd t 0 (by omega) (x 0).val (j.val) 1 (x 0).isLt (by omega) (by omega) ?_ ?_ a
          ?_ ?_ ?_ ⟨(x 0).val, by omega⟩ ?_ ?_ ?_ ?_ ?_ ?_
        · exact mask
        · exact KTerm.slope _ 1 sm.1 (by omega) rfl rfl
        · exact fun _ _ b => r1 m c k hk t _ 1 (by omega) b _ (by omega) (by first | omega | (dsimp only <;> omega))
        · exact fun _ _ b => r4 m c v hv t _ 1 (by omega) b _ (by omega) (by first | omega | (dsimp only <;> omega))
        · exact congrArg (fun l => (iblk m c 1 t (ix2 _ l) : EReal)) (Fin.ext ha)
        · first | omega | (dsimp only <;> omega)
        · exact fun _ => rfl
        · exact fun _ => rfl
        · exact rfl
        · exact rfl
        · exact rfl
      · refine cell m c q k v g d hq hk hv hg hd t 0 (by omega) (x 0).val (64 + j.val) 1 (x 0).isLt (by omega) (by omega) ?_ ?_ a
          ?_ ?_ ?_ ⟨(x 0).val, by omega⟩ ?_ ?_ ?_ ?_ ?_ ?_
        · exact mask
        · exact KTerm.slope _ 1 sm.1 (by omega) rfl rfl
        · exact fun _ _ b => r2 m c k hk t _ 1 (by omega) b _ (by first | omega | (dsimp only <;> omega))
        · exact fun _ _ b => r5 m c v hv t _ 1 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
    · refine sum_F q k v g d t 0 (x 0).val 0 (x 0).isLt (by omega) a (KTerm.split_sum (n := 64) (n' := 192) _ _ _ (fun j => ?_) (fun j => ?_)) _ (by omega) (by omega)
      · refine cell m c q k v g d hq hk hv hg hd t 0 (by omega) (x 0).val (j.val) 0 (x 0).isLt (by omega) (by omega) ?_ ?_ a
          ?_ ?_ ?_ ⟨(x 0).val, by omega⟩ ?_ ?_ ?_ ?_ ?_ ?_
        · exact mask
        · exact KTerm.slope _ 0 sm.1 (by omega) rfl rfl
        · exact fun _ _ b => r1 m c k hk t _ 0 (by omega) b _ (by omega) (by first | omega | (dsimp only <;> omega))
        · exact fun _ _ b => r4 m c v hv t _ 0 (by omega) b _ (by omega) (by first | omega | (dsimp only <;> omega))
        · exact congrArg (fun l => (iblk m c 1 t (ix2 _ l) : EReal)) (Fin.ext ha)
        · first | omega | (dsimp only <;> omega)
        · exact fun _ => rfl
        · exact fun _ => rfl
        · exact rfl
        · exact rfl
        · exact rfl
      · refine cell m c q k v g d hq hk hv hg hd t 0 (by omega) (x 0).val (64 + j.val) 0 (x 0).isLt (by omega) (by omega) ?_ ?_ a
          ?_ ?_ ?_ ⟨(x 0).val, by omega⟩ ?_ ?_ ?_ ?_ ?_ ?_
        · exact mask
        · exact KTerm.slope _ 0 sm.1 (by omega) rfl rfl
        · exact fun _ _ b => r2 m c k hk t _ 0 (by omega) b _ (by first | omega | (dsimp only <;> omega))
        · exact fun _ _ b => r5 m c v hv t _ 0 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
  case piece2 =>
    open_payloads
    pointwise
    have e0 : (y 0 : ℕ) = 128 + (x 0 : ℕ) := by simpa using h0
    have e1 : (y 1 : ℕ) = (x 1 : ℕ) := by simpa using h1
    refine KTerm.by_head _ (x 1).isLt _ _ _ (fun a ha => ?_) (fun a ha => ?_)
    · refine sum_F q k v g d t 1 (x 0).val 1 (x 0).isLt (by omega) a (KTerm.whole_sum _ _ (fun j => ?_)) _ (by omega) (by omega)
      · refine cell m c q k v g d hq hk hv hg hd t 1 (by omega) (x 0).val (j.val) 1 (x 0).isLt (by omega) (by omega) ?_ ?_ a
          ?_ ?_ ?_ ⟨128 + (x 0).val, by omega⟩ ?_ ?_ ?_ ?_ ?_ ?_
        · exact mask
        · exact KTerm.slope _ 1 sm.1 (by omega) rfl rfl
        · exact fun _ _ b => r2 m c k hk t _ 1 (by omega) b _ (by first | omega | (dsimp only <;> omega))
        · exact fun _ _ b => r5 m c v hv t _ 1 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
    · refine sum_F q k v g d t 1 (x 0).val 0 (x 0).isLt (by omega) a (KTerm.whole_sum _ _ (fun j => ?_)) _ (by omega) (by omega)
      · refine cell m c q k v g d hq hk hv hg hd t 1 (by omega) (x 0).val (j.val) 0 (x 0).isLt (by omega) (by omega) ?_ ?_ a
          ?_ ?_ ?_ ⟨128 + (x 0).val, by omega⟩ ?_ ?_ ?_ ?_ ?_ ?_
        · exact mask
        · exact KTerm.slope _ 0 sm.1 (by omega) rfl rfl
        · exact fun _ _ b => r2 m c k hk t _ 0 (by omega) b _ (by first | omega | (dsimp only <;> omega))
        · exact fun _ _ b => r5 m c v hv t _ 0 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
  case piece1 =>
    open_payloads
    pointwise
    have e0 : (y 0 : ℕ) = 256 + (x 0 : ℕ) := by simpa using h0
    have e1 : (y 1 : ℕ) = (x 1 : ℕ) := by simpa using h1
    refine KTerm.by_head _ (x 1).isLt _ _ _ (fun a ha => ?_) (fun a ha => ?_)
    · refine sum_F q k v g d t 2 (x 0).val 1 (x 0).isLt (by omega) a (KTerm.whole_sum _ _ (fun j => ?_)) _ (by omega) (by omega)
      · refine cell m c q k v g d hq hk hv hg hd t 2 (by omega) (x 0).val (j.val) 1 (x 0).isLt (by omega) (by omega) ?_ ?_ a
          ?_ ?_ ?_ ⟨256 + (x 0).val, by omega⟩ ?_ ?_ ?_ ?_ ?_ ?_
        · exact mask
        · exact KTerm.slope _ 1 sm.1 (by omega) rfl rfl
        · exact fun _ _ b => r2 m c k hk t _ 1 (by omega) b _ (by first | omega | (dsimp only <;> omega))
        · exact fun _ _ b => r5 m c v hv t _ 1 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
    · refine sum_F q k v g d t 2 (x 0).val 0 (x 0).isLt (by omega) a (KTerm.whole_sum _ _ (fun j => ?_)) _ (by omega) (by omega)
      · refine cell m c q k v g d hq hk hv hg hd t 2 (by omega) (x 0).val (j.val) 0 (x 0).isLt (by omega) (by omega) ?_ ?_ a
          ?_ ?_ ?_ ⟨256 + (x 0).val, by omega⟩ ?_ ?_ ?_ ?_ ?_ ?_
        · exact mask
        · exact KTerm.slope _ 0 sm.1 (by omega) rfl rfl
        · exact fun _ _ b => r2 m c k hk t _ 0 (by omega) b _ (by first | omega | (dsimp only <;> omega))
        · exact fun _ _ b => r5 m c v hv t _ 0 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
  case piece0 =>
    open_payloads
    pointwise
    have e0 : (y 0 : ℕ) = 384 + (x 0 : ℕ) := by simpa using h0
    have e1 : (y 1 : ℕ) = (x 1 : ℕ) := by simpa using h1
    refine KTerm.by_head _ (x 1).isLt _ _ _ (fun a ha => ?_) (fun a ha => ?_)
    · refine sum_F q k v g d t 3 (x 0).val 1 (x 0).isLt (by omega) a (KTerm.split_sum (n := 192) (n' := 64) _ _ _ (fun j => ?_) (fun j => ?_)) _ (by omega) (by omega)
      · refine cell m c q k v g d hq hk hv hg hd t 3 (by omega) (x 0).val (j.val) 1 (x 0).isLt (by omega) (by omega) ?_ ?_ a
          ?_ ?_ ?_ ⟨384 + (x 0).val, by omega⟩ ?_ ?_ ?_ ?_ ?_ ?_
        · exact mask
        · exact KTerm.slope _ 1 sm.1 (by omega) rfl rfl
        · exact fun _ _ b => r2 m c k hk t _ 1 (by omega) b _ (by first | omega | (dsimp only <;> omega))
        · exact fun _ _ b => r5 m c v hv t _ 1 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
      · refine cell m c q k v g d hq hk hv hg hd t 3 (by omega) (x 0).val (192 + j.val) 1 (x 0).isLt (by omega) (by omega) ?_ ?_ a
          ?_ ?_ ?_ ⟨384 + (x 0).val, by omega⟩ ?_ ?_ ?_ ?_ ?_ ?_
        · exact mask
        · exact KTerm.slope _ 1 sm.1 (by omega) rfl rfl
        · exact fun _ _ b => r3 m c k hk t _ 1 (by omega) b _ (by omega) (by first | omega | (dsimp only <;> omega))
        · exact fun _ _ b => r6 m c v hv t _ 1 (by omega) b _ (by omega) (by first | omega | (dsimp only <;> omega))
        · exact congrArg (fun l => (iblk m c 3 t (ix2 _ l) : EReal)) (Fin.ext ha)
        · first | omega | (dsimp only <;> omega)
        · exact fun _ => rfl
        · exact fun _ => rfl
        · exact rfl
        · exact rfl
        · exact rfl
    · refine sum_F q k v g d t 3 (x 0).val 0 (x 0).isLt (by omega) a (KTerm.split_sum (n := 192) (n' := 64) _ _ _ (fun j => ?_) (fun j => ?_)) _ (by omega) (by omega)
      · refine cell m c q k v g d hq hk hv hg hd t 3 (by omega) (x 0).val (j.val) 0 (x 0).isLt (by omega) (by omega) ?_ ?_ a
          ?_ ?_ ?_ ⟨384 + (x 0).val, by omega⟩ ?_ ?_ ?_ ?_ ?_ ?_
        · exact mask
        · exact KTerm.slope _ 0 sm.1 (by omega) rfl rfl
        · exact fun _ _ b => r2 m c k hk t _ 0 (by omega) b _ (by first | omega | (dsimp only <;> omega))
        · exact fun _ _ b => r5 m c v hv t _ 0 (by omega) b _ (by first | omega | (dsimp only <;> omega))
        · exact congrArg (fun l => (iblk m c 2 t (ix2 _ l) : EReal)) (Fin.ext ha)
        · first | omega | (dsimp only <;> omega)
        · exact fun _ => rfl
        · exact fun _ => rfl
        · exact rfl
        · exact rfl
        · exact rfl
      · refine cell m c q k v g d hq hk hv hg hd t 3 (by omega) (x 0).val (192 + j.val) 0 (x 0).isLt (by omega) (by omega) ?_ ?_ a
          ?_ ?_ ?_ ⟨384 + (x 0).val, by omega⟩ ?_ ?_ ?_ ?_ ?_ ?_
        · exact mask
        · exact KTerm.slope _ 0 sm.1 (by omega) rfl rfl
        · exact fun _ _ b => r3 m c k hk t _ 0 (by omega) b _ (by omega) (by first | omega | (dsimp only <;> omega))
        · exact fun _ _ b => r6 m c v hv t _ 0 (by omega) b _ (by omega) (by first | omega | (dsimp only <;> omega))
        · exact congrArg (fun l => (iblk m c 3 t (ix2 _ l) : EReal)) (Fin.ext ha)
        · first | omega | (dsimp only <;> omega)
        · exact fun _ => rfl
        · exact fun _ => rfl
        · exact rfl
        · exact rfl
        · exact rfl

include hq hk hv hg hd in
/-- The kernel's array: the gradient at the group's columns, what it was elsewhere. -/
theorem final : ((dats m 0 c).arrAt 10 cfg0.N : S8192x9728.Idx → EReal)
    = fun i => if 68 ≤ ((i 1 : ℕ) / 128) ∧ ((i 1 : ℕ) / 128) < 70 then G q k v g d i else (m (c, Proc.tc.devRef main_arg5) i : EReal) := by
  have hc : (cfg0.win 10).CoversWhere (fun β => 68 ≤ β 1 ∧ β 1 < 70) := by decide +kernel
  have h : ((dats m 0 c).arrAt 10 cfg0.N : S8192x9728.Idx → EReal)
      = fun i => if 68 ≤ ((i 1 : ℕ) / 128) ∧ ((i 1 : ℕ) / 128) < 70 then G q k v g d i else ((dats m 0 c).A 10 i : EReal) := by
    refine (dats m 0 c).arrAt_eq_of_coversWhere 10 (G q k v g d) (fun β => 68 ≤ β 1 ∧ β 1 < 70) hc ?_ ?_
    · intro t hf y
      blk_simp
      rw [after0_10]
      exact point m c q k v g d hq hk hv hg hd t y
    · intro j
      blk_simp [Pipeline.Window.cell_apply]
  have e : (V m c main_v97 : S8192x9728.Idx → EReal) = m (c, Proc.tc.devRef main_arg5) := by
    unfold V
    after_reads_simp
    rfl
  have h' : ∀ i, ((dats m 0 c).A 10 i : EReal) = (m (c, Proc.tc.devRef main_arg5) i : EReal) := by
    intro i
    rw [A_eq]
    exact congrFun (e : (V m c main_v97 : S8192x9728.Idx → EReal) = m (c, Proc.tc.devRef main_arg5)) i
  rw [h]
  simp only [h']

end Reals
end Cert.Proof.PDq0
end
-- ==== Proof.RDq0.lean ====
module
public import proofs.«01_k».proof.Proof.Gen.AttnDq0RefIdeal.Read
public import proofs.«01_k».proof.Proof.Band
public import proofs.«01_k».proof.Proof.Slopes
public import proofs.«01_k».proof.Proof.HDq0
public import Idealize.ShloMosaic.Lib.Pipeline.ValueKit
@[expose] public section
set_option maxRecDepth 16384
noncomputable section
/-! The reference of the queries' gradient of the first group, read at an index. -/
namespace Cert.Proof.RDq0
open Idealize.ShloMosaic Idealize.ShloMosaic.TcCoe Idealize.SL.Sem
open Cert.AttnDq0RefIdeal Cert.AttnDq0RefIdeal.Read
variable (x0 x1 x2 x3 : (⟨S8192x4x64, .f32⟩ : BufTy).Contents (Elt Ideal)) (x4 : (⟨S8192x4, .f32⟩ : BufTy).Contents (Elt Ideal))
  (x5 : (⟨S8192x9728, .bf16⟩ : BufTy).Contents (Elt Ideal))

/-- The mask's words are the band. -/
theorem word (n r j : ℕ) (hn : n < 128) (hr : r < 64) (hj : j < 192) :
    IntOp.andi (IntOp.andi (IntOp.cmpi CmpIPredicate.sle (IntOp.absi
            (IntOp.subi (IntOp.addi (IntOp.subi (IntOp.muli (BitVec.ofNat 32 n) 64#32) 64#32) (BitVec.ofNat 32 j))
              (IntOp.addi (IntOp.muli (BitVec.ofNat 32 n) 64#32) (BitVec.ofNat 32 r)))) 64#32)
        (IntOp.cmpi CmpIPredicate.sge (IntOp.addi (IntOp.subi (IntOp.muli (BitVec.ofNat 32 n) 64#32) 64#32) (BitVec.ofNat 32 j)) 0#32))
      (IntOp.cmpi CmpIPredicate.slt (IntOp.addi (IntOp.subi (IntOp.muli (BitVec.ofNat 32 n) 64#32) 64#32) (BitVec.ofNat 32 j)) 8192#32)
    = BitVec.ofBool (decide (64 ≤ n * 64 + j ∧ n * 64 + j < 8256 ∧ n * 64 + r ≤ n * 64 + j ∧ n * 64 + j ≤ n * 64 + r + 128)) := by
  have h₀ := abs_nonneg ((n : ℤ) * (64 : ℕ) - (64 : ℕ) + j - (n * (64 : ℕ) + r))
  have h₁ : |(n : ℤ) * (64 : ℕ) - (64 : ℕ) + j - (n * (64 : ℕ) + r)| < 1024 := abs_lt.mpr (by constructor <;> omega)
  simp only [Words.ofNat_w, Words.subi_w, Words.addi_w, Words.muli_w]
  rw [Words.absi_w _ (by omega) (by omega), Words.sle_w _ _ (by omega) (by omega) (by omega) (by omega),
    Words.sge_w _ _ (by omega) (by omega) (by omega) (by omega), Words.slt_w _ _ (by omega) (by omega) (by omega) (by omega), Words.andi_bool, Words.andi_bool]
  congr 1
  simp only [← Bool.decide_and, decide_eq_decide, abs_le]
  push_cast
  omega

/-- The distance's word. -/
theorem far (n r j : ℕ) (hn : n < 128) (hr : r < 64) (hj : j < 192) (hv : 64 ≤ n * 64 + j) :
    (FloatOps.sitofp (F := Ideal) .f32 (IntOp.muli (IntOp.absi
          (IntOp.subi (IntOp.addi (IntOp.subi (IntOp.muli (BitVec.ofNat 32 n) 64#32) 64#32) (BitVec.ofNat 32 j))
            (IntOp.addi (IntOp.muli (BitVec.ofNat 32 n) 64#32) (BitVec.ofNat 32 r)))) 1#32) : EReal)
      = ((|((n * 64 + r : ℕ) : ℝ) - ((n * 64 + j - 64 : ℕ) : ℝ)| : ℝ) : EReal) := by
  have h₀ := abs_nonneg ((n : ℤ) * (64 : ℕ) - (64 : ℕ) + j - (n * (64 : ℕ) + r))
  have h₁ : |(n : ℤ) * (64 : ℕ) - (64 : ℕ) + j - (n * (64 : ℕ) + r)| < 1024 := abs_lt.mpr (by constructor <;> omega)
  simp only [Words.ofNat_w, Words.subi_w, Words.addi_w, Words.muli_w]
  rw [Words.absi_w _ (by omega) (by omega), Words.muli_w, Words.sitofp_w _ (by omega) (by omega)]
  rw [Nat.cast_sub hv]
  push_cast
  rw [abs_sub_comm, mul_one]
  congr 2; ring

theorem one : (FloatOps.uitofp (F := Ideal) .f32 (BitVec.ofBool true) : EReal) = 1 := by
  show (((1 : ℕ) : ℝ) : EReal) = 1
  norm_num
theorem zero : (FloatOps.uitofp (F := Ideal) .f32 (BitVec.ofBool false) : EReal) = 0 := by
  show (((0 : ℕ) : ℝ) : EReal) = 0
  norm_num

/-- A sum over two axes of length one. -/
theorem unit_sum (X : S1x4x128x64x1.Idx → EReal) (z : EReal) (h : Fin 4) (n : Fin 128) (r : Fin 64) :
    Ideal.hostReduceAdd Gen.reducesTo_S1x4x128x64x1_S4x128x64_d0_4 X z (ix3 h n r) = z + X (ix5 0 h n r 0) := by
  unfold Ideal.hostReduceAdd
  congr 1
  refine Finset.sum_eq_single_of_mem _ (Finset.mem_filter.mpr ⟨Finset.mem_univ _, ?_⟩) ?_
  · funext a; fin_cases a <;> rfl
  · intro i hi hn
    have e := (Finset.mem_filter.mp hi).2
    refine absurd ?_ hn
    funext a
    fin_cases a
    · exact Subsingleton.elim (α := Fin 1) _ _
    · exact congrFun e 0
    · exact congrFun e 1
    · exact congrFun e 2
    · exact Subsingleton.elim (α := Fin 1) _ _

section Cat
variable {a0 : S8192x8704.Idx → EReal} {a1 : S8192x256.Idx → EReal} {a2 : S8192x768.Idx → EReal}

/-- The three pieces of the joined array, each at its own columns. -/
theorem cat_lo (t : Fin 8192) (l : Fin 9728) (h : l.val < 8704) :
    concatenate S8192x9728 1 [⟨S8192x8704, a0⟩, ⟨S8192x256, a1⟩, ⟨S8192x768, a2⟩] Gen.concatenates_S8192x8704_S8192x256_S8192x768_S8192x9728_d1 (ix2 t l) = a0 (ix2 t ⟨l.val, h⟩) := by
  pointwise
  repeat first | rw [dif_neg (by omega)] | rw [dif_pos (by omega)]

theorem cat_mid (t : Fin 8192) (l : Fin 9728) (h : 8704 ≤ l.val ∧ l.val < 8960) :
    concatenate S8192x9728 1 [⟨S8192x8704, a0⟩, ⟨S8192x256, a1⟩, ⟨S8192x768, a2⟩] Gen.concatenates_S8192x8704_S8192x256_S8192x768_S8192x9728_d1 (ix2 t l) = a1 (ix2 t ⟨l.val - 8704, by omega⟩) := by
  pointwise
  repeat first | rw [dif_neg (by omega)] | rw [dif_pos (by omega)]

theorem cat_hi (t : Fin 8192) (l : Fin 9728) (h : 8960 ≤ l.val) :
    concatenate S8192x9728 1 [⟨S8192x8704, a0⟩, ⟨S8192x256, a1⟩, ⟨S8192x768, a2⟩] Gen.concatenates_S8192x8704_S8192x256_S8192x768_S8192x9728_d1 (ix2 t l) = a2 (ix2 t ⟨l.val - 8960, by omega⟩) := by
  pointwise
  repeat first | rw [dif_neg (by omega)] | rw [dif_pos (by omega)]
  exact congrArg (fun x => a2 (ix2 t x)) (Fin.ext (by dsimp only; omega))
end Cat

section Reals
variable (q k v g : Fin 4 → ℕ → Fin 64 → ℝ) (d : Fin 4 → ℕ → ℝ)
  (hq : ∀ t h a, (x0 (ix3 t h a) : EReal) = (q h t.val a : EReal))
  (hk : ∀ t h a, (x1 (ix3 t h a) : EReal) = (k h t.val a : EReal))
  (hv : ∀ t h a, (x2 (ix3 t h a) : EReal) = (v h t.val a : EReal))
  (hg : ∀ t h a, (x3 (ix3 t h a) : EReal) = (g h t.val a : EReal))
  (hd : ∀ t h, (x4 (ix2 t h) : EReal) = (d h t.val : EReal))

include hq in
theorem v7_at (h : Fin 4) (n : Fin 128) (r a : Fin 64) :
    (val_main_v7 (F := Ideal) x0 (ix5 0 h n r a) : EReal) = (q h (n.val * 64 + r.val) a : EReal) := by
  pointwise [val_main_v7, val_main_v6, val_main_v5]
  rw [hq]

include hk in
theorem v11_at (h : Fin 4) (n : Fin 130) (r a : Fin 64) :
    (val_main_v11 (F := Ideal) x1 (ix5 0 h n r a) : EReal) = if 64 ≤ n.val * 64 + r.val ∧ n.val * 64 + r.val - 64 < 8192 then
      (k h (n.val * 64 + r.val - 64) a : EReal) else (0 : EReal) := by
  pointwise [val_main_v11, val_main_v10, val_main_v9, val_main_v8, val_main_call0_v0, val_main_c]
  simp only [hk]
  split_ifs
  · rfl
  · exact (Words.sitofp_w 0 (by omega) (by omega)).trans (by push_cast; exact EReal.coe_zero)

include hk in
theorem v15_at (h : Fin 4) (n : Fin 128) (j : Fin 192) (a : Fin 64) :
    (val_main_v15 (F := Ideal) x1 (ix5 0 h n j a) : EReal)
      = ((if 64 ≤ n.val * 64 + j.val ∧ n.val * 64 + j.val < 8192 + 64 then k h (n.val * 64 + j.val - 64) a else 0 : ℝ) : EReal) := by
  have h3 := v11_at x1 k hk
  unfold val_main_v15 val_main_v12 val_main_v13 val_main_v14
  generalize val_main_v11 (F := Ideal) x1 = K at h3 ⊢
  pointwise
  exact (HDq0.win K k h3 h n j a).trans (by rw [apply_ite ((↑) : ℝ → EReal), EReal.coe_zero])

include hv in
theorem v23_at (h : Fin 4) (n : Fin 128) (j : Fin 192) (a : Fin 64) :
    (val_main_v23 (F := Ideal) x2 (ix5 0 h n j a) : EReal)
      = ((if 64 ≤ n.val * 64 + j.val ∧ n.val * 64 + j.val < 8192 + 64 then v h (n.val * 64 + j.val - 64) a else 0 : ℝ) : EReal) := by
  have h3 : ∀ (h : Fin 4) (n : Fin 130) (r a : Fin 64),
      (val_main_v19 (F := Ideal) x2 (ix5 0 h n r a) : EReal) = if 64 ≤ n.val * 64 + r.val ∧ n.val * 64 + r.val - 64 < 8192 then
      (v h (n.val * 64 + r.val - 64) a : EReal) else (0 : EReal) := v11_at x2 v hv
  unfold val_main_v23 val_main_v20 val_main_v21 val_main_v22
  generalize val_main_v19 (F := Ideal) x2 = K at h3 ⊢
  pointwise
  exact (HDq0.win K v h3 h n j a).trans (by rw [apply_ite ((↑) : ℝ → EReal), EReal.coe_zero])

theorem v61_at (n : Fin 128) (r : Fin 64) (j : Fin 192) :
    (val_main_v61 (F := Ideal) (ix3 n r j) : BitVec 1) = BitVec.ofBool (decide (64 ≤ n.val * 64 + j.val ∧ n.val * 64 + j.val < 8192 + 64 ∧ n.val * 64 + r.val ≤ n.val * 64 + j.val ∧ n.val * 64 + j.val ≤ n.val * 64 + r.val + 128)) := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_c_4, val_main_c_5, val_main_c_6, val_main_c_7, val_main_c_8, val_main_c_9]
  exact word n r j n.2 r.2 j.2

theorem v65_at (n : Fin 128) (r : Fin 64) (j : Fin 192) (hv : 64 ≤ n.val * 64 + j.val) :
    (val_main_v65 (F := Ideal) (ix3 n r j) : EReal) = ((|((n.val * 64 + r.val : ℕ) : ℝ) - ((n.val * 64 + j.val - 64 : ℕ) : ℝ)| : ℝ) : EReal) := by
  pointwise [val_main_v65, val_main_v64, val_main_v63, val_main_v62, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_c_4, val_main_c_5, val_main_c_6, val_main_c_10]
  exact far n r j n.2 r.2 j.2 hv

theorem v4_at (h : Fin 4) : (val_main_v4 (F := Ideal) (ix1 h) : EReal) = (Slopes.sl0 h : EReal) := by
  pointwise [val_main_v4, val_main_v3, val_main_v2, val_main_v1, val_main_v0, val_main_cst, val_main_cst_0, val_main_cst_1, val_main_cst_2]
  rw [← Slopes.slope0]; fin_cases h <;> rfl

/-- A row's mask and its scores. -/
abbrev C (n r : ℕ) : Fin 192 → Prop := Band.inWin 8192 (n * 64) (n * 64 + r)
abbrev S (h : Fin 4) (n r : ℕ) : Fin 192 → ℝ := Band.sc (Slopes.sl0 h) (q h) (k h) 192 (n * 64) (n * 64 + r)

include hq hk in
/-- The masked scores. -/
theorem v76_at (h : Fin 4) (n : Fin 128) (r : Fin 64) (j : Fin 192) :
    (val_main_v76_0 (F := Ideal) x0 x1 (ix5 0 h n r j) : EReal) = SoftRow.msk (C n r) (S q k h n r) j := by
  have h7 := fun a => v7_at x0 q hq h n r a
  have h15 := fun a => v15_at x1 k hk h n j a
  have h4 := v4_at h
  have h61 := v61_at n r j
  have h65 := v65_at n r j
  pointwise [val_main_v76_0, val_main_v76_1, val_main_call2_v0, val_main_call2_v2, val_main_cst_12, val_main_v75, val_main_v74, val_main_v73, val_main_v72, val_main_v71, val_main_v70, val_main_v69, val_main_v68, val_main_v67, val_main_cst_11, val_main_v66]
  simp only [h7, h15, h4]
  rw [h61, Words.select_bool]
  unfold SoftRow.msk
  by_cases hw : C n r j
  · rw [if_pos (decide_eq_true hw), if_pos hw, h65 hw.1, Slopes.eighth]
    simp only [if_pos (⟨hw.1, hw.2.1⟩ : 64 ≤ n.val * 64 + j.val ∧ n.val * 64 + j.val < 8192 + 64)]
    simp only [← EReal.coe_mul, ← SoftRow.coe_sum, ← EReal.coe_sub]
    rfl
  · rw [if_neg (fun h => hw (of_decide_eq_true h)), if_neg hw]
    exact Slopes.bot

include hq hk in
/-- A row's largest score. -/
theorem v77_at (h : Fin 4) (n : Fin 128) (r : Fin 64) :
    (val_main_v77 (F := Ideal) x0 x1 (ix4 0 h n r) : EReal) = SoftRow.top (C n r) (S q k h n r) := by
  have h76 := fun j => v76_at x0 x1 q k hq hk h n r j
  unfold val_main_v77
  generalize val_main_v76_0 (F := Ideal) x0 x1 = X at h76 ⊢
  pointwise [val_main_cst_13]
  simp only [h76, Slopes.bot]
  rfl

include hq hk in
/-- A weight before its row is normalised. -/
theorem v86_at (h : Fin 4) (n : Fin 128) (r : Fin 64) (j : Fin 192) :
    (val_main_v86 (F := Ideal) x0 x1 (ix5 0 h n r j) : EReal) = Ideal.exp (SoftRow.msk (C n r) (S q k h n r) j - SoftRow.top (C n r) (S q k h n r)) := by
  have h76 := v76_at x0 x1 q k hq hk h n r j
  have h77 := v77_at x0 x1 q k hq hk h n r
  pointwise [val_main_v86, val_main_v85, val_main_v84, val_main_v83]
  rw [h76, h77]

include hq hk in
/-- A row's denominator. -/
theorem v88_at (h : Fin 4) (n : Fin 128) (r : Fin 64) :
    (val_main_v88 (F := Ideal) x0 x1 (ix5 0 h n r 0) : EReal) = ∑ j, Ideal.exp (SoftRow.msk (C n r) (S q k h n r) j - SoftRow.top (C n r) (S q k h n r)) := by
  have h86 := fun j => v86_at x0 x1 q k hq hk h n r j
  unfold val_main_v88 val_main_v87
  generalize val_main_v86 (F := Ideal) x0 x1 = X at h86 ⊢
  pointwise [val_main_cst_15]
  simp only [h86]

include hq hk in
/-- The entries that attain a row's largest score. -/
theorem v81_at (h : Fin 4) (n : Fin 128) (r : Fin 64) (j : Fin 192) :
    (val_main_v81 (F := Ideal) x0 x1 (ix5 0 h n r j) : EReal) = if SoftRow.msk (C n r) (S q k h n r) j = SoftRow.top (C n r) (S q k h n r) then 1 else 0 := by
  have h76 := v76_at x0 x1 q k hq hk h n r j
  have h77 := v77_at x0 x1 q k hq hk h n r
  pointwise [val_main_v81, val_main_v80, val_main_v79, val_main_v78]
  rw [h76, h77]
  split
  · rename_i e; rw [decide_eq_true e]; exact one
  · rename_i e; rw [decide_eq_false e]; exact zero

include hq hk in
theorem v82_at (h : Fin 4) (n : Fin 128) (r : Fin 64) :
    (val_main_v82 (F := Ideal) x0 x1 (ix4 0 h n r) : EReal) = ∑ j, if SoftRow.msk (C n r) (S q k h n r) j = SoftRow.top (C n r) (S q k h n r) then 1 else 0 := by
  have h81 := fun j => v81_at x0 x1 q k hq hk h n r j
  unfold val_main_v82
  generalize val_main_v81 (F := Ideal) x0 x1 = X at h81 ⊢
  pointwise [val_main_cst_14]
  simp only [h81]

include hq hk hv in
/-- A row's weights against the values. -/
theorem v89_at (h : Fin 4) (n : Fin 128) (r b : Fin 64) :
    (val_main_v89 (F := Ideal) x0 x1 x2 (ix5 0 h n r b) : EReal)
      = ∑ j : Fin 192, Ideal.exp (SoftRow.msk (C n r) (S q k h n r) j - SoftRow.top (C n r) (S q k h n r))
        * ((if 64 ≤ n.val * 64 + j.val ∧ n.val * 64 + j.val < 8192 + 64 then v h (n.val * 64 + j.val - 64) b else 0 : ℝ) : EReal) := by
  have h86 := fun j => v86_at x0 x1 q k hq hk h n r j
  have h23 := fun j => v23_at x2 v hv h n j b
  unfold val_main_v89
  generalize val_main_v86 (F := Ideal) x0 x1 = X at h86 ⊢
  generalize val_main_v23 (F := Ideal) x2 = Y at h23 ⊢
  pointwise
  simp only [h86, h23]

include hg in
theorem v109_at (h : Fin 4) (n : Fin 128) (r a : Fin 64) :
    (val_main_v109 (F := Ideal) x3 (ix5 0 h n r a) : EReal) = (g h (n.val * 64 + r.val) a : EReal) := by
  pointwise [val_main_v109, val_main_v108, val_main_v107]
  rw [hg]

include hd in
theorem v110_at (h : Fin 4) (n : Fin 128) (r : Fin 64) :
    (val_main_v110 (F := Ideal) x4 (ix5 0 h n r 0) : EReal) = (d h (n.val * 64 + r.val) : EReal) := by
  pointwise [val_main_v110, val_main_v106, val_main_v105, val_main_v104]
  rw [hd]

/-- The windows' values. -/
abbrev vw (h : Fin 4) (n : ℕ) (j : Fin 192) (b : Fin 64) : ℝ := if 64 ≤ n * 64 + j.val ∧ n * 64 + j.val < 8192 + 64 then v h (n * 64 + j.val - 64) b else 0

/-- The cotangent of a score. -/
abbrev T (h : Fin 4) (n r : ℕ) (j : Fin 192) : ℝ := SoftRow.prob (C n r) (S q k h n r) j
  * (∑ b, g h (n * 64 + r) b * vw v h n j b + SoftRow.corr (C n r) (S q k h n r) (vw v h n) (g h (n * 64 + r)) (d h (n * 64 + r)))

include hq hk hv hg hd in
theorem v118_at (h : Fin 4) (n : Fin 128) (r : Fin 64) :
    (val_main_v118 (F := Ideal) x0 x1 x2 x3 x4 (ix5 0 h n r 0) : EReal)
      = Ideal.div (d h (n.val * 64 + r.val) : EReal) (∑ j, Ideal.exp (SoftRow.msk (C n r) (S q k h n r) j - SoftRow.top (C n r) (S q k h n r)))
        + -(∑ b, (g h (n.val * 64 + r.val) b : EReal) * Ideal.div 1 ((∑ j, Ideal.exp (SoftRow.msk (C n r) (S q k h n r) j - SoftRow.top (C n r) (S q k h n r)))
              * (∑ j, Ideal.exp (SoftRow.msk (C n r) (S q k h n r) j - SoftRow.top (C n r) (S q k h n r))))
            * ∑ j, Ideal.exp (SoftRow.msk (C n r) (S q k h n r) j - SoftRow.top (C n r) (S q k h n r)) * (vw v h n j b : EReal)) := by
  have h88 := v88_at x0 x1 q k hq hk h n r
  have h89 := fun b => v89_at x0 x1 x2 q k v hq hk hv h n r b
  have h109 := fun b => v109_at x3 g hg h n r b
  have h110 := v110_at x4 d hd h n r
  unfold val_main_v118 val_main_v117 val_main_v116 val_main_v115 val_main_v114 val_main_v113 val_main_v112 val_main_v111 val_main_v94 val_main_v93 val_main_v92
  generalize val_main_v88 (F := Ideal) x0 x1 = X1 at h88 ⊢
  generalize val_main_v89 (F := Ideal) x0 x1 x2 = X2 at h89 ⊢
  generalize val_main_v109 (F := Ideal) x3 = X4 at h109 ⊢
  generalize val_main_v110 (F := Ideal) x4 = X5 at h110 ⊢
  pointwise [val_main_cst_16, val_main_cst_17]
  simp only [h88, h89, h109, h110]

include hq hk hv hg hd in
/-- The cotangent of a score before the largest score's share. -/
theorem v126_at (h : Fin 4) (n : Fin 128) (r : Fin 64) (j : Fin 192) :
    (val_main_v126 (F := Ideal) x0 x1 x2 x3 x4 (ix5 0 h n r j) : EReal) = (T q k v g d h n r j : EReal) := by
  have h86 := v86_at x0 x1 q k hq hk h n r j
  have h88 := v88_at x0 x1 q k hq hk h n r
  have h23 := fun b => v23_at x2 v hv h n j b
  have h109 := fun b => v109_at x3 g hg h n r b
  have h118 := v118_at x0 x1 x2 x3 x4 q k v g d hq hk hv hg hd h n r
  unfold val_main_v126 val_main_v125 val_main_v124 val_main_v123 val_main_v122 val_main_v121 val_main_v120 val_main_v119
  generalize val_main_v86 (F := Ideal) x0 x1 = X at h86 ⊢
  generalize val_main_v88 (F := Ideal) x0 x1 = X1 at h88 ⊢
  generalize val_main_v23 (F := Ideal) x2 = X3 at h23 ⊢
  generalize val_main_v109 (F := Ideal) x3 = X4 at h109 ⊢
  generalize val_main_v118 (F := Ideal) x0 x1 x2 x3 x4 = X5 at h118 ⊢
  pointwise [val_main_cst_18]
  simp only [unit_sum, h86, h88, h23, h109, h118, zero_add]
  exact SoftRow.dscore_eq _ _ (Band.some_in 8192 _ _ (by omega) (by omega) (by omega)) (vw v h n) (g h (n.val * 64 + r.val)) (d h (n.val * 64 + r.val)) j

include hq hk hv hg hd in
/-- The largest score's share is zero. -/
theorem v133_at (h : Fin 4) (n : Fin 128) (r : Fin 64) :
    (val_main_v133 (F := Ideal) x0 x1 x2 x3 x4 (ix4 0 h n r) : EReal) = 0 := by
  have h126 := fun j => v126_at x0 x1 x2 x3 x4 q k v g d hq hk hv hg hd h n r j
  have h82 := v82_at x0 x1 q k hq hk h n r
  have h110 := v110_at x4 d hd h n r
  unfold val_main_v133 val_main_v132 val_main_v131 val_main_v130 val_main_v129 val_main_v128 val_main_v127
  generalize val_main_v126 (F := Ideal) x0 x1 x2 x3 x4 = X at h126 ⊢
  generalize val_main_v82 (F := Ideal) x0 x1 = X1 at h82 ⊢
  generalize val_main_v110 (F := Ideal) x4 = X5 at h110 ⊢
  pointwise [val_main_cst_19, val_main_cst_20]
  have e : ∀ (X : S1x4x128x64x1.Idx → EReal) (z : EReal), _ := fun X z => unit_sum X z h n r
  simp only [e, zero_add]
  pointwise
  simp only [h126, h82, h110]
  exact SoftRow.dtop_eq _ _ (Band.some_in 8192 _ _ (by omega) (by omega) (by omega)) _ _
    (SoftRow.sum_dscore _ _ (Band.some_in 8192 _ _ (by omega) (by omega) (by omega)) (vw v h n) (g h (n.val * 64 + r.val)) (d h (n.val * 64 + r.val))) _ (fun _ => rfl)

include hq hk hv hg hd in
/-- The cotangent of a score, which is zero off the band. -/
theorem v139_at (h : Fin 4) (n : Fin 128) (r : Fin 64) (j : Fin 192) :
    (val_main_v139 (F := Ideal) x0 x1 x2 x3 x4 (ix5 0 h n r j) : EReal) = ((T q k v g d h n r j * (1 / 8) : ℝ) : EReal) := by
  have h126 := v126_at x0 x1 x2 x3 x4 q k v g d hq hk hv hg hd h n r j
  have h133 := v133_at x0 x1 x2 x3 x4 q k v g d hq hk hv hg hd h n r
  have h61 := v61_at n r j
  unfold val_main_v139 val_main_v138 val_main_v137 val_main_v136 val_main_v135 val_main_v134 val_main_call3_v0 val_main_v76_1
  generalize val_main_v126 (F := Ideal) x0 x1 x2 x3 x4 = X at h126 ⊢
  generalize val_main_v133 (F := Ideal) x0 x1 x2 x3 x4 = X1 at h133 ⊢
  generalize val_main_v81 (F := Ideal) x0 x1 = X2
  generalize val_main_v61 (F := Ideal) = X3 at h61 ⊢
  pointwise [val_main_call3_cst, val_main_cst_21]
  rw [h61, Words.select_bool, h126, h133, zero_mul, add_zero, Slopes.eighth]
  by_cases hw : C n r j
  · rw [if_pos (decide_eq_true hw), ← EReal.coe_mul]
  · rw [if_neg (fun h => hw (of_decide_eq_true h))]
    first | rw [zero_mul] | skip
    have : SoftRow.prob (C n r) (S q k h n r) j = 0 := by
      unfold SoftRow.prob SoftRow.wgt
      rw [if_neg hw, zero_div]
    rw [T, this, zero_mul, zero_mul, EReal.coe_zero]

include hq hk hv hg hd in
/-- The queries' gradient. -/
theorem v140_at (h : Fin 4) (n : Fin 128) (r a : Fin 64) :
    (val_main_v140 (F := Ideal) x0 x1 x2 x3 x4 (ix5 0 h n r a) : EReal)
      = (Band.dq 8192 (Slopes.sl0 h) (q h) (k h) (v h) (g h) (d h) (n.val * 64 + r.val) a : EReal) := by
  have h139 := fun j => v139_at x0 x1 x2 x3 x4 q k v g d hq hk hv hg hd h n r j
  have h15 := fun j => v15_at x1 k hk h n j a
  unfold val_main_v140
  generalize val_main_v139 (F := Ideal) x0 x1 x2 x3 x4 = X at h139 ⊢
  generalize val_main_v15 (F := Ideal) x1 = X1 at h15 ⊢
  pointwise
  simp only [h139, h15, ← EReal.coe_mul, ← SoftRow.coe_sum]
  congr 1
  unfold Band.dq
  rw [← Band.sum_ds 8192 (Slopes.sl0 h) (q h) (k h) (v h) (g h) (d h) (n.val * 64) (n.val * 64 + r.val) (W := 192) (by omega) (by omega)
    (fun j => if 64 ≤ n.val * 64 + j.val ∧ n.val * 64 + j.val < 8192 + 64 then k h (n.val * 64 + j.val - 64) a else 0)
    (fun j => ∑ b, g h (n.val * 64 + r.val) b * vw v h n j b + SoftRow.corr (C n r) (S q k h n r) (vw v h n) (g h (n.val * 64 + r.val)) (d h (n.val * 64 + r.val)))
    (fun s => k h s a) (fun j hw => if_pos ⟨hw.1, hw.2.1⟩) ?_, Finset.sum_mul]
  · exact Finset.sum_congr rfl fun j _ => by ring
  · intro j hw
    have e : ∀ b, vw v h n j b = v h (n.val * 64 + j.val - 64) b := fun b => if_pos ⟨hw.1, hw.2.1⟩
    simp only [e]
    congr 1
    exact Band.corr_eq 8192 (Slopes.sl0 h) (q h) (k h) (v h) (g h) (d h) (n.val * 64) (n.val * 64 + r.val) (by omega) (by omega) _
      (fun j b hw => if_pos ⟨hw.1, hw.2.1⟩)

include hq hk hv hg hd in
/-- The queries' gradient, a row a position. -/
theorem v145_at (t : Fin 8192) (l : Fin 256) :
    (val_main_v145 (F := Ideal) x0 x1 x2 x3 x4 (ix2 t l) : EReal)
      = (Band.dq 8192 (Slopes.sl0 ⟨l.val / 64, by omega⟩) (q ⟨l.val / 64, by omega⟩) (k ⟨l.val / 64, by omega⟩) (v ⟨l.val / 64, by omega⟩)
        (g ⟨l.val / 64, by omega⟩) (d ⟨l.val / 64, by omega⟩) t.val ⟨l.val % 64, by omega⟩ : EReal) := by
  have h140 := v140_at x0 x1 x2 x3 x4 q k v g d hq hk hv hg hd ⟨l.val / 64, by omega⟩ ⟨t.val / 64, by omega⟩ ⟨t.val % 64, by omega⟩ ⟨l.val % 64, by omega⟩
  unfold val_main_v145 val_main_v144 val_main_v143 val_main_v142 val_main_v141
  generalize val_main_v140 (F := Ideal) x0 x1 x2 x3 x4 = X at h140 ⊢
  pointwise
  rw [h140, Nat.div_add_mod']

include hq hk hv hg hd in
/-- The reference's array: the gradient at the group's columns, what it was elsewhere. -/
theorem final (t : Fin 8192) (l : Fin 9728) :
    (val_main_v148 (F := Ideal) x0 x1 x2 x3 x4 x5 (ix2 t l) : EReal)
      = if h : 8704 ≤ l.val ∧ l.val < 8960 then
        ((Band.dq 8192 (Slopes.sl0 ⟨(l.val - 8704) / 64, by omega⟩) (q ⟨(l.val - 8704) / 64, by omega⟩) (k ⟨(l.val - 8704) / 64, by omega⟩)
          (v ⟨(l.val - 8704) / 64, by omega⟩) (g ⟨(l.val - 8704) / 64, by omega⟩) (d ⟨(l.val - 8704) / 64, by omega⟩) t.val ⟨(l.val - 8704) % 64, by omega⟩ : ℝ) : EReal)
        else (x5 (ix2 t l) : EReal) := by
  unfold val_main_v148
  split
  · rename_i hl
    exact (cat_mid t l hl).trans (v145_at x0 x1 x2 x3 x4 q k v g d hq hk hv hg hd t ⟨l.val - 8704, by omega⟩)
  · rename_i hl
    by_cases h : l.val < 8704
    · refine (cat_lo t l h).trans ?_
      unfold val_main_v146
      pointwise
    · refine (cat_hi t l (by omega)).trans ?_
      unfold val_main_v147
      pointwise
      exact congrArg (fun x => x5 (ix2 t x)) (Fin.ext (by dsimp only; omega))
end Reals
end Cert.Proof.RDq0
end
-- ==== Proof.Finite.lean ====
module
public import Idealize.ShloMosaic.Lib.Pipeline.ValueKit
@[expose] public section
noncomputable section
/-! Where a magnitude is less than infinity, the value is a real. -/
namespace Cert.Proof.Finite
open Idealize.ShloMosaic Idealize.ShloMosaic.TcCoe

/-- A value whose magnitude is less than infinity is its own real part. -/
theorem num {x : EReal} (h : BitVec.ofBool (decide (max x (-x) < Ideal.ofBits .f32 0x7F800000#32)) = 1#1) : x = (x.toReal : EReal) := by
  have e : Ideal.ofBits .f32 0x7F800000#32 = ⊤ := by simp [Ideal.ofBits, Ideal.ieee]
  rw [e] at h
  have h' : max x (-x) < ⊤ := by
    by_contra hn
    rw [decide_eq_false hn] at h
    exact absurd h (by decide)
  induction x using EReal.rec with
  | bot => exact absurd h' (by simp)
  | top => exact absurd h' (by simp)
  | coe r => rfl

/-- An array whose magnitudes are all less than infinity holds reals. -/
theorem at_all {s s0 : Shape} {dims : Fin s0.rank → Fin s.rank} (hb : s0.BroadcastsInDim s dims) (x : FVec Ideal s .f32)
    (h : cmpf .olt (Host.absf x) (broadcastInDim s dims hb (constant (F := Ideal) s0 .f32 0x7F800000#32)) = fun _ => 1#1) (i : s.Idx) :
    (x i : EReal) = ((x i : EReal).toReal : EReal) :=
  num (congrFun h i)
end Cert.Proof.Finite
end
-- ==== Proof.Num.lean ====
module
public import proofs.«01_k».proof.Proof.Gen.Pre_finite
public import proofs.«01_k».proof.Proof.Finite
@[expose] public section
set_option maxRecDepth 16384
noncomputable section
/-! Where the precondition holds, the arrays of the attention's gradients are real. -/
namespace Cert.Proof.Num
open Idealize.ShloMosaic Idealize.ShloMosaic.TcCoe
open Cert.Pre_finite Cert.Pre_finite.Facts

/-- The real of an array's entry, zero past its end. -/
def rd3 (x : S8192x4x64.Idx → EReal) (h : Fin 4) (n : ℕ) (a : Fin 64) : ℝ := if hn : n < 8192 then (x (ix3 ⟨n, hn⟩ h a)).toReal else 0
def rd2 (x : S8192x4.Idx → EReal) (h : Fin 4) (n : ℕ) : ℝ := if hn : n < 8192 then (x (ix2 ⟨n, hn⟩ h)).toReal else 0

variable (x0 x1 x2 x3 : FVec Ideal S8192x4x64 .f32) (x4 : FVec Ideal S8192x4 .f32) (x5 : FVec Ideal S8192x9728 .bf16)

theorem at3 (x : FVec Ideal S8192x4x64 .f32)
    (h : cmpf .olt (Host.absf x) (broadcastInDim S8192x4x64 ![] bcast_S_S8192x4x64 (constant S_ .f32 0x7F800000#32)) = fun _ => 1#1) (t : Fin 8192) (e : Fin 4) (a : Fin 64) :
    (x (ix3 t e a) : EReal) = (rd3 x e t.val a : EReal) := by
  have := congrFun h (ix3 t e a)
  pointwise at this
  unfold rd3
  rw [dif_pos t.2]
  exact Finite.num this

theorem at2 (x : FVec Ideal S8192x4 .f32)
    (h : cmpf .olt (Host.absf x) (broadcastInDim S8192x4 ![] bcast_S_S8192x4 (constant S_ .f32 0x7F800000#32)) = fun _ => 1#1) (t : Fin 8192) (e : Fin 4) :
    (x (ix2 t e) : EReal) = (rd2 x e t.val : EReal) := by
  have := congrFun h (ix2 t e)
  pointwise at this
  unfold rd2
  rw [dif_pos t.2]
  exact Finite.num this
end Cert.Proof.Num
end
-- ==== Proof.ADq0.lean ====
module
public import proofs.«01_k».proof.Defs
public import proofs.«01_k».proof.Proof.PDq0
public import proofs.«01_k».proof.Proof.RDq0
public import proofs.«01_k».proof.Proof.Num
public import proofs.«01_k».proof.Proof.Gen.AttnDq0.Frame
public import proofs.«01_k».proof.Proof.Gen.AttnDq0RefIdeal.Run
public import Idealize.ShloMosaic.Adequacy
public import Idealize.ShloMosaic.Init
@[expose] public section
noncomputable section
/-! The claims about the queries' gradient of the first group. -/
namespace Cert.Proof.ADq0
open Idealize.ShloMosaic Idealize.SL.Sem

theorem frame_ref : Cert.quiescent_AttnDq0RefIdeal :=
  fun m ρ _ => (θ_run _ _ _).mono (fun r h => ⟨fun c => (h c).2, Idealize.ShloMosaic.sem_eq_zero_of_no_sems (by decide) r.2⟩)
    (Cert.AttnDq0RefIdeal.Value.run (F := Ideal) m ρ)

theorem preserves : Cert.preserves_AttnDq0_AttnDq0Ideal := IdealRules.named_const.statement _ _ _ _ _ rfl

/-- The two arrays agree where the arguments are real. -/
theorem agree (m : (ℓ : Loc Cert.AttnDq0Ideal.nD Cert.AttnDq0Ideal.τ Cert.AttnDq0Ideal.sig) → Buf (Elt Ideal) ℓ) (hf : Cert.Pre_AttnDq0Ideal_finite m) (c : Dev Cert.AttnDq0Ideal.nD) :
    (Cert.AttnDq0RefIdeal.Read.val_main_v148 (F := Ideal) (m (c, Proc.tc.devRef Cert.AttnDq0Ideal.main_arg0)) (m (c, Proc.tc.devRef Cert.AttnDq0Ideal.main_arg1))
      (m (c, Proc.tc.devRef Cert.AttnDq0Ideal.main_arg2)) (m (c, Proc.tc.devRef Cert.AttnDq0Ideal.main_arg3)) (m (c, Proc.tc.devRef Cert.AttnDq0Ideal.main_arg4)) (m (c, Proc.tc.devRef Cert.AttnDq0Ideal.main_arg5))
      : Cert.AttnDq0Ideal.S8192x9728.Idx → EReal)
      = (Cert.AttnDq0Ideal.Gen.dats m 0 c).arrAt 10 Cert.AttnDq0Ideal.cfg0.N := by
  obtain ⟨h0, h1, h2, h3, h4⟩ := hf c
  have hq := Num.at3 _ h0
  have hk := Num.at3 _ h1
  have hv := Num.at3 _ h2
  have hg := Num.at3 _ h3
  have hd := Num.at2 _ h4
  refine Eq.trans ?_ (PDq0.final m c _ _ _ _ _ hq hk hv hg hd).symm
  funext i
  obtain ⟨t, l, rfl⟩ : ∃ (t : Fin 8192) (l : Fin 9728), i = ix2 t l := ⟨_, _, eq_ix2 i⟩
  refine (RDq0.final _ _ _ _ _ _ _ _ _ _ _ hq hk hv hg hd t l).trans ?_
  by_cases hl : 8704 ≤ l.val ∧ l.val < 8960
  · refine (dif_pos hl).trans (Eq.trans ?_ (if_pos (show 68 ≤ l.val / 128 ∧ l.val / 128 < 70 by omega)).symm)
    unfold KDq0.G
    exact Eq.symm (dif_pos (c := 8704 ≤ ((ix2 t l : Cert.AttnDq0Ideal.S8192x9728.Idx) 1).val ∧ ((ix2 t l : Cert.AttnDq0Ideal.S8192x9728.Idx) 1).val < 8960) hl)
  · exact (dif_neg hl).trans (if_neg (show ¬(68 ≤ l.val / 128 ∧ l.val / 128 < 70) by omega)).symm

theorem algebraic : Cert.algebraic_AttnDq0Ideal_AttnDq0RefIdeal_pre_finite := by
  intro m ρ m' ρ' hf hag
  refine ⟨fun c => (Cert.AttnDq0Ideal.Gen.dats m 0 c).arrAt 10 Cert.AttnDq0Ideal.cfg0.N, Cert.AttnDq0Ideal.Value.run_blocks m ρ,
    (θ_run Cert.AttnDq0RefIdeal.defs _ _).mono (fun r h c => ⟨?_, (h c).2⟩) (Cert.AttnDq0RefIdeal.Value.run (F := Ideal) m' ρ')⟩
  refine ((h c).1.trans (Cert.AttnDq0RefIdeal.Read.val_main_v148_eq _)).trans ?_
  obtain ⟨e0, e1, e2, e3, e4, e5⟩ := hag c
  have e : ∀ {x0 y0 x1 y1 x2 y2 x3 y3 x4 y4 x5 y5}, x0 = y0 → x1 = y1 → x2 = y2 → x3 = y3 → x4 = y4 → x5 = y5 →
      Cert.AttnDq0RefIdeal.Read.val_main_v148 (F := Ideal) x0 x1 x2 x3 x4 x5 = Cert.AttnDq0RefIdeal.Read.val_main_v148 (F := Ideal) y0 y1 y2 y3 y4 y5 := by
    rintro _ _ _ _ _ _ _ _ _ _ _ _ rfl rfl rfl rfl rfl rfl; rfl
  exact (e e0 e1 e2 e3 e4 e5).trans (agree m hf c)
end Cert.Proof.ADq0
end
-- ==== Proof.HDkv0.lean ====
module
public import proofs.«01_k».proof.Proof.Gen.AttnDkv0Ideal.Value
public import proofs.«01_k».proof.Proof.Band
public import proofs.«01_k».proof.Proof.Slopes
public import Idealize.ShloMosaic.Lib.Pipeline.ValueKit
public import Idealize.ShloMosaic.Lib.StableHlo.RunRead
@[expose] public section
set_option maxRecDepth 16384
noncomputable section
/-! What the host lines of the gradient of the keys and values of the first group hand to the kernel: every array at an index. -/
namespace Cert.Proof.HDkv0
open Idealize.ShloMosaic.StableHlo Idealize.ShloMosaic Idealize.ShloMosaic.TcCoe Idealize.SL.Sem
open Idealize.ShloMosaic.Pipeline (Dat)
open Cert.AttnDkv0Ideal Cert.AttnDkv0Ideal.Gen
variable (m : (ℓ : Loc nD τ sig) → Buf (Elt Ideal) ℓ) (c : Dev nD)

/-- A buffer after the host lines, by the buffers after the first `k` of them. -/
theorem split (k : ℕ) (b : Ref sig .tc) :
    V m c b = after (hostOps0.drop k) (after (hostOps0.take k) fun b => m (c, b)) (Proc.tc.devRef b) := by
  unfold V
  rw [← after_append, List.take_append_drop]

/-- The padded keys, in blocks of 64. -/
theorem v3_at (h : Fin 4) (n : Fin 130) (r a : Fin 64) :
    (V m c main_v3 (ix5 0 h n r a) : EReal) = if h_1 : 64 ≤ n.val * 64 + r.val ∧ n.val * 64 + r.val - 64 < 8192 then
      (m (c, Proc.tc.devRef main_arg1) (ix3 ⟨n.val * 64 + r.val - 64, h_1.2⟩ h a) : EReal) else (0 : EReal) := by
  unfold V
  after_reads_simp
  pointwise

/-- The padded values, in blocks of 64. -/
theorem v11_at (h : Fin 4) (n : Fin 130) (r a : Fin 64) :
    (V m c main_v11 (ix5 0 h n r a) : EReal) = if h_1 : 64 ≤ n.val * 64 + r.val ∧ n.val * 64 + r.val - 64 < 8192 then
      (m (c, Proc.tc.devRef main_arg2) (ix3 ⟨n.val * 64 + r.val - 64, h_1.2⟩ h a) : EReal) else (0 : EReal) := by
  unfold V
  after_reads_simp
  pointwise

theorem e4 : (V m c main_v4 : S1x4x128x64x64.Idx → EReal) = extractStridedSlice S1x4x128x64x64 ![0, 0, 0, 0, 0] (V m c main_v3 : S1x4x130x64x64.Idx → EReal) slices_S1x4x130x64x64_S1x4x128x64x64_0_0_0_0_0 := by
  unfold V; after_reads_simp
theorem e5 : (V m c main_v5 : S1x4x128x64x64.Idx → EReal) = extractStridedSlice S1x4x128x64x64 ![0, 0, 1, 0, 0] (V m c main_v3 : S1x4x130x64x64.Idx → EReal) slices_S1x4x130x64x64_S1x4x128x64x64_0_0_1_0_0 := by
  unfold V; after_reads_simp
theorem e6 : (V m c main_v6 : S1x4x128x64x64.Idx → EReal) = extractStridedSlice S1x4x128x64x64 ![0, 0, 2, 0, 0] (V m c main_v3 : S1x4x130x64x64.Idx → EReal) slices_S1x4x130x64x64_S1x4x128x64x64_0_0_2_0_0 := by
  unfold V; after_reads_simp
theorem e7 : (V m c main_v7 : S1x4x128x192x64.Idx → EReal) = concatenate S1x4x128x192x64 3 [⟨S1x4x128x64x64, V m c main_v4⟩, ⟨S1x4x128x64x64, V m c main_v5⟩, ⟨S1x4x128x64x64, V m c main_v6⟩] concatenates_S1x4x128x64x64_S1x4x128x64x64_S1x4x128x64x64_S1x4x128x192x64_d3 := by
  have h4 : upto hostOps0 (fun b => m (c, b)) 8 (Proc.tc.devRef main_v4) = V m c main_v4 := by unfold V; after_reads_simp
  have h5 : upto hostOps0 (fun b => m (c, b)) 8 (Proc.tc.devRef main_v5) = V m c main_v5 := by unfold V; after_reads_simp
  have h6 : upto hostOps0 (fun b => m (c, b)) 8 (Proc.tc.devRef main_v6) = V m c main_v6 := by unfold V; after_reads_simp
  rw [← h4, ← h5, ← h6]; unfold V; simp only [readAfter]; exact nary_result ..

theorem e12 : (V m c main_v12 : S1x4x128x64x64.Idx → EReal) = extractStridedSlice S1x4x128x64x64 ![0, 0, 0, 0, 0] (V m c main_v11 : S1x4x130x64x64.Idx → EReal) slices_S1x4x130x64x64_S1x4x128x64x64_0_0_0_0_0 := by
  unfold V; after_reads_simp
theorem e13 : (V m c main_v13 : S1x4x128x64x64.Idx → EReal) = extractStridedSlice S1x4x128x64x64 ![0, 0, 1, 0, 0] (V m c main_v11 : S1x4x130x64x64.Idx → EReal) slices_S1x4x130x64x64_S1x4x128x64x64_0_0_1_0_0 := by
  unfold V; after_reads_simp
theorem e14 : (V m c main_v14 : S1x4x128x64x64.Idx → EReal) = extractStridedSlice S1x4x128x64x64 ![0, 0, 2, 0, 0] (V m c main_v11 : S1x4x130x64x64.Idx → EReal) slices_S1x4x130x64x64_S1x4x128x64x64_0_0_2_0_0 := by
  unfold V; after_reads_simp
theorem e15 : (V m c main_v15 : S1x4x128x192x64.Idx → EReal) = concatenate S1x4x128x192x64 3 [⟨S1x4x128x64x64, V m c main_v12⟩, ⟨S1x4x128x64x64, V m c main_v13⟩, ⟨S1x4x128x64x64, V m c main_v14⟩] concatenates_S1x4x128x64x64_S1x4x128x64x64_S1x4x128x64x64_S1x4x128x192x64_d3 := by
  have h4 : upto hostOps0 (fun b => m (c, b)) 17 (Proc.tc.devRef main_v12) = V m c main_v12 := by unfold V; after_reads_simp
  have h5 : upto hostOps0 (fun b => m (c, b)) 17 (Proc.tc.devRef main_v13) = V m c main_v13 := by unfold V; after_reads_simp
  have h6 : upto hostOps0 (fun b => m (c, b)) 17 (Proc.tc.devRef main_v14) = V m c main_v14 := by unfold V; after_reads_simp
  rw [← h4, ← h5, ← h6]; unfold V; simp only [readAfter]; exact nary_result ..

theorem e95 : (V m c main_v95 : S8192x9728.Idx → EReal) = concatenate S8192x9728 1 [⟨S8192x7168, V m c main_v88⟩, ⟨S8192x128, V m c main_v89⟩, ⟨S8192x128, V m c main_v90⟩, ⟨S8192x128, V m c main_v91⟩, ⟨S8192x128, V m c main_v92⟩, ⟨S8192x1024, V m c main_v93⟩, ⟨S8192x256, V m c main_v85⟩, ⟨S8192x768, V m c main_v94⟩] concatenates_S8192x7168_S8192x128_S8192x128_S8192x128_S8192x128_S8192x1024_S8192x256_S8192x768_S8192x9728_d1 := by
  have h88 : upto hostOps0 (fun b => m (c, b)) 112 (Proc.tc.devRef main_v88) = V m c main_v88 := by unfold V; after_reads_simp
  have h89 : upto hostOps0 (fun b => m (c, b)) 112 (Proc.tc.devRef main_v89) = V m c main_v89 := by unfold V; after_reads_simp
  have h90 : upto hostOps0 (fun b => m (c, b)) 112 (Proc.tc.devRef main_v90) = V m c main_v90 := by unfold V; after_reads_simp
  have h91 : upto hostOps0 (fun b => m (c, b)) 112 (Proc.tc.devRef main_v91) = V m c main_v91 := by unfold V; after_reads_simp
  have h92 : upto hostOps0 (fun b => m (c, b)) 112 (Proc.tc.devRef main_v92) = V m c main_v92 := by unfold V; after_reads_simp
  have h93 : upto hostOps0 (fun b => m (c, b)) 112 (Proc.tc.devRef main_v93) = V m c main_v93 := by unfold V; after_reads_simp
  have h85 : upto hostOps0 (fun b => m (c, b)) 112 (Proc.tc.devRef main_v85) = V m c main_v85 := by unfold V; after_reads_simp
  have h94 : upto hostOps0 (fun b => m (c, b)) 112 (Proc.tc.devRef main_v94) = V m c main_v94 := by unfold V; after_reads_simp
  rw [← h88, ← h89, ← h90, ← h91, ← h92, ← h93, ← h85, ← h94]; unfold V; simp only [readAfter]; exact nary_result ..

section Pack
variable {a0 : S8192x7168.Idx → EReal} {a1 : S8192x128.Idx → EReal} {a2 : S8192x128.Idx → EReal} {a3 : S8192x128.Idx → EReal} {a4 : S8192x128.Idx → EReal} {a5 : S8192x1024.Idx → EReal} {a6 : S8192x256.Idx → EReal} {a7 : S8192x768.Idx → EReal}

/-- The packed projection at the columns of the queries. -/
theorem pack_q (t : Fin 8192) (l : Fin 256) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨8704 + l.val, by omega⟩) = a6 (ix2 t l) := by
  pointwise
  repeat first | rw [dif_neg (by omega)] | rw [dif_pos (by omega)]
  exact congrArg (fun x => a6 (ix2 t x)) (Fin.ext (by dsimp only; omega))

theorem pack_k0 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7168 + l.val, by omega⟩) = a1 (ix2 t l) := by
  pointwise
  repeat first | rw [dif_neg (by omega)] | rw [dif_pos (by omega)]

theorem pack_v0 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7296 + l.val, by omega⟩) = a2 (ix2 t l) := by
  pointwise
  repeat first | rw [dif_neg (by omega)] | rw [dif_pos (by omega)]
  exact congrArg (fun x => a2 (ix2 t x)) (Fin.ext (by dsimp only; omega))

theorem pack_k1 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7424 + l.val, by omega⟩) = a3 (ix2 t l) := by
  pointwise
  repeat first | rw [dif_neg (by omega)] | rw [dif_pos (by omega)]
  exact congrArg (fun x => a3 (ix2 t x)) (Fin.ext (by dsimp only; omega))

theorem pack_v1 (t : Fin 8192) (l : Fin 128) :
    concatenate S8192x9728 1 [⟨S8192x7168, a0⟩, ⟨S8192x128, a1⟩, ⟨S8192x128, a2⟩, ⟨S8192x128, a3⟩, ⟨S8192x128, a4⟩, ⟨S8192x1024, a5⟩, ⟨S8192x256, a6⟩, ⟨S8192x768, a7⟩] concatenates_S8192x7168_S8192x128_S8192x128_S8192x128_S8192x128_S8192x1024_S8192x256_S8192x768_S8192x9728_d1
      (ix2 t ⟨7552 + l.val, by omega⟩) = a4 (ix2 t l) := by
  pointwise
  repeat first | rw [dif_neg (by omega)] | rw [dif_pos (by omega)]
  exact congrArg (fun x => a4 (ix2 t x)) (Fin.ext (by dsimp only; omega))

end Pack

section Reals
variable (q k v g : Fin 4 → ℕ → Fin 64 → ℝ) (d : Fin 4 → ℕ → ℝ)
  (hq : ∀ t h a, (m (c, Proc.tc.devRef main_arg0) (ix3 t h a) : EReal) = (q h t.val a : EReal))
  (hk : ∀ t h a, (m (c, Proc.tc.devRef main_arg1) (ix3 t h a) : EReal) = (k h t.val a : EReal))
  (hv : ∀ t h a, (m (c, Proc.tc.devRef main_arg2) (ix3 t h a) : EReal) = (v h t.val a : EReal))
  (hg : ∀ t h a, (m (c, Proc.tc.devRef main_arg3) (ix3 t h a) : EReal) = (g h t.val a : EReal))
  (hd : ∀ t h, (m (c, Proc.tc.devRef main_arg4) (ix2 t h) : EReal) = (d h t.val : EReal))

/-- A window entry of 64-blocks, by the padded position. -/
theorem win (K : S1x4x130x64x64.Idx → EReal) (x : Fin 4 → ℕ → Fin 64 → ℝ)
    (hK : ∀ (h : Fin 4) (n : Fin 130) (r a : Fin 64), K (ix5 0 h n r a) = if 64 ≤ n.val * 64 + r.val ∧ n.val * 64 + r.val - 64 < 8192 then
      (x h (n.val * 64 + r.val - 64) a : EReal) else 0) (h : Fin 4) (n : Fin 128) (j : Fin 192) (a : Fin 64) :
    (if h_1 : j.val < 64 then K (ix5 0 h ⟨n.val, by omega⟩ ⟨j.val, by omega⟩ a)
    else if h_2 : j.val - 64 < 64 then K (ix5 0 h ⟨1 + n.val, by omega⟩ ⟨j.val - 64, by omega⟩ a)
      else K (ix5 0 h ⟨2 + n.val, by omega⟩ ⟨j.val - 64 - 64, by omega⟩ a))
    = if 64 ≤ n.val * 64 + j.val ∧ n.val * 64 + j.val < 8192 + 64 then (x h (n.val * 64 + j.val - 64) a : EReal) else 0 := by
  split_ifs with h1 h2 h3 h3 h3 <;> rw [hK]
  all_goals dsimp only
  all_goals first | rw [if_pos (by omega)] | rw [if_neg (by omega)]
  all_goals congr 2; omega

include hk in
/-- The windows of 192 keys. -/
theorem v7_at (h : Fin 4) (n : Fin 128) (j : Fin 192) (a : Fin 64) :
    (V m c main_v7 (ix5 0 h n j a) : EReal)
      = if 64 ≤ n.val * 64 + j.val ∧ n.val * 64 + j.val < 8192 + 64 then (k h (n.val * 64 + j.val - 64) a : EReal) else 0 := by
  rw [e7, e4, e5, e6]
  have h3 : ∀ (h : Fin 4) (n : Fin 130) (r a : Fin 64), (V m c main_v3 (ix5 0 h n r a) : EReal) = _ := v3_at m c
  simp only [hk] at h3
  generalize (V m c main_v3 : S1x4x130x64x64.Idx → EReal) = K at h3 ⊢
  pointwise
  exact win K k (fun h n r a => by rw [h3]; split_ifs <;> rfl) h n j a

include hv in
/-- The windows of 192 values. -/
theorem v15_at (h : Fin 4) (n : Fin 128) (j : Fin 192) (a : Fin 64) :
    (V m c main_v15 (ix5 0 h n j a) : EReal)
      = if 64 ≤ n.val * 64 + j.val ∧ n.val * 64 + j.val < 8192 + 64 then (v h (n.val * 64 + j.val - 64) a : EReal) else 0 := by
  rw [e15, e12, e13, e14]
  have h3 : ∀ (h : Fin 4) (n : Fin 130) (r a : Fin 64), (V m c main_v11 (ix5 0 h n r a) : EReal) = _ := v11_at m c
  simp only [hv] at h3
  generalize (V m c main_v11 : S1x4x130x64x64.Idx → EReal) = K at h3 ⊢
  pointwise
  exact win K v (fun h n r a => by rw [h3]; split_ifs <;> rfl) h n j a

include hq hk in
/-- The masked scores. -/
theorem v53_at (h : Fin 4) (n : Fin 128) (r : Fin 64) (j : Fin 192) :
    (V m c main_v53 (ix5 0 h n r j) : EReal)
      = SoftRow.msk (Band.inWin 8192 (n.val * 64) (n.val * 64 + r.val)) (Band.sc (Slopes.sl0 h) (q h) (k h) 192 (n.val * 64) (n.val * 64 + r.val)) j := by
  have hK := v7_at m c k hk h n j
  rw [split m c 18] at hK ⊢
  have ha : after (hostOps0.take 18) (fun b => m (c, b)) (Proc.tc.devRef main_arg0) = m (c, Proc.tc.devRef main_arg0) := by after_reads_simp
  generalize after (hostOps0.take 18) (fun b => m (c, b)) = ρ at hK ha ⊢
  replace hK : ∀ a, (ρ (Proc.tc.devRef main_v7) (ix5 0 h n j a) : EReal)
      = if 64 ≤ n.val * 64 + j.val ∧ n.val * 64 + j.val < 8192 + 64 then (k h (n.val * 64 + j.val - 64) a : EReal) else 0 := by
    simpa only [readAfter] using hK
  have s0 : ∀ i, (upto (List.drop 18 hostOps0) ρ 35 (Proc.tc.devRef main_v39) i : EReal) = Ideal.ofBits .f32 (Slopes.bits0 0) := by
    intro i; after_reads_simp; pointwise; rfl
  have s1 : ∀ i, (upto (List.drop 18 hostOps0) ρ 35 (Proc.tc.devRef main_v40) i : EReal) = Ideal.ofBits .f32 (Slopes.bits0 1) := by
    intro i; after_reads_simp; pointwise; rfl
  have s2 : ∀ i, (upto (List.drop 18 hostOps0) ρ 35 (Proc.tc.devRef main_v41) i : EReal) = Ideal.ofBits .f32 (Slopes.bits0 2) := by
    intro i; after_reads_simp; pointwise; rfl
  have s3 : ∀ i, (upto (List.drop 18 hostOps0) ρ 35 (Proc.tc.devRef main_v42) i : EReal) = Ideal.ofBits .f32 (Slopes.bits0 3) := by
    intro i; after_reads_simp; pointwise; rfl
  after_reads_simp
  rw [ha]
  pointwise
  simp only [s0, s1, s2, s3]
  rw [Slopes.valid 8192 n r j le_rfl n.2 r.2 j.2, Words.select_bool, Slopes.bot]
  unfold SoftRow.msk
  by_cases hw : Band.inWin 8192 (n.val * 64) (n.val * 64 + r.val) j
  · rw [if_pos (decide_eq_true hw), if_pos hw, Slopes.dist n r j r.2 j.2 hw.1, Slopes.eighth]
    simp only [hK, hq, if_pos (⟨hw.1, hw.2.1⟩ : 64 ≤ n.val * 64 + j.val ∧ n.val * 64 + j.val < 8192 + 64)]
    have hs : (if h_1 : h.val < 1 then Ideal.ofBits .f32 (Slopes.bits0 0) else if h_2 : h.val - 1 < 1 then Ideal.ofBits .f32 (Slopes.bits0 1)
        else if h_3 : h.val - 1 - 1 < 1 then Ideal.ofBits .f32 (Slopes.bits0 2) else Ideal.ofBits .f32 (Slopes.bits0 3) : EReal) = (Slopes.sl0 h : EReal) := by
      rw [← Slopes.slope0]; fin_cases h <;> rfl
    rw [hs]
    simp only [← EReal.coe_mul, ← SoftRow.coe_sum, ← EReal.coe_sub]
    rfl
  · rw [if_neg (fun h => hw (of_decide_eq_true h)), if_neg hw]

include hq hk in
/-- The log-denominators. -/
theorem v65_at (h : Fin 4) (n : Fin 128) (r : Fin 64) :
    (V m c main_v65 (ix4 0 h n r) : EReal) = (Real.log (Band.Z 8192 (Slopes.sl0 h) (q h) (k h) (n.val * 64 + r.val)) : EReal) := by
  have hS := v53_at m c q k hq hk h n r
  rw [split m c 65] at hS ⊢
  generalize after (hostOps0.take 65) (fun b => m (c, b)) = ρ at hS ⊢
  replace hS : ∀ j, (ρ (Proc.tc.devRef main_v53) (ix5 0 h n r j) : EReal)
      = SoftRow.msk (Band.inWin 8192 (n.val * 64) (n.val * 64 + r.val)) (Band.sc (Slopes.sl0 h) (q h) (k h) 192 (n.val * 64) (n.val * 64 + r.val)) j := by
    simpa only [readAfter] using hS
  after_reads_simp
  have h1 : ∀ (a b : S1x4x128x64.Idx → EReal) i, addf (F := Ideal) (φ := .f32) a b i = a i + b i := fun _ _ _ => rfl
  refine (h1 _ _ _).trans ?_
  pointwise
  simp only [hS, Slopes.bot]
  rw [← Band.den_eq (W := 192) 8192 (Slopes.sl0 h) (q h) (k h) (n.val * 64) (n.val * 64 + r.val) (by omega) (by omega)]
  exact SoftRow.lse_eq _ _ (Band.some_in 8192 _ _ (by omega) (by omega) (by omega))

include hq hk hv hg hd in
/-- What both gradients add to `do · v`. -/
theorem v79_at (h : Fin 4) (n : Fin 128) (r : Fin 64) :
    (V m c main_v79 (ix4 0 h n r) : EReal)
      = (Band.ee 8192 (Slopes.sl0 h) (q h) (k h) (v h) (g h) (d h) (n.val * 64 + r.val) : EReal) := by
  have hS := v53_at m c q k hq hk h n r
  have hV := fun j b => v15_at m c v hv h n j b
  rw [split m c 65] at hS hV ⊢
  have h3 : after (hostOps0.take 65) (fun b => m (c, b)) (Proc.tc.devRef main_arg3) = m (c, Proc.tc.devRef main_arg3) := by after_reads_simp
  have h4 : after (hostOps0.take 65) (fun b => m (c, b)) (Proc.tc.devRef main_arg4) = m (c, Proc.tc.devRef main_arg4) := by after_reads_simp
  generalize after (hostOps0.take 65) (fun b => m (c, b)) = ρ at hS hV h3 h4 ⊢
  replace hS : ∀ j, (ρ (Proc.tc.devRef main_v53) (ix5 0 h n r j) : EReal)
      = SoftRow.msk (Band.inWin 8192 (n.val * 64) (n.val * 64 + r.val)) (Band.sc (Slopes.sl0 h) (q h) (k h) 192 (n.val * 64) (n.val * 64 + r.val)) j := by
    simpa only [readAfter] using hS
  replace hV : ∀ j b, (ρ (Proc.tc.devRef main_v15) (ix5 0 h n j b) : EReal)
      = ((if 64 ≤ n.val * 64 + j.val ∧ n.val * 64 + j.val < 8192 + 64 then v h (n.val * 64 + j.val - 64) b else 0 : ℝ) : EReal) := by
    intro j b; rw [apply_ite ((↑) : ℝ → EReal)]; simpa only [readAfter, EReal.coe_zero] using hV j b
  after_reads_simp
  rw [h3, h4]
  pointwise
  simp only [hS, hV, hg, hd, Slopes.bot]
  refine (SoftRow.corr_eq _ _ (Band.some_in 8192 _ _ (by omega) (by omega) (by omega)) _ _ _).trans ?_
  rw [Band.corr_eq 8192 (Slopes.sl0 h) (q h) (k h) (v h) (g h) (d h) (n.val * 64) (n.val * 64 + r.val) (by omega) (by omega)]
  intro j b hw
  exact if_pos ⟨hw.1, hw.2.1⟩

include hq hk in
/-- The log-denominators, a head's on each of its lanes. -/
theorem v78_at (t : Fin 8192) (l : Fin 256) :
    (V m c main_v78 (ix2 t l) : EReal)
      = (Real.log (Band.Z 8192 (Slopes.sl0 ⟨l.val / 64, by omega⟩) (q ⟨l.val / 64, by omega⟩) (k ⟨l.val / 64, by omega⟩) t.val) : EReal) := by
  have hS := v65_at m c q k hq hk ⟨l.val / 64, by omega⟩ ⟨t.val / 64, by omega⟩ ⟨t.val % 64, by omega⟩
  rw [split m c 79] at hS ⊢
  generalize after (hostOps0.take 79) (fun b => m (c, b)) = ρ at hS ⊢
  simp only [readAfter] at hS
  after_reads_simp
  pointwise
  rw [hS, Nat.div_add_mod']

include hq hk hv hg hd in
/-- What both gradients add to `do · v`, a head's on each of its lanes. -/
theorem v84_at (t : Fin 8192) (l : Fin 256) :
    (V m c main_v84 (ix2 t l) : EReal)
      = (Band.ee 8192 (Slopes.sl0 ⟨l.val / 64, by omega⟩) (q ⟨l.val / 64, by omega⟩) (k ⟨l.val / 64, by omega⟩) (v ⟨l.val / 64, by omega⟩)
          (g ⟨l.val / 64, by omega⟩) (d ⟨l.val / 64, by omega⟩) t.val : EReal) := by
  have hS := v79_at m c q k v g d hq hk hv hg hd ⟨l.val / 64, by omega⟩ ⟨t.val / 64, by omega⟩ ⟨t.val % 64, by omega⟩
  rw [split m c 94] at hS ⊢
  generalize after (hostOps0.take 94) (fun b => m (c, b)) = ρ at hS ⊢
  simp only [readAfter] at hS
  after_reads_simp
  pointwise
  rw [hS, Nat.div_add_mod']

include hg in
/-- The cotangent, the heads beside each other. -/
theorem v96_at (t : Fin 8192) (l : Fin 256) :
    (V m c main_v96 (ix2 t l) : EReal) = (g ⟨l.val / 64, by omega⟩ t.val ⟨l.val % 64, by omega⟩ : EReal) := by
  unfold V
  after_reads_simp
  pointwise
  rw [hg]

include hq in
theorem v85_at (t : Fin 8192) (l : Fin 256) :
    (V m c main_v85 (ix2 t l) : EReal) = (q ⟨l.val / 64, by omega⟩ t.val ⟨l.val % 64, by omega⟩ : EReal) := by
  unfold V
  after_reads_simp
  pointwise
  rw [hq]

include hq in
theorem v95_q (t : Fin 8192) (l : Fin 256) :
    (V m c main_v95 (ix2 t ⟨8704 + l.val, by omega⟩) : EReal) = (q ⟨l.val / 64, by omega⟩ t.val ⟨l.val % 64, by omega⟩ : EReal) := by
  rw [e95]
  exact (pack_q t l).trans (v85_at m c q hq t l)

include hk in
/-- The packed projection at the columns of the keys. -/
theorem v95_k (t : Fin 8192) (p : Fin 2) (l : Fin 128) :
    (V m c main_v95 (ix2 t ⟨7168 + p.val * 256 + l.val, by omega⟩) : EReal)
      = (k ⟨p.val * 2 + l.val / 64, by omega⟩ t.val ⟨l.val % 64, by omega⟩ : EReal) := by
  rw [e95]
  obtain rfl | rfl : p = 0 ∨ p = 1 := by omega
  · have e : (⟨7168 + ((0 : Fin 2).val) * 256 + l.val, by omega⟩ : Fin 9728) = ⟨7168 + l.val, by omega⟩ := Fin.ext (by simp)
    rw [e]
    refine (pack_k0 t l).trans ?_
    unfold V; after_reads_simp; pointwise; rw [hk]
  · have e : (⟨7168 + ((1 : Fin 2).val) * 256 + l.val, by omega⟩ : Fin 9728) = ⟨7424 + l.val, by omega⟩ := Fin.ext (by simp)
    rw [e]
    refine (pack_k1 t l).trans ?_
    unfold V; after_reads_simp; pointwise; rw [hk]; congr 2 <;> apply Fin.ext <;> simp <;> first | done | omega

include hv in
/-- The packed projection at the columns of the values. -/
theorem v95_v (t : Fin 8192) (p : Fin 2) (l : Fin 128) :
    (V m c main_v95 (ix2 t ⟨7168 + p.val * 256 + 128 + l.val, by omega⟩) : EReal)
      = (v ⟨p.val * 2 + l.val / 64, by omega⟩ t.val ⟨l.val % 64, by omega⟩ : EReal) := by
  rw [e95]
  obtain rfl | rfl : p = 0 ∨ p = 1 := by omega
  · have e : (⟨7168 + ((0 : Fin 2).val) * 256 + 128 + l.val, by omega⟩ : Fin 9728) = ⟨7296 + l.val, by omega⟩ := Fin.ext (by simp)
    rw [e]
    refine (pack_v0 t l).trans ?_
    unfold V; after_reads_simp; pointwise; rw [hv]
  · have e : (⟨7168 + ((1 : Fin 2).val) * 256 + 128 + l.val, by omega⟩ : Fin 9728) = ⟨7552 + l.val, by omega⟩ := Fin.ext (by simp)
    rw [e]
    refine (pack_v1 t l).trans ?_
    unfold V; after_reads_simp; pointwise; rw [hv]; congr 2 <;> apply Fin.ext <;> simp <;> first | done | omega

end Reals
end Cert.Proof.HDkv0
end
-- ==== Proof.Pairs.lean ====
module
public import proofs.«01_k».proof.Proof.Band
public import proofs.«01_k».proof.Proof.Slopes
@[expose] public section
noncomputable section
/-! The gradient of the keys and values of a group of four heads in its 512 columns, and the sum over the queries near a key
as three blocks of 64 queries give it. -/
namespace Cert.Proof.Pairs
open Idealize.ShloMosaic

/-- The head of a column: two pairs, each with its keys' columns and then its values'. -/
abbrev hd (w : Fin 512) : Fin 4 := ⟨w.val / 256 * 2 + w.val % 128 / 64, by omega⟩
abbrev ln (w : Fin 512) : Fin 64 := ⟨w.val % 64, by omega⟩

/-- The gradient at a column. -/
def kv (q k v g : Fin 4 → ℕ → Fin 64 → ℝ) (d : Fin 4 → ℕ → ℝ) (w : Fin 512) (t : ℕ) : ℝ :=
  if w.val % 256 < 128 then Band.dk 8192 (Slopes.sl0 (hd w)) (q (hd w)) (k (hd w)) (v (hd w)) (g (hd w)) (d (hd w)) t (ln w)
  else Band.dv 8192 (Slopes.sl0 (hd w)) (q (hd w)) (k (hd w)) (g (hd w)) t (ln w)

/-- A block's queries' share of the key at an entry of the block's window. -/
def share (X : ℕ → ℕ → ℝ) (n j : ℕ) : ℝ := ∑ r : Fin 64, if 64 ≤ n * 64 + j ∧ n * 64 + j < 8192 + 64 then X (n * 64 + r.val) (n * 64 + j - 64) else 0

theorem three (F : ℕ → ℝ) : ∑ j : Fin 192, F j.val = ∑ r : Fin 64, F r.val + ∑ r : Fin 64, F (64 + r.val) + ∑ r : Fin 64, F (128 + r.val) := by
  rw [Fin.sum_univ_eq_sum_range F 192, Fin.sum_univ_eq_sum_range F 64, Fin.sum_univ_eq_sum_range (fun r => F (64 + r)) 64,
    Fin.sum_univ_eq_sum_range (fun r => F (128 + r)) 64, show 192 = 64 + 64 + 64 from rfl, Finset.sum_range_add, Finset.sum_range_add]

/-- The shares of the block before, of the key's own and of the next make the whole sum. -/
theorem thirds (X : ℕ → ℕ → ℝ) (s : ℕ) (hs : s < 8192) (hX : ∀ t, ¬ Band.near t s → X t s = 0) :
    (if 1 ≤ s / 64 then share X (s / 64 - 1) (128 + s % 64) else 0) + share X (s / 64) (64 + s % 64)
      + (if s / 64 < 127 then share X (s / 64 + 1) (s % 64) else 0) = ∑ t ∈ Finset.range 8192, X t s := by
  rw [← Band.band' (W := 192) 8192 (s / 64 * 64) s (by omega) (by omega) (fun t => X t s) fun t h => hX t fun h' => h ⟨h'.2, h'.1⟩,
    three (fun j => if 64 ≤ s / 64 * 64 + j ∧ s / 64 * 64 + j < 8192 + 64 ∧ s ≤ s / 64 * 64 + j ∧ s / 64 * 64 + j ≤ s + 128 then X (s / 64 * 64 + j - 64) s else 0)]
  unfold share
  congr 1
  · congr 1
    · split
      · rename_i h
        refine Finset.sum_congr rfl fun r _ => ?_
        rw [if_pos (by omega), show (s / 64 - 1) * 64 + (128 + s % 64) - 64 = s by omega, show (s / 64 - 1) * 64 + r.val = s / 64 * 64 + r.val - 64 by omega]
        split
        · rfl
        · exact hX _ (by unfold Band.near; omega)
      · symm
        refine Finset.sum_eq_zero fun r _ => if_neg (by omega)
    · refine Finset.sum_congr rfl fun r _ => ?_
      rw [if_pos (by omega), show s / 64 * 64 + (64 + s % 64) - 64 = s by omega, show s / 64 * 64 + (64 + r.val) - 64 = s / 64 * 64 + r.val by omega]
      split
      · rfl
      · exact hX _ (by unfold Band.near; omega)
  · split
    · rename_i h
      refine Finset.sum_congr rfl fun r _ => ?_
      rw [if_pos (by omega), show (s / 64 + 1) * 64 + s % 64 - 64 = s by omega, show s / 64 * 64 + (128 + r.val) - 64 = (s / 64 + 1) * 64 + r.val by omega]
      split
      · rfl
      · exact hX _ (by unfold Band.near; omega)
    · symm
      refine Finset.sum_eq_zero fun r _ => if_neg (by omega)
end Cert.Proof.Pairs
end
-- ==== Proof.KDkv0.lean ====
module
public import proofs.«01_k».proof.Proof.HDkv0
public import proofs.«01_k».proof.Proof.KTerm
public import proofs.«01_k».proof.Proof.Pairs
public import Idealize.ShloMosaic.Lib.Pipeline.ValueKit
@[expose] public section
set_option maxRecDepth 16384
noncomputable section
/-! The kernel of the gradient of the keys and values of the first group, read at an index. -/
namespace Cert.Proof.KDkv0
open Idealize.ShloMosaic Idealize.ShloMosaic.TcCoe Idealize.SL.Sem
open Idealize.ShloMosaic.Pipeline (Dat)
open Cert.AttnDkv0Ideal Cert.AttnDkv0Ideal.Gen
variable (m : (ℓ : Loc nD τ sig) → Buf (Elt Ideal) ℓ) (c : Dev nD)

theorem idx : ∀ t : Fin cfg0.N,
    win0_0.index t = ![(grid0.coords t 1).val, 56 + 2 * (grid0.coords t 0).val] ∧
    win0_1.index t = ![(grid0.coords t 1).val, 57 + 2 * (grid0.coords t 0).val] ∧
    win0_2.index t = ![max (8 * (grid0.coords t 1).val - 1) 0, 68 + (grid0.coords t 0).val] ∧
    win0_3.index t = ![(grid0.coords t 1).val, 68 + (grid0.coords t 0).val] ∧
    win0_4.index t = ![min (8 * ((grid0.coords t 1).val + 1)) 127, 68 + (grid0.coords t 0).val] ∧
    win0_5.index t = ![max (8 * (grid0.coords t 1).val - 1) 0, (grid0.coords t 0).val] ∧
    win0_6.index t = ![(grid0.coords t 1).val, (grid0.coords t 0).val] ∧
    win0_7.index t = ![min (8 * ((grid0.coords t 1).val + 1)) 127, (grid0.coords t 0).val] ∧
    win0_8.index t = ![max (8 * (grid0.coords t 1).val - 1) 0, (grid0.coords t 0).val] ∧
    win0_9.index t = ![(grid0.coords t 1).val, (grid0.coords t 0).val] ∧
    win0_10.index t = ![min (8 * ((grid0.coords t 1).val + 1)) 127, (grid0.coords t 0).val] ∧
    win0_11.index t = ![max (8 * (grid0.coords t 1).val - 1) 0, (grid0.coords t 0).val] ∧
    win0_12.index t = ![(grid0.coords t 1).val, (grid0.coords t 0).val] ∧
    win0_13.index t = ![min (8 * ((grid0.coords t 1).val + 1)) 127, (grid0.coords t 0).val] ∧
    win0_14.index t = ![(grid0.coords t 1).val, 28 + (grid0.coords t 0).val] :=
  (by decide +kernel : ∀ t : Fin grid0.N, _)

theorem small (t : Fin cfg0.N) : (grid0.coords t 0).val < 2 ∧ (grid0.coords t 1).val < 16 := ⟨(grid0.coords t 0).isLt, (grid0.coords t 1).isLt⟩

theorem b0 (t : Fin cfg0.N) (r : Fin 512) (l : Fin 128) : iblk m c 0 t (ix2 r l)
    = V m c main_v95 (ix2 ⟨512 * (grid0.coords t 1).val + r.val, by have := small t; omega⟩ ⟨7168 + (grid0.coords t 0).val * 256 + l.val, by have := small t; omega⟩) := by
  have := small t
  blk_point [iblk, idx t]

theorem b1 (t : Fin cfg0.N) (r : Fin 512) (l : Fin 128) : iblk m c 1 t (ix2 r l)
    = V m c main_v95 (ix2 ⟨512 * (grid0.coords t 1).val + r.val, by have := small t; omega⟩ ⟨7168 + (grid0.coords t 0).val * 256 + 128 + l.val, by have := small t; omega⟩) := by
  have := small t
  blk_point [iblk, idx t]

theorem b2 (t : Fin cfg0.N) (r : Fin 64) (l : Fin 128) (h : 1 ≤ (grid0.coords t 1).val) : iblk m c 2 t (ix2 r l)
    = V m c main_v95 (ix2 ⟨512 * (grid0.coords t 1).val - 64 + r.val, by have := small t; omega⟩ ⟨8704 + 128 * (grid0.coords t 0).val + l.val, by have := small t; omega⟩) := by
  have := small t
  blk_point [iblk, idx t]

theorem b3 (t : Fin cfg0.N) (r : Fin 512) (l : Fin 128) : iblk m c 3 t (ix2 r l)
    = V m c main_v95 (ix2 ⟨512 * (grid0.coords t 1).val + r.val, by have := small t; omega⟩ ⟨8704 + 128 * (grid0.coords t 0).val + l.val, by have := small t; omega⟩) := by
  have := small t
  blk_point [iblk, idx t]

theorem b4 (t : Fin cfg0.N) (r : Fin 64) (l : Fin 128) (h : (grid0.coords t 1).val < 15) : iblk m c 4 t (ix2 r l)
    = V m c main_v95 (ix2 ⟨512 * (grid0.coords t 1).val + 512 + r.val, by have := small t; omega⟩ ⟨8704 + 128 * (grid0.coords t 0).val + l.val, by have := small t; omega⟩) := by
  have := small t
  blk_point [iblk, idx t]

theorem b5 (t : Fin cfg0.N) (r : Fin 64) (l : Fin 128) (h : 1 ≤ (grid0.coords t 1).val) : iblk m c 5 t (ix2 r l)
    = V m c main_v96 (ix2 ⟨512 * (grid0.coords t 1).val - 64 + r.val, by have := small t; omega⟩ ⟨128 * (grid0.coords t 0).val + l.val, by have := small t; omega⟩) := by
  have := small t
  blk_point [iblk, idx t]

theorem b6 (t : Fin cfg0.N) (r : Fin 512) (l : Fin 128) : iblk m c 6 t (ix2 r l)
    = V m c main_v96 (ix2 ⟨512 * (grid0.coords t 1).val + r.val, by have := small t; omega⟩ ⟨128 * (grid0.coords t 0).val + l.val, by have := small t; omega⟩) := by
  have := small t
  blk_point [iblk, idx t]

theorem b7 (t : Fin cfg0.N) (r : Fin 64) (l : Fin 128) (h : (grid0.coords t 1).val < 15) : iblk m c 7 t (ix2 r l)
    = V m c main_v96 (ix2 ⟨512 * (grid0.coords t 1).val + 512 + r.val, by have := small t; omega⟩ ⟨128 * (grid0.coords t 0).val + l.val, by have := small t; omega⟩) := by
  have := small t
  blk_point [iblk, idx t]

theorem b8 (t : Fin cfg0.N) (r : Fin 64) (l : Fin 128) (h : 1 ≤ (grid0.coords t 1).val) : iblk m c 8 t (ix2 r l)
    = V m c main_v78 (ix2 ⟨512 * (grid0.coords t 1).val - 64 + r.val, by have := small t; omega⟩ ⟨128 * (grid0.coords t 0).val + l.val, by have := small t; omega⟩) := by
  have := small t
  have h' : ∀ X : Buf (Elt Ideal) ((c : Thread nD τ).loc main_v78), View.read (Elt Ideal) (win0_8.blk t).view X (ix2 r l)
    = X (ix2 ⟨512 * (grid0.coords t 1).val - 64 + r.val, by omega⟩ ⟨128 * (grid0.coords t 0).val + l.val, by omega⟩) :=
    fun X => congrArg X (by blk_ext [idx t])
  exact h' (V m c main_v78)

theorem b9 (t : Fin cfg0.N) (r : Fin 512) (l : Fin 128) : iblk m c 9 t (ix2 r l)
    = V m c main_v78 (ix2 ⟨512 * (grid0.coords t 1).val + r.val, by have := small t; omega⟩ ⟨128 * (grid0.coords t 0).val + l.val, by have := small t; omega⟩) := by
  have := small t
  have h' : ∀ X : Buf (Elt Ideal) ((c : Thread nD τ).loc main_v78), View.read (Elt Ideal) (win0_9.blk t).view X (ix2 r l)
    = X (ix2 ⟨512 * (grid0.coords t 1).val + r.val, by omega⟩ ⟨128 * (grid0.coords t 0).val + l.val, by omega⟩) :=
    fun X => congrArg X (by blk_ext [idx t])
  exact h' (V m c main_v78)

theorem b10 (t : Fin cfg0.N) (r : Fin 64) (l : Fin 128) (h : (grid0.coords t 1).val < 15) : iblk m c 10 t (ix2 r l)
    = V m c main_v78 (ix2 ⟨512 * (grid0.coords t 1).val + 512 + r.val, by have := small t; omega⟩ ⟨128 * (grid0.coords t 0).val + l.val, by have := small t; omega⟩) := by
  have := small t
  have h' : ∀ X : Buf (Elt Ideal) ((c : Thread nD τ).loc main_v78), View.read (Elt Ideal) (win0_10.blk t).view X (ix2 r l)
    = X (ix2 ⟨512 * (grid0.coords t 1).val + 512 + r.val, by omega⟩ ⟨128 * (grid0.coords t 0).val + l.val, by omega⟩) :=
    fun X => congrArg X (by blk_ext [idx t])
  exact h' (V m c main_v78)

theorem b11 (t : Fin cfg0.N) (r : Fin 64) (l : Fin 128) (h : 1 ≤ (grid0.coords t 1).val) : iblk m c 11 t (ix2 r l)
    = V m c main_v84 (ix2 ⟨512 * (grid0.coords t 1).val - 64 + r.val, by have := small t; omega⟩ ⟨128 * (grid0.coords t 0).val + l.val, by have := small t; omega⟩) := by
  have := small t
  have h' : ∀ X : Buf (Elt Ideal) ((c : Thread nD τ).loc main_v84), View.read (Elt Ideal) (win0_11.blk t).view X (ix2 r l)
    = X (ix2 ⟨512 * (grid0.coords t 1).val - 64 + r.val, by omega⟩ ⟨128 * (grid0.coords t 0).val + l.val, by omega⟩) :=
    fun X => congrArg X (by blk_ext [idx t])
  exact h' (V m c main_v84)

theorem b12 (t : Fin cfg0.N) (r : Fin 512) (l : Fin 128) : iblk m c 12 t (ix2 r l)
    = V m c main_v84 (ix2 ⟨512 * (grid0.coords t 1).val + r.val, by have := small t; omega⟩ ⟨128 * (grid0.coords t 0).val + l.val, by have := small t; omega⟩) := by
  have := small t
  have h' : ∀ X : Buf (Elt Ideal) ((c : Thread nD τ).loc main_v84), View.read (Elt Ideal) (win0_12.blk t).view X (ix2 r l)
    = X (ix2 ⟨512 * (grid0.coords t 1).val + r.val, by omega⟩ ⟨128 * (grid0.coords t 0).val + l.val, by omega⟩) :=
    fun X => congrArg X (by blk_ext [idx t])
  exact h' (V m c main_v84)

theorem b13 (t : Fin cfg0.N) (r : Fin 64) (l : Fin 128) (h : (grid0.coords t 1).val < 15) : iblk m c 13 t (ix2 r l)
    = V m c main_v84 (ix2 ⟨512 * (grid0.coords t 1).val + 512 + r.val, by have := small t; omega⟩ ⟨128 * (grid0.coords t 0).val + l.val, by have := small t; omega⟩) := by
  have := small t
  have h' : ∀ X : Buf (Elt Ideal) ((c : Thread nD τ).loc main_v84), View.read (Elt Ideal) (win0_13.blk t).view X (ix2 r l)
    = X (ix2 ⟨512 * (grid0.coords t 1).val + 512 + r.val, by omega⟩ ⟨128 * (grid0.coords t 0).val + l.val, by omega⟩) :=
    fun X => congrArg X (by blk_ext [idx t])
  exact h' (V m c main_v84)

section Reals
variable (q k v g : Fin 4 → ℕ → Fin 64 → ℝ) (d : Fin 4 → ℕ → ℝ)
  (hq : ∀ t h a, (m (c, Proc.tc.devRef main_arg0) (ix3 t h a) : EReal) = (q h t.val a : EReal))
  (hk : ∀ t h a, (m (c, Proc.tc.devRef main_arg1) (ix3 t h a) : EReal) = (k h t.val a : EReal))
  (hv : ∀ t h a, (m (c, Proc.tc.devRef main_arg2) (ix3 t h a) : EReal) = (v h t.val a : EReal))
  (hg : ∀ t h a, (m (c, Proc.tc.devRef main_arg3) (ix3 t h a) : EReal) = (g h t.val a : EReal))
  (hd : ∀ t h, (m (c, Proc.tc.devRef main_arg4) (ix2 t h) : EReal) = (d h t.val : EReal))

/-- A head of the point's pair. -/
abbrev hd2 (t : Fin cfg0.N) (hh : ℕ) (h2 : hh < 2) : Fin 4 := ⟨2 * (grid0.coords t 0).val + hh, by have := small t; omega⟩

include hk in
theorem r0 (t : Fin cfg0.N) (r : Fin 512) (hh : ℕ) (h2 : hh < 2) (a : Fin 64) (n : ℕ) (hn : n = 512 * (grid0.coords t 1).val + r.val) :
    (iblk m c 0 t (ix2 r ⟨64 * hh + a.val, by omega⟩) : EReal) = (k (hd2 t hh h2) n a : EReal) := by
  have := small t
  rw [b0 m c t r _]
  refine (congrArg (V m c main_v95) (KTerm.ix2_eq rfl (by dsimp only <;> omega))).trans ((HDkv0.v95_k m c k hk ⟨512 * (grid0.coords t 1).val + r.val, by omega⟩ ⟨(grid0.coords t 0).val, by omega⟩ ⟨64 * hh + a.val, by omega⟩).trans ?_)
  exact KTerm.lane_eq k (by dsimp only <;> omega) hn.symm (by dsimp only <;> omega)

include hv in
theorem r1 (t : Fin cfg0.N) (r : Fin 512) (hh : ℕ) (h2 : hh < 2) (a : Fin 64) (n : ℕ) (hn : n = 512 * (grid0.coords t 1).val + r.val) :
    (iblk m c 1 t (ix2 r ⟨64 * hh + a.val, by omega⟩) : EReal) = (v (hd2 t hh h2) n a : EReal) := by
  have := small t
  rw [b1 m c t r _]
  refine (congrArg (V m c main_v95) (KTerm.ix2_eq rfl (by dsimp only <;> omega))).trans ((HDkv0.v95_v m c v hv ⟨512 * (grid0.coords t 1).val + r.val, by omega⟩ ⟨(grid0.coords t 0).val, by omega⟩ ⟨64 * hh + a.val, by omega⟩).trans ?_)
  exact KTerm.lane_eq v (by dsimp only <;> omega) hn.symm (by dsimp only <;> omega)

include hq in
theorem r2 (t : Fin cfg0.N) (r : Fin 64) (hh : ℕ) (h2 : hh < 2) (a : Fin 64) (n : ℕ) (h : 1 ≤ (grid0.coords t 1).val) (hn : n = 512 * (grid0.coords t 1).val - 64 + r.val) :
    (iblk m c 2 t (ix2 r ⟨64 * hh + a.val, by omega⟩) : EReal) = (q (hd2 t hh h2) n a : EReal) := by
  have := small t
  rw [b2 m c t r _ h]
  refine (congrArg (V m c main_v95) (KTerm.ix2_eq rfl (by dsimp only <;> omega))).trans ((HDkv0.v95_q m c q hq ⟨512 * (grid0.coords t 1).val - 64 + r.val, by omega⟩ ⟨128 * (grid0.coords t 0).val + (64 * hh + a.val), by omega⟩).trans ?_)
  exact KTerm.lane_eq q (by dsimp only <;> omega) hn.symm (by dsimp only <;> omega)

include hq in
theorem r3 (t : Fin cfg0.N) (r : Fin 512) (hh : ℕ) (h2 : hh < 2) (a : Fin 64) (n : ℕ) (hn : n = 512 * (grid0.coords t 1).val + r.val) :
    (iblk m c 3 t (ix2 r ⟨64 * hh + a.val, by omega⟩) : EReal) = (q (hd2 t hh h2) n a : EReal) := by
  have := small t
  rw [b3 m c t r _]
  refine (congrArg (V m c main_v95) (KTerm.ix2_eq rfl (by dsimp only <;> omega))).trans ((HDkv0.v95_q m c q hq ⟨512 * (grid0.coords t 1).val + r.val, by omega⟩ ⟨128 * (grid0.coords t 0).val + (64 * hh + a.val), by omega⟩).trans ?_)
  exact KTerm.lane_eq q (by dsimp only <;> omega) hn.symm (by dsimp only <;> omega)

include hq in
theorem r4 (t : Fin cfg0.N) (r : Fin 64) (hh : ℕ) (h2 : hh < 2) (a : Fin 64) (n : ℕ) (h : (grid0.coords t 1).val < 15) (hn : n = 512 * (grid0.coords t 1).val + 512 + r.val) :
    (iblk m c 4 t (ix2 r ⟨64 * hh + a.val, by omega⟩) : EReal) = (q (hd2 t hh h2) n a : EReal) := by
  have := small t
  rw [b4 m c t r _ h]
  refine (congrArg (V m c main_v95) (KTerm.ix2_eq rfl (by dsimp only <;> omega))).trans ((HDkv0.v95_q m c q hq ⟨512 * (grid0.coords t 1).val + 512 + r.val, by omega⟩ ⟨128 * (grid0.coords t 0).val + (64 * hh + a.val), by omega⟩).trans ?_)
  exact KTerm.lane_eq q (by dsimp only <;> omega) hn.symm (by dsimp only <;> omega)

include hg in
theorem r5 (t : Fin cfg0.N) (r : Fin 64) (hh : ℕ) (h2 : hh < 2) (a : Fin 64) (n : ℕ) (h : 1 ≤ (grid0.coords t 1).val) (hn : n = 512 * (grid0.coords t 1).val - 64 + r.val) :
    (iblk m c 5 t (ix2 r ⟨64 * hh + a.val, by omega⟩) : EReal) = (g (hd2 t hh h2) n a : EReal) := by
  have := small t
  rw [b5 m c t r _ h]
  refine (congrArg (V m c main_v96) (KTerm.ix2_eq rfl (by dsimp only <;> omega))).trans ((HDkv0.v96_at m c g hg ⟨512 * (grid0.coords t 1).val - 64 + r.val, by omega⟩ ⟨128 * (grid0.coords t 0).val + (64 * hh + a.val), by omega⟩).trans ?_)
  exact KTerm.lane_eq g (by dsimp only <;> omega) hn.symm (by dsimp only <;> omega)

include hg in
theorem r6 (t : Fin cfg0.N) (r : Fin 512) (hh : ℕ) (h2 : hh < 2) (a : Fin 64) (n : ℕ) (hn : n = 512 * (grid0.coords t 1).val + r.val) :
    (iblk m c 6 t (ix2 r ⟨64 * hh + a.val, by omega⟩) : EReal) = (g (hd2 t hh h2) n a : EReal) := by
  have := small t
  rw [b6 m c t r _]
  refine (congrArg (V m c main_v96) (KTerm.ix2_eq rfl (by dsimp only <;> omega))).trans ((HDkv0.v96_at m c g hg ⟨512 * (grid0.coords t 1).val + r.val, by omega⟩ ⟨128 * (grid0.coords t 0).val + (64 * hh + a.val), by omega⟩).trans ?_)
  exact KTerm.lane_eq g (by dsimp only <;> omega) hn.symm (by dsimp only <;> omega)

include hg in
theorem r7 (t : Fin cfg0.N) (r : Fin 64) (hh : ℕ) (h2 : hh < 2) (a : Fin 64) (n : ℕ) (h : (grid0.coords t 1).val < 15) (hn : n = 512 * (grid0.coords t 1).val + 512 + r.val) :
    (iblk m c 7 t (ix2 r ⟨64 * hh + a.val, by omega⟩) : EReal) = (g (hd2 t hh h2) n a : EReal) := by
  have := small t
  rw [b7 m c t r _ h]
  refine (congrArg (V m c main_v96) (KTerm.ix2_eq rfl (by dsimp only <;> omega))).trans ((HDkv0.v96_at m c g hg ⟨512 * (grid0.coords t 1).val + 512 + r.val, by omega⟩ ⟨128 * (grid0.coords t 0).val + (64 * hh + a.val), by omega⟩).trans ?_)
  exact KTerm.lane_eq g (by dsimp only <;> omega) hn.symm (by dsimp only <;> omega)

include hq hk in
theorem r8 (t : Fin cfg0.N) (r : Fin 64) (hh : ℕ) (h2 : hh < 2) (n : ℕ) (h : 1 ≤ (grid0.coords t 1).val) (hn : n = 512 * (grid0.coords t 1).val - 64 + r.val) :
    (iblk m c 8 t (ix2 r ⟨64 * hh, by omega⟩) : EReal) = (Real.log (Band.Z 8192 (Slopes.sl0 (hd2 t hh h2)) (q (hd2 t hh h2)) (k (hd2 t hh h2)) n) : EReal) := by
  have := small t
  rw [b8 m c t r _ h, HDkv0.v78_at m c q k hq hk]
  have e : (⟨(128 * (grid0.coords t 0).val + 64 * hh) / 64, by omega⟩ : Fin 4) = hd2 t hh h2 := Fin.ext (by dsimp only <;> omega)
  subst hn
  exact congrArg (fun H => ((Real.log (Band.Z 8192 (Slopes.sl0 H) (q H) (k H) (512 * (grid0.coords t 1).val - 64 + r.val)) : ℝ) : EReal)) e

include hq hk in
theorem r9 (t : Fin cfg0.N) (r : Fin 512) (hh : ℕ) (h2 : hh < 2) (n : ℕ) (hn : n = 512 * (grid0.coords t 1).val + r.val) :
    (iblk m c 9 t (ix2 r ⟨64 * hh, by omega⟩) : EReal) = (Real.log (Band.Z 8192 (Slopes.sl0 (hd2 t hh h2)) (q (hd2 t hh h2)) (k (hd2 t hh h2)) n) : EReal) := by
  have := small t
  rw [b9 m c t r _, HDkv0.v78_at m c q k hq hk]
  have e : (⟨(128 * (grid0.coords t 0).val + 64 * hh) / 64, by omega⟩ : Fin 4) = hd2 t hh h2 := Fin.ext (by dsimp only <;> omega)
  subst hn
  exact congrArg (fun H => ((Real.log (Band.Z 8192 (Slopes.sl0 H) (q H) (k H) (512 * (grid0.coords t 1).val + r.val)) : ℝ) : EReal)) e

include hq hk in
theorem r10 (t : Fin cfg0.N) (r : Fin 64) (hh : ℕ) (h2 : hh < 2) (n : ℕ) (h : (grid0.coords t 1).val < 15) (hn : n = 512 * (grid0.coords t 1).val + 512 + r.val) :
    (iblk m c 10 t (ix2 r ⟨64 * hh, by omega⟩) : EReal) = (Real.log (Band.Z 8192 (Slopes.sl0 (hd2 t hh h2)) (q (hd2 t hh h2)) (k (hd2 t hh h2)) n) : EReal) := by
  have := small t
  rw [b10 m c t r _ h, HDkv0.v78_at m c q k hq hk]
  have e : (⟨(128 * (grid0.coords t 0).val + 64 * hh) / 64, by omega⟩ : Fin 4) = hd2 t hh h2 := Fin.ext (by dsimp only <;> omega)
  subst hn
  exact congrArg (fun H => ((Real.log (Band.Z 8192 (Slopes.sl0 H) (q H) (k H) (512 * (grid0.coords t 1).val + 512 + r.val)) : ℝ) : EReal)) e

include hq hk hv hg hd in
theorem r11 (t : Fin cfg0.N) (r : Fin 64) (hh : ℕ) (h2 : hh < 2) (n : ℕ) (h : 1 ≤ (grid0.coords t 1).val) (hn : n = 512 * (grid0.coords t 1).val - 64 + r.val) :
    (iblk m c 11 t (ix2 r ⟨64 * hh, by omega⟩) : EReal) = (Band.ee 8192 (Slopes.sl0 (hd2 t hh h2)) (q (hd2 t hh h2)) (k (hd2 t hh h2)) (v (hd2 t hh h2)) (g (hd2 t hh h2)) (d (hd2 t hh h2)) n : EReal) := by
  have := small t
  rw [b11 m c t r _ h, HDkv0.v84_at m c q k v g d hq hk hv hg hd]
  have e : (⟨(128 * (grid0.coords t 0).val + 64 * hh) / 64, by omega⟩ : Fin 4) = hd2 t hh h2 := Fin.ext (by dsimp only <;> omega)
  subst hn
  exact congrArg (fun H => ((Band.ee 8192 (Slopes.sl0 H) (q H) (k H) (v H) (g H) (d H) (512 * (grid0.coords t 1).val - 64 + r.val) : ℝ) : EReal)) e

include hq hk hv hg hd in
theorem r12 (t : Fin cfg0.N) (r : Fin 512) (hh : ℕ) (h2 : hh < 2) (n : ℕ) (hn : n = 512 * (grid0.coords t 1).val + r.val) :
    (iblk m c 12 t (ix2 r ⟨64 * hh, by omega⟩) : EReal) = (Band.ee 8192 (Slopes.sl0 (hd2 t hh h2)) (q (hd2 t hh h2)) (k (hd2 t hh h2)) (v (hd2 t hh h2)) (g (hd2 t hh h2)) (d (hd2 t hh h2)) n : EReal) := by
  have := small t
  rw [b12 m c t r _, HDkv0.v84_at m c q k v g d hq hk hv hg hd]
  have e : (⟨(128 * (grid0.coords t 0).val + 64 * hh) / 64, by omega⟩ : Fin 4) = hd2 t hh h2 := Fin.ext (by dsimp only <;> omega)
  subst hn
  exact congrArg (fun H => ((Band.ee 8192 (Slopes.sl0 H) (q H) (k H) (v H) (g H) (d H) (512 * (grid0.coords t 1).val + r.val) : ℝ) : EReal)) e

include hq hk hv hg hd in
theorem r13 (t : Fin cfg0.N) (r : Fin 64) (hh : ℕ) (h2 : hh < 2) (n : ℕ) (h : (grid0.coords t 1).val < 15) (hn : n = 512 * (grid0.coords t 1).val + 512 + r.val) :
    (iblk m c 13 t (ix2 r ⟨64 * hh, by omega⟩) : EReal) = (Band.ee 8192 (Slopes.sl0 (hd2 t hh h2)) (q (hd2 t hh h2)) (k (hd2 t hh h2)) (v (hd2 t hh h2)) (g (hd2 t hh h2)) (d (hd2 t hh h2)) n : EReal) := by
  have := small t
  rw [b13 m c t r _ h, HDkv0.v84_at m c q k v g d hq hk hv hg hd]
  have e : (⟨(128 * (grid0.coords t 0).val + 64 * hh) / 64, by omega⟩ : Fin 4) = hd2 t hh h2 := Fin.ext (by dsimp only <;> omega)
  subst hn
  exact congrArg (fun H => ((Band.ee 8192 (Slopes.sl0 H) (q H) (k H) (v H) (g H) (d H) (512 * (grid0.coords t 1).val + 512 + r.val) : ℝ) : EReal)) e

/-- The array of the gradient, at its own columns. -/
abbrev G : S8192x9728.Idx → EReal := fun i => if h : 7168 ≤ (i 1 : ℕ) ∧ (i 1 : ℕ) < 7680 then
  (Pairs.kv q k v g d ⟨(i 1 : ℕ) - 7168, by omega⟩ (i 0 : ℕ) : EReal) else 0

theorem G_K (t : Fin cfg0.N) (hh : ℕ) (h2 : hh < 2) (a : Fin 64) (n : ℕ) (i : S8192x9728.Idx) (h0 : (i 0 : ℕ) = n)
    (h1 : (i 1 : ℕ) = 7168 + 256 * (grid0.coords t 0).val + 64 * hh + a.val) : G q k v g d i = ((Band.dk 8192 (Slopes.sl0 (hd2 t hh h2)) (q (hd2 t hh h2)) (k (hd2 t hh h2)) (v (hd2 t hh h2)) (g (hd2 t hh h2)) (d (hd2 t hh h2)) n a : ℝ) : EReal) := by
  have := small t
  unfold G
  rw [dif_pos ⟨by omega, by omega⟩, Pairs.kv, if_pos (by dsimp only <;> omega)]
  have e : Pairs.hd ⟨(i 1 : ℕ) - 7168, by omega⟩ = hd2 t hh h2 := Fin.ext (by dsimp only <;> omega)
  have e' : Pairs.ln ⟨(i 1 : ℕ) - 7168, by omega⟩ = a := Fin.ext (by dsimp only <;> omega)
  rw [e, e', h0]

theorem G_V (t : Fin cfg0.N) (hh : ℕ) (h2 : hh < 2) (a : Fin 64) (n : ℕ) (i : S8192x9728.Idx) (h0 : (i 0 : ℕ) = n)
    (h1 : (i 1 : ℕ) = 7168 + 256 * (grid0.coords t 0).val + 128 + 64 * hh + a.val) : G q k v g d i = ((Band.dv 8192 (Slopes.sl0 (hd2 t hh h2)) (q (hd2 t hh h2)) (k (hd2 t hh h2)) (g (hd2 t hh h2)) n a : ℝ) : EReal) := by
  have := small t
  unfold G
  rw [dif_pos ⟨by omega, by omega⟩, Pairs.kv, if_neg (by dsimp only <;> omega)]
  have e : Pairs.hd ⟨(i 1 : ℕ) - 7168, by omega⟩ = hd2 t hh h2 := Fin.ext (by dsimp only <;> omega)
  have e' : Pairs.ln ⟨(i 1 : ℕ) - 7168, by omega⟩ = a := Fin.ext (by dsimp only <;> omega)
  rw [e, e', h0]

/-- A row's shares of the keys' gradient over its window, and of the values'. -/
abbrev FK (t : Fin cfg0.N) (s x hh : ℕ) (h2 : hh < 2) (a : Fin 64) (j : Fin 256) : ℝ :=
  if Band.inWin 8192 (512 * (grid0.coords t 1).val + 128 * s) (512 * (grid0.coords t 1).val + 128 * s + x) j then Band.ds 8192 (Slopes.sl0 (hd2 t hh h2)) (q (hd2 t hh h2)) (k (hd2 t hh h2)) (v (hd2 t hh h2)) (g (hd2 t hh h2)) (d (hd2 t hh h2)) (512 * (grid0.coords t 1).val + 128 * s + j.val - 64) (512 * (grid0.coords t 1).val + 128 * s + x) * q (hd2 t hh h2) (512 * (grid0.coords t 1).val + 128 * s + j.val - 64) a else 0
abbrev FV (t : Fin cfg0.N) (s x hh : ℕ) (h2 : hh < 2) (a : Fin 64) (j : Fin 256) : ℝ :=
  if Band.inWin 8192 (512 * (grid0.coords t 1).val + 128 * s) (512 * (grid0.coords t 1).val + 128 * s + x) j then Band.pr 8192 (Slopes.sl0 (hd2 t hh h2)) (q (hd2 t hh h2)) (k (hd2 t hh h2)) (512 * (grid0.coords t 1).val + 128 * s + j.val - 64) (512 * (grid0.coords t 1).val + 128 * s + x) * g (hd2 t hh h2) (512 * (grid0.coords t 1).val + 128 * s + j.val - 64) a else 0

/-- A window's sum, scaled, is the keys' gradient. -/
theorem sum_K (t : Fin cfg0.N) (s x hh : ℕ) (hx : x < 128) (h2 : hh < 2) (a : Fin 64) {A : EReal}
    (hA : A = ((∑ j, FK q k v g d t s x hh h2 a j : ℝ) : EReal)) (i : S8192x9728.Idx) (h0 : (i 0 : ℕ) = 512 * (grid0.coords t 1).val + 128 * s + x)
    (h1 : (i 1 : ℕ) = 7168 + 256 * (grid0.coords t 0).val + (64 * hh + a.val)) :
    A * Ideal.ofBits FTy.f32 1040187392#32 = G q k v g d i := by
  rw [G_K q k v g d t hh h2 a _ i h0 (by omega), hA, Slopes.eighth, ← EReal.coe_mul,
    Band.band' 8192 (512 * (grid0.coords t 1).val + 128 * s) (512 * (grid0.coords t 1).val + 128 * s + x) (by omega) (by omega)
      (fun t' => Band.ds 8192 (Slopes.sl0 (hd2 t hh h2)) (q (hd2 t hh h2)) (k (hd2 t hh h2)) (v (hd2 t hh h2)) (g (hd2 t hh h2)) (d (hd2 t hh h2)) t' (512 * (grid0.coords t 1).val + 128 * s + x) * q (hd2 t hh h2) t' a) fun t' h => by rw [Band.ds_far _ _ _ _ _ _ _ (fun h' => h ⟨h'.2, h'.1⟩), zero_mul]]
  rfl

/-- A window's sum is the values' gradient. -/
theorem sum_V (t : Fin cfg0.N) (s x hh : ℕ) (hx : x < 128) (h2 : hh < 2) (a : Fin 64) {A : EReal}
    (hA : A = ((∑ j, FV q k g t s x hh h2 a j : ℝ) : EReal)) (i : S8192x9728.Idx) (h0 : (i 0 : ℕ) = 512 * (grid0.coords t 1).val + 128 * s + x)
    (h1 : (i 1 : ℕ) = 7168 + 256 * (grid0.coords t 0).val + 128 + (64 * hh + a.val)) : A = G q k v g d i := by
  rw [G_V q k v g d t hh h2 a _ i h0 (by omega), hA,
    Band.band' 8192 (512 * (grid0.coords t 1).val + 128 * s) (512 * (grid0.coords t 1).val + 128 * s + x) (by omega) (by omega)
      (fun t' => Band.pr 8192 (Slopes.sl0 (hd2 t hh h2)) (q (hd2 t hh h2)) (k (hd2 t hh h2)) t' (512 * (grid0.coords t 1).val + 128 * s + x) * g (hd2 t hh h2) t' a) fun t' h => by rw [Band.pr_far _ _ _ _ (fun h' => h ⟨h'.2, h'.1⟩), zero_mul]]
  rfl

include hk hv in
/-- A pair's share of the keys' gradient, at a row of the blocks the point reads. -/
theorem cellK (t : Fin cfg0.N) (s : ℕ) (hs : s < 4) (x j hh : ℕ) (hx : x < 128) (hj : j < 256) (h2 : hh < 2)
    {S M : EReal} (hM : M = ⊥) (hS : S = (Slopes.sl0 (hd2 t hh h2) : EReal)) {Bs : BitVec 32}
    (hB : Bs = Scalar.muli (Scalar.addi (Scalar.muli (BitVec.ofNat 32 (grid0.coords t 1).val) 4#32) (BitVec.ofNat 32 s)) 128#32) (r : Fin 512) (hr : r.val = 128 * s + x) (a : Fin 64)
    {Q D K V : Fin 128 → EReal} {L E X : EReal}
    (hK : ∀ l, K l = iblk m c 0 t (ix2 r l)) (hV : ∀ l, V l = iblk m c 1 t (ix2 r l))
    (hQ : 64 ≤ 512 * (grid0.coords t 1).val + 128 * s + j → 512 * (grid0.coords t 1).val + 128 * s + j < 8192 + 64 → ∀ b : Fin 64, Q ⟨64 * hh + b.val, by omega⟩ = (q (hd2 t hh h2) (512 * (grid0.coords t 1).val + 128 * s + j - 64) b : EReal))
    (hD : 64 ≤ 512 * (grid0.coords t 1).val + 128 * s + j → 512 * (grid0.coords t 1).val + 128 * s + j < 8192 + 64 → ∀ b : Fin 64, D ⟨64 * hh + b.val, by omega⟩ = (g (hd2 t hh h2) (512 * (grid0.coords t 1).val + 128 * s + j - 64) b : EReal))
    (hL : 64 ≤ 512 * (grid0.coords t 1).val + 128 * s + j → 512 * (grid0.coords t 1).val + 128 * s + j < 8192 + 64 → L = (Real.log (Band.Z 8192 (Slopes.sl0 (hd2 t hh h2)) (q (hd2 t hh h2)) (k (hd2 t hh h2)) (512 * (grid0.coords t 1).val + 128 * s + j - 64)) : EReal))
    (hE : 64 ≤ 512 * (grid0.coords t 1).val + 128 * s + j → 512 * (grid0.coords t 1).val + 128 * s + j < 8192 + 64 → E = (Band.ee 8192 (Slopes.sl0 (hd2 t hh h2)) (q (hd2 t hh h2)) (k (hd2 t hh h2)) (v (hd2 t hh h2)) (g (hd2 t hh h2)) (d (hd2 t hh h2)) (512 * (grid0.coords t 1).val + 128 * s + j - 64) : EReal))
    (hX : X = Q ⟨64 * hh + a.val, by omega⟩) :
    Ideal.exp (∑ l : Fin 128, Scalar.select (IntOp.cmpi CmpIPredicate.eq (KTerm.hw l.val) (BitVec.ofNat 32 hh)) (K l * Ideal.ofBits FTy.f32 1040187392#32 * Q l) 0
        + KTerm.bw Bs x j 8192 1 S M - L)
      * (∑ l : Fin 128, Scalar.select (IntOp.cmpi CmpIPredicate.eq (KTerm.hw l.val) (BitVec.ofNat 32 hh)) (V l * D l) 0 + E) * X
      = ((FK q k v g d t s x hh h2 a ⟨j, hj⟩ : ℝ) : EReal) := by
  have := small t
  have e : Slopes.sl0 (hd2 t hh h2) * ((1 : ℕ) : ℝ) = Slopes.sl0 (hd2 t hh h2) := by rw [Nat.cast_one, mul_one]
  have h := KTerm.cell_k 8192 (512 * (grid0.coords t 1).val + 128 * s) x j 1 hh (Slopes.sl0 (hd2 t hh h2)) (q (hd2 t hh h2)) (k (hd2 t hh h2)) (v (hd2 t hh h2)) (g (hd2 t hh h2)) (d (hd2 t hh h2)) (S := S) (M := M) (B := Bs)
    (hB.trans ((KTerm.base _ 4 s).trans (congrArg Words.w (by push_cast; ring)))) (by omega) (by omega) hx hj (by omega) h2 hS
    hM (Q := Q) (K := K) (D := D) (V := V) (L := L) (E := E) (X := X) a
    (fun b => (hK _).trans (r0 m c k hk t r hh h2 b _ (by omega))) (fun b => (hV _).trans (r1 m c v hv t r hh h2 b _ (by omega)))
    (e.symm ▸ hL) (e.symm ▸ hE) hQ hD (fun h1 h2 => hX.trans (hQ h1 h2 a))
  rw [e] at h
  exact h

include hk in
/-- A pair's share of the values' gradient. -/
theorem cellV (t : Fin cfg0.N) (s : ℕ) (hs : s < 4) (x j hh : ℕ) (hx : x < 128) (hj : j < 256) (h2 : hh < 2)
    {S M : EReal} (hM : M = ⊥) (hS : S = (Slopes.sl0 (hd2 t hh h2) : EReal)) {Bs : BitVec 32}
    (hB : Bs = Scalar.muli (Scalar.addi (Scalar.muli (BitVec.ofNat 32 (grid0.coords t 1).val) 4#32) (BitVec.ofNat 32 s)) 128#32) (r : Fin 512) (hr : r.val = 128 * s + x) (a : Fin 64)
    {Q K : Fin 128 → EReal} {L X : EReal}
    (hK : ∀ l, K l = iblk m c 0 t (ix2 r l))
    (hQ : 64 ≤ 512 * (grid0.coords t 1).val + 128 * s + j → 512 * (grid0.coords t 1).val + 128 * s + j < 8192 + 64 → ∀ b : Fin 64, Q ⟨64 * hh + b.val, by omega⟩ = (q (hd2 t hh h2) (512 * (grid0.coords t 1).val + 128 * s + j - 64) b : EReal))
    (hL : 64 ≤ 512 * (grid0.coords t 1).val + 128 * s + j → 512 * (grid0.coords t 1).val + 128 * s + j < 8192 + 64 → L = (Real.log (Band.Z 8192 (Slopes.sl0 (hd2 t hh h2)) (q (hd2 t hh h2)) (k (hd2 t hh h2)) (512 * (grid0.coords t 1).val + 128 * s + j - 64)) : EReal))
    (hX : 64 ≤ 512 * (grid0.coords t 1).val + 128 * s + j → 512 * (grid0.coords t 1).val + 128 * s + j < 8192 + 64 → X = (g (hd2 t hh h2) (512 * (grid0.coords t 1).val + 128 * s + j - 64) a : EReal)) :
    Ideal.exp (∑ l : Fin 128, Scalar.select (IntOp.cmpi CmpIPredicate.eq (KTerm.hw l.val) (BitVec.ofNat 32 hh)) (K l * Ideal.ofBits FTy.f32 1040187392#32 * Q l) 0
        + KTerm.bw Bs x j 8192 1 S M - L) * X
      = ((FV q k g t s x hh h2 a ⟨j, hj⟩ : ℝ) : EReal) := by
  have := small t
  have e : Slopes.sl0 (hd2 t hh h2) * ((1 : ℕ) : ℝ) = Slopes.sl0 (hd2 t hh h2) := by rw [Nat.cast_one, mul_one]
  have h := KTerm.cell_v 8192 (512 * (grid0.coords t 1).val + 128 * s) x j 1 hh (Slopes.sl0 (hd2 t hh h2)) (q (hd2 t hh h2)) (k (hd2 t hh h2)) (g (hd2 t hh h2)) (S := S) (M := M) (B := Bs)
    (hB.trans ((KTerm.base _ 4 s).trans (congrArg Words.w (by push_cast; ring)))) (by omega) (by omega) hx hj (by omega) h2 hS
    hM (Q := Q) (K := K) (L := L) (X := X) a
    (fun b => (hK _).trans (r0 m c k hk t r hh h2 b _ (by omega)))
    (e.symm ▸ hL) hQ hX
  rw [e] at h
  exact h

theorem mask : (Named.named (F := Ideal) (φ := .f32) κ "mask" 4048155338#32 : EReal) = ⊥ := rfl

theorem emb_y (t : Fin cfg0.N) (y : S512x256.Idx) : ((((cfg0.win 14).blk t).view.emb y) 0 : ℕ) = 512 * (grid0.coords t 1).val + (y 0 : ℕ)
    ∧ ((((cfg0.win 14).blk t).view.emb y) 1 : ℕ) = 7168 + 256 * (grid0.coords t 0).val + (y 1 : ℕ) := by
  constructor <;> blk_simp [idx t] <;> omega
end Reals
end Cert.Proof.KDkv0
end
-- ==== Proof.PDkv0.lean ====
module
public import proofs.«01_k».proof.Proof.KDkv0
@[expose] public section
set_option maxRecDepth 16384
noncomputable section
/-! The kernel of the gradient of the keys and values of the first group: what it leaves in its array. -/
namespace Cert.Proof.PDkv0
open Idealize.ShloMosaic Idealize.ShloMosaic.TcCoe Idealize.SL.Sem
open Idealize.ShloMosaic.Pipeline (Dat)
open Cert.AttnDkv0Ideal Cert.AttnDkv0Ideal.Gen Cert.Proof.KDkv0
variable (m : (ℓ : Loc nD τ sig) → Buf (Elt Ideal) ℓ) (c : Dev nD)
section Reals
variable (q k v g : Fin 4 → ℕ → Fin 64 → ℝ) (d : Fin 4 → ℕ → ℝ)
  (hq : ∀ t h a, (m (c, Proc.tc.devRef main_arg0) (ix3 t h a) : EReal) = (q h t.val a : EReal))
  (hk : ∀ t h a, (m (c, Proc.tc.devRef main_arg1) (ix3 t h a) : EReal) = (k h t.val a : EReal))
  (hv : ∀ t h a, (m (c, Proc.tc.devRef main_arg2) (ix3 t h a) : EReal) = (v h t.val a : EReal))
  (hg : ∀ t h a, (m (c, Proc.tc.devRef main_arg3) (ix3 t h a) : EReal) = (g h t.val a : EReal))
  (hd : ∀ t h, (m (c, Proc.tc.devRef main_arg4) (ix2 t h) : EReal) = (d h t.val : EReal))

include hq hk hv hg hd in
set_option maxHeartbeats 0 in
theorem point (t : Fin cfg0.N) (y : S512x256.Idx) : (outsAt0 m c t y : EReal) = G q k v g d (((cfg0.win 14).blk t).view.emb y) := by
  unfold outsAt0
  frame_out
  have sm := small t
  have ey := emb_y t y
  generalize ((cfg0.win 14).blk t).view.emb y = i at ey ⊢
  pointwise [k0_pay3, k0_pay4]
  rw [View.readCov_eq_canon', View.readCov_eq_canon']
  canon_tiles z w
  case piece0 =>
    pointwise
    show View.canon _ _ = _
    canon_tiles x h
    case piece3 =>
      open_payloads
      pointwise
      refine KTerm.by_head _ (x 1).isLt _ _ _ (fun a ha => ?_) (fun a ha => ?_)
      · refine sum_V q k v g d t 0 (x 0).val 1 (x 0).isLt (by omega) a (KTerm.split_sum (n := 64) (n' := 192) _ _ _ (fun j => ?_) (fun j => ?_)) _ (by omega) (by omega)
        · refine cellV m c q k g hk t 0 (by omega) (x 0).val (j.val) 1 (x 0).isLt (by omega) (by omega) ?_ ?_ ?_ ⟨(x 0).val, by omega⟩ ?_ a ?_ ?_ ?_ ?_
          · exact mask
          · exact KTerm.slope _ 1 sm.1 (by omega) rfl rfl
          · exact rfl
          · first | omega | (dsimp only <;> omega)
          · exact fun _ => rfl
          · exact fun _ _ b => r2 m c q hq t _ 1 (by omega) b _ (by omega) (by first | omega | (dsimp only <;> omega))
          · exact fun _ _ => r8 m c q k hq hk t _ 1 (by omega) _ (by omega) (by first | omega | (dsimp only <;> omega))
          · exact fun _ _ => (congrArg (fun l => (iblk m c 5 t (ix2 _ l) : EReal)) (Fin.ext ha)).trans (r5 m c g hg t _ 1 (by omega) a _ (by omega) (by first | omega | (dsimp only <;> omega)))
        · refine cellV m c q k g hk t 0 (by omega) (x 0).val (64 + j.val) 1 (x 0).isLt (by omega) (by omega) ?_ ?_ ?_ ⟨(x 0).val, by omega⟩ ?_ a ?_ ?_ ?_ ?_
          · exact mask
          · exact KTerm.slope _ 1 sm.1 (by omega) rfl rfl
          · exact rfl
          · first | omega | (dsimp only <;> omega)
          · exact fun _ => rfl
          · exact fun _ _ b => r3 m c q hq t _ 1 (by omega) b _ (by first | omega | (dsimp only <;> omega))
          · exact fun _ _ => r9 m c q k hq hk t _ 1 (by omega) _ (by first | omega | (dsimp only <;> omega))
          · exact fun _ _ => (congrArg (fun l => (iblk m c 6 t (ix2 _ l) : EReal)) (Fin.ext ha)).trans (r6 m c g hg t _ 1 (by omega) a _ (by first | omega | (dsimp only <;> omega)))
      · refine sum_V q k v g d t 0 (x 0).val 0 (x 0).isLt (by omega) a (KTerm.split_sum (n := 64) (n' := 192) _ _ _ (fun j => ?_) (fun j => ?_)) _ (by omega) (by omega)
        · refine cellV m c q k g hk t 0 (by omega) (x 0).val (j.val) 0 (x 0).isLt (by omega) (by omega) ?_ ?_ ?_ ⟨(x 0).val, by omega⟩ ?_ a ?_ ?_ ?_ ?_
          · exact mask
          · exact KTerm.slope _ 0 sm.1 (by omega) rfl rfl
          · exact rfl
          · first | omega | (dsimp only <;> omega)
          · exact fun _ => rfl
          · exact fun _ _ b => r2 m c q hq t _ 0 (by omega) b _ (by omega) (by first | omega | (dsimp only <;> omega))
          · exact fun _ _ => r8 m c q k hq hk t _ 0 (by omega) _ (by omega) (by first | omega | (dsimp only <;> omega))
          · exact fun _ _ => (congrArg (fun l => (iblk m c 5 t (ix2 _ l) : EReal)) (Fin.ext ha)).trans (r5 m c g hg t _ 0 (by omega) a _ (by omega) (by first | omega | (dsimp only <;> omega)))
        · refine cellV m c q k g hk t 0 (by omega) (x 0).val (64 + j.val) 0 (x 0).isLt (by omega) (by omega) ?_ ?_ ?_ ⟨(x 0).val, by omega⟩ ?_ a ?_ ?_ ?_ ?_
          · exact mask
          · exact KTerm.slope _ 0 sm.1 (by omega) rfl rfl
          · exact rfl
          · first | omega | (dsimp only <;> omega)
          · exact fun _ => rfl
          · exact fun _ _ b => r3 m c q hq t _ 0 (by omega) b _ (by first | omega | (dsimp only <;> omega))
          · exact fun _ _ => r9 m c q k hq hk t _ 0 (by omega) _ (by first | omega | (dsimp only <;> omega))
          · exact fun _ _ => (congrArg (fun l => (iblk m c 6 t (ix2 _ l) : EReal)) (Fin.ext ha)).trans (r6 m c g hg t _ 0 (by omega) a _ (by first | omega | (dsimp only <;> omega)))
    case piece2 =>
      open_payloads
      pointwise
      refine KTerm.by_head _ (x 1).isLt _ _ _ (fun a ha => ?_) (fun a ha => ?_)
      · refine sum_V q k v g d t 1 (x 0).val 1 (x 0).isLt (by omega) a (KTerm.whole_sum _ _ (fun j => ?_)) _ (by omega) (by omega)
        · refine cellV m c q k g hk t 1 (by omega) (x 0).val (j.val) 1 (x 0).isLt (by omega) (by omega) ?_ ?_ ?_ ⟨128 + (x 0).val, by omega⟩ ?_ a ?_ ?_ ?_ ?_
          · exact mask
          · exact KTerm.slope _ 1 sm.1 (by omega) rfl rfl
          · exact rfl
          · first | omega | (dsimp only <;> omega)
          · exact fun _ => rfl
          · exact fun _ _ b => r3 m c q hq t _ 1 (by omega) b _ (by first | omega | (dsimp only <;> omega))
          · exact fun _ _ => r9 m c q k hq hk t _ 1 (by omega) _ (by first | omega | (dsimp only <;> omega))
          · exact fun _ _ => (congrArg (fun l => (iblk m c 6 t (ix2 _ l) : EReal)) (Fin.ext ha)).trans (r6 m c g hg t _ 1 (by omega) a _ (by first | omega | (dsimp only <;> omega)))
      · refine sum_V q k v g d t 1 (x 0).val 0 (x 0).isLt (by omega) a (KTerm.whole_sum _ _ (fun j => ?_)) _ (by omega) (by omega)
        · refine cellV m c q k g hk t 1 (by omega) (x 0).val (j.val) 0 (x 0).isLt (by omega) (by omega) ?_ ?_ ?_ ⟨128 + (x 0).val, by omega⟩ ?_ a ?_ ?_ ?_ ?_
          · exact mask
          · exact KTerm.slope _ 0 sm.1 (by omega) rfl rfl
          · exact rfl
          · first | omega | (dsimp only <;> omega)
          · exact fun _ => rfl
          · exact fun _ _ b => r3 m c q hq t _ 0 (by omega) b _ (by first | omega | (dsimp only <;> omega))
          · exact fun _ _ => r9 m c q k hq hk t _ 0 (by omega) _ (by first | omega | (dsimp only <;> omega))
          · exact fun _ _ => (congrArg (fun l => (iblk m c 6 t (ix2 _ l) : EReal)) (Fin.ext ha)).trans (r6 m c g hg t _ 0 (by omega) a _ (by first | omega | (dsimp only <;> omega)))
    case piece1 =>
      open_payloads
      pointwise
      refine KTerm.by_head _ (x 1).isLt _ _ _ (fun a ha => ?_) (fun a ha => ?_)
      · refine sum_V q k v g d t 2 (x 0).val 1 (x 0).isLt (by omega) a (KTerm.whole_sum _ _ (fun j => ?_)) _ (by omega) (by omega)
        · refine cellV m c q k g hk t 2 (by omega) (x 0).val (j.val) 1 (x 0).isLt (by omega) (by omega) ?_ ?_ ?_ ⟨256 + (x 0).val, by omega⟩ ?_ a ?_ ?_ ?_ ?_
          · exact mask
          · exact KTerm.slope _ 1 sm.1 (by omega) rfl rfl
          · exact rfl
          · first | omega | (dsimp only <;> omega)
          · exact fun _ => rfl
          · exact fun _ _ b => r3 m c q hq t _ 1 (by omega) b _ (by first | omega | (dsimp only <;> omega))
          · exact fun _ _ => r9 m c q k hq hk t _ 1 (by omega) _ (by first | omega | (dsimp only <;> omega))
          · exact fun _ _ => (congrArg (fun l => (iblk m c 6 t (ix2 _ l) : EReal)) (Fin.ext ha)).trans (r6 m c g hg t _ 1 (by omega) a _ (by first | omega | (dsimp only <;> omega)))
      · refine sum_V q k v g d t 2 (x 0).val 0 (x 0).isLt (by omega) a (KTerm.whole_sum _ _ (fun j => ?_)) _ (by omega) (by omega)
        · refine cellV m c q k g hk t 2 (by omega) (x 0).val (j.val) 0 (x 0).isLt (by omega) (by omega) ?_ ?_ ?_ ⟨256 + (x 0).val, by omega⟩ ?_ a ?_ ?_ ?_ ?_
          · exact mask
          · exact KTerm.slope _ 0 sm.1 (by omega) rfl rfl
          · exact rfl
          · first | omega | (dsimp only <;> omega)
          · exact fun _ => rfl
          · exact fun _ _ b => r3 m c q hq t _ 0 (by omega) b _ (by first | omega | (dsimp only <;> omega))
          · exact fun _ _ => r9 m c q k hq hk t _ 0 (by omega) _ (by first | omega | (dsimp only <;> omega))
          · exact fun _ _ => (congrArg (fun l => (iblk m c 6 t (ix2 _ l) : EReal)) (Fin.ext ha)).trans (r6 m c g hg t _ 0 (by omega) a _ (by first | omega | (dsimp only <;> omega)))
    case piece0 =>
      open_payloads
      pointwise
      refine KTerm.by_head _ (x 1).isLt _ _ _ (fun a ha => ?_) (fun a ha => ?_)
      · refine sum_V q k v g d t 3 (x 0).val 1 (x 0).isLt (by omega) a (KTerm.split_sum (n := 192) (n' := 64) _ _ _ (fun j => ?_) (fun j => ?_)) _ (by omega) (by omega)
        · refine cellV m c q k g hk t 3 (by omega) (x 0).val (j.val) 1 (x 0).isLt (by omega) (by omega) ?_ ?_ ?_ ⟨384 + (x 0).val, by omega⟩ ?_ a ?_ ?_ ?_ ?_
          · exact mask
          · exact KTerm.slope _ 1 sm.1 (by omega) rfl rfl
          · exact rfl
          · first | omega | (dsimp only <;> omega)
          · exact fun _ => rfl
          · exact fun _ _ b => r3 m c q hq t _ 1 (by omega) b _ (by first | omega | (dsimp only <;> omega))
          · exact fun _ _ => r9 m c q k hq hk t _ 1 (by omega) _ (by first | omega | (dsimp only <;> omega))
          · exact fun _ _ => (congrArg (fun l => (iblk m c 6 t (ix2 _ l) : EReal)) (Fin.ext ha)).trans (r6 m c g hg t _ 1 (by omega) a _ (by first | omega | (dsimp only <;> omega)))
        · refine cellV m c q k g hk t 3 (by omega) (x 0).val (192 + j.val) 1 (x 0).isLt (by omega) (by omega) ?_ ?_ ?_ ⟨384 + (x 0).val, by omega⟩ ?_ a ?_ ?_ ?_ ?_
          · exact mask
          · exact KTerm.slope _ 1 sm.1 (by omega) rfl rfl
          · exact rfl
          · first | omega | (dsimp only <;> omega)
          · exact fun _ => rfl
          · exact fun _ _ b => r4 m c q hq t _ 1 (by omega) b _ (by omega) (by first | omega | (dsimp only <;> omega))
          · exact fun _ _ => r10 m c q k hq hk t _ 1 (by omega) _ (by omega) (by first | omega | (dsimp only <;> omega))
          · exact fun _ _ => (congrArg (fun l => (iblk m c 7 t (ix2 _ l) : EReal)) (Fin.ext ha)).trans (r7 m c g hg t _ 1 (by omega) a _ (by omega) (by first | omega | (dsimp only <;> omega)))
      · refine sum_V q k v g d t 3 (x 0).val 0 (x 0).isLt (by omega) a (KTerm.split_sum (n := 192) (n' := 64) _ _ _ (fun j => ?_) (fun j => ?_)) _ (by omega) (by omega)
        · refine cellV m c q k g hk t 3 (by omega) (x 0).val (j.val) 0 (x 0).isLt (by omega) (by omega) ?_ ?_ ?_ ⟨384 + (x 0).val, by omega⟩ ?_ a ?_ ?_ ?_ ?_
          · exact mask
          · exact KTerm.slope _ 0 sm.1 (by omega) rfl rfl
          · exact rfl
          · first | omega | (dsimp only <;> omega)
          · exact fun _ => rfl
          · exact fun _ _ b => r3 m c q hq t _ 0 (by omega) b _ (by first | omega | (dsimp only <;> omega))
          · exact fun _ _ => r9 m c q k hq hk t _ 0 (by omega) _ (by first | omega | (dsimp only <;> omega))
          · exact fun _ _ => (congrArg (fun l => (iblk m c 6 t (ix2 _ l) : EReal)) (Fin.ext ha)).trans (r6 m c g hg t _ 0 (by omega) a _ (by first | omega | (dsimp only <;> omega)))
        · refine cellV m c q k g hk t 3 (by omega) (x 0).val (192 + j.val) 0 (x 0).isLt (by omega) (by omega) ?_ ?_ ?_ ⟨384 + (x 0).val, by omega⟩ ?_ a ?_ ?_ ?_ ?_
          · exact mask
          · exact KTerm.slope _ 0 sm.1 (by omega) rfl rfl
          · exact rfl
          · first | omega | (dsimp only <;> omega)
          · exact fun _ => rfl
          · exact fun _ _ b => r4 m c q hq t _ 0 (by omega) b _ (by omega) (by first | omega | (dsimp only <;> omega))
          · exact fun _ _ => r10 m c q k hq hk t _ 0 (by omega) _ (by omega) (by first | omega | (dsimp only <;> omega))
          · exact fun _ _ => (congrArg (fun l => (iblk m c 7 t (ix2 _ l) : EReal)) (Fin.ext ha)).trans (r7 m c g hg t _ 0 (by omega) a _ (by omega) (by first | omega | (dsimp only <;> omega)))
  case piece1 =>
    pointwise
    show View.canon _ _ = _
    canon_tiles x h
    case piece3 =>
      open_payloads
      pointwise
      refine KTerm.by_head _ (x 1).isLt _ _ _ (fun a ha => ?_) (fun a ha => ?_)
      · refine sum_K q k v g d t 0 (x 0).val 1 (x 0).isLt (by omega) a (KTerm.split_sum (n := 64) (n' := 192) _ _ _ (fun j => ?_) (fun j => ?_)) _ (by omega) (by omega)
        · refine cellK m c q k v g d hk hv t 0 (by omega) (x 0).val (j.val) 1 (x 0).isLt (by omega) (by omega) ?_ ?_ ?_ ⟨(x 0).val, by omega⟩ ?_ a ?_ ?_ ?_ ?_ ?_ ?_ ?_
          · exact mask
          · exact KTerm.slope _ 1 sm.1 (by omega) rfl rfl
          · exact rfl
          · first | omega | (dsimp only <;> omega)
          · exact fun _ => rfl
          · exact fun _ => rfl
          · exact fun _ _ b => r2 m c q hq t _ 1 (by omega) b _ (by omega) (by first | omega | (dsimp only <;> omega))
          · exact fun _ _ b => r5 m c g hg t _ 1 (by omega) b _ (by omega) (by first | omega | (dsimp only <;> omega))
          · exact fun _ _ => r8 m c q k hq hk t _ 1 (by omega) _ (by omega) (by first | omega | (dsimp only <;> omega))
          · exact fun _ _ => r11 m c q k v g d hq hk hv hg hd t _ 1 (by omega) _ (by omega) (by first | omega | (dsimp only <;> omega))
          · exact congrArg (fun l => (iblk m c 2 t (ix2 _ l) : EReal)) (Fin.ext ha)
        · refine cellK m c q k v g d hk hv t 0 (by omega) (x 0).val (64 + j.val) 1 (x 0).isLt (by omega) (by omega) ?_ ?_ ?_ ⟨(x 0).val, by omega⟩ ?_ a ?_ ?_ ?_ ?_ ?_ ?_ ?_
          · exact mask
          · exact KTerm.slope _ 1 sm.1 (by omega) rfl rfl
          · exact rfl
          · first | omega | (dsimp only <;> omega)
          · exact fun _ => rfl
          · exact fun _ => rfl
          · exact fun _ _ b => r3 m c q hq t _ 1 (by omega) b _ (by first | omega | (dsimp only <;> omega))
          · exact fun _ _ b => r6 m c g hg t _ 1 (by omega) b _ (by first | omega | (dsimp only <;> omega))
          · exact fun _ _ => r9 m c q k hq hk t _ 1 (by omega) _ (by first | omega | (dsimp only <;> omega))
          · exact fun _ _ => r12 m c q k v g d hq hk hv hg hd t _ 1 (by omega) _ (by first | omega | (dsimp only <;> omega))
          · exact congrArg (fun l => (iblk m c 3 t (ix2 _ l) : EReal)) (Fin.ext ha)
      · refine sum_K q k v g d t 0 (x 0).val 0 (x 0).isLt (by omega) a (KTerm.split_sum (n := 64) (n' := 192) _ _ _ (fun j => ?_) (fun j => ?_)) _ (by omega) (by omega)
        · refine cellK m c q k v g d hk hv t 0 (by omega) (x 0).val (j.val) 0 (x 0).isLt (by omega) (by omega) ?_ ?_ ?_ ⟨(x 0).val, by omega⟩ ?_ a ?_ ?_ ?_ ?_ ?_ ?_ ?_
          · exact mask
          · exact KTerm.slope _ 0 sm.1 (by omega) rfl rfl
          · exact rfl
          · first | omega | (dsimp only <;> omega)
          · exact fun _ => rfl
          · exact fun _ => rfl
          · exact fun _ _ b => r2 m c q hq t _ 0 (by omega) b _ (by omega) (by first | omega | (dsimp only <;> omega))
          · exact fun _ _ b => r5 m c g hg t _ 0 (by omega) b _ (by omega) (by first | omega | (dsimp only <;> omega))
          · exact fun _ _ => r8 m c q k hq hk t _ 0 (by omega) _ (by omega) (by first | omega | (dsimp only <;> omega))
          · exact fun _ _ => r11 m c q k v g d hq hk hv hg hd t _ 0 (by omega) _ (by omega) (by first | omega | (dsimp only <;> omega))
          · exact congrArg (fun l => (iblk m c 2 t (ix2 _ l) : EReal)) (Fin.ext ha)
        · refine cellK m c q k v g d hk hv t 0 (by omega) (x 0).val (64 + j.val) 0 (x 0).isLt (by omega) (by omega) ?_ ?_ ?_ ⟨(x 0).val, by omega⟩ ?_ a ?_ ?_ ?_ ?_ ?_ ?_ ?_
          · exact mask
          · exact KTerm.slope _ 0 sm.1 (by omega) rfl rfl
          · exact rfl
          · first | omega | (dsimp only <;> omega)
          · exact fun _ => rfl
          · exact fun _ => rfl
          · exact fun _ _ b => r3 m c q hq t _ 0 (by omega) b _ (by first | omega | (dsimp only <;> omega))
          · exact fun _ _ b => r6 m c g hg t _ 0 (by omega) b _ (by first | omega | (dsimp only <;> omega))
          · exact fun _ _ => r9 m c q k hq hk t _ 0 (by omega) _ (by first | omega | (dsimp only <;> omega))
          · exact fun _ _ => r12 m c q k v g d hq hk hv hg hd t _ 0 (by omega) _ (by first | omega | (dsimp only <;> omega))
          · exact congrArg (fun l => (iblk m c 3 t (ix2 _ l) : EReal)) (Fin.ext ha)
    case piece2 =>
      open_payloads
      pointwise
      refine KTerm.by_head _ (x 1).isLt _ _ _ (fun a ha => ?_) (fun a ha => ?_)
      · refine sum_K q k v g d t 1 (x 0).val 1 (x 0).isLt (by omega) a (KTerm.whole_sum _ _ (fun j => ?_)) _ (by omega) (by omega)
        · refine cellK m c q k v g d hk hv t 1 (by omega) (x 0).val (j.val) 1 (x 0).isLt (by omega) (by omega) ?_ ?_ ?_ ⟨128 + (x 0).val, by omega⟩ ?_ a ?_ ?_ ?_ ?_ ?_ ?_ ?_
          · exact mask
          · exact KTerm.slope _ 1 sm.1 (by omega) rfl rfl
          · exact rfl
          · first | omega | (dsimp only <;> omega)
          · exact fun _ => rfl
          · exact fun _ => rfl
          · exact fun _ _ b => r3 m c q hq t _ 1 (by omega) b _ (by first | omega | (dsimp only <;> omega))
          · exact fun _ _ b => r6 m c g hg t _ 1 (by omega) b _ (by first | omega | (dsimp only <;> omega))
          · exact fun _ _ => r9 m c q k hq hk t _ 1 (by omega) _ (by first | omega | (dsimp only <;> omega))
          · exact fun _ _ => r12 m c q k v g d hq hk hv hg hd t _ 1 (by omega) _ (by first | omega | (dsimp only <;> omega))
          · exact congrArg (fun l => (iblk m c 3 t (ix2 _ l) : EReal)) (Fin.ext ha)
      · refine sum_K q k v g d t 1 (x 0).val 0 (x 0).isLt (by omega) a (KTerm.whole_sum _ _ (fun j => ?_)) _ (by omega) (by omega)
        · refine cellK m c q k v g d hk hv t 1 (by omega) (x 0).val (j.val) 0 (x 0).isLt (by omega) (by omega) ?_ ?_ ?_ ⟨128 + (x 0).val, by omega⟩ ?_ a ?_ ?_ ?_ ?_ ?_ ?_ ?_
          · exact mask
          · exact KTerm.slope _ 0 sm.1 (by omega) rfl rfl
          · exact rfl
          · first | omega | (dsimp only <;> omega)
          · exact fun _ => rfl
          · exact fun _ => rfl
          · exact fun _ _ b => r3 m c q hq t _ 0 (by omega) b _ (by first | omega | (dsimp only <;> omega))
          · exact fun _ _ b => r6 m c g hg t _ 0 (by omega) b _ (by first | omega | (dsimp only <;> omega))
          · exact fun _ _ => r9 m c q k hq hk t _ 0 (by omega) _ (by first | omega | (dsimp only <;> omega))
          · exact fun _ _ => r12 m c q k v g d hq hk hv hg hd t _ 0 (by omega) _ (by first | omega | (dsimp only <;> omega))
          · exact congrArg (fun l => (iblk m c 3 t (ix2 _ l) : EReal)) (Fin.ext ha)
    case piece1 =>
      open_payloads
      pointwise
      refine KTerm.by_head _ (x 1).isLt _ _ _ (fun a ha => ?_) (fun a ha => ?_)
      · refine sum_K q k v g d t 2 (x 0).val 1 (x 0).isLt (by omega) a (KTerm.whole_sum _ _ (fun j => ?_)) _ (by omega) (by omega)
        · refine cellK m c q k v g d hk hv t 2 (by omega) (x 0).val (j.val) 1 (x 0).isLt (by omega) (by omega) ?_ ?_ ?_ ⟨256 + (x 0).val, by omega⟩ ?_ a ?_ ?_ ?_ ?_ ?_ ?_ ?_
          · exact mask
          · exact KTerm.slope _ 1 sm.1 (by omega) rfl rfl
          · exact rfl
          · first | omega | (dsimp only <;> omega)
          · exact fun _ => rfl
          · exact fun _ => rfl
          · exact fun _ _ b => r3 m c q hq t _ 1 (by omega) b _ (by first | omega | (dsimp only <;> omega))
          · exact fun _ _ b => r6 m c g hg t _ 1 (by omega) b _ (by first | omega | (dsimp only <;> omega))
          · exact fun _ _ => r9 m c q k hq hk t _ 1 (by omega) _ (by first | omega | (dsimp only <;> omega))
          · exact fun _ _ => r12 m c q k v g d hq hk hv hg hd t _ 1 (by omega) _ (by first | omega | (dsimp only <;> omega))
          · exact congrArg (fun l => (iblk m c 3 t (ix2 _ l) : EReal)) (Fin.ext ha)
      · refine sum_K q k v g d t 2 (x 0).val 0 (x 0).isLt (by omega) a (KTerm.whole_sum _ _ (fun j => ?_)) _ (by omega) (by omega)
        · refine cellK m c q k v g d hk hv t 2 (by omega) (x 0).val (j.val) 0 (x 0).isLt (by omega) (by omega) ?_ ?_ ?_ ⟨256 + (x 0).val, by omega⟩ ?_ a ?_ ?_ ?_ ?_ ?_ ?_ ?_
          · exact mask
          · exact KTerm.slope _ 0 sm.1 (by omega) rfl rfl
          · exact rfl
          · first | omega | (dsimp only <;> omega)
          · exact fun _ => rfl
          · exact fun _ => rfl
          · exact fun _ _ b => r3 m c q hq t _ 0 (by omega) b _ (by first | omega | (dsimp only <;> omega))
          · exact fun _ _ b => r6 m c g hg t _ 0 (by omega) b _ (by first | omega | (dsimp only <;> omega))
          · exact fun _ _ => r9 m c q k hq hk t _ 0 (by omega) _ (by first | omega | (dsimp only <;> omega))
          · exact fun _ _ => r12 m c q k v g d hq hk hv hg hd t _ 0 (by omega) _ (by first | omega | (dsimp only <;> omega))
          · exact congrArg (fun l => (iblk m c 3 t (ix2 _ l) : EReal)) (Fin.ext ha)
    case piece0 =>
      open_payloads
      pointwise
      refine KTerm.by_head _ (x 1).isLt _ _ _ (fun a ha => ?_) (fun a ha => ?_)
      · refine sum_K q k v g d t 3 (x 0).val 1 (x 0).isLt (by omega) a (KTerm.split_sum (n := 192) (n' := 64) _ _ _ (fun j => ?_) (fun j => ?_)) _ (by omega) (by omega)
        · refine cellK m c q k v g d hk hv t 3 (by omega) (x 0).val (j.val) 1 (x 0).isLt (by omega) (by omega) ?_ ?_ ?_ ⟨384 + (x 0).val, by omega⟩ ?_ a ?_ ?_ ?_ ?_ ?_ ?_ ?_
          · exact mask
          · exact KTerm.slope _ 1 sm.1 (by omega) rfl rfl
          · exact rfl
          · first | omega | (dsimp only <;> omega)
          · exact fun _ => rfl
          · exact fun _ => rfl
          · exact fun _ _ b => r3 m c q hq t _ 1 (by omega) b _ (by first | omega | (dsimp only <;> omega))
          · exact fun _ _ b => r6 m c g hg t _ 1 (by omega) b _ (by first | omega | (dsimp only <;> omega))
          · exact fun _ _ => r9 m c q k hq hk t _ 1 (by omega) _ (by first | omega | (dsimp only <;> omega))
          · exact fun _ _ => r12 m c q k v g d hq hk hv hg hd t _ 1 (by omega) _ (by first | omega | (dsimp only <;> omega))
          · exact congrArg (fun l => (iblk m c 3 t (ix2 _ l) : EReal)) (Fin.ext ha)
        · refine cellK m c q k v g d hk hv t 3 (by omega) (x 0).val (192 + j.val) 1 (x 0).isLt (by omega) (by omega) ?_ ?_ ?_ ⟨384 + (x 0).val, by omega⟩ ?_ a ?_ ?_ ?_ ?_ ?_ ?_ ?_
          · exact mask
          · exact KTerm.slope _ 1 sm.1 (by omega) rfl rfl
          · exact rfl
          · first | omega | (dsimp only <;> omega)
          · exact fun _ => rfl
          · exact fun _ => rfl
          · exact fun _ _ b => r4 m c q hq t _ 1 (by omega) b _ (by omega) (by first | omega | (dsimp only <;> omega))
          · exact fun _ _ b => r7 m c g hg t _ 1 (by omega) b _ (by omega) (by first | omega | (dsimp only <;> omega))
          · exact fun _ _ => r10 m c q k hq hk t _ 1 (by omega) _ (by omega) (by first | omega | (dsimp only <;> omega))
          · exact fun _ _ => r13 m c q k v g d hq hk hv hg hd t _ 1 (by omega) _ (by omega) (by first | omega | (dsimp only <;> omega))
          · exact congrArg (fun l => (iblk m c 4 t (ix2 _ l) : EReal)) (Fin.ext ha)
      · refine sum_K q k v g d t 3 (x 0).val 0 (x 0).isLt (by omega) a (KTerm.split_sum (n := 192) (n' := 64) _ _ _ (fun j => ?_) (fun j => ?_)) _ (by omega) (by omega)
        · refine cellK m c q k v g d hk hv t 3 (by omega) (x 0).val (j.val) 0 (x 0).isLt (by omega) (by omega) ?_ ?_ ?_ ⟨384 + (x 0).val, by omega⟩ ?_ a ?_ ?_ ?_ ?_ ?_ ?_ ?_
          · exact mask
          · exact KTerm.slope _ 0 sm.1 (by omega) rfl rfl
          · exact rfl
          · first | omega | (dsimp only <;> omega)
          · exact fun _ => rfl
          · exact fun _ => rfl
          · exact fun _ _ b => r3 m c q hq t _ 0 (by omega) b _ (by first | omega | (dsimp only <;> omega))
          · exact fun _ _ b => r6 m c g hg t _ 0 (by omega) b _ (by first | omega | (dsimp only <;> omega))
          · exact fun _ _ => r9 m c q k hq hk t _ 0 (by omega) _ (by first | omega | (dsimp only <;> omega))
          · exact fun _ _ => r12 m c q k v g d hq hk hv hg hd t _ 0 (by omega) _ (by first | omega | (dsimp only <;> omega))
          · exact congrArg (fun l => (iblk m c 3 t (ix2 _ l) : EReal)) (Fin.ext ha)
        · refine cellK m c q k v g d hk hv t 3 (by omega) (x 0).val (192 + j.val) 0 (x 0).isLt (by omega) (by omega) ?_ ?_ ?_ ⟨384 + (x 0).val, by omega⟩ ?_ a ?_ ?_ ?_ ?_ ?_ ?_ ?_
          · exact mask
          · exact KTerm.slope _ 0 sm.1 (by omega) rfl rfl
          · exact rfl
          · first | omega | (dsimp only <;> omega)
          · exact fun _ => rfl
          · exact fun _ => rfl
          · exact fun _ _ b => r4 m c q hq t _ 0 (by omega) b _ (by omega) (by first | omega | (dsimp only <;> omega))
          · exact fun _ _ b => r7 m c g hg t _ 0 (by omega) b _ (by omega) (by first | omega | (dsimp only <;> omega))
          · exact fun _ _ => r10 m c q k hq hk t _ 0 (by omega) _ (by omega) (by first | omega | (dsimp only <;> omega))
          · exact fun _ _ => r13 m c q k v g d hq hk hv hg hd t _ 0 (by omega) _ (by omega) (by first | omega | (dsimp only <;> omega))
          · exact congrArg (fun l => (iblk m c 4 t (ix2 _ l) : EReal)) (Fin.ext ha)

include hq hk hv hg hd in
/-- The kernel's array: the gradient at the group's columns, what it was elsewhere. -/
theorem final : ((dats m 0 c).arrAt 14 cfg0.N : S8192x9728.Idx → EReal)
    = fun i => if 28 ≤ ((i 1 : ℕ) / 256) ∧ ((i 1 : ℕ) / 256) < 30 then G q k v g d i else (m (c, Proc.tc.devRef main_arg5) i : EReal) := by
  have hc : (cfg0.win 14).CoversWhere (fun β => 28 ≤ β 1 ∧ β 1 < 30) := by decide +kernel
  have h : ((dats m 0 c).arrAt 14 cfg0.N : S8192x9728.Idx → EReal)
      = fun i => if 28 ≤ ((i 1 : ℕ) / 256) ∧ ((i 1 : ℕ) / 256) < 30 then G q k v g d i else ((dats m 0 c).A 14 i : EReal) := by
    refine (dats m 0 c).arrAt_eq_of_coversWhere 14 (G q k v g d) (fun β => 28 ≤ β 1 ∧ β 1 < 30) hc ?_ ?_
    · intro t hf y
      blk_simp
      rw [after0_14]
      exact point m c q k v g d hq hk hv hg hd t y
    · intro j
      blk_simp [Pipeline.Window.cell_apply]
  have e : (V m c main_v97 : S8192x9728.Idx → EReal) = m (c, Proc.tc.devRef main_arg5) := by
    unfold V
    after_reads_simp
    rfl
  have h' : ∀ i, ((dats m 0 c).A 14 i : EReal) = (m (c, Proc.tc.devRef main_arg5) i : EReal) := by
    intro i
    rw [A_eq]
    exact congrFun (e : (V m c main_v97 : S8192x9728.Idx → EReal) = m (c, Proc.tc.devRef main_arg5)) i
  rw [h]
  simp only [h']

end Reals
end Cert.Proof.PDkv0
end
-- ==== Proof.RDkv0.lean ====
module
public import proofs.«01_k».proof.Proof.Gen.AttnDkv0RefIdeal.Read
public import proofs.«01_k».proof.Proof.Band
public import proofs.«01_k».proof.Proof.Slopes
public import proofs.«01_k».proof.Proof.RDq0
public import Idealize.ShloMosaic.Lib.Pipeline.ValueKit
@[expose] public section
set_option maxRecDepth 16384
noncomputable section
/-! The reference of the gradient of the keys and values of the first group, read at an index. -/
namespace Cert.Proof.RDkv0
open Idealize.ShloMosaic Idealize.ShloMosaic.TcCoe Idealize.SL.Sem
open Cert.AttnDkv0RefIdeal Cert.AttnDkv0RefIdeal.Read
variable (x0 x1 x2 x3 : (⟨S8192x4x64, .f32⟩ : BufTy).Contents (Elt Ideal)) (x4 : (⟨S8192x4, .f32⟩ : BufTy).Contents (Elt Ideal))
  (x5 : (⟨S8192x9728, .bf16⟩ : BufTy).Contents (Elt Ideal))

/-- An entry of a row's softmax times a cotangent, as the reference divides it. -/
theorem share_eq {ι : Type} [Fintype ι] (c : ι → Prop) [DecidablePred c] (s : ι → ℝ) (hc : ∃ j, c j) (x : ℝ) (j : ι) :
    Ideal.div (x : EReal) (∑ j, Ideal.exp (SoftRow.msk c s j - SoftRow.top c s)) * Ideal.exp (SoftRow.msk c s j - SoftRow.top c s)
      = ((SoftRow.prob c s j * x : ℝ) : EReal) := by
  obtain ⟨k, _, hk⟩ := SoftRow.top_real c s hc
  have hd := SoftRow.den_pos c s hc
  have he := Real.exp_pos (-(s k))
  rw [hk, SoftRow.sum_exp, Ideal.div_coe (mul_pos hd he).ne', SoftRow.exp_msk, ← EReal.coe_mul, ← EReal.coe_mul]
  congr 1
  unfold SoftRow.prob; field_simp

section Reals
variable (q k v g : Fin 4 → ℕ → Fin 64 → ℝ) (d : Fin 4 → ℕ → ℝ)
  (hq : ∀ t h a, (x0 (ix3 t h a) : EReal) = (q h t.val a : EReal))
  (hk : ∀ t h a, (x1 (ix3 t h a) : EReal) = (k h t.val a : EReal))
  (hv : ∀ t h a, (x2 (ix3 t h a) : EReal) = (v h t.val a : EReal))
  (hg : ∀ t h a, (x3 (ix3 t h a) : EReal) = (g h t.val a : EReal))
  (hd : ∀ t h, (x4 (ix2 t h) : EReal) = (d h t.val : EReal))

include hq in
theorem v7_at (h : Fin 4) (n : Fin 128) (r a : Fin 64) :
    (val_main_v7 (F := Ideal) x0 (ix5 0 h n r a) : EReal) = (q h (n.val * 64 + r.val) a : EReal) := by
  pointwise [val_main_v7, val_main_v6, val_main_v5]
  rw [hq]

include hk in
theorem v14_at (h : Fin 4) (n : Fin 130) (r a : Fin 64) :
    (val_main_v14 (F := Ideal) x1 (ix5 0 h n r a) : EReal) = if 64 ≤ n.val * 64 + r.val ∧ n.val * 64 + r.val - 64 < 8192 then
      (k h (n.val * 64 + r.val - 64) a : EReal) else (0 : EReal) := by
  have h9 : ∀ t : Fin 8192, (val_main_v9 (F := Ideal) x1 (ix4 0 h t a) : EReal) = k h t.val a := by
    intro t
    pointwise [val_main_v9, val_main_v8]
    exact hk t h a
  unfold val_main_v14 val_main_v11
  generalize val_main_v9 (F := Ideal) x1 = K at h9 ⊢
  pointwise [val_main_v10, val_main_cst_3]
  simp only [h9]
  split_ifs <;> first | rfl | omega | exact Words.zero

include hk in
theorem v18_at (h : Fin 4) (n : Fin 128) (j : Fin 192) (a : Fin 64) :
    (val_main_v18 (F := Ideal) x1 (ix5 0 h n j a) : EReal)
      = ((if 64 ≤ n.val * 64 + j.val ∧ n.val * 64 + j.val < 8192 + 64 then k h (n.val * 64 + j.val - 64) a else 0 : ℝ) : EReal) := by
  have h3 := v14_at x1 k hk
  unfold val_main_v18 val_main_v15 val_main_v16 val_main_v17
  generalize val_main_v14 (F := Ideal) x1 = K at h3 ⊢
  pointwise
  exact (HDq0.win K k h3 h n j a).trans (by rw [apply_ite ((↑) : ℝ → EReal), EReal.coe_zero])

include hv in
theorem v29_at (h : Fin 4) (n : Fin 128) (j : Fin 192) (a : Fin 64) :
    (val_main_v29 (F := Ideal) x2 (ix5 0 h n j a) : EReal)
      = ((if 64 ≤ n.val * 64 + j.val ∧ n.val * 64 + j.val < 8192 + 64 then v h (n.val * 64 + j.val - 64) a else 0 : ℝ) : EReal) :=
  v18_at x2 v hv h n j a

theorem v67_at (n : Fin 128) (r : Fin 64) (j : Fin 192) :
    (val_main_v67 (F := Ideal) (ix3 n r j) : BitVec 1) = BitVec.ofBool (decide (64 ≤ n.val * 64 + j.val ∧ n.val * 64 + j.val < 8192 + 64 ∧ n.val * 64 + r.val ≤ n.val * 64 + j.val ∧ n.val * 64 + j.val ≤ n.val * 64 + r.val + 128)) := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c, val_main_c_9, val_main_c_10, val_main_c_11, val_main_c_12, val_main_c_13]
  exact RDq0.word n r j n.2 r.2 j.2

theorem v71_at (n : Fin 128) (r : Fin 64) (j : Fin 192) (hv : 64 ≤ n.val * 64 + j.val) :
    (val_main_v71 (F := Ideal) (ix3 n r j) : EReal) = ((|((n.val * 64 + r.val : ℕ) : ℝ) - ((n.val * 64 + j.val - 64 : ℕ) : ℝ)| : ℝ) : EReal) := by
  pointwise [val_main_v71, val_main_v70, val_main_v69, val_main_v68, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c, val_main_c_9, val_main_c_10, val_main_c_14]
  exact RDq0.far n r j n.2 r.2 j.2 hv

theorem v4_at (h : Fin 4) : (val_main_v4 (F := Ideal) (ix1 h) : EReal) = (Slopes.sl0 h : EReal) := by
  pointwise [val_main_v4, val_main_v3, val_main_v2, val_main_v1, val_main_v0, val_main_cst, val_main_cst_0, val_main_cst_1, val_main_cst_2]
  rw [← Slopes.slope0]; fin_cases h <;> rfl

/-- A row's mask and its scores. -/
abbrev C (n r : ℕ) : Fin 192 → Prop := Band.inWin 8192 (n * 64) (n * 64 + r)
abbrev S (h : Fin 4) (n r : ℕ) : Fin 192 → ℝ := Band.sc (Slopes.sl0 h) (q h) (k h) 192 (n * 64) (n * 64 + r)

include hq hk in
/-- The masked scores. -/
theorem v82_at (h : Fin 4) (n : Fin 128) (r : Fin 64) (j : Fin 192) :
    (val_main_v82_0 (F := Ideal) x0 x1 (ix5 0 h n r j) : EReal) = SoftRow.msk (C n r) (S q k h n r) j := by
  have h7 := fun a => v7_at x0 q hq h n r a
  have h18 := fun a => v18_at x1 k hk h n j a
  have h4 := v4_at h
  have h67 := v67_at n r j
  have h71 := v71_at n r j
  pointwise [val_main_v82_0, val_main_v82_1, val_main_call0_v0, val_main_call0_v2, val_main_cst_16, val_main_v81, val_main_v80, val_main_v79, val_main_v78, val_main_v77, val_main_v76, val_main_v75, val_main_v74, val_main_v73, val_main_cst_15, val_main_v72]
  simp only [h7, h18, h4]
  rw [h67, Words.select_bool]
  unfold SoftRow.msk
  by_cases hw : C n r j
  · rw [if_pos (decide_eq_true hw), if_pos hw, h71 hw.1, Slopes.eighth]
    simp only [if_pos (⟨hw.1, hw.2.1⟩ : 64 ≤ n.val * 64 + j.val ∧ n.val * 64 + j.val < 8192 + 64)]
    simp only [← EReal.coe_mul, ← SoftRow.coe_sum, ← EReal.coe_sub]
    rfl
  · rw [if_neg (fun h => hw (of_decide_eq_true h)), if_neg hw]
    exact Slopes.bot

include hq hk in
/-- A row's largest score. -/
theorem v83_at (h : Fin 4) (n : Fin 128) (r : Fin 64) :
    (val_main_v83 (F := Ideal) x0 x1 (ix4 0 h n r) : EReal) = SoftRow.top (C n r) (S q k h n r) := by
  have h82 := fun j => v82_at x0 x1 q k hq hk h n r j
  unfold val_main_v83
  generalize val_main_v82_0 (F := Ideal) x0 x1 = X at h82 ⊢
  pointwise [val_main_cst_17]
  simp only [h82, Slopes.bot]
  rfl

include hq hk in
/-- A weight before its row is normalised. -/
theorem v92_at (h : Fin 4) (n : Fin 128) (r : Fin 64) (j : Fin 192) :
    (val_main_v92 (F := Ideal) x0 x1 (ix5 0 h n r j) : EReal) = Ideal.exp (SoftRow.msk (C n r) (S q k h n r) j - SoftRow.top (C n r) (S q k h n r)) := by
  have h82 := v82_at x0 x1 q k hq hk h n r j
  have h83 := v83_at x0 x1 q k hq hk h n r
  pointwise [val_main_v92, val_main_v91, val_main_v90, val_main_v89]
  rw [h82, h83]

include hq hk in
/-- A row's denominator. -/
theorem v94_at (h : Fin 4) (n : Fin 128) (r : Fin 64) :
    (val_main_v94 (F := Ideal) x0 x1 (ix5 0 h n r 0) : EReal) = ∑ j, Ideal.exp (SoftRow.msk (C n r) (S q k h n r) j - SoftRow.top (C n r) (S q k h n r)) := by
  have h92 := fun j => v92_at x0 x1 q k hq hk h n r j
  unfold val_main_v94 val_main_v93
  generalize val_main_v92 (F := Ideal) x0 x1 = X at h92 ⊢
  pointwise [val_main_cst_19]
  simp only [h92]

include hq hk in
/-- The entries that attain a row's largest score. -/
theorem v87_at (h : Fin 4) (n : Fin 128) (r : Fin 64) (j : Fin 192) :
    (val_main_v87 (F := Ideal) x0 x1 (ix5 0 h n r j) : EReal) = if SoftRow.msk (C n r) (S q k h n r) j = SoftRow.top (C n r) (S q k h n r) then 1 else 0 := by
  have h82 := v82_at x0 x1 q k hq hk h n r j
  have h83 := v83_at x0 x1 q k hq hk h n r
  pointwise [val_main_v87, val_main_v86, val_main_v85, val_main_v84]
  rw [h82, h83]
  split
  · rename_i e; rw [decide_eq_true e]; exact RDq0.one
  · rename_i e; rw [decide_eq_false e]; exact RDq0.zero

include hq hk in
theorem v88_at (h : Fin 4) (n : Fin 128) (r : Fin 64) :
    (val_main_v88 (F := Ideal) x0 x1 (ix4 0 h n r) : EReal) = ∑ j, if SoftRow.msk (C n r) (S q k h n r) j = SoftRow.top (C n r) (S q k h n r) then 1 else 0 := by
  have h87 := fun j => v87_at x0 x1 q k hq hk h n r j
  unfold val_main_v88
  generalize val_main_v87 (F := Ideal) x0 x1 = X at h87 ⊢
  pointwise [val_main_cst_18]
  simp only [h87]

include hq hk hv in
/-- A row's weights against the values. -/
theorem v95_at (h : Fin 4) (n : Fin 128) (r b : Fin 64) :
    (val_main_v95 (F := Ideal) x0 x1 x2 (ix5 0 h n r b) : EReal)
      = ∑ j : Fin 192, Ideal.exp (SoftRow.msk (C n r) (S q k h n r) j - SoftRow.top (C n r) (S q k h n r))
        * ((if 64 ≤ n.val * 64 + j.val ∧ n.val * 64 + j.val < 8192 + 64 then v h (n.val * 64 + j.val - 64) b else 0 : ℝ) : EReal) := by
  have h92 := fun j => v92_at x0 x1 q k hq hk h n r j
  have h29 := fun j => v29_at x2 v hv h n j b
  unfold val_main_v95
  generalize val_main_v92 (F := Ideal) x0 x1 = X at h92 ⊢
  generalize val_main_v29 (F := Ideal) x2 = Y at h29 ⊢
  pointwise
  simp only [h92, h29]

include hg in
theorem v115_at (h : Fin 4) (n : Fin 128) (r a : Fin 64) :
    (val_main_v115 (F := Ideal) x3 (ix5 0 h n r a) : EReal) = (g h (n.val * 64 + r.val) a : EReal) := by
  pointwise [val_main_v115, val_main_v114, val_main_v113]
  rw [hg]

include hd in
theorem v116_at (h : Fin 4) (n : Fin 128) (r : Fin 64) :
    (val_main_v116 (F := Ideal) x4 (ix5 0 h n r 0) : EReal) = (d h (n.val * 64 + r.val) : EReal) := by
  pointwise [val_main_v116, val_main_v112, val_main_v111, val_main_v110]
  rw [hd]

/-- The windows' values. -/
abbrev vw (h : Fin 4) (n : ℕ) (j : Fin 192) (b : Fin 64) : ℝ := if 64 ≤ n * 64 + j.val ∧ n * 64 + j.val < 8192 + 64 then v h (n * 64 + j.val - 64) b else 0

/-- The cotangent of a score. -/
abbrev T (h : Fin 4) (n r : ℕ) (j : Fin 192) : ℝ := SoftRow.prob (C n r) (S q k h n r) j
  * (∑ b, g h (n * 64 + r) b * vw v h n j b + SoftRow.corr (C n r) (S q k h n r) (vw v h n) (g h (n * 64 + r)) (d h (n * 64 + r)))

include hq hk hv hg hd in
theorem v124_at (h : Fin 4) (n : Fin 128) (r : Fin 64) :
    (val_main_v124 (F := Ideal) x0 x1 x2 x3 x4 (ix5 0 h n r 0) : EReal)
      = Ideal.div (d h (n.val * 64 + r.val) : EReal) (∑ j, Ideal.exp (SoftRow.msk (C n r) (S q k h n r) j - SoftRow.top (C n r) (S q k h n r)))
        + -(∑ b, (g h (n.val * 64 + r.val) b : EReal) * Ideal.div 1 ((∑ j, Ideal.exp (SoftRow.msk (C n r) (S q k h n r) j - SoftRow.top (C n r) (S q k h n r)))
              * (∑ j, Ideal.exp (SoftRow.msk (C n r) (S q k h n r) j - SoftRow.top (C n r) (S q k h n r))))
            * ∑ j, Ideal.exp (SoftRow.msk (C n r) (S q k h n r) j - SoftRow.top (C n r) (S q k h n r)) * (vw v h n j b : EReal)) := by
  have h94 := v94_at x0 x1 q k hq hk h n r
  have h95 := fun b => v95_at x0 x1 x2 q k v hq hk hv h n r b
  have h115 := fun b => v115_at x3 g hg h n r b
  have h116 := v116_at x4 d hd h n r
  unfold val_main_v124 val_main_v123 val_main_v122 val_main_v121 val_main_v120 val_main_v119 val_main_v118 val_main_v117 val_main_v100 val_main_v99 val_main_v98
  generalize val_main_v94 (F := Ideal) x0 x1 = X1 at h94 ⊢
  generalize val_main_v95 (F := Ideal) x0 x1 x2 = X2 at h95 ⊢
  generalize val_main_v115 (F := Ideal) x3 = X4 at h115 ⊢
  generalize val_main_v116 (F := Ideal) x4 = X5 at h116 ⊢
  pointwise [val_main_cst_20, val_main_cst_21]
  simp only [h94, h95, h115, h116]

include hq hk hv hg hd in
/-- The cotangent of a score before the largest score's share. -/
theorem v134_at (h : Fin 4) (n : Fin 128) (r : Fin 64) (j : Fin 192) :
    (val_main_v134 (F := Ideal) x0 x1 x2 x3 x4 (ix5 0 h n r j) : EReal) = (T q k v g d h n r j : EReal) := by
  have h92 := v92_at x0 x1 q k hq hk h n r j
  have h94 := v94_at x0 x1 q k hq hk h n r
  have h29 := fun b => v29_at x2 v hv h n j b
  have h115 := fun b => v115_at x3 g hg h n r b
  have h124 := v124_at x0 x1 x2 x3 x4 q k v g d hq hk hv hg hd h n r
  unfold val_main_v134 val_main_v133 val_main_v132 val_main_v131 val_main_v130 val_main_v129 val_main_v126 val_main_v125
  generalize val_main_v92 (F := Ideal) x0 x1 = X at h92 ⊢
  generalize val_main_v94 (F := Ideal) x0 x1 = X1 at h94 ⊢
  generalize val_main_v29 (F := Ideal) x2 = X3 at h29 ⊢
  generalize val_main_v115 (F := Ideal) x3 = X4 at h115 ⊢
  generalize val_main_v124 (F := Ideal) x0 x1 x2 x3 x4 = X5 at h124 ⊢
  pointwise [val_main_cst_22]
  simp only [RDq0.unit_sum, h92, h94, h29, h115, h124, zero_add]
  exact SoftRow.dscore_eq _ _ (Band.some_in 8192 _ _ (by omega) (by omega) (by omega)) (vw v h n) (g h (n.val * 64 + r.val)) (d h (n.val * 64 + r.val)) j

include hq hk hv hg hd in
/-- The largest score's share is zero. -/
theorem v141_at (h : Fin 4) (n : Fin 128) (r : Fin 64) :
    (val_main_v141 (F := Ideal) x0 x1 x2 x3 x4 (ix4 0 h n r) : EReal) = 0 := by
  have h134 := fun j => v134_at x0 x1 x2 x3 x4 q k v g d hq hk hv hg hd h n r j
  have h88 := v88_at x0 x1 q k hq hk h n r
  have h116 := v116_at x4 d hd h n r
  unfold val_main_v141 val_main_v140 val_main_v139 val_main_v138 val_main_v137 val_main_v136 val_main_v135
  generalize val_main_v134 (F := Ideal) x0 x1 x2 x3 x4 = X at h134 ⊢
  generalize val_main_v88 (F := Ideal) x0 x1 = X1 at h88 ⊢
  generalize val_main_v116 (F := Ideal) x4 = X5 at h116 ⊢
  pointwise [val_main_cst_23, val_main_cst_24]
  have e : ∀ (X : S1x4x128x64x1.Idx → EReal) (z : EReal), _ := fun X z => RDq0.unit_sum X z h n r
  simp only [e, zero_add]
  pointwise
  simp only [h134, h88, h116]
  exact SoftRow.dtop_eq _ _ (Band.some_in 8192 _ _ (by omega) (by omega) (by omega)) _ _
    (SoftRow.sum_dscore _ _ (Band.some_in 8192 _ _ (by omega) (by omega) (by omega)) (vw v h n) (g h (n.val * 64 + r.val)) (d h (n.val * 64 + r.val))) _ (fun _ => rfl)

include hq hk hv hg hd in
/-- The cotangent of a score, which is zero off the band. -/
theorem v147_at (h : Fin 4) (n : Fin 128) (r : Fin 64) (j : Fin 192) :
    (val_main_v147 (F := Ideal) x0 x1 x2 x3 x4 (ix5 0 h n r j) : EReal) = ((T q k v g d h n r j * (1 / 8) : ℝ) : EReal) := by
  have h134 := v134_at x0 x1 x2 x3 x4 q k v g d hq hk hv hg hd h n r j
  have h141 := v141_at x0 x1 x2 x3 x4 q k v g d hq hk hv hg hd h n r
  have h67 := v67_at n r j
  unfold val_main_v147 val_main_v146 val_main_v145 val_main_v144 val_main_v143 val_main_v142 val_main_call1_v0 val_main_v82_1
  generalize val_main_v134 (F := Ideal) x0 x1 x2 x3 x4 = X at h134 ⊢
  generalize val_main_v141 (F := Ideal) x0 x1 x2 x3 x4 = X1 at h141 ⊢
  generalize val_main_v87 (F := Ideal) x0 x1 = X2
  generalize val_main_v67 (F := Ideal) = X3 at h67 ⊢
  pointwise [val_main_call1_cst, val_main_cst_25]
  rw [h67, Words.select_bool, h134, h141, zero_mul, add_zero, Slopes.eighth]
  by_cases hw : C n r j
  · rw [if_pos (decide_eq_true hw), ← EReal.coe_mul]
  · rw [if_neg (fun h => hw (of_decide_eq_true h))]
    first | rw [zero_mul] | skip
    have : SoftRow.prob (C n r) (S q k h n r) j = 0 := by
      unfold SoftRow.prob SoftRow.wgt
      rw [if_neg hw, zero_div]
    rw [T, this, zero_mul, zero_mul, EReal.coe_zero]

include hq hk hg in
/-- A query's share of a value's gradient. -/
theorem v128_at (h : Fin 4) (n : Fin 128) (j : Fin 192) (b : Fin 64) :
    (val_main_v128 (F := Ideal) x0 x1 x3 (ix5 0 h n j b) : EReal)
      = ((∑ r : Fin 64, SoftRow.prob (C n r) (S q k h n r) j * g h (n.val * 64 + r.val) b : ℝ) : EReal) := by
  have h92 := fun r => v92_at x0 x1 q k hq hk h n r j
  have h94 := fun r => v94_at x0 x1 q k hq hk h n r
  have h115 := fun r => v115_at x3 g hg h n r b
  unfold val_main_v128 val_main_v127 val_main_v126 val_main_v125
  generalize val_main_v92 (F := Ideal) x0 x1 = X at h92 ⊢
  generalize val_main_v94 (F := Ideal) x0 x1 = X1 at h94 ⊢
  generalize val_main_v115 (F := Ideal) x3 = X2 at h115 ⊢
  pointwise
  simp only [h92, h94, h115]
  rw [SoftRow.coe_sum]
  exact Finset.sum_congr rfl fun r _ => share_eq _ _ (Band.some_in 8192 _ _ (by omega) (by omega) (by omega)) _ j

include hq hk hv hg hd in
/-- A query's share of a key's gradient. -/
theorem v148_at (h : Fin 4) (n : Fin 128) (j : Fin 192) (a : Fin 64) :
    (val_main_v148 (F := Ideal) x0 x1 x2 x3 x4 (ix5 0 h n j a) : EReal)
      = ((∑ r : Fin 64, T q k v g d h n r j * (1 / 8) * q h (n.val * 64 + r.val) a : ℝ) : EReal) := by
  have h147 := fun r => v147_at x0 x1 x2 x3 x4 q k v g d hq hk hv hg hd h n r j
  have h7 := fun r => v7_at x0 q hq h n r a
  unfold val_main_v148
  generalize val_main_v147 (F := Ideal) x0 x1 x2 x3 x4 = X at h147 ⊢
  generalize val_main_v7 (F := Ideal) x0 = X1 at h7 ⊢
  pointwise
  simp only [h147, h7, ← EReal.coe_mul, ← SoftRow.coe_sum]

end Reals
end Cert.Proof.RDkv0
end
-- ==== Proof.Ov.lean ====
module
public import proofs.«01_k».proof.Proof.Gen.AttnDkv0RefIdeal.Read
public import proofs.«01_k».proof.Proof.Band
public import proofs.«01_k».proof.Proof.Slopes
public import Idealize.ShloMosaic.Lib.Pipeline.ValueKit
@[expose] public section
set_option maxRecDepth 16384
noncomputable section
/-! The windows' shares of a gradient, added where they overlap. -/
namespace Cert.Proof.Ov
open Idealize.ShloMosaic Idealize.ShloMosaic.TcCoe Idealize.SL.Sem
open Cert.AttnDkv0RefIdeal Cert.AttnDkv0RefIdeal.Read
/-- The windows' shares added where they overlap: a position is the last third of the window before, the middle third of its own, the
first third of the next. -/
theorem overlap (X : S1x4x128x192x64.Idx → EReal) (Y : Fin 4 → ℕ → ℕ → Fin 64 → ℝ) (hX : ∀ h (n : Fin 128) (j : Fin 192) b, X (ix5 0 h n j b) = (Y h n.val j.val b : EReal))
    (Z : S_.Idx → EReal) (hZ : ∀ i, Z i = 0) (h : Fin 4) (t : Fin 8192) (b : Fin 64) :
    shapeCast S8192x4x64 (transpose S8192x1x4x64 [2, 0, 1, 3] (extractStridedSlice S1x4x8192x64 ![0, 0, 64, 0] (shapeCast S1x4x8320x64
      (addf (F := Ideal) (φ := .f32) (addf (F := Ideal) (φ := .f32)
        (pad S1x4x130x64x64 ![0, 0, 2, 0, 0] ![0, 0, 0, 0, 0] ![0, 0, 0, 0, 0] (extractStridedSlice S1x4x128x64x64 ![0, 0, 0, 128, 0] X Gen.slices_S1x4x128x192x64_S1x4x128x64x64_0_0_0_128_0) Z Gen.pads_S1x4x128x64x64_S1x4x130x64x64_000_000_200_000_000 Gen.h_S_)
        (pad S1x4x130x64x64 ![0, 0, 1, 0, 0] ![0, 0, 1, 0, 0] ![0, 0, 0, 0, 0] (extractStridedSlice S1x4x128x64x64 ![0, 0, 0, 64, 0] X Gen.slices_S1x4x128x192x64_S1x4x128x64x64_0_0_0_64_0) Z Gen.pads_S1x4x128x64x64_S1x4x130x64x64_000_000_110_000_000 Gen.h_S_))
        (pad S1x4x130x64x64 ![0, 0, 0, 0, 0] ![0, 0, 2, 0, 0] ![0, 0, 0, 0, 0] (extractStridedSlice S1x4x128x64x64 ![0, 0, 0, 0, 0] X Gen.slices_S1x4x128x192x64_S1x4x128x64x64_0_0_0_0_0) Z Gen.pads_S1x4x128x64x64_S1x4x130x64x64_000_000_020_000_000 Gen.h_S_))
      Gen.shapeCasts_S1x4x130x64x64_S1x4x8320x64) Gen.slices_S1x4x8320x64_S1x4x8192x64_0_0_64_0) Gen.transposes_S1x4x8192x64_S8192x1x4x64_2_0_1_3) Gen.shapeCasts_S8192x1x4x64_S8192x4x64 (ix3 t h b)
      = (((if 1 ≤ t.val / 64 then Y h (t.val / 64 - 1) (128 + t.val % 64) b else 0) + Y h (t.val / 64) (64 + t.val % 64) b
        + (if t.val / 64 < 127 then Y h (t.val / 64 + 1) (t.val % 64) b else 0) : ℝ) : EReal) := by
  pointwise
  simp only [hX, hZ]
  have e1 : (64 + t.val) / 64 = t.val / 64 + 1 := by omega
  have e2 : (64 + t.val) % 64 = t.val % 64 := by omega
  have e3 : t.val / 64 + 1 - 2 = t.val / 64 - 1 := by omega
  have e4 : t.val / 64 + 1 - 1 = t.val / 64 := by omega
  have e5 : t.val % 64 < 64 := by omega
  have e6 : t.val / 64 < 128 := by omega
  simp only [e1, e2, e3, e4]
  rw [dif_pos (c := (1 ≤ t.val / 64 + 1 ∧ t.val / 64 < 128) ∧ t.val % 64 < 64) (by omega), EReal.coe_add, EReal.coe_add]
  congr 1
  · congr 1
    by_cases h1 : 1 ≤ t.val / 64
    · rw [dif_pos (by omega), if_pos h1]
    · rw [dif_neg (by omega), if_neg h1, EReal.coe_zero]
  · by_cases h1 : t.val / 64 < 127
    · rw [dif_pos (by omega), if_pos h1]
    · rw [dif_neg (by omega), if_neg h1, EReal.coe_zero]

end Cert.Proof.Ov
end
-- ==== Proof.FDkv0.lean ====
module
public import proofs.«01_k».proof.Proof.Gen.AttnDkv0RefIdeal.Read
public import proofs.«01_k».proof.Proof.Band
public import proofs.«01_k».proof.Proof.Slopes
public import proofs.«01_k».proof.Proof.RDkv0
public import proofs.«01_k».proof.Proof.Ov
public import proofs.«01_k».proof.Proof.Pairs
public import Idealize.ShloMosaic.Lib.Pipeline.ValueKit
@[expose] public section
set_option maxRecDepth 16384
noncomputable section
/-! The array that the reference of the gradient of the keys and values returns. -/
namespace Cert.Proof.RDkv0
open Idealize.ShloMosaic Idealize.ShloMosaic.TcCoe Idealize.SL.Sem
open Cert.AttnDkv0RefIdeal Cert.AttnDkv0RefIdeal.Read
variable (x0 x1 x2 x3 : (⟨S8192x4x64, .f32⟩ : BufTy).Contents (Elt Ideal)) (x4 : (⟨S8192x4, .f32⟩ : BufTy).Contents (Elt Ideal))
  (x5 : (⟨S8192x9728, .bf16⟩ : BufTy).Contents (Elt Ideal))

section Cat
variable {a0 : S8192x7168.Idx → EReal} {a1 : S8192x128.Idx → EReal} {a2 : S8192x128.Idx → EReal} {a3 : S8192x128.Idx → EReal} {a4 : S8192x128.Idx → EReal} {a5 : S8192x2048.Idx → EReal}

/-- The six pieces of the joined array, each at its own columns. -/
theorem cat0 (t : Fin 8192) (l : Fin 9728) (h : l.val < 7168) :
    concatenate S8192x9728 1 [⟨S8192x7168, a0⟩, ⟨S8192x128, a1⟩, ⟨S8192x128, a2⟩, ⟨S8192x128, a3⟩, ⟨S8192x128, a4⟩, ⟨S8192x2048, a5⟩] Gen.concatenates_S8192x7168_S8192x128_S8192x128_S8192x128_S8192x128_S8192x2048_S8192x9728_d1 (ix2 t l) = a0 (ix2 t ⟨l.val, h⟩) := by
  pointwise
  repeat first | rw [dif_neg (by omega)] | rw [dif_pos (by omega)]
  try exact congrArg (fun x => a0 (ix2 t x)) (Fin.ext (by dsimp only <;> omega))

theorem cat1 (t : Fin 8192) (l : Fin 9728) (h : 7168 ≤ l.val ∧ l.val < 7296) :
    concatenate S8192x9728 1 [⟨S8192x7168, a0⟩, ⟨S8192x128, a1⟩, ⟨S8192x128, a2⟩, ⟨S8192x128, a3⟩, ⟨S8192x128, a4⟩, ⟨S8192x2048, a5⟩] Gen.concatenates_S8192x7168_S8192x128_S8192x128_S8192x128_S8192x128_S8192x2048_S8192x9728_d1 (ix2 t l) = a1 (ix2 t ⟨l.val - 7168, by omega⟩) := by
  pointwise
  repeat first | rw [dif_neg (by omega)] | rw [dif_pos (by omega)]
  try exact congrArg (fun x => a1 (ix2 t x)) (Fin.ext (by dsimp only <;> omega))

theorem cat2 (t : Fin 8192) (l : Fin 9728) (h : 7296 ≤ l.val ∧ l.val < 7424) :
    concatenate S8192x9728 1 [⟨S8192x7168, a0⟩, ⟨S8192x128, a1⟩, ⟨S8192x128, a2⟩, ⟨S8192x128, a3⟩, ⟨S8192x128, a4⟩, ⟨S8192x2048, a5⟩] Gen.concatenates_S8192x7168_S8192x128_S8192x128_S8192x128_S8192x128_S8192x2048_S8192x9728_d1 (ix2 t l) = a2 (ix2 t ⟨l.val - 7296, by omega⟩) := by
  pointwise
  repeat first | rw [dif_neg (by omega)] | rw [dif_pos (by omega)]
  try exact congrArg (fun x => a2 (ix2 t x)) (Fin.ext (by dsimp only <;> omega))

theorem cat3 (t : Fin 8192) (l : Fin 9728) (h : 7424 ≤ l.val ∧ l.val < 7552) :
    concatenate S8192x9728 1 [⟨S8192x7168, a0⟩, ⟨S8192x128, a1⟩, ⟨S8192x128, a2⟩, ⟨S8192x128, a3⟩, ⟨S8192x128, a4⟩, ⟨S8192x2048, a5⟩] Gen.concatenates_S8192x7168_S8192x128_S8192x128_S8192x128_S8192x128_S8192x2048_S8192x9728_d1 (ix2 t l) = a3 (ix2 t ⟨l.val - 7424, by omega⟩) := by
  pointwise
  repeat first | rw [dif_neg (by omega)] | rw [dif_pos (by omega)]
  try exact congrArg (fun x => a3 (ix2 t x)) (Fin.ext (by dsimp only <;> omega))

theorem cat4 (t : Fin 8192) (l : Fin 9728) (h : 7552 ≤ l.val ∧ l.val < 7680) :
    concatenate S8192x9728 1 [⟨S8192x7168, a0⟩, ⟨S8192x128, a1⟩, ⟨S8192x128, a2⟩, ⟨S8192x128, a3⟩, ⟨S8192x128, a4⟩, ⟨S8192x2048, a5⟩] Gen.concatenates_S8192x7168_S8192x128_S8192x128_S8192x128_S8192x128_S8192x2048_S8192x9728_d1 (ix2 t l) = a4 (ix2 t ⟨l.val - 7552, by omega⟩) := by
  pointwise
  repeat first | rw [dif_neg (by omega)] | rw [dif_pos (by omega)]
  try exact congrArg (fun x => a4 (ix2 t x)) (Fin.ext (by dsimp only <;> omega))

theorem cat5 (t : Fin 8192) (l : Fin 9728) (h : 7680 ≤ l.val) :
    concatenate S8192x9728 1 [⟨S8192x7168, a0⟩, ⟨S8192x128, a1⟩, ⟨S8192x128, a2⟩, ⟨S8192x128, a3⟩, ⟨S8192x128, a4⟩, ⟨S8192x2048, a5⟩] Gen.concatenates_S8192x7168_S8192x128_S8192x128_S8192x128_S8192x128_S8192x2048_S8192x9728_d1 (ix2 t l) = a5 (ix2 t ⟨l.val - 7680, by omega⟩) := by
  pointwise
  repeat first | rw [dif_neg (by omega)] | rw [dif_pos (by omega)]
  try exact congrArg (fun x => a5 (ix2 t x)) (Fin.ext (by dsimp only <;> omega))

end Cat

section Reals
variable (q k v g : Fin 4 → ℕ → Fin 64 → ℝ) (d : Fin 4 → ℕ → ℝ)
  (hq : ∀ t h a, (x0 (ix3 t h a) : EReal) = (q h t.val a : EReal))
  (hk : ∀ t h a, (x1 (ix3 t h a) : EReal) = (k h t.val a : EReal))
  (hv : ∀ t h a, (x2 (ix3 t h a) : EReal) = (v h t.val a : EReal))
  (hg : ∀ t h a, (x3 (ix3 t h a) : EReal) = (g h t.val a : EReal))
  (hd : ∀ t h, (x4 (ix2 t h) : EReal) = (d h t.val : EReal))

theorem T_eq (h : Fin 4) (n : Fin 128) (r : Fin 64) (j : Fin 192) : T q k v g d h n r j = if C n r j then
    Band.ds 8192 (Slopes.sl0 h) (q h) (k h) (v h) (g h) (d h) (n.val * 64 + r.val) (n.val * 64 + j.val - 64) else 0 := by
  unfold T
  rw [Band.prob_eq 8192 (Slopes.sl0 h) (q h) (k h) (n.val * 64) (n.val * 64 + r.val) (by omega) (by omega),
    Band.corr_eq 8192 (Slopes.sl0 h) (q h) (k h) (v h) (g h) (d h) (n.val * 64) (n.val * 64 + r.val) (by omega) (by omega) _ (fun j b hw => if_pos ⟨hw.1, hw.2.1⟩)]
  split
  · rename_i hw
    unfold Band.ds
    congr 2
    exact Finset.sum_congr rfl fun b _ => congrArg (g h _ b * ·) (if_pos ⟨hw.1, hw.2.1⟩)
  · rw [zero_mul]

include hq hk hg in
/-- The values' gradient. -/
theorem v162_at (t : Fin 8192) (h : Fin 4) (b : Fin 64) :
    (val_main_v162 (F := Ideal) x0 x1 x3 (ix3 t h b) : EReal) = (Band.dv 8192 (Slopes.sl0 h) (q h) (k h) (g h) t.val b : EReal) := by
  have h128 := v128_at x0 x1 x3 q k g hq hk hg
  have e : ∀ (h : Fin 4) (n : Fin 128) (j : Fin 192) (b : Fin 64), ∑ r : Fin 64, SoftRow.prob (C n r) (S q k h n r) j * g h (n.val * 64 + r.val) b
      = Pairs.share (fun t s => Band.pr 8192 (Slopes.sl0 h) (q h) (k h) t s * g h t b) n.val j.val := by
    intro h n j b
    unfold Pairs.share
    refine Finset.sum_congr rfl fun r _ => ?_
    rw [Band.prob_eq 8192 (Slopes.sl0 h) (q h) (k h) (n.val * 64) (n.val * 64 + r.val) (by omega) (by omega)]
    by_cases hw : C n r j
    · rw [if_pos hw, if_pos ⟨hw.1, hw.2.1⟩]
    · rw [if_neg hw, zero_mul]
      split
      · beta_reduce
        rw [Band.pr_far (t := n.val * 64 + r.val) (s := n.val * 64 + j.val - 64) _ _ _ _ (by unfold Band.near; omega), zero_mul]
      · rfl
  simp only [e] at h128
  unfold val_main_v162 val_main_v161 val_main_v159 val_main_v157 val_main_v156 val_main_v155 val_main_v154 val_main_v153 val_main_v152 val_main_v151 val_main_v150 val_main_v149
  generalize val_main_v128 (F := Ideal) x0 x1 x3 = X at h128 ⊢
  refine (Ov.overlap X (fun h n j b => Pairs.share (fun t s => Band.pr 8192 (Slopes.sl0 h) (q h) (k h) t s * g h t b) n j) h128 (val_main_cst_26 (F := Ideal)) (fun _ => Ideal.ofBits_zero FTy.f32) h t b).trans ?_
  rw [Pairs.thirds (fun t s => Band.pr 8192 (Slopes.sl0 h) (q h) (k h) t s * g h t b) t.val t.isLt fun t h' => by rw [Band.pr_far _ _ _ _ h', zero_mul]]
  rfl

include hq hk hv hg hd in
/-- The keys' gradient. -/
theorem v176_at (t : Fin 8192) (h : Fin 4) (b : Fin 64) :
    (val_main_v176 (F := Ideal) x0 x1 x2 x3 x4 (ix3 t h b) : EReal) = (Band.dk 8192 (Slopes.sl0 h) (q h) (k h) (v h) (g h) (d h) t.val b : EReal) := by
  have h148 := v148_at x0 x1 x2 x3 x4 q k v g d hq hk hv hg hd
  have e : ∀ (h : Fin 4) (n : Fin 128) (j : Fin 192) (b : Fin 64), ∑ r : Fin 64, T q k v g d h n r j * (1 / 8) * q h (n.val * 64 + r.val) b
      = Pairs.share (fun t s => Band.ds 8192 (Slopes.sl0 h) (q h) (k h) (v h) (g h) (d h) t s * q h t b * (1 / 8)) n.val j.val := by
    intro h n j b
    unfold Pairs.share
    refine Finset.sum_congr rfl fun r _ => ?_
    rw [T_eq]
    by_cases hw : C n r j
    · rw [if_pos hw, if_pos ⟨hw.1, hw.2.1⟩]; ring
    · rw [if_neg hw, zero_mul, zero_mul]
      split
      · beta_reduce
        rw [Band.ds_far (t := n.val * 64 + r.val) (s := n.val * 64 + j.val - 64) _ _ _ _ _ _ _ (by unfold Band.near; omega), zero_mul, zero_mul]
      · rfl
  simp only [e] at h148
  unfold val_main_v176 val_main_v175 val_main_v173 val_main_v171 val_main_v170 val_main_v169 val_main_v168 val_main_v167 val_main_v166 val_main_v165 val_main_v164 val_main_v163
  generalize val_main_v148 (F := Ideal) x0 x1 x2 x3 x4 = X at h148 ⊢
  refine (Ov.overlap X (fun h n j b => Pairs.share (fun t s => Band.ds 8192 (Slopes.sl0 h) (q h) (k h) (v h) (g h) (d h) t s * q h t b * (1 / 8)) n j) h148 (val_main_cst_29 (F := Ideal)) (fun _ => Ideal.ofBits_zero FTy.f32) h t b).trans ?_
  rw [Pairs.thirds (fun t s => Band.ds 8192 (Slopes.sl0 h) (q h) (k h) (v h) (g h) (d h) t s * q h t b * (1 / 8)) t.val t.isLt
    fun t h' => by rw [Band.ds_far _ _ _ _ _ _ _ h', zero_mul, zero_mul], ← Finset.sum_mul]
  rfl

include hq hk hv hg hd in
theorem v178_at (t : Fin 8192) (l : Fin 256) (w : Fin 512) (hw : w.val = l.val / 128 * 256 + l.val % 128) :
    (val_main_v178 (F := Ideal) x0 x1 x2 x3 x4 (ix2 t l) : EReal) = (Pairs.kv q k v g d w t.val : EReal) := by
  have h176 := v176_at x0 x1 x2 x3 x4 q k v g d hq hk hv hg hd t (Pairs.hd w) (Pairs.ln w)
  unfold val_main_v178 val_main_v177
  generalize val_main_v176 (F := Ideal) x0 x1 x2 x3 x4 = X at h176 ⊢
  rw [Pairs.kv, if_pos (by omega), ← h176]
  pointwise
  exact congrArg X (by rw [show (⟨l.val / 64, by omega⟩ : Fin 4) = Pairs.hd w from Fin.ext (by dsimp only <;> omega),
    show (⟨l.val % 64, by omega⟩ : Fin 64) = Pairs.ln w from Fin.ext (by dsimp only <;> omega)])

include hq hk hg in
theorem v180_at (t : Fin 8192) (l : Fin 256) (w : Fin 512) (hw : w.val = l.val / 128 * 256 + 128 + l.val % 128) :
    (val_main_v180 (F := Ideal) x0 x1 x3 (ix2 t l) : EReal) = (Pairs.kv q k v g d w t.val : EReal) := by
  have h162 := v162_at x0 x1 x3 q k g hq hk hg t (Pairs.hd w) (Pairs.ln w)
  unfold val_main_v180 val_main_v179
  generalize val_main_v162 (F := Ideal) x0 x1 x3 = X at h162 ⊢
  rw [Pairs.kv, if_neg (by omega), ← h162]
  pointwise
  exact congrArg X (by rw [show (⟨l.val / 64, by omega⟩ : Fin 4) = Pairs.hd w from Fin.ext (by dsimp only <;> omega),
    show (⟨l.val % 64, by omega⟩ : Fin 64) = Pairs.ln w from Fin.ext (by dsimp only <;> omega)])

include hq hk hv hg hd in
/-- The reference's array: the gradient at the group's columns, what it was elsewhere. -/
theorem final (t : Fin 8192) (l : Fin 9728) :
    (val_main_v187 (F := Ideal) x0 x1 x2 x3 x4 x5 (ix2 t l) : EReal)
      = if h : 7168 ≤ l.val ∧ l.val < 7680 then (Pairs.kv q k v g d ⟨l.val - 7168, by omega⟩ t.val : EReal) else (x5 (ix2 t l) : EReal) := by
  have hK := v178_at x0 x1 x2 x3 x4 q k v g d hq hk hv hg hd t
  have hV := v180_at x0 x1 x3 q k v g d hq hk hg t
  unfold val_main_v187
  by_cases h0 : l.val < 7168
  · rw [dif_neg (by omega)]
    refine (cat0 t l h0).trans ?_
    unfold val_main_v181
    pointwise
  by_cases h1 : l.val < 7296
  · rw [dif_pos (by omega)]
    refine (cat1 t l (by omega)).trans (Eq.trans ?_ (hK ⟨l.val - 7168, by omega⟩ _ (by dsimp only <;> omega)))
    unfold val_main_v182
    pointwise
  by_cases h2 : l.val < 7424
  · rw [dif_pos (by omega)]
    refine (cat2 t l (by omega)).trans (Eq.trans ?_ (hV ⟨l.val - 7296, by omega⟩ _ (by dsimp only <;> omega)))
    unfold val_main_v183
    pointwise
  by_cases h3 : l.val < 7552
  · rw [dif_pos (by omega)]
    refine (cat3 t l (by omega)).trans (Eq.trans ?_ (hK ⟨128 + (l.val - 7424), by omega⟩ _ (by dsimp only <;> omega)))
    unfold val_main_v184
    pointwise
  by_cases h4 : l.val < 7680
  · rw [dif_pos (by omega)]
    refine (cat4 t l (by omega)).trans (Eq.trans ?_ (hV ⟨128 + (l.val - 7552), by omega⟩ _ (by dsimp only <;> omega)))
    unfold val_main_v185
    pointwise
  · rw [dif_neg (by omega)]
    refine (cat5 t l (by omega)).trans ?_
    unfold val_main_v186
    pointwise
    exact congrArg (fun x => x5 (ix2 t x)) (Fin.ext (by dsimp only <;> omega))
end Reals
end Cert.Proof.RDkv0
end
-- ==== Proof.ADkv0.lean ====
module
public import proofs.«01_k».proof.Defs
public import proofs.«01_k».proof.Proof.PDkv0
public import proofs.«01_k».proof.Proof.FDkv0
public import proofs.«01_k».proof.Proof.Num
public import proofs.«01_k».proof.Proof.Gen.AttnDkv0.Frame
public import proofs.«01_k».proof.Proof.Gen.AttnDkv0RefIdeal.Run
public import Idealize.ShloMosaic.Adequacy
public import Idealize.ShloMosaic.Init
@[expose] public section
noncomputable section
/-! The claims about the gradient of the keys and values of the first group. -/
namespace Cert.Proof.ADkv0
open Idealize.ShloMosaic Idealize.SL.Sem

theorem frame_ref : Cert.quiescent_AttnDkv0RefIdeal :=
  fun m ρ _ => (θ_run _ _ _).mono (fun r h => ⟨fun c => (h c).2, Idealize.ShloMosaic.sem_eq_zero_of_no_sems (by decide) r.2⟩)
    (Cert.AttnDkv0RefIdeal.Value.run (F := Ideal) m ρ)

theorem preserves : Cert.preserves_AttnDkv0_AttnDkv0Ideal := IdealRules.named_const.statement _ _ _ _ _ rfl

/-- The two arrays agree where the arguments are real. -/
theorem agree (m : (ℓ : Loc Cert.AttnDkv0Ideal.nD Cert.AttnDkv0Ideal.τ Cert.AttnDkv0Ideal.sig) → Buf (Elt Ideal) ℓ) (hf : Cert.Pre_AttnDkv0Ideal_finite m) (c : Dev Cert.AttnDkv0Ideal.nD) :
    (Cert.AttnDkv0RefIdeal.Read.val_main_v187 (F := Ideal) (m (c, Proc.tc.devRef Cert.AttnDkv0Ideal.main_arg0)) (m (c, Proc.tc.devRef Cert.AttnDkv0Ideal.main_arg1))
      (m (c, Proc.tc.devRef Cert.AttnDkv0Ideal.main_arg2)) (m (c, Proc.tc.devRef Cert.AttnDkv0Ideal.main_arg3)) (m (c, Proc.tc.devRef Cert.AttnDkv0Ideal.main_arg4)) (m (c, Proc.tc.devRef Cert.AttnDkv0Ideal.main_arg5))
      : Cert.AttnDkv0Ideal.S8192x9728.Idx → EReal)
      = (Cert.AttnDkv0Ideal.Gen.dats m 0 c).arrAt 14 Cert.AttnDkv0Ideal.cfg0.N := by
  obtain ⟨h0, h1, h2, h3, h4⟩ := hf c
  have hq := Num.at3 _ h0
  have hk := Num.at3 _ h1
  have hv := Num.at3 _ h2
  have hg := Num.at3 _ h3
  have hd := Num.at2 _ h4
  refine Eq.trans ?_ (PDkv0.final m c _ _ _ _ _ hq hk hv hg hd).symm
  funext i
  obtain ⟨t, l, rfl⟩ : ∃ (t : Fin 8192) (l : Fin 9728), i = ix2 t l := ⟨_, _, eq_ix2 i⟩
  refine (RDkv0.final _ _ _ _ _ _ _ _ _ _ _ hq hk hv hg hd t l).trans ?_
  by_cases hl : 7168 ≤ l.val ∧ l.val < 7680
  · refine (dif_pos hl).trans (Eq.trans ?_ (if_pos (show 28 ≤ l.val / 256 ∧ l.val / 256 < 30 by omega)).symm)
    unfold KDkv0.G
    exact Eq.symm (dif_pos (c := 7168 ≤ ((ix2 t l : Cert.AttnDkv0Ideal.S8192x9728.Idx) 1).val ∧ ((ix2 t l : Cert.AttnDkv0Ideal.S8192x9728.Idx) 1).val < 7680) hl)
  · exact (dif_neg hl).trans (if_neg (show ¬(28 ≤ l.val / 256 ∧ l.val / 256 < 30) by omega)).symm

theorem algebraic : Cert.algebraic_AttnDkv0Ideal_AttnDkv0RefIdeal_pre_finite := by
  intro m ρ m' ρ' hf hag
  refine ⟨fun c => (Cert.AttnDkv0Ideal.Gen.dats m 0 c).arrAt 14 Cert.AttnDkv0Ideal.cfg0.N, Cert.AttnDkv0Ideal.Value.run_blocks m ρ,
    (θ_run Cert.AttnDkv0RefIdeal.defs _ _).mono (fun r h c => ⟨?_, (h c).2⟩) (Cert.AttnDkv0RefIdeal.Value.run (F := Ideal) m' ρ')⟩
  refine ((h c).1.trans (Cert.AttnDkv0RefIdeal.Read.val_main_v187_eq _)).trans ?_
  obtain ⟨e0, e1, e2, e3, e4, e5⟩ := hag c
  have e : ∀ {x0 y0 x1 y1 x2 y2 x3 y3 x4 y4 x5 y5}, x0 = y0 → x1 = y1 → x2 = y2 → x3 = y3 → x4 = y4 → x5 = y5 →
      Cert.AttnDkv0RefIdeal.Read.val_main_v187 (F := Ideal) x0 x1 x2 x3 x4 x5 = Cert.AttnDkv0RefIdeal.Read.val_main_v187 (F := Ideal) y0 y1 y2 y3 y4 y5 := by
    rintro _ _ _ _ _ _ _ _ _ _ _ _ rfl rfl rfl rfl rfl rfl; rfl
  exact (e e0 e1 e2 e3 e4 e5).trans (agree m hf c)
end Cert.Proof.ADkv0
end
-- ==== Proof.Ln.lean ====
module
public import Idealize.ShloMosaic.Lib.Pipeline.ValueKit
public import proofs.«01_k».proof.Proof.SoftRow
@[expose] public section
set_option maxRecDepth 16384
noncomputable section
/-! The gradient of a layer norm's row, over the ideal values: the hand-written form and the chain rule's form are the same real. -/
namespace Cert.Proof.Ln
open Idealize.ShloMosaic
open Cert.Proof.SoftRow (coe_sum)

/-- The row's length, the norm's shift, and the two constants of the chain rule, as the programs write them. -/
abbrev len : EReal := Ideal.ofBits .f32 0x44800000#32
abbrev eps : EReal := Ideal.ofBits .f32 0x3727C5AC#32
abbrev two : EReal := Ideal.ofBits .f32 0x40000000#32
abbrev mhalf : EReal := Ideal.ofBits .f32 0xBF000000#32

theorem len_eq : len = ((1024 : ℝ) : EReal) := by simp [Ideal.ofBits, Ideal.ieee, -EReal.coe_mul]; norm_num
theorem two_eq : two = ((2 : ℝ) : EReal) := by simp [Ideal.ofBits, Ideal.ieee, -EReal.coe_mul]; norm_num
theorem mhalf_eq : mhalf = ((-(1 / 2) : ℝ) : EReal) := by simp [Ideal.ofBits, Ideal.ieee, -EReal.coe_mul]; norm_num
theorem eps_eq : ∃ e : ℝ, 0 < e ∧ eps = (e : EReal) := by
  refine ⟨10995116 * 2 ^ (-40 : ℤ), by positivity, ?_⟩
  simp [Ideal.ofBits, Ideal.ieee, -EReal.coe_mul]

variable (X D : Fin 1024 → EReal)

/-- The mean of a row. -/
def mu : EReal := Ideal.div (∑ i, X i) len
/-- An entry less the mean. -/
def cen (i : Fin 1024) : EReal := X i - mu X
/-- The mean square of the centred row. -/
def var : EReal := Ideal.div (∑ i, cen X i * cen X i) len
/-- One over the norm's root. -/
def inv : EReal := Ideal.rsqrt (var X + eps)
/-- The normed entry. -/
def hat (i : Fin 1024) : EReal := cen X i * inv X

/-- The gradient as written by hand. -/
def hand (l : Fin 1024) : EReal :=
  inv X * (D l - Ideal.div (∑ i, D i) len - hat X l * Ideal.div (∑ i, D i * hat X i) len)

/-- The gradient through the mean square, before it meets the centred entry. -/
def coef : EReal := Ideal.div ((∑ i, cen X i * D i) * (mhalf * Ideal.div (inv X) (var X + eps))) len

/-- The gradient as the chain rule writes it. -/
def chain (l : Fin 1024) : EReal :=
  (D l * inv X + coef X D * (two * cen X l))
    + Ideal.div ((∑ i, -(D i * inv X)) + (∑ i, -(coef X D * (two * cen X i)))) len

/-- A real row's parts are real: the centred entries, which add up to zero, and the root's argument and inverse. -/
theorem row_real (x : Fin 1024 → ℝ) (hx : ∀ i, X i = (x i : EReal)) : ∃ (c : Fin 1024 → ℝ) (v r : ℝ),
    (∀ i, cen X i = (c i : EReal)) ∧ ∑ i, c i = 0 ∧ v ≠ 0 ∧ var X + eps = (v : EReal) ∧ inv X = (r : EReal) ∧ r * r = v⁻¹ := by
  obtain ⟨e, he, hee⟩ := eps_eq
  obtain rfl : X = fun i => (x i : EReal) := funext hx
  have h1024 : (1024 : ℝ) ≠ 0 := by norm_num
  have hmu : mu (fun i => (x i : EReal)) = (((∑ i, x i) / 1024 : ℝ) : EReal) := by
    rw [mu, len_eq, ← coe_sum, Ideal.div_coe h1024, ← EReal.coe_mul, mul_comm]; congr 1; ring
  have hcen : ∀ i, cen (fun i => (x i : EReal)) i = ((x i - (∑ i, x i) / 1024 : ℝ) : EReal) := fun i => by
    rw [cen, hmu, ← EReal.coe_sub]
  have hz : ∑ i, (x i - (∑ i, x i) / 1024) = 0 := by
    rw [Finset.sum_sub_distrib, Finset.sum_const, Finset.card_univ, Fintype.card_fin, nsmul_eq_mul]
    push_cast; ring
  generalize hc : (fun i => x i - (∑ i, x i) / 1024) = c at hz
  replace hcen : ∀ i, cen (fun i => (x i : EReal)) i = (c i : EReal) := fun i => by rw [hcen, ← hc]
  have hvar : var (fun i => (x i : EReal)) = (((∑ i, c i * c i) / 1024 : ℝ) : EReal) := by
    rw [var, len_eq]
    simp only [hcen, ← EReal.coe_mul, ← coe_sum]
    rw [Ideal.div_coe h1024, ← EReal.coe_mul]; congr 1; ring
  have hp : 0 < (∑ i, c i * c i) / 1024 + e :=
    add_pos_of_nonneg_of_pos (div_nonneg (Finset.sum_nonneg fun i _ => mul_self_nonneg _) (by norm_num)) he
  have hve : var (fun i => (x i : EReal)) + eps = (((∑ i, c i * c i) / 1024 + e : ℝ) : EReal) := by rw [hvar, hee, ← EReal.coe_add]
  refine ⟨c, (∑ i, c i * c i) / 1024 + e, (Real.sqrt ((∑ i, c i * c i) / 1024 + e))⁻¹, hcen, ?_, hp.ne', hve, ?_, ?_⟩
  · exact hz
  · rw [inv, hve, Ideal.rsqrt_coe, if_neg (not_lt.mpr hp.le), if_neg hp.ne']
  · rw [← mul_inv, Real.mul_self_sqrt hp.le]

/-- A real row's normed entries are real. -/
theorem hat_real (x : Fin 1024 → ℝ) (hx : ∀ i, X i = (x i : EReal)) : ∃ h : Fin 1024 → ℝ, ∀ l, hat X l = (h l : EReal) := by
  obtain ⟨c, v, r, hc, -, -, -, hr, -⟩ := row_real X x hx
  exact ⟨fun l => c l * r, fun l => by rw [hat, hc, hr, EReal.coe_mul]⟩

/-- On real rows the two gradients are the same. -/
theorem hand_eq_chain (x d : Fin 1024 → ℝ) (hx : ∀ i, X i = (x i : EReal)) (hd : ∀ i, D i = (d i : EReal)) (l : Fin 1024) :
    hand X D l = chain X D l := by
  obtain ⟨c, v, r, hcen, hz, hv, hve, hinv, hrr⟩ := row_real X x hx
  have h1024 : (1024 : ℝ) ≠ 0 := by norm_num
  have hcoef : coef X D = (((∑ i, c i * d i) * (-(1 / 2) * (r * v⁻¹)) / 1024 : ℝ) : EReal) := by
    rw [coef, hve, hinv, Ideal.div_coe hv, mhalf_eq, len_eq]
    simp only [hcen, hd, ← EReal.coe_mul, ← coe_sum]
    rw [Ideal.div_coe h1024, ← EReal.coe_mul]; congr 1; ring
  rw [hand, chain]
  simp only [hat, hcoef, hcen, hinv, hd, two_eq, len_eq, ← EReal.coe_mul, ← coe_sum, ← EReal.coe_neg, ← EReal.coe_add, ← EReal.coe_sub, Ideal.div_coe h1024]
  congr 1
  have e1 : ∑ i, -(d i * r) = -((∑ i, d i) * r) := by rw [Finset.sum_neg_distrib, Finset.sum_mul]
  have e2 : ∀ k : ℝ, ∑ i, -(k * (2 * c i)) = 0 := fun k => by
    rw [Finset.sum_neg_distrib, ← Finset.mul_sum, ← Finset.mul_sum, hz]; simp
  have e3 : ∑ i, d i * (c i * r) = (∑ i, c i * d i) * r := by
    rw [Finset.sum_mul]; exact Finset.sum_congr rfl fun i _ => by ring
  rw [e1, e2, e3, ← hrr]
  ring
end Cert.Proof.Ln
end
-- ==== Proof.RDh1.lean ====
module
public import proofs.«01_k».proof.Proof.Gen.DH1RefIdeal.Read
public import proofs.«01_k».proof.Proof.Ln
@[expose] public section
set_option maxRecDepth 16384
noncomputable section
/-! The reference of the first layer norm's gradient, read at an index. -/
namespace Cert.Proof.RDh1
open Idealize.ShloMosaic Idealize.ShloMosaic.TcCoe
open Cert.DH1RefIdeal Cert.DH1RefIdeal.Read

variable (x0 : FVec Ideal S8192x1024 .f32) (x1 : FVec Ideal S1024 .f32) (x3 : FVec Ideal S1024x4096 .f32)
  (x4 : FVec Ideal S8192x1024 .f32) (x5 : FVec Ideal S8192x4096 .f32)

/-- A row of the norm's input, the norm's cotangent, and that cotangent times the scale. -/
def X (t : Fin 8192) (i : Fin 1024) : EReal := x0 (ix2 t i)
def dh (t : Fin 8192) (i : Fin 1024) : EReal := val_main_v35 (F := Ideal) x3 x4 x5 (ix2 t i)
def D (t : Fin 8192) (i : Fin 1024) : EReal := dh x3 x4 x5 t i * x1 (ix1 i)

variable (t : Fin 8192) (z : Fin 1) (l : Fin 1024)

/-- The cotangent at an index: the channel sublayer's product and the scaled residual. -/
theorem dh_eq : dh x3 x4 x5 t l = (∑ k : Fin 4096, x5 (ix2 t k) * x3 (ix2 l k)) + Ideal.ofBits .f32 0x3F9837F0#32 * x4 (ix2 t l) := by
  unfold dh
  rw [val_main_v35_apply, val_main_v32_apply, val_main_v34_apply, val_main_v33_apply, val_main_cst_7_apply]
  pointwise
  blk_point []

theorem s3 : (val_main_v3 (F := Ideal) x0 (ix2 t z) : EReal) = Ln.mu (X x0 t) := by
  unfold Ln.mu X
  pointwise [val_main_v3, val_main_v2, val_main_v1, val_main_v0, val_main_cst_0, val_main_cst]
theorem s5 : (val_main_v5 (F := Ideal) x0 (ix2 t l) : EReal) = Ln.cen (X x0 t) l := by
  rw [Ln.cen, ← s3 x0 t 0]
  unfold X
  pointwise [val_main_v5, val_main_v4]
theorem s14 : (val_main_v14 (F := Ideal) x0 (ix2 t l) : EReal) = Ln.cen (X x0 t) l := by
  rw [Ln.cen, ← s3 x0 t 0]
  unfold X
  pointwise [val_main_v14, val_main_v13]
theorem s12 : (val_main_v12 (F := Ideal) x0 (ix2 t z) : EReal) = Ln.var (X x0 t) := by
  unfold Ln.var
  simp only [← s5]
  pointwise [val_main_v12, val_main_v11, val_main_v10, val_main_v9, val_main_v6, val_main_cst_3, val_main_cst_2]
theorem s17 : (val_main_v17 (F := Ideal) x0 (ix2 t z) : EReal) = Ln.inv (X x0 t) := by
  unfold Ln.inv
  rw [← s12 x0 t z]
  pointwise [val_main_v17, val_main_v16, val_main_v15, val_main_cst_4]
theorem s20 : (val_main_v20 (F := Ideal) x0 (ix2 t z) : EReal) = Ln.mhalf * Ideal.div (Ln.inv (X x0 t)) (Ln.var (X x0 t) + Ln.eps) := by
  rw [← s17 x0 t z, ← s12 x0 t z]
  pointwise [val_main_v20, val_main_v19, val_main_v18, val_main_v16, val_main_v15, val_main_cst_4, val_main_cst_5]
theorem s22 : (val_main_v22 (F := Ideal) x0 (ix2 t l) : EReal) = Ln.hat (X x0 t) l := by
  unfold Ln.hat
  rw [← s14, ← s17 x0 t 0]
  pointwise [val_main_v22, val_main_v21]
theorem s43 : (val_main_v43 (F := Ideal) x1 x3 x4 x5 (ix2 t l) : EReal) = D x1 x3 x4 x5 t l := by
  unfold D dh
  pointwise [val_main_v43, val_main_v42, val_main_v23]
theorem s49 : (val_main_v49 (F := Ideal) x0 x1 x3 x4 x5 (ix2 t l) : EReal) = D x1 x3 x4 x5 t l * Ln.inv (X x0 t) := by
  rw [← s43, ← s17 x0 t 0]
  pointwise [val_main_v49, val_main_v48]
theorem s55 : (val_main_v55 (F := Ideal) x0 x1 x3 x4 x5 (ix2 t z) : EReal) = Ln.coef (X x0 t) (D x1 x3 x4 x5 t) := by
  unfold Ln.coef
  rw [← s20 x0 t z]
  simp only [← s43, ← s14]
  pointwise [val_main_v55, val_main_v54, val_main_v50, val_main_v47, val_main_v46, val_main_v45, val_main_cst_12, val_main_cst_14]
theorem s58 : (val_main_v58 (F := Ideal) x0 x1 x3 x4 x5 (ix2 t l) : EReal) = Ln.coef (X x0 t) (D x1 x3 x4 x5 t) * (Ln.two * Ln.cen (X x0 t) l) := by
  rw [← s55 x0 x1 x3 x4 x5 t 0, ← s5]
  pointwise [val_main_v58, val_main_v57, val_main_v56, val_main_v8, val_main_v7, val_main_cst_1, val_main_cst_15]
  simp
theorem s65 : (val_main_v65 (F := Ideal) x0 x1 x3 x4 x5 (ix2 t z) : EReal) = Ideal.div ((∑ i, -(D x1 x3 x4 x5 t i * Ln.inv (X x0 t))) + (∑ i, -(Ln.coef (X x0 t) (D x1 x3 x4 x5 t) * (Ln.two * Ln.cen (X x0 t) i)))) Ln.len := by
  simp only [← s58, ← s49]
  pointwise [val_main_v65, val_main_v64, val_main_v63, val_main_v61, val_main_v60, val_main_v59, val_main_v53, val_main_v52, val_main_v51, val_main_cst_13, val_main_cst_16, val_main_cst_17]
/-- The gradient of the norm's input is the chain rule's form. -/
theorem s68 : (val_main_v68 (F := Ideal) x0 x1 x3 x4 x5 (ix2 t l) : EReal) = Ln.chain (X x0 t) (D x1 x3 x4 x5 t) l := by
  unfold Ln.chain
  rw [← s65 x0 x1 x3 x4 x5 t 0, ← s58, ← s49]
  pointwise [val_main_v68, val_main_v62, val_main_v67, val_main_v66, val_main_cst_18]
  simp

/-- The gradients of the scale and of the shift, a row each. -/
theorem s44 : (val_main_v44 (F := Ideal) x0 x3 x4 x5 (ix1 l) : EReal) = ∑ t, dh x3 x4 x5 t l * Ln.hat (X x0 t) l := by
  simp only [mul_comm (dh x3 x4 x5 _ l), ← s22]
  unfold dh
  pointwise [val_main_v44, val_main_v41, val_main_v40, val_main_v39, val_main_cst_11, val_main_cst_10]
  simp
theorem s38 : (val_main_v38 (F := Ideal) x3 x4 x5 (ix1 l) : EReal) = ∑ t, dh x3 x4 x5 t l := by
  unfold dh
  pointwise [val_main_v38, val_main_v37, val_main_v36, val_main_cst_9, val_main_cst_8]
  simp
end Cert.Proof.RDh1
end
-- ==== Proof.PDh1.lean ====
module
public import proofs.«01_k».proof.Proof.Gen.DH1Ideal.Value
public import proofs.«01_k».proof.Proof.RDh1
public import Idealize.ShloMosaic.Lib.Pipeline.ValueKit
@[expose] public section
set_option maxRecDepth 16384
noncomputable section
/-! The first layer norm's gradient: what the kernel leaves in its two result arrays. -/
namespace Cert.Proof.PDh1
open Idealize.ShloMosaic Idealize.ShloMosaic.TcCoe Idealize.SL.Sem
open Idealize.ShloMosaic.Pipeline (Dat)
open Cert.DH1Ideal Cert.DH1Ideal.Gen
variable (m : (ℓ : Loc nD τ sig) → Buf (Elt Ideal) ℓ)

section rows
variable (u v : FVec Ideal S512x1024 .f32) (g : FVec Ideal S1x1024 .f32) (p : Fin 512) (z : Fin 1) (l : Fin 1024)

/-- The body's centred entry, reciprocal root and normed entry are the row's. -/
theorem cen_at : (k0_pay4 (F := Ideal) v (k0_pay3 v) (ix2 p l) : EReal) = Ln.cen (fun i => v (ix2 p i)) l := by
  unfold Ln.cen Ln.mu
  pointwise [k0_pay4, k0_pay3]
theorem inv_at : (k0_pay5 (F := Ideal) v (k0_pay3 v) (ix2 p z) : EReal) = Ln.inv (fun i => v (ix2 p i)) := by
  unfold Ln.inv Ln.var
  simp only [← cen_at]
  pointwise [k0_pay5]
theorem hat_at : (k0_pay6 (F := Ideal) v (k0_pay3 v) (ix2 p l) : EReal) = Ln.hat (fun i => v (ix2 p i)) l := by
  unfold Ln.hat
  rw [← cen_at, ← inv_at v p 0]
  pointwise [k0_pay6]
/-- The body's gradient of the norm's input is the hand-written form. -/
theorem hand_at : (k0_pay7 (F := Ideal) u v (k0_pay3 v) g (ix2 p l) : EReal) = Ln.hand (fun i => v (ix2 p i)) (fun i => u (ix2 p i) * g (ix2 0 i)) l := by
  unfold Ln.hand
  simp only [← hat_at, ← inv_at v p 0]
  pointwise [k0_pay7]

/-- The body's rows: the scale's gradient, the shift's, and zeros. -/
def sums (X d : Fin 512 → Fin 1024 → EReal) (r : Fin 8) (l : Fin 1024) : EReal :=
  if r.val = 0 then ∑ p, d p l * Ln.hat (X p) l else if r.val = 1 then ∑ p, d p l else 0
theorem sums_at (r : Fin 8) : (k0_pay8 (F := Ideal) u v (k0_pay3 v) (ix2 r l) : EReal) = sums (fun p i => v (ix2 p i)) (fun p i => u (ix2 p i)) r l := by
  unfold sums
  simp only [← hat_at]
  pointwise [k0_pay8]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]
end rows

/-- The index maps of the windows, in closed form. -/
theorem idx : ∀ t : Fin cfg0.N,
    win0_0.index t = ![t.val, 0] ∧ win0_1.index t = ![0, 0, 0] ∧ win0_2.index t = ![t.val, 0] ∧ win0_3.index t = ![t.val, 0]
      ∧ win0_4.index t = ![0, 0] ∧ win0_5.index t = ![0, 0] ∧ win0_6.index t = ![t.val, 0] ∧ win0_7.index t = ![0, 0] :=
  (by decide +kernel : ∀ t : Fin grid0.N, _)

/-- The row of the array at a row of a point's block. -/
def row (t : Fin cfg0.N) (p : Fin 512) : Fin 8192 := ⟨t.val * 512 + p.val, by have := lt_of_lt_of_eq t.isLt (show cfg0.N = 16 from N_0); omega⟩

/-- The arguments' arrays. -/
abbrev A0 (c : Dev nD) := m ((c : Thread nD τ).loc main_arg0)
abbrev A1 (c : Dev nD) := m ((c : Thread nD τ).loc main_arg1)
abbrev A3 (c : Dev nD) := m ((c : Thread nD τ).loc main_arg3)
abbrev A4 (c : Dev nD) := m ((c : Thread nD τ).loc main_arg4)
abbrev A5 (c : Dev nD) := m ((c : Thread nD τ).loc main_arg5)

theorem entry_up (c : Dev nD) : V m c main_v3 = A5 m c := by
  entry_read
  funext i
  pointwise
/-- The up weight enters the call cut into four slabs of columns. -/
theorem entry_w (c : Dev nD) (s : Fin 4) (k j : Fin 1024) : (V m c main_v2 (ix3 s k j) : EReal)
    = A3 m c (ix2 k ⟨s.val * 1024 + j.val, by omega⟩) := by
  entry_read
  pointwise
theorem entry_g (c : Dev nD) (l : Fin 1024) : (V m c main_v4 (ix2 0 l) : EReal) = A1 m c (ix1 l) := by
  entry_read
  pointwise

/-- The blocks read at an index. -/
theorem pre_at (c : Dev nD) (t : Fin cfg0.N) (p : Fin 512) (l : Fin 1024) : (iblk m c 3 t (ix2 p l) : EReal) = RDh1.X (A0 m c) (row t p) l := by
  unfold RDh1.X row
  blk_point [iblk, idx t, V]
theorem g_at (c : Dev nD) (t : Fin cfg0.N) (l : Fin 1024) : (iblk m c 4 t (ix2 0 l) : EReal) = A1 m c (ix1 l) := by
  rw [← entry_g m c l]
  blk_point [iblk, idx t]

/-- The cotangent the body adds up, of its eight slices. -/
abbrev dh (c : Dev nD) (t : Fin cfg0.N) : FVec Ideal S512x1024 .f32 :=
  k0_pay2 (iblk m c 2 t) (View.ld (iblk m c 0 t) (Rect.unit ![0, 0] ![512, 1024] inb_S512x4096_S512x1024_0_0))
        (View.ld (iblk m c 1 t) (Rect.unit ![0, 0, 0] ![1, 1024, 1024] inb_S4x1024x1024_S1x1024x1024_0_0_0))
        (View.ld (iblk m c 0 t) (Rect.unit ![0, 1024] ![512, 1024] inb_S512x4096_S512x1024_0_1024))
        (View.ld (iblk m c 1 t) (Rect.unit ![1, 0, 0] ![1, 1024, 1024] inb_S4x1024x1024_S1x1024x1024_1_0_0))
        (View.ld (iblk m c 0 t) (Rect.unit ![0, 2048] ![512, 1024] inb_S512x4096_S512x1024_0_2048))
        (View.ld (iblk m c 1 t) (Rect.unit ![2, 0, 0] ![1, 1024, 1024] inb_S4x1024x1024_S1x1024x1024_2_0_0))
        (View.ld (iblk m c 0 t) (Rect.unit ![0, 3072] ![512, 1024] inb_S512x4096_S512x1024_0_3072))
        (View.ld (iblk m c 1 t) (Rect.unit ![3, 0, 0] ![1, 1024, 1024] inb_S4x1024x1024_S1x1024x1024_3_0_0))

theorem dh_at (c : Dev nD) (t : Fin cfg0.N) (p : Fin 512) (l : Fin 1024) :
    (dh m c t (ix2 p l) : EReal) = RDh1.dh (A3 m c) (A4 m c) (A5 m c) (row t p) l := by
  rw [RDh1.dh_eq, ← Fin.sum_mul_add_fin 4 1024, Fin.sum_univ_four]
  simp only [← entry_w m c, ← entry_up m c]
  have b0 : ∀ k : Fin 4096, (iblk m c 0 t (ix2 p k) : EReal) = V m c main_v3 (ix2 (row t p) k) := fun k => by
    unfold row
    blk_point [iblk, idx t]
  have b1 : ∀ (s : Fin 4) (k : Fin 1024), (iblk m c 1 t (ix3 s l k) : EReal) = V m c main_v2 (ix3 s l k) := fun s k => by
    blk_point [iblk, idx t]
  have b2 : (iblk m c 2 t (ix2 p l) : EReal) = A4 m c (ix2 (row t p) l) := by
    unfold row
    blk_point [iblk, idx t, V]
  unfold dh
  pointwise [k0_pay2]
  simp only [b0, b1, b2]
  rw [add_comm (∑ x, _ + _ + _ + _) _]
  simp only [add_assoc]

/-- The gradient of the norm's input at a row of a point's block, by hand. -/
theorem point6 (c : Dev nD) (t : Fin cfg0.N) (p : Fin 512) (l : Fin 1024) :
    (k0_pay7 (F := Ideal) (dh m c t) (iblk m c 3 t) (k0_pay3 (iblk m c 3 t)) (iblk m c 4 t) (ix2 p l) : EReal)
      = Ln.hand (RDh1.X (A0 m c) (row t p)) (RDh1.D (A1 m c) (A3 m c) (A4 m c) (A5 m c) (row t p)) l := by
  rw [hand_at]
  simp only [pre_at, g_at, dh_at]
  rfl

/-- The first result array after the run, where the hand-written form is the chain rule's. -/
theorem final6 (c : Dev nD)
    (hc : ∀ t l, Ln.hand (RDh1.X (A0 m c) t) (RDh1.D (A1 m c) (A3 m c) (A4 m c) (A5 m c) t) l = Ln.chain (RDh1.X (A0 m c) t) (RDh1.D (A1 m c) (A3 m c) (A4 m c) (A5 m c) t) l) :
    (dats m 0 c).arrAt 6 cfg0.N = Cert.DH1RefIdeal.Read.val_main_v68 (F := Ideal) (A0 m c) (A1 m c) (A3 m c) (A4 m c) (A5 m c) := by
  refine (dats m 0 c).arrAt_eq_of_covers 6 _ (by decide +kernel) fun t _ y => ?_
  have hN : t.val < 16 := lt_of_lt_of_eq t.isLt (show cfg0.N = 16 from N_0)
  blk_simp
  rw [after0_6]
  have hp : k0_pay7 (F := Ideal) (dh m c t) (iblk m c 3 t) (k0_pay3 (iblk m c 3 t)) (iblk m c 4 t) y
      = Cert.DH1RefIdeal.Read.val_main_v68 (F := Ideal) (A0 m c) (A1 m c) (A3 m c) (A4 m c) (A5 m c) (((cfg0.win 6).blk t).view.emb y) := by
    have e : ((cfg0.win 6).blk t).view.emb y = ix2 (row t ⟨(y 0).val, (y 0).isLt⟩) ⟨(y 1).val, (y 1).isLt⟩ := by
      unfold row
      blk_ext [idx t]
    have ey : y = ix2 ⟨(y 0).val, (y 0).isLt⟩ ⟨(y 1).val, (y 1).isLt⟩ := by
      funext a; fin_cases a <;> rfl
    rw [e]
    refine Eq.trans ?_ (((point6 m c t ⟨(y 0).val, (y 0).isLt⟩ ⟨(y 1).val, (y 1).isLt⟩).trans (hc _ _)).trans (RDh1.s68 (A0 m c) (A1 m c) (A3 m c) (A4 m c) (A5 m c) _ _).symm)
    exact congrArg _ ey
  by_cases h0 : t.val % 16 = 0
  · rw [outsAt0_A m c t h0 (by omega)]
    frame_out
    exact hp
  · rw [outsAt0_B m c t h0 (by omega)]
    frame_out
    exact hp

/-- The rows a point adds to the accumulator. -/
theorem point7 (c : Dev nD) (t : Fin cfg0.N) (r : Fin 8) (l : Fin 1024) :
    (k0_pay8 (F := Ideal) (dh m c t) (iblk m c 3 t) (k0_pay3 (iblk m c 3 t)) (ix2 r l) : EReal)
      = sums (fun p => RDh1.X (A0 m c) (row t p)) (fun p => RDh1.dh (A3 m c) (A4 m c) (A5 m c) (row t p)) r l := by
  rw [sums_at]
  simp only [pre_at, dh_at]

/-- The points' rows add up to the reference's. -/
theorem total (c : Dev nD) (r : Fin 8) (l : Fin 1024) :
    (∑ t : Fin 16, sums (fun p => RDh1.X (A0 m c) ⟨t.val * 512 + p.val, by omega⟩) (fun p => RDh1.dh (A3 m c) (A4 m c) (A5 m c) ⟨t.val * 512 + p.val, by omega⟩) r l)
      = Cert.DH1RefIdeal.Read.val_main_v72 (F := Ideal) (A0 m c) (A3 m c) (A4 m c) (A5 m c) (ix2 r l) := by
  have e0 := RDh1.s44 (A0 m c) (A3 m c) (A4 m c) (A5 m c) l
  have e1 := RDh1.s38 (A3 m c) (A4 m c) (A5 m c) l
  have hr : (Cert.DH1RefIdeal.Read.val_main_v72 (F := Ideal) (A0 m c) (A3 m c) (A4 m c) (A5 m c) (ix2 r l) : EReal)
      = if r.val = 0 then Cert.DH1RefIdeal.Read.val_main_v44 (F := Ideal) (A0 m c) (A3 m c) (A4 m c) (A5 m c) (ix1 l)
        else if r.val = 1 then Cert.DH1RefIdeal.Read.val_main_v38 (F := Ideal) (A3 m c) (A4 m c) (A5 m c) (ix1 l) else 0 := by
    pointwise [Cert.DH1RefIdeal.Read.val_main_v72, Cert.DH1RefIdeal.Read.val_main_v69, Cert.DH1RefIdeal.Read.val_main_v70, Cert.DH1RefIdeal.Read.val_main_v71, Cert.DH1RefIdeal.Read.val_main_cst_19]
    by_cases h0 : r.val = 0
    · rw [dif_pos (by omega), if_pos h0]
    · rw [dif_neg (by omega), if_neg h0]
      by_cases h1 : r.val = 1
      · rw [dif_pos (by omega), if_pos h1]
      · rw [dif_neg (by omega), if_neg h1]
  rw [hr, e0, e1]
  unfold sums
  by_cases h0 : r.val = 0
  · simp only [if_pos h0]
    exact Fin.sum_mul_add_congr fun s k hl => rfl
  · simp only [if_neg h0]
    by_cases h1 : r.val = 1
    · simp only [if_pos h1]
      exact Fin.sum_mul_add_congr fun s k hl => rfl
    · simp only [if_neg h1, Finset.sum_const_zero]

/-- The second result array after the run. -/
theorem final7 (c : Dev nD) :
    (dats m 0 c).arrAt 7 cfg0.N = Cert.DH1RefIdeal.Read.val_main_v72 (F := Ideal) (A0 m c) (A3 m c) (A4 m c) (A5 m c) := by
  refine (dats m 0 c).arrAt_eq_of_after_last 7 t0_15 (by decide +kernel) _ fun j => ?_
  blk_simp
  rw [after0_7, Pipeline.eq_sum_fin_of_reset_step_apply_last (fun n h => (outsAt0 m c n h).2) 16 (fun _ => 0)
    (fun t j => sums (fun p => RDh1.X (A0 m c) (row t p)) (fun p => RDh1.dh (A3 m c) (A4 m c) (A5 m c) (row t p)) ⟨(j 0).val, (j 0).isLt⟩ ⟨(j 1).val, (j 1).isLt⟩)
    (fun t h j => by
      rw [outsAt0_A m c t h (by have hN : t.val < 16 := lt_of_lt_of_eq t.isLt (show cfg0.N = 16 from N_0); omega)]
      frame_out
      rw [zero_add, ← point7]
      idx_vars j
      rfl)
    (fun t h j => by
      rw [outsAt0_B m c t h (by omega)]
      frame_out
      rw [← point7]
      idx_vars j
      pointwise [k0_pay1]
      rfl) (le_of_eq N_0) t0_15 rfl j, zero_add]
  idx_vars j
  exact total m c j0 j1
end Cert.Proof.PDh1
end
-- ==== Proof.NormPre.lean ====
module
public import proofs.«01_k».proof.Proof.Finite
public import proofs.«01_k».proof.Proof.RDh1
@[expose] public section
set_option maxRecDepth 16384
noncomputable section
/-! On real arrays the two forms of the first layer norm's gradient are the same. -/
namespace Cert.Proof.NormPre
open Idealize.ShloMosaic Idealize.ShloMosaic.TcCoe
open Cert.DH1RefIdeal

/-- The residual's scale is a real. -/
theorem alpha : ∃ a : ℝ, Ideal.ofBits .f32 0x3F9837F0#32 = (a : EReal) := by
  refine ⟨9975792 * 2 ^ (-23 : ℤ), ?_⟩
  simp [Ideal.ofBits, Ideal.ieee, -EReal.coe_mul]

theorem same (x0 : S8192x1024.Idx → EReal) (x1 : S1024.Idx → EReal) (x3 : S1024x4096.Idx → EReal)
    (x4 : S8192x1024.Idx → EReal) (x5 : S8192x4096.Idx → EReal)
    (h0 : ∀ i, x0 i = ((x0 i).toReal : EReal)) (h1 : ∀ i, x1 i = ((x1 i).toReal : EReal)) (h3 : ∀ i, x3 i = ((x3 i).toReal : EReal))
    (h4 : ∀ i, x4 i = ((x4 i).toReal : EReal)) (h5 : ∀ i, x5 i = ((x5 i).toReal : EReal)) (t : Fin 8192) (l : Fin 1024) :
    Ln.hand (RDh1.X x0 t) (RDh1.D x1 x3 x4 x5 t) l = Ln.chain (RDh1.X x0 t) (RDh1.D x1 x3 x4 x5 t) l := by
  obtain ⟨a, ha⟩ := alpha
  refine Ln.hand_eq_chain _ _ (fun i => (x0 (ix2 t i)).toReal)
    (fun i => ((∑ k : Fin 4096, (x5 (ix2 t k)).toReal * (x3 (ix2 i k)).toReal) + a * (x4 (ix2 t i)).toReal) * (x1 (ix1 i)).toReal)
    (fun i => h0 _) (fun i => ?_) l
  unfold RDh1.D
  rw [RDh1.dh_eq, ha, EReal.coe_mul, EReal.coe_add, EReal.coe_mul, SoftRow.coe_sum, ← h4, ← h1]
  refine congrArg₂ (· * ·) (congrArg₂ (· + ·) ?_ rfl) rfl
  exact Finset.sum_congr rfl fun k _ => by rw [EReal.coe_mul, ← h5, ← h3]
end Cert.Proof.NormPre
end
-- ==== Proof.ADh1.lean ====
module
public import proofs.«01_k».proof.Defs
public import proofs.«01_k».proof.Proof.Gen.DH1.Frame
public import proofs.«01_k».proof.Proof.Gen.DH1RefIdeal.Run
public import proofs.«01_k».proof.Proof.Gen.Pre_norm_finite
public import proofs.«01_k».proof.Proof.PDh1
public import proofs.«01_k».proof.Proof.NormPre
public import Idealize.ShloMosaic.Adequacy
public import Idealize.ShloMosaic.Init
@[expose] public section
set_option maxRecDepth 16384
noncomputable section
/-! The claims of the first layer norm's gradient. -/
namespace Cert.Proof.ADh1
open Idealize.ShloMosaic Idealize.SL.Sem

/-- The reference is host code without a semaphore: its run keeps the arguments. -/
theorem frame_ref : Cert.quiescent_DH1RefIdeal := fun m ρ _ =>
  (θ_run Cert.DH1RefIdeal.defs _ _).mono (fun r h => ⟨fun c => (h c).2.2,
      Idealize.ShloMosaic.sem_eq_zero_of_no_sems (by decide) r.2⟩)
    (Cert.DH1RefIdeal.Value.run (F := Ideal) m ρ)

/-- Where the precondition holds, the kernel's first result is the reference's. -/
theorem agree6 (m : (ℓ : Loc Cert.DH1Ideal.nD Cert.DH1Ideal.τ Cert.DH1Ideal.sig) → Buf (Elt Ideal) ℓ) (hf : Cert.Pre_DH1Ideal_norm_finite m) (c : Dev Cert.DH1Ideal.nD) :
    (Cert.DH1Ideal.Gen.dats m 0 c).arrAt 6 Cert.DH1Ideal.cfg0.N
      = Cert.DH1RefIdeal.Read.val_main_v68 (F := Ideal) (PDh1.A0 m c) (PDh1.A1 m c) (PDh1.A3 m c) (PDh1.A4 m c) (PDh1.A5 m c) := by
  obtain ⟨h0, h1, h3, h4, h5⟩ := hf c
  exact PDh1.final6 m c (NormPre.same _ _ _ _ _ (Finite.at_all _ _ h0) (Finite.at_all _ _ h1) (Finite.at_all _ _ h3) (Finite.at_all _ _ h4) (Finite.at_all _ _ h5))

theorem algebraic : Cert.algebraic_DH1Ideal_DH1RefIdeal_pre_norm_finite := by
  intro m ρ m' ρ' hf hag
  refine ⟨fun c => (Cert.DH1Ideal.Gen.dats m 0 c).arrAt 6 Cert.DH1Ideal.cfg0.N, fun c => (Cert.DH1Ideal.Gen.dats m 0 c).arrAt 7 Cert.DH1Ideal.cfg0.N, Cert.DH1Ideal.Value.run_blocks m ρ,
    (θ_run Cert.DH1RefIdeal.defs _ _).mono (fun r h c => ⟨?_, ?_, (h c).2.2⟩) (Cert.DH1RefIdeal.Value.run (F := Ideal) m' ρ')⟩
  · obtain ⟨e0, e1, e2, e3, e4, e5⟩ := hag c
    refine ((h c).1.trans (Cert.DH1RefIdeal.Read.val_main_v68_eq _ c)).trans ?_
    rw [e0, e1, e3, e4, e5]
    exact (agree6 m hf c).symm
  · obtain ⟨e0, e1, e2, e3, e4, e5⟩ := hag c
    refine ((h c).2.1.trans (Cert.DH1RefIdeal.Read.val_main_v72_eq _ _ _ _)).trans ?_
    rw [e0, e3, e4, e5]
    exact (PDh1.final7 m c).symm
end Cert.Proof.ADh1
end
-- ==== Proof.RLn2.lean ====
module
public import proofs.«01_k».proof.Proof.Gen.Ln2RefIdeal.Read
public import proofs.«01_k».proof.Proof.Ln
@[expose] public section
set_option maxRecDepth 16384
noncomputable section
/-! The reference of the second layer norm and the loss, read at an index. -/
namespace Cert.Proof.RLn2
open Idealize.ShloMosaic Idealize.ShloMosaic.TcCoe
open Cert.Ln2RefIdeal Cert.Ln2RefIdeal.Read

variable (x0 : FVec Ideal S8192x4096 .f32) (x1 : FVec Ideal S4096x1024 .f32) (x2 x3 : FVec Ideal S8192x1024 .f32)
  (x4 x5 x6 x7 : FVec Ideal S1024 .f32)

/-- A row of the first norm's argument, of the second's, of the difference to the target, of the norm's cotangent, and of that times the scale. -/
def P (t : Fin 8192) (i : Fin 1024) : EReal := x2 (ix2 t i)
def Z (t : Fin 8192) (i : Fin 1024) : EReal := val_main_v27 (F := Ideal) x0 x1 x2 x4 x5 (ix2 t i)
def Y (t : Fin 8192) (i : Fin 1024) : EReal := val_main_v57 (F := Ideal) x0 x1 x2 x3 x4 x5 x6 x7 (ix2 t i)
def G (t : Fin 8192) (i : Fin 1024) : EReal := val_main_v71 (F := Ideal) x0 x1 x2 x3 x4 x5 x6 x7 (ix2 t i)
def D (t : Fin 8192) (i : Fin 1024) : EReal := G x0 x1 x2 x3 x4 x5 x6 x7 t i * x6 (ix1 i)

/-- The row of an array at a row of a block. -/
def pos (t : Fin 16) (p : Fin 512) : Fin 8192 := ⟨t.val * 512 + p.val, by omega⟩

/-- The loss's half, the cotangent's one, and the residual's scale, as the programs write them. -/
abbrev half : EReal := Ideal.ofBits .f32 0x3F000000#32
abbrev one : EReal := Ideal.ofBits .f32 0x3F800000#32
abbrev alpha : EReal := Ideal.ofBits .f32 0x3F9837F0#32

variable (t : Fin 8192) (z : Fin 1) (l : Fin 1024)

theorem p4 : (val_main_v4 (F := Ideal) x2 (ix2 t z) : EReal) = Ln.mu (P x2 t) := by
  unfold Ln.mu P
  pointwise [val_main_v4, val_main_v3, val_main_v2, val_main_v1, val_main_cst_0, val_main_cst]
theorem p6 : (val_main_v6 (F := Ideal) x2 (ix2 t l) : EReal) = Ln.cen (P x2 t) l := by
  rw [Ln.cen, ← p4 x2 t 0]
  unfold P
  pointwise [val_main_v6, val_main_v5]
theorem p13 : (val_main_v13 (F := Ideal) x2 (ix2 t l) : EReal) = Ln.cen (P x2 t) l := by
  rw [Ln.cen, ← p4 x2 t 0]
  unfold P
  pointwise [val_main_v13, val_main_v12]
theorem p11 : (val_main_v11 (F := Ideal) x2 (ix2 t z) : EReal) = Ln.var (P x2 t) := by
  unfold Ln.var
  simp only [← p6]
  pointwise [val_main_v11, val_main_v10, val_main_v9, val_main_v8, val_main_v7, val_main_cst_1, val_main_cst_2]
theorem p16 : (val_main_v16 (F := Ideal) x2 (ix2 t z) : EReal) = Ln.inv (P x2 t) := by
  unfold Ln.inv
  rw [← p11 x2 t z]
  pointwise [val_main_v16, val_main_v15, val_main_v14, val_main_cst_3]
theorem p18 : (val_main_v18 (F := Ideal) x2 (ix2 t l) : EReal) = Ln.hat (P x2 t) l := by
  unfold Ln.hat
  rw [← p13, ← p16 x2 t 0]
  pointwise [val_main_v18, val_main_v17]
/-- The second norm's argument: the scaled first norm and the channel sublayer's product. -/
theorem Z_eq : Z x0 x1 x2 x4 x5 t l = alpha * (Ln.hat (P x2 t) l * x4 (ix1 l) + x5 (ix1 l)) + ∑ k : Fin 4096, x0 (ix2 t k) * x1 (ix2 k l) := by
  unfold Z
  rw [← p18]
  pointwise [val_main_v27, val_main_v26, val_main_v25, val_main_v24, val_main_v23, val_main_v22, val_main_v21, val_main_v20, val_main_v19, val_main_v0, val_main_cst_4]

theorem s31 : (val_main_v31 (F := Ideal) x0 x1 x2 x4 x5 (ix2 t z) : EReal) = Ln.mu (Z x0 x1 x2 x4 x5 t) := by
  unfold Ln.mu Z
  pointwise [val_main_v31, val_main_v30, val_main_v29, val_main_v28, val_main_cst_5, val_main_cst_6]
theorem s33 : (val_main_v33 (F := Ideal) x0 x1 x2 x4 x5 (ix2 t l) : EReal) = Ln.cen (Z x0 x1 x2 x4 x5 t) l := by
  rw [Ln.cen, ← s31 x0 x1 x2 x4 x5 t 0]
  unfold Z
  pointwise [val_main_v33, val_main_v32]
theorem s42 : (val_main_v42 (F := Ideal) x0 x1 x2 x4 x5 (ix2 t l) : EReal) = Ln.cen (Z x0 x1 x2 x4 x5 t) l := by
  rw [Ln.cen, ← s31 x0 x1 x2 x4 x5 t 0]
  unfold Z
  pointwise [val_main_v42, val_main_v41]
theorem s40 : (val_main_v40 (F := Ideal) x0 x1 x2 x4 x5 (ix2 t z) : EReal) = Ln.var (Z x0 x1 x2 x4 x5 t) := by
  unfold Ln.var
  simp only [← s33]
  pointwise [val_main_v40, val_main_v39, val_main_v38, val_main_v37, val_main_v34, val_main_cst_8, val_main_cst_9]
theorem s45 : (val_main_v45 (F := Ideal) x0 x1 x2 x4 x5 (ix2 t z) : EReal) = Ln.inv (Z x0 x1 x2 x4 x5 t) := by
  unfold Ln.inv
  rw [← s40 x0 x1 x2 x4 x5 t z]
  pointwise [val_main_v45, val_main_v44, val_main_v43, val_main_cst_10]
theorem s48 : (val_main_v48 (F := Ideal) x0 x1 x2 x4 x5 (ix2 t z) : EReal) = Ln.mhalf * Ideal.div (Ln.inv (Z x0 x1 x2 x4 x5 t)) (Ln.var (Z x0 x1 x2 x4 x5 t) + Ln.eps) := by
  rw [← s45 x0 x1 x2 x4 x5 t z, ← s40 x0 x1 x2 x4 x5 t z]
  pointwise [val_main_v48, val_main_v47, val_main_v46, val_main_v44, val_main_v43, val_main_cst_10, val_main_cst_11]
theorem s50 : (val_main_v50 (F := Ideal) x0 x1 x2 x4 x5 (ix2 t l) : EReal) = Ln.hat (Z x0 x1 x2 x4 x5 t) l := by
  unfold Ln.hat
  rw [← s42, ← s45 x0 x1 x2 x4 x5 t 0]
  pointwise [val_main_v50, val_main_v49]
/-- The difference to the target. -/
theorem Y_eq : Y x0 x1 x2 x3 x4 x5 x6 x7 t l = Ln.hat (Z x0 x1 x2 x4 x5 t) l * x6 (ix1 l) + x7 (ix1 l) - x3 (ix2 t l) := by
  unfold Y
  rw [← s50]
  pointwise [val_main_v57, val_main_v56, val_main_v55, val_main_v54, val_main_v53, val_main_v52, val_main_v51]
/-- The norm's cotangent. -/
theorem G_eq : G x0 x1 x2 x3 x4 x5 x6 x7 t l = Ideal.div (half * one) Ln.len * (Ln.two * Y x0 x1 x2 x3 x4 x5 x6 x7 t l) := by
  unfold G Y
  pointwise [val_main_v71, val_main_v70, val_main_v69, val_main_v68, val_main_v67, val_main_v66, val_main_v60, val_main_v59, val_main_cst_12, val_main_cst_17, val_main_cst_18, val_main_cst_19]
theorem s79 : (val_main_v79 (F := Ideal) x0 x1 x2 x3 x4 x5 x6 x7 (ix2 t l) : EReal) = D x0 x1 x2 x3 x4 x5 x6 x7 t l := by
  unfold D G
  pointwise [val_main_v79, val_main_v78, val_main_v51]
theorem s85 : (val_main_v85 (F := Ideal) x0 x1 x2 x3 x4 x5 x6 x7 (ix2 t l) : EReal) = D x0 x1 x2 x3 x4 x5 x6 x7 t l * Ln.inv (Z x0 x1 x2 x4 x5 t) := by
  rw [← s79, ← s45 x0 x1 x2 x4 x5 t 0]
  pointwise [val_main_v85, val_main_v84]
theorem s91 : (val_main_v91 (F := Ideal) x0 x1 x2 x3 x4 x5 x6 x7 (ix2 t z) : EReal) = Ln.coef (Z x0 x1 x2 x4 x5 t) (D x0 x1 x2 x3 x4 x5 x6 x7 t) := by
  unfold Ln.coef
  rw [← s48 x0 x1 x2 x4 x5 t z]
  simp only [← s79, ← s42]
  pointwise [val_main_v91, val_main_v90, val_main_v86, val_main_v83, val_main_v82, val_main_v81, val_main_cst_24, val_main_cst_26]
theorem s94 : (val_main_v94 (F := Ideal) x0 x1 x2 x3 x4 x5 x6 x7 (ix2 t l) : EReal) = Ln.coef (Z x0 x1 x2 x4 x5 t) (D x0 x1 x2 x3 x4 x5 x6 x7 t) * (Ln.two * Ln.cen (Z x0 x1 x2 x4 x5 t) l) := by
  rw [← s91 x0 x1 x2 x3 x4 x5 x6 x7 t 0, ← s33]
  pointwise [val_main_v94, val_main_v93, val_main_v92, val_main_v36, val_main_v35, val_main_cst_7, val_main_cst_27]
  simp
theorem s101 : (val_main_v101 (F := Ideal) x0 x1 x2 x3 x4 x5 x6 x7 (ix2 t z) : EReal) = Ideal.div ((∑ i, -(D x0 x1 x2 x3 x4 x5 x6 x7 t i * Ln.inv (Z x0 x1 x2 x4 x5 t)))
      + (∑ i, -(Ln.coef (Z x0 x1 x2 x4 x5 t) (D x0 x1 x2 x3 x4 x5 x6 x7 t) * (Ln.two * Ln.cen (Z x0 x1 x2 x4 x5 t) i)))) Ln.len := by
  simp only [← s94, ← s85]
  pointwise [val_main_v101, val_main_v100, val_main_v99, val_main_v97, val_main_v96, val_main_v95, val_main_v89, val_main_v88, val_main_v87, val_main_cst_25, val_main_cst_28, val_main_cst_29]
/-- The gradient of the channel sublayer's product is the chain rule's form. -/
theorem s104 : (val_main_v104 (F := Ideal) x0 x1 x2 x3 x4 x5 x6 x7 (ix2 t l) : EReal) = Ln.chain (Z x0 x1 x2 x4 x5 t) (D x0 x1 x2 x3 x4 x5 x6 x7 t) l := by
  unfold Ln.chain
  rw [← s101 x0 x1 x2 x3 x4 x5 x6 x7 t 0, ← s94, ← s85]
  pointwise [val_main_v104, val_main_v98, val_main_v103, val_main_v102, val_main_cst_30]
  simp

/-- The gradients of the scale and of the shift, and the loss. -/
theorem s80 : (val_main_v80 (F := Ideal) x0 x1 x2 x3 x4 x5 x6 x7 (ix1 l) : EReal) = ∑ t, G x0 x1 x2 x3 x4 x5 x6 x7 t l * Ln.hat (Z x0 x1 x2 x4 x5 t) l := by
  simp only [mul_comm (G x0 x1 x2 x3 x4 x5 x6 x7 _ l), ← s50]
  unfold G
  pointwise [val_main_v80, val_main_v77, val_main_v76, val_main_v75, val_main_cst_22, val_main_cst_23]
  simp
theorem s74 : (val_main_v74 (F := Ideal) x0 x1 x2 x3 x4 x5 x6 x7 (ix1 l) : EReal) = ∑ t, G x0 x1 x2 x3 x4 x5 x6 x7 t l := by
  unfold G
  pointwise [val_main_v74, val_main_v73, val_main_v72, val_main_cst_20, val_main_cst_21]
  simp
theorem s65 : (val_main_v65 (F := Ideal) x0 x1 x2 x3 x4 x5 x6 x7 ix0 : EReal)
    = half * ∑ t : Fin 8192, Ideal.div (∑ i, Y x0 x1 x2 x3 x4 x5 x6 x7 t i * Y x0 x1 x2 x3 x4 x5 x6 x7 t i) Ln.len := by
  unfold Y
  pointwise [val_main_v65, val_main_v64, val_main_v63, val_main_v62, val_main_v61, val_main_v58, val_main_cst_13, val_main_cst_14, val_main_cst_15, val_main_cst_16]
/-- The third result's rows. -/
theorem s110 (r : Fin 8) : (val_main_v110 (F := Ideal) x0 x1 x2 x3 x4 x5 x6 x7 (ix2 r l) : EReal)
    = if r.val = 0 then val_main_v80 (F := Ideal) x0 x1 x2 x3 x4 x5 x6 x7 (ix1 l)
      else if r.val = 1 then val_main_v74 (F := Ideal) x0 x1 x2 x3 x4 x5 x6 x7 (ix1 l)
      else if r.val = 2 then val_main_v65 (F := Ideal) x0 x1 x2 x3 x4 x5 x6 x7 ix0 else 0 := by
  pointwise [val_main_v110, val_main_v105, val_main_v106, val_main_v107, val_main_v108, val_main_cst_31]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]
      by_cases h2 : r.val = 2
      · rw [dif_pos (by omega), if_pos h2]
      · rw [dif_neg (by omega), if_neg h2]
end Cert.Proof.RLn2
end
-- ==== Proof.PLn2.lean ====
module
public import proofs.«01_k».proof.Proof.Gen.Ln2Ideal.Value
public import proofs.«01_k».proof.Proof.RLn2
public import Idealize.ShloMosaic.Lib.Pipeline.ValueKit
@[expose] public section
set_option maxRecDepth 16384
noncomputable section
/-! The second layer norm and the loss: what the kernel leaves in its three result arrays. -/
namespace Cert.Proof.PLn2
open Idealize.ShloMosaic Idealize.ShloMosaic.TcCoe Idealize.SL.Sem
open Idealize.ShloMosaic.Pipeline (Dat)
open Cert.Ln2Ideal Cert.Ln2Ideal.Gen
variable (m : (ℓ : Loc nD τ sig) → Buf (Elt Ideal) ℓ)

section rows
variable (a : FVec Ideal S512x4096 .bf16) (w : FVec Ideal S4096x1024 .bf16) (q v y : FVec Ideal S512x1024 .f32) (g b g' : FVec Ideal S1x1024 .f32) (p : Fin 512) (z : Fin 1) (l : Fin 1024)

/-- The body's centred entry, reciprocal root and normed entry are the row's. -/
theorem cen_at : (k0_pay7 (F := Ideal) v (ix2 p l) : EReal) = Ln.cen (fun i => v (ix2 p i)) l := by
  unfold Ln.cen Ln.mu
  pointwise [k0_pay7]
theorem inv_at : (k0_pay8 (F := Ideal) v (ix2 p z) : EReal) = Ln.inv (fun i => v (ix2 p i)) := by
  unfold Ln.inv Ln.var
  simp only [← cen_at]
  pointwise [k0_pay8]
theorem hat_at : (k0_pay9 (F := Ideal) v (ix2 p l) : EReal) = Ln.hat (fun i => v (ix2 p i)) l := by
  unfold Ln.hat
  rw [← cen_at, ← inv_at v p 0]
  pointwise [k0_pay9]
/-- The second norm's argument as the body computes it. -/
theorem arg_at : (k0_pay4 (F := Ideal) a w q g b (ix2 p l) : EReal)
    = RLn2.alpha * (Ln.hat (fun i => q (ix2 p i)) l * g (ix2 0 l) + b (ix2 0 l)) + ∑ k : Fin 4096, a (ix2 p k) * w (ix2 k l) := by
  simp only [← hat_at, k0_pay9, k0_pay8, k0_pay7]
  pointwise [k0_pay4]
/-- The difference to the target. -/
theorem diff_at : (k0_pay10 (F := Ideal) v (k0_pay5 g) (k0_pay6 b) y (ix2 p l) : EReal) = Ln.hat (fun i => v (ix2 p i)) l * g (ix2 0 l) + b (ix2 0 l) - y (ix2 p l) := by
  rw [← hat_at]
  pointwise [k0_pay10, k0_pay5, k0_pay6]
/-- The norm's cotangent: the difference over the row's length. -/
abbrev rlen : EReal := Ideal.ofBits .f32 0x3A800000#32
theorem ct_at : (k0_pay11 (F := Ideal) v (k0_pay5 g) (k0_pay6 b) y (ix2 p l) : EReal) = k0_pay10 (F := Ideal) v (k0_pay5 g) (k0_pay6 b) y (ix2 p l) * rlen := by
  pointwise [k0_pay11]
/-- The body's gradient is the hand-written form. -/
theorem hand_at : (k0_pay12 (F := Ideal) v (k0_pay5 g) (k0_pay6 b) y g' (ix2 p l) : EReal)
    = Ln.hand (fun i => v (ix2 p i)) (fun i => k0_pay11 (F := Ideal) v (k0_pay5 g) (k0_pay6 b) y (ix2 p i) * g' (ix2 0 i)) l := by
  unfold Ln.hand
  simp only [← hat_at, ← inv_at v p 0]
  pointwise [k0_pay12]

/-- The body's rows: the scale's gradient, the shift's, the loss's part, and zeros. -/
abbrev rloss : EReal := Ideal.ofBits .f32 0x3A000000#32
def sums (h y d : Fin 512 → Fin 1024 → EReal) (r : Fin 8) (l : Fin 1024) : EReal :=
  if r.val = 0 then ∑ p, d p l * h p l else if r.val = 1 then ∑ p, d p l
  else if r.val = 2 then (∑ p, ∑ i, y p i * y p i) * rloss else 0
theorem sums_at (h u d : FVec Ideal S512x1024 .f32) (r : Fin 8) : (k0_pay2 (F := Ideal) h u d (ix2 r l) : EReal)
    = sums (fun p i => h (ix2 p i)) (fun p i => u (ix2 p i)) (fun p i => d (ix2 p i)) r l := by
  unfold sums
  pointwise [k0_pay2]
  by_cases h0 : r.val = 0
  · rw [dif_pos (by omega), if_pos h0]
  · rw [dif_neg (by omega), if_neg h0]
    by_cases h1 : r.val = 1
    · rw [dif_pos (by omega), if_pos h1]
    · rw [dif_neg (by omega), if_neg h1]
      by_cases h2 : r.val = 2
      · rw [dif_pos (by omega), if_pos h2]
      · rw [dif_neg (by omega), if_neg h2]
end rows

/-- The index maps of the windows, in closed form. -/
theorem idx : ∀ t : Fin cfg0.N,
    win0_0.index t = ![t.val, 0] ∧ win0_1.index t = ![0, 0] ∧ win0_2.index t = ![t.val, 0] ∧ win0_3.index t = ![t.val, 0]
      ∧ win0_4.index t = ![0, 0] ∧ win0_5.index t = ![0, 0] ∧ win0_6.index t = ![0, 0] ∧ win0_7.index t = ![0, 0]
      ∧ win0_8.index t = ![t.val, 0] ∧ win0_9.index t = ![t.val, 0] ∧ win0_10.index t = ![0, 0] :=
  (by decide +kernel : ∀ t : Fin grid0.N, _)

/-- The row of the array at a row of a point's block. -/
def row (t : Fin cfg0.N) (p : Fin 512) : Fin 8192 := ⟨t.val * 512 + p.val, by have := lt_of_lt_of_eq t.isLt (show cfg0.N = 16 from N_0); omega⟩

/-- The arguments' arrays. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
/-- The rows over the launched arguments. -/
abbrev Z (c : Dev nD) := RLn2.Z (A0 m c) (A1 m c) (A2 m c) (A4 m c) (A5 m c)
abbrev Y (c : Dev nD) := RLn2.Y (A0 m c) (A1 m c) (A2 m c) (A3 m c) (A4 m c) (A5 m c) (A6 m c) (A7 m c)
abbrev G (c : Dev nD) := RLn2.G (A0 m c) (A1 m c) (A2 m c) (A3 m c) (A4 m c) (A5 m c) (A6 m c) (A7 m c)
abbrev D (c : Dev nD) := RLn2.D (A0 m c) (A1 m c) (A2 m c) (A3 m c) (A4 m c) (A5 m c) (A6 m c) (A7 m c)

theorem entry_act (c : Dev nD) : V m c main_v0 = A0 m c := by
  entry_read
  funext i
  pointwise
theorem entry_w (c : Dev nD) : V m c main_v1 = A1 m c := by
  entry_read
  funext i
  pointwise
theorem entry4 (c : Dev nD) (l : Fin 1024) : (V m c main_v2 (ix2 0 l) : EReal) = A4 m c (ix1 l) := by
  entry_read
  pointwise
theorem entry5 (c : Dev nD) (l : Fin 1024) : (V m c main_v3 (ix2 0 l) : EReal) = A5 m c (ix1 l) := by
  entry_read
  pointwise
theorem entry6 (c : Dev nD) (l : Fin 1024) : (V m c main_v4 (ix2 0 l) : EReal) = A6 m c (ix1 l) := by
  entry_read
  pointwise
theorem entry7 (c : Dev nD) (l : Fin 1024) : (V m c main_v5 (ix2 0 l) : EReal) = A7 m c (ix1 l) := by
  entry_read
  pointwise

section blocks
variable (c : Dev nD) (t : Fin cfg0.N) (p : Fin 512) (l : Fin 1024)
/-- The blocks read at an index. -/
theorem act_at (k : Fin 4096) : (iblk m c 0 t (ix2 p k) : EReal) = A0 m c (ix2 (row t p) k) := by
  rw [← entry_act m c]
  unfold row
  blk_point [iblk, idx t]
theorem w_at (k : Fin 4096) : (iblk m c 1 t (ix2 k l) : EReal) = A1 m c (ix2 k l) := by
  rw [← entry_w m c]
  blk_point [iblk, idx t]
theorem pre_at : (iblk m c 2 t (ix2 p l) : EReal) = A2 m c (ix2 (row t p) l) := by
  unfold row
  blk_point [iblk, idx t, V]
theorem tgt_at : (iblk m c 3 t (ix2 p l) : EReal) = A3 m c (ix2 (row t p) l) := by
  unfold row
  blk_point [iblk, idx t, V]
theorem g1_at : (iblk m c 4 t (ix2 0 l) : EReal) = A4 m c (ix1 l) := by
  rw [← entry4 m c l]
  blk_point [iblk, idx t]
theorem b1_at : (iblk m c 5 t (ix2 0 l) : EReal) = A5 m c (ix1 l) := by
  rw [← entry5 m c l]
  blk_point [iblk, idx t]
theorem g2_at : (iblk m c 6 t (ix2 0 l) : EReal) = A6 m c (ix1 l) := by
  rw [← entry6 m c l]
  blk_point [iblk, idx t]
theorem b2_at : (iblk m c 7 t (ix2 0 l) : EReal) = A7 m c (ix1 l) := by
  rw [← entry7 m c l]
  blk_point [iblk, idx t]

/-- The second norm's argument at a point. -/
abbrev arg : FVec Ideal S512x1024 .f32 := k0_pay4 (F := Ideal) (iblk m c 0 t) (iblk m c 1 t) (iblk m c 2 t) (iblk m c 4 t) (iblk m c 5 t)
theorem arg_eq : (arg m c t (ix2 p l) : EReal) = Z m c (row t p) l := by
  unfold arg Z
  rw [arg_at, RLn2.Z_eq]
  simp only [act_at, w_at, pre_at, g1_at, b1_at]
  rfl
abbrev dif : FVec Ideal S512x1024 .f32 := k0_pay10 (F := Ideal) (arg m c t) (k0_pay5 (iblk m c 6 t)) (k0_pay6 (iblk m c 7 t)) (iblk m c 3 t)
theorem dif_eq : (dif m c t (ix2 p l) : EReal) = Y m c (row t p) l := by
  unfold dif Y
  rw [diff_at, RLn2.Y_eq]
  simp only [arg_eq, tgt_at, g2_at, b2_at]
theorem hat_eq : (k0_pay9 (F := Ideal) (arg m c t) (ix2 p l) : EReal) = Ln.hat (Z m c (row t p)) l := by
  rw [hat_at]
  simp only [arg_eq]
variable (hG : ∀ t l, Y m c t l * rlen = G m c t l)
include hG
theorem ct_eq : (k0_pay11 (F := Ideal) (arg m c t) (k0_pay5 (iblk m c 6 t)) (k0_pay6 (iblk m c 7 t)) (iblk m c 3 t) (ix2 p l) : EReal) = G m c (row t p) l := by
  rw [ct_at, ← hG, ← dif_eq]
/-- The gradient at a row of a point's block, by hand. -/
theorem point8 : (k0_pay12 (F := Ideal) (arg m c t) (k0_pay5 (iblk m c 6 t)) (k0_pay6 (iblk m c 7 t)) (iblk m c 3 t) (iblk m c 6 t) (ix2 p l) : EReal)
    = Ln.hand (Z m c (row t p)) (D m c (row t p)) l := by
  rw [hand_at]
  simp only [arg_eq, ct_eq m c t p _ hG, g2_at]
  rfl
/-- The rows a point adds to the accumulator. -/
theorem point10 (r : Fin 8) : (k0_pay2 (F := Ideal) (k0_pay9 (arg m c t)) (dif m c t) (k0_pay11 (arg m c t) (k0_pay5 (iblk m c 6 t)) (k0_pay6 (iblk m c 7 t)) (iblk m c 3 t)) (ix2 r l) : EReal)
    = sums (fun p => Ln.hat (Z m c (row t p))) (fun p => Y m c (row t p)) (fun p => G m c (row t p)) r l := by
  rw [sums_at]
  simp only [hat_eq, dif_eq, ct_eq m c t _ _ hG]
end blocks

section finals
variable (c : Dev nD) (hG : ∀ t l, Y m c t l * rlen = G m c t l)
  (hc : ∀ t l, Ln.hand (Z m c t) (D m c t) l = Ln.chain (Z m c t) (D m c t) l)
include hG hc
/-- The first two result arrays after the run: the gradient, wide and narrow. -/
theorem final8 : (dats m 0 c).arrAt 8 cfg0.N
    = Cert.Ln2RefIdeal.Read.val_main_v104 (F := Ideal) (A0 m c) (A1 m c) (A2 m c) (A3 m c) (A4 m c) (A5 m c) (A6 m c) (A7 m c) := by
  refine (dats m 0 c).arrAt_eq_of_covers 8 _ (by decide +kernel) fun t _ y => ?_
  have hN : t.val < 16 := lt_of_lt_of_eq t.isLt (show cfg0.N = 16 from N_0)
  blk_simp
  rw [after0_8]
  have hp : k0_pay12 (F := Ideal) (arg m c t) (k0_pay5 (iblk m c 6 t)) (k0_pay6 (iblk m c 7 t)) (iblk m c 3 t) (iblk m c 6 t) y
      = Cert.Ln2RefIdeal.Read.val_main_v104 (F := Ideal) (A0 m c) (A1 m c) (A2 m c) (A3 m c) (A4 m c) (A5 m c) (A6 m c) (A7 m c) (((cfg0.win 8).blk t).view.emb y) := by
    have e : ((cfg0.win 8).blk t).view.emb y = ix2 (row t ⟨(y 0).val, (y 0).isLt⟩) ⟨(y 1).val, (y 1).isLt⟩ := by
      unfold row
      blk_ext [idx t]
    have ey : y = ix2 ⟨(y 0).val, (y 0).isLt⟩ ⟨(y 1).val, (y 1).isLt⟩ := by
      funext a; fin_cases a <;> rfl
    rw [e]
    refine Eq.trans ?_ (((point8 m c t ⟨(y 0).val, (y 0).isLt⟩ ⟨(y 1).val, (y 1).isLt⟩ hG).trans (hc _ _)).trans (RLn2.s104 _ _ _ _ _ _ _ _ _ _).symm)
    exact congrArg _ ey
  by_cases h0 : t.val % 16 = 0
  · rw [outsAt0_A m c t h0 (by omega)]
    frame_out
    exact hp
  · rw [outsAt0_B m c t h0 (by omega)]
    frame_out
    exact hp
theorem final9 : (dats m 0 c).arrAt 9 cfg0.N
    = Cert.Ln2RefIdeal.Read.val_main_v109 (F := Ideal) (A0 m c) (A1 m c) (A2 m c) (A3 m c) (A4 m c) (A5 m c) (A6 m c) (A7 m c) := by
  refine (dats m 0 c).arrAt_eq_of_covers 9 _ (by decide +kernel) fun t _ y => ?_
  have hN : t.val < 16 := lt_of_lt_of_eq t.isLt (show cfg0.N = 16 from N_0)
  blk_simp
  rw [after0_9]
  have hp : k0_pay1 (F := Ideal) (k0_pay12 (F := Ideal) (arg m c t) (k0_pay5 (iblk m c 6 t)) (k0_pay6 (iblk m c 7 t)) (iblk m c 3 t) (iblk m c 6 t)) y
      = Cert.Ln2RefIdeal.Read.val_main_v109 (F := Ideal) (A0 m c) (A1 m c) (A2 m c) (A3 m c) (A4 m c) (A5 m c) (A6 m c) (A7 m c) (((cfg0.win 9).blk t).view.emb y) := by
    have e : ((cfg0.win 9).blk t).view.emb y = ix2 (row t ⟨(y 0).val, (y 0).isLt⟩) ⟨(y 1).val, (y 1).isLt⟩ := by
      unfold row
      blk_ext [idx t]
    have ey : y = ix2 ⟨(y 0).val, (y 0).isLt⟩ ⟨(y 1).val, (y 1).isLt⟩ := by
      funext a; fin_cases a <;> rfl
    rw [e]
    refine Eq.trans ?_ (((point8 m c t ⟨(y 0).val, (y 0).isLt⟩ ⟨(y 1).val, (y 1).isLt⟩ hG).trans (hc _ _)).trans (RLn2.s104 _ _ _ _ _ _ _ _ _ _).symm)
    exact congrArg (k0_pay12 (F := Ideal) (arg m c t) (k0_pay5 (iblk m c 6 t)) (k0_pay6 (iblk m c 7 t)) (iblk m c 3 t) (iblk m c 6 t)) ey
  by_cases h0 : t.val % 16 = 0
  · rw [outsAt0_A m c t h0 (by omega)]
    frame_out
    exact hp
  · rw [outsAt0_B m c t h0 (by omega)]
    frame_out
    exact hp
omit hc
variable (hL : (∑ t : Fin 16, (∑ p : Fin 512, ∑ i, Y m c (RLn2.pos t p) i * Y m c (RLn2.pos t p) i) * rloss)
  = RLn2.half * ∑ t, Ideal.div (∑ i, Y m c t i * Y m c t i) Ln.len)
include hL
/-- The points' rows add up to the reference's. -/
theorem total (r : Fin 8) (l : Fin 1024) :
    (∑ t : Fin 16, sums (fun p => Ln.hat (Z m c (RLn2.pos t p))) (fun p => Y m c (RLn2.pos t p)) (fun p => G m c (RLn2.pos t p)) r l)
      = Cert.Ln2RefIdeal.Read.val_main_v110 (F := Ideal) (A0 m c) (A1 m c) (A2 m c) (A3 m c) (A4 m c) (A5 m c) (A6 m c) (A7 m c) (ix2 r l) := by
  rw [RLn2.s110, RLn2.s80, RLn2.s74, RLn2.s65]
  unfold sums
  by_cases h0 : r.val = 0
  · simp only [if_pos h0]
    exact Fin.sum_mul_add_congr fun s k hl => rfl
  · simp only [if_neg h0]
    by_cases h1 : r.val = 1
    · simp only [if_pos h1]
      exact Fin.sum_mul_add_congr fun s k hl => rfl
    · simp only [if_neg h1]
      by_cases h2 : r.val = 2
      · simp only [if_pos h2]
        exact hL
      · simp only [if_neg h2, Finset.sum_const_zero]
/-- The third result array after the run. -/
theorem final10 : (dats m 0 c).arrAt 10 cfg0.N
    = Cert.Ln2RefIdeal.Read.val_main_v110 (F := Ideal) (A0 m c) (A1 m c) (A2 m c) (A3 m c) (A4 m c) (A5 m c) (A6 m c) (A7 m c) := by
  refine (dats m 0 c).arrAt_eq_of_after_last 10 t0_15 (by decide +kernel) _ fun j => ?_
  blk_simp
  rw [after0_10, Pipeline.eq_sum_fin_of_reset_step_apply_last (fun n h => (outsAt0 m c n h).2.2) 16 (fun _ => 0)
    (fun t j => sums (fun p => Ln.hat (Z m c (row t p))) (fun p => Y m c (row t p)) (fun p => G m c (row t p)) ⟨(j 0).val, (j 0).isLt⟩ ⟨(j 1).val, (j 1).isLt⟩)
    (fun t h j => by
      rw [outsAt0_A m c t h (by have hN : t.val < 16 := lt_of_lt_of_eq t.isLt (show cfg0.N = 16 from N_0); omega)]
      frame_out
      rw [zero_add, ← point10 m c t _ hG]
      idx_vars j)
    (fun t h j => by
      rw [outsAt0_B m c t h (by omega)]
      frame_out
      rw [← point10 m c t _ hG]
      idx_vars j
      pointwise [k0_pay3]) (le_of_eq N_0) t0_15 rfl j, zero_add]
  idx_vars j
  exact total m c hG hL j0 j1
end finals
end Cert.Proof.PLn2
end
-- ==== Proof.LossPre.lean ====
module
public import proofs.«01_k».proof.Proof.Finite
public import proofs.«01_k».proof.Proof.PLn2
@[expose] public section
set_option maxRecDepth 16384
noncomputable section
/-! On real arrays the two forms of the second norm's cotangent, gradient and loss are the same. -/
namespace Cert.Proof.LossPre
open Idealize.ShloMosaic Idealize.ShloMosaic.TcCoe
open Cert.Ln2RefIdeal

theorem alpha : ∃ a : ℝ, RLn2.alpha = (a : EReal) := by
  refine ⟨9975792 * 2 ^ (-23 : ℤ), ?_⟩
  simp [Ideal.ofBits, Ideal.ieee, -EReal.coe_mul]
theorem half_eq : RLn2.half = ((1 / 2 : ℝ) : EReal) := by
  simp [Ideal.ofBits, Ideal.ieee, -EReal.coe_mul]
  norm_num
theorem one_eq : RLn2.one = ((1 : ℝ) : EReal) := by
  simp [Ideal.ofBits, Ideal.ieee, -EReal.coe_mul]
theorem rlen_eq : PLn2.rlen = ((1 / 1024 : ℝ) : EReal) := by
  simp [Ideal.ofBits, Ideal.ieee, -EReal.coe_mul]
  norm_num
theorem rloss_eq : PLn2.rloss = ((1 / 2048 : ℝ) : EReal) := by
  simp [Ideal.ofBits, Ideal.ieee, -EReal.coe_mul]
  norm_num

/-- Half of a mean's gradient of a square is the value over the length. -/
theorem scale (y : ℝ) : (y : EReal) * PLn2.rlen = Ideal.div (RLn2.half * RLn2.one) Ln.len * (Ln.two * (y : EReal)) := by
  rw [half_eq, one_eq, rlen_eq, Ln.len_eq, Ln.two_eq, ← EReal.coe_mul, Ideal.div_coe (by norm_num)]
  simp only [← EReal.coe_mul]
  congr 1
  ring

/-- The loss, summed block by block and scaled once a block, is the half of the summed means. -/
theorem loss (Y : Fin 8192 → Fin 1024 → EReal) (y : Fin 8192 → Fin 1024 → ℝ) (hY : ∀ t i, Y t i = (y t i : EReal)) :
    (∑ t : Fin 16, (∑ p : Fin 512, ∑ i, Y (RLn2.pos t p) i * Y (RLn2.pos t p) i) * PLn2.rloss)
      = RLn2.half * ∑ t, Ideal.div (∑ i, Y t i * Y t i) Ln.len := by
  have e : (∑ s : Fin 16, ∑ p : Fin 512, ∑ i, y (RLn2.pos s p) i * y (RLn2.pos s p) i) = ∑ t, ∑ i, y t i * y t i :=
    Fin.sum_mul_add_congr (f := fun t : Fin (16 * 512) => ∑ i, y t i * y t i) fun s k hl => rfl
  simp only [hY, half_eq, rloss_eq, Ln.len_eq, ← EReal.coe_mul, ← SoftRow.coe_sum, Ideal.div_coe (show (1024 : ℝ) ≠ 0 by norm_num)]
  congr 1
  rw [← Finset.sum_mul, ← Finset.sum_mul, e]
  ring

section
variable (x0 : S8192x4096.Idx → EReal) (x1 : S4096x1024.Idx → EReal) (x2 x3 : S8192x1024.Idx → EReal) (x4 x5 x6 x7 : S1024.Idx → EReal)
  (h0 : ∀ i, x0 i = ((x0 i).toReal : EReal)) (h1 : ∀ i, x1 i = ((x1 i).toReal : EReal)) (h2 : ∀ i, x2 i = ((x2 i).toReal : EReal)) (h3 : ∀ i, x3 i = ((x3 i).toReal : EReal))
  (h4 : ∀ i, x4 i = ((x4 i).toReal : EReal)) (h5 : ∀ i, x5 i = ((x5 i).toReal : EReal)) (h6 : ∀ i, x6 i = ((x6 i).toReal : EReal)) (h7 : ∀ i, x7 i = ((x7 i).toReal : EReal))
include h0 h1 h2 h4 h5
/-- The second norm's argument is real. -/
theorem z_real (t : Fin 8192) : ∃ z : Fin 1024 → ℝ, ∀ l, RLn2.Z x0 x1 x2 x4 x5 t l = (z l : EReal) := by
  obtain ⟨a, ha⟩ := alpha
  obtain ⟨h, hh⟩ := Ln.hat_real (RLn2.P x2 t) (fun i => (x2 (ix2 t i)).toReal) fun i => h2 _
  refine ⟨fun l => a * (h l * (x4 (ix1 l)).toReal + (x5 (ix1 l)).toReal) + ∑ k : Fin 4096, (x0 (ix2 t k)).toReal * (x1 (ix2 k l)).toReal, fun l => ?_⟩
  rw [RLn2.Z_eq, ha, hh, EReal.coe_add, EReal.coe_mul, EReal.coe_add, EReal.coe_mul, SoftRow.coe_sum, ← h4, ← h5]
  refine congrArg₂ (· + ·) rfl ?_
  exact Finset.sum_congr rfl fun k _ => by rw [EReal.coe_mul, ← h0, ← h1]
include h3 h6 h7
/-- The difference to the target is real. -/
theorem y_real (t : Fin 8192) : ∃ y : Fin 1024 → ℝ, ∀ l, RLn2.Y x0 x1 x2 x3 x4 x5 x6 x7 t l = (y l : EReal) := by
  obtain ⟨z, hz⟩ := z_real x0 x1 x2 x4 x5 h0 h1 h2 h4 h5 t
  obtain ⟨h, hh⟩ := Ln.hat_real _ z hz
  refine ⟨fun l => h l * (x6 (ix1 l)).toReal + (x7 (ix1 l)).toReal - (x3 (ix2 t l)).toReal, fun l => ?_⟩
  rw [RLn2.Y_eq, hh, EReal.coe_sub, EReal.coe_add, EReal.coe_mul, ← h6, ← h7, ← h3]
/-- The two forms of the norm's cotangent. -/
theorem ct_same (t : Fin 8192) (l : Fin 1024) : RLn2.Y x0 x1 x2 x3 x4 x5 x6 x7 t l * PLn2.rlen = RLn2.G x0 x1 x2 x3 x4 x5 x6 x7 t l := by
  obtain ⟨y, hy⟩ := y_real x0 x1 x2 x3 x4 x5 x6 x7 h0 h1 h2 h3 h4 h5 h6 h7 t
  rw [RLn2.G_eq, hy, scale]
/-- The two forms of the norm's gradient. -/
theorem same (t : Fin 8192) (l : Fin 1024) :
    Ln.hand (RLn2.Z x0 x1 x2 x4 x5 t) (RLn2.D x0 x1 x2 x3 x4 x5 x6 x7 t) l = Ln.chain (RLn2.Z x0 x1 x2 x4 x5 t) (RLn2.D x0 x1 x2 x3 x4 x5 x6 x7 t) l := by
  obtain ⟨z, hz⟩ := z_real x0 x1 x2 x4 x5 h0 h1 h2 h4 h5 t
  obtain ⟨y, hy⟩ := y_real x0 x1 x2 x3 x4 x5 x6 x7 h0 h1 h2 h3 h4 h5 h6 h7 t
  refine Ln.hand_eq_chain _ _ z (fun i => y i * (1 / 1024) * (x6 (ix1 i)).toReal) hz (fun i => ?_) l
  rw [RLn2.D, ← ct_same x0 x1 x2 x3 x4 x5 x6 x7 h0 h1 h2 h3 h4 h5 h6 h7, hy, rlen_eq, EReal.coe_mul, EReal.coe_mul, ← h6]
/-- The two forms of the loss. -/
theorem loss_same :
    (∑ t : Fin 16, (∑ p : Fin 512, ∑ i, RLn2.Y x0 x1 x2 x3 x4 x5 x6 x7 (RLn2.pos t p) i * RLn2.Y x0 x1 x2 x3 x4 x5 x6 x7 (RLn2.pos t p) i) * PLn2.rloss)
      = RLn2.half * ∑ t, Ideal.div (∑ i, RLn2.Y x0 x1 x2 x3 x4 x5 x6 x7 t i * RLn2.Y x0 x1 x2 x3 x4 x5 x6 x7 t i) Ln.len := by
  choose y hy using y_real x0 x1 x2 x3 x4 x5 x6 x7 h0 h1 h2 h3 h4 h5 h6 h7
  exact loss _ y hy
end
end Cert.Proof.LossPre
end
-- ==== Proof.ALn2.lean ====
module
public import proofs.«01_k».proof.Defs
public import proofs.«01_k».proof.Proof.Gen.Ln2.Frame
public import proofs.«01_k».proof.Proof.Gen.Ln2RefIdeal.Run
public import proofs.«01_k».proof.Proof.Gen.Pre_ln2_finite
public import proofs.«01_k».proof.Proof.LossPre
public import Idealize.ShloMosaic.Adequacy
public import Idealize.ShloMosaic.Init
@[expose] public section
set_option maxRecDepth 16384
noncomputable section
/-! The claims of the second layer norm and the loss. -/
namespace Cert.Proof.ALn2
open Idealize.ShloMosaic Idealize.SL.Sem

/-- The reference is host code without a semaphore: its run keeps the arguments. -/
theorem frame_ref : Cert.quiescent_Ln2RefIdeal := fun m ρ _ =>
  (θ_run Cert.Ln2RefIdeal.defs _ _).mono (fun r h => ⟨fun c => (h c).2.2.2,
      Idealize.ShloMosaic.sem_eq_zero_of_no_sems (by decide) r.2⟩)
    (Cert.Ln2RefIdeal.Value.run (F := Ideal) m ρ)

section
variable (m : (ℓ : Loc Cert.Ln2Ideal.nD Cert.Ln2Ideal.τ Cert.Ln2Ideal.sig) → Buf (Elt Ideal) ℓ) (hf : Cert.Pre_Ln2Ideal_ln2_finite m) (c : Dev Cert.Ln2Ideal.nD)
include hf
/-- Where the precondition holds, the kernel's results are the reference's. -/
theorem agree : (Cert.Ln2Ideal.Gen.dats m 0 c).arrAt 8 Cert.Ln2Ideal.cfg0.N
      = Cert.Ln2RefIdeal.Read.val_main_v104 (F := Ideal) (PLn2.A0 m c) (PLn2.A1 m c) (PLn2.A2 m c) (PLn2.A3 m c) (PLn2.A4 m c) (PLn2.A5 m c) (PLn2.A6 m c) (PLn2.A7 m c)
    ∧ (Cert.Ln2Ideal.Gen.dats m 0 c).arrAt 9 Cert.Ln2Ideal.cfg0.N
      = Cert.Ln2RefIdeal.Read.val_main_v109 (F := Ideal) (PLn2.A0 m c) (PLn2.A1 m c) (PLn2.A2 m c) (PLn2.A3 m c) (PLn2.A4 m c) (PLn2.A5 m c) (PLn2.A6 m c) (PLn2.A7 m c)
    ∧ (Cert.Ln2Ideal.Gen.dats m 0 c).arrAt 10 Cert.Ln2Ideal.cfg0.N
      = Cert.Ln2RefIdeal.Read.val_main_v110 (F := Ideal) (PLn2.A0 m c) (PLn2.A1 m c) (PLn2.A2 m c) (PLn2.A3 m c) (PLn2.A4 m c) (PLn2.A5 m c) (PLn2.A6 m c) (PLn2.A7 m c) := by
  obtain ⟨h0, h1, h2, h3, h4, h5, h6, h7⟩ := hf c
  replace h0 := Finite.at_all _ _ h0
  replace h1 := Finite.at_all _ _ h1
  replace h2 := Finite.at_all _ _ h2
  replace h3 := Finite.at_all _ _ h3
  replace h4 := Finite.at_all _ _ h4
  replace h5 := Finite.at_all _ _ h5
  replace h6 := Finite.at_all _ _ h6
  replace h7 := Finite.at_all _ _ h7
  have hG := LossPre.ct_same _ _ _ _ _ _ _ _ h0 h1 h2 h3 h4 h5 h6 h7
  have hc := LossPre.same _ _ _ _ _ _ _ _ h0 h1 h2 h3 h4 h5 h6 h7
  exact ⟨PLn2.final8 m c hG hc, PLn2.final9 m c hG hc, PLn2.final10 m c hG (LossPre.loss_same _ _ _ _ _ _ _ _ h0 h1 h2 h3 h4 h5 h6 h7)⟩
end

theorem algebraic : Cert.algebraic_Ln2Ideal_Ln2RefIdeal_pre_ln2_finite := by
  intro m ρ m' ρ' hf hag
  refine ⟨fun c => (Cert.Ln2Ideal.Gen.dats m 0 c).arrAt 8 Cert.Ln2Ideal.cfg0.N, fun c => (Cert.Ln2Ideal.Gen.dats m 0 c).arrAt 9 Cert.Ln2Ideal.cfg0.N,
    fun c => (Cert.Ln2Ideal.Gen.dats m 0 c).arrAt 10 Cert.Ln2Ideal.cfg0.N, Cert.Ln2Ideal.Value.run_blocks m ρ,
    (θ_run Cert.Ln2RefIdeal.defs _ _).mono (fun r h c => ⟨?_, ?_, ?_, (h c).2.2.2⟩) (Cert.Ln2RefIdeal.Value.run (F := Ideal) m' ρ')⟩
  · obtain ⟨e0, e1, e2, e3, e4, e5, e6, e7⟩ := hag c
    refine ((h c).1.trans (Cert.Ln2RefIdeal.Read.val_main_v104_eq _)).trans ?_
    change Cert.Ln2RefIdeal.Read.val_main_v104 (F := Ideal) (m' ((c.tc : Thread Cert.Ln2RefIdeal.nD Cert.Ln2RefIdeal.τ).loc Cert.Ln2RefIdeal.main_arg0)) (m' ((c.tc : Thread Cert.Ln2RefIdeal.nD Cert.Ln2RefIdeal.τ).loc Cert.Ln2RefIdeal.main_arg1)) (m' ((c.tc : Thread Cert.Ln2RefIdeal.nD Cert.Ln2RefIdeal.τ).loc Cert.Ln2RefIdeal.main_arg2)) (m' ((c.tc : Thread Cert.Ln2RefIdeal.nD Cert.Ln2RefIdeal.τ).loc Cert.Ln2RefIdeal.main_arg3)) (m' ((c.tc : Thread Cert.Ln2RefIdeal.nD Cert.Ln2RefIdeal.τ).loc Cert.Ln2RefIdeal.main_arg4)) (m' ((c.tc : Thread Cert.Ln2RefIdeal.nD Cert.Ln2RefIdeal.τ).loc Cert.Ln2RefIdeal.main_arg5)) (m' ((c.tc : Thread Cert.Ln2RefIdeal.nD Cert.Ln2RefIdeal.τ).loc Cert.Ln2RefIdeal.main_arg6)) (m' ((c.tc : Thread Cert.Ln2RefIdeal.nD Cert.Ln2RefIdeal.τ).loc Cert.Ln2RefIdeal.main_arg7)) = _
    rw [e0, e1, e2, e3, e4, e5, e6, e7]
    exact (agree m hf c).1.symm
  · obtain ⟨e0, e1, e2, e3, e4, e5, e6, e7⟩ := hag c
    refine ((h c).2.1.trans (Cert.Ln2RefIdeal.Read.val_main_v109_eq _)).trans ?_
    change Cert.Ln2RefIdeal.Read.val_main_v109 (F := Ideal) (m' ((c.tc : Thread Cert.Ln2RefIdeal.nD Cert.Ln2RefIdeal.τ).loc Cert.Ln2RefIdeal.main_arg0)) (m' ((c.tc : Thread Cert.Ln2RefIdeal.nD Cert.Ln2RefIdeal.τ).loc Cert.Ln2RefIdeal.main_arg1)) (m' ((c.tc : Thread Cert.Ln2RefIdeal.nD Cert.Ln2RefIdeal.τ).loc Cert.Ln2RefIdeal.main_arg2)) (m' ((c.tc : Thread Cert.Ln2RefIdeal.nD Cert.Ln2RefIdeal.τ).loc Cert.Ln2RefIdeal.main_arg3)) (m' ((c.tc : Thread Cert.Ln2RefIdeal.nD Cert.Ln2RefIdeal.τ).loc Cert.Ln2RefIdeal.main_arg4)) (m' ((c.tc : Thread Cert.Ln2RefIdeal.nD Cert.Ln2RefIdeal.τ).loc Cert.Ln2RefIdeal.main_arg5)) (m' ((c.tc : Thread Cert.Ln2RefIdeal.nD Cert.Ln2RefIdeal.τ).loc Cert.Ln2RefIdeal.main_arg6)) (m' ((c.tc : Thread Cert.Ln2RefIdeal.nD Cert.Ln2RefIdeal.τ).loc Cert.Ln2RefIdeal.main_arg7)) = _
    rw [e0, e1, e2, e3, e4, e5, e6, e7]
    exact (agree m hf c).2.1.symm
  · obtain ⟨e0, e1, e2, e3, e4, e5, e6, e7⟩ := hag c
    refine ((h c).2.2.1.trans (Cert.Ln2RefIdeal.Read.val_main_v110_eq _)).trans ?_
    change Cert.Ln2RefIdeal.Read.val_main_v110 (F := Ideal) (m' ((c.tc : Thread Cert.Ln2RefIdeal.nD Cert.Ln2RefIdeal.τ).loc Cert.Ln2RefIdeal.main_arg0)) (m' ((c.tc : Thread Cert.Ln2RefIdeal.nD Cert.Ln2RefIdeal.τ).loc Cert.Ln2RefIdeal.main_arg1)) (m' ((c.tc : Thread Cert.Ln2RefIdeal.nD Cert.Ln2RefIdeal.τ).loc Cert.Ln2RefIdeal.main_arg2)) (m' ((c.tc : Thread Cert.Ln2RefIdeal.nD Cert.Ln2RefIdeal.τ).loc Cert.Ln2RefIdeal.main_arg3)) (m' ((c.tc : Thread Cert.Ln2RefIdeal.nD Cert.Ln2RefIdeal.τ).loc Cert.Ln2RefIdeal.main_arg4)) (m' ((c.tc : Thread Cert.Ln2RefIdeal.nD Cert.Ln2RefIdeal.τ).loc Cert.Ln2RefIdeal.main_arg5)) (m' ((c.tc : Thread Cert.Ln2RefIdeal.nD Cert.Ln2RefIdeal.τ).loc Cert.Ln2RefIdeal.main_arg6)) (m' ((c.tc : Thread Cert.Ln2RefIdeal.nD Cert.Ln2RefIdeal.τ).loc Cert.Ln2RefIdeal.main_arg7)) = _
    rw [e0, e1, e2, e3, e4, e5, e6, e7]
    exact (agree m hf c).2.2.symm
end Cert.Proof.ALn2
end
-- ==== Proof.MlpUp.lean ====
module

public import proofs.«01_k».proof.Proof.Gen.MlpUpIdeal.Value
public import proofs.«01_k».proof.Proof.Gen.MlpUpRefIdeal.Read
public import Idealize.ShloMosaic.Lib.Pipeline.ValueKit

@[expose] public section

set_option maxRecDepth 16384

noncomputable section

/-! The channel sublayer's first product and its squared relu: the kernel's two results are the reference's. -/
namespace Cert.Proof.MlpUp

open Idealize.ShloMosaic Idealize.ShloMosaic.TcCoe Idealize.SL.Sem
open Idealize.ShloMosaic.Pipeline (Dat)
open Cert.MlpUpIdeal Cert.MlpUpIdeal.Gen

variable (m : (ℓ : Loc nD τ sig) → Buf (Elt Ideal) ℓ)

/-- The index maps of the four windows, in closed form. -/
theorem idx : ∀ t : Fin cfg0.N,
    win0_0.index t = ![(grid0.coords t 1).val, 0] ∧ win0_1.index t = ![(grid0.coords t 0).val, 0, 0]
      ∧ win0_2.index t = ![(grid0.coords t 1).val, (grid0.coords t 0).val]
      ∧ win0_3.index t = ![(grid0.coords t 1).val, (grid0.coords t 0).val] :=
  (by decide +kernel : ∀ t : Fin grid0.N, _)

/-- The normed input enters the call as launched: its rounding to the narrow format is the identity here. -/
theorem entry_h (c : Dev nD) : V m c main_v3 = m ((c : Thread nD τ).loc main_arg0) := by
  entry_read
  funext i
  pointwise

/-- The product at an index. -/
theorem ref0 (x0 x1) (i : Cert.MlpUpRefIdeal.S8192x4096.Idx) :
    Cert.MlpUpRefIdeal.Read.val_main_v0 (F := Ideal) x0 x1 i = ∑ k : Fin 1024, x0 (ix2 (i 0) k) * x1 (ix2 k (i 1)) := by
  rw [Cert.MlpUpRefIdeal.Read.val_main_v0_apply]
  pointwise
  blk_point []

set_option backward.isDefEq.respectTransparency false in
/-- What the body multiplies out at an index of its block is the product at the index of the array the block puts it at. -/
theorem prod (c : Dev nD) (t : Fin cfg0.N) (y) :
    k0_pay1 (iblk m c 0 t) (iblk m c 1 t) y
      = Cert.MlpUpRefIdeal.Read.val_main_v0 (F := Ideal) (m ((c : Thread nD τ).loc main_arg0)) (m ((c : Thread nD τ).loc main_arg1)) (((cfg0.win 2).blk t).view.emb y) := by
  rw [ref0, ← entry_h m c]
  pointwise [k0_pay1]
  blk_point [iblk, idx t]

set_option backward.isDefEq.respectTransparency false in
/-- The squared relu at an index of the block. -/
theorem point3 (c : Dev nD) (t : Fin cfg0.N) (y) :
    k0_pay3 (iblk m c 0 t) (iblk m c 1 t) y
      = Cert.MlpUpRefIdeal.Read.val_main_v4 (F := Ideal) (m ((c : Thread nD τ).loc main_arg0)) (m ((c : Thread nD τ).loc main_arg1)) (((cfg0.win 3).blk t).view.emb y) := by
  have h := prod m c t y
  have e : ((cfg0.win 3).blk t).view.emb y = ((cfg0.win 2).blk t).view.emb y := by
    blk_ext [idx t]
  rw [e]
  simp only [Cert.MlpUpRefIdeal.Read.val_main_v4_apply, Cert.MlpUpRefIdeal.Read.val_main_v3_apply, Cert.MlpUpRefIdeal.Read.val_main_v2_apply, Cert.MlpUpRefIdeal.Read.val_main_call0_v0_apply, Cert.MlpUpRefIdeal.Read.val_main_call0_cst_apply]
  rw [← h]
  rfl

/-- The first result array after the run is the reference's product. -/
theorem final2 (c : Dev nD) : (dats m 0 c).arrAt 2 cfg0.N
    = Cert.MlpUpRefIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact prod m c t y

/-- The second result array after the run is the reference's squared relu. -/
theorem final3 (c : Dev nD) : (dats m 0 c).arrAt 3 cfg0.N
    = Cert.MlpUpRefIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point3 m c t y

end Cert.Proof.MlpUp
end
-- ==== Proof.AMlpUp.lean ====
module
public import proofs.«01_k».proof.Defs
public import proofs.«01_k».proof.Proof.Gen.MlpUp.Frame
public import proofs.«01_k».proof.Proof.Gen.MlpUpRefIdeal.Run
public import proofs.«01_k».proof.Proof.MlpUp
public import Idealize.ShloMosaic.Adequacy
public import Idealize.ShloMosaic.Init
@[expose] public section
set_option maxRecDepth 16384
noncomputable section
/-! The claims of the channel sublayer's forward. -/
namespace Cert.Proof.AMlpUp
open Idealize.ShloMosaic Idealize.SL.Sem

/-- The reference is host code without a semaphore: its run keeps the arguments. -/
theorem frame_ref : Cert.quiescent_MlpUpRefIdeal := fun m ρ _ =>
  (θ_run Cert.MlpUpRefIdeal.defs _ _).mono (fun r h => ⟨fun c => (h c).2.2,
      Idealize.ShloMosaic.sem_eq_zero_of_no_sems (by decide) r.2⟩)
    (Cert.MlpUpRefIdeal.Value.run (F := Ideal) m ρ)

theorem algebraic : Cert.algebraic_MlpUpIdeal_MlpUpRefIdeal := by
  intro m ρ m' ρ' _ hag
  refine ⟨fun c => (Cert.MlpUpIdeal.Gen.dats m 0 c).arrAt 2 Cert.MlpUpIdeal.cfg0.N, fun c => (Cert.MlpUpIdeal.Gen.dats m 0 c).arrAt 3 Cert.MlpUpIdeal.cfg0.N, Cert.MlpUpIdeal.Value.run_blocks m ρ,
    (θ_run Cert.MlpUpRefIdeal.defs _ _).mono (fun r h c => ⟨?_, ?_, (h c).2.2⟩) (Cert.MlpUpRefIdeal.Value.run (F := Ideal) m' ρ')⟩
  · obtain ⟨e0, e1⟩ := hag c
    refine ((h c).1.trans (Cert.MlpUpRefIdeal.Read.val_main_v1_eq _ _)).trans ?_
    rw [e0, e1]
    exact (MlpUp.final2 m c).symm
  · obtain ⟨e0, e1⟩ := hag c
    refine ((h c).2.1.trans (Cert.MlpUpRefIdeal.Read.val_main_v4_eq _ _)).trans ?_
    rw [e0, e1]
    exact (MlpUp.final3 m c).symm
end Cert.Proof.AMlpUp
end
-- ==== Proof.Conv.lean ====
module
public import Idealize.ShloMosaic.Lib.Pipeline.ValueKit
@[expose] public section
noncomputable section
/-! The convolution's gradient with respect to its input, at a position and a channel. -/
namespace Cert.Proof.Conv
open Idealize.ShloMosaic Idealize.ShloMosaic.TcCoe

variable (x : (⟨2, ![8192, 3072]⟩ : Shape).Idx → EReal) (w : (⟨2, ![5, 3072]⟩ : Shape).Idx → EReal)

/-- The cotangent at a position shifted by eight, zero past both ends. -/
def D (n l : ℕ) : EReal := if h : (8 ≤ n ∧ n < 8200) ∧ l < 3072 then x (ix2 ⟨n - 8, by omega⟩ ⟨l, h.2⟩) else 0
/-- A tap of a channel. -/
def W (k : Fin 5) (l : ℕ) : EReal := if h : l < 3072 then w (ix2 k ⟨l, h⟩) else 0
/-- The five taps, turned around. -/
def G (n l : ℕ) : EReal := W w 0 l * D x (n + 10) l + W w 1 l * D x (n + 9) l + W w 2 l * D x (n + 8) l + W w 3 l * D x (n + 7) l + W w 4 l * D x (n + 6) l

/-- The convolution's columns of the packed projection. -/
def cols (u : (⟨2, ![8192, 9728]⟩ : Shape).Idx → EReal) : (⟨2, ![8192, 3072]⟩ : Shape).Idx → EReal := fun i => u (ix2 ⟨(i 0).val, (i 0).isLt⟩ ⟨4096 + (i 1).val, by have h : (i 1).val < 3072 := (i 1).isLt; omega⟩)
/-- The shift of a channel. -/
def B (b : (⟨1, ![3072]⟩ : Shape).Idx → EReal) (l : ℕ) : EReal := if h : l < 3072 then b (ix1 ⟨l, h⟩) else 0
/-- The convolution at a position and a channel. -/
def H (b : (⟨1, ![3072]⟩ : Shape).Idx → EReal) (n l : ℕ) : EReal :=
  B b l + W w 0 l * D x (n + 6) l + W w 1 l * D x (n + 7) l + W w 2 l * D x (n + 8) l + W w 3 l * D x (n + 9) l + W w 4 l * D x (n + 10) l
/-- The gate of a value by its own logistic. -/
def silu (x : EReal) : EReal := x * Ideal.div 1 (1 + Ideal.exp (0 - x))
/-- The logistic. -/
def sg (x : EReal) : EReal := Ideal.div 1 (1 + Ideal.exp (0 - x))
/-- The gradient of the gate, of the value before it and of the cotangent after it. -/
def gate (a v : EReal) : EReal := v * (sg a * (1 + a * (1 - sg a)))
variable (ds : (⟨1, ![32]⟩ : Shape).Idx → EReal) (dxs dy : (⟨2, ![8192, 2048]⟩ : Shape).Idx → EReal) (dbc : (⟨2, ![8192, 1024]⟩ : Shape).Idx → EReal)
/-- The cotangent after the gate: from the recurrence and the skip at the first channels, from the recurrence at the others. -/
def U (n l : ℕ) : EReal := if h : n < 8192 ∧ l < 3072 then
  (if h' : l < 2048 then dxs (ix2 ⟨n, h.1⟩ ⟨l, h'⟩) + ds (ix1 ⟨l / 64, by omega⟩) * dy (ix2 ⟨n, h.1⟩ ⟨l, h'⟩) else dbc (ix2 ⟨n, h.1⟩ ⟨l - 2048, by omega⟩)) else 0
end Cert.Proof.Conv
end
-- ==== Proof.PConv.lean ====
module
public import proofs.«01_k».proof.Proof.Gen.ConvDxIdeal.Value
public import proofs.«01_k».proof.Proof.Conv
public import Idealize.ShloMosaic.Lib.StableHlo.RunRead
@[expose] public section
set_option maxRecDepth 16384
noncomputable section
/-! The kernel of the convolution's gradient with respect to its input: what it leaves in its array. -/
namespace Cert.Proof.PConv
open Idealize.ShloMosaic Idealize.ShloMosaic.TcCoe Idealize.SL.Sem
open Cert.ConvDxIdeal Cert.ConvDxIdeal.Gen
variable (m : (ℓ : Loc nD τ sig) → Buf (Elt Ideal) ℓ) (c : Dev nD)

/-- The launched arrays. -/
abbrev ct := m ((c : Thread nD τ).loc main_arg3)
abbrev taps := m ((c : Thread nD τ).loc main_arg1)

/-- The index maps of the windows, in closed form. -/
theorem idx : ∀ t : Fin cfg0.N,
    win0_0.index t = ![max (64 * (grid0.coords t 1).val - 1) 0, (grid0.coords t 0).val]
      ∧ win0_1.index t = ![(grid0.coords t 1).val, (grid0.coords t 0).val]
      ∧ win0_2.index t = ![min (64 * ((grid0.coords t 1).val + 1)) 1023, (grid0.coords t 0).val]
      ∧ win0_3.index t = ![0, (grid0.coords t 0).val]
      ∧ win0_4.index t = ![(grid0.coords t 1).val, 4 + (grid0.coords t 0).val] :=
  (by decide +kernel : ∀ t : Fin grid0.N, _)
theorem small (t : Fin cfg0.N) : (grid0.coords t 0).val < 3 ∧ (grid0.coords t 1).val < 16 := ⟨(grid0.coords t 0).isLt, (grid0.coords t 1).isLt⟩

/-- The branches at the two ends. -/
theorem first : ∀ n : Fin 16, Scalar.cmpi .sgt (BitVec.ofNat 32 n.val) 0#32 = if 0 < n.val then 1#1 else 0#1 := by decide
theorem last : ∀ n : Fin 16, Scalar.cmpi .slt (BitVec.ofNat 32 n.val) 15#32 = if n.val < 15 then 1#1 else 0#1 := by decide

theorem tap_at (t : Fin cfg0.N) (k : Fin 5) (l : Fin 1024) (n : ℕ) (hn : n = 1024 * (grid0.coords t 0).val + l.val) :
    (iblk m c 3 t (ix2 k l) : EReal) = Conv.W (taps m c) k n := by
  subst hn
  have := small t
  unfold Conv.W
  rw [dif_pos (by omega)]
  blk_point [iblk, idx t, V]

/-- The three blocks of the cotangent. -/
theorem prev_at (t : Fin cfg0.N) (q : 0 < (grid0.coords t 1).val) (k : Fin 8) (l : Fin 1024) (n o : ℕ) (hn : n = 512 * (grid0.coords t 1).val + k.val)
    (ho : o = 1024 * (grid0.coords t 0).val + l.val) : (iblk m c 0 t (ix2 k l) : EReal) = Conv.D (ct m c) n o := by
  subst hn ho
  have := small t
  unfold Conv.D
  rw [dif_pos (by omega)]
  blk_point [iblk, idx t, V]
theorem cur_at (t : Fin cfg0.N) (k : Fin 512) (l : Fin 1024) (n o : ℕ) (hn : n = 512 * (grid0.coords t 1).val + (8 + k.val))
    (ho : o = 1024 * (grid0.coords t 0).val + l.val) : (iblk m c 1 t (ix2 k l) : EReal) = Conv.D (ct m c) n o := by
  subst hn ho
  have := small t
  unfold Conv.D
  rw [dif_pos (by omega)]
  blk_point [iblk, idx t, V]
theorem next_at (t : Fin cfg0.N) (q : (grid0.coords t 1).val < 15) (k : Fin 8) (l : Fin 1024) (n o : ℕ)
    (hn : n = 512 * (grid0.coords t 1).val + (520 + k.val))
    (ho : o = 1024 * (grid0.coords t 0).val + l.val) : (iblk m c 2 t (ix2 k l) : EReal) = Conv.D (ct m c) n o := by
  subst hn ho
  have := small t
  unfold Conv.D
  rw [dif_pos (by omega)]
  blk_point [iblk, idx t, V]

/-- The rows before, of and after a block, at an index. -/
theorem ext_at (t : Fin cfg0.N) (i : S528x1024.Idx) :
    View.canon (s := S528x1024) [⟨Rect.unit ![520, 0] ![8, 1024] inb_S528x1024_S8x1024_520_0,
        Scalar.select (Scalar.cmpi CmpIPredicate.slt (BitVec.ofNat 32 ↑(grid0.coords t 1)) 15#32) (iblk m c 2 t) (broadcast S8x1024 (0 : Elt Ideal .f32))⟩,
      ⟨Rect.unit ![8, 0] ![512, 1024] inb_S528x1024_S512x1024_8_0, iblk m c 1 t⟩,
      ⟨Rect.unit ![0, 0] ![8, 1024] inb_S528x1024_S8x1024_0_0,
        Scalar.select (Scalar.cmpi CmpIPredicate.sgt (BitVec.ofNat 32 ↑(grid0.coords t 1)) 0#32) (iblk m c 0 t) (broadcast S8x1024 (0 : Elt Ideal .f32))⟩] i
    = Conv.D (ct m c) (512 * (grid0.coords t 1).val + (i 0).val) (1024 * (grid0.coords t 0).val + (i 1).val) := by
  have sm := small t
  have f := first (grid0.coords t 1)
  have l := last (grid0.coords t 1)
  rw [f, l]
  have r0 : (i 0).val < 528 := (i 0).isLt
  have r1 : (i 1).val < 1024 := (i 1).isLt
  canon_tiles x h using (by
    by_cases q : (i 0).val < 8
    · exact ⟨_, .tail _ (.tail _ (.head _)), (Rect.mem_set_unit (inb := inb_S528x1024_S8x1024_0_0)).2 (Fin.forall_fin_two.2 (by simp; omega))⟩
    by_cases q' : (i 0).val < 520
    · exact ⟨_, .tail _ (.head _), (Rect.mem_set_unit (inb := inb_S528x1024_S512x1024_8_0)).2 (Fin.forall_fin_two.2 (by simp; omega))⟩
    · exact ⟨_, .head _, (Rect.mem_set_unit (inb := inb_S528x1024_S8x1024_520_0)).2 (Fin.forall_fin_two.2 (by simp; omega))⟩)
  case piece0 =>
    by_cases q : (grid0.coords t 1).val < 15
    · rw [if_pos q]
      idx_vars x
      exact next_at m c t q _ _ _ _ (by simpa using h0) (by simpa using h1)
    · rw [if_neg q]
      refine Eq.trans ?_ (dif_neg (by omega)).symm
      rfl
  case piece1 =>
    idx_vars x
    exact cur_at m c t _ _ _ _ (by simpa using h0) (by simpa using h1)
  case piece2 =>
    by_cases q : 0 < (grid0.coords t 1).val
    · rw [if_pos q]
      idx_vars x
      exact prev_at m c t q _ _ _ _ (by simpa using h0) (by simpa using h1)
    · rw [if_neg q]
      refine Eq.trans ?_ (dif_neg (by omega)).symm
      rfl

/-- Where a block's index lies in the array. -/
theorem emb_y (t : Fin cfg0.N) (y : ((cfg0.win 4).xblock (cfg0.grid.coords t)).Idx) : ((((cfg0.win 4).blk t).view.emb y) 0 : ℕ) = 512 * (grid0.coords t 1).val + (y 0 : ℕ)
    ∧ ((((cfg0.win 4).blk t).view.emb y) 1 : ℕ) = 4096 + 1024 * (grid0.coords t 0).val + (y 1 : ℕ) := by
  constructor <;> blk_simp [idx t] <;> omega

set_option maxHeartbeats 4000000 in
/-- What a point leaves in its block. -/
theorem point (t : Fin cfg0.N) (y : S512x1024.Idx) : (outsAt0 m c t y : EReal)
    = Conv.G (ct m c) (taps m c) (512 * (grid0.coords t 1).val + (y 0 : ℕ)) (1024 * (grid0.coords t 0).val + (y 1 : ℕ)) := by
  have sm := small t
  unfold outsAt0
  frame_out
  canon_tiles x h
  all_goals
    open_payloads
    pointwise
    simp only [View.readCov_eq_canon']
    unfold Conv.G
    refine congrArg₂ (· + ·) (congrArg₂ (· + ·) (congrArg₂ (· + ·) (congrArg₂ (· + ·) ?_ ?_) ?_) ?_) ?_
    all_goals
      refine congrArg₂ (· * ·) (tap_at m c t _ _ _ (by dsimp only; omega)) ((ext_at m c t _).trans (congrArg₂ (Conv.D _) ?_ ?_))
      all_goals
        simp [LoadRect.idx_apply]
        omega

/-- The kernel's array: the gradient at the convolution's columns, what it was elsewhere. -/
theorem final : ((dats m 0 c).arrAt 4 cfg0.N : S8192x9728.Idx → EReal)
    = fun i => if 4 ≤ ((i 1 : ℕ) / 1024) ∧ ((i 1 : ℕ) / 1024) < 7 then Conv.G (ct m c) (taps m c) (i 0 : ℕ) ((i 1 : ℕ) - 4096) else (m (c, Proc.tc.devRef main_arg4) i : EReal) := by
  have hc : (cfg0.win 4).CoversWhere (fun β => 4 ≤ β 1 ∧ β 1 < 7) := by decide +kernel
  have h : ((dats m 0 c).arrAt 4 cfg0.N : S8192x9728.Idx → EReal)
      = fun i => if 4 ≤ ((i 1 : ℕ) / 1024) ∧ ((i 1 : ℕ) / 1024) < 7 then Conv.G (ct m c) (taps m c) (i 0 : ℕ) ((i 1 : ℕ) - 4096) else ((dats m 0 c).A 4 i : EReal) := by
    refine (dats m 0 c).arrAt_eq_of_coversWhere 4 (fun i => Conv.G (ct m c) (taps m c) (i 0 : ℕ) ((i 1 : ℕ) - 4096)) (fun β => 4 ≤ β 1 ∧ β 1 < 7) hc ?_ ?_
    · intro t hf y
      have e := emb_y t y
      rw [after0_4]
      refine (point m c t _).trans (congrArg₂ (Conv.G _ _) e.1.symm ?_)
      refine Eq.trans ?_ (congrArg (· - 4096) e.2.symm)
      dsimp only
      rw [Nat.add_assoc, Nat.add_sub_cancel_left]
    · intro j
      blk_simp [Pipeline.Window.cell_apply]
  have e : (V m c main_v0 : S8192x9728.Idx → EReal) = m (c, Proc.tc.devRef main_arg4) := by
    unfold V
    after_reads_simp
    rfl
  have h' : ∀ i, ((dats m 0 c).A 4 i : EReal) = (m (c, Proc.tc.devRef main_arg4) i : EReal) := by
    intro i
    rw [A_eq]
    exact congrFun (e : (V m c main_v0 : S8192x9728.Idx → EReal) = m (c, Proc.tc.devRef main_arg4)) i
  rw [h]
  simp only [h']
  rfl
end Cert.Proof.PConv
end
-- ==== Proof.RConv.lean ====
module
public import proofs.«01_k».proof.Proof.Gen.ConvDxRefIdeal.Read
public import proofs.«01_k».proof.Proof.Conv
@[expose] public section
set_option maxRecDepth 16384
noncomputable section
/-! The reference of the convolution's gradient with respect to its input, at a position and a column. -/
namespace Cert.Proof.RConv
open Idealize.ShloMosaic Idealize.ShloMosaic.TcCoe Idealize.SL.Sem
open Cert.ConvDxRefIdeal Cert.ConvDxRefIdeal.Gen Cert.ConvDxRefIdeal.Read

variable (w : S5x3072.Idx → EReal) (x : S8192x3072.Idx → EReal) (u : S8192x9728.Idx → EReal)

/-- A padded product, at a row. -/
theorem cell (k : Fin 5) (p : ℕ) (n : ℕ) (l : Fin 3072) (s : Fin 8196) (hs : s.val = n + 2) (hn : n < 8192) (hp : p ≤ 4) (q : (p ≤ s.val ∧ s.val - p < 8192) → s.val - p < 8192) :
    ((if h : p ≤ s.val ∧ s.val - p < 8192 then x (ix2 ⟨s.val - p, q h⟩ l) * w (ix2 k l) else 0 : EReal))
      = Conv.W w k l * Conv.D x (n + (10 - p)) l := by
  unfold Conv.W Conv.D
  rw [dif_pos l.isLt]
  by_cases h : p ≤ s.val ∧ s.val - p < 8192
  · rw [dif_pos h, dif_pos (by omega), mul_comm]
    exact congrArg (fun r => (w (ix2 k l) * x (ix2 r l) : EReal)) (Fin.ext (by dsimp only; omega))
  · rw [dif_neg h, dif_neg (by omega), mul_zero]

/-- The five turned taps. -/
theorem p0 (n : ℕ) (l : Fin 3072) (s : Fin 8196) (hs : s.val = n + 2) (hn : n < 8192) :
    val_main_v62 (F := Ideal) w x (ix2 s l) = Conv.W w 0 l * Conv.D x (n + 10) l := by
  pointwise [val_main_v62, val_main_v61, val_main_v60, val_main_v43, val_main_v7, val_main_v6, val_main_v5, val_main_cst_7]
  unfold Conv.W Conv.D
  rw [dif_pos l.isLt]
  by_cases h : s.val < 8192
  · rw [dif_pos h, dif_pos (by omega), mul_comm]
    exact congrArg (fun r => (w (ix2 0 l) * x (ix2 r l) : EReal)) (Fin.ext (by dsimp only; omega))
  · rw [dif_neg h, dif_neg (by omega), mul_zero]
theorem p1 (n : ℕ) (l : Fin 3072) (s : Fin 8196) (hs : s.val = n + 2) (hn : n < 8192) :
    val_main_v58 (F := Ideal) w x (ix2 s l) = Conv.W w 1 l * Conv.D x (n + 9) l := by
  pointwise [val_main_v58, val_main_v57, val_main_v56, val_main_v43, val_main_v15, val_main_v14, val_main_v13, val_main_cst_6]
  exact cell w x 1 1 n l s hs hn (by omega) _
theorem p2 (n : ℕ) (l : Fin 3072) (s : Fin 8196) (hs : s.val = n + 2) (hn : n < 8192) :
    val_main_v54 (F := Ideal) w x (ix2 s l) = Conv.W w 2 l * Conv.D x (n + 8) l := by
  pointwise [val_main_v54, val_main_v53, val_main_v52, val_main_v43, val_main_v22, val_main_v21, val_main_v20, val_main_cst_5]
  exact cell w x 2 2 n l s hs hn (by omega) _
theorem p3 (n : ℕ) (l : Fin 3072) (s : Fin 8196) (hs : s.val = n + 2) (hn : n < 8192) :
    val_main_v50 (F := Ideal) w x (ix2 s l) = Conv.W w 3 l * Conv.D x (n + 7) l := by
  pointwise [val_main_v50, val_main_v49, val_main_v48, val_main_v43, val_main_v29, val_main_v28, val_main_v27, val_main_cst_4]
  exact cell w x 3 3 n l s hs hn (by omega) _
theorem p4 (n : ℕ) (l : Fin 3072) (s : Fin 8196) (hs : s.val = n + 2) (hn : n < 8192) :
    val_main_v47 (F := Ideal) w x (ix2 s l) = Conv.W w 4 l * Conv.D x (n + 6) l := by
  pointwise [val_main_v47, val_main_v46, val_main_v45, val_main_v44, val_main_v43, val_main_v36, val_main_v35, val_main_v34, val_main_cst_3]
  exact cell w x 4 4 n l s hs hn (by omega) _
/-- The reference's array. -/
theorem out (t : Fin 8192) (l : Fin 9728) :
    val_main_v70 (F := Ideal) w x u (ix2 t l) = if 4096 ≤ l.val ∧ l.val < 7168 then Conv.G x w t (l.val - 4096) else u (ix2 t l) := by
  unfold val_main_v70 val_main_v67
  by_cases h : 4096 ≤ l.val ∧ l.val < 7168
  · rw [if_pos h]
    pointwise
    rw [dif_neg (by omega), dif_pos (by omega)]
    pointwise [val_main_v65, val_main_v63, val_main_v59, val_main_v55, val_main_v51]
    rw [p0 w x t.val _ _ (Nat.add_comm 2 _) t.isLt, p1 w x t.val _ _ (Nat.add_comm 2 _) t.isLt, p2 w x t.val _ _ (Nat.add_comm 2 _) t.isLt,
      p3 w x t.val _ _ (Nat.add_comm 2 _) t.isLt, p4 w x t.val _ _ (Nat.add_comm 2 _) t.isLt]
    unfold Conv.G
    dsimp only
    abel
  · rw [if_neg h]
    pointwise [val_main_v68, val_main_v69]
    by_cases g : l.val < 4096
    · rw [dif_pos g]
    · rw [dif_neg g, dif_neg (by omega)]
      exact congrArg (fun k => u (ix2 t k)) (Fin.ext (by dsimp only; omega))
end Cert.Proof.RConv
end
-- ==== Proof.AConv.lean ====
module
public import proofs.«01_k».proof.Defs
public import proofs.«01_k».proof.Proof.PConv
public import proofs.«01_k».proof.Proof.RConv
public import proofs.«01_k».proof.Proof.Gen.ConvDx.Frame
public import proofs.«01_k».proof.Proof.Gen.ConvDxRefIdeal.Run
public import Idealize.ShloMosaic.Adequacy
public import Idealize.ShloMosaic.Init
@[expose] public section
noncomputable section
/-! The claims about the convolution's gradient with respect to its input. -/
namespace Cert.Proof.AConv
open Idealize.ShloMosaic Idealize.SL.Sem

theorem frame_ref : Cert.quiescent_ConvDxRefIdeal :=
  fun m ρ _ => (θ_run _ _ _).mono (fun r h => ⟨fun c => (h c).2, Idealize.ShloMosaic.sem_eq_zero_of_no_sems (by decide) r.2⟩)
    (Cert.ConvDxRefIdeal.Value.run (F := Ideal) m ρ)

/-- The two arrays agree. -/
theorem agree (m : (ℓ : Loc Cert.ConvDxIdeal.nD Cert.ConvDxIdeal.τ Cert.ConvDxIdeal.sig) → Buf (Elt Ideal) ℓ) (c : Dev Cert.ConvDxIdeal.nD) :
    (Cert.ConvDxRefIdeal.Read.val_main_v70 (F := Ideal) (m (c, Proc.tc.devRef Cert.ConvDxIdeal.main_arg1)) (m (c, Proc.tc.devRef Cert.ConvDxIdeal.main_arg3))
      (m (c, Proc.tc.devRef Cert.ConvDxIdeal.main_arg4)) : Cert.ConvDxIdeal.S8192x9728.Idx → EReal)
      = (Cert.ConvDxIdeal.Gen.dats m 0 c).arrAt 4 Cert.ConvDxIdeal.cfg0.N := by
  refine Eq.trans ?_ (PConv.final m c).symm
  funext i
  obtain ⟨t, l, rfl⟩ : ∃ (t : Fin 8192) (l : Fin 9728), i = ix2 t l := ⟨_, _, eq_ix2 i⟩
  refine (RConv.out _ _ _ t l).trans ?_
  by_cases hl : 4096 ≤ l.val ∧ l.val < 7168
  · exact (if_pos hl).trans (if_pos (show 4 ≤ l.val / 1024 ∧ l.val / 1024 < 7 by omega)).symm
  · exact (if_neg hl).trans (if_neg (show ¬(4 ≤ l.val / 1024 ∧ l.val / 1024 < 7) by omega)).symm

theorem algebraic : Cert.algebraic_ConvDxIdeal_ConvDxRefIdeal := by
  intro m ρ m' ρ' _ hag
  refine ⟨fun c => (Cert.ConvDxIdeal.Gen.dats m 0 c).arrAt 4 Cert.ConvDxIdeal.cfg0.N, Cert.ConvDxIdeal.Value.run_blocks m ρ,
    (θ_run Cert.ConvDxRefIdeal.defs _ _).mono (fun r h c => ⟨?_, (h c).2⟩) (Cert.ConvDxRefIdeal.Value.run (F := Ideal) m' ρ')⟩
  refine ((h c).1.trans (Cert.ConvDxRefIdeal.Read.val_main_v70_eq _ _ _)).trans ?_
  obtain ⟨-, e1, -, e3, e4⟩ := hag c
  have e : ∀ {x0 y0 x1 y1 x2 y2}, x0 = y0 → x1 = y1 → x2 = y2 →
      Cert.ConvDxRefIdeal.Read.val_main_v70 (F := Ideal) x0 x1 x2 = Cert.ConvDxRefIdeal.Read.val_main_v70 (F := Ideal) y0 y1 y2 := by
    rintro _ _ _ _ _ _ rfl rfl rfl; rfl
  exact (e e1 e3 e4).trans (agree m c)
end Cert.Proof.AConv
end
-- ==== Proof.PFwd.lean ====
module
public import proofs.«01_k».proof.Proof.Gen.ConvFwdIdeal.Value
public import proofs.«01_k».proof.Proof.Conv
public import Idealize.ShloMosaic.Lib.StableHlo.RunRead
@[expose] public section
set_option maxRecDepth 16384
noncomputable section
/-! The kernel of the convolution and its silu: what it leaves in its array. -/
namespace Cert.Proof.PFwd
open Idealize.ShloMosaic Idealize.ShloMosaic.TcCoe Idealize.SL.Sem
open Cert.ConvFwdIdeal Cert.ConvFwdIdeal.Gen
variable (m : (ℓ : Loc nD τ sig) → Buf (Elt Ideal) ℓ) (c : Dev nD)

/-- The launched arrays. -/
abbrev ct := Conv.cols (m ((c : Thread nD τ).loc main_arg0))
abbrev taps := m ((c : Thread nD τ).loc main_arg1)
abbrev shift := m ((c : Thread nD τ).loc main_arg2)

/-- The index maps of the windows, in closed form. -/
theorem idx : ∀ t : Fin cfg0.N,
    win0_0.index t = ![max (64 * (grid0.coords t 0).val - 1) 0, 4 + (grid0.coords t 1).val]
      ∧ win0_1.index t = ![(grid0.coords t 0).val, 4 + (grid0.coords t 1).val]
      ∧ win0_2.index t = ![min (64 * ((grid0.coords t 0).val + 1)) 1023, 4 + (grid0.coords t 1).val]
      ∧ win0_3.index t = ![0, (grid0.coords t 1).val]
      ∧ win0_4.index t = ![0, (grid0.coords t 1).val]
      ∧ win0_5.index t = ![(grid0.coords t 0).val, (grid0.coords t 1).val] :=
  (by decide +kernel : ∀ t : Fin grid0.N, _)
theorem small (t : Fin cfg0.N) : (grid0.coords t 1).val < 3 ∧ (grid0.coords t 0).val < 16 := ⟨(grid0.coords t 1).isLt, (grid0.coords t 0).isLt⟩

/-- The branches at the two ends. -/
theorem first : ∀ n : Fin 16, Scalar.cmpi .sgt (BitVec.ofNat 32 n.val) 0#32 = if 0 < n.val then 1#1 else 0#1 := by decide
theorem last : ∀ n : Fin 16, Scalar.cmpi .slt (BitVec.ofNat 32 n.val) 15#32 = if n.val < 15 then 1#1 else 0#1 := by decide

theorem tap_at (t : Fin cfg0.N) (k : Fin 5) (l : Fin 1024) (n : ℕ) (hn : n = 1024 * (grid0.coords t 1).val + l.val) :
    (iblk m c 3 t (ix2 k l) : EReal) = Conv.W (taps m c) k n := by
  subst hn
  have := small t
  unfold Conv.W
  rw [dif_pos (by omega)]
  blk_point [iblk, idx t, V]

/-- The shift enters the call as a row. -/
theorem entry_b (l : Fin 3072) : (V m c main_v0 (ix2 0 l) : EReal) = shift m c (ix1 l) := by
  entry_read
  pointwise
theorem shift_at (t : Fin cfg0.N) (l : Fin 1024) (n : ℕ) (hn : n = 1024 * (grid0.coords t 1).val + l.val) :
    (iblk m c 4 t (ix2 0 l) : EReal) = Conv.B (shift m c) n := by
  subst hn
  have := small t
  unfold Conv.B
  rw [dif_pos (by omega)]
  refine Eq.trans ?_ (entry_b m c _)
  blk_point [iblk, idx t]

/-- The blocks of the convolution's columns lie inside the packed projection. -/
theorem whole0 (t : Fin cfg0.N) (j : (cfg0.win 0).block.Idx) : (cfg0.win 0).moved (cfg0.grid.coords t) j = true :=
  ((cfg0.win 0).moved_iff _ j).mpr fun a => by
    have := (j a).isLt
    unfold Pipeline.Window.xsize
    rw [(by decide +kernel : ∀ (t : Fin grid0.N) (a : Fin 2), (win0_0).clip (grid0.coords t) a = none) t a]
    exact this
theorem whole1 (t : Fin cfg0.N) (j : (cfg0.win 1).block.Idx) : (cfg0.win 1).moved (cfg0.grid.coords t) j = true :=
  ((cfg0.win 1).moved_iff _ j).mpr fun a => by
    have := (j a).isLt
    unfold Pipeline.Window.xsize
    rw [(by decide +kernel : ∀ (t : Fin grid0.N) (a : Fin 2), (win0_1).clip (grid0.coords t) a = none) t a]
    exact this
theorem whole2 (t : Fin cfg0.N) (j : (cfg0.win 2).block.Idx) : (cfg0.win 2).moved (cfg0.grid.coords t) j = true :=
  ((cfg0.win 2).moved_iff _ j).mpr fun a => by
    have := (j a).isLt
    unfold Pipeline.Window.xsize
    rw [(by decide +kernel : ∀ (t : Fin grid0.N) (a : Fin 2), (win0_2).clip (grid0.coords t) a = none) t a]
    exact this

/-- The three blocks of the input. -/
theorem prev_at (t : Fin cfg0.N) (q : 0 < (grid0.coords t 0).val) (k : Fin 8) (l : Fin 1024) (n o : ℕ) (hn : n = 512 * (grid0.coords t 0).val + k.val)
    (ho : o = 1024 * (grid0.coords t 1).val + l.val) : ((win0 0).fill (α := Elt Ideal (cfg0.win 0).elt) (grid0.coords t) dflt0_0 (iblk m c 0 t) (ix2 k l) : EReal) = Conv.D (ct m c) n o := by
  subst hn ho
  have := small t
  unfold Conv.D
  rw [dif_pos (by omega)]
  unfold ct Conv.cols Pipeline.Window.fill
  rw [dif_pos (whole0 t _)]
  blk_point [iblk, idx t, V]
theorem cur_at (t : Fin cfg0.N) (k : Fin 512) (l : Fin 1024) (n o : ℕ) (hn : n = 512 * (grid0.coords t 0).val + (8 + k.val))
    (ho : o = 1024 * (grid0.coords t 1).val + l.val) : ((win0 1).fill (α := Elt Ideal (cfg0.win 1).elt) (grid0.coords t) dflt0_1 (iblk m c 1 t) (ix2 k l) : EReal) = Conv.D (ct m c) n o := by
  subst hn ho
  have := small t
  unfold Conv.D
  rw [dif_pos (by omega)]
  unfold ct Conv.cols Pipeline.Window.fill
  rw [dif_pos (whole1 t _)]
  blk_point [iblk, idx t, V]
theorem next_at (t : Fin cfg0.N) (q : (grid0.coords t 0).val < 15) (k : Fin 8) (l : Fin 1024) (n o : ℕ)
    (hn : n = 512 * (grid0.coords t 0).val + (520 + k.val))
    (ho : o = 1024 * (grid0.coords t 1).val + l.val) : ((win0 2).fill (α := Elt Ideal (cfg0.win 2).elt) (grid0.coords t) dflt0_2 (iblk m c 2 t) (ix2 k l) : EReal) = Conv.D (ct m c) n o := by
  subst hn ho
  have := small t
  unfold Conv.D
  rw [dif_pos (by omega)]
  unfold ct Conv.cols Pipeline.Window.fill
  rw [dif_pos (whole2 t _)]
  blk_point [iblk, idx t, V]

/-- The rows before, of and after a block, at an index. -/
theorem ext_at (t : Fin cfg0.N) (i : S528x1024.Idx) :
    View.canon (s := S528x1024) [⟨Rect.unit ![520, 0] ![8, 1024] inb_S528x1024_S8x1024_520_0,
        Scalar.select (Scalar.cmpi CmpIPredicate.slt (BitVec.ofNat 32 ↑(grid0.coords t 0)) 15#32) ((win0 2).fill (grid0.coords t) dflt0_2 (iblk m c 2 t)) (broadcast S8x1024 (0 : Elt Ideal .f32))⟩,
      ⟨Rect.unit ![8, 0] ![512, 1024] inb_S528x1024_S512x1024_8_0, (win0 1).fill (grid0.coords t) dflt0_1 (iblk m c 1 t)⟩,
      ⟨Rect.unit ![0, 0] ![8, 1024] inb_S528x1024_S8x1024_0_0,
        Scalar.select (Scalar.cmpi CmpIPredicate.sgt (BitVec.ofNat 32 ↑(grid0.coords t 0)) 0#32) ((win0 0).fill (grid0.coords t) dflt0_0 (iblk m c 0 t)) (broadcast S8x1024 (0 : Elt Ideal .f32))⟩] i
    = Conv.D (ct m c) (512 * (grid0.coords t 0).val + (i 0).val) (1024 * (grid0.coords t 1).val + (i 1).val) := by
  have sm := small t
  have f := first (grid0.coords t 0)
  have l := last (grid0.coords t 0)
  rw [f, l]
  have r0 : (i 0).val < 528 := (i 0).isLt
  have r1 : (i 1).val < 1024 := (i 1).isLt
  canon_tiles x h using (by
    by_cases q : (i 0).val < 8
    · exact ⟨_, .tail _ (.tail _ (.head _)), (Rect.mem_set_unit (inb := inb_S528x1024_S8x1024_0_0)).2 (Fin.forall_fin_two.2 (by simp; omega))⟩
    by_cases q' : (i 0).val < 520
    · exact ⟨_, .tail _ (.head _), (Rect.mem_set_unit (inb := inb_S528x1024_S512x1024_8_0)).2 (Fin.forall_fin_two.2 (by simp; omega))⟩
    · exact ⟨_, .head _, (Rect.mem_set_unit (inb := inb_S528x1024_S8x1024_520_0)).2 (Fin.forall_fin_two.2 (by simp; omega))⟩)
  case piece0 =>
    by_cases q : (grid0.coords t 0).val < 15
    · rw [if_pos q]
      idx_vars x
      exact next_at m c t q _ _ _ _ (by simpa using h0) (by simpa using h1)
    · rw [if_neg q]
      refine Eq.trans ?_ (dif_neg (by omega)).symm
      rfl
  case piece1 =>
    idx_vars x
    exact cur_at m c t _ _ _ _ (by simpa using h0) (by simpa using h1)
  case piece2 =>
    by_cases q : 0 < (grid0.coords t 0).val
    · rw [if_pos q]
      idx_vars x
      exact prev_at m c t q _ _ _ _ (by simpa using h0) (by simpa using h1)
    · rw [if_neg q]
      refine Eq.trans ?_ (dif_neg (by omega)).symm
      rfl

/-- The gate, of equal arguments. -/
theorem silu_of {a b : EReal} (h : a = b) : a * Ideal.div 1 (1 + Ideal.exp (0 - a)) = Conv.silu b := by
  rw [h]
  rfl

set_option maxHeartbeats 8000000 in
/-- What a point leaves in its block. -/
theorem point (t : Fin cfg0.N) (y : S512x1024.Idx) : (outsAt0 m c t y : EReal)
    = Conv.silu (Conv.H (ct m c) (taps m c) (shift m c) (512 * (grid0.coords t 0).val + (y 0 : ℕ)) (1024 * (grid0.coords t 1).val + (y 1 : ℕ))) := by
  have sm := small t
  unfold outsAt0
  frame_out
  canon_tiles x h
  all_goals
    open_payloads
    pointwise
    simp only [View.readCov_eq_canon']
    refine silu_of ?_
    unfold Conv.H
    refine congrArg₂ (· + ·) (congrArg₂ (· + ·) (congrArg₂ (· + ·) (congrArg₂ (· + ·) (congrArg₂ (· + ·) (shift_at m c t _ _ (by dsimp only; omega)) ?_) ?_) ?_) ?_) ?_
    all_goals
      refine congrArg₂ (· * ·) (tap_at m c t _ _ _ (by dsimp only; omega)) ((ext_at m c t _).trans (congrArg₂ (Conv.D _) ?_ ?_))
      all_goals
        simp [LoadRect.idx_apply]
        omega

/-- Where a block's index lies in the array. -/
theorem emb_y (t : Fin cfg0.N) (y : ((cfg0.win 5).xblock (cfg0.grid.coords t)).Idx) : ((((cfg0.win 5).blk t).view.emb y) 0 : ℕ) = 512 * (grid0.coords t 0).val + (y 0 : ℕ)
    ∧ ((((cfg0.win 5).blk t).view.emb y) 1 : ℕ) = 1024 * (grid0.coords t 1).val + (y 1 : ℕ) := by
  constructor <;> blk_simp [idx t] <;> omega

/-- The kernel's array. -/
theorem final : ((dats m 0 c).arrAt 5 cfg0.N : S8192x3072.Idx → EReal)
    = fun i => Conv.silu (Conv.H (ct m c) (taps m c) (shift m c) (i 0 : ℕ) (i 1 : ℕ)) := by
  have hc : (cfg0.win 5).Covers := by decide +kernel
  refine (dats m 0 c).arrAt_eq_of_covers 5 _ hc ?_
  intro t hf y
  have e := emb_y t y
  rw [after0_5]
  refine (point m c t _).trans ?_
  exact congrArg Conv.silu (congrArg₂ (Conv.H _ _ _) e.1.symm e.2.symm)
end Cert.Proof.PFwd
end
-- ==== Proof.RFwd.lean ====
module
public import proofs.«01_k».proof.Proof.Gen.ConvFwdRefIdeal.Read
public import proofs.«01_k».proof.Proof.Conv
@[expose] public section
set_option maxRecDepth 16384
noncomputable section
/-! The reference of the convolution and its silu, at a position and a channel. -/
namespace Cert.Proof.RFwd
open Idealize.ShloMosaic Idealize.ShloMosaic.TcCoe Idealize.SL.Sem
open Cert.ConvFwdRefIdeal Cert.ConvFwdRefIdeal.Gen Cert.ConvFwdRefIdeal.Read

variable (u : S8192x9728.Idx → EReal) (w : S5x3072.Idx → EReal) (b : S3072.Idx → EReal)

/-- The input between its rows of zeros. -/
theorem ext (s : Fin 8196) (l : Fin 3072) : val_main_v2 (F := Ideal) u (ix2 s l) = Conv.D (Conv.cols u) (s.val + 6) l := by
  unfold Conv.D val_main_v2
  by_cases h : 2 ≤ s.val ∧ s.val < 8194
  · rw [dif_pos (by omega)]
    pointwise [val_main_v1, val_main_v0]
    rw [dif_neg (by omega), dif_pos (by omega)]
    unfold Conv.cols
    refine congrArg u (congrArg₂ ix2 (Fin.ext ?_) (Fin.ext rfl))
    show s.val - 2 = s.val + 6 - 8
    omega
  · rw [dif_neg (by omega)]
    pointwise [val_main_v1, val_main_cst]
    split <;> first | rfl | skip
    split <;> first | omega | rfl

/-- The reference's array. -/
theorem out (t : Fin 8192) (l : Fin 3072) : val_main_v42 (F := Ideal) u w b (ix2 t l) = Conv.silu (Conv.H (Conv.cols u) w b t l) := by
  have e : val_main_v41 (F := Ideal) u w b (ix2 t l) = Conv.H (Conv.cols u) w b t l := by
    pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0]
    simp only [ext]
    unfold Conv.H Conv.W Conv.B
    simp only [dif_pos l.isLt]
    have p : ∀ q : ℕ, (1 + q) + 6 = q + 7 ∧ (2 + q) + 6 = q + 8 ∧ (3 + q) + 6 = q + 9 ∧ (4 + q) + 6 = q + 10 := by omega
    rw [(p t.val).1, (p t.val).2.1, (p t.val).2.2.1, (p t.val).2.2.2]
    simp only [mul_comm (Conv.D _ _ _)]
    abel
  unfold val_main_v42
  pointwise [val_main_call0_v5, val_main_call0_v4, val_main_call0_v3, val_main_call0_v2, val_main_call0_v1, val_main_call0_v0, val_main_call0_cst, val_main_call0_cst_0]
  rw [e]
  unfold Conv.silu
  rw [zero_sub]
end Cert.Proof.RFwd
end
-- ==== Proof.AFwd.lean ====
module
public import proofs.«01_k».proof.Defs
public import proofs.«01_k».proof.Proof.PFwd
public import proofs.«01_k».proof.Proof.RFwd
public import proofs.«01_k».proof.Proof.Gen.ConvFwd.Frame
public import proofs.«01_k».proof.Proof.Gen.ConvFwdRefIdeal.Run
public import Idealize.ShloMosaic.Adequacy
public import Idealize.ShloMosaic.Init
@[expose] public section
noncomputable section
/-! The claims about the convolution and its silu. -/
namespace Cert.Proof.AFwd
open Idealize.ShloMosaic Idealize.SL.Sem

theorem frame_ref : Cert.quiescent_ConvFwdRefIdeal :=
  fun m ρ _ => (θ_run _ _ _).mono (fun r h => ⟨fun c => (h c).2, Idealize.ShloMosaic.sem_eq_zero_of_no_sems (by decide) r.2⟩)
    (Cert.ConvFwdRefIdeal.Value.run (F := Ideal) m ρ)

theorem algebraic : Cert.algebraic_ConvFwdIdeal_ConvFwdRefIdeal := by
  intro m ρ m' ρ' _ hag
  refine ⟨fun c => (Cert.ConvFwdIdeal.Gen.dats m 0 c).arrAt 5 Cert.ConvFwdIdeal.cfg0.N, Cert.ConvFwdIdeal.Value.run_blocks m ρ,
    (θ_run Cert.ConvFwdRefIdeal.defs _ _).mono (fun r h c => ⟨?_, (h c).2⟩) (Cert.ConvFwdRefIdeal.Value.run (F := Ideal) m' ρ')⟩
  refine ((h c).1.trans (Cert.ConvFwdRefIdeal.Read.val_main_v42_eq _ _)).trans ?_
  obtain ⟨e0, e1, e2⟩ := hag c
  have e : ∀ {x0 y0 x1 y1 x2 y2}, x0 = y0 → x1 = y1 → x2 = y2 →
      Cert.ConvFwdRefIdeal.Read.val_main_v42 (F := Ideal) x0 x1 x2 = Cert.ConvFwdRefIdeal.Read.val_main_v42 (F := Ideal) y0 y1 y2 := by
    rintro _ _ _ _ _ _ rfl rfl rfl; rfl
  refine (e e0 e1 e2).trans (Eq.trans ?_ (PFwd.final m c).symm)
  funext i
  obtain ⟨t, l, rfl⟩ : ∃ (t : Fin 8192) (l : Fin 3072), i = ix2 t l := ⟨_, _, eq_ix2 i⟩
  exact RFwd.out _ _ _ t l
end Cert.Proof.AFwd
end
-- ==== Proof.PDpre.lean ====
module
public import proofs.«01_k».proof.Proof.Gen.ConvDpreIdeal.Value
public import proofs.«01_k».proof.Proof.Conv
public import Idealize.ShloMosaic.Lib.StableHlo.RunRead
@[expose] public section
set_option maxRecDepth 16384
noncomputable section
/-! The kernel of the gradient before the convolution's silu, with the gradients of its taps and its shift. -/
namespace Cert.Proof.PDpre
open Idealize.ShloMosaic Idealize.ShloMosaic.TcCoe Idealize.SL.Sem
open Cert.ConvDpreIdeal Cert.ConvDpreIdeal.Gen
variable (m : (ℓ : Loc nD τ sig) → Buf (Elt Ideal) ℓ) (c : Dev nD)

/-- The launched arrays. -/
abbrev ct := Conv.cols (m ((c : Thread nD τ).loc main_arg0))
abbrev taps := m ((c : Thread nD τ).loc main_arg1)
abbrev shift := m ((c : Thread nD τ).loc main_arg2)

/-- The index maps of the windows, in closed form. -/
theorem idx : ∀ t : Fin cfg0.N,
    win0_0.index t = ![max (64 * (grid0.coords t 1).val - 1) 0, 4 + (grid0.coords t 0).val]
      ∧ win0_1.index t = ![(grid0.coords t 1).val, 4 + (grid0.coords t 0).val]
      ∧ win0_2.index t = ![min (64 * ((grid0.coords t 1).val + 1)) 1023, 4 + (grid0.coords t 0).val]
      ∧ win0_3.index t = ![if (grid0.coords t 0).val < 2 then (grid0.coords t 1).val else 0, min (grid0.coords t 0).val 1]
      ∧ win0_4.index t = ![if (grid0.coords t 0).val < 2 then (grid0.coords t 1).val else 0, min (grid0.coords t 0).val 1]
      ∧ win0_5.index t = ![if (grid0.coords t 0).val = 2 then (grid0.coords t 1).val else 0, 0]
      ∧ win0_6.index t = ![0, min (grid0.coords t 0).val 1]
      ∧ win0_7.index t = ![0, (grid0.coords t 0).val]
      ∧ win0_8.index t = ![0, (grid0.coords t 0).val]
      ∧ win0_9.index t = ![(grid0.coords t 1).val, (grid0.coords t 0).val]
      ∧ win0_10.index t = ![0, (grid0.coords t 0).val]
      ∧ win0_11.index t = ![0, (grid0.coords t 0).val]
      ∧ t.val = 16 * (grid0.coords t 0).val + (grid0.coords t 1).val :=
  (by decide +kernel : ∀ t : Fin grid0.N, _)
theorem small (t : Fin cfg0.N) : (grid0.coords t 0).val < 3 ∧ (grid0.coords t 1).val < 16 := ⟨(grid0.coords t 0).isLt, (grid0.coords t 1).isLt⟩

/-- The branches at the two ends. -/
theorem first : ∀ n : Fin 16, Scalar.cmpi .sgt (BitVec.ofNat 32 n.val) 0#32 = if 0 < n.val then 1#1 else 0#1 := by decide
theorem last : ∀ n : Fin 16, Scalar.cmpi .slt (BitVec.ofNat 32 n.val) 15#32 = if n.val < 15 then 1#1 else 0#1 := by decide

theorem tap_at (t : Fin cfg0.N) (k : Fin 5) (l : Fin 1024) (n : ℕ) (hn : n = 1024 * (grid0.coords t 0).val + l.val) :
    (iblk m c 7 t (ix2 k l) : EReal) = Conv.W (taps m c) k n := by
  subst hn
  have := small t
  unfold Conv.W
  rw [dif_pos (by omega)]
  blk_point [iblk, idx t, V]

/-- The shift enters the call as a row. -/
theorem entry_b (l : Fin 3072) : (V m c main_v3 (ix2 0 l) : EReal) = shift m c (ix1 l) := by
  entry_read
  pointwise
theorem shift_at (t : Fin cfg0.N) (l : Fin 1024) (n : ℕ) (hn : n = 1024 * (grid0.coords t 0).val + l.val) :
    (iblk m c 8 t (ix2 0 l) : EReal) = Conv.B (shift m c) n := by
  subst hn
  have := small t
  unfold Conv.B
  rw [dif_pos (by omega)]
  refine Eq.trans ?_ (entry_b m c _)
  blk_point [iblk, idx t]

/-- The blocks of the convolution's columns lie inside the packed projection. -/
theorem whole0 (t : Fin cfg0.N) (j : (cfg0.win 0).block.Idx) : (cfg0.win 0).moved (cfg0.grid.coords t) j = true :=
  ((cfg0.win 0).moved_iff _ j).mpr fun a => by
    have := (j a).isLt
    unfold Pipeline.Window.xsize
    rw [(by decide +kernel : ∀ (t : Fin grid0.N) (a : Fin 2), (win0_0).clip (grid0.coords t) a = none) t a]
    exact this
theorem whole1 (t : Fin cfg0.N) (j : (cfg0.win 1).block.Idx) : (cfg0.win 1).moved (cfg0.grid.coords t) j = true :=
  ((cfg0.win 1).moved_iff _ j).mpr fun a => by
    have := (j a).isLt
    unfold Pipeline.Window.xsize
    rw [(by decide +kernel : ∀ (t : Fin grid0.N) (a : Fin 2), (win0_1).clip (grid0.coords t) a = none) t a]
    exact this
theorem whole2 (t : Fin cfg0.N) (j : (cfg0.win 2).block.Idx) : (cfg0.win 2).moved (cfg0.grid.coords t) j = true :=
  ((cfg0.win 2).moved_iff _ j).mpr fun a => by
    have := (j a).isLt
    unfold Pipeline.Window.xsize
    rw [(by decide +kernel : ∀ (t : Fin grid0.N) (a : Fin 2), (win0_2).clip (grid0.coords t) a = none) t a]
    exact this

/-- The three blocks of the input. -/
theorem prev_at (t : Fin cfg0.N) (q : 0 < (grid0.coords t 1).val) (k : Fin 8) (l : Fin 1024) (n o : ℕ) (hn : n = 512 * (grid0.coords t 1).val + k.val)
    (ho : o = 1024 * (grid0.coords t 0).val + l.val) : ((win0 0).fill (α := Elt Ideal (cfg0.win 0).elt) (grid0.coords t) dflt0_0 (iblk m c 0 t) (ix2 k l) : EReal) = Conv.D (ct m c) n o := by
  subst hn ho
  have := small t
  unfold Conv.D
  rw [dif_pos (by omega)]
  unfold ct Conv.cols Pipeline.Window.fill
  rw [dif_pos (whole0 t _)]
  blk_point [iblk, idx t, V]
theorem cur_at (t : Fin cfg0.N) (k : Fin 512) (l : Fin 1024) (n o : ℕ) (hn : n = 512 * (grid0.coords t 1).val + (8 + k.val))
    (ho : o = 1024 * (grid0.coords t 0).val + l.val) : ((win0 1).fill (α := Elt Ideal (cfg0.win 1).elt) (grid0.coords t) dflt0_1 (iblk m c 1 t) (ix2 k l) : EReal) = Conv.D (ct m c) n o := by
  subst hn ho
  have := small t
  unfold Conv.D
  rw [dif_pos (by omega)]
  unfold ct Conv.cols Pipeline.Window.fill
  rw [dif_pos (whole1 t _)]
  blk_point [iblk, idx t, V]
theorem next_at (t : Fin cfg0.N) (q : (grid0.coords t 1).val < 15) (k : Fin 8) (l : Fin 1024) (n o : ℕ)
    (hn : n = 512 * (grid0.coords t 1).val + (520 + k.val))
    (ho : o = 1024 * (grid0.coords t 0).val + l.val) : ((win0 2).fill (α := Elt Ideal (cfg0.win 2).elt) (grid0.coords t) dflt0_2 (iblk m c 2 t) (ix2 k l) : EReal) = Conv.D (ct m c) n o := by
  subst hn ho
  have := small t
  unfold Conv.D
  rw [dif_pos (by omega)]
  unfold ct Conv.cols Pipeline.Window.fill
  rw [dif_pos (whole2 t _)]
  blk_point [iblk, idx t, V]

/-- The rows before, of and after a block, at an index. -/
theorem ext_at (t : Fin cfg0.N) (i : S528x1024.Idx) :
    View.canon (s := S528x1024) [⟨Rect.unit ![520, 0] ![8, 1024] inb_S528x1024_S8x1024_520_0,
        Scalar.select (Scalar.cmpi CmpIPredicate.slt (BitVec.ofNat 32 ↑(grid0.coords t 1)) 15#32) ((win0 2).fill (grid0.coords t) dflt0_2 (iblk m c 2 t)) (broadcast S8x1024 (0 : Elt Ideal .f32))⟩,
      ⟨Rect.unit ![8, 0] ![512, 1024] inb_S528x1024_S512x1024_8_0, (win0 1).fill (grid0.coords t) dflt0_1 (iblk m c 1 t)⟩,
      ⟨Rect.unit ![0, 0] ![8, 1024] inb_S528x1024_S8x1024_0_0,
        Scalar.select (Scalar.cmpi CmpIPredicate.sgt (BitVec.ofNat 32 ↑(grid0.coords t 1)) 0#32) ((win0 0).fill (grid0.coords t) dflt0_0 (iblk m c 0 t)) (broadcast S8x1024 (0 : Elt Ideal .f32))⟩] i
    = Conv.D (ct m c) (512 * (grid0.coords t 1).val + (i 0).val) (1024 * (grid0.coords t 0).val + (i 1).val) := by
  have sm := small t
  have f := first (grid0.coords t 1)
  have l := last (grid0.coords t 1)
  rw [f, l]
  have r0 : (i 0).val < 528 := (i 0).isLt
  have r1 : (i 1).val < 1024 := (i 1).isLt
  canon_tiles x h using (by
    by_cases q : (i 0).val < 8
    · exact ⟨_, .tail _ (.tail _ (.head _)), (Rect.mem_set_unit (inb := inb_S528x1024_S8x1024_0_0)).2 (Fin.forall_fin_two.2 (by simp; omega))⟩
    by_cases q' : (i 0).val < 520
    · exact ⟨_, .tail _ (.head _), (Rect.mem_set_unit (inb := inb_S528x1024_S512x1024_8_0)).2 (Fin.forall_fin_two.2 (by simp; omega))⟩
    · exact ⟨_, .head _, (Rect.mem_set_unit (inb := inb_S528x1024_S8x1024_520_0)).2 (Fin.forall_fin_two.2 (by simp; omega))⟩)
  case piece0 =>
    by_cases q : (grid0.coords t 1).val < 15
    · rw [if_pos q]
      idx_vars x
      exact next_at m c t q _ _ _ _ (by simpa using h0) (by simpa using h1)
    · rw [if_neg q]
      refine Eq.trans ?_ (dif_neg (by omega)).symm
      rfl
  case piece1 =>
    idx_vars x
    exact cur_at m c t _ _ _ _ (by simpa using h0) (by simpa using h1)
  case piece2 =>
    by_cases q : 0 < (grid0.coords t 1).val
    · rw [if_pos q]
      idx_vars x
      exact prev_at m c t q _ _ _ _ (by simpa using h0) (by simpa using h1)
    · rw [if_neg q]
      refine Eq.trans ?_ (dif_neg (by omega)).symm
      rfl

/-- The rows before, of and after a block, at a position and a column of the block. -/
def E (t : Fin cfg0.N) : Vec Ideal S528x1024 .f32 :=
  fun i => Conv.D (ct m c) (512 * (grid0.coords t 1).val + (i 0).val) (1024 * (grid0.coords t 0).val + (i 1).val)
theorem canon_E (t : Fin cfg0.N) :
    View.canon (Val := Elt Ideal) (s := S528x1024) (e := .f32) [⟨Rect.unit ![520, 0] ![8, 1024] inb_S528x1024_S8x1024_520_0, k0_pay5 (grid0.coords t) (X0_2 m c t)⟩,
      ⟨Rect.unit ![8, 0] ![512, 1024] inb_S528x1024_S512x1024_8_0, k0_pay4 (X0_1 m c t)⟩,
      ⟨Rect.unit ![0, 0] ![8, 1024] inb_S528x1024_S8x1024_0_0, k0_pay3 (grid0.coords t) (X0_0 m c t)⟩] = E m c t := by
  funext i
  unfold E
  refine Eq.trans ?_ (ext_at m c t i)
  congr 1
  refine congrArg₂ List.cons ?_ (congrArg₂ List.cons ?_ (congrArg₂ List.cons ?_ rfl))
  all_goals
    refine congrArg (Sigma.mk _) ?_
    funext x
    pointwise [k0_pay3, k0_pay4, k0_pay5, X0_0, X0_1, X0_2]
abbrev scale := m ((c : Thread nD τ).loc main_arg3)
abbrev up1 := m ((c : Thread nD τ).loc main_arg4)
abbrev up2 := m ((c : Thread nD τ).loc main_arg5)
abbrev up3 := m ((c : Thread nD τ).loc main_arg6)
theorem entry_s (l : Fin 2048) : (V m c main_v2 (ix2 0 l) : EReal) = scale m c (ix1 ⟨l.val / 64, by omega⟩) := by
  entry_read
  pointwise
theorem side : ∀ n : Fin 3, Scalar.cmpi .slt (BitVec.ofNat 32 n.val) 2#32 = if n.val < 2 then 1#1 else 0#1 := by decide

/-- The cotangent after the gate, as a point reads it. -/
theorem up_at (t : Fin cfg0.N) (p : Fin 512) (l : Fin 1024) :
    (@Scalar.select EReal (Scalar.cmpi CmpIPredicate.slt (BitVec.ofNat 32 ↑(grid0.coords t 0)) 2#32)
        (@HAdd.hAdd EReal EReal EReal _ (iblk m c 3 t (ix2 p l)) (@HMul.hMul EReal EReal EReal _ (iblk m c 6 t (ix2 0 l)) (iblk m c 4 t (ix2 p l)))) (iblk m c 5 t (ix2 p l)))
      = Conv.U (scale m c) (up1 m c) (up2 m c) (up3 m c) (512 * (grid0.coords t 1).val + p.val) (1024 * (grid0.coords t 0).val + l.val) := by
  have sm := small t
  have f := side (grid0.coords t 0)
  rw [f]
  unfold Conv.U
  rw [dif_pos (by omega)]
  by_cases q : (grid0.coords t 0).val < 2
  · have q' : min (grid0.coords t 0).val 1 = (grid0.coords t 0).val := by omega
    rw [if_pos q, dif_pos (by omega)]
    refine congrArg₂ (· + ·) ?_ (congrArg₂ (· * ·) ((?_ : _ = V m c main_v2 (ix2 0 ⟨1024 * (grid0.coords t 0).val + l.val, by omega⟩)).trans (entry_s m c _)) ?_)
    · blk_point [iblk, idx t, if_pos q, q', V]
    · blk_point [iblk, idx t, if_pos q, q']
    · blk_point [iblk, idx t, if_pos q, q', V]
  · have q' : (grid0.coords t 0).val = 2 := by omega
    rw [if_neg q, dif_neg (by omega)]
    blk_point [iblk, idx t, if_pos q', q', V, if_true]
theorem E_at (t : Fin cfg0.N) (a : Fin 528) (b : Fin 1024) : (E m c t (ix2 a b) : EReal) = Conv.D (ct m c) (512 * (grid0.coords t 1).val + a.val) (1024 * (grid0.coords t 0).val + b.val) := rfl
/-- The gradient before the gate. -/
def P (n l : ℕ) : EReal := Conv.gate (Conv.H (ct m c) (taps m c) (shift m c) n l) (Conv.U (scale m c) (up1 m c) (up2 m c) (up3 m c) n l)
theorem gate_of {a b u v : EReal} (h : a = b) (h' : u = v) :
    u * (Ideal.div 1 (1 + Ideal.exp (0 - a)) * (1 + a * (1 - Ideal.div 1 (1 + Ideal.exp (0 - a))))) = Conv.gate b v := by
  rw [h, h']
  rfl
end Cert.Proof.PDpre
end
-- ==== Proof.PDpt.lean ====
module
public import proofs.«01_k».proof.Proof.PDpre
@[expose] public section
set_option maxRecDepth 16384
noncomputable section
namespace Cert.Proof.PDpre
open Idealize.ShloMosaic Idealize.ShloMosaic.TcCoe Idealize.SL.Sem
open Cert.ConvDpreIdeal Cert.ConvDpreIdeal.Gen
variable (m : (ℓ : Loc nD τ sig) → Buf (Elt Ideal) ℓ) (c : Dev nD)

set_option maxHeartbeats 16000000 in
/-- What a point leaves in its block of the gradient. -/
theorem point (t : Fin cfg0.N) (y : S512x1024.Idx) : ((outsAt0 m c t.val t.isLt).1 y : EReal)
    = P m c (512 * (grid0.coords t 1).val + (y 0 : ℕ)) (1024 * (grid0.coords t 0).val + (y 1 : ℕ)) := by
  have sm := small t
  have hN : t.val < 48 := lt_of_lt_of_eq t.isLt (show cfg0.N = 48 from N_0)
  by_cases h0 : t.val % 16 = 0
  on_goal 1 => rw [outsAt0_A m c t h0 (by omega)]
  on_goal 2 => rw [outsAt0_B m c t h0 (by omega)]
  all_goals
    frame_out
    simp only [View.readCov_eq_canon', canon_E]
    have hE : ∀ (a : Fin 528) (b : Fin 1024), (E m c t (ix2 a b) : EReal) = Conv.D (ct m c) (512 * (grid0.coords t 1).val + a.val) (1024 * (grid0.coords t 0).val + b.val) := fun a b => rfl
    generalize E m c t = e at hE ⊢
    canon_tiles x h
    all_goals
      open_payloads
      pointwise
      refine gate_of ?_ ((up_at m c t _ _).trans (congrArg₂ (Conv.U _ _ _ _) (by dsimp only; omega) (by dsimp only; omega)))
      unfold Conv.H
      refine congrArg₂ (· + ·) (congrArg₂ (· + ·) (congrArg₂ (· + ·) (congrArg₂ (· + ·) (congrArg₂ (· + ·) (shift_at m c t _ _ (by dsimp only; omega)) ?_) ?_) ?_) ?_) ?_
      all_goals
        exact congrArg₂ (· * ·) (tap_at m c t _ _ _ (by dsimp only; omega)) ((hE _ _).trans (congrArg₂ (Conv.D _) (by dsimp only; omega) (by dsimp only; omega)))
end Cert.Proof.PDpre
end
-- ==== Proof.PRow.lean ====
module
public import proofs.«01_k».proof.Proof.PDpre
@[expose] public section
set_option maxRecDepth 16384
noncomputable section
namespace Cert.Proof.PDpre
open Idealize.ShloMosaic Idealize.ShloMosaic.TcCoe Idealize.SL.Sem
open Cert.ConvDpreIdeal Cert.ConvDpreIdeal.Gen
variable (m : (ℓ : Loc nD τ sig) → Buf (Elt Ideal) ℓ) (c : Dev nD)

/-- Four blocks of columns that hold one function hold it together. -/
theorem cat4 {a b d f : Vec Ideal S8x256 .f32} {T : ℕ → ℕ → EReal} (ha : ∀ r (l : Fin 256), a (ix2 r l) = T r.val l.val) (hb : ∀ r (l : Fin 256), b (ix2 r l) = T r.val (256 + l.val))
    (hd : ∀ r (l : Fin 256), d (ix2 r l) = T r.val (512 + l.val)) (hf : ∀ r (l : Fin 256), f (ix2 r l) = T r.val (768 + l.val)) (y : S8x1024.Idx) :
    (concatenate S8x1024 1 [⟨S8x256, a⟩, ⟨S8x256, b⟩, ⟨S8x256, d⟩, ⟨S8x256, f⟩] concatenates_S8x256_S8x256_S8x256_S8x256_S8x1024_d1 y : EReal) = T (y 0).val (y 1).val := by
  idx_vars y
  pointwise
  by_cases q : y1.val < 256
  · rw [dif_pos q]
    exact ha _ _
  rw [dif_neg q]
  by_cases q' : y1.val - 256 < 256
  · rw [dif_pos q']
    exact (hb _ _).trans (congrArg (T _) (by (try dsimp only) <;> omega))
  rw [dif_neg q']
  by_cases q'' : y1.val - 256 - 256 < 256
  · rw [dif_pos q'']
    exact (hd _ _).trans (congrArg (T _) (by (try dsimp only) <;> omega))
  rw [dif_neg q'']
  exact (hf _ _).trans (congrArg (T _) (by (try dsimp only) <;> omega))
/-- Six blocks of rows that hold one function hold it together. -/
theorem cat6 {a b d f g : Vec Ideal S1x256 .f32} {z : Vec Ideal S3x256 .f32} {T : ℕ → ℕ → EReal} (ha : ∀ l : Fin 256, a (ix2 0 l) = T 0 l.val) (hb : ∀ l : Fin 256, b (ix2 0 l) = T 1 l.val)
    (hd : ∀ l : Fin 256, d (ix2 0 l) = T 2 l.val) (hf : ∀ l : Fin 256, f (ix2 0 l) = T 3 l.val) (hg : ∀ l : Fin 256, g (ix2 0 l) = T 4 l.val) (hz : ∀ r (l : Fin 256), z (ix2 r l) = T (5 + r.val) l.val) (r : Fin 8) (l : Fin 256) :
    (concatenate S8x256 0 [⟨S1x256, a⟩, ⟨S1x256, b⟩, ⟨S1x256, d⟩, ⟨S1x256, f⟩, ⟨S1x256, g⟩, ⟨S3x256, z⟩] concatenates_S1x256_S1x256_S1x256_S1x256_S1x256_S3x256_S8x256_d0 (ix2 r l) : EReal) = T r.val l.val := by
  have one : ∀ (v : Vec Ideal S1x256 .f32) (k : ℕ) (q : Fin 1), (∀ l : Fin 256, (v (ix2 0 l) : EReal) = T k l.val) → r.val = k → (v (ix2 q l) : EReal) = T r.val l.val :=
    fun v k q h h' => ((congrArg (fun q => v (ix2 q l)) (Subsingleton.elim q 0)).trans (h l)).trans (by rw [h'])
  pointwise
  by_cases q0 : r.val < 1
  · rw [dif_pos q0]
    exact one a 0 _ ha (by omega)
  rw [dif_neg q0]
  by_cases q1 : r.val - 1 < 1
  · rw [dif_pos q1]
    exact one b 1 _ hb (by omega)
  rw [dif_neg q1]
  by_cases q2 : r.val - 1 - 1 < 1
  · rw [dif_pos q2]
    exact one d 2 _ hd (by omega)
  rw [dif_neg q2]
  by_cases q3 : r.val - 1 - 1 - 1 < 1
  · rw [dif_pos q3]
    exact one f 3 _ hf (by omega)
  rw [dif_neg q3]
  by_cases q4 : r.val - 1 - 1 - 1 - 1 < 1
  · rw [dif_pos q4]
    exact one g 4 _ hg (by omega)
  rw [dif_neg q4]
  exact (hz _ _).trans (congrArg (fun k => T k l.val) (by (try dsimp only) <;> omega))

/-- A sum over a block of rows, in the eight parts in which the call takes it. -/
theorem eight (f : ℕ → EReal) : ∑ p : Fin 512, f p.val = ∑ x : Fin 64, f x.val + ∑ x : Fin 64, f (64 + x.val) + ∑ x : Fin 64, f (128 + x.val) + ∑ x : Fin 64, f (192 + x.val)
    + ∑ x : Fin 64, f (256 + x.val) + ∑ x : Fin 64, f (320 + x.val) + ∑ x : Fin 64, f (384 + x.val) + ∑ x : Fin 64, f (448 + x.val) := by
  rw [Fin.sum_univ_eq_sum_range f 512, Fin.sum_univ_eq_sum_range f 64]
  have g : ∀ k, ∑ x : Fin 64, f (k + x.val) = ∑ x ∈ Finset.range 64, f (k + x) := fun k => Fin.sum_univ_eq_sum_range (fun x => f (k + x)) 64
  simp only [g]
  rw [show (512 : ℕ) = 64 + 64 + 64 + 64 + 64 + 64 + 64 + 64 from rfl]
  simp only [Finset.sum_range_add]

/-- A position's share of a tap's gradient. -/
def Fw (t : Fin cfg0.N) (r l p : ℕ) : EReal := P m c (512 * (grid0.coords t 1).val + p) (1024 * (grid0.coords t 0).val + l)
  * Conv.D (ct m c) (512 * (grid0.coords t 1).val + p + 6 + r) (1024 * (grid0.coords t 0).val + l)
/-- A position's share of the shift's gradient. -/
def Fb (t : Fin cfg0.N) (l p : ℕ) : EReal := P m c (512 * (grid0.coords t 1).val + p) (1024 * (grid0.coords t 0).val + l)
/-- A point's share of the rows of the taps' gradient, and of those of the shift's. -/
def Dw (t : Fin cfg0.N) (r l : ℕ) : EReal := if r < 5 then ∑ p : Fin 512, Fw m c t r l p.val else 0
def Db (t : Fin cfg0.N) (_ l : ℕ) : EReal := ∑ p : Fin 512, Fb m c t l p.val
theorem Dw_eq (t : Fin cfg0.N) {r : ℕ} (h : r < 5) (l : ℕ) : Dw m c t r l = ∑ p : Fin 512, Fw m c t r l p.val := if_pos h
end Cert.Proof.PDpre
end
-- ==== Proof.PRowW.lean ====
module
public import proofs.«01_k».proof.Proof.PRow
@[expose] public section
set_option maxRecDepth 16384
noncomputable section
namespace Cert.Proof.PDpre
open Idealize.ShloMosaic Idealize.ShloMosaic.TcCoe Idealize.SL.Sem
open Cert.ConvDpreIdeal Cert.ConvDpreIdeal.Gen
variable (m : (ℓ : Loc nD τ sig) → Buf (Elt Ideal) ℓ) (c : Dev nD)

set_option maxHeartbeats 16000000 in
/-- The rows of the taps' gradient after a point: those of the point before (none before a first point), and the point's share. -/
theorem rows_w (t : Fin cfg0.N) (y : S8x1024.Idx) : ((outsAt0 m c t.val t.isLt).2.1 y : EReal)
    = (if t.val % 16 = 0 then 0 else ((outsAt0 m c (t.val - 1) (Nat.lt_of_le_of_lt (Nat.sub_le _ _) t.isLt)).2.1 y : EReal)) + Dw m c t (y 0).val (y 1).val := by
  have sm := small t
  have hE : ∀ (a : Fin 528) (b : Fin 1024), (E m c t (ix2 a b) : EReal) = Conv.D (ct m c) (512 * (grid0.coords t 1).val + a.val) (1024 * (grid0.coords t 0).val + b.val) := fun a b => rfl
  by_cases h0 : t.val % 16 = 0
  on_goal 1 =>
    rw [outsAt0_A m c t h0 (by omega), if_pos h0, zero_add]
    frame_out
  on_goal 2 =>
    rw [outsAt0_B m c t h0 (by omega), if_neg h0]
    frame_out
    unfold k0_pay1
    refine congrArg₂ (· + ·) ?_ ?_
    · idx_vars y
      pointwise
  all_goals
    simp only [View.readCov_eq_canon', canon_E]
    generalize E m c t = e at hE ⊢
    unfold k0_pay336
    refine cat4 (T := Dw m c t) ?_ ?_ ?_ ?_ y
    on_goal 1 => intro r l; unfold k0_pay87; refine cat6 (T := fun r l => Dw m c t r l) ?_ ?_ ?_ ?_ ?_ ?_ r l
    on_goal 7 => intro r l; unfold k0_pay169; refine cat6 (T := fun r l => Dw m c t r (256 + l)) ?_ ?_ ?_ ?_ ?_ ?_ r l
    on_goal 13 => intro r l; unfold k0_pay255; refine cat6 (T := fun r l => Dw m c t r (512 + l)) ?_ ?_ ?_ ?_ ?_ ?_ r l
    on_goal 19 => intro r l; refine cat6 (T := fun r l => Dw m c t r (768 + l)) ?_ ?_ ?_ ?_ ?_ ?_ r l
    on_goal 6 => intro r l; refine Eq.trans ?_ (if_neg (show ¬ 5 + r.val < 5 by omega)).symm; pointwise
    on_goal 11 => intro r l; refine Eq.trans ?_ (if_neg (show ¬ 5 + r.val < 5 by omega)).symm; pointwise
    on_goal 16 => intro r l; refine Eq.trans ?_ (if_neg (show ¬ 5 + r.val < 5 by omega)).symm; pointwise
    on_goal 21 => intro r l; refine Eq.trans ?_ (if_neg (show ¬ 5 + r.val < 5 by omega)).symm; pointwise
    all_goals
      intro l
      open_payloads
      pointwise
      refine Eq.trans ?_ ((Dw_eq m c t (by decide) _).trans (eight _)).symm
      refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
      all_goals
        refine Finset.sum_congr rfl fun x _ => ?_
        unfold Fw P
        refine congrArg₂ (· * ·) (gate_of ?_ ((up_at m c t _ _).trans (congrArg₂ (Conv.U _ _ _ _) (by (try dsimp only) <;> omega) (by (try dsimp only) <;> omega))))
          ((hE _ _).trans (congrArg₂ (Conv.D _) (by (try dsimp only) <;> omega) (by (try dsimp only) <;> omega)))
        unfold Conv.H
        refine congrArg₂ (· + ·) (congrArg₂ (· + ·) (congrArg₂ (· + ·) (congrArg₂ (· + ·) (congrArg₂ (· + ·) (shift_at m c t _ _ (by (try dsimp only) <;> omega)) ?_) ?_) ?_) ?_) ?_
        all_goals
          exact congrArg₂ (· * ·) (tap_at m c t _ _ _ (by (try dsimp only) <;> omega)) ((hE _ _).trans (congrArg₂ (Conv.D _) (by (try dsimp only) <;> omega) (by (try dsimp only) <;> omega)))
end Cert.Proof.PDpre
end
-- ==== Proof.PRowB.lean ====
module
public import proofs.«01_k».proof.Proof.PRow
@[expose] public section
set_option maxRecDepth 16384
noncomputable section
namespace Cert.Proof.PDpre
open Idealize.ShloMosaic Idealize.ShloMosaic.TcCoe Idealize.SL.Sem
open Cert.ConvDpreIdeal Cert.ConvDpreIdeal.Gen
variable (m : (ℓ : Loc nD τ sig) → Buf (Elt Ideal) ℓ) (c : Dev nD)

set_option maxHeartbeats 16000000 in
/-- The rows of the shift's gradient after a point: those of the point before (none before a first point), and the point's share. -/
theorem rows_b (t : Fin cfg0.N) (y : S8x1024.Idx) : ((outsAt0 m c t.val t.isLt).2.2 y : EReal)
    = (if t.val % 16 = 0 then 0 else ((outsAt0 m c (t.val - 1) (Nat.lt_of_le_of_lt (Nat.sub_le _ _) t.isLt)).2.2 y : EReal)) + Db m c t (y 0).val (y 1).val := by
  have sm := small t
  have hE : ∀ (a : Fin 528) (b : Fin 1024), (E m c t (ix2 a b) : EReal) = Conv.D (ct m c) (512 * (grid0.coords t 1).val + a.val) (1024 * (grid0.coords t 0).val + b.val) := fun a b => rfl
  by_cases h0 : t.val % 16 = 0
  on_goal 1 =>
    rw [outsAt0_A m c t h0 (by omega), if_pos h0, zero_add]
    frame_out
  on_goal 2 =>
    rw [outsAt0_B m c t h0 (by omega), if_neg h0]
    frame_out
    unfold k0_pay2
    refine congrArg₂ (· + ·) ?_ ?_
    · idx_vars y
      pointwise
  all_goals
    simp only [View.readCov_eq_canon', canon_E]
    generalize E m c t = e at hE ⊢
    unfold k0_pay337
    refine cat4 (T := Db m c t) ?_ ?_ ?_ ?_ y
    all_goals
      intro r l
      open_payloads
      pointwise
      refine Eq.trans ?_ (eight _).symm
      refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
      all_goals
        refine Finset.sum_congr rfl fun x _ => ?_
        unfold Fb P
        refine gate_of ?_ ((up_at m c t _ _).trans (congrArg₂ (Conv.U _ _ _ _) (by (try dsimp only) <;> omega) (by (try dsimp only) <;> omega)))
        unfold Conv.H
        refine congrArg₂ (· + ·) (congrArg₂ (· + ·) (congrArg₂ (· + ·) (congrArg₂ (· + ·) (congrArg₂ (· + ·) (shift_at m c t _ _ (by (try dsimp only) <;> omega)) ?_) ?_) ?_) ?_) ?_
        all_goals
          exact congrArg₂ (· * ·) (tap_at m c t _ _ _ (by (try dsimp only) <;> omega)) ((hE _ _).trans (congrArg₂ (Conv.D _) (by (try dsimp only) <;> omega) (by (try dsimp only) <;> omega)))
end Cert.Proof.PDpre
end
-- ==== Proof.PTot.lean ====
module
public import proofs.«01_k».proof.Proof.PDpt
public import proofs.«01_k».proof.Proof.PRowW
public import proofs.«01_k».proof.Proof.PRowB
@[expose] public section
set_option maxRecDepth 16384
noncomputable section
/-! The three arrays of the gradient before the convolution's silu. -/
namespace Cert.Proof.PDpre
open Idealize.ShloMosaic Idealize.ShloMosaic.TcCoe Idealize.SL.Sem
open Cert.ConvDpreIdeal Cert.ConvDpreIdeal.Gen
variable (m : (ℓ : Loc nD τ sig) → Buf (Elt Ideal) ℓ) (c : Dev nD)

/-- The rows of the taps' gradient, and of the shift's. -/
def Tw (r l : ℕ) : EReal := if r < 5 then ∑ n : Fin 8192, P m c n.val l * Conv.D (ct m c) (n.val + 6 + r) l else 0
def Tb (l : ℕ) : EReal := ∑ n : Fin 8192, P m c n.val l

/-- The points that end in a last point of a channel block. -/
theorem run_point (t : Fin cfg0.N) (r : t.val % 16 = 15) (s : Fin 16) (h : 16 * (t.val / 16) + s.val < cfg0.N) :
    (grid0.coords (⟨16 * (t.val / 16) + s.val, h⟩ : Fin cfg0.N) 1).val = s.val
      ∧ (grid0.coords (⟨16 * (t.val / 16) + s.val, h⟩ : Fin cfg0.N) 0).val = (grid0.coords t 0).val := by
  have e := (idx ⟨16 * (t.val / 16) + s.val, h⟩).2.2.2.2.2.2.2.2.2.2.2.2
  have e' := (idx t).2.2.2.2.2.2.2.2.2.2.2.2
  have q := small ⟨16 * (t.val / 16) + s.val, h⟩
  have q' := small t
  dsimp only at e
  omega

theorem sum_w (t : Fin cfg0.N) (r : t.val % 16 = 15) (y : S8x1024.Idx) :
    ((outsAt0 m c t.val t.isLt).2.1 y : EReal) = Tw m c (y 0).val (1024 * (grid0.coords t 0).val + (y 1).val) := by
  refine (Pipeline.eq_sum_fin_of_reset_step_apply_of_flush (M := EReal) (fun n h => (outsAt0 m c n h).2.1) 16 (fun _ => 0) (fun t y => Dw m c t (y 0).val (y 1).val)
    (fun t h y => by rw [rows_w, if_pos h]) (fun t h y => by rw [rows_w, if_neg h]) t r y).trans ?_
  rw [zero_add]
  unfold Dw Tw Fw
  by_cases h : (y 0).val < 5
  · simp only [if_pos h]
    refine Fin.sum_mul_add_congr fun s k hl => ?_
    obtain ⟨e, e'⟩ := run_point t r s (Pipeline.run_point_lt_of_flush t r s)
    rw [e, e', mul_comm 512 s.val]
  · simp only [if_neg h, Finset.sum_const_zero]
theorem sum_b (t : Fin cfg0.N) (r : t.val % 16 = 15) (y : S8x1024.Idx) :
    ((outsAt0 m c t.val t.isLt).2.2 y : EReal) = Tb m c (1024 * (grid0.coords t 0).val + (y 1).val) := by
  refine (Pipeline.eq_sum_fin_of_reset_step_apply_of_flush (M := EReal) (fun n h => (outsAt0 m c n h).2.2) 16 (fun _ => 0) (fun t y => Db m c t (y 0).val (y 1).val)
    (fun t h y => by rw [rows_b, if_pos h]) (fun t h y => by rw [rows_b, if_neg h]) t r y).trans ?_
  rw [zero_add]
  unfold Db Tb Fb
  refine Fin.sum_mul_add_congr fun s k hl => ?_
  obtain ⟨e, e'⟩ := run_point t r s (Pipeline.run_point_lt_of_flush t r s)
  rw [e, e', mul_comm 512 s.val]

/-- Where a block's index lies in each of the arrays. -/
theorem emb9 (t : Fin cfg0.N) (y : ((cfg0.win 9).xblock (cfg0.grid.coords t)).Idx) : ((((cfg0.win 9).blk t).view.emb y) 0 : ℕ) = 512 * (grid0.coords t 1).val + (y 0 : ℕ)
    ∧ ((((cfg0.win 9).blk t).view.emb y) 1 : ℕ) = 1024 * (grid0.coords t 0).val + (y 1 : ℕ) := by
  constructor <;> blk_simp [idx t] <;> omega
theorem emb10 (t : Fin cfg0.N) (y : ((cfg0.win 10).xblock (cfg0.grid.coords t)).Idx) : ((((cfg0.win 10).blk t).view.emb y) 0 : ℕ) = (y 0 : ℕ)
    ∧ ((((cfg0.win 10).blk t).view.emb y) 1 : ℕ) = 1024 * (grid0.coords t 0).val + (y 1 : ℕ) := by
  constructor <;> blk_simp [idx t] <;> omega
theorem emb11 (t : Fin cfg0.N) (y : ((cfg0.win 11).xblock (cfg0.grid.coords t)).Idx) : ((((cfg0.win 11).blk t).view.emb y) 1 : ℕ) = 1024 * (grid0.coords t 0).val + (y 1 : ℕ) := by
  blk_simp [idx t] <;> omega

theorem final9 : ((dats m 0 c).arrAt 9 cfg0.N : S8192x3072.Idx → EReal) = fun i => P m c (i 0 : ℕ) (i 1 : ℕ) := by
  have hc : (cfg0.win 9).Covers := by decide +kernel
  refine (dats m 0 c).arrAt_eq_of_covers 9 _ hc ?_
  intro t hf y
  have e := emb9 t y
  rw [after0_9]
  exact (point m c t _).trans (congrArg₂ (P m c) e.1.symm e.2.symm)
theorem final10 : ((dats m 0 c).arrAt 10 cfg0.N : S8x3072.Idx → EReal) = fun i => Tw m c (i 0 : ℕ) (i 1 : ℕ) := by
  have hc : (cfg0.win 10).Covers := by decide +kernel
  refine (dats m 0 c).arrAt_eq_of_covers 10 _ hc ?_
  intro t hf y
  have e := emb10 t y
  rw [after0_10]
  exact (sum_w m c t ((flush0_10 t).mp hf) _).trans (congrArg₂ (Tw m c) e.1.symm e.2.symm)
theorem final11 : ((dats m 0 c).arrAt 11 cfg0.N : S8x3072.Idx → EReal) = fun i => Tb m c (i 1 : ℕ) := by
  have hc : (cfg0.win 11).Covers := by decide +kernel
  refine (dats m 0 c).arrAt_eq_of_covers 11 _ hc ?_
  intro t hf y
  have e := emb11 t y
  rw [after0_11]
  exact (sum_b m c t ((flush0_11 t).mp hf) _).trans (congrArg (Tb m c) e.symm)
end Cert.Proof.PDpre
end
-- ==== Proof.Gate.lean ====
module
public import proofs.«01_k».proof.Proof.Conv
@[expose] public section
noncomputable section
/-! The gradient of the convolution's gate, in its two forms. -/
namespace Cert.Proof.Conv
open Idealize.ShloMosaic Idealize.ShloMosaic.TcCoe

/-- The gate's gradient as the chain rule writes it. -/
def chain (a v : EReal) : EReal := v * sg a + a * v * (sg a * (1 - sg a))

/-- The two forms are equal where the cotangent is a real; the value before the gate may be infinite. -/
theorem gate_eq_chain (a : EReal) (v : ℝ) : gate a v = chain a v := by
  unfold gate chain
  induction a with
  | bot =>
    have e : sg ⊥ = 0 := by
      unfold sg Ideal.div
      rw [show (0 : EReal) - ⊥ = ⊤ by simp, show Ideal.exp ⊤ = ⊤ from rfl, show (1 : EReal) + ⊤ = ⊤ from rfl]
      simp
    rw [e]; simp
  | top =>
    have e : sg ⊤ = 1 := by
      unfold sg Ideal.div
      rw [show (0 : EReal) - ⊤ = ⊥ by simp, show Ideal.exp ⊥ = 0 from rfl]
      simp
    rw [e]
    have q : (1 : EReal) - 1 = 0 := by rw [← EReal.coe_one, ← EReal.coe_sub, sub_self, EReal.coe_zero]
    rw [q]; simp
  | coe a =>
    obtain ⟨s, hs⟩ : ∃ s : ℝ, sg a = (s : EReal) := by
      refine ⟨1 * (1 + Real.exp (0 - a))⁻¹, ?_⟩
      unfold sg Ideal.div
      have h : (1 : EReal) + Ideal.exp (0 - (a : EReal)) = ((1 + Real.exp (0 - a) : ℝ) : EReal) := by
        rw [← EReal.coe_zero, ← EReal.coe_sub]
        rfl
      have p : (1 + Real.exp (0 - a) : ℝ) ≠ 0 := by positivity
      rw [h, if_neg (by exact_mod_cast p), EReal.coe_mul, EReal.coe_inv]
      rfl
    rw [hs]
    norm_cast
    ring
/-- A cotangent after the gate is a real where its parts are. -/
theorem U_real {ds : (⟨1, ![32]⟩ : Shape).Idx → EReal} {dxs dy : (⟨2, ![8192, 2048]⟩ : Shape).Idx → EReal} {dbc : (⟨2, ![8192, 1024]⟩ : Shape).Idx → EReal}
    (h0 : ∀ i, ds i = ((ds i).toReal : EReal)) (h1 : ∀ i, dxs i = ((dxs i).toReal : EReal)) (h2 : ∀ i, dy i = ((dy i).toReal : EReal))
    (h3 : ∀ i, dbc i = ((dbc i).toReal : EReal)) (n l : ℕ) : ∃ v : ℝ, U ds dxs dy dbc n l = (v : EReal) := by
  unfold U
  split_ifs with h h'
  · exact ⟨(dxs (ix2 ⟨n, h.1⟩ ⟨l, h'⟩)).toReal + (ds (ix1 ⟨l / 64, by omega⟩)).toReal * (dy (ix2 ⟨n, h.1⟩ ⟨l, h'⟩)).toReal, by
      rw [EReal.coe_add, EReal.coe_mul, ← h0, ← h1, ← h2]⟩
  · exact ⟨_, h3 _⟩
  · exact ⟨0, rfl⟩
end Cert.Proof.Conv
end
-- ==== Proof.RDpre.lean ====
module
public import proofs.«01_k».proof.Proof.Gen.ConvDpreRefIdeal.Read
public import proofs.«01_k».proof.Proof.Gate
@[expose] public section
set_option maxRecDepth 16384
noncomputable section
/-! The reference of the gradient before the convolution's silu, with the gradients of its taps and its shift. -/
namespace Cert.Proof.RDpre
open Idealize.ShloMosaic Idealize.ShloMosaic.TcCoe Idealize.SL.Sem
open Cert.ConvDpreRefIdeal Cert.ConvDpreRefIdeal.Gen Cert.ConvDpreRefIdeal.Read

variable (u : S8192x9728.Idx → EReal) (w : S5x3072.Idx → EReal) (b : S3072.Idx → EReal) (ds : S32.Idx → EReal)
  (dxs dy : S8192x2048.Idx → EReal) (dbc : S8192x1024.Idx → EReal)

/-- The input between its rows of zeros. -/
theorem ext (s : Fin 8196) (l : Fin 3072) : val_main_v2 (F := Ideal) u (ix2 s l) = Conv.D (Conv.cols u) (s.val + 6) l := by
  unfold Conv.D val_main_v2
  by_cases h : 2 ≤ s.val ∧ s.val < 8194
  · rw [dif_pos (by omega)]
    pointwise [val_main_v1, val_main_v0]
    rw [dif_neg (by omega), dif_pos (by omega)]
    unfold Conv.cols
    refine congrArg u (congrArg₂ ix2 (Fin.ext ?_) (Fin.ext rfl))
    show s.val - 2 = s.val + 6 - 8
    omega
  · rw [dif_neg (by omega)]
    pointwise [val_main_v1, val_main_cst]
    split <;> first | rfl | skip
    split <;> first | omega | rfl

/-- The convolution. -/
theorem pre (t : Fin 8192) (l : Fin 3072) : val_main_v41 (F := Ideal) u w b (ix2 t l) = Conv.H (Conv.cols u) w b t l := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0]
  simp only [ext]
  unfold Conv.H Conv.W Conv.B
  simp only [dif_pos l.isLt]
  have p : ∀ q : ℕ, (1 + q) + 6 = q + 7 ∧ (2 + q) + 6 = q + 8 ∧ (3 + q) + 6 = q + 9 ∧ (4 + q) + 6 = q + 10 := by omega
  rw [(p t.val).1, (p t.val).2.1, (p t.val).2.2.1, (p t.val).2.2.2]
  simp only [mul_comm (Conv.D _ _ _)]
  abel

/-- The cotangent after the gate. -/
theorem up (t : Fin 8192) (l : Fin 3072) : val_main_v58 (F := Ideal) ds dxs dy dbc (ix2 t l) = Conv.U ds dxs dy dbc t l := by
  unfold Conv.U
  rw [dif_pos ⟨t.isLt, l.isLt⟩]
  by_cases h : l.val < 2048
  · rw [dif_pos h]
    pointwise [val_main_v58, val_main_v57, val_main_v51, val_main_cst_1, val_main_cst_2, val_main_v56, val_main_v55, val_main_v54, val_main_v53, val_main_v52, val_main_v46, val_main_v44]
    rw [dif_neg (by omega), dif_pos h, zero_add]
    refine congrArg₂ (· + ·) rfl (congrArg₂ (· * ·) rfl (congrArg (fun k => dy (ix2 t k)) (Fin.ext ?_)))
    dsimp only
    omega
  · rw [dif_neg h]
    pointwise [val_main_v58, val_main_v57, val_main_v51, val_main_cst_1, val_main_cst_2]
    rw [dif_pos (by omega), dif_neg h, add_zero]

theorem chain (t : Fin 8192) (l : Fin 3072) : val_main_v59 (F := Ideal) u w b ds dxs dy dbc (ix2 t l)
    = Conv.chain (Conv.H (Conv.cols u) w b t l) (Conv.U ds dxs dy dbc t l) := by
  rw [← up, ← pre]
  pointwise [val_main_v59, val_main_call1_v2, val_main_call1_v1, val_main_call1_v0, val_main_v42_1, val_main_call0_v7, val_main_call0_v6, val_main_v42_2, val_main_call0_v4, val_main_call0_v3, val_main_call0_v2, val_main_call0_v1, val_main_call0_v0, val_main_call0_cst, val_main_call0_cst_0, val_main_call0_cst_1]
  unfold Conv.chain Conv.sg
  rw [zero_sub]

theorem shifts (r : Fin 8) (l : Fin 3072) : val_main_v99 (F := Ideal) u w b ds dxs dy dbc (ix2 r l)
    = ∑ n : Fin 8192, (val_main_v59 (F := Ideal) u w b ds dxs dy dbc (ix2 n l) : EReal) := by
  pointwise [val_main_v99, val_main_v62, val_main_v61, val_main_v60, val_main_cst_3, val_main_cst_4]
  exact Fin.sum_univ_one _
/-- The gradient of each of the taps. -/
theorem tap4 (l : Fin 3072) : val_main_v66 (F := Ideal) u w b ds dxs dy dbc (ix1 l)
    = ∑ n : Fin 8192, (val_main_v59 (F := Ideal) u w b ds dxs dy dbc (ix2 n l) : EReal) * Conv.D (Conv.cols u) (n.val + 6 + 4) l := by
  pointwise [val_main_v66, val_main_v65, val_main_v64, val_main_v63, val_main_v32, val_main_cst_5, val_main_cst_6]
  refine (Fin.sum_univ_one _).trans (Finset.sum_congr rfl fun n _ => ?_)
  rw [ext, mul_comm]
  exact congrArg (fun k => (_ * Conv.D _ k _ : EReal)) (by dsimp only; omega)
theorem tap3 (l : Fin 3072) : val_main_v72 (F := Ideal) u w b ds dxs dy dbc (ix1 l)
    = ∑ n : Fin 8192, (val_main_v59 (F := Ideal) u w b ds dxs dy dbc (ix2 n l) : EReal) * Conv.D (Conv.cols u) (n.val + 6 + 3) l := by
  pointwise [val_main_v72, val_main_v71, val_main_v70, val_main_v69, val_main_v25, val_main_cst_8, val_main_cst_9]
  refine (Fin.sum_univ_one _).trans (Finset.sum_congr rfl fun n _ => ?_)
  rw [ext, mul_comm]
  exact congrArg (fun k => (_ * Conv.D _ k _ : EReal)) (by dsimp only; omega)
theorem tap2 (l : Fin 3072) : val_main_v79 (F := Ideal) u w b ds dxs dy dbc (ix1 l)
    = ∑ n : Fin 8192, (val_main_v59 (F := Ideal) u w b ds dxs dy dbc (ix2 n l) : EReal) * Conv.D (Conv.cols u) (n.val + 6 + 2) l := by
  pointwise [val_main_v79, val_main_v78, val_main_v77, val_main_v76, val_main_v18, val_main_cst_11, val_main_cst_12]
  refine (Fin.sum_univ_one _).trans (Finset.sum_congr rfl fun n _ => ?_)
  rw [ext, mul_comm]
  exact congrArg (fun k => (_ * Conv.D _ k _ : EReal)) (by dsimp only; omega)
theorem tap1 (l : Fin 3072) : val_main_v86 (F := Ideal) u w b ds dxs dy dbc (ix1 l)
    = ∑ n : Fin 8192, (val_main_v59 (F := Ideal) u w b ds dxs dy dbc (ix2 n l) : EReal) * Conv.D (Conv.cols u) (n.val + 6 + 1) l := by
  pointwise [val_main_v86, val_main_v85, val_main_v84, val_main_v83, val_main_v11, val_main_cst_14, val_main_cst_15]
  refine (Fin.sum_univ_one _).trans (Finset.sum_congr rfl fun n _ => ?_)
  rw [ext, mul_comm]
  exact congrArg (fun k => (_ * Conv.D _ k _ : EReal)) (by dsimp only; omega)
theorem tap0 (l : Fin 3072) : val_main_v93 (F := Ideal) u w b ds dxs dy dbc (ix1 l)
    = ∑ n : Fin 8192, (val_main_v59 (F := Ideal) u w b ds dxs dy dbc (ix2 n l) : EReal) * Conv.D (Conv.cols u) (n.val + 6 + 0) l := by
  pointwise [val_main_v93, val_main_v92, val_main_v91, val_main_v90, val_main_v3, val_main_cst_17, val_main_cst_18]
  refine (Fin.sum_univ_one _).trans (Finset.sum_congr rfl fun n _ => ?_)
  rw [ext, mul_comm]
/-- The rows of the taps' gradient. -/
theorem taps (r : Fin 8) (l : Fin 3072) : val_main_v98 (F := Ideal) u w b ds dxs dy dbc (ix2 r l)
    = if r.val < 5 then ∑ n : Fin 8192, (val_main_v59 (F := Ideal) u w b ds dxs dy dbc (ix2 n l) : EReal) * Conv.D (Conv.cols u) (n.val + 6 + r.val) l else 0 := by
  pointwise [val_main_v98, val_main_v97, val_main_v96, val_main_v95, val_main_v94, val_main_v89, val_main_v88, val_main_v87, val_main_v82, val_main_v81, val_main_v80, val_main_v75, val_main_v74, val_main_v73, val_main_v68, val_main_v67, val_main_cst_7, val_main_cst_10, val_main_cst_13, val_main_cst_16, val_main_cst_19, val_main_cst_20]
  simp only [tap0, tap1, tap2, tap3, tap4]
  fin_cases r <;> simp
end Cert.Proof.RDpre
end
-- ==== Proof.ADpre.lean ====
module
public import proofs.«01_k».proof.Defs
public import proofs.«01_k».proof.Proof.PTot
public import proofs.«01_k».proof.Proof.RDpre
public import proofs.«01_k».proof.Proof.Finite
public import proofs.«01_k».proof.Proof.Gen.ConvDpre.Frame
public import proofs.«01_k».proof.Proof.Gen.ConvDpreRefIdeal.Run
public import proofs.«01_k».proof.Proof.Gen.Pre_cotangents_finite
public import Idealize.ShloMosaic.Adequacy
public import Idealize.ShloMosaic.Init
@[expose] public section
set_option maxRecDepth 16384
noncomputable section
/-! The claims about the gradient before the convolution's silu. -/
namespace Cert.Proof.ADpre
open Idealize.ShloMosaic Idealize.SL.Sem

/-- The reference is host code without a semaphore: its run keeps the arguments. -/
theorem frame_ref : Cert.quiescent_ConvDpreRefIdeal := fun m ρ _ =>
  (θ_run Cert.ConvDpreRefIdeal.defs _ _).mono (fun r h => ⟨fun c => (h c).2.2.2,
      Idealize.ShloMosaic.sem_eq_zero_of_no_sems (by decide) r.2⟩)
    (Cert.ConvDpreRefIdeal.Value.run (F := Ideal) m ρ)

section
variable (m : (ℓ : Loc Cert.ConvDpreIdeal.nD Cert.ConvDpreIdeal.τ Cert.ConvDpreIdeal.sig) → Buf (Elt Ideal) ℓ)
  (hf : Cert.Pre_ConvDpreIdeal_cotangents_finite m) (c : Dev Cert.ConvDpreIdeal.nD)
abbrev A0 := m ((c.tc : Thread Cert.ConvDpreIdeal.nD Cert.ConvDpreIdeal.τ).loc Cert.ConvDpreIdeal.main_arg0)
abbrev A1 := m ((c.tc : Thread Cert.ConvDpreIdeal.nD Cert.ConvDpreIdeal.τ).loc Cert.ConvDpreIdeal.main_arg1)
abbrev A2 := m ((c.tc : Thread Cert.ConvDpreIdeal.nD Cert.ConvDpreIdeal.τ).loc Cert.ConvDpreIdeal.main_arg2)
abbrev A3 := m ((c.tc : Thread Cert.ConvDpreIdeal.nD Cert.ConvDpreIdeal.τ).loc Cert.ConvDpreIdeal.main_arg3)
abbrev A4 := m ((c.tc : Thread Cert.ConvDpreIdeal.nD Cert.ConvDpreIdeal.τ).loc Cert.ConvDpreIdeal.main_arg4)
abbrev A5 := m ((c.tc : Thread Cert.ConvDpreIdeal.nD Cert.ConvDpreIdeal.τ).loc Cert.ConvDpreIdeal.main_arg5)
abbrev A6 := m ((c.tc : Thread Cert.ConvDpreIdeal.nD Cert.ConvDpreIdeal.τ).loc Cert.ConvDpreIdeal.main_arg6)

include hf in
/-- Where the precondition holds, the chain rule's gradient before the gate is the kernel's. -/
theorem same (n : Fin 8192) (l : Fin 3072) :
    (Cert.ConvDpreRefIdeal.Read.val_main_v59 (F := Ideal) (A0 m c) (A1 m c) (A2 m c) (A3 m c) (A4 m c) (A5 m c) (A6 m c) (ix2 n l) : EReal) = PDpre.P m c n.val l.val := by
  obtain ⟨h3, h4, h5, h6⟩ := hf c
  obtain ⟨v, hv⟩ := Conv.U_real (Finite.at_all _ _ h3) (Finite.at_all _ _ h4) (Finite.at_all _ _ h5) (Finite.at_all _ _ h6) n.val l.val
  refine (RDpre.chain _ _ _ _ _ _ _ n l).trans ?_
  unfold PDpre.P
  rw [hv]
  exact (Conv.gate_eq_chain _ v).symm
include hf in
theorem agree9 : (Cert.ConvDpreRefIdeal.Read.val_main_v59 (F := Ideal) (A0 m c) (A1 m c) (A2 m c) (A3 m c) (A4 m c) (A5 m c) (A6 m c))
    = (Cert.ConvDpreIdeal.Gen.dats m 0 c).arrAt 9 Cert.ConvDpreIdeal.cfg0.N := by
  refine Eq.trans ?_ (PDpre.final9 m c).symm
  funext i
  obtain ⟨n, l, rfl⟩ : ∃ (n : Fin 8192) (l : Fin 3072), i = ix2 n l := ⟨_, _, eq_ix2 i⟩
  exact same m hf c n l
include hf in
theorem agree10 : (Cert.ConvDpreRefIdeal.Read.val_main_v98 (F := Ideal) (A0 m c) (A1 m c) (A2 m c) (A3 m c) (A4 m c) (A5 m c) (A6 m c))
    = (Cert.ConvDpreIdeal.Gen.dats m 0 c).arrAt 10 Cert.ConvDpreIdeal.cfg0.N := by
  refine Eq.trans ?_ (PDpre.final10 m c).symm
  funext i
  obtain ⟨r, l, rfl⟩ : ∃ (r : Fin 8) (l : Fin 3072), i = ix2 r l := ⟨_, _, eq_ix2 i⟩
  refine (RDpre.taps _ _ _ _ _ _ _ r l).trans ?_
  simp only [same m hf c]
  rfl
include hf in
theorem agree11 : (Cert.ConvDpreRefIdeal.Read.val_main_v99 (F := Ideal) (A0 m c) (A1 m c) (A2 m c) (A3 m c) (A4 m c) (A5 m c) (A6 m c))
    = (Cert.ConvDpreIdeal.Gen.dats m 0 c).arrAt 11 Cert.ConvDpreIdeal.cfg0.N := by
  refine Eq.trans ?_ (PDpre.final11 m c).symm
  funext i
  obtain ⟨r, l, rfl⟩ : ∃ (r : Fin 8) (l : Fin 3072), i = ix2 r l := ⟨_, _, eq_ix2 i⟩
  refine (RDpre.shifts _ _ _ _ _ _ _ r l).trans ?_
  simp only [same m hf c]
  rfl
end

theorem algebraic : Cert.algebraic_ConvDpreIdeal_ConvDpreRefIdeal_pre_cotangents_finite := by
  intro m ρ m' ρ' hf hag
  refine ⟨fun c => (Cert.ConvDpreIdeal.Gen.dats m 0 c).arrAt 9 Cert.ConvDpreIdeal.cfg0.N, fun c => (Cert.ConvDpreIdeal.Gen.dats m 0 c).arrAt 10 Cert.ConvDpreIdeal.cfg0.N,
    fun c => (Cert.ConvDpreIdeal.Gen.dats m 0 c).arrAt 11 Cert.ConvDpreIdeal.cfg0.N, Cert.ConvDpreIdeal.Value.run_blocks m ρ,
    (θ_run Cert.ConvDpreRefIdeal.defs _ _).mono (fun r h c => ⟨?_, ?_, ?_, (h c).2.2.2⟩) (Cert.ConvDpreRefIdeal.Value.run (F := Ideal) m' ρ')⟩
  all_goals obtain ⟨e0, e1, e2, e3, e4, e5, e6⟩ := hag c
  · refine ((h c).1.trans (Cert.ConvDpreRefIdeal.Read.val_main_v59_eq _)).trans (Eq.trans ?_ (agree9 m hf c))
    congr 1
  · refine ((h c).2.1.trans (Cert.ConvDpreRefIdeal.Read.val_main_v98_eq _)).trans (Eq.trans ?_ (agree10 m hf c))
    congr 1
  · refine ((h c).2.2.1.trans (Cert.ConvDpreRefIdeal.Read.val_main_v99_eq _)).trans (Eq.trans ?_ (agree11 m hf c))
    congr 1
end Cert.Proof.ADpre
end
-- ==== Proof.Gn.lean ====
module
public import Idealize.ShloMosaic.Lib.Pipeline.ValueKit
@[expose] public section
noncomputable section
/-! The gated norm of the recurrence's output, at a position and a channel. -/
namespace Cert.Proof.Gn
open Idealize.ShloMosaic

/-- The length of a group of channels and the norm's shift, as the programs write them. -/
abbrev len : EReal := Ideal.ofBits .f32 0x44000000#32
abbrev eps : EReal := Ideal.ofBits .f32 0x3727C5AC#32

variable (y : (⟨2, ![8192, 2048]⟩ : Shape).Idx → EReal) (xbc : (⟨2, ![8192, 3072]⟩ : Shape).Idx → EReal)
  (u : (⟨2, ![8192, 9728]⟩ : Shape).Idx → EReal) (ds : (⟨1, ![32]⟩ : Shape).Idx → EReal) (nw : (⟨1, ![2048]⟩ : Shape).Idx → EReal)

/-- A gate. -/
def silu (z : EReal) : EReal := z * Ideal.div 1 (1 + Ideal.exp (0 - z))
/-- The output with the skip's share, gated. -/
def X (n l : ℕ) : EReal := if h : n < 8192 ∧ l < 2048 then
  (y (ix2 ⟨n, h.1⟩ ⟨l, h.2⟩) + ds (ix1 ⟨l / 64, by omega⟩) * xbc (ix2 ⟨n, h.1⟩ ⟨l, by omega⟩)) * silu (u (ix2 ⟨n, h.1⟩ ⟨l, by omega⟩)) else 0
/-- One over the root of a group's mean square. -/
def R (T : ℕ → ℕ → EReal) (n g : ℕ) : EReal := Ideal.rsqrt (Ideal.div (∑ k : Fin 512, T n (512 * g + k.val) * T n (512 * g + k.val)) len + eps)
/-- The normed entry times its scale. -/
def S (n : ℕ) (l : Fin 2048) : EReal := X y xbc u ds n l * R (X y xbc u ds) n (l.val / 512) * nw (ix1 l)
end Cert.Proof.Gn
end
-- ==== Proof.PGn.lean ====
module
public import proofs.«01_k».proof.Proof.Gen.GateNormIdeal.Value
public import proofs.«01_k».proof.Proof.Gn
public import Idealize.ShloMosaic.Lib.StableHlo.RunRead
@[expose] public section
set_option maxRecDepth 16384
noncomputable section
/-! The kernel of the gated norm and its product: what it leaves in its arrays. -/
namespace Cert.Proof.PGn
open Idealize.ShloMosaic Idealize.ShloMosaic.TcCoe Idealize.SL.Sem
open Cert.GateNormIdeal Cert.GateNormIdeal.Gen

/-- A block whose rows before the norm hold a function, normed. -/
theorem norm_at {T : ℕ → ℕ → EReal} {v0 v1 v2 : Vec Ideal S256x2048 .f32} {v3 : Vec Ideal S1x2048 .f32} (v : Vec Ideal S1x2048 .f32)
    (hf : ∀ (r : Fin 256) (l : Fin 2048), k0_pay3 v0 v1 v2 v3 (ix2 r l) = T r.val l.val) (r : Fin 256) (l : Fin 2048) :
    (k0_pay1 (k0_pay3 v0 v1 v2 v3) (k0_pay4 v0 v1 v2 v3) (k0_pay5 v0 v1 v2 v3) (k0_pay6 v0 v1 v2 v3) (k0_pay7 v0 v1 v2 v3) v (ix2 r l) : EReal)
      = T r.val l.val * Gn.R T r.val (l.val / 512) * v (ix2 0 l) := by
  generalize hx : k0_pay3 v0 v1 v2 v3 = f at hf
  pointwise [k0_pay1, k0_pay4, k0_pay5, k0_pay6, k0_pay7]
  simp only [hx, hf]
  refine congrArg (· * _) ?_
  unfold Gn.R
  by_cases q : l.val < 512
  · rw [dif_pos q, show l.val / 512 = 0 by omega]
    simp only [mul_zero, zero_add]
  rw [dif_neg q]
  by_cases q' : l.val - 512 < 512
  · rw [dif_pos q', show l.val / 512 = 1 by omega, show 512 + (l.val - 512) = l.val by omega]
  rw [dif_neg q']
  by_cases q'' : l.val - 512 - 512 < 512
  · rw [dif_pos q'', show l.val / 512 = 2 by omega, show 1024 + (l.val - 512 - 512) = l.val by omega]
  rw [dif_neg q'', show l.val / 512 = 3 by omega, show 1536 + (l.val - 512 - 512 - 512) = l.val by omega]

variable (m : (ℓ : Loc nD τ sig) → Buf (Elt Ideal) ℓ) (c : Dev nD)

/-- The launched arrays. -/
abbrev yy := m ((c : Thread nD τ).loc main_arg0)
abbrev xbc := m ((c : Thread nD τ).loc main_arg1)
abbrev uu := m ((c : Thread nD τ).loc main_arg2)
abbrev scale := m ((c : Thread nD τ).loc main_arg3)
abbrev nw := m ((c : Thread nD τ).loc main_arg4)
abbrev wp := m ((c : Thread nD τ).loc main_arg5)

/-- The index maps of the windows, in closed form. -/
theorem idx : ∀ t : Fin cfg0.N,
    win0_0.index t = ![t.val, 0] ∧ win0_1.index t = ![t.val, 0] ∧ win0_2.index t = ![t.val, 0] ∧ win0_3.index t = ![0, 0]
      ∧ win0_4.index t = ![0, 0] ∧ win0_5.index t = ![0, 0] ∧ win0_6.index t = ![t.val, 0] ∧ win0_7.index t = ![t.val, 0] :=
  (by decide +kernel : ∀ t : Fin grid0.N, _)
theorem small (t : Fin cfg0.N) : t.val < 32 := lt_of_lt_of_eq t.isLt (show cfg0.N = 32 from N_0)

/-- The rows and the projection enter the call. -/
theorem entry_s (l : Fin 2048) : (V m c main_v2 (ix2 0 l) : EReal) = scale m c (ix1 ⟨l.val / 64, by omega⟩) := by
  entry_read
  pointwise
theorem entry_n (l : Fin 2048) : (V m c main_v3 (ix2 0 l) : EReal) = nw m c (ix1 l) := by
  entry_read
  pointwise
theorem entry_w : V m c main_v4 = wp m c := by
  entry_read
  funext i
  pointwise

/-- The blocks of the wider arrays lie inside them. -/
theorem whole1 (t : Fin cfg0.N) (j : (cfg0.win 1).block.Idx) : (cfg0.win 1).moved (cfg0.grid.coords t) j = true :=
  ((cfg0.win 1).moved_iff _ j).mpr fun a => by
    have := (j a).isLt
    unfold Pipeline.Window.xsize
    rw [(by decide +kernel : ∀ (t : Fin grid0.N) (a : Fin 2), (win0_1).clip (grid0.coords t) a = none) t a]
    exact this
theorem whole2 (t : Fin cfg0.N) (j : (cfg0.win 2).block.Idx) : (cfg0.win 2).moved (cfg0.grid.coords t) j = true :=
  ((cfg0.win 2).moved_iff _ j).mpr fun a => by
    have := (j a).isLt
    unfold Pipeline.Window.xsize
    rw [(by decide +kernel : ∀ (t : Fin grid0.N) (a : Fin 2), (win0_2).clip (grid0.coords t) a = none) t a]
    exact this

theorem X_at (t : Fin cfg0.N) (r : Fin 256) (l : Fin 2048) :
    (k0_pay3 (iblk m c 0 t) (X0_1 m c t) (X0_2 m c t) (iblk m c 3 t) (ix2 r l) : EReal) = Gn.X (yy m c) (xbc m c) (uu m c) (scale m c) (256 * t.val + r.val) l.val := by
  have := small t
  unfold Gn.X
  rw [dif_pos (by omega)]
  have e0 : (iblk m c 0 t (ix2 r l) : EReal) = yy m c (ix2 ⟨256 * t.val + r.val, by omega⟩ l) := by
    blk_point [iblk, idx t, V]
  have e1 : (X0_1 m c t (ix2 r l) : EReal) = xbc m c (ix2 ⟨256 * t.val + r.val, by omega⟩ ⟨l.val, by omega⟩) := by
    unfold X0_1 Pipeline.Window.fill
    rw [dif_pos (whole1 t _)]
    blk_point [iblk, idx t, V]
  have e2 : (X0_2 m c t (ix2 r l) : EReal) = uu m c (ix2 ⟨256 * t.val + r.val, by omega⟩ ⟨l.val, by omega⟩) := by
    unfold X0_2 Pipeline.Window.fill
    rw [dif_pos (whole2 t _)]
    blk_point [iblk, idx t, V]
  have e3 : (iblk m c 3 t (ix2 0 l) : EReal) = scale m c (ix1 ⟨l.val / 64, by omega⟩) := by
    refine Eq.trans ?_ (entry_s m c l)
    blk_point [iblk, idx t]
  pointwise [k0_pay3]
  rw [e0, e1, e2, e3]
  rfl

/-- A block of the first result, whatever its scale. -/
abbrev pay (t : Fin cfg0.N) : FVec Ideal S256x2048 .bf16 :=
  k0_pay1 (k0_pay3 (iblk m c 0 t) (X0_1 m c t) (X0_2 m c t) (iblk m c 3 t)) (k0_pay4 (iblk m c 0 t) (X0_1 m c t) (X0_2 m c t) (iblk m c 3 t)) (k0_pay5 (iblk m c 0 t) (X0_1 m c t) (X0_2 m c t) (iblk m c 3 t))
    (k0_pay6 (iblk m c 0 t) (X0_1 m c t) (X0_2 m c t) (iblk m c 3 t)) (k0_pay7 (iblk m c 0 t) (X0_1 m c t) (X0_2 m c t) (iblk m c 3 t)) (iblk m c 4 t)
abbrev S (n : ℕ) (l : Fin 2048) : EReal := Gn.S (yy m c) (xbc m c) (uu m c) (scale m c) (nw m c) n l
theorem pay_at (t : Fin cfg0.N) (r : Fin 256) (l : Fin 2048) : (pay m c t (ix2 r l) : EReal) = S m c (256 * t.val + r.val) l := by
  refine (norm_at (T := fun r l => Gn.X (yy m c) (xbc m c) (uu m c) (scale m c) (256 * t.val + r) l) (iblk m c 4 t) (X_at m c t) r l).trans ?_
  refine congrArg₂ (· * ·) rfl (Eq.trans ?_ (entry_n m c l))
  blk_point [iblk, idx t]
theorem point6 (t : Fin cfg0.N) (y : S256x2048.Idx) : ((outsAt0 m c t).1 y : EReal) = S m c (256 * t.val + (y 0).val) (y 1) := by
  unfold outsAt0
  frame_out
  idx_vars y
  exact pay_at m c t _ _
theorem point7 (t : Fin cfg0.N) (y : S256x1024.Idx) : ((outsAt0 m c t).2 y : EReal)
    = ∑ k : Fin 2048, S m c (256 * t.val + (y 0).val) k * wp m c (ix2 k (y 1)) := by
  unfold outsAt0
  frame_out
  idx_vars y
  have e : ∀ k : Fin 2048, (iblk m c 5 t (ix2 k y1) : EReal) = wp m c (ix2 k y1) := fun k => by
    rw [← entry_w m c]
    blk_point [iblk, idx t]
  have h := pay_at m c t
  unfold k0_pay2
  unfold pay at h
  generalize k0_pay1 (F := Ideal) _ _ _ _ _ _ = f at h ⊢
  pointwise
  simp only [h, e]

/-- Where a block's index lies in each of the arrays. -/
theorem emb6 (t : Fin cfg0.N) (y : ((cfg0.win 6).xblock (cfg0.grid.coords t)).Idx) : ((((cfg0.win 6).blk t).view.emb y) 0 : ℕ) = 256 * t.val + (y 0 : ℕ)
    ∧ ((((cfg0.win 6).blk t).view.emb y) 1 : ℕ) = (y 1 : ℕ) := by
  constructor <;> blk_simp [idx t] <;> omega
theorem emb7 (t : Fin cfg0.N) (y : ((cfg0.win 7).xblock (cfg0.grid.coords t)).Idx) : ((((cfg0.win 7).blk t).view.emb y) 0 : ℕ) = 256 * t.val + (y 0 : ℕ)
    ∧ ((((cfg0.win 7).blk t).view.emb y) 1 : ℕ) = (y 1 : ℕ) := by
  constructor <;> blk_simp [idx t] <;> omega

/-- The kernel's arrays. -/
theorem final6 : ((dats m 0 c).arrAt 6 cfg0.N : S8192x2048.Idx → EReal) = fun i => S m c (i 0 : ℕ) (i 1) := by
  have hc : (cfg0.win 6).Covers := by decide +kernel
  refine (dats m 0 c).arrAt_eq_of_covers 6 _ hc ?_
  intro t hf y
  have e := emb6 t y
  rw [after0_6]
  exact (point6 m c t _).trans (congrArg₂ (S m c) e.1.symm (Fin.ext e.2.symm))
theorem final7 : ((dats m 0 c).arrAt 7 cfg0.N : S8192x1024.Idx → EReal) = fun i => ∑ k : Fin 2048, S m c (i 0 : ℕ) k * wp m c (ix2 k (i 1)) := by
  have hc : (cfg0.win 7).Covers := by decide +kernel
  refine (dats m 0 c).arrAt_eq_of_covers 7 _ hc ?_
  intro t hf y
  have e := emb7 t y
  rw [after0_7]
  refine (point7 m c t _).trans ?_
  exact congrArg₂ (fun (n : ℕ) (j : Fin 1024) => ∑ k : Fin 2048, S m c n k * wp m c (ix2 k j)) e.1.symm (Fin.ext e.2.symm)
end Cert.Proof.PGn
end
-- ==== Proof.RGn.lean ====
module
public import proofs.«01_k».proof.Proof.Gen.GateNormRefIdeal.Read
public import Idealize.ShloMosaic.Lib.Pipeline.ValueKit
public import proofs.«01_k».proof.Proof.Gn
@[expose] public section
set_option maxRecDepth 16384
noncomputable section
/-! The reference of the gated norm and its product, at a position and a channel. -/
namespace Cert.Proof.RGn
open Idealize.ShloMosaic Idealize.ShloMosaic.TcCoe Idealize.SL.Sem
open Cert.GateNormRefIdeal Cert.GateNormRefIdeal.Gen Cert.GateNormRefIdeal.Read

variable (y : S8192x2048.Idx → EReal) (xbc : S8192x3072.Idx → EReal) (u : S8192x9728.Idx → EReal) (ds : S32.Idx → EReal) (nw : S2048.Idx → EReal) (w : S2048x1024.Idx → EReal)

/-- The gated rows, by group. -/
theorem rows (n : Fin 8192) (g : Fin 4) (k : Fin 512) : val_main_v12 (F := Ideal) y xbc u ds (ix3 n g k) = Gn.X y xbc u ds n.val (512 * g.val + k.val) := by
  unfold Gn.X
  rw [dif_pos ⟨n.isLt, by omega⟩]
  pointwise [val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  have e : (g.val * 512 + k.val) / 64 * 64 + (g.val * 512 + k.val) % 64 = 512 * g.val + k.val := by omega
  have e' : g.val * 512 + k.val = 512 * g.val + k.val := by omega
  simp only [e]
  simp only [e']
  unfold Gn.silu
  rw [zero_sub]
/-- The inverse roots, by group. -/
theorem roots (n : Fin 8192) (g : Fin 4) (z : Fin 1) : val_main_v20 (F := Ideal) y xbc u ds (ix3 n g z) = Gn.R (Gn.X y xbc u ds) n.val g.val := by
  unfold Gn.R
  simp only [← rows y xbc u ds n g]
  pointwise [val_main_v20, val_main_v19, val_main_v18, val_main_v17, val_main_v16, val_main_v15, val_main_v14, val_main_v13, val_main_cst, val_main_cst_0, val_main_cst_1]
theorem normed (n : Fin 8192) (l : Fin 2048) : val_main_v26 (F := Ideal) y xbc u ds nw (ix2 n l) = Gn.S y xbc u ds nw n.val l := by
  unfold Gn.S
  pointwise [val_main_v26, val_main_v25, val_main_v24, val_main_v23, val_main_v22, val_main_v21]
  simp only [rows, roots]
  rw [show 512 * (l.val / 512) + l.val % 512 = l.val by omega]
theorem product (n : Fin 8192) (l : Fin 1024) : val_main_v28 (F := Ideal) y xbc u ds nw w (ix2 n l) = ∑ k : Fin 2048, Gn.S y xbc u ds nw n.val k * w (ix2 k l) := by
  simp only [← normed]
  pointwise [val_main_v28]
end Cert.Proof.RGn
end
-- ==== Proof.AGn.lean ====
module
public import proofs.«01_k».proof.Defs
public import proofs.«01_k».proof.Proof.PGn
public import proofs.«01_k».proof.Proof.RGn
public import proofs.«01_k».proof.Proof.Gen.GateNorm.Frame
public import proofs.«01_k».proof.Proof.Gen.GateNormRefIdeal.Run
public import Idealize.ShloMosaic.Adequacy
public import Idealize.ShloMosaic.Init
@[expose] public section
noncomputable section
/-! The claims about the gated norm and its product. -/
namespace Cert.Proof.AGn
open Idealize.ShloMosaic Idealize.SL.Sem

theorem frame_ref : Cert.quiescent_GateNormRefIdeal :=
  fun m ρ _ => (θ_run _ _ _).mono (fun r h => ⟨fun c => (h c).2.2, Idealize.ShloMosaic.sem_eq_zero_of_no_sems (by decide) r.2⟩)
    (Cert.GateNormRefIdeal.Value.run (F := Ideal) m ρ)

theorem algebraic : Cert.algebraic_GateNormIdeal_GateNormRefIdeal := by
  intro m ρ m' ρ' _ hag
  refine ⟨fun c => (Cert.GateNormIdeal.Gen.dats m 0 c).arrAt 6 Cert.GateNormIdeal.cfg0.N, fun c => (Cert.GateNormIdeal.Gen.dats m 0 c).arrAt 7 Cert.GateNormIdeal.cfg0.N,
    Cert.GateNormIdeal.Value.run_blocks m ρ,
    (θ_run Cert.GateNormRefIdeal.defs _ _).mono (fun r h c => ⟨?_, ?_, (h c).2.2⟩) (Cert.GateNormRefIdeal.Value.run (F := Ideal) m' ρ')⟩
  all_goals obtain ⟨e0, e1, e2, e3, e4, e5⟩ := hag c
  · have e : ∀ {x0 y0 x1 y1 x2 y2 x3 y3 x4 y4}, x0 = y0 → x1 = y1 → x2 = y2 → x3 = y3 → x4 = y4 →
        Cert.GateNormRefIdeal.Read.val_main_v27 (F := Ideal) x0 x1 x2 x3 x4 = Cert.GateNormRefIdeal.Read.val_main_v27 (F := Ideal) y0 y1 y2 y3 y4 := by
      rintro _ _ _ _ _ _ _ _ _ _ rfl rfl rfl rfl rfl; rfl
    refine ((h c).1.trans (Cert.GateNormRefIdeal.Read.val_main_v27_eq _ _ _ _ _)).trans ((e e0 e1 e2 e3 e4).trans (Eq.trans ?_ (PGn.final6 m c).symm))
    funext i
    obtain ⟨t, l, rfl⟩ : ∃ (t : Fin 8192) (l : Fin 2048), i = ix2 t l := ⟨_, _, eq_ix2 i⟩
    exact RGn.normed _ _ _ _ _ t l
  · have e : ∀ {x0 y0 x1 y1 x2 y2 x3 y3 x4 y4 x5 y5}, x0 = y0 → x1 = y1 → x2 = y2 → x3 = y3 → x4 = y4 → x5 = y5 →
        Cert.GateNormRefIdeal.Read.val_main_v28 (F := Ideal) x0 x1 x2 x3 x4 x5 = Cert.GateNormRefIdeal.Read.val_main_v28 (F := Ideal) y0 y1 y2 y3 y4 y5 := by
      rintro _ _ _ _ _ _ _ _ _ _ _ _ rfl rfl rfl rfl rfl rfl; rfl
    refine ((h c).2.1.trans (Cert.GateNormRefIdeal.Read.val_main_v28_eq _ _ _ _ _ _)).trans ((e e0 e1 e2 e3 e4 e5).trans (Eq.trans ?_ (PGn.final7 m c).symm))
    funext i
    obtain ⟨t, l, rfl⟩ : ∃ (t : Fin 8192) (l : Fin 1024), i = ix2 t l := ⟨_, _, eq_ix2 i⟩
    exact RGn.product _ _ _ _ _ _ t l
end Cert.Proof.AGn
end
-- ==== Proof.PDwDown.lean ====
module
public import proofs.«01_k».proof.Proof.Gen.DwDownIdeal.Value
public import proofs.«01_k».proof.Proof.Gen.DwDownRefIdeal.Read
public import Idealize.ShloMosaic.Lib.Pipeline.ValueKit
@[expose] public section
set_option maxRecDepth 16384
noncomputable section
/-! The gradient of the channel sublayer's second weight: a product added up over eight blocks of positions. -/
namespace Cert.Proof.PDwDown
open Idealize.ShloMosaic Idealize.ShloMosaic.TcCoe Idealize.SL.Sem
open Cert.DwDownIdeal Cert.DwDownIdeal.Gen
variable (m : (ℓ : Loc nD τ sig) → Buf (Elt Ideal) ℓ) (c : Dev nD)

/-- The index maps of the three windows, and the point's coordinates. -/
theorem idx : ∀ t : Fin cfg0.N,
    win0_0.index t = ![(grid0.coords t 2).val, (grid0.coords t 0).val] ∧ win0_1.index t = ![(grid0.coords t 2).val, (grid0.coords t 1).val]
      ∧ win0_2.index t = ![(grid0.coords t 0).val, (grid0.coords t 1).val]
      ∧ t.val = 8 * (1 * (grid0.coords t 0).val + (grid0.coords t 1).val) + (grid0.coords t 2).val
      ∧ (grid0.coords t 0).val < 4 ∧ (grid0.coords t 1).val < 1 ∧ (grid0.coords t 2).val < 8 :=
  (by decide +kernel : ∀ t : Fin grid0.N, _)
abbrev H : S8192x4096.Idx → EReal := m ((c : Thread nD τ).loc main_arg0)
abbrev D : S8192x1024.Idx → EReal := m ((c : Thread nD τ).loc main_arg1)
theorem entry_h : V m c main_v0 = m ((c : Thread nD τ).loc main_arg0) := by
  entry_read
  funext i
  pointwise
theorem entry_d : V m c main_v1 = m ((c : Thread nD τ).loc main_arg1) := by
  entry_read
  funext i
  pointwise

/-- The entry of the gradient at a row and a column, and a block's share of it. -/
def part (s r l : ℕ) (hs : s < 8) (hr : r < 4096) (hl : l < 1024) : EReal :=
  ∑ k : Fin 1024, (H m c (ix2 ⟨s * 1024 + k.val, by omega⟩ ⟨r, hr⟩) : EReal) * (D m c (ix2 ⟨s * 1024 + k.val, by omega⟩ ⟨l, hl⟩) : EReal)
def whole (r l : ℕ) (hr : r < 4096) (hl : l < 1024) : EReal :=
  ∑ n : Fin 8192, (H m c (ix2 n ⟨r, hr⟩) : EReal) * (D m c (ix2 n ⟨l, hl⟩) : EReal)
/-- A point's share at an index of its block. -/
def share (t : Fin cfg0.N) (y : S1024x1024.Idx) : EReal :=
  part m c (grid0.coords t 2).val (1024 * (grid0.coords t 0).val + (y 0).val) (1024 * (grid0.coords t 1).val + (y 1).val) (idx t).2.2.2.2.2.2
    (by have := (idx t).2.2.2.2; have h : (y 0).val < 1024 := (y 0).isLt; omega) (by have := (idx t).2.2.2.2; have h : (y 1).val < 1024 := (y 1).isLt; omega)

set_option backward.isDefEq.respectTransparency false in
/-- What the body multiplies out is the point's share. -/
theorem prod (t : Fin cfg0.N) (y : S1024x1024.Idx) : (k0_pay1 (iblk m c 0 t) (iblk m c 1 t) y : EReal) = share m c t y := by
  unfold share part H D
  rw [← entry_h m c, ← entry_d m c]
  have q := (idx t).2.2.2.2
  idx_vars y
  pointwise [k0_pay1]
  refine Finset.sum_congr rfl fun k _ => congrArg₂ (· * ·) ?_ ?_
  all_goals blk_point [iblk, idx t]

/-- At the last block of positions the accumulated block is the whole sum. -/
theorem total (t : Fin cfg0.N) (r : t.val % 8 = 7) (y : S1024x1024.Idx) : (outsAt0 m c t.val t.isLt y : EReal)
    = whole m c (1024 * (grid0.coords t 0).val + (y 0).val) (1024 * (grid0.coords t 1).val + (y 1).val)
    (by have := (idx t).2.2.2.2; have h : (y 0).val < 1024 := (y 0).isLt; omega) (by have := (idx t).2.2.2.2; have h : (y 1).val < 1024 := (y 1).isLt; omega) := by
  refine (Pipeline.eq_sum_fin_of_reset_step_apply_of_flush (M := EReal) (fun n h => outsAt0 m c n h) 8 (fun _ => 0) (share m c) (fun t h y => ?_) (fun t h y => ?_) t r y).trans ?_
  · rw [outsAt0_A m c t h (by have := (idx t).2.2.2; omega)]
    frame_out
    rw [zero_add]
    exact prod m c t y
  · rw [outsAt0_B m c t h (by have := (idx t).2.2.2; omega)]
    frame_out
    rw [← prod m c t]
    idx_vars y
    pointwise [k0_pay2]
  rw [zero_add]
  unfold whole share part
  refine Fin.sum_mul_add_congr fun s k hl => ?_
  have hlt := Pipeline.run_point_lt_of_flush t r s
  have e := (idx ⟨8 * (t.val / 8) + s.val, hlt⟩).2.2.2
  have e' := (idx t).2.2.2
  dsimp only at e
  refine congrArg₂ (· * ·) (congrArg (H m c) (congrArg₂ ix2 (Fin.ext ?_) (Fin.ext ?_))) (congrArg (D m c) (congrArg₂ ix2 (Fin.ext ?_) (Fin.ext ?_)))
  all_goals dsimp only; omega

/-- The reference's entry. -/
theorem ref (x0 x1) (i : Cert.DwDownRefIdeal.S4096x1024.Idx) :
    Cert.DwDownRefIdeal.Read.val_main_v3 (F := Ideal) x0 x1 i = ∑ n : Fin 8192, (x0 (ix2 n (i 0)) * x1 (ix2 n (i 1)) : EReal) := by
  rw [Cert.DwDownRefIdeal.Read.val_main_v3_apply, Cert.DwDownRefIdeal.Read.val_main_v2_apply]
  refine Finset.sum_congr rfl fun n _ => (mul_comm _ _).trans (congrArg₂ (· * ·) (congrArg x0 ?_) (congrArg x1 ?_))
  all_goals funext a; fin_cases a <;> rfl

/-- The result array after the run is the reference's. -/
theorem final2 : (dats m 0 c).arrAt 2 cfg0.N = Cert.DwDownRefIdeal.Read.val_main_v3 (F := Ideal) (H m c) (D m c) := by
  refine (dats m 0 c).arrAt_eq_of_covers 2 _ (by decide +kernel) fun t hf y => ?_
  blk_simp
  rw [after0_2]
  refine (total m c t ((flush0_2 t).mp hf) y).trans (Eq.trans ?_ (ref _ _ _).symm)
  unfold whole
  refine Finset.sum_congr rfl fun n _ => congrArg₂ (· * ·) (congrArg (H m c) ?_) (congrArg (D m c) ?_)
  all_goals
    funext a
    fin_cases a
    · rfl
    · refine Fin.ext ?_
      blk_simp [ix2, idx t]
      try dsimp only
      try omega
end Cert.Proof.PDwDown
end
-- ==== Proof.ADwDown.lean ====
module
public import proofs.«01_k».proof.Defs
public import proofs.«01_k».proof.Proof.PDwDown
public import proofs.«01_k».proof.Proof.Gen.DwDown.Frame
public import proofs.«01_k».proof.Proof.Gen.DwDownRefIdeal.Run
public import Idealize.ShloMosaic.Adequacy
public import Idealize.ShloMosaic.Init
@[expose] public section
noncomputable section
namespace Cert.Proof.ADwDown
open Idealize.ShloMosaic Idealize.SL.Sem

/-- The reference is host code without a semaphore: its run keeps the arguments. -/
theorem frame_ref : Cert.quiescent_DwDownRefIdeal :=
  fun m ρ _ => (θ_run _ _ _).mono (fun r h => ⟨fun c => (h c).2, Idealize.ShloMosaic.sem_eq_zero_of_no_sems (by decide) r.2⟩)
    (Cert.DwDownRefIdeal.Value.run (F := Ideal) m ρ)

theorem algebraic : Cert.algebraic_DwDownIdeal_DwDownRefIdeal := by
  intro m ρ m' ρ' _ hag
  refine ⟨fun c => (Cert.DwDownIdeal.Gen.dats m 0 c).arrAt 2 Cert.DwDownIdeal.cfg0.N, Cert.DwDownIdeal.Value.run_blocks m ρ,
    (θ_run Cert.DwDownRefIdeal.defs _ _).mono (fun r h c => ⟨?_, (h c).2⟩) (Cert.DwDownRefIdeal.Value.run (F := Ideal) m' ρ')⟩
  obtain ⟨e0, e1⟩ := hag c
  refine ((h c).1.trans (Cert.DwDownRefIdeal.Read.val_main_v3_eq _ _)).trans ?_
  rw [e0, e1]
  exact (PDwDown.final2 m c).symm
end Cert.Proof.ADwDown
end
-- ==== Proof.PDwOut.lean ====
module
public import proofs.«01_k».proof.Proof.Gen.DwOutIdeal.Value
public import proofs.«01_k».proof.Proof.Gen.DwOutRefIdeal.Read
public import Idealize.ShloMosaic.Lib.Pipeline.ValueKit
@[expose] public section
set_option maxRecDepth 16384
noncomputable section
/-! The gradient of the weight after the mixing of the branches: a product added up over eight blocks of positions. -/
namespace Cert.Proof.PDwOut
open Idealize.ShloMosaic Idealize.ShloMosaic.TcCoe Idealize.SL.Sem
open Cert.DwOutIdeal Cert.DwOutIdeal.Gen
variable (m : (ℓ : Loc nD τ sig) → Buf (Elt Ideal) ℓ) (c : Dev nD)

/-- The index maps of the three windows, and the point's coordinates. -/
theorem idx : ∀ t : Fin cfg0.N,
    win0_0.index t = ![(grid0.coords t 2).val, (grid0.coords t 0).val] ∧ win0_1.index t = ![(grid0.coords t 2).val, (grid0.coords t 1).val]
      ∧ win0_2.index t = ![(grid0.coords t 0).val, (grid0.coords t 1).val]
      ∧ t.val = 8 * (1 * (grid0.coords t 0).val + (grid0.coords t 1).val) + (grid0.coords t 2).val
      ∧ (grid0.coords t 0).val < 1 ∧ (grid0.coords t 1).val < 1 ∧ (grid0.coords t 2).val < 8 :=
  (by decide +kernel : ∀ t : Fin grid0.N, _)
abbrev H : S8192x1024.Idx → EReal := m ((c : Thread nD τ).loc main_arg0)
abbrev D : S8192x1024.Idx → EReal := m ((c : Thread nD τ).loc main_arg1)
theorem entry_h : V m c main_v0 = m ((c : Thread nD τ).loc main_arg0) := by
  entry_read
  funext i
  pointwise
theorem entry_d : V m c main_arg1 = m ((c : Thread nD τ).loc main_arg1) := by
  entry_read
  rfl

/-- The entry of the gradient at a row and a column, and a block's share of it. -/
def part (s r l : ℕ) (hs : s < 8) (hr : r < 1024) (hl : l < 1024) : EReal :=
  ∑ k : Fin 1024, (H m c (ix2 ⟨s * 1024 + k.val, by omega⟩ ⟨r, hr⟩) : EReal) * (D m c (ix2 ⟨s * 1024 + k.val, by omega⟩ ⟨l, hl⟩) : EReal)
def whole (r l : ℕ) (hr : r < 1024) (hl : l < 1024) : EReal :=
  ∑ n : Fin 8192, (H m c (ix2 n ⟨r, hr⟩) : EReal) * (D m c (ix2 n ⟨l, hl⟩) : EReal)
/-- A point's share at an index of its block. -/
def share (t : Fin cfg0.N) (y : S1024x1024.Idx) : EReal :=
  part m c (grid0.coords t 2).val (1024 * (grid0.coords t 0).val + (y 0).val) (1024 * (grid0.coords t 1).val + (y 1).val) (idx t).2.2.2.2.2.2
    (by have := (idx t).2.2.2.2; have h : (y 0).val < 1024 := (y 0).isLt; omega) (by have := (idx t).2.2.2.2; have h : (y 1).val < 1024 := (y 1).isLt; omega)

set_option backward.isDefEq.respectTransparency false in
/-- What the body multiplies out is the point's share. -/
theorem prod (t : Fin cfg0.N) (y : S1024x1024.Idx) : (k0_pay1 (iblk m c 0 t) (iblk m c 1 t) y : EReal) = share m c t y := by
  unfold share part H D
  rw [← entry_h m c, ← entry_d m c]
  have q := (idx t).2.2.2.2
  idx_vars y
  pointwise [k0_pay1]
  refine Finset.sum_congr rfl fun k _ => congrArg₂ (· * ·) ?_ ?_
  all_goals blk_point [iblk, idx t]

/-- At the last block of positions the accumulated block is the whole sum. -/
theorem total (t : Fin cfg0.N) (r : t.val % 8 = 7) (y : S1024x1024.Idx) : (outsAt0 m c t.val t.isLt y : EReal)
    = whole m c (1024 * (grid0.coords t 0).val + (y 0).val) (1024 * (grid0.coords t 1).val + (y 1).val)
    (by have := (idx t).2.2.2.2; have h : (y 0).val < 1024 := (y 0).isLt; omega) (by have := (idx t).2.2.2.2; have h : (y 1).val < 1024 := (y 1).isLt; omega) := by
  refine (Pipeline.eq_sum_fin_of_reset_step_apply_of_flush (M := EReal) (fun n h => outsAt0 m c n h) 8 (fun _ => 0) (share m c) (fun t h y => ?_) (fun t h y => ?_) t r y).trans ?_
  · rw [outsAt0_A m c t h (by have := (idx t).2.2.2; omega)]
    frame_out
    rw [zero_add]
    exact prod m c t y
  · rw [outsAt0_B m c t h (by have := (idx t).2.2.2; omega)]
    frame_out
    rw [← prod m c t]
    idx_vars y
    pointwise [k0_pay2]
  rw [zero_add]
  unfold whole share part
  refine Fin.sum_mul_add_congr fun s k hl => ?_
  have hlt := Pipeline.run_point_lt_of_flush t r s
  have e := (idx ⟨8 * (t.val / 8) + s.val, hlt⟩).2.2.2
  have e' := (idx t).2.2.2
  dsimp only at e
  refine congrArg₂ (· * ·) (congrArg (H m c) (congrArg₂ ix2 (Fin.ext ?_) (Fin.ext ?_))) (congrArg (D m c) (congrArg₂ ix2 (Fin.ext ?_) (Fin.ext ?_)))
  all_goals dsimp only; omega

/-- The reference's entry. -/
theorem ref (x0 x1) (i : Cert.DwOutRefIdeal.S1024x1024.Idx) :
    Cert.DwOutRefIdeal.Read.val_main_v3 (F := Ideal) x0 x1 i = ∑ n : Fin 8192, (x0 (ix2 n (i 0)) * x1 (ix2 n (i 1)) : EReal) := by
  rw [Cert.DwOutRefIdeal.Read.val_main_v3_apply, Cert.DwOutRefIdeal.Read.val_main_v2_apply]
  refine Finset.sum_congr rfl fun n _ => (mul_comm _ _).trans (congrArg₂ (· * ·) (congrArg x0 ?_) (congrArg x1 ?_))
  all_goals funext a; fin_cases a <;> rfl

/-- The result array after the run is the reference's. -/
theorem final2 : (dats m 0 c).arrAt 2 cfg0.N = Cert.DwOutRefIdeal.Read.val_main_v3 (F := Ideal) (H m c) (D m c) := by
  refine (dats m 0 c).arrAt_eq_of_covers 2 _ (by decide +kernel) fun t hf y => ?_
  blk_simp
  rw [after0_2]
  refine (total m c t ((flush0_2 t).mp hf) y).trans (Eq.trans ?_ (ref _ _ _).symm)
  unfold whole
  refine Finset.sum_congr rfl fun n _ => congrArg₂ (· * ·) (congrArg (H m c) ?_) (congrArg (D m c) ?_)
  all_goals
    funext a
    fin_cases a
    · rfl
    · refine Fin.ext ?_
      blk_simp [ix2, idx t]
      try dsimp only
      try omega
end Cert.Proof.PDwOut
end
-- ==== Proof.ADwOut.lean ====
module
public import proofs.«01_k».proof.Defs
public import proofs.«01_k».proof.Proof.PDwOut
public import proofs.«01_k».proof.Proof.Gen.DwOut.Frame
public import proofs.«01_k».proof.Proof.Gen.DwOutRefIdeal.Run
public import Idealize.ShloMosaic.Adequacy
public import Idealize.ShloMosaic.Init
@[expose] public section
noncomputable section
namespace Cert.Proof.ADwOut
open Idealize.ShloMosaic Idealize.SL.Sem

/-- The reference is host code without a semaphore: its run keeps the arguments. -/
theorem frame_ref : Cert.quiescent_DwOutRefIdeal :=
  fun m ρ _ => (θ_run _ _ _).mono (fun r h => ⟨fun c => (h c).2, Idealize.ShloMosaic.sem_eq_zero_of_no_sems (by decide) r.2⟩)
    (Cert.DwOutRefIdeal.Value.run (F := Ideal) m ρ)

theorem algebraic : Cert.algebraic_DwOutIdeal_DwOutRefIdeal := by
  intro m ρ m' ρ' _ hag
  refine ⟨fun c => (Cert.DwOutIdeal.Gen.dats m 0 c).arrAt 2 Cert.DwOutIdeal.cfg0.N, Cert.DwOutIdeal.Value.run_blocks m ρ,
    (θ_run Cert.DwOutRefIdeal.defs _ _).mono (fun r h c => ⟨?_, (h c).2⟩) (Cert.DwOutRefIdeal.Value.run (F := Ideal) m' ρ')⟩
  obtain ⟨e0, e1⟩ := hag c
  refine ((h c).1.trans (Cert.DwOutRefIdeal.Read.val_main_v3_eq _ _)).trans ?_
  rw [e0, e1]
  exact (PDwOut.final2 m c).symm
end Cert.Proof.ADwOut
end
-- ==== Proof.PDwSsd.lean ====
module
public import proofs.«01_k».proof.Proof.Gen.DwSsdIdeal.Value
public import proofs.«01_k».proof.Proof.Gen.DwSsdRefIdeal.Read
public import Idealize.ShloMosaic.Lib.Pipeline.ValueKit
@[expose] public section
set_option maxRecDepth 16384
noncomputable section
/-! The gradient of the projection of the recurrent branch: a product added up over eight blocks of positions. -/
namespace Cert.Proof.PDwSsd
open Idealize.ShloMosaic Idealize.ShloMosaic.TcCoe Idealize.SL.Sem
open Cert.DwSsdIdeal Cert.DwSsdIdeal.Gen
variable (m : (ℓ : Loc nD τ sig) → Buf (Elt Ideal) ℓ) (c : Dev nD)

/-- The index maps of the three windows, and the point's coordinates. -/
theorem idx : ∀ t : Fin cfg0.N,
    win0_0.index t = ![(grid0.coords t 2).val, (grid0.coords t 0).val] ∧ win0_1.index t = ![(grid0.coords t 2).val, (grid0.coords t 1).val]
      ∧ win0_2.index t = ![(grid0.coords t 0).val, (grid0.coords t 1).val]
      ∧ t.val = 8 * (1 * (grid0.coords t 0).val + (grid0.coords t 1).val) + (grid0.coords t 2).val
      ∧ (grid0.coords t 0).val < 2 ∧ (grid0.coords t 1).val < 1 ∧ (grid0.coords t 2).val < 8 :=
  (by decide +kernel : ∀ t : Fin grid0.N, _)
abbrev H : S8192x2048.Idx → EReal := m ((c : Thread nD τ).loc main_arg0)
abbrev D : S8192x1024.Idx → EReal := m ((c : Thread nD τ).loc main_arg1)
theorem entry_h : V m c main_v0 = m ((c : Thread nD τ).loc main_arg0) := by
  entry_read
  funext i
  pointwise
theorem entry_d : V m c main_v1 = m ((c : Thread nD τ).loc main_arg1) := by
  entry_read
  funext i
  pointwise

/-- The entry of the gradient at a row and a column, and a block's share of it. -/
def part (s r l : ℕ) (hs : s < 8) (hr : r < 2048) (hl : l < 1024) : EReal :=
  ∑ k : Fin 1024, (H m c (ix2 ⟨s * 1024 + k.val, by omega⟩ ⟨r, hr⟩) : EReal) * (D m c (ix2 ⟨s * 1024 + k.val, by omega⟩ ⟨l, hl⟩) : EReal)
def whole (r l : ℕ) (hr : r < 2048) (hl : l < 1024) : EReal :=
  ∑ n : Fin 8192, (H m c (ix2 n ⟨r, hr⟩) : EReal) * (D m c (ix2 n ⟨l, hl⟩) : EReal)
/-- A point's share at an index of its block. -/
def share (t : Fin cfg0.N) (y : S1024x1024.Idx) : EReal :=
  part m c (grid0.coords t 2).val (1024 * (grid0.coords t 0).val + (y 0).val) (1024 * (grid0.coords t 1).val + (y 1).val) (idx t).2.2.2.2.2.2
    (by have := (idx t).2.2.2.2; have h : (y 0).val < 1024 := (y 0).isLt; omega) (by have := (idx t).2.2.2.2; have h : (y 1).val < 1024 := (y 1).isLt; omega)

set_option backward.isDefEq.respectTransparency false in
/-- What the body multiplies out is the point's share. -/
theorem prod (t : Fin cfg0.N) (y : S1024x1024.Idx) : (k0_pay1 (iblk m c 0 t) (iblk m c 1 t) y : EReal) = share m c t y := by
  unfold share part H D
  rw [← entry_h m c, ← entry_d m c]
  have q := (idx t).2.2.2.2
  idx_vars y
  pointwise [k0_pay1]
  refine Finset.sum_congr rfl fun k _ => congrArg₂ (· * ·) ?_ ?_
  all_goals blk_point [iblk, idx t]

/-- At the last block of positions the accumulated block is the whole sum. -/
theorem total (t : Fin cfg0.N) (r : t.val % 8 = 7) (y : S1024x1024.Idx) : (outsAt0 m c t.val t.isLt y : EReal)
    = whole m c (1024 * (grid0.coords t 0).val + (y 0).val) (1024 * (grid0.coords t 1).val + (y 1).val)
    (by have := (idx t).2.2.2.2; have h : (y 0).val < 1024 := (y 0).isLt; omega) (by have := (idx t).2.2.2.2; have h : (y 1).val < 1024 := (y 1).isLt; omega) := by
  refine (Pipeline.eq_sum_fin_of_reset_step_apply_of_flush (M := EReal) (fun n h => outsAt0 m c n h) 8 (fun _ => 0) (share m c) (fun t h y => ?_) (fun t h y => ?_) t r y).trans ?_
  · rw [outsAt0_A m c t h (by have := (idx t).2.2.2; omega)]
    frame_out
    rw [zero_add]
    exact prod m c t y
  · rw [outsAt0_B m c t h (by have := (idx t).2.2.2; omega)]
    frame_out
    rw [← prod m c t]
    idx_vars y
    pointwise [k0_pay2]
  rw [zero_add]
  unfold whole share part
  refine Fin.sum_mul_add_congr fun s k hl => ?_
  have hlt := Pipeline.run_point_lt_of_flush t r s
  have e := (idx ⟨8 * (t.val / 8) + s.val, hlt⟩).2.2.2
  have e' := (idx t).2.2.2
  dsimp only at e
  refine congrArg₂ (· * ·) (congrArg (H m c) (congrArg₂ ix2 (Fin.ext ?_) (Fin.ext ?_))) (congrArg (D m c) (congrArg₂ ix2 (Fin.ext ?_) (Fin.ext ?_)))
  all_goals dsimp only; omega

/-- The reference's entry. -/
theorem ref (x0 x1) (i : Cert.DwSsdRefIdeal.S2048x1024.Idx) :
    Cert.DwSsdRefIdeal.Read.val_main_v3 (F := Ideal) x0 x1 i = ∑ n : Fin 8192, (x0 (ix2 n (i 0)) * x1 (ix2 n (i 1)) : EReal) := by
  rw [Cert.DwSsdRefIdeal.Read.val_main_v3_apply, Cert.DwSsdRefIdeal.Read.val_main_v2_apply]
  refine Finset.sum_congr rfl fun n _ => (mul_comm _ _).trans (congrArg₂ (· * ·) (congrArg x0 ?_) (congrArg x1 ?_))
  all_goals funext a; fin_cases a <;> rfl

/-- The result array after the run is the reference's. -/
theorem final2 : (dats m 0 c).arrAt 2 cfg0.N = Cert.DwSsdRefIdeal.Read.val_main_v3 (F := Ideal) (H m c) (D m c) := by
  refine (dats m 0 c).arrAt_eq_of_covers 2 _ (by decide +kernel) fun t hf y => ?_
  blk_simp
  rw [after0_2]
  refine (total m c t ((flush0_2 t).mp hf) y).trans (Eq.trans ?_ (ref _ _ _).symm)
  unfold whole
  refine Finset.sum_congr rfl fun n _ => congrArg₂ (· * ·) (congrArg (H m c) ?_) (congrArg (D m c) ?_)
  all_goals
    funext a
    fin_cases a
    · rfl
    · refine Fin.ext ?_
      blk_simp [ix2, idx t]
      try dsimp only
      try omega
end Cert.Proof.PDwSsd
end
-- ==== Proof.ADwSsd.lean ====
module
public import proofs.«01_k».proof.Defs
public import proofs.«01_k».proof.Proof.PDwSsd
public import proofs.«01_k».proof.Proof.Gen.DwSsd.Frame
public import proofs.«01_k».proof.Proof.Gen.DwSsdRefIdeal.Run
public import Idealize.ShloMosaic.Adequacy
public import Idealize.ShloMosaic.Init
@[expose] public section
noncomputable section
namespace Cert.Proof.ADwSsd
open Idealize.ShloMosaic Idealize.SL.Sem

/-- The reference is host code without a semaphore: its run keeps the arguments. -/
theorem frame_ref : Cert.quiescent_DwSsdRefIdeal :=
  fun m ρ _ => (θ_run _ _ _).mono (fun r h => ⟨fun c => (h c).2, Idealize.ShloMosaic.sem_eq_zero_of_no_sems (by decide) r.2⟩)
    (Cert.DwSsdRefIdeal.Value.run (F := Ideal) m ρ)

theorem algebraic : Cert.algebraic_DwSsdIdeal_DwSsdRefIdeal := by
  intro m ρ m' ρ' _ hag
  refine ⟨fun c => (Cert.DwSsdIdeal.Gen.dats m 0 c).arrAt 2 Cert.DwSsdIdeal.cfg0.N, Cert.DwSsdIdeal.Value.run_blocks m ρ,
    (θ_run Cert.DwSsdRefIdeal.defs _ _).mono (fun r h c => ⟨?_, (h c).2⟩) (Cert.DwSsdRefIdeal.Value.run (F := Ideal) m' ρ')⟩
  obtain ⟨e0, e1⟩ := hag c
  refine ((h c).1.trans (Cert.DwSsdRefIdeal.Read.val_main_v3_eq _ _)).trans ?_
  rw [e0, e1]
  exact (PDwSsd.final2 m c).symm
end Cert.Proof.ADwSsd
end
-- ==== Proof.PDwUp.lean ====
module
public import proofs.«01_k».proof.Proof.Gen.DwUpIdeal.Value
public import proofs.«01_k».proof.Proof.Gen.DwUpRefIdeal.Read
public import Idealize.ShloMosaic.Lib.Pipeline.ValueKit
@[expose] public section
set_option maxRecDepth 16384
noncomputable section
/-! The gradient of the channel sublayer's first weight: a product added up over eight blocks of positions. -/
namespace Cert.Proof.PDwUp
open Idealize.ShloMosaic Idealize.ShloMosaic.TcCoe Idealize.SL.Sem
open Cert.DwUpIdeal Cert.DwUpIdeal.Gen
variable (m : (ℓ : Loc nD τ sig) → Buf (Elt Ideal) ℓ) (c : Dev nD)

/-- The index maps of the three windows, and the point's coordinates. -/
theorem idx : ∀ t : Fin cfg0.N,
    win0_0.index t = ![(grid0.coords t 2).val, (grid0.coords t 0).val] ∧ win0_1.index t = ![(grid0.coords t 2).val, (grid0.coords t 1).val]
      ∧ win0_2.index t = ![(grid0.coords t 1).val, (grid0.coords t 0).val, 0]
      ∧ t.val = 8 * (4 * (grid0.coords t 0).val + (grid0.coords t 1).val) + (grid0.coords t 2).val
      ∧ (grid0.coords t 0).val < 1 ∧ (grid0.coords t 1).val < 4 ∧ (grid0.coords t 2).val < 8 :=
  (by decide +kernel : ∀ t : Fin grid0.N, _)
abbrev H : S8192x1024.Idx → EReal := m ((c : Thread nD τ).loc main_arg0)
abbrev D : S8192x4096.Idx → EReal := m ((c : Thread nD τ).loc main_arg1)
theorem entry_h : V m c main_v0 = m ((c : Thread nD τ).loc main_arg0) := by
  entry_read
  funext i
  pointwise
theorem entry_d : V m c main_v1 = m ((c : Thread nD τ).loc main_arg1) := by
  entry_read
  funext i
  pointwise

/-- The entry of the gradient at a row and a column, and a block's share of it. -/
def part (s r l : ℕ) (hs : s < 8) (hr : r < 1024) (hl : l < 4096) : EReal :=
  ∑ k : Fin 1024, (H m c (ix2 ⟨s * 1024 + k.val, by omega⟩ ⟨r, hr⟩) : EReal) * (D m c (ix2 ⟨s * 1024 + k.val, by omega⟩ ⟨l, hl⟩) : EReal)
def whole (r l : ℕ) (hr : r < 1024) (hl : l < 4096) : EReal :=
  ∑ n : Fin 8192, (H m c (ix2 n ⟨r, hr⟩) : EReal) * (D m c (ix2 n ⟨l, hl⟩) : EReal)
/-- A point's share at an index of its block. -/
def share (t : Fin cfg0.N) (y : S1x1024x1024.Idx) : EReal :=
  part m c (grid0.coords t 2).val (1024 * (grid0.coords t 0).val + (y 1).val) (1024 * (grid0.coords t 1).val + (y 2).val) (idx t).2.2.2.2.2.2
    (by have := (idx t).2.2.2.2; have h : (y 1).val < 1024 := (y 1).isLt; omega) (by have := (idx t).2.2.2.2; have h : (y 2).val < 1024 := (y 2).isLt; omega)

set_option backward.isDefEq.respectTransparency false in
/-- What the body multiplies out is the point's share. -/
theorem prod (t : Fin cfg0.N) (y : S1x1024x1024.Idx) : (k0_pay2 (iblk m c 0 t) (iblk m c 1 t) y : EReal) = share m c t y := by
  unfold share part H D
  rw [← entry_h m c, ← entry_d m c]
  have q := (idx t).2.2.2.2
  idx_vars y
  pointwise [k0_pay1, k0_pay2]
  refine Finset.sum_congr rfl fun k _ => congrArg₂ (· * ·) ?_ ?_
  all_goals blk_point [iblk, idx t]

/-- At the last block of positions the accumulated block is the whole sum. -/
theorem total (t : Fin cfg0.N) (r : t.val % 8 = 7) (y : S1x1024x1024.Idx) : (outsAt0 m c t.val t.isLt y : EReal)
    = whole m c (1024 * (grid0.coords t 0).val + (y 1).val) (1024 * (grid0.coords t 1).val + (y 2).val)
    (by have := (idx t).2.2.2.2; have h : (y 1).val < 1024 := (y 1).isLt; omega) (by have := (idx t).2.2.2.2; have h : (y 2).val < 1024 := (y 2).isLt; omega) := by
  refine (Pipeline.eq_sum_fin_of_reset_step_apply_of_flush (M := EReal) (fun n h => outsAt0 m c n h) 8 (fun _ => 0) (share m c) (fun t h y => ?_) (fun t h y => ?_) t r y).trans ?_
  · rw [outsAt0_A m c t h (by have := (idx t).2.2.2; omega)]
    frame_out
    rw [zero_add]
    exact prod m c t y
  · rw [outsAt0_B m c t h (by have := (idx t).2.2.2; omega)]
    frame_out
    rw [← prod m c t]
    idx_vars y
    obtain rfl : y0 = 0 := Subsingleton.elim _ _
    pointwise [k0_pay2, k0_pay3]
  rw [zero_add]
  unfold whole share part
  refine Fin.sum_mul_add_congr fun s k hl => ?_
  have hlt := Pipeline.run_point_lt_of_flush t r s
  have e := (idx ⟨8 * (t.val / 8) + s.val, hlt⟩).2.2.2
  have e' := (idx t).2.2.2
  dsimp only at e
  refine congrArg₂ (· * ·) (congrArg (H m c) (congrArg₂ ix2 (Fin.ext ?_) (Fin.ext ?_))) (congrArg (D m c) (congrArg₂ ix2 (Fin.ext ?_) (Fin.ext ?_)))
  all_goals dsimp only; omega

/-- The reference's entry. -/
theorem ref (x0 x1) (i : Cert.DwUpRefIdeal.S4x1024x1024.Idx) :
    Cert.DwUpRefIdeal.Read.val_main_v5 (F := Ideal) x0 x1 i = ∑ n : Fin 8192, (x0 (ix2 n (i 1)) * x1 (ix2 n ⟨1024 * (i 0).val + (i 2).val, by have h0 : (i 0).val < 4 := (i 0).isLt; have h2 : (i 2).val < 1024 := (i 2).isLt; omega⟩) : EReal) := by
  rw [Cert.DwUpRefIdeal.Read.val_main_v5_apply, Cert.DwUpRefIdeal.Read.val_main_v4_apply, Cert.DwUpRefIdeal.Read.val_main_v3_apply, Cert.DwUpRefIdeal.Read.val_main_v2_apply]
  have h0 : (i 0).val < 4 := (i 0).isLt
  have h1 : (i 1).val < 1024 := (i 1).isLt
  have h2 : (i 2).val < 1024 := (i 2).isLt
  refine Finset.sum_congr rfl fun n _ => (mul_comm _ _).trans (congrArg₂ (· * ·) (congrArg x0 ?_) (congrArg x1 ?_))
  all_goals
    funext a
    fin_cases a
    · rfl
    · refine Fin.ext ?_
      dsimp only [Cert.DwUpRefIdeal.Read.lidx_main_v2, Cert.DwUpRefIdeal.Read.ridx_main_v2, Cert.DwUpRefIdeal.Read.idx_main_v3, Cert.DwUpRefIdeal.Read.idx_main_v4, Cert.DwUpRefIdeal.Read.idx_main_v5, ix2]
      omega

/-- The result array after the run is the reference's. -/
theorem final2 : (dats m 0 c).arrAt 2 cfg0.N = Cert.DwUpRefIdeal.Read.val_main_v5 (F := Ideal) (H m c) (D m c) := by
  refine (dats m 0 c).arrAt_eq_of_covers 2 _ (by decide +kernel) fun t hf y => ?_
  blk_simp
  rw [after0_2]
  refine (total m c t ((flush0_2 t).mp hf) y).trans (Eq.trans ?_ (ref _ _ _).symm)
  unfold whole
  refine Finset.sum_congr rfl fun n _ => congrArg₂ (· * ·) (congrArg (H m c) ?_) (congrArg (D m c) ?_)
  all_goals
    funext a
    fin_cases a
    · rfl
    · refine Fin.ext ?_
      blk_simp [ix2, idx t]
      try dsimp only
      try omega
end Cert.Proof.PDwUp
end
-- ==== Proof.ADwUp.lean ====
module
public import proofs.«01_k».proof.Defs
public import proofs.«01_k».proof.Proof.PDwUp
public import proofs.«01_k».proof.Proof.Gen.DwUp.Frame
public import proofs.«01_k».proof.Proof.Gen.DwUpRefIdeal.Run
public import Idealize.ShloMosaic.Adequacy
public import Idealize.ShloMosaic.Init
@[expose] public section
noncomputable section
namespace Cert.Proof.ADwUp
open Idealize.ShloMosaic Idealize.SL.Sem

/-- The reference is host code without a semaphore: its run keeps the arguments. -/
theorem frame_ref : Cert.quiescent_DwUpRefIdeal :=
  fun m ρ _ => (θ_run _ _ _).mono (fun r h => ⟨fun c => (h c).2, Idealize.ShloMosaic.sem_eq_zero_of_no_sems (by decide) r.2⟩)
    (Cert.DwUpRefIdeal.Value.run (F := Ideal) m ρ)

theorem algebraic : Cert.algebraic_DwUpIdeal_DwUpRefIdeal := by
  intro m ρ m' ρ' _ hag
  refine ⟨fun c => (Cert.DwUpIdeal.Gen.dats m 0 c).arrAt 2 Cert.DwUpIdeal.cfg0.N, Cert.DwUpIdeal.Value.run_blocks m ρ,
    (θ_run Cert.DwUpRefIdeal.defs _ _).mono (fun r h c => ⟨?_, (h c).2⟩) (Cert.DwUpRefIdeal.Value.run (F := Ideal) m' ρ')⟩
  obtain ⟨e0, e1⟩ := hag c
  refine ((h c).1.trans (Cert.DwUpRefIdeal.Read.val_main_v5_eq _ _)).trans ?_
  rw [e0, e1]
  exact (PDwUp.final2 m c).symm
end Cert.Proof.ADwUp
end
-- ==== Proof.PDwAttn.lean ====
module
public import proofs.«01_k».proof.Proof.Gen.DwAttnIdeal.Value
public import proofs.«01_k».proof.Proof.Gen.DwAttnRefIdeal.Read
public import Idealize.ShloMosaic.Lib.Pipeline.ValueKit
@[expose] public section
set_option maxRecDepth 16384
noncomputable section
/-! The gradient of the projection of the attention branch: a product added up over eight blocks of positions. -/
namespace Cert.Proof.PDwAttn
open Idealize.ShloMosaic Idealize.ShloMosaic.TcCoe Idealize.SL.Sem
open Cert.DwAttnIdeal Cert.DwAttnIdeal.Gen
variable (m : (ℓ : Loc nD τ sig) → Buf (Elt Ideal) ℓ) (c : Dev nD)

/-- The index maps of the three windows, and the point's coordinates. -/
theorem idx : ∀ t : Fin cfg0.N,
    win0_0.index t = ![(grid0.coords t 2).val, (grid0.coords t 0).val] ∧ win0_1.index t = ![(grid0.coords t 2).val, (grid0.coords t 1).val]
      ∧ win0_2.index t = ![(grid0.coords t 1).val, (grid0.coords t 0).val, 0]
      ∧ t.val = 8 * (4 * (grid0.coords t 0).val + (grid0.coords t 1).val) + (grid0.coords t 2).val
      ∧ (grid0.coords t 0).val < 1 ∧ (grid0.coords t 1).val < 4 ∧ (grid0.coords t 2).val < 8 :=
  (by decide +kernel : ∀ t : Fin grid0.N, _)
abbrev H : S8192x256.Idx → EReal := m ((c : Thread nD τ).loc main_arg0)
abbrev D : S8192x1024.Idx → EReal := m ((c : Thread nD τ).loc main_arg1)
theorem entry_h : V m c main_arg0 = m ((c : Thread nD τ).loc main_arg0) := by
  entry_read
  rfl
theorem entry_d : V m c main_v0 = m ((c : Thread nD τ).loc main_arg1) := by
  entry_read
  funext i
  pointwise

/-- The entry of the gradient at a row and a column, and a block's share of it. -/
def part (s r l : ℕ) (hs : s < 8) (hr : r < 256) (hl : l < 1024) : EReal :=
  ∑ k : Fin 1024, (H m c (ix2 ⟨s * 1024 + k.val, by omega⟩ ⟨r, hr⟩) : EReal) * (D m c (ix2 ⟨s * 1024 + k.val, by omega⟩ ⟨l, hl⟩) : EReal)
def whole (r l : ℕ) (hr : r < 256) (hl : l < 1024) : EReal :=
  ∑ n : Fin 8192, (H m c (ix2 n ⟨r, hr⟩) : EReal) * (D m c (ix2 n ⟨l, hl⟩) : EReal)
/-- A point's share at an index of its block. -/
def share (t : Fin cfg0.N) (y : S1x256x256.Idx) : EReal :=
  part m c (grid0.coords t 2).val (256 * (grid0.coords t 0).val + (y 1).val) (256 * (grid0.coords t 1).val + (y 2).val) (idx t).2.2.2.2.2.2
    (by have := (idx t).2.2.2.2; have h : (y 1).val < 256 := (y 1).isLt; omega) (by have := (idx t).2.2.2.2; have h : (y 2).val < 256 := (y 2).isLt; omega)

set_option backward.isDefEq.respectTransparency false in
/-- What the body multiplies out is the point's share. -/
theorem prod (t : Fin cfg0.N) (y : S1x256x256.Idx) : (k0_pay2 (iblk m c 0 t) (iblk m c 1 t) y : EReal) = share m c t y := by
  unfold share part H D
  rw [← entry_h m c, ← entry_d m c]
  have q := (idx t).2.2.2.2
  idx_vars y
  pointwise [k0_pay1, k0_pay2]
  refine Finset.sum_congr rfl fun k _ => congrArg₂ (· * ·) ?_ ?_
  all_goals blk_point [iblk, idx t]

/-- At the last block of positions the accumulated block is the whole sum. -/
theorem total (t : Fin cfg0.N) (r : t.val % 8 = 7) (y : S1x256x256.Idx) : (outsAt0 m c t.val t.isLt y : EReal)
    = whole m c (256 * (grid0.coords t 0).val + (y 1).val) (256 * (grid0.coords t 1).val + (y 2).val)
    (by have := (idx t).2.2.2.2; have h : (y 1).val < 256 := (y 1).isLt; omega) (by have := (idx t).2.2.2.2; have h : (y 2).val < 256 := (y 2).isLt; omega) := by
  refine (Pipeline.eq_sum_fin_of_reset_step_apply_of_flush (M := EReal) (fun n h => outsAt0 m c n h) 8 (fun _ => 0) (share m c) (fun t h y => ?_) (fun t h y => ?_) t r y).trans ?_
  · rw [outsAt0_A m c t h (by have := (idx t).2.2.2; omega)]
    frame_out
    rw [zero_add]
    exact prod m c t y
  · rw [outsAt0_B m c t h (by have := (idx t).2.2.2; omega)]
    frame_out
    rw [← prod m c t]
    idx_vars y
    obtain rfl : y0 = 0 := Subsingleton.elim _ _
    pointwise [k0_pay2, k0_pay3]
  rw [zero_add]
  unfold whole share part
  refine Fin.sum_mul_add_congr fun s k hl => ?_
  have hlt := Pipeline.run_point_lt_of_flush t r s
  have e := (idx ⟨8 * (t.val / 8) + s.val, hlt⟩).2.2.2
  have e' := (idx t).2.2.2
  dsimp only at e
  refine congrArg₂ (· * ·) (congrArg (H m c) (congrArg₂ ix2 (Fin.ext ?_) (Fin.ext ?_))) (congrArg (D m c) (congrArg₂ ix2 (Fin.ext ?_) (Fin.ext ?_)))
  all_goals dsimp only; omega

/-- The reference's entry. -/
theorem ref (x0 x1) (i : Cert.DwAttnRefIdeal.S4x256x256.Idx) :
    Cert.DwAttnRefIdeal.Read.val_main_v5 (F := Ideal) x0 x1 i = ∑ n : Fin 8192, (x0 (ix2 n (i 1)) * x1 (ix2 n ⟨256 * (i 0).val + (i 2).val, by have h0 : (i 0).val < 4 := (i 0).isLt; have h2 : (i 2).val < 256 := (i 2).isLt; omega⟩) : EReal) := by
  rw [Cert.DwAttnRefIdeal.Read.val_main_v5_apply, Cert.DwAttnRefIdeal.Read.val_main_v4_apply, Cert.DwAttnRefIdeal.Read.val_main_v3_apply, Cert.DwAttnRefIdeal.Read.val_main_v2_apply]
  have h0 : (i 0).val < 4 := (i 0).isLt
  have h1 : (i 1).val < 256 := (i 1).isLt
  have h2 : (i 2).val < 256 := (i 2).isLt
  refine Finset.sum_congr rfl fun n _ => (mul_comm _ _).trans (congrArg₂ (· * ·) (congrArg x0 ?_) (congrArg x1 ?_))
  all_goals
    funext a
    fin_cases a
    · rfl
    · refine Fin.ext ?_
      dsimp only [Cert.DwAttnRefIdeal.Read.lidx_main_v2, Cert.DwAttnRefIdeal.Read.ridx_main_v2, Cert.DwAttnRefIdeal.Read.idx_main_v3, Cert.DwAttnRefIdeal.Read.idx_main_v4, Cert.DwAttnRefIdeal.Read.idx_main_v5, ix2]
      omega

/-- The result array after the run is the reference's. -/
theorem final2 : (dats m 0 c).arrAt 2 cfg0.N = Cert.DwAttnRefIdeal.Read.val_main_v5 (F := Ideal) (H m c) (D m c) := by
  refine (dats m 0 c).arrAt_eq_of_covers 2 _ (by decide +kernel) fun t hf y => ?_
  blk_simp
  rw [after0_2]
  refine (total m c t ((flush0_2 t).mp hf) y).trans (Eq.trans ?_ (ref _ _ _).symm)
  unfold whole
  refine Finset.sum_congr rfl fun n _ => congrArg₂ (· * ·) (congrArg (H m c) ?_) (congrArg (D m c) ?_)
  all_goals
    funext a
    fin_cases a
    · rfl
    · refine Fin.ext ?_
      blk_simp [ix2, idx t]
      try dsimp only
      try omega
end Cert.Proof.PDwAttn
end
-- ==== Proof.ADwAttn.lean ====
module
public import proofs.«01_k».proof.Defs
public import proofs.«01_k».proof.Proof.PDwAttn
public import proofs.«01_k».proof.Proof.Gen.DwAttn.Frame
public import proofs.«01_k».proof.Proof.Gen.DwAttnRefIdeal.Run
public import Idealize.ShloMosaic.Adequacy
public import Idealize.ShloMosaic.Init
@[expose] public section
noncomputable section
namespace Cert.Proof.ADwAttn
open Idealize.ShloMosaic Idealize.SL.Sem

/-- The reference is host code without a semaphore: its run keeps the arguments. -/
theorem frame_ref : Cert.quiescent_DwAttnRefIdeal :=
  fun m ρ _ => (θ_run _ _ _).mono (fun r h => ⟨fun c => (h c).2, Idealize.ShloMosaic.sem_eq_zero_of_no_sems (by decide) r.2⟩)
    (Cert.DwAttnRefIdeal.Value.run (F := Ideal) m ρ)

theorem algebraic : Cert.algebraic_DwAttnIdeal_DwAttnRefIdeal := by
  intro m ρ m' ρ' _ hag
  refine ⟨fun c => (Cert.DwAttnIdeal.Gen.dats m 0 c).arrAt 2 Cert.DwAttnIdeal.cfg0.N, Cert.DwAttnIdeal.Value.run_blocks m ρ,
    (θ_run Cert.DwAttnRefIdeal.defs _ _).mono (fun r h c => ⟨?_, (h c).2⟩) (Cert.DwAttnRefIdeal.Value.run (F := Ideal) m' ρ')⟩
  obtain ⟨e0, e1⟩ := hag c
  refine ((h c).1.trans (Cert.DwAttnRefIdeal.Read.val_main_v5_eq _ _)).trans ?_
  rw [e0, e1]
  exact (PDwAttn.final2 m c).symm
end Cert.Proof.ADwAttn
end
-- ==== Proof.PDwIn.lean ====
module
public import proofs.«01_k».proof.Proof.Gen.DwInIdeal.Value
public import proofs.«01_k».proof.Proof.Gen.DwInRefIdeal.Read
public import Idealize.ShloMosaic.Lib.Pipeline.ValueKit
@[expose] public section
set_option maxRecDepth 16384
noncomputable section
/-! The gradient of the packed projection's weight: a product added up over eight blocks of positions. -/
namespace Cert.Proof.PDwIn
open Idealize.ShloMosaic Idealize.ShloMosaic.TcCoe Idealize.SL.Sem
open Cert.DwInIdeal Cert.DwInIdeal.Gen
variable (m : (ℓ : Loc nD τ sig) → Buf (Elt Ideal) ℓ) (c : Dev nD)

/-- The index maps of the three windows, and the point's coordinates. -/
theorem idx : ∀ t : Fin cfg0.N,
    win0_0.index t = ![(grid0.coords t 2).val, (grid0.coords t 0).val] ∧ win0_1.index t = ![(grid0.coords t 2).val, (grid0.coords t 1).val]
      ∧ win0_2.index t = ![(grid0.coords t 0).val, (grid0.coords t 1).val]
      ∧ t.val = 8 * (4 * (grid0.coords t 0).val + (grid0.coords t 1).val) + (grid0.coords t 2).val
      ∧ (grid0.coords t 0).val < 1 ∧ (grid0.coords t 1).val < 4 ∧ (grid0.coords t 2).val < 8 :=
  (by decide +kernel : ∀ t : Fin grid0.N, _)
abbrev H : S8192x1024.Idx → EReal := m ((c : Thread nD τ).loc main_arg0)
abbrev D : S8192x9728.Idx → EReal := m ((c : Thread nD τ).loc main_arg1)
theorem entry_h : V m c main_v0 = m ((c : Thread nD τ).loc main_arg0) := by
  entry_read
  funext i
  pointwise
theorem entry_d : V m c main_v1 = m ((c : Thread nD τ).loc main_arg1) := by
  entry_read
  funext i
  pointwise

/-- The entry of the gradient at a row and a column, and a block's share of it. -/
def part (s r l : ℕ) (hs : s < 8) (hr : r < 1024) (hl : l < 9728) : EReal :=
  ∑ k : Fin 1024, (H m c (ix2 ⟨s * 1024 + k.val, by omega⟩ ⟨r, hr⟩) : EReal) * (D m c (ix2 ⟨s * 1024 + k.val, by omega⟩ ⟨l, hl⟩) : EReal)
def whole (r l : ℕ) (hr : r < 1024) (hl : l < 9728) : EReal :=
  ∑ n : Fin 8192, (H m c (ix2 n ⟨r, hr⟩) : EReal) * (D m c (ix2 n ⟨l, hl⟩) : EReal)
/-- A point's share at an index of its block. -/
def share (t : Fin cfg0.N) (y : S1024x2432.Idx) : EReal :=
  part m c (grid0.coords t 2).val (1024 * (grid0.coords t 0).val + (y 0).val) (2432 * (grid0.coords t 1).val + (y 1).val) (idx t).2.2.2.2.2.2
    (by have := (idx t).2.2.2.2; have h : (y 0).val < 1024 := (y 0).isLt; omega) (by have := (idx t).2.2.2.2; have h : (y 1).val < 2432 := (y 1).isLt; omega)

set_option backward.isDefEq.respectTransparency false in
/-- What the body multiplies out is the point's share. -/
theorem prod (t : Fin cfg0.N) (y : S1024x2432.Idx) : (k0_pay1 (iblk m c 0 t) (iblk m c 1 t) y : EReal) = share m c t y := by
  unfold share part H D
  rw [← entry_h m c, ← entry_d m c]
  have q := (idx t).2.2.2.2
  idx_vars y
  pointwise [k0_pay1]
  refine Finset.sum_congr rfl fun k _ => congrArg₂ (· * ·) ?_ ?_
  all_goals blk_point [iblk, idx t]

/-- At the last block of positions the accumulated block is the whole sum. -/
theorem total (t : Fin cfg0.N) (r : t.val % 8 = 7) (y : S1024x2432.Idx) : (outsAt0 m c t.val t.isLt y : EReal)
    = whole m c (1024 * (grid0.coords t 0).val + (y 0).val) (2432 * (grid0.coords t 1).val + (y 1).val)
    (by have := (idx t).2.2.2.2; have h : (y 0).val < 1024 := (y 0).isLt; omega) (by have := (idx t).2.2.2.2; have h : (y 1).val < 2432 := (y 1).isLt; omega) := by
  refine (Pipeline.eq_sum_fin_of_reset_step_apply_of_flush (M := EReal) (fun n h => outsAt0 m c n h) 8 (fun _ => 0) (share m c) (fun t h y => ?_) (fun t h y => ?_) t r y).trans ?_
  · rw [outsAt0_A m c t h (by have := (idx t).2.2.2; omega)]
    frame_out
    rw [zero_add]
    exact prod m c t y
  · rw [outsAt0_B m c t h (by have := (idx t).2.2.2; omega)]
    frame_out
    rw [← prod m c t]
    idx_vars y
    pointwise [k0_pay2]
  rw [zero_add]
  unfold whole share part
  refine Fin.sum_mul_add_congr fun s k hl => ?_
  have hlt := Pipeline.run_point_lt_of_flush t r s
  have e := (idx ⟨8 * (t.val / 8) + s.val, hlt⟩).2.2.2
  have e' := (idx t).2.2.2
  dsimp only at e
  refine congrArg₂ (· * ·) (congrArg (H m c) (congrArg₂ ix2 (Fin.ext ?_) (Fin.ext ?_))) (congrArg (D m c) (congrArg₂ ix2 (Fin.ext ?_) (Fin.ext ?_)))
  all_goals dsimp only; omega

/-- The reference's entry. -/
theorem ref (x0 x1) (i : Cert.DwInRefIdeal.S1024x9728.Idx) :
    Cert.DwInRefIdeal.Read.val_main_v3 (F := Ideal) x0 x1 i = ∑ n : Fin 8192, (x0 (ix2 n (i 0)) * x1 (ix2 n (i 1)) : EReal) := by
  rw [Cert.DwInRefIdeal.Read.val_main_v3_apply, Cert.DwInRefIdeal.Read.val_main_v2_apply]
  refine Finset.sum_congr rfl fun n _ => (mul_comm _ _).trans (congrArg₂ (· * ·) (congrArg x0 ?_) (congrArg x1 ?_))
  all_goals funext a; fin_cases a <;> rfl

/-- The result array after the run is the reference's. -/
theorem final2 : (dats m 0 c).arrAt 2 cfg0.N = Cert.DwInRefIdeal.Read.val_main_v3 (F := Ideal) (H m c) (D m c) := by
  refine (dats m 0 c).arrAt_eq_of_covers 2 _ (by decide +kernel) fun t hf y => ?_
  blk_simp
  rw [after0_2]
  refine (total m c t ((flush0_2 t).mp hf) y).trans (Eq.trans ?_ (ref _ _ _).symm)
  unfold whole
  refine Finset.sum_congr rfl fun n _ => congrArg₂ (· * ·) (congrArg (H m c) ?_) (congrArg (D m c) ?_)
  all_goals
    funext a
    fin_cases a
    · rfl
    · refine Fin.ext ?_
      blk_simp [ix2, idx t]
      try dsimp only
      try omega
end Cert.Proof.PDwIn
end
-- ==== Proof.ADwIn.lean ====
module
public import proofs.«01_k».proof.Defs
public import proofs.«01_k».proof.Proof.PDwIn
public import proofs.«01_k».proof.Proof.Gen.DwIn.Frame
public import proofs.«01_k».proof.Proof.Gen.DwInRefIdeal.Run
public import Idealize.ShloMosaic.Adequacy
public import Idealize.ShloMosaic.Init
@[expose] public section
noncomputable section
namespace Cert.Proof.ADwIn
open Idealize.ShloMosaic Idealize.SL.Sem

/-- The reference is host code without a semaphore: its run keeps the arguments. -/
theorem frame_ref : Cert.quiescent_DwInRefIdeal :=
  fun m ρ _ => (θ_run _ _ _).mono (fun r h => ⟨fun c => (h c).2, Idealize.ShloMosaic.sem_eq_zero_of_no_sems (by decide) r.2⟩)
    (Cert.DwInRefIdeal.Value.run (F := Ideal) m ρ)

theorem algebraic : Cert.algebraic_DwInIdeal_DwInRefIdeal := by
  intro m ρ m' ρ' _ hag
  refine ⟨fun c => (Cert.DwInIdeal.Gen.dats m 0 c).arrAt 2 Cert.DwInIdeal.cfg0.N, Cert.DwInIdeal.Value.run_blocks m ρ,
    (θ_run Cert.DwInRefIdeal.defs _ _).mono (fun r h c => ⟨?_, (h c).2⟩) (Cert.DwInRefIdeal.Value.run (F := Ideal) m' ρ')⟩
  obtain ⟨e0, e1⟩ := hag c
  refine ((h c).1.trans (Cert.DwInRefIdeal.Read.val_main_v3_eq _ _)).trans ?_
  rw [e0, e1]
  exact (PDwIn.final2 m c).symm
end Cert.Proof.ADwIn
end
-- ==== Proof.PDX.lean ====
module
public import proofs.«01_k».proof.Proof.Gen.DXIdeal.Value
public import proofs.«01_k».proof.Proof.Gen.DXRefIdeal.Read
public import Idealize.ShloMosaic.Lib.Pipeline.ValueKit
@[expose] public section
set_option maxRecDepth 16384
noncomputable section
/-! The gradient of the step's input: the product with the packed projection, added up over four blocks of columns, and the residual's share. -/
namespace Cert.Proof.PDX
open Idealize.ShloMosaic Idealize.ShloMosaic.TcCoe Idealize.SL.Sem
open Cert.DXIdeal Cert.DXIdeal.Gen
variable (m : (ℓ : Loc nD τ sig) → Buf (Elt Ideal) ℓ) (c : Dev nD)

/-- The index maps of the four windows. -/
theorem idx : ∀ t : Fin cfg0.N, win0_0.index t = ![t.val / 4, t.val % 4] ∧ win0_1.index t = ![0, t.val % 4] ∧ win0_2.index t = ![t.val / 4, 0]
    ∧ win0_3.index t = ![t.val / 4, 0] ∧ t.val < 32 :=
  (by decide +kernel : ∀ t : Fin grid0.N, _)
abbrev U : S8192x9728.Idx → EReal := m ((c : Thread nD τ).loc main_arg0)
abbrev W : S1024x9728.Idx → EReal := m ((c : Thread nD τ).loc main_arg1)
abbrev R : S8192x1024.Idx → EReal := m ((c : Thread nD τ).loc main_arg2)
theorem entry_u : V m c main_v0 = m ((c : Thread nD τ).loc main_arg0) := by
  entry_read
  funext i
  pointwise
theorem entry_w : V m c main_v1 = m ((c : Thread nD τ).loc main_arg1) := by
  entry_read
  funext i
  pointwise
theorem entry_r : V m c main_arg2 = m ((c : Thread nD τ).loc main_arg2) := by
  entry_read
  rfl

/-- The residual's factor. -/
def alpha : EReal := (Ideal.ofBits .f32 0x3F9837F0#32 : Ideal .f32)
/-- A point's share of its block. -/
def part (t : Fin cfg0.N) (y : S1024x1024.Idx) : EReal :=
  ∑ k : Fin 2432, U m c (ix2 ⟨1024 * (t.val / 4) + (y 0).val, by have := (idx t).2.2.2.2; have h : (y 0).val < 1024 := (y 0).isLt; omega⟩ ⟨t.val % 4 * 2432 + k.val, by omega⟩)
    * W m c (ix2 ⟨(y 1).val, (y 1).isLt⟩ ⟨t.val % 4 * 2432 + k.val, by omega⟩)
def res (t : Fin cfg0.N) (y : S1024x1024.Idx) : EReal :=
  alpha * R m c (ix2 ⟨1024 * (t.val / 4) + (y 0).val, by have := (idx t).2.2.2.2; have h : (y 0).val < 1024 := (y 0).isLt; omega⟩ ⟨(y 1).val, (y 1).isLt⟩)
def share (t : Fin cfg0.N) (y : S1024x1024.Idx) : EReal := if t.val % 4 = 0 then part m c t y + res m c t y else part m c t y

set_option backward.isDefEq.respectTransparency false in
/-- What the body multiplies out is the point's share. -/
theorem prod (t : Fin cfg0.N) (y : S1024x1024.Idx) : (k0_pay1 (iblk m c 0 t) (iblk m c 1 t) y : EReal) = part m c t y := by
  unfold part U W
  rw [← entry_u m c, ← entry_w m c]
  have q := (idx t).2.2.2.2
  idx_vars y
  pointwise [k0_pay1]
  refine Finset.sum_congr rfl fun k _ => congrArg₂ (· * ·) ?_ ?_
  all_goals blk_point [iblk, idx t]
set_option backward.isDefEq.respectTransparency false in
/-- The residual's block. -/
theorem resid (t : Fin cfg0.N) (y : S1024x1024.Idx) : (alpha * iblk m c 2 t y : EReal) = res m c t y := by
  unfold res R
  rw [← entry_r m c]
  idx_vars y
  refine congrArg (alpha * ·) ?_
  blk_point [iblk, idx t]

/-- At the last block of columns the accumulated block is the whole sum and the residual's share. -/
theorem total (t : Fin cfg0.N) (r : t.val % 4 = 3) (y : S1024x1024.Idx) : (outsAt0 m c t.val t.isLt y : EReal)
    = res m c t y + ∑ k : Fin 9728, U m c (ix2 ⟨1024 * (t.val / 4) + (y 0).val, by have := (idx t).2.2.2.2; have h : (y 0).val < 1024 := (y 0).isLt; omega⟩ k)
    * W m c (ix2 ⟨(y 1).val, (y 1).isLt⟩ k) := by
  have q := (idx t).2.2.2.2
  refine (Pipeline.eq_sum_fin_of_reset_step_apply_of_flush (M := EReal) (fun n h => outsAt0 m c n h) 4 (fun _ => 0) (share m c) (fun t h y => ?_) (fun t h y => ?_) t r y).trans ?_
  · rw [outsAt0_A m c t h (by omega)]
    frame_out
    unfold share
    rw [zero_add, if_pos h, ← prod m c t, ← resid m c t]
    idx_vars y
    pointwise [k0_pay2]
    rfl
  · rw [outsAt0_B m c t h (by omega)]
    frame_out
    unfold share
    rw [if_neg h, ← prod m c t]
    idx_vars y
    pointwise [k0_pay3]
  have e : ∀ s : Fin 4, share m c ⟨4 * (t.val / 4) + s.val, Pipeline.run_point_lt_of_flush t r s⟩ y
      = part m c ⟨4 * (t.val / 4) + s.val, Pipeline.run_point_lt_of_flush t r s⟩ y + if s = 0 then res m c t y else 0 := by
    intro s
    unfold share
    by_cases h : s = 0
    · subst h
      rw [if_pos (by dsimp only [Fin.val_zero]; omega), if_pos rfl]
      refine congrArg (_ + ·) ?_
      unfold res
      refine congrArg (alpha * ·) (congrArg (R m c) (congrArg₂ ix2 (Fin.ext ?_) rfl))
      dsimp only [Fin.val_zero]
      omega
    · have h' : s.val ≠ 0 := fun z => h (Fin.ext z)
      rw [if_neg (by dsimp only; omega), if_neg h, add_zero]
  rw [zero_add, Finset.sum_congr rfl fun s _ => e s, Finset.sum_add_distrib, Finset.sum_ite_eq' Finset.univ (0 : Fin 4), if_pos (Finset.mem_univ _), add_comm]
  refine congrArg (res m c t y + ·) ?_
  unfold part
  refine Fin.sum_mul_add_congr fun s k hl => ?_
  refine congrArg₂ (· * ·) (congrArg (U m c) (congrArg₂ ix2 (Fin.ext ?_) (Fin.ext ?_))) (congrArg (W m c) (congrArg₂ ix2 rfl (Fin.ext ?_)))
  all_goals dsimp only; omega

/-- The reference's entry. -/
theorem ref (x0 x1 x2) (i : Cert.DXRefIdeal.S8192x1024.Idx) :
    Cert.DXRefIdeal.Read.val_main_v7 (F := Ideal) x0 x1 x2 i = (alpha * x2 i + ∑ k : Fin 9728, x0 (ix2 (i 0) k) * x1 (ix2 (i 1) k) : EReal) := by
  rw [Cert.DXRefIdeal.Read.val_main_v7_apply, Cert.DXRefIdeal.Read.val_main_v6_apply]
  refine congrArg₂ (· + ·) rfl (Finset.sum_congr rfl fun n _ => congrArg₂ (· * ·) (congrArg x0 ?_) (congrArg x1 ?_))
  all_goals funext a; fin_cases a <;> rfl

/-- The result array after the run is the reference's. -/
theorem final3 : (dats m 0 c).arrAt 3 cfg0.N = Cert.DXRefIdeal.Read.val_main_v7 (F := Ideal) (U m c) (W m c) (R m c) := by
  refine (dats m 0 c).arrAt_eq_of_covers 3 _ (by decide +kernel) fun t hf y => ?_
  blk_simp
  rw [after0_3]
  refine (total m c t ((flush0_3 t).mp hf) y).trans (Eq.trans ?_ (ref _ _ _ _).symm)
  refine congrArg₂ (· + ·) (congrArg (alpha * ·) (congrArg (R m c) ?_)) (Finset.sum_congr rfl fun n _ => congrArg₂ (· * ·) (congrArg (U m c) ?_) (congrArg (W m c) ?_))
  all_goals
    funext a
    fin_cases a
    all_goals
      first
      | rfl
      | refine Fin.ext ?_
        blk_simp [ix2, idx t]
        try dsimp only
        first
        | done
        | omega
        | rfl
        | exact congrArg (· + _) (Nat.mul_comm _ _)
end Cert.Proof.PDX
end
-- ==== Proof.ADX.lean ====
module
public import proofs.«01_k».proof.Defs
public import proofs.«01_k».proof.Proof.PDX
public import proofs.«01_k».proof.Proof.Gen.DX.Frame
public import proofs.«01_k».proof.Proof.Gen.DXRefIdeal.Run
public import Idealize.ShloMosaic.Adequacy
public import Idealize.ShloMosaic.Init
@[expose] public section
noncomputable section
namespace Cert.Proof.ADX
open Idealize.ShloMosaic Idealize.SL.Sem

/-- The reference is host code without a semaphore: its run keeps the arguments. -/
theorem frame_ref : Cert.quiescent_DXRefIdeal :=
  fun m ρ _ => (θ_run _ _ _).mono (fun r h => ⟨fun c => (h c).2, Idealize.ShloMosaic.sem_eq_zero_of_no_sems (by decide) r.2⟩)
    (Cert.DXRefIdeal.Value.run (F := Ideal) m ρ)

theorem algebraic : Cert.algebraic_DXIdeal_DXRefIdeal := by
  intro m ρ m' ρ' _ hag
  refine ⟨fun c => (Cert.DXIdeal.Gen.dats m 0 c).arrAt 3 Cert.DXIdeal.cfg0.N, Cert.DXIdeal.Value.run_blocks m ρ,
    (θ_run Cert.DXRefIdeal.defs _ _).mono (fun r h c => ⟨?_, (h c).2⟩) (Cert.DXRefIdeal.Value.run (F := Ideal) m' ρ')⟩
  obtain ⟨e0, e1, e2⟩ := hag c
  refine ((h c).1.trans (Cert.DXRefIdeal.Read.val_main_v7_eq _ _ _)).trans ?_
  rw [e0, e1, e2]
  exact (PDX.final3 m c).symm
end Cert.Proof.ADX
end
-- ==== Proof.PInProj.lean ====
module
public import proofs.«01_k».proof.Proof.Gen.InProjIdeal.Value
public import proofs.«01_k».proof.Proof.Gen.InProjRefIdeal.Read
public import Idealize.ShloMosaic.Lib.Pipeline.ValueKit
@[expose] public section
set_option maxRecDepth 16384
noncomputable section
/-! The packed projection, forward: a product in blocks of rows and columns. -/
namespace Cert.Proof.PInProj
open Idealize.ShloMosaic Idealize.ShloMosaic.TcCoe Idealize.SL.Sem
open Cert.InProjIdeal Cert.InProjIdeal.Gen
variable (m : (ℓ : Loc nD τ sig) → Buf (Elt Ideal) ℓ) (c : Dev nD)

/-- The index maps of the three windows. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)
theorem entry_h : V m c main_v0 = m ((c : Thread nD τ).loc main_arg0) := by
  entry_read
  funext i
  pointwise
theorem entry_w : V m c main_v1 = m ((c : Thread nD τ).loc main_arg1) := by
  entry_read
  funext i
  pointwise
/-- The product at an index. -/
theorem ref (x0 x1) (i : Cert.InProjRefIdeal.S8192x9728.Idx) :
    Cert.InProjRefIdeal.Read.val_main_v0 (F := Ideal) x0 x1 i = ∑ k : Fin 1024, x0 (ix2 (i 0) k) * x1 (ix2 k (i 1)) := by
  rw [Cert.InProjRefIdeal.Read.val_main_v0_apply]
  pointwise
  blk_point []

set_option backward.isDefEq.respectTransparency false in
/-- What the body multiplies out at an index of its block is the product at the index of the array the block puts it at. -/
theorem prod (t : Fin cfg0.N) (y) : k0_pay1 (iblk m c 0 t) (iblk m c 1 t) y
    = Cert.InProjRefIdeal.Read.val_main_v0 (F := Ideal) (m ((c : Thread nD τ).loc main_arg0)) (m ((c : Thread nD τ).loc main_arg1)) (((cfg0.win 2).blk t).view.emb y) := by
  rw [ref, ← entry_h m c, ← entry_w m c]
  pointwise [k0_pay1]
  blk_point [iblk, idx t]
/-- The result array after the run is the reference's product. -/
theorem final2 : (dats m 0 c).arrAt 2 cfg0.N
    = Cert.InProjRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact prod m c t y
end Cert.Proof.PInProj
end
-- ==== Proof.AInProj.lean ====
module
public import proofs.«01_k».proof.Defs
public import proofs.«01_k».proof.Proof.PInProj
public import proofs.«01_k».proof.Proof.Gen.InProj.Frame
public import proofs.«01_k».proof.Proof.Gen.InProjRefIdeal.Run
public import Idealize.ShloMosaic.Adequacy
public import Idealize.ShloMosaic.Init
@[expose] public section
noncomputable section
namespace Cert.Proof.AInProj
open Idealize.ShloMosaic Idealize.SL.Sem

/-- The reference is host code without a semaphore: its run keeps the arguments. -/
theorem frame_ref : Cert.quiescent_InProjRefIdeal :=
  fun m ρ _ => (θ_run _ _ _).mono (fun r h => ⟨fun c => (h c).2, Idealize.ShloMosaic.sem_eq_zero_of_no_sems (by decide) r.2⟩)
    (Cert.InProjRefIdeal.Value.run (F := Ideal) m ρ)

theorem algebraic : Cert.algebraic_InProjIdeal_InProjRefIdeal := by
  intro m ρ m' ρ' _ hag
  refine ⟨fun c => (Cert.InProjIdeal.Gen.dats m 0 c).arrAt 2 Cert.InProjIdeal.cfg0.N, Cert.InProjIdeal.Value.run_blocks m ρ,
    (θ_run Cert.InProjRefIdeal.defs _ _).mono (fun r h c => ⟨?_, (h c).2⟩) (Cert.InProjRefIdeal.Value.run (F := Ideal) m' ρ')⟩
  obtain ⟨e0, e1⟩ := hag c
  refine ((h c).1.trans (Cert.InProjRefIdeal.Read.val_main_v0_eq _ _)).trans ?_
  rw [e0, e1]
  exact (PInProj.final2 m c).symm
end Cert.Proof.AInProj
end
-- ==== Proof.Mix.lean ====
module
public import proofs.«01_k».proof.Proof.Ln
@[expose] public section
noncomputable section
/-! The mixing of the attention groups and of the two branches, the product with w_out and the first layer norm, at a position. -/
namespace Cert.Proof.Mix
open Idealize.ShloMosaic
open Cert.Proof.SoftRow (coe_sum)

/-- The residual's scale, as the programs write it. -/
abbrev alpha : EReal := Ideal.ofBits .f32 0x3F9837F0#32

section weights
variable (a b c : EReal)
/-- The largest of three log-denominators, and a group's part after it is taken off. -/
def top : EReal := max (max a b) c
def part (e : EReal) : EReal := Ideal.exp (e - top a b c)
def den : EReal := part a b c a + part a b c b + part a b c c
/-- A group's weight: its part over the parts' sum, and its part times one over it. -/
def weight (e : EReal) : EReal := Ideal.div (part a b c e) (den a b c)
def scaled (e : EReal) : EReal := part a b c e * Ideal.div 1 (den a b c)

/-- On numbers the two are the same. -/
theorem weight_eq (x y z : ℝ) (e : EReal) : weight x y z e = scaled x y z e := by
  obtain ⟨s, hs, hd⟩ : ∃ s : ℝ, s ≠ 0 ∧ den (x : EReal) y z = (s : EReal) := by
    have ht : top (x : EReal) y z = ((max (max x y) z : ℝ) : EReal) := by
      rw [top, EReal.coe_strictMono.monotone.map_max, EReal.coe_strictMono.monotone.map_max]
    refine ⟨Real.exp (x - max (max x y) z) + Real.exp (y - max (max x y) z) + Real.exp (z - max (max x y) z), by positivity, ?_⟩
    unfold den part
    rw [ht]
    simp only [← EReal.coe_sub, Ideal.exp_coe, ← EReal.coe_add]
  unfold weight scaled
  rw [hd, Ideal.div_coe hs, Ideal.div_coe hs, one_mul]
end weights

variable (ys : (⟨2, ![8192, 1024]⟩ : Shape).Idx → EReal) (o0 o1 o2 : (⟨3, ![8192, 4, 64]⟩ : Shape).Idx → EReal) (l0 l1 l2 : (⟨2, ![8192, 4]⟩ : Shape).Idx → EReal)
  (wp : (⟨2, ![256, 1024]⟩ : Shape).Idx → EReal) (u : (⟨2, ![8192, 9728]⟩ : Shape).Idx → EReal) (bg : (⟨1, ![2048]⟩ : Shape).Idx → EReal)
  (x : (⟨2, ![8192, 1024]⟩ : Shape).Idx → EReal) (wo : (⟨2, ![1024, 1024]⟩ : Shape).Idx → EReal) (g b : (⟨1, ![1024]⟩ : Shape).Idx → EReal)

/-- The groups' outputs, mixed with given weights. -/
def att (W : EReal → EReal → EReal → EReal → EReal) (n : Fin 8192) (l : Fin 256) : EReal :=
  let h : Fin 4 := ⟨l.val / 64, by omega⟩
  let d : Fin 64 := ⟨l.val % 64, by omega⟩
  let V := W (l0 (ix2 n h)) (l1 (ix2 n h)) (l2 (ix2 n h))
  V (l0 (ix2 n h)) * o0 (ix3 n h d) + V (l1 (ix2 n h)) * o1 (ix3 n h d) + V (l2 (ix2 n h)) * o2 (ix3 n h d)

variable (A : Fin 8192 → Fin 256 → EReal)
/-- A gate. -/
def sig (z : EReal) : EReal := Ideal.div 1 (1 + Ideal.exp (0 - z))
def gate (n : Fin 8192) (l : Fin 2048) : EReal := sig (u (ix2 n ⟨2048 + l.val, by omega⟩) + bg (ix1 l))
/-- The branches mixed. -/
def mixin (n : Fin 8192) (l : Fin 1024) : EReal :=
  gate u bg n ⟨l.val, by omega⟩ * ys (ix2 n l) + gate u bg n ⟨1024 + l.val, by omega⟩ * ∑ k : Fin 256, A n k * wp (ix2 k l)
/-- The argument of the norm, and the norm. -/
def pre (n : Fin 8192) (l : Fin 1024) : EReal := alpha * x (ix2 n l) + ∑ k : Fin 1024, mixin ys wp u bg A n k * wo (ix2 k l)
def norm (n : Fin 8192) (l : Fin 1024) : EReal := Ln.hat (pre ys wp u bg x wo A n) l * g (ix1 l) + b (ix1 l)
end Cert.Proof.Mix
end
-- ==== Proof.PMix.lean ====
module
public import proofs.«01_k».proof.Proof.Gen.MixOutIdeal.Value
public import proofs.«01_k».proof.Proof.Mix
public import Idealize.ShloMosaic.Lib.StableHlo.RunRead
@[expose] public section
set_option maxRecDepth 16384
noncomputable section
/-! The kernel of the mixing, the product with w_out and the first norm: what it leaves in its arrays. -/
namespace Cert.Proof.PMix
open Idealize.ShloMosaic Idealize.ShloMosaic.TcCoe Idealize.SL.Sem
open Cert.MixOutIdeal Cert.MixOutIdeal.Gen

variable (m : (ℓ : Loc nD τ sig) → Buf (Elt Ideal) ℓ) (c : Dev nD)

/-- The launched arrays. -/
abbrev ys : S8192x1024.Idx → EReal := m ((c : Thread nD τ).loc main_arg0)
abbrev o0 : S8192x4x64.Idx → EReal := m ((c : Thread nD τ).loc main_arg1)
abbrev o1 : S8192x4x64.Idx → EReal := m ((c : Thread nD τ).loc main_arg2)
abbrev o2 : S8192x4x64.Idx → EReal := m ((c : Thread nD τ).loc main_arg3)
abbrev l0 : S8192x4.Idx → EReal := m ((c : Thread nD τ).loc main_arg4)
abbrev l1 : S8192x4.Idx → EReal := m ((c : Thread nD τ).loc main_arg5)
abbrev l2 : S8192x4.Idx → EReal := m ((c : Thread nD τ).loc main_arg6)
abbrev wp : S256x1024.Idx → EReal := m ((c : Thread nD τ).loc main_arg7)
abbrev uu : S8192x9728.Idx → EReal := m ((c : Thread nD τ).loc main_arg8)
abbrev bg : S2048.Idx → EReal := m ((c : Thread nD τ).loc main_arg9)
abbrev xx : S8192x1024.Idx → EReal := m ((c : Thread nD τ).loc main_arg10)
abbrev wo : S1024x1024.Idx → EReal := m ((c : Thread nD τ).loc main_arg11)
abbrev gg : S1024.Idx → EReal := m ((c : Thread nD τ).loc main_arg12)
abbrev bb : S1024.Idx → EReal := m ((c : Thread nD τ).loc main_arg13)

/-- The index maps of the windows, in closed form. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![0, 0, 0]
      ∧ win0_8.index t = ![t.val, 2] ∧ win0_9.index t = ![t.val, 3] ∧ win0_10.index t = ![0, 0] ∧ win0_11.index t = ![0, 1]
      ∧ win0_12.index t = ![t.val, 0] ∧ win0_13.index t = ![0, 0] ∧ win0_14.index t = ![0, 0] ∧ win0_15.index t = ![0, 0]
      ∧ win0_16.index t = ![t.val, 0] ∧ win0_17.index t = ![t.val, 0] ∧ win0_18.index t = ![t.val, 0] ∧ win0_19.index t = ![t.val, 0] :=
  (by decide +kernel : ∀ t : Fin grid0.N, _)
theorem small (t : Fin cfg0.N) : t.val < 16 := lt_of_lt_of_eq t.isLt (show cfg0.N = 16 from N_0)

/-- The reshaped arrays enter the call. -/
theorem entry_o0 (n : Fin 8192) (l : Fin 256) : (V m c main_v3 (ix2 n l) : EReal) = o0 m c (ix3 n ⟨l.val / 64, by omega⟩ ⟨l.val % 64, by omega⟩) := by
  entry_read
  pointwise
theorem entry_o1 (n : Fin 8192) (l : Fin 256) : (V m c main_v4 (ix2 n l) : EReal) = o1 m c (ix3 n ⟨l.val / 64, by omega⟩ ⟨l.val % 64, by omega⟩) := by
  entry_read
  pointwise
theorem entry_o2 (n : Fin 8192) (l : Fin 256) : (V m c main_v5 (ix2 n l) : EReal) = o2 m c (ix3 n ⟨l.val / 64, by omega⟩ ⟨l.val % 64, by omega⟩) := by
  entry_read
  pointwise
theorem entry_l0 (n : Fin 8192) (l : Fin 256) : (V m c main_v8 (ix2 n l) : EReal) = l0 m c (ix2 n ⟨l.val / 64, by omega⟩) := by
  entry_read
  pointwise
theorem entry_l1 (n : Fin 8192) (l : Fin 256) : (V m c main_v11 (ix2 n l) : EReal) = l1 m c (ix2 n ⟨l.val / 64, by omega⟩) := by
  entry_read
  pointwise
theorem entry_l2 (n : Fin 8192) (l : Fin 256) : (V m c main_v14 (ix2 n l) : EReal) = l2 m c (ix2 n ⟨l.val / 64, by omega⟩) := by
  entry_read
  pointwise
theorem entry_wp (a : Fin 4) (k l : Fin 256) : (V m c main_v2 (ix3 a k l) : EReal) = wp m c (ix2 k ⟨256 * a.val + l.val, by omega⟩) := by
  entry_read
  pointwise
  exact congrArg (fun i => wp m c (ix2 k i)) (Fin.ext (by dsimp only; omega))
theorem entry_bg (l : Fin 2048) : (V m c main_v15 (ix2 0 l) : EReal) = bg m c (ix1 l) := by
  entry_read
  pointwise
theorem entry_wo : V m c main_v16 = wo m c := by
  entry_read
  funext i
  pointwise
theorem entry_g (l : Fin 1024) : (V m c main_v17 (ix2 0 l) : EReal) = gg m c (ix1 l) := by
  entry_read
  pointwise
theorem entry_b (l : Fin 1024) : (V m c main_v18 (ix2 0 l) : EReal) = bb m c (ix1 l) := by
  entry_read
  pointwise

/-- The blocks of the packed projection lie inside it. -/
theorem whole8 (t : Fin cfg0.N) (j : (cfg0.win 8).block.Idx) : (cfg0.win 8).moved (cfg0.grid.coords t) j = true :=
  ((cfg0.win 8).moved_iff _ j).mpr fun a => by
    have := (j a).isLt
    unfold Pipeline.Window.xsize
    rw [(by decide +kernel : ∀ (t : Fin grid0.N) (a : Fin 2), (win0_8).clip (grid0.coords t) a = none) t a]
    exact this
theorem whole9 (t : Fin cfg0.N) (j : (cfg0.win 9).block.Idx) : (cfg0.win 9).moved (cfg0.grid.coords t) j = true :=
  ((cfg0.win 9).moved_iff _ j).mpr fun a => by
    have := (j a).isLt
    unfold Pipeline.Window.xsize
    rw [(by decide +kernel : ∀ (t : Fin grid0.N) (a : Fin 2), (win0_9).clip (grid0.coords t) a = none) t a]
    exact this

/-- A point's row. -/
abbrev row (t : Fin cfg0.N) (r : Fin 512) : Fin 8192 := ⟨512 * t.val + r.val, by have := small t; omega⟩

/-- The mixed outputs of the groups. -/
abbrev A := Mix.att (o0 m c) (o1 m c) (o2 m c) (l0 m c) (l1 m c) (l2 m c) Mix.scaled
abbrev att (t : Fin cfg0.N) : FVec Ideal S512x256 .f32 :=
  k0_pay1 (iblk m c 4 t) (iblk m c 5 t) (iblk m c 6 t) (iblk m c 1 t) (iblk m c 2 t) (iblk m c 3 t)
theorem att_at (t : Fin cfg0.N) (r : Fin 512) (l : Fin 256) : (att m c t (ix2 r l) : EReal) = A m c (row t r) l := by
  have e1 : (iblk m c 1 t (ix2 r l) : EReal) = V m c main_v3 (ix2 (row t r) l) := by blk_point [iblk, idx t]
  have e2 : (iblk m c 2 t (ix2 r l) : EReal) = V m c main_v4 (ix2 (row t r) l) := by blk_point [iblk, idx t]
  have e3 : (iblk m c 3 t (ix2 r l) : EReal) = V m c main_v5 (ix2 (row t r) l) := by blk_point [iblk, idx t]
  have e4 : (iblk m c 4 t (ix2 r l) : EReal) = V m c main_v8 (ix2 (row t r) l) := by blk_point [iblk, idx t]
  have e5 : (iblk m c 5 t (ix2 r l) : EReal) = V m c main_v11 (ix2 (row t r) l) := by blk_point [iblk, idx t]
  have e6 : (iblk m c 6 t (ix2 r l) : EReal) = V m c main_v14 (ix2 (row t r) l) := by blk_point [iblk, idx t]
  pointwise [att, k0_pay1]
  rw [e1, e2, e3, e4, e5, e6, entry_o0, entry_o1, entry_o2, entry_l0, entry_l1, entry_l2]
  rfl

/-- The two gates, the first times its branch. -/
abbrev first (t : Fin cfg0.N) : FVec Ideal S512x1024 .f32 :=
  k0_pay4 (k0_pay2 (X0_8 m c t) (iblk m c 10 t)) (Scalar.ofBits .f32 0x00000000#32) (iblk m c 0 t)
abbrev second (t : Fin cfg0.N) : FVec Ideal S512x1024 .f32 := k0_pay3 (X0_9 m c t) (iblk m c 11 t)
theorem first_at (t : Fin cfg0.N) (r : Fin 512) (l : Fin 1024) :
    (first m c t (ix2 r l) : EReal) = Mix.gate (uu m c) (bg m c) (row t r) ⟨l.val, by omega⟩ * ys m c (ix2 (row t r) l) := by
  have e0 : (iblk m c 0 t (ix2 r l) : EReal) = ys m c (ix2 (row t r) l) := by blk_point [iblk, idx t, V]
  have e8 : (X0_8 m c t (ix2 r l) : EReal) = uu m c (ix2 (row t r) ⟨2048 + l.val, by omega⟩) := by
    unfold X0_8 Pipeline.Window.fill
    rw [dif_pos (whole8 t _)]
    blk_point [iblk, idx t, V]
  have e10 : (iblk m c 10 t (ix2 0 l) : EReal) = bg m c (ix1 ⟨l.val, by omega⟩) := by
    refine Eq.trans ?_ (entry_bg m c ⟨l.val, by omega⟩)
    blk_point [iblk, idx t]
  pointwise [first, k0_pay4, k0_pay2]
  rw [e0, e8, e10]
  rfl
theorem second_at (t : Fin cfg0.N) (r : Fin 512) (l : Fin 1024) :
    (second m c t (ix2 r l) : EReal) = Mix.gate (uu m c) (bg m c) (row t r) ⟨1024 + l.val, by omega⟩ := by
  have e9 : (X0_9 m c t (ix2 r l) : EReal) = uu m c (ix2 (row t r) ⟨2048 + (1024 + l.val), by omega⟩) := by
    unfold X0_9 Pipeline.Window.fill
    rw [dif_pos (whole9 t _)]
    blk_point [iblk, idx t, V]
  have e11 : (iblk m c 11 t (ix2 0 l) : EReal) = bg m c (ix1 ⟨1024 + l.val, by omega⟩) := by
    refine Eq.trans ?_ (entry_bg m c ⟨1024 + l.val, by omega⟩)
    blk_point [iblk, idx t]
  pointwise [second, k0_pay3]
  rw [e9, e11]
  rfl

/-- A shard of the projection, as the body loads it. -/
abbrev shard0 (W : Vec Ideal S4x256x256 .bf16) : Vec Ideal S1x256x256 .bf16 := View.ld W (Rect.unit ![0, 0, 0] ![1, 256, 256] inb_S4x256x256_S1x256x256_0_0_0)
abbrev shard1 (W : Vec Ideal S4x256x256 .bf16) : Vec Ideal S1x256x256 .bf16 := View.ld W (Rect.unit ![1, 0, 0] ![1, 256, 256] inb_S4x256x256_S1x256x256_1_0_0)
abbrev shard2 (W : Vec Ideal S4x256x256 .bf16) : Vec Ideal S1x256x256 .bf16 := View.ld W (Rect.unit ![2, 0, 0] ![1, 256, 256] inb_S4x256x256_S1x256x256_2_0_0)
abbrev shard3 (W : Vec Ideal S4x256x256 .bf16) : Vec Ideal S1x256x256 .bf16 := View.ld W (Rect.unit ![3, 0, 0] ![1, 256, 256] inb_S4x256x256_S1x256x256_3_0_0)
/-- The branches mixed, of a block's parts. -/
abbrev mixed (s f : FVec Ideal S512x1024 .f32) (a : FVec Ideal S512x256 .f32) (W : Vec Ideal S4x256x256 .bf16) : FVec Ideal S512x1024 .bf16 :=
  k0_pay10 s f (k0_pay5 a) (k0_pay6 a (shard0 W))
      (k0_pay7 a (shard1 W))
      (k0_pay8 a (shard2 W))
      (k0_pay9 (shard3 W))
      (constant S512x256 FTy.f32 0#32)
theorem mixed_at (s f : FVec Ideal S512x1024 .f32) (a : FVec Ideal S512x256 .f32) (W : Vec Ideal S4x256x256 .bf16) (r : Fin 512) (l : Fin 1024) :
    (mixed s f a W (ix2 r l) : EReal) = f (ix2 r l) + s (ix2 r l) * ∑ k : Fin 256, a (ix2 r k) * W (ix3 ⟨l.val / 256, by omega⟩ k ⟨l.val % 256, by omega⟩) := by
  have w0 : ∀ k l : Fin 256, (shard0 W (ix3 0 k l) : EReal) = W (ix3 0 k l) := fun k l => by
    refine congrArg W (funext fun i => ?_)
    fin_cases i <;> exact Fin.ext (by simp [Rect.unit])
  have w1 : ∀ k l : Fin 256, (shard1 W (ix3 0 k l) : EReal) = W (ix3 1 k l) := fun k l => by
    refine congrArg W (funext fun i => ?_)
    fin_cases i <;> exact Fin.ext (by simp [Rect.unit])
  have w2 : ∀ k l : Fin 256, (shard2 W (ix3 0 k l) : EReal) = W (ix3 2 k l) := fun k l => by
    refine congrArg W (funext fun i => ?_)
    fin_cases i <;> exact Fin.ext (by simp [Rect.unit])
  have w3 : ∀ k l : Fin 256, (shard3 W (ix3 0 k l) : EReal) = W (ix3 3 k l) := fun k l => by
    refine congrArg W (funext fun i => ?_)
    fin_cases i <;> exact Fin.ext (by simp [Rect.unit])
  unfold mixed
  generalize shard0 W = W0 at w0 ⊢
  generalize shard1 W = W1 at w1 ⊢
  generalize shard2 W = W2 at w2 ⊢
  generalize shard3 W = W3 at w3 ⊢
  pointwise [k0_pay10, k0_pay9, k0_pay8, k0_pay7, k0_pay6, k0_pay5]
  simp only [w0, w1, w2, w3]
  refine congrArg (fun z : EReal => (f (ix2 r l) : EReal) + s (ix2 r l) * z) ?_
  have sh : ∀ (i : Fin 4) (j : ℕ) (hj : j < 256), l.val = 256 * i.val + j → ∑ k : Fin 256, (a (ix2 r k) : EReal) * W (ix3 i k ⟨j, hj⟩)
      = ∑ k : Fin 256, a (ix2 r k) * W (ix3 ⟨l.val / 256, by omega⟩ k ⟨l.val % 256, by omega⟩) := fun i j hj e => by
    have ei : i = ⟨l.val / 256, by omega⟩ := Fin.ext (by dsimp only; omega)
    have ej : (⟨j, hj⟩ : Fin 256) = ⟨l.val % 256, by omega⟩ := Fin.ext (by dsimp only; omega)
    rw [ei, ej]
  by_cases q : l.val < 256
  · rw [dif_pos q]
    exact sh 0 _ _ (by simp)
  rw [dif_neg q]
  by_cases q' : l.val - 256 < 256
  · rw [dif_pos q']
    exact sh 1 _ _ (by simp; omega)
  rw [dif_neg q']
  by_cases q'' : l.val - 256 - 256 < 256
  · rw [dif_pos q'']
    exact sh 2 _ _ (by simp; omega)
  rw [dif_neg q'']
  exact sh 3 _ _ (by simp; omega)
abbrev mix (t : Fin cfg0.N) : FVec Ideal S512x1024 .bf16 := mixed (second m c t) (first m c t) (att m c t) (iblk m c 7 t)
abbrev Mx := Mix.mixin (ys m c) (wp m c) (uu m c) (bg m c) (A m c)
theorem mix_at (t : Fin cfg0.N) (r : Fin 512) (l : Fin 1024) : (mix m c t (ix2 r l) : EReal) = Mx m c (row t r) l := by
  have w : ∀ k : Fin 256, (iblk m c 7 t (ix3 ⟨l.val / 256, by omega⟩ k ⟨l.val % 256, by omega⟩) : EReal) = wp m c (ix2 k l) := fun k => by
    refine Eq.trans ?_ ((entry_wp m c ⟨l.val / 256, by omega⟩ k ⟨l.val % 256, by omega⟩).trans (congrArg (fun i => wp m c (ix2 k i)) (Fin.ext ?_)))
    · blk_point [iblk, idx t]
    · dsimp only; omega
  refine (mixed_at _ _ _ _ r l).trans ?_
  simp only [first_at m c t, second_at m c t, att_at m c t, w]
  rfl

/-- The argument of the norm, of a block's parts. -/
abbrev full (s f : FVec Ideal S512x1024 .f32) (a : FVec Ideal S512x256 .f32) (W : Vec Ideal S4x256x256 .bf16) (x : Vec Ideal S512x1024 .f32) (w : Vec Ideal S1024x1024 .bf16) : FVec Ideal S512x1024 .f32 :=
  k0_pay11 s f (k0_pay5 a) (k0_pay6 a (shard0 W))
      (k0_pay7 a (shard1 W))
      (k0_pay8 a (shard2 W))
      (k0_pay9 (shard3 W))
      (constant S512x256 FTy.f32 0#32) x w
theorem full_at (s f : FVec Ideal S512x1024 .f32) (a : FVec Ideal S512x256 .f32) (W : Vec Ideal S4x256x256 .bf16) (x : Vec Ideal S512x1024 .f32) (w : Vec Ideal S1024x1024 .bf16) (r : Fin 512) (l : Fin 1024) :
    (full s f a W x w (ix2 r l) : EReal) = Mix.alpha * x (ix2 r l) + ∑ k : Fin 1024, mixed s f a W (ix2 r k) * w (ix2 k l) := by
  unfold full mixed k0_pay11
  generalize k0_pay10 (F := Ideal) _ _ _ _ _ _ _ _ = M
  pointwise
abbrev arg (t : Fin cfg0.N) : FVec Ideal S512x1024 .f32 := full (second m c t) (first m c t) (att m c t) (iblk m c 7 t) (iblk m c 12 t) (iblk m c 13 t)
abbrev Pr := Mix.pre (ys m c) (wp m c) (uu m c) (bg m c) (xx m c) (wo m c) (A m c)
theorem arg_at (t : Fin cfg0.N) (r : Fin 512) (l : Fin 1024) : (arg m c t (ix2 r l) : EReal) = Pr m c (row t r) l := by
  have e12 : (iblk m c 12 t (ix2 r l) : EReal) = xx m c (ix2 (row t r) l) := by blk_point [iblk, idx t, V]
  have e13 : ∀ k : Fin 1024, (iblk m c 13 t (ix2 k l) : EReal) = wo m c (ix2 k l) := fun k => by
    rw [← entry_wo m c]
    blk_point [iblk, idx t]
  refine (full_at _ _ _ _ _ _ r l).trans ?_
  have h := mix_at m c t r
  unfold mix at h
  simp only [h, e12, e13]
  rfl

theorem norm_at (s f : FVec Ideal S512x1024 .f32) (a : FVec Ideal S512x256 .f32) (W : Vec Ideal S4x256x256 .bf16) (x : Vec Ideal S512x1024 .f32) (w : Vec Ideal S1024x1024 .bf16) (g b : Vec Ideal S1x1024 .f32) (r : Fin 512) (l : Fin 1024) :
    (k0_pay12 s f (k0_pay5 a) (k0_pay6 a (shard0 W))
      (k0_pay7 a (shard1 W))
      (k0_pay8 a (shard2 W))
      (k0_pay9 (shard3 W))
      (constant S512x256 FTy.f32 0#32) x w g b (ix2 r l) : EReal) = Ln.hat (fun i => full s f a W x w (ix2 r i)) l * g (ix2 0 l) + b (ix2 0 l) := by
  unfold full k0_pay12
  generalize k0_pay11 (F := Ideal) _ _ _ _ _ _ _ _ _ _ = M
  unfold Ln.hat Ln.inv Ln.var Ln.cen Ln.mu
  pointwise
abbrev Nm := Mix.norm (ys m c) (wp m c) (uu m c) (bg m c) (xx m c) (wo m c) (gg m c) (bb m c) (A m c)

theorem point16 (t : Fin cfg0.N) (y : S512x256.Idx) : ((outsAt0 m c t).1 y : EReal) = A m c (row t (y 0)) (y 1) := by
  unfold outsAt0
  frame_out
  idx_vars y
  exact att_at m c t _ _
theorem point17 (t : Fin cfg0.N) (y : S512x1024.Idx) : ((outsAt0 m c t).2.1 y : EReal) = Mx m c (row t (y 0)) (y 1) := by
  unfold outsAt0
  frame_out
  idx_vars y
  exact mix_at m c t _ _
theorem point18 (t : Fin cfg0.N) (y : S512x1024.Idx) : ((outsAt0 m c t).2.2.1 y : EReal) = Pr m c (row t (y 0)) (y 1) := by
  unfold outsAt0
  frame_out
  idx_vars y
  exact arg_at m c t _ _
theorem point19 (t : Fin cfg0.N) (y : S512x1024.Idx) : ((outsAt0 m c t).2.2.2 y : EReal) = Nm m c (row t (y 0)) (y 1) := by
  unfold outsAt0
  frame_out
  idx_vars y
  have e14 : (iblk m c 14 t (ix2 0 y1) : EReal) = gg m c (ix1 y1) := by
    refine Eq.trans ?_ (entry_g m c y1)
    blk_point [iblk, idx t]
  have e15 : (iblk m c 15 t (ix2 0 y1) : EReal) = bb m c (ix1 y1) := by
    refine Eq.trans ?_ (entry_b m c y1)
    blk_point [iblk, idx t]
  refine (norm_at (second m c t) (first m c t) (att m c t) (iblk m c 7 t) (iblk m c 12 t) (iblk m c 13 t) _ _ y0 y1).trans ?_
  have h := arg_at m c t y0
  unfold arg at h
  simp only [h, e14, e15]
  rfl

/-- Where a block's index lies in each of the arrays. -/
theorem emb16 (t : Fin cfg0.N) (y : ((cfg0.win 16).xblock (cfg0.grid.coords t)).Idx) : ((((cfg0.win 16).blk t).view.emb y) 0 : ℕ) = 512 * t.val + (y 0 : ℕ)
    ∧ ((((cfg0.win 16).blk t).view.emb y) 1 : ℕ) = (y 1 : ℕ) := by
  constructor <;> blk_simp [idx t] <;> omega
theorem emb17 (t : Fin cfg0.N) (y : ((cfg0.win 17).xblock (cfg0.grid.coords t)).Idx) : ((((cfg0.win 17).blk t).view.emb y) 0 : ℕ) = 512 * t.val + (y 0 : ℕ)
    ∧ ((((cfg0.win 17).blk t).view.emb y) 1 : ℕ) = (y 1 : ℕ) := by
  constructor <;> blk_simp [idx t] <;> omega
theorem emb18 (t : Fin cfg0.N) (y : ((cfg0.win 18).xblock (cfg0.grid.coords t)).Idx) : ((((cfg0.win 18).blk t).view.emb y) 0 : ℕ) = 512 * t.val + (y 0 : ℕ)
    ∧ ((((cfg0.win 18).blk t).view.emb y) 1 : ℕ) = (y 1 : ℕ) := by
  constructor <;> blk_simp [idx t] <;> omega
theorem emb19 (t : Fin cfg0.N) (y : ((cfg0.win 19).xblock (cfg0.grid.coords t)).Idx) : ((((cfg0.win 19).blk t).view.emb y) 0 : ℕ) = 512 * t.val + (y 0 : ℕ)
    ∧ ((((cfg0.win 19).blk t).view.emb y) 1 : ℕ) = (y 1 : ℕ) := by
  constructor <;> blk_simp [idx t] <;> omega

/-- The kernel's arrays. -/
theorem final16 : ((dats m 0 c).arrAt 16 cfg0.N : S8192x256.Idx → EReal) = fun i => A m c (i 0) (i 1) := by
  have hc : (cfg0.win 16).Covers := by decide +kernel
  refine (dats m 0 c).arrAt_eq_of_covers 16 _ hc ?_
  intro t hf y
  have e := emb16 t y
  rw [after0_16]
  exact (point16 m c t _).trans (congrArg₂ (A m c) (Fin.ext e.1.symm) (Fin.ext e.2.symm))
theorem final17 : ((dats m 0 c).arrAt 17 cfg0.N : S8192x1024.Idx → EReal) = fun i => Mx m c (i 0) (i 1) := by
  have hc : (cfg0.win 17).Covers := by decide +kernel
  refine (dats m 0 c).arrAt_eq_of_covers 17 _ hc ?_
  intro t hf y
  have e := emb17 t y
  rw [after0_17]
  exact (point17 m c t _).trans (congrArg₂ (Mx m c) (Fin.ext e.1.symm) (Fin.ext e.2.symm))
theorem final18 : ((dats m 0 c).arrAt 18 cfg0.N : S8192x1024.Idx → EReal) = fun i => Pr m c (i 0) (i 1) := by
  have hc : (cfg0.win 18).Covers := by decide +kernel
  refine (dats m 0 c).arrAt_eq_of_covers 18 _ hc ?_
  intro t hf y
  have e := emb18 t y
  rw [after0_18]
  exact (point18 m c t _).trans (congrArg₂ (Pr m c) (Fin.ext e.1.symm) (Fin.ext e.2.symm))
theorem final19 : ((dats m 0 c).arrAt 19 cfg0.N : S8192x1024.Idx → EReal) = fun i => Nm m c (i 0) (i 1) := by
  have hc : (cfg0.win 19).Covers := by decide +kernel
  refine (dats m 0 c).arrAt_eq_of_covers 19 _ hc ?_
  intro t hf y
  have e := emb19 t y
  rw [after0_19]
  exact (point19 m c t _).trans (congrArg₂ (Nm m c) (Fin.ext e.1.symm) (Fin.ext e.2.symm))
end Cert.Proof.PMix
end
-- ==== Proof.RMix.lean ====
module
public import proofs.«01_k».proof.Proof.Gen.MixOutRefIdeal.Read
public import Idealize.ShloMosaic.Lib.Pipeline.ValueKit
public import proofs.«01_k».proof.Proof.Mix
@[expose] public section
set_option maxRecDepth 16384
noncomputable section
/-! The reference of the mixing, the product with w_out and the first norm, at a position. -/
namespace Cert.Proof.RMix
open Idealize.ShloMosaic Idealize.ShloMosaic.TcCoe Idealize.SL.Sem
open Cert.MixOutRefIdeal Cert.MixOutRefIdeal.Gen Cert.MixOutRefIdeal.Read

variable (ys : S8192x1024.Idx → EReal) (o0 o1 o2 : S8192x4x64.Idx → EReal) (l0 l1 l2 : S8192x4.Idx → EReal) (wp : S256x1024.Idx → EReal)
  (u : S8192x9728.Idx → EReal) (bg : S2048.Idx → EReal) (x : S8192x1024.Idx → EReal) (wo : S1024x1024.Idx → EReal) (g b : S1024.Idx → EReal)

/-- The stacked log-denominators and outputs. -/
theorem logs (n : Fin 8192) (h : Fin 4) : (val_main_v3 (F := Ideal) l0 l1 l2 (ix3 0 n h) : EReal) = l0 (ix2 n h)
    ∧ (val_main_v3 (F := Ideal) l0 l1 l2 (ix3 1 n h) : EReal) = l1 (ix2 n h) ∧ (val_main_v3 (F := Ideal) l0 l1 l2 (ix3 2 n h) : EReal) = l2 (ix2 n h) := by
  refine ⟨?_, ?_, ?_⟩ <;> pointwise [val_main_v3, val_main_v2, val_main_v1, val_main_v0]
theorem outs (n : Fin 8192) (h : Fin 4) (d : Fin 64) : (val_main_v19 (F := Ideal) o0 o1 o2 (ix4 0 n h d) : EReal) = o0 (ix3 n h d)
    ∧ (val_main_v19 (F := Ideal) o0 o1 o2 (ix4 1 n h d) : EReal) = o1 (ix3 n h d) ∧ (val_main_v19 (F := Ideal) o0 o1 o2 (ix4 2 n h d) : EReal) = o2 (ix3 n h d) := by
  refine ⟨?_, ?_, ?_⟩ <;> pointwise [val_main_v19, val_main_v18, val_main_v17, val_main_v16]

theorem bot : Ideal.ofBits .f32 0xFF800000#32 = ⊥ := by simp [Ideal.ofBits, Ideal.ieee]

/-- The largest log-denominator. -/
theorem top_at (n : Fin 8192) (h : Fin 4) : (val_main_v4 (F := Ideal) l0 l1 l2 (ix2 n h) : EReal) = Mix.top (l0 (ix2 n h)) (l1 (ix2 n h)) (l2 (ix2 n h)) := by
  obtain ⟨e0, e1, e2⟩ := logs l0 l1 l2 n h
  unfold val_main_v4
  generalize val_main_v3 (F := Ideal) l0 l1 l2 = X at e0 e1 e2 ⊢
  pointwise [val_main_cst]
  rw [bot]
  show Finset.univ.sup (fun x => X (ix3 x n h)) = _
  rw [show (Finset.univ : Finset (Fin 3)) = {0, 1, 2} from rfl, Finset.sup_insert, Finset.sup_insert, Finset.sup_singleton]
  rw [e0, e1, e2]
  exact (max_assoc _ _ _).symm
theorem part_at (n : Fin 8192) (h : Fin 4) (i : Fin 3) : (val_main_v10 (F := Ideal) l0 l1 l2 (ix3 i n h) : EReal)
    = Mix.part (l0 (ix2 n h)) (l1 (ix2 n h)) (l2 (ix2 n h)) (val_main_v3 (F := Ideal) l0 l1 l2 (ix3 i n h)) := by
  have e := top_at l0 l1 l2 n h
  unfold Mix.part
  rw [← e]
  pointwise [val_main_v10, val_main_v9, val_main_v8, val_main_v7, val_main_v6, val_main_v5, val_main_cst_0]
  rw [bot]
  simp only [bot_le, max_eq_right]
theorem weight_at (n : Fin 8192) (h : Fin 4) (i : Fin 3) : (val_main_v14 (F := Ideal) l0 l1 l2 (ix3 i n h) : EReal)
    = Mix.weight (l0 (ix2 n h)) (l1 (ix2 n h)) (l2 (ix2 n h)) (val_main_v3 (F := Ideal) l0 l1 l2 (ix3 i n h)) := by
  have e := part_at l0 l1 l2 n h
  obtain ⟨e0, e1, e2⟩ := logs l0 l1 l2 n h
  have s : (val_main_v11 (F := Ideal) l0 l1 l2 (ix2 n h) : EReal) = Mix.den (l0 (ix2 n h)) (l1 (ix2 n h)) (l2 (ix2 n h)) := by
    pointwise [val_main_v11, val_main_cst_1]
    simp only [e, Fin.sum_univ_three, e0, e1, e2]
    rfl
  unfold Mix.weight
  rw [← s, ← e]
  pointwise [val_main_v14, val_main_v13, val_main_v12]
/-- The mixed outputs of the groups. -/
abbrev A := Mix.att o0 o1 o2 l0 l1 l2 Mix.weight
theorem att_at (n : Fin 8192) (l : Fin 256) : (val_main_v23 (F := Ideal) o0 o1 o2 l0 l1 l2 (ix2 n l) : EReal) = A o0 o1 o2 l0 l1 l2 n l := by
  have e := fun h => weight_at l0 l1 l2 n h
  have e' := fun h => logs l0 l1 l2 n h
  have e'' := fun h d => outs o0 o1 o2 n h d
  pointwise [val_main_v23, val_main_v22, val_main_v21, val_main_v20, val_main_v15, val_main_cst_2]
  simp only [Fin.sum_univ_three, e, (e' _).1, (e' _).2.1, (e' _).2.2, (e'' _ _).1, (e'' _ _).2.1, (e'' _ _).2.2]
  rfl
theorem gate_at (n : Fin 8192) (l : Fin 2048) : (val_main_v34 (F := Ideal) u bg (ix2 n l) : EReal) = Mix.gate u bg n l := by
  pointwise [val_main_v34, val_main_v33, val_main_v32, val_main_v31, val_main_v30, val_main_v29, val_main_v28, val_main_v27, val_main_v26, val_main_v25, val_main_cst_3, val_main_cst_4]
  unfold Mix.gate Mix.sig
  rw [zero_sub]
theorem mixin_at (n : Fin 8192) (l : Fin 1024) : (val_main_v42 (F := Ideal) ys o0 o1 o2 l0 l1 l2 wp u bg (ix2 n l) : EReal) = Mix.mixin ys wp u bg (A o0 o1 o2 l0 l1 l2) n l := by
  have e := gate_at u bg n
  have e' := att_at o0 o1 o2 l0 l1 l2 n
  pointwise [val_main_v42, val_main_v41, val_main_v40, val_main_v39, val_main_v38, val_main_v37, val_main_v36, val_main_v35, val_main_v24]
  simp only [e, e']
  unfold Mix.mixin
  simp only [zero_mul, zero_add, one_mul]
theorem pre_at (n : Fin 8192) (l : Fin 1024) : (val_main_v46 (F := Ideal) ys o0 o1 o2 l0 l1 l2 wp u bg x wo (ix2 n l) : EReal) = Mix.pre ys wp u bg x wo (A o0 o1 o2 l0 l1 l2) n l := by
  have e := mixin_at ys o0 o1 o2 l0 l1 l2 wp u bg n
  pointwise [val_main_v46, val_main_v45, val_main_v44, val_main_v43, val_main_cst_5]
  simp only [e]
  rfl
theorem norm_at (n : Fin 8192) (l : Fin 1024) : (val_main_v71 (F := Ideal) ys o0 o1 o2 l0 l1 l2 wp u bg x wo g b (ix2 n l) : EReal) = Mix.norm ys wp u bg x wo g b (A o0 o1 o2 l0 l1 l2) n l := by
  have e := pre_at ys o0 o1 o2 l0 l1 l2 wp u bg x wo n
  have mu : ∀ z : Fin 1, (val_main_v51 (F := Ideal) ys o0 o1 o2 l0 l1 l2 wp u bg x wo (ix2 n z) : EReal) = Ln.mu (Mix.pre ys wp u bg x wo (A o0 o1 o2 l0 l1 l2) n) := fun z => by
    pointwise [val_main_v51, val_main_v50, val_main_v49, val_main_v48, val_main_cst_6, val_main_cst_7]
    simp only [e]
    rfl
  have cen : ∀ k, (val_main_v53 (F := Ideal) ys o0 o1 o2 l0 l1 l2 wp u bg x wo (ix2 n k) : EReal) = Ln.cen (Mix.pre ys wp u bg x wo (A o0 o1 o2 l0 l1 l2) n) k := fun k => by
    pointwise [val_main_v53, val_main_v52]
    rw [e, mu]
    rfl
  have inv : ∀ z : Fin 1, (val_main_v63 (F := Ideal) ys o0 o1 o2 l0 l1 l2 wp u bg x wo (ix2 n z) : EReal) = Ln.inv (Mix.pre ys wp u bg x wo (A o0 o1 o2 l0 l1 l2) n) := fun z => by
    pointwise [val_main_v63, val_main_v62, val_main_v61, val_main_v58, val_main_v57, val_main_v56, val_main_v55, val_main_v54, val_main_cst_8, val_main_cst_9, val_main_cst_10]
    simp only [cen]
    rfl
  pointwise [val_main_v71, val_main_v70, val_main_v69, val_main_v68, val_main_v67, val_main_v66, val_main_v65, val_main_v64, val_main_v60, val_main_v59]
  rw [e, mu, inv]
  rfl
end Cert.Proof.RMix
end
-- ==== Proof.AMix.lean ====
module
public import proofs.«01_k».proof.Defs
public import proofs.«01_k».proof.Proof.PMix
public import proofs.«01_k».proof.Proof.RMix
public import proofs.«01_k».proof.Proof.Finite
public import proofs.«01_k».proof.Proof.Gen.MixOut.Frame
public import proofs.«01_k».proof.Proof.Gen.MixOutRefIdeal.Run
public import proofs.«01_k».proof.Proof.Gen.Pre_logs_finite
public import Idealize.ShloMosaic.Adequacy
public import Idealize.ShloMosaic.Init
@[expose] public section
set_option maxRecDepth 16384
noncomputable section
/-! The claims about the mixing, the product with w_out and the first norm. -/
namespace Cert.Proof.AMix
open Idealize.ShloMosaic Idealize.SL.Sem

/-- The reference is host code without a semaphore: its run keeps the arguments. -/
theorem frame_ref : Cert.quiescent_MixOutRefIdeal := fun m ρ _ =>
  (θ_run Cert.MixOutRefIdeal.defs _ _).mono (fun r h => ⟨fun c => (h c).2.2.2.2,
      Idealize.ShloMosaic.sem_eq_zero_of_no_sems (by decide) r.2⟩)
    (Cert.MixOutRefIdeal.Value.run (F := Ideal) m ρ)

section
variable (m : (ℓ : Loc Cert.MixOutIdeal.nD Cert.MixOutIdeal.τ Cert.MixOutIdeal.sig) → Buf (Elt Ideal) ℓ)
  (hf : Cert.Pre_MixOutIdeal_logs_finite m) (c : Dev Cert.MixOutIdeal.nD)
open PMix

include hf in
/-- Where the precondition holds, the two forms of the weights agree. -/
theorem same : RMix.A (o0 m c) (o1 m c) (o2 m c) (l0 m c) (l1 m c) (l2 m c) = PMix.A m c := by
  obtain ⟨h0, h1, h2⟩ := hf c
  funext n l
  unfold PMix.A RMix.A Mix.att
  have e0 : l0 m c (ix2 n ⟨l.val / 64, by omega⟩) = ((l0 m c (ix2 n ⟨l.val / 64, by omega⟩)).toReal : EReal) := Finite.at_all _ _ h0 _
  have e1 : l1 m c (ix2 n ⟨l.val / 64, by omega⟩) = ((l1 m c (ix2 n ⟨l.val / 64, by omega⟩)).toReal : EReal) := Finite.at_all _ _ h1 _
  have e2 : l2 m c (ix2 n ⟨l.val / 64, by omega⟩) = ((l2 m c (ix2 n ⟨l.val / 64, by omega⟩)).toReal : EReal) := Finite.at_all _ _ h2 _
  have e : ∀ z, Mix.weight (l0 m c (ix2 n ⟨l.val / 64, by omega⟩)) (l1 m c (ix2 n ⟨l.val / 64, by omega⟩)) (l2 m c (ix2 n ⟨l.val / 64, by omega⟩)) z
      = Mix.scaled (l0 m c (ix2 n ⟨l.val / 64, by omega⟩)) (l1 m c (ix2 n ⟨l.val / 64, by omega⟩)) (l2 m c (ix2 n ⟨l.val / 64, by omega⟩)) z := fun z => by
    rw [e0, e1, e2]
    exact Mix.weight_eq _ _ _ z
  simp only [e]
include hf in
theorem agree16 : (Cert.MixOutRefIdeal.Read.val_main_v23 (F := Ideal) (o0 m c) (o1 m c) (o2 m c) (l0 m c) (l1 m c) (l2 m c))
    = (Cert.MixOutIdeal.Gen.dats m 0 c).arrAt 16 Cert.MixOutIdeal.cfg0.N := by
  refine Eq.trans ?_ (PMix.final16 m c).symm
  funext i
  obtain ⟨n, l, rfl⟩ : ∃ (n : Fin 8192) (l : Fin 256), i = ix2 n l := ⟨_, _, eq_ix2 i⟩
  refine (RMix.att_at _ _ _ _ _ _ n l).trans ?_
  rw [same m hf c]
  rfl
include hf in
theorem agree17 : (Cert.MixOutRefIdeal.Read.val_main_v47 (F := Ideal) (ys m c) (o0 m c) (o1 m c) (o2 m c) (l0 m c) (l1 m c) (l2 m c) (wp m c) (uu m c) (bg m c))
    = (Cert.MixOutIdeal.Gen.dats m 0 c).arrAt 17 Cert.MixOutIdeal.cfg0.N := by
  refine Eq.trans ?_ (PMix.final17 m c).symm
  funext i
  obtain ⟨n, l, rfl⟩ : ∃ (n : Fin 8192) (l : Fin 1024), i = ix2 n l := ⟨_, _, eq_ix2 i⟩
  refine (RMix.mixin_at _ _ _ _ _ _ _ _ _ _ n l).trans ?_
  rw [same m hf c]
  rfl
include hf in
theorem agree18 : (Cert.MixOutRefIdeal.Read.val_main_v46 (F := Ideal) (ys m c) (o0 m c) (o1 m c) (o2 m c) (l0 m c) (l1 m c) (l2 m c) (wp m c) (uu m c) (bg m c) (xx m c) (wo m c))
    = (Cert.MixOutIdeal.Gen.dats m 0 c).arrAt 18 Cert.MixOutIdeal.cfg0.N := by
  refine Eq.trans ?_ (PMix.final18 m c).symm
  funext i
  obtain ⟨n, l, rfl⟩ : ∃ (n : Fin 8192) (l : Fin 1024), i = ix2 n l := ⟨_, _, eq_ix2 i⟩
  refine (RMix.pre_at _ _ _ _ _ _ _ _ _ _ _ _ n l).trans ?_
  rw [same m hf c]
  rfl
include hf in
theorem agree19 : (Cert.MixOutRefIdeal.Read.val_main_v72 (F := Ideal) (ys m c) (o0 m c) (o1 m c) (o2 m c) (l0 m c) (l1 m c) (l2 m c) (wp m c) (uu m c) (bg m c) (xx m c) (wo m c) (gg m c) (bb m c))
    = (Cert.MixOutIdeal.Gen.dats m 0 c).arrAt 19 Cert.MixOutIdeal.cfg0.N := by
  refine Eq.trans ?_ (PMix.final19 m c).symm
  funext i
  obtain ⟨n, l, rfl⟩ : ∃ (n : Fin 8192) (l : Fin 1024), i = ix2 n l := ⟨_, _, eq_ix2 i⟩
  refine (RMix.norm_at _ _ _ _ _ _ _ _ _ _ _ _ _ _ n l).trans ?_
  rw [same m hf c]
  rfl
end

theorem algebraic : Cert.algebraic_MixOutIdeal_MixOutRefIdeal_pre_logs_finite := by
  intro m ρ m' ρ' hf hag
  refine ⟨fun c => (Cert.MixOutIdeal.Gen.dats m 0 c).arrAt 16 Cert.MixOutIdeal.cfg0.N, fun c => (Cert.MixOutIdeal.Gen.dats m 0 c).arrAt 17 Cert.MixOutIdeal.cfg0.N,
    fun c => (Cert.MixOutIdeal.Gen.dats m 0 c).arrAt 18 Cert.MixOutIdeal.cfg0.N, fun c => (Cert.MixOutIdeal.Gen.dats m 0 c).arrAt 19 Cert.MixOutIdeal.cfg0.N,
    Cert.MixOutIdeal.Value.run_blocks m ρ,
    (θ_run Cert.MixOutRefIdeal.defs _ _).mono (fun r h c => ⟨?_, ?_, ?_, ?_, (h c).2.2.2.2⟩) (Cert.MixOutRefIdeal.Value.run (F := Ideal) m' ρ')⟩
  all_goals obtain ⟨e0, e1, e2, e3, e4, e5, e6, e7, e8, e9, e10, e11, e12, e13⟩ := hag c
  · refine ((h c).1.trans (Cert.MixOutRefIdeal.Read.val_main_v23_eq _ _)).trans (Eq.trans ?_ (agree16 m hf c))
    congr 1
  · refine ((h c).2.1.trans (Cert.MixOutRefIdeal.Read.val_main_v47_eq _ _)).trans (Eq.trans ?_ (agree17 m hf c))
    congr 1
  · refine ((h c).2.2.1.trans (Cert.MixOutRefIdeal.Read.val_main_v46_eq _ _)).trans (Eq.trans ?_ (agree18 m hf c))
    congr 1
  · refine ((h c).2.2.2.1.trans (Cert.MixOutRefIdeal.Read.val_main_v72_eq _ _)).trans (Eq.trans ?_ (agree19 m hf c))
    congr 1
end Cert.Proof.AMix
end
-- ==== Proof.lean ====
/- The proof of the certificate's claims. Each call's value stands in its own module; here the runs are
   put beside each other. -/
module

public import proofs.«01_k».proof.Defs
public import proofs.«01_k».proof.Proof.Gen.DUp.Frame
public import proofs.«01_k».proof.Proof.Gen.DUpRefIdeal.Run
public import proofs.«01_k».proof.Proof.DUp
public import proofs.«01_k».proof.Proof.ADq0
public import proofs.«01_k».proof.Proof.Gen.AttnDq0Ideal.Frame
public import proofs.«01_k».proof.Proof.ADkv0
public import proofs.«01_k».proof.Proof.Gen.AttnDkv0Ideal.Frame
public import proofs.«01_k».proof.Proof.ADh1
public import proofs.«01_k».proof.Proof.ALn2
public import proofs.«01_k».proof.Proof.AMlpUp
public import proofs.«01_k».proof.Proof.AConv
public import proofs.«01_k».proof.Proof.AFwd
public import proofs.«01_k».proof.Proof.ADpre
public import proofs.«01_k».proof.Proof.AGn
public import proofs.«01_k».proof.Proof.ADwDown
public import proofs.«01_k».proof.Proof.ADwOut
public import proofs.«01_k».proof.Proof.ADwSsd
public import proofs.«01_k».proof.Proof.ADwUp
public import proofs.«01_k».proof.Proof.ADwAttn
public import proofs.«01_k».proof.Proof.ADwIn
public import proofs.«01_k».proof.Proof.ADX
public import proofs.«01_k».proof.Proof.AInProj
public import proofs.«01_k».proof.Proof.AMix
public import Idealize.ShloMosaic.Adequacy
public import Idealize.ShloMosaic.Init

@[expose] public section

noncomputable section

namespace Cert.Proof

open Idealize.ShloMosaic Idealize.SL.Sem

/-- The reference of the squared-relu gradient is host code without a semaphore: its run keeps the arguments. -/
theorem frame_DUpRefIdeal : Cert.quiescent_DUpRefIdeal := fun m ρ _ =>
  (θ_run Cert.DUpRefIdeal.defs _ _).mono (fun r h => ⟨fun c => (h c).2,
      Idealize.ShloMosaic.sem_eq_zero_of_no_sems (by decide) r.2⟩)
    (Cert.DUpRefIdeal.Value.run (F := Ideal) m ρ)

/-- The squared-relu gradient: both runs end in the reference's term over the launched arguments. -/
theorem algebraic_DUp : Cert.algebraic_DUpIdeal_DUpRefIdeal := by
  intro m ρ m' ρ' _ hag
  refine ⟨fun c => (Cert.DUpIdeal.Gen.dats m 0 c).arrAt 3 Cert.DUpIdeal.cfg0.N, Cert.DUpIdeal.Value.run_blocks m ρ,
    (θ_run Cert.DUpRefIdeal.defs _ _).mono (fun r h c => ⟨?_, (h c).2⟩) (Cert.DUpRefIdeal.Value.run (F := Ideal) m' ρ')⟩
  refine ((h c).1.trans (Cert.DUpRefIdeal.Read.val_main_v13_eq _ _ _ _)).trans ?_
  rw [(hag c).1, (hag c).2.1, (hag c).2.2.1, (hag c).2.2.2]
  exact (DUp.final m c).symm

theorem claim : Cert.Claim := ⟨Cert.DUp.Gen.facts, Cert.DUpIdeal.Gen.facts, Cert.DUpRefIdeal.Gen.facts, Cert.AttnDq0.Gen.facts,
  Cert.AttnDq0Ideal.Gen.facts, Cert.AttnDq0RefIdeal.Gen.facts, Cert.AttnDkv0.Gen.facts, Cert.AttnDkv0Ideal.Gen.facts,
  Cert.AttnDkv0RefIdeal.Gen.facts, Cert.DH1.Gen.facts, Cert.DH1Ideal.Gen.facts, Cert.DH1RefIdeal.Gen.facts, Cert.Ln2.Gen.facts,
  Cert.Ln2Ideal.Gen.facts, Cert.Ln2RefIdeal.Gen.facts, Cert.MlpUp.Gen.facts, Cert.MlpUpIdeal.Gen.facts, Cert.MlpUpRefIdeal.Gen.facts,
  Cert.ConvDx.Gen.facts, Cert.ConvDxIdeal.Gen.facts, Cert.ConvDxRefIdeal.Gen.facts,
  Cert.ConvFwd.Gen.facts, Cert.ConvFwdIdeal.Gen.facts, Cert.ConvFwdRefIdeal.Gen.facts,
  Cert.ConvDpre.Gen.facts, Cert.ConvDpreIdeal.Gen.facts, Cert.ConvDpreRefIdeal.Gen.facts,
  Cert.GateNorm.Gen.facts, Cert.GateNormIdeal.Gen.facts, Cert.GateNormRefIdeal.Gen.facts,
  Cert.DwDown.Gen.facts, Cert.DwDownIdeal.Gen.facts, Cert.DwDownRefIdeal.Gen.facts,
  Cert.DwOut.Gen.facts, Cert.DwOutIdeal.Gen.facts, Cert.DwOutRefIdeal.Gen.facts,
  Cert.DwSsd.Gen.facts, Cert.DwSsdIdeal.Gen.facts, Cert.DwSsdRefIdeal.Gen.facts,
  Cert.DwUp.Gen.facts, Cert.DwUpIdeal.Gen.facts, Cert.DwUpRefIdeal.Gen.facts,
  Cert.DwAttn.Gen.facts, Cert.DwAttnIdeal.Gen.facts, Cert.DwAttnRefIdeal.Gen.facts,
  Cert.DwIn.Gen.facts, Cert.DwInIdeal.Gen.facts, Cert.DwInRefIdeal.Gen.facts,
  Cert.DX.Gen.facts, Cert.DXIdeal.Gen.facts, Cert.DXRefIdeal.Gen.facts,
  Cert.InProj.Gen.facts, Cert.InProjIdeal.Gen.facts, Cert.InProjRefIdeal.Gen.facts,
  Cert.MixOut.Gen.facts, Cert.MixOutIdeal.Gen.facts, Cert.MixOutRefIdeal.Gen.facts,
  Cert.Pre_finite.Gen.facts, Cert.Pre_norm_finite.Gen.facts, Cert.Pre_ln2_finite.Gen.facts, Cert.Pre_cotangents_finite.Gen.facts, Cert.Pre_logs_finite.Gen.facts,
  fun m ρ _ => Cert.DUp.Gen.frame m ρ, fun m ρ _ => Cert.DUpIdeal.Gen.frame m ρ, frame_DUpRefIdeal,
  fun m ρ _ => Cert.AttnDq0.Gen.frame m ρ, fun m ρ _ => Cert.AttnDq0Ideal.Gen.frame m ρ, fun m ρ _ => Cert.AttnDq0Ideal.Gen.frame m ρ,
  ADq0.frame_ref, fun m ρ _ => ADq0.frame_ref m ρ trivial,
  fun m ρ _ => Cert.AttnDkv0.Gen.frame m ρ, fun m ρ _ => Cert.AttnDkv0Ideal.Gen.frame m ρ, fun m ρ _ => Cert.AttnDkv0Ideal.Gen.frame m ρ,
  ADkv0.frame_ref, fun m ρ _ => ADkv0.frame_ref m ρ trivial,
  fun m ρ _ => Cert.DH1.Gen.frame m ρ, fun m ρ _ => Cert.DH1Ideal.Gen.frame m ρ, fun m ρ _ => Cert.DH1Ideal.Gen.frame m ρ,
  ADh1.frame_ref, fun m ρ _ => ADh1.frame_ref m ρ trivial,
  fun m ρ _ => Cert.Ln2.Gen.frame m ρ, fun m ρ _ => Cert.Ln2Ideal.Gen.frame m ρ, fun m ρ _ => Cert.Ln2Ideal.Gen.frame m ρ,
  ALn2.frame_ref, fun m ρ _ => ALn2.frame_ref m ρ trivial,
  fun m ρ _ => Cert.MlpUp.Gen.frame m ρ, fun m ρ _ => Cert.MlpUpIdeal.Gen.frame m ρ, AMlpUp.frame_ref,
  fun m ρ _ => Cert.ConvDx.Gen.frame m ρ, fun m ρ _ => Cert.ConvDxIdeal.Gen.frame m ρ, AConv.frame_ref,
  fun m ρ _ => Cert.ConvFwd.Gen.frame m ρ, fun m ρ _ => Cert.ConvFwdIdeal.Gen.frame m ρ, AFwd.frame_ref,
  fun m ρ _ => Cert.ConvDpre.Gen.frame m ρ, fun m ρ _ => Cert.ConvDpreIdeal.Gen.frame m ρ, fun m ρ _ => Cert.ConvDpreIdeal.Gen.frame m ρ,
  ADpre.frame_ref, fun m ρ _ => ADpre.frame_ref m ρ trivial,
  fun m ρ _ => Cert.GateNorm.Gen.frame m ρ, fun m ρ _ => Cert.GateNormIdeal.Gen.frame m ρ, AGn.frame_ref,
  fun m ρ _ => Cert.DwDown.Gen.frame m ρ, fun m ρ _ => Cert.DwDownIdeal.Gen.frame m ρ, ADwDown.frame_ref,
  fun m ρ _ => Cert.DwOut.Gen.frame m ρ, fun m ρ _ => Cert.DwOutIdeal.Gen.frame m ρ, ADwOut.frame_ref,
  fun m ρ _ => Cert.DwSsd.Gen.frame m ρ, fun m ρ _ => Cert.DwSsdIdeal.Gen.frame m ρ, ADwSsd.frame_ref,
  fun m ρ _ => Cert.DwUp.Gen.frame m ρ, fun m ρ _ => Cert.DwUpIdeal.Gen.frame m ρ, ADwUp.frame_ref,
  fun m ρ _ => Cert.DwAttn.Gen.frame m ρ, fun m ρ _ => Cert.DwAttnIdeal.Gen.frame m ρ, ADwAttn.frame_ref,
  fun m ρ _ => Cert.DwIn.Gen.frame m ρ, fun m ρ _ => Cert.DwInIdeal.Gen.frame m ρ, ADwIn.frame_ref,
  fun m ρ _ => Cert.DX.Gen.frame m ρ, fun m ρ _ => Cert.DXIdeal.Gen.frame m ρ, ADX.frame_ref,
  fun m ρ _ => Cert.InProj.Gen.frame m ρ, fun m ρ _ => Cert.InProjIdeal.Gen.frame m ρ, AInProj.frame_ref,
  fun m ρ _ => Cert.MixOut.Gen.frame m ρ, fun m ρ _ => Cert.MixOutIdeal.Gen.frame m ρ, fun m ρ _ => Cert.MixOutIdeal.Gen.frame m ρ,
  AMix.frame_ref, fun m ρ _ => AMix.frame_ref m ρ trivial,
  trivial, algebraic_DUp, ADq0.preserves, ADq0.algebraic, ADkv0.preserves, ADkv0.algebraic, trivial, ADh1.algebraic,
  trivial, ALn2.algebraic, trivial, AMlpUp.algebraic, trivial, AConv.algebraic, trivial, AFwd.algebraic, trivial, ADpre.algebraic, trivial, AGn.algebraic,
  trivial, ADwDown.algebraic,
  trivial, ADwOut.algebraic,
  trivial, ADwSsd.algebraic,
  trivial, ADwUp.algebraic,
  trivial, ADwAttn.algebraic,
  trivial, ADwIn.algebraic,
  trivial, ADX.algebraic,
  trivial, AInProj.algebraic,
  trivial, AMix.algebraic⟩

end Cert.Proof

end
